-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 4096]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨4, ![2, 128, 64, 64]⟩ ⟨4, ![2, 2048, 64, 64]⟩ 1 16 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨4, ![2, 128, 64, 64]⟩ ⟨4, ![2, 2048, 64, 64]⟩ 1 16 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![4096, 512]⟩ 0 16 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v39)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v39) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S2x128x64x64 : Shape := ⟨4, ![2, 128, 64, 64]⟩
abbrev S256x512 : Shape := ⟨2, ![256, 512]⟩
abbrev S16x2x128x4x64 : Shape := ⟨5, ![16, 2, 128, 4, 64]⟩
abbrev S8x2x128x4x64 : Shape := ⟨5, ![8, 2, 128, 4, 64]⟩
abbrev S16x16x512 : Shape := ⟨3, ![16, 16, 512]⟩
abbrev S16x512 : Shape := ⟨2, ![16, 512]⟩
abbrev S16 : Shape := ⟨1, ![16]⟩
abbrev S_ : Shape := ⟨0, ![]⟩
abbrev S2x128x4x64 : Shape := ⟨4, ![2, 128, 4, 64]⟩
abbrev S1x2x128x4x64 : Shape := ⟨5, ![1, 2, 128, 4, 64]⟩
abbrev S1 : Shape := ⟨1, ![1]⟩
abbrev S1x128x512 : Shape := ⟨3, ![1, 128, 512]⟩
abbrev S128x512 : Shape := ⟨2, ![128, 512]⟩
abbrev S128x256 : Shape := ⟨2, ![128, 256]⟩
abbrev S128x4x64 : Shape := ⟨3, ![128, 4, 64]⟩
abbrev S64x1x64 : Shape := ⟨3, ![64, 1, 64]⟩
abbrev S64x64 : Shape := ⟨2, ![64, 64]⟩
abbrev S1x1x64x1x64 : Shape := ⟨5, ![1, 1, 64, 1, 64]⟩
abbrev S512x64 : Shape := ⟨2, ![512, 64]⟩
abbrev S64x512 : Shape := ⟨2, ![64, 512]⟩
abbrev S64 : Shape := ⟨1, ![64]⟩
abbrev S64x1 : Shape := ⟨2, ![64, 1]⟩
abbrev S128x64 : Shape := ⟨2, ![128, 64]⟩
abbrev S1x16x512 : Shape := ⟨3, ![1, 16, 512]⟩

abbrev nBuf : Space → Nat
  | .hbm => 6
  | .vmem => 14
  | .smem => 0
  | _ => 0

abbrev bufTy : (tb : Table) → Fin (tcTables nBuf tb) → BufTy
  | .hbm, ⟨0, _⟩ => ⟨S2x128x512, .f32⟩
  | .hbm, ⟨1, _⟩ => ⟨S512x256, .f32⟩
  | .hbm, ⟨2, _⟩ => ⟨S2x128x64x64, .f32⟩
  | .hbm, ⟨3, _⟩ => ⟨S2x128x64x64, .f32⟩
  | .hbm, ⟨4, _⟩ => ⟨S256x512, .f32⟩
  | .hbm, ⟨5, _⟩ => ⟨S2x128x512, .f32⟩
  | .local _ .vmem, ⟨0, _⟩ => ⟨S2x128x512, .f32⟩
  | .local _ .vmem, ⟨1, _⟩ => ⟨S512x256, .f32⟩
  | .local _ .vmem, ⟨2, _⟩ => ⟨S2x128x64x64, .f32⟩
  | .local _ .vmem, ⟨3, _⟩ => ⟨S2x128x64x64, .f32⟩
  | .local _ .vmem, ⟨4, _⟩ => ⟨S256x512, .f32⟩
  | .local _ .vmem, ⟨5, _⟩ => ⟨S2x128x512, .f32⟩
  | .local _ .vmem, ⟨6, _⟩ => ⟨S16x2x128x4x64, .bf16⟩
  | .local _ .vmem, ⟨7, _⟩ => ⟨S16x2x128x4x64, .bf16⟩
  | .local _ .vmem, ⟨8, _⟩ => ⟨S8x2x128x4x64, .bf16⟩
  | .local _ .vmem, ⟨9, _⟩ => ⟨S8x2x128x4x64, .bf16⟩
  | .local _ .vmem, ⟨10, _⟩ => ⟨S256x512, .bf16⟩
  | .local _ .vmem, ⟨11, _⟩ => ⟨S16x16x512, .bf16⟩
  | .local _ .vmem, ⟨12, _⟩ => ⟨S16x512, .bf16⟩
  | .local _ .vmem, ⟨13, _⟩ => ⟨S16x16x512, .bf16⟩
  | _, _ => ⟨S2x128x512, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | _ => false

abbrev dmaSemScopedAt (i : Nat) : Bool := match i / 128 with
  | 0 => dmaSemScopedAt0_0 i
  | 1 => dmaSemScopedAt0_1 i
  | _ => false

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 134 → Bool
  | ⟨i, _⟩ => dmaSemScopedAt i

abbrev sig : RefSig :=
  (ofTc nBuf bufTy 1 134 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v1 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_scratch3 : Ref sig .tc := ⟨.vmem, 9, rfl⟩
abbrev cc0_scratch4 : Ref sig .tc := ⟨.vmem, 10, rfl⟩
abbrev cc0_scratch5 : Ref sig .tc := ⟨.vmem, 11, rfl⟩
abbrev cc0_scratch6 : Ref sig .tc := ⟨.vmem, 12, rfl⟩
abbrev cc0_scratch7 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32_21 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_12 : BitVec 32 := 1#32
  let v32 : BitVec 32 := Scalar.addi v2 c1_i32_12
  let c16_i32_13 : BitVec 32 := 16#32
  let c0_i32_14 : BitVec 32 := 0#32
  let v33 : BitVec 1 := Scalar.cmpi .eq c16_i32_13 c0_i32_14
  let c1_i32_15 : BitVec 32 := 1#32
  let v34 : BitVec 32 := Scalar.select v33 c1_i32_15 c16_i32_13
  let v35 : BitVec 32 := Scalar.remsi v32 v34
  let c0_i32_17 : BitVec 32 := 0#32
  let v37 : BitVec 1 := Scalar.cmpi .slt v35 c0_i32_17
  let c0_i32_18 : BitVec 32 := 0#32
  let v38 : BitVec 1 := Scalar.cmpi .slt v34 c0_i32_18
  let v39 : BitVec 1 := Scalar.xori v37 v38
  let c0_i32_16 : BitVec 32 := 0#32
  let v36 : BitVec 1 := Scalar.cmpi .ne v35 c0_i32_16
  let v40 : BitVec 1 := Scalar.andi v39 v36
  let v41 : BitVec 32 := Scalar.addi v35 v34
  let v42 : BitVec 32 := Scalar.select v40 v41 v35
  let c1_i32_20 : BitVec 32 := 1#32
  let v43 : BitVec 32 := Scalar.muli v42 c1_i32_20
  let v44 : BitVec 32 := Scalar.addi c0_i32_21 v43
  v44.toNat
def k0_dev2 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_22 : BitVec 32 := 2#32
  let v45 : BitVec 32 := Scalar.addi v2 c2_i32_22
  let c16_i32_23 : BitVec 32 := 16#32
  let c0_i32_24 : BitVec 32 := 0#32
  let v46 : BitVec 1 := Scalar.cmpi .eq c16_i32_23 c0_i32_24
  let c1_i32_25 : BitVec 32 := 1#32
  let v47 : BitVec 32 := Scalar.select v46 c1_i32_25 c16_i32_23
  let v48 : BitVec 32 := Scalar.remsi v45 v47
  let c0_i32_27 : BitVec 32 := 0#32
  let v50 : BitVec 1 := Scalar.cmpi .slt v48 c0_i32_27
  let c0_i32_28 : BitVec 32 := 0#32
  let v51 : BitVec 1 := Scalar.cmpi .slt v47 c0_i32_28
  let v52 : BitVec 1 := Scalar.xori v50 v51
  let c0_i32_26 : BitVec 32 := 0#32
  let v49 : BitVec 1 := Scalar.cmpi .ne v48 c0_i32_26
  let v53 : BitVec 1 := Scalar.andi v52 v49
  let v54 : BitVec 32 := Scalar.addi v48 v47
  let v55 : BitVec 32 := Scalar.select v53 v54 v48
  let c1_i32_30 : BitVec 32 := 1#32
  let v56 : BitVec 32 := Scalar.muli v55 c1_i32_30
  let v57 : BitVec 32 := Scalar.addi c0_i32_31 v56
  v57.toNat
def k0_dev3 (d0 : Dev nD) : Nat :=
  let c0_i32_40 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v58 : BitVec 32 := Scalar.addi v2 c3_i32
  let c16_i32_32 : BitVec 32 := 16#32
  let c0_i32_33 : BitVec 32 := 0#32
  let v59 : BitVec 1 := Scalar.cmpi .eq c16_i32_32 c0_i32_33
  let c1_i32_34 : BitVec 32 := 1#32
  let v60 : BitVec 32 := Scalar.select v59 c1_i32_34 c16_i32_32
  let v61 : BitVec 32 := Scalar.remsi v58 v60
  let c0_i32_36 : BitVec 32 := 0#32
  let v63 : BitVec 1 := Scalar.cmpi .slt v61 c0_i32_36
  let c0_i32_37 : BitVec 32 := 0#32
  let v64 : BitVec 1 := Scalar.cmpi .slt v60 c0_i32_37
  let v65 : BitVec 1 := Scalar.xori v63 v64
  let c0_i32_35 : BitVec 32 := 0#32
  let v62 : BitVec 1 := Scalar.cmpi .ne v61 c0_i32_35
  let v66 : BitVec 1 := Scalar.andi v65 v62
  let v67 : BitVec 32 := Scalar.addi v61 v60
  let v68 : BitVec 32 := Scalar.select v66 v67 v61
  let c1_i32_39 : BitVec 32 := 1#32
  let v69 : BitVec 32 := Scalar.muli v68 c1_i32_39
  let v70 : BitVec 32 := Scalar.addi c0_i32_40 v69
  v70.toNat
def k0_dev4 (d0 : Dev nD) : Nat :=
  let c0_i32_49 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v71 : BitVec 32 := Scalar.addi v2 c4_i32
  let c16_i32_41 : BitVec 32 := 16#32
  let c0_i32_42 : BitVec 32 := 0#32
  let v72 : BitVec 1 := Scalar.cmpi .eq c16_i32_41 c0_i32_42
  let c1_i32_43 : BitVec 32 := 1#32
  let v73 : BitVec 32 := Scalar.select v72 c1_i32_43 c16_i32_41
  let v74 : BitVec 32 := Scalar.remsi v71 v73
  let c0_i32_45 : BitVec 32 := 0#32
  let v76 : BitVec 1 := Scalar.cmpi .slt v74 c0_i32_45
  let c0_i32_46 : BitVec 32 := 0#32
  let v77 : BitVec 1 := Scalar.cmpi .slt v73 c0_i32_46
  let v78 : BitVec 1 := Scalar.xori v76 v77
  let c0_i32_44 : BitVec 32 := 0#32
  let v75 : BitVec 1 := Scalar.cmpi .ne v74 c0_i32_44
  let v79 : BitVec 1 := Scalar.andi v78 v75
  let v80 : BitVec 32 := Scalar.addi v74 v73
  let v81 : BitVec 32 := Scalar.select v79 v80 v74
  let c1_i32_48 : BitVec 32 := 1#32
  let v82 : BitVec 32 := Scalar.muli v81 c1_i32_48
  let v83 : BitVec 32 := Scalar.addi c0_i32_49 v82
  v83.toNat
def k0_dev5 (d0 : Dev nD) : Nat :=
  let c0_i32_58 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v84 : BitVec 32 := Scalar.addi v2 c5_i32
  let c16_i32_50 : BitVec 32 := 16#32
  let c0_i32_51 : BitVec 32 := 0#32
  let v85 : BitVec 1 := Scalar.cmpi .eq c16_i32_50 c0_i32_51
  let c1_i32_52 : BitVec 32 := 1#32
  let v86 : BitVec 32 := Scalar.select v85 c1_i32_52 c16_i32_50
  let v87 : BitVec 32 := Scalar.remsi v84 v86
  let c0_i32_54 : BitVec 32 := 0#32
  let v89 : BitVec 1 := Scalar.cmpi .slt v87 c0_i32_54
  let c0_i32_55 : BitVec 32 := 0#32
  let v90 : BitVec 1 := Scalar.cmpi .slt v86 c0_i32_55
  let v91 : BitVec 1 := Scalar.xori v89 v90
  let c0_i32_53 : BitVec 32 := 0#32
  let v88 : BitVec 1 := Scalar.cmpi .ne v87 c0_i32_53
  let v92 : BitVec 1 := Scalar.andi v91 v88
  let v93 : BitVec 32 := Scalar.addi v87 v86
  let v94 : BitVec 32 := Scalar.select v92 v93 v87
  let c1_i32_57 : BitVec 32 := 1#32
  let v95 : BitVec 32 := Scalar.muli v94 c1_i32_57
  let v96 : BitVec 32 := Scalar.addi c0_i32_58 v95
  v96.toNat
def k0_dev6 (d0 : Dev nD) : Nat :=
  let c0_i32_67 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v97 : BitVec 32 := Scalar.addi v2 c6_i32
  let c16_i32_59 : BitVec 32 := 16#32
  let c0_i32_60 : BitVec 32 := 0#32
  let v98 : BitVec 1 := Scalar.cmpi .eq c16_i32_59 c0_i32_60
  let c1_i32_61 : BitVec 32 := 1#32
  let v99 : BitVec 32 := Scalar.select v98 c1_i32_61 c16_i32_59
  let v100 : BitVec 32 := Scalar.remsi v97 v99
  let c0_i32_63 : BitVec 32 := 0#32
  let v102 : BitVec 1 := Scalar.cmpi .slt v100 c0_i32_63
  let c0_i32_64 : BitVec 32 := 0#32
  let v103 : BitVec 1 := Scalar.cmpi .slt v99 c0_i32_64
  let v104 : BitVec 1 := Scalar.xori v102 v103
  let c0_i32_62 : BitVec 32 := 0#32
  let v101 : BitVec 1 := Scalar.cmpi .ne v100 c0_i32_62
  let v105 : BitVec 1 := Scalar.andi v104 v101
  let v106 : BitVec 32 := Scalar.addi v100 v99
  let v107 : BitVec 32 := Scalar.select v105 v106 v100
  let c1_i32_66 : BitVec 32 := 1#32
  let v108 : BitVec 32 := Scalar.muli v107 c1_i32_66
  let v109 : BitVec 32 := Scalar.addi c0_i32_67 v108
  v109.toNat
def k0_dev7 (d0 : Dev nD) : Nat :=
  let c0_i32_76 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v110 : BitVec 32 := Scalar.addi v2 c7_i32
  let c16_i32_68 : BitVec 32 := 16#32
  let c0_i32_69 : BitVec 32 := 0#32
  let v111 : BitVec 1 := Scalar.cmpi .eq c16_i32_68 c0_i32_69
  let c1_i32_70 : BitVec 32 := 1#32
  let v112 : BitVec 32 := Scalar.select v111 c1_i32_70 c16_i32_68
  let v113 : BitVec 32 := Scalar.remsi v110 v112
  let c0_i32_72 : BitVec 32 := 0#32
  let v115 : BitVec 1 := Scalar.cmpi .slt v113 c0_i32_72
  let c0_i32_73 : BitVec 32 := 0#32
  let v116 : BitVec 1 := Scalar.cmpi .slt v112 c0_i32_73
  let v117 : BitVec 1 := Scalar.xori v115 v116
  let c0_i32_71 : BitVec 32 := 0#32
  let v114 : BitVec 1 := Scalar.cmpi .ne v113 c0_i32_71
  let v118 : BitVec 1 := Scalar.andi v117 v114
  let v119 : BitVec 32 := Scalar.addi v113 v112
  let v120 : BitVec 32 := Scalar.select v118 v119 v113
  let c1_i32_75 : BitVec 32 := 1#32
  let v121 : BitVec 32 := Scalar.muli v120 c1_i32_75
  let v122 : BitVec 32 := Scalar.addi c0_i32_76 v121
  v122.toNat
def k0_dev8 (d0 : Dev nD) : Nat :=
  let c0_i32_85 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v123 : BitVec 32 := Scalar.addi v2 c8_i32
  let c16_i32_77 : BitVec 32 := 16#32
  let c0_i32_78 : BitVec 32 := 0#32
  let v124 : BitVec 1 := Scalar.cmpi .eq c16_i32_77 c0_i32_78
  let c1_i32_79 : BitVec 32 := 1#32
  let v125 : BitVec 32 := Scalar.select v124 c1_i32_79 c16_i32_77
  let v126 : BitVec 32 := Scalar.remsi v123 v125
  let c0_i32_81 : BitVec 32 := 0#32
  let v128 : BitVec 1 := Scalar.cmpi .slt v126 c0_i32_81
  let c0_i32_82 : BitVec 32 := 0#32
  let v129 : BitVec 1 := Scalar.cmpi .slt v125 c0_i32_82
  let v130 : BitVec 1 := Scalar.xori v128 v129
  let c0_i32_80 : BitVec 32 := 0#32
  let v127 : BitVec 1 := Scalar.cmpi .ne v126 c0_i32_80
  let v131 : BitVec 1 := Scalar.andi v130 v127
  let v132 : BitVec 32 := Scalar.addi v126 v125
  let v133 : BitVec 32 := Scalar.select v131 v132 v126
  let c1_i32_84 : BitVec 32 := 1#32
  let v134 : BitVec 32 := Scalar.muli v133 c1_i32_84
  let v135 : BitVec 32 := Scalar.addi c0_i32_85 v134
  v135.toNat
def k0_dev9 (d0 : Dev nD) : Nat :=
  let c0_i32_94 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v136 : BitVec 32 := Scalar.addi v2 c9_i32
  let c16_i32_86 : BitVec 32 := 16#32
  let c0_i32_87 : BitVec 32 := 0#32
  let v137 : BitVec 1 := Scalar.cmpi .eq c16_i32_86 c0_i32_87
  let c1_i32_88 : BitVec 32 := 1#32
  let v138 : BitVec 32 := Scalar.select v137 c1_i32_88 c16_i32_86
  let v139 : BitVec 32 := Scalar.remsi v136 v138
  let c0_i32_90 : BitVec 32 := 0#32
  let v141 : BitVec 1 := Scalar.cmpi .slt v139 c0_i32_90
  let c0_i32_91 : BitVec 32 := 0#32
  let v142 : BitVec 1 := Scalar.cmpi .slt v138 c0_i32_91
  let v143 : BitVec 1 := Scalar.xori v141 v142
  let c0_i32_89 : BitVec 32 := 0#32
  let v140 : BitVec 1 := Scalar.cmpi .ne v139 c0_i32_89
  let v144 : BitVec 1 := Scalar.andi v143 v140
  let v145 : BitVec 32 := Scalar.addi v139 v138
  let v146 : BitVec 32 := Scalar.select v144 v145 v139
  let c1_i32_93 : BitVec 32 := 1#32
  let v147 : BitVec 32 := Scalar.muli v146 c1_i32_93
  let v148 : BitVec 32 := Scalar.addi c0_i32_94 v147
  v148.toNat
def k0_dev10 (d0 : Dev nD) : Nat :=
  let c0_i32_103 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v149 : BitVec 32 := Scalar.addi v2 c10_i32
  let c16_i32_95 : BitVec 32 := 16#32
  let c0_i32_96 : BitVec 32 := 0#32
  let v150 : BitVec 1 := Scalar.cmpi .eq c16_i32_95 c0_i32_96
  let c1_i32_97 : BitVec 32 := 1#32
  let v151 : BitVec 32 := Scalar.select v150 c1_i32_97 c16_i32_95
  let v152 : BitVec 32 := Scalar.remsi v149 v151
  let c0_i32_99 : BitVec 32 := 0#32
  let v154 : BitVec 1 := Scalar.cmpi .slt v152 c0_i32_99
  let c0_i32_100 : BitVec 32 := 0#32
  let v155 : BitVec 1 := Scalar.cmpi .slt v151 c0_i32_100
  let v156 : BitVec 1 := Scalar.xori v154 v155
  let c0_i32_98 : BitVec 32 := 0#32
  let v153 : BitVec 1 := Scalar.cmpi .ne v152 c0_i32_98
  let v157 : BitVec 1 := Scalar.andi v156 v153
  let v158 : BitVec 32 := Scalar.addi v152 v151
  let v159 : BitVec 32 := Scalar.select v157 v158 v152
  let c1_i32_102 : BitVec 32 := 1#32
  let v160 : BitVec 32 := Scalar.muli v159 c1_i32_102
  let v161 : BitVec 32 := Scalar.addi c0_i32_103 v160
  v161.toNat
def k0_dev11 (d0 : Dev nD) : Nat :=
  let c0_i32_112 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v162 : BitVec 32 := Scalar.addi v2 c11_i32
  let c16_i32_104 : BitVec 32 := 16#32
  let c0_i32_105 : BitVec 32 := 0#32
  let v163 : BitVec 1 := Scalar.cmpi .eq c16_i32_104 c0_i32_105
  let c1_i32_106 : BitVec 32 := 1#32
  let v164 : BitVec 32 := Scalar.select v163 c1_i32_106 c16_i32_104
  let v165 : BitVec 32 := Scalar.remsi v162 v164
  let c0_i32_108 : BitVec 32 := 0#32
  let v167 : BitVec 1 := Scalar.cmpi .slt v165 c0_i32_108
  let c0_i32_109 : BitVec 32 := 0#32
  let v168 : BitVec 1 := Scalar.cmpi .slt v164 c0_i32_109
  let v169 : BitVec 1 := Scalar.xori v167 v168
  let c0_i32_107 : BitVec 32 := 0#32
  let v166 : BitVec 1 := Scalar.cmpi .ne v165 c0_i32_107
  let v170 : BitVec 1 := Scalar.andi v169 v166
  let v171 : BitVec 32 := Scalar.addi v165 v164
  let v172 : BitVec 32 := Scalar.select v170 v171 v165
  let c1_i32_111 : BitVec 32 := 1#32
  let v173 : BitVec 32 := Scalar.muli v172 c1_i32_111
  let v174 : BitVec 32 := Scalar.addi c0_i32_112 v173
  v174.toNat
def k0_dev12 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v175 : BitVec 32 := Scalar.addi v2 c12_i32
  let c16_i32_113 : BitVec 32 := 16#32
  let c0_i32_114 : BitVec 32 := 0#32
  let v176 : BitVec 1 := Scalar.cmpi .eq c16_i32_113 c0_i32_114
  let c1_i32_115 : BitVec 32 := 1#32
  let v177 : BitVec 32 := Scalar.select v176 c1_i32_115 c16_i32_113
  let v178 : BitVec 32 := Scalar.remsi v175 v177
  let c0_i32_117 : BitVec 32 := 0#32
  let v180 : BitVec 1 := Scalar.cmpi .slt v178 c0_i32_117
  let c0_i32_118 : BitVec 32 := 0#32
  let v181 : BitVec 1 := Scalar.cmpi .slt v177 c0_i32_118
  let v182 : BitVec 1 := Scalar.xori v180 v181
  let c0_i32_116 : BitVec 32 := 0#32
  let v179 : BitVec 1 := Scalar.cmpi .ne v178 c0_i32_116
  let v183 : BitVec 1 := Scalar.andi v182 v179
  let v184 : BitVec 32 := Scalar.addi v178 v177
  let v185 : BitVec 32 := Scalar.select v183 v184 v178
  let c1_i32_120 : BitVec 32 := 1#32
  let v186 : BitVec 32 := Scalar.muli v185 c1_i32_120
  let v187 : BitVec 32 := Scalar.addi c0_i32_121 v186
  v187.toNat
def k0_dev13 (d0 : Dev nD) : Nat :=
  let c0_i32_130 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v188 : BitVec 32 := Scalar.addi v2 c13_i32
  let c16_i32_122 : BitVec 32 := 16#32
  let c0_i32_123 : BitVec 32 := 0#32
  let v189 : BitVec 1 := Scalar.cmpi .eq c16_i32_122 c0_i32_123
  let c1_i32_124 : BitVec 32 := 1#32
  let v190 : BitVec 32 := Scalar.select v189 c1_i32_124 c16_i32_122
  let v191 : BitVec 32 := Scalar.remsi v188 v190
  let c0_i32_126 : BitVec 32 := 0#32
  let v193 : BitVec 1 := Scalar.cmpi .slt v191 c0_i32_126
  let c0_i32_127 : BitVec 32 := 0#32
  let v194 : BitVec 1 := Scalar.cmpi .slt v190 c0_i32_127
  let v195 : BitVec 1 := Scalar.xori v193 v194
  let c0_i32_125 : BitVec 32 := 0#32
  let v192 : BitVec 1 := Scalar.cmpi .ne v191 c0_i32_125
  let v196 : BitVec 1 := Scalar.andi v195 v192
  let v197 : BitVec 32 := Scalar.addi v191 v190
  let v198 : BitVec 32 := Scalar.select v196 v197 v191
  let c1_i32_129 : BitVec 32 := 1#32
  let v199 : BitVec 32 := Scalar.muli v198 c1_i32_129
  let v200 : BitVec 32 := Scalar.addi c0_i32_130 v199
  v200.toNat
def k0_dev14 (d0 : Dev nD) : Nat :=
  let c0_i32_139 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v201 : BitVec 32 := Scalar.addi v2 c14_i32
  let c16_i32_131 : BitVec 32 := 16#32
  let c0_i32_132 : BitVec 32 := 0#32
  let v202 : BitVec 1 := Scalar.cmpi .eq c16_i32_131 c0_i32_132
  let c1_i32_133 : BitVec 32 := 1#32
  let v203 : BitVec 32 := Scalar.select v202 c1_i32_133 c16_i32_131
  let v204 : BitVec 32 := Scalar.remsi v201 v203
  let c0_i32_135 : BitVec 32 := 0#32
  let v206 : BitVec 1 := Scalar.cmpi .slt v204 c0_i32_135
  let c0_i32_136 : BitVec 32 := 0#32
  let v207 : BitVec 1 := Scalar.cmpi .slt v203 c0_i32_136
  let v208 : BitVec 1 := Scalar.xori v206 v207
  let c0_i32_134 : BitVec 32 := 0#32
  let v205 : BitVec 1 := Scalar.cmpi .ne v204 c0_i32_134
  let v209 : BitVec 1 := Scalar.andi v208 v205
  let v210 : BitVec 32 := Scalar.addi v204 v203
  let v211 : BitVec 32 := Scalar.select v209 v210 v204
  let c1_i32_138 : BitVec 32 := 1#32
  let v212 : BitVec 32 := Scalar.muli v211 c1_i32_138
  let v213 : BitVec 32 := Scalar.addi c0_i32_139 v212
  v213.toNat
def k0_dev15 (d0 : Dev nD) : Nat :=
  let c0_i32_148 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v214 : BitVec 32 := Scalar.addi v2 c15_i32
  let c16_i32_140 : BitVec 32 := 16#32
  let c0_i32_141 : BitVec 32 := 0#32
  let v215 : BitVec 1 := Scalar.cmpi .eq c16_i32_140 c0_i32_141
  let c1_i32_142 : BitVec 32 := 1#32
  let v216 : BitVec 32 := Scalar.select v215 c1_i32_142 c16_i32_140
  let v217 : BitVec 32 := Scalar.remsi v214 v216
  let c0_i32_144 : BitVec 32 := 0#32
  let v219 : BitVec 1 := Scalar.cmpi .slt v217 c0_i32_144
  let c0_i32_145 : BitVec 32 := 0#32
  let v220 : BitVec 1 := Scalar.cmpi .slt v216 c0_i32_145
  let v221 : BitVec 1 := Scalar.xori v219 v220
  let c0_i32_143 : BitVec 32 := 0#32
  let v218 : BitVec 1 := Scalar.cmpi .ne v217 c0_i32_143
  let v222 : BitVec 1 := Scalar.andi v221 v218
  let v223 : BitVec 32 := Scalar.addi v217 v216
  let v224 : BitVec 32 := Scalar.select v222 v223 v217
  let c1_i32_147 : BitVec 32 := 1#32
  let v225 : BitVec 32 := Scalar.muli v224 c1_i32_147
  let v226 : BitVec 32 := Scalar.addi c0_i32_148 v225
  v226.toNat
def k0_cond1 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v227 : BitVec 32 := Scalar.extui v13
  let c0_i32_150 : BitVec 32 := 0#32
  let v228 : BitVec 1 := Scalar.cmpi .ne v227 c0_i32_150
  v228

def k0_off1 (d0 : Dev nD) (c0_i32_2627 : BitVec 32) : Fin 4 → Nat :=
  let c0_2635 : Index := 0#32
  let c0_2636 : Index := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v2603 : BitVec 32 := Scalar.addi v2 c0_i32_2627
  let c16_i32_2628 : BitVec 32 := 16#32
  let c0_i32_2629 : BitVec 32 := 0#32
  let v2604 : BitVec 1 := Scalar.cmpi .eq c16_i32_2628 c0_i32_2629
  let c1_i32_2630 : BitVec 32 := 1#32
  let v2605 : BitVec 32 := Scalar.select v2604 c1_i32_2630 c16_i32_2628
  let v2606 : BitVec 32 := Scalar.remsi v2603 v2605
  let c0_i32_2632 : BitVec 32 := 0#32
  let v2608 : BitVec 1 := Scalar.cmpi .slt v2606 c0_i32_2632
  let c0_i32_2633 : BitVec 32 := 0#32
  let v2609 : BitVec 1 := Scalar.cmpi .slt v2605 c0_i32_2633
  let v2610 : BitVec 1 := Scalar.xori v2608 v2609
  let c0_i32_2631 : BitVec 32 := 0#32
  let v2607 : BitVec 1 := Scalar.cmpi .ne v2606 c0_i32_2631
  let v2611 : BitVec 1 := Scalar.andi v2610 v2607
  let v2612 : BitVec 32 := Scalar.addi v2606 v2605
  let v2613 : BitVec 32 := Scalar.select v2611 v2612 v2606
  let c4_i32_2634 : BitVec 32 := 4#32
  let v2614 : BitVec 32 := Scalar.muli v2613 c4_i32_2634
  let v2615 : Index := Scalar.indexCast v2614
  let c0_2637 : Index := 0#32
  ![0, 0, v2615.toNat, 0]
def k0_cond2 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v240 : BitVec 32 := Scalar.extui v13
  let c0_i32_160 : BitVec 32 := 0#32
  let v241 : BitVec 1 := Scalar.cmpi .ne v240 c0_i32_160
  v241

def k0_off2 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v229 : BitVec 32 := Scalar.addi v2 c1_i32_151
  let c16_i32_152 : BitVec 32 := 16#32
  let c0_i32_153 : BitVec 32 := 0#32
  let v230 : BitVec 1 := Scalar.cmpi .eq c16_i32_152 c0_i32_153
  let c1_i32_154 : BitVec 32 := 1#32
  let v231 : BitVec 32 := Scalar.select v230 c1_i32_154 c16_i32_152
  let v232 : BitVec 32 := Scalar.remsi v229 v231
  let c0_i32_156 : BitVec 32 := 0#32
  let v234 : BitVec 1 := Scalar.cmpi .slt v232 c0_i32_156
  let c0_i32_157 : BitVec 32 := 0#32
  let v235 : BitVec 1 := Scalar.cmpi .slt v231 c0_i32_157
  let v236 : BitVec 1 := Scalar.xori v234 v235
  let c0_i32_155 : BitVec 32 := 0#32
  let v233 : BitVec 1 := Scalar.cmpi .ne v232 c0_i32_155
  let v237 : BitVec 1 := Scalar.andi v236 v233
  let v238 : BitVec 32 := Scalar.addi v232 v231
  let v239 : BitVec 32 := Scalar.select v237 v238 v232
  ![v239.toNat]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev16 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v229 : BitVec 32 := Scalar.addi v2 c1_i32_151
  let c16_i32_152 : BitVec 32 := 16#32
  let c0_i32_153 : BitVec 32 := 0#32
  let v230 : BitVec 1 := Scalar.cmpi .eq c16_i32_152 c0_i32_153
  let c1_i32_154 : BitVec 32 := 1#32
  let v231 : BitVec 32 := Scalar.select v230 c1_i32_154 c16_i32_152
  let v232 : BitVec 32 := Scalar.remsi v229 v231
  let c0_i32_156 : BitVec 32 := 0#32
  let v234 : BitVec 1 := Scalar.cmpi .slt v232 c0_i32_156
  let c0_i32_157 : BitVec 32 := 0#32
  let v235 : BitVec 1 := Scalar.cmpi .slt v231 c0_i32_157
  let v236 : BitVec 1 := Scalar.xori v234 v235
  let c0_i32_155 : BitVec 32 := 0#32
  let v233 : BitVec 1 := Scalar.cmpi .ne v232 c0_i32_155
  let v237 : BitVec 1 := Scalar.andi v236 v233
  let v238 : BitVec 32 := Scalar.addi v232 v231
  let v239 : BitVec 32 := Scalar.select v237 v238 v232
  let c1_i32_2627 : BitVec 32 := 1#32
  let v2603 : BitVec 32 := Scalar.muli v239 c1_i32_2627
  let v2604 : BitVec 32 := Scalar.addi c0_i32_2628 v2603
  v2604.toNat
def k0_dev17 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_151 : BitVec 32 := 1#32
  let v229 : BitVec 32 := Scalar.addi v2 c1_i32_151
  let c16_i32_152 : BitVec 32 := 16#32
  let c0_i32_153 : BitVec 32 := 0#32
  let v230 : BitVec 1 := Scalar.cmpi .eq c16_i32_152 c0_i32_153
  let c1_i32_154 : BitVec 32 := 1#32
  let v231 : BitVec 32 := Scalar.select v230 c1_i32_154 c16_i32_152
  let v232 : BitVec 32 := Scalar.remsi v229 v231
  let c0_i32_156 : BitVec 32 := 0#32
  let v234 : BitVec 1 := Scalar.cmpi .slt v232 c0_i32_156
  let c0_i32_157 : BitVec 32 := 0#32
  let v235 : BitVec 1 := Scalar.cmpi .slt v231 c0_i32_157
  let v236 : BitVec 1 := Scalar.xori v234 v235
  let c0_i32_155 : BitVec 32 := 0#32
  let v233 : BitVec 1 := Scalar.cmpi .ne v232 c0_i32_155
  let v237 : BitVec 1 := Scalar.andi v236 v233
  let v238 : BitVec 32 := Scalar.addi v232 v231
  let v239 : BitVec 32 := Scalar.select v237 v238 v232
  let c1_i32_2637 : BitVec 32 := 1#32
  let v2613 : BitVec 32 := Scalar.muli v239 c1_i32_2637
  let v2614 : BitVec 32 := Scalar.addi c0_i32_2638 v2613
  v2614.toNat
def k0_cond3 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v253 : BitVec 32 := Scalar.extui v13
  let c0_i32_170 : BitVec 32 := 0#32
  let v254 : BitVec 1 := Scalar.cmpi .ne v253 c0_i32_170
  v254

def k0_off5 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_161 : BitVec 32 := 2#32
  let v242 : BitVec 32 := Scalar.addi v2 c2_i32_161
  let c16_i32_162 : BitVec 32 := 16#32
  let c0_i32_163 : BitVec 32 := 0#32
  let v243 : BitVec 1 := Scalar.cmpi .eq c16_i32_162 c0_i32_163
  let c1_i32_164 : BitVec 32 := 1#32
  let v244 : BitVec 32 := Scalar.select v243 c1_i32_164 c16_i32_162
  let v245 : BitVec 32 := Scalar.remsi v242 v244
  let c0_i32_166 : BitVec 32 := 0#32
  let v247 : BitVec 1 := Scalar.cmpi .slt v245 c0_i32_166
  let c0_i32_167 : BitVec 32 := 0#32
  let v248 : BitVec 1 := Scalar.cmpi .slt v244 c0_i32_167
  let v249 : BitVec 1 := Scalar.xori v247 v248
  let c0_i32_165 : BitVec 32 := 0#32
  let v246 : BitVec 1 := Scalar.cmpi .ne v245 c0_i32_165
  let v250 : BitVec 1 := Scalar.andi v249 v246
  let v251 : BitVec 32 := Scalar.addi v245 v244
  let v252 : BitVec 32 := Scalar.select v250 v251 v245
  ![v252.toNat]
def k0_off6 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off7 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev18 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_161 : BitVec 32 := 2#32
  let v242 : BitVec 32 := Scalar.addi v2 c2_i32_161
  let c16_i32_162 : BitVec 32 := 16#32
  let c0_i32_163 : BitVec 32 := 0#32
  let v243 : BitVec 1 := Scalar.cmpi .eq c16_i32_162 c0_i32_163
  let c1_i32_164 : BitVec 32 := 1#32
  let v244 : BitVec 32 := Scalar.select v243 c1_i32_164 c16_i32_162
  let v245 : BitVec 32 := Scalar.remsi v242 v244
  let c0_i32_166 : BitVec 32 := 0#32
  let v247 : BitVec 1 := Scalar.cmpi .slt v245 c0_i32_166
  let c0_i32_167 : BitVec 32 := 0#32
  let v248 : BitVec 1 := Scalar.cmpi .slt v244 c0_i32_167
  let v249 : BitVec 1 := Scalar.xori v247 v248
  let c0_i32_165 : BitVec 32 := 0#32
  let v246 : BitVec 1 := Scalar.cmpi .ne v245 c0_i32_165
  let v250 : BitVec 1 := Scalar.andi v249 v246
  let v251 : BitVec 32 := Scalar.addi v245 v244
  let v252 : BitVec 32 := Scalar.select v250 v251 v245
  let c1_i32_2627 : BitVec 32 := 1#32
  let v2603 : BitVec 32 := Scalar.muli v252 c1_i32_2627
  let v2604 : BitVec 32 := Scalar.addi c0_i32_2628 v2603
  v2604.toNat
def k0_dev19 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_161 : BitVec 32 := 2#32
  let v242 : BitVec 32 := Scalar.addi v2 c2_i32_161
  let c16_i32_162 : BitVec 32 := 16#32
  let c0_i32_163 : BitVec 32 := 0#32
  let v243 : BitVec 1 := Scalar.cmpi .eq c16_i32_162 c0_i32_163
  let c1_i32_164 : BitVec 32 := 1#32
  let v244 : BitVec 32 := Scalar.select v243 c1_i32_164 c16_i32_162
  let v245 : BitVec 32 := Scalar.remsi v242 v244
  let c0_i32_166 : BitVec 32 := 0#32
  let v247 : BitVec 1 := Scalar.cmpi .slt v245 c0_i32_166
  let c0_i32_167 : BitVec 32 := 0#32
  let v248 : BitVec 1 := Scalar.cmpi .slt v244 c0_i32_167
  let v249 : BitVec 1 := Scalar.xori v247 v248
  let c0_i32_165 : BitVec 32 := 0#32
  let v246 : BitVec 1 := Scalar.cmpi .ne v245 c0_i32_165
  let v250 : BitVec 1 := Scalar.andi v249 v246
  let v251 : BitVec 32 := Scalar.addi v245 v244
  let v252 : BitVec 32 := Scalar.select v250 v251 v245
  let c1_i32_2637 : BitVec 32 := 1#32
  let v2613 : BitVec 32 := Scalar.muli v252 c1_i32_2637
  let v2614 : BitVec 32 := Scalar.addi c0_i32_2638 v2613
  v2614.toNat
def k0_cond4 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v266 : BitVec 32 := Scalar.extui v13
  let c0_i32_180 : BitVec 32 := 0#32
  let v267 : BitVec 1 := Scalar.cmpi .ne v266 c0_i32_180
  v267

def k0_off8 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_171 : BitVec 32 := 3#32
  let v255 : BitVec 32 := Scalar.addi v2 c3_i32_171
  let c16_i32_172 : BitVec 32 := 16#32
  let c0_i32_173 : BitVec 32 := 0#32
  let v256 : BitVec 1 := Scalar.cmpi .eq c16_i32_172 c0_i32_173
  let c1_i32_174 : BitVec 32 := 1#32
  let v257 : BitVec 32 := Scalar.select v256 c1_i32_174 c16_i32_172
  let v258 : BitVec 32 := Scalar.remsi v255 v257
  let c0_i32_176 : BitVec 32 := 0#32
  let v260 : BitVec 1 := Scalar.cmpi .slt v258 c0_i32_176
  let c0_i32_177 : BitVec 32 := 0#32
  let v261 : BitVec 1 := Scalar.cmpi .slt v257 c0_i32_177
  let v262 : BitVec 1 := Scalar.xori v260 v261
  let c0_i32_175 : BitVec 32 := 0#32
  let v259 : BitVec 1 := Scalar.cmpi .ne v258 c0_i32_175
  let v263 : BitVec 1 := Scalar.andi v262 v259
  let v264 : BitVec 32 := Scalar.addi v258 v257
  let v265 : BitVec 32 := Scalar.select v263 v264 v258
  ![v265.toNat]
def k0_off9 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off10 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev20 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_171 : BitVec 32 := 3#32
  let v255 : BitVec 32 := Scalar.addi v2 c3_i32_171
  let c16_i32_172 : BitVec 32 := 16#32
  let c0_i32_173 : BitVec 32 := 0#32
  let v256 : BitVec 1 := Scalar.cmpi .eq c16_i32_172 c0_i32_173
  let c1_i32_174 : BitVec 32 := 1#32
  let v257 : BitVec 32 := Scalar.select v256 c1_i32_174 c16_i32_172
  let v258 : BitVec 32 := Scalar.remsi v255 v257
  let c0_i32_176 : BitVec 32 := 0#32
  let v260 : BitVec 1 := Scalar.cmpi .slt v258 c0_i32_176
  let c0_i32_177 : BitVec 32 := 0#32
  let v261 : BitVec 1 := Scalar.cmpi .slt v257 c0_i32_177
  let v262 : BitVec 1 := Scalar.xori v260 v261
  let c0_i32_175 : BitVec 32 := 0#32
  let v259 : BitVec 1 := Scalar.cmpi .ne v258 c0_i32_175
  let v263 : BitVec 1 := Scalar.andi v262 v259
  let v264 : BitVec 32 := Scalar.addi v258 v257
  let v265 : BitVec 32 := Scalar.select v263 v264 v258
  let c1_i32_2627 : BitVec 32 := 1#32
  let v2603 : BitVec 32 := Scalar.muli v265 c1_i32_2627
  let v2604 : BitVec 32 := Scalar.addi c0_i32_2628 v2603
  v2604.toNat
def k0_dev21 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_171 : BitVec 32 := 3#32
  let v255 : BitVec 32 := Scalar.addi v2 c3_i32_171
  let c16_i32_172 : BitVec 32 := 16#32
  let c0_i32_173 : BitVec 32 := 0#32
  let v256 : BitVec 1 := Scalar.cmpi .eq c16_i32_172 c0_i32_173
  let c1_i32_174 : BitVec 32 := 1#32
  let v257 : BitVec 32 := Scalar.select v256 c1_i32_174 c16_i32_172
  let v258 : BitVec 32 := Scalar.remsi v255 v257
  let c0_i32_176 : BitVec 32 := 0#32
  let v260 : BitVec 1 := Scalar.cmpi .slt v258 c0_i32_176
  let c0_i32_177 : BitVec 32 := 0#32
  let v261 : BitVec 1 := Scalar.cmpi .slt v257 c0_i32_177
  let v262 : BitVec 1 := Scalar.xori v260 v261
  let c0_i32_175 : BitVec 32 := 0#32
  let v259 : BitVec 1 := Scalar.cmpi .ne v258 c0_i32_175
  let v263 : BitVec 1 := Scalar.andi v262 v259
  let v264 : BitVec 32 := Scalar.addi v258 v257
  let v265 : BitVec 32 := Scalar.select v263 v264 v258
  let c1_i32_2637 : BitVec 32 := 1#32
  let v2613 : BitVec 32 := Scalar.muli v265 c1_i32_2637
  let v2614 : BitVec 32 := Scalar.addi c0_i32_2638 v2613
  v2614.toNat
def k0_cond5 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v279 : BitVec 32 := Scalar.extui v13
  let c0_i32_190 : BitVec 32 := 0#32
  let v280 : BitVec 1 := Scalar.cmpi .ne v279 c0_i32_190
  v280

def k0_off11 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_181 : BitVec 32 := 4#32
  let v268 : BitVec 32 := Scalar.addi v2 c4_i32_181
  let c16_i32_182 : BitVec 32 := 16#32
  let c0_i32_183 : BitVec 32 := 0#32
  let v269 : BitVec 1 := Scalar.cmpi .eq c16_i32_182 c0_i32_183
  let c1_i32_184 : BitVec 32 := 1#32
  let v270 : BitVec 32 := Scalar.select v269 c1_i32_184 c16_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  ![v278.toNat]
def k0_off12 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off13 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev22 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_181 : BitVec 32 := 4#32
  let v268 : BitVec 32 := Scalar.addi v2 c4_i32_181
  let c16_i32_182 : BitVec 32 := 16#32
  let c0_i32_183 : BitVec 32 := 0#32
  let v269 : BitVec 1 := Scalar.cmpi .eq c16_i32_182 c0_i32_183
  let c1_i32_184 : BitVec 32 := 1#32
  let v270 : BitVec 32 := Scalar.select v269 c1_i32_184 c16_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c1_i32_2627 : BitVec 32 := 1#32
  let v2603 : BitVec 32 := Scalar.muli v278 c1_i32_2627
  let v2604 : BitVec 32 := Scalar.addi c0_i32_2628 v2603
  v2604.toNat
def k0_dev23 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_181 : BitVec 32 := 4#32
  let v268 : BitVec 32 := Scalar.addi v2 c4_i32_181
  let c16_i32_182 : BitVec 32 := 16#32
  let c0_i32_183 : BitVec 32 := 0#32
  let v269 : BitVec 1 := Scalar.cmpi .eq c16_i32_182 c0_i32_183
  let c1_i32_184 : BitVec 32 := 1#32
  let v270 : BitVec 32 := Scalar.select v269 c1_i32_184 c16_i32_182
  let v271 : BitVec 32 := Scalar.remsi v268 v270
  let c0_i32_186 : BitVec 32 := 0#32
  let v273 : BitVec 1 := Scalar.cmpi .slt v271 c0_i32_186
  let c0_i32_187 : BitVec 32 := 0#32
  let v274 : BitVec 1 := Scalar.cmpi .slt v270 c0_i32_187
  let v275 : BitVec 1 := Scalar.xori v273 v274
  let c0_i32_185 : BitVec 32 := 0#32
  let v272 : BitVec 1 := Scalar.cmpi .ne v271 c0_i32_185
  let v276 : BitVec 1 := Scalar.andi v275 v272
  let v277 : BitVec 32 := Scalar.addi v271 v270
  let v278 : BitVec 32 := Scalar.select v276 v277 v271
  let c1_i32_2637 : BitVec 32 := 1#32
  let v2613 : BitVec 32 := Scalar.muli v278 c1_i32_2637
  let v2614 : BitVec 32 := Scalar.addi c0_i32_2638 v2613
  v2614.toNat
def k0_cond6 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v292 : BitVec 32 := Scalar.extui v13
  let c0_i32_200 : BitVec 32 := 0#32
  let v293 : BitVec 1 := Scalar.cmpi .ne v292 c0_i32_200
  v293

def k0_off14 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_191 : BitVec 32 := 5#32
  let v281 : BitVec 32 := Scalar.addi v2 c5_i32_191
  let c16_i32_192 : BitVec 32 := 16#32
  let c0_i32_193 : BitVec 32 := 0#32
  let v282 : BitVec 1 := Scalar.cmpi .eq c16_i32_192 c0_i32_193
  let c1_i32_194 : BitVec 32 := 1#32
  let v283 : BitVec 32 := Scalar.select v282 c1_i32_194 c16_i32_192
  let v284 : BitVec 32 := Scalar.remsi v281 v283
  let c0_i32_196 : BitVec 32 := 0#32
  let v286 : BitVec 1 := Scalar.cmpi .slt v284 c0_i32_196
  let c0_i32_197 : BitVec 32 := 0#32
  let v287 : BitVec 1 := Scalar.cmpi .slt v283 c0_i32_197
  let v288 : BitVec 1 := Scalar.xori v286 v287
  let c0_i32_195 : BitVec 32 := 0#32
  let v285 : BitVec 1 := Scalar.cmpi .ne v284 c0_i32_195
  let v289 : BitVec 1 := Scalar.andi v288 v285
  let v290 : BitVec 32 := Scalar.addi v284 v283
  let v291 : BitVec 32 := Scalar.select v289 v290 v284
  ![v291.toNat]
def k0_off15 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off16 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev24 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_191 : BitVec 32 := 5#32
  let v281 : BitVec 32 := Scalar.addi v2 c5_i32_191
  let c16_i32_192 : BitVec 32 := 16#32
  let c0_i32_193 : BitVec 32 := 0#32
  let v282 : BitVec 1 := Scalar.cmpi .eq c16_i32_192 c0_i32_193
  let c1_i32_194 : BitVec 32 := 1#32
  let v283 : BitVec 32 := Scalar.select v282 c1_i32_194 c16_i32_192
  let v284 : BitVec 32 := Scalar.remsi v281 v283
  let c0_i32_196 : BitVec 32 := 0#32
  let v286 : BitVec 1 := Scalar.cmpi .slt v284 c0_i32_196
  let c0_i32_197 : BitVec 32 := 0#32
  let v287 : BitVec 1 := Scalar.cmpi .slt v283 c0_i32_197
  let v288 : BitVec 1 := Scalar.xori v286 v287
  let c0_i32_195 : BitVec 32 := 0#32
  let v285 : BitVec 1 := Scalar.cmpi .ne v284 c0_i32_195
  let v289 : BitVec 1 := Scalar.andi v288 v285
  let v290 : BitVec 32 := Scalar.addi v284 v283
  let v291 : BitVec 32 := Scalar.select v289 v290 v284
  let c1_i32_2627 : BitVec 32 := 1#32
  let v2603 : BitVec 32 := Scalar.muli v291 c1_i32_2627
  let v2604 : BitVec 32 := Scalar.addi c0_i32_2628 v2603
  v2604.toNat
def k0_dev25 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_191 : BitVec 32 := 5#32
  let v281 : BitVec 32 := Scalar.addi v2 c5_i32_191
  let c16_i32_192 : BitVec 32 := 16#32
  let c0_i32_193 : BitVec 32 := 0#32
  let v282 : BitVec 1 := Scalar.cmpi .eq c16_i32_192 c0_i32_193
  let c1_i32_194 : BitVec 32 := 1#32
  let v283 : BitVec 32 := Scalar.select v282 c1_i32_194 c16_i32_192
  let v284 : BitVec 32 := Scalar.remsi v281 v283
  let c0_i32_196 : BitVec 32 := 0#32
  let v286 : BitVec 1 := Scalar.cmpi .slt v284 c0_i32_196
  let c0_i32_197 : BitVec 32 := 0#32
  let v287 : BitVec 1 := Scalar.cmpi .slt v283 c0_i32_197
  let v288 : BitVec 1 := Scalar.xori v286 v287
  let c0_i32_195 : BitVec 32 := 0#32
  let v285 : BitVec 1 := Scalar.cmpi .ne v284 c0_i32_195
  let v289 : BitVec 1 := Scalar.andi v288 v285
  let v290 : BitVec 32 := Scalar.addi v284 v283
  let v291 : BitVec 32 := Scalar.select v289 v290 v284
  let c1_i32_2637 : BitVec 32 := 1#32
  let v2613 : BitVec 32 := Scalar.muli v291 c1_i32_2637
  let v2614 : BitVec 32 := Scalar.addi c0_i32_2638 v2613
  v2614.toNat
def k0_cond7 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v305 : BitVec 32 := Scalar.extui v13
  let c0_i32_210 : BitVec 32 := 0#32
  let v306 : BitVec 1 := Scalar.cmpi .ne v305 c0_i32_210
  v306

def k0_off17 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_201 : BitVec 32 := 6#32
  let v294 : BitVec 32 := Scalar.addi v2 c6_i32_201
  let c16_i32_202 : BitVec 32 := 16#32
  let c0_i32_203 : BitVec 32 := 0#32
  let v295 : BitVec 1 := Scalar.cmpi .eq c16_i32_202 c0_i32_203
  let c1_i32_204 : BitVec 32 := 1#32
  let v296 : BitVec 32 := Scalar.select v295 c1_i32_204 c16_i32_202
  let v297 : BitVec 32 := Scalar.remsi v294 v296
  let c0_i32_206 : BitVec 32 := 0#32
  let v299 : BitVec 1 := Scalar.cmpi .slt v297 c0_i32_206
  let c0_i32_207 : BitVec 32 := 0#32
  let v300 : BitVec 1 := Scalar.cmpi .slt v296 c0_i32_207
  let v301 : BitVec 1 := Scalar.xori v299 v300
  let c0_i32_205 : BitVec 32 := 0#32
  let v298 : BitVec 1 := Scalar.cmpi .ne v297 c0_i32_205
  let v302 : BitVec 1 := Scalar.andi v301 v298
  let v303 : BitVec 32 := Scalar.addi v297 v296
  let v304 : BitVec 32 := Scalar.select v302 v303 v297
  ![v304.toNat]
def k0_off18 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off19 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev26 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_201 : BitVec 32 := 6#32
  let v294 : BitVec 32 := Scalar.addi v2 c6_i32_201
  let c16_i32_202 : BitVec 32 := 16#32
  let c0_i32_203 : BitVec 32 := 0#32
  let v295 : BitVec 1 := Scalar.cmpi .eq c16_i32_202 c0_i32_203
  let c1_i32_204 : BitVec 32 := 1#32
  let v296 : BitVec 32 := Scalar.select v295 c1_i32_204 c16_i32_202
  let v297 : BitVec 32 := Scalar.remsi v294 v296
  let c0_i32_206 : BitVec 32 := 0#32
  let v299 : BitVec 1 := Scalar.cmpi .slt v297 c0_i32_206
  let c0_i32_207 : BitVec 32 := 0#32
  let v300 : BitVec 1 := Scalar.cmpi .slt v296 c0_i32_207
  let v301 : BitVec 1 := Scalar.xori v299 v300
  let c0_i32_205 : BitVec 32 := 0#32
  let v298 : BitVec 1 := Scalar.cmpi .ne v297 c0_i32_205
  let v302 : BitVec 1 := Scalar.andi v301 v298
  let v303 : BitVec 32 := Scalar.addi v297 v296
  let v304 : BitVec 32 := Scalar.select v302 v303 v297
  let c1_i32_2627 : BitVec 32 := 1#32
  let v2603 : BitVec 32 := Scalar.muli v304 c1_i32_2627
  let v2604 : BitVec 32 := Scalar.addi c0_i32_2628 v2603
  v2604.toNat
def k0_dev27 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_201 : BitVec 32 := 6#32
  let v294 : BitVec 32 := Scalar.addi v2 c6_i32_201
  let c16_i32_202 : BitVec 32 := 16#32
  let c0_i32_203 : BitVec 32 := 0#32
  let v295 : BitVec 1 := Scalar.cmpi .eq c16_i32_202 c0_i32_203
  let c1_i32_204 : BitVec 32 := 1#32
  let v296 : BitVec 32 := Scalar.select v295 c1_i32_204 c16_i32_202
  let v297 : BitVec 32 := Scalar.remsi v294 v296
  let c0_i32_206 : BitVec 32 := 0#32
  let v299 : BitVec 1 := Scalar.cmpi .slt v297 c0_i32_206
  let c0_i32_207 : BitVec 32 := 0#32
  let v300 : BitVec 1 := Scalar.cmpi .slt v296 c0_i32_207
  let v301 : BitVec 1 := Scalar.xori v299 v300
  let c0_i32_205 : BitVec 32 := 0#32
  let v298 : BitVec 1 := Scalar.cmpi .ne v297 c0_i32_205
  let v302 : BitVec 1 := Scalar.andi v301 v298
  let v303 : BitVec 32 := Scalar.addi v297 v296
  let v304 : BitVec 32 := Scalar.select v302 v303 v297
  let c1_i32_2637 : BitVec 32 := 1#32
  let v2613 : BitVec 32 := Scalar.muli v304 c1_i32_2637
  let v2614 : BitVec 32 := Scalar.addi c0_i32_2638 v2613
  v2614.toNat
def k0_cond8 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v318 : BitVec 32 := Scalar.extui v13
  let c0_i32_220 : BitVec 32 := 0#32
  let v319 : BitVec 1 := Scalar.cmpi .ne v318 c0_i32_220
  v319

def k0_off20 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_211 : BitVec 32 := 7#32
  let v307 : BitVec 32 := Scalar.addi v2 c7_i32_211
  let c16_i32_212 : BitVec 32 := 16#32
  let c0_i32_213 : BitVec 32 := 0#32
  let v308 : BitVec 1 := Scalar.cmpi .eq c16_i32_212 c0_i32_213
  let c1_i32_214 : BitVec 32 := 1#32
  let v309 : BitVec 32 := Scalar.select v308 c1_i32_214 c16_i32_212
  let v310 : BitVec 32 := Scalar.remsi v307 v309
  let c0_i32_216 : BitVec 32 := 0#32
  let v312 : BitVec 1 := Scalar.cmpi .slt v310 c0_i32_216
  let c0_i32_217 : BitVec 32 := 0#32
  let v313 : BitVec 1 := Scalar.cmpi .slt v309 c0_i32_217
  let v314 : BitVec 1 := Scalar.xori v312 v313
  let c0_i32_215 : BitVec 32 := 0#32
  let v311 : BitVec 1 := Scalar.cmpi .ne v310 c0_i32_215
  let v315 : BitVec 1 := Scalar.andi v314 v311
  let v316 : BitVec 32 := Scalar.addi v310 v309
  let v317 : BitVec 32 := Scalar.select v315 v316 v310
  ![v317.toNat]
def k0_off21 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off22 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev28 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_211 : BitVec 32 := 7#32
  let v307 : BitVec 32 := Scalar.addi v2 c7_i32_211
  let c16_i32_212 : BitVec 32 := 16#32
  let c0_i32_213 : BitVec 32 := 0#32
  let v308 : BitVec 1 := Scalar.cmpi .eq c16_i32_212 c0_i32_213
  let c1_i32_214 : BitVec 32 := 1#32
  let v309 : BitVec 32 := Scalar.select v308 c1_i32_214 c16_i32_212
  let v310 : BitVec 32 := Scalar.remsi v307 v309
  let c0_i32_216 : BitVec 32 := 0#32
  let v312 : BitVec 1 := Scalar.cmpi .slt v310 c0_i32_216
  let c0_i32_217 : BitVec 32 := 0#32
  let v313 : BitVec 1 := Scalar.cmpi .slt v309 c0_i32_217
  let v314 : BitVec 1 := Scalar.xori v312 v313
  let c0_i32_215 : BitVec 32 := 0#32
  let v311 : BitVec 1 := Scalar.cmpi .ne v310 c0_i32_215
  let v315 : BitVec 1 := Scalar.andi v314 v311
  let v316 : BitVec 32 := Scalar.addi v310 v309
  let v317 : BitVec 32 := Scalar.select v315 v316 v310
  let c1_i32_2627 : BitVec 32 := 1#32
  let v2603 : BitVec 32 := Scalar.muli v317 c1_i32_2627
  let v2604 : BitVec 32 := Scalar.addi c0_i32_2628 v2603
  v2604.toNat
def k0_dev29 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_211 : BitVec 32 := 7#32
  let v307 : BitVec 32 := Scalar.addi v2 c7_i32_211
  let c16_i32_212 : BitVec 32 := 16#32
  let c0_i32_213 : BitVec 32 := 0#32
  let v308 : BitVec 1 := Scalar.cmpi .eq c16_i32_212 c0_i32_213
  let c1_i32_214 : BitVec 32 := 1#32
  let v309 : BitVec 32 := Scalar.select v308 c1_i32_214 c16_i32_212
  let v310 : BitVec 32 := Scalar.remsi v307 v309
  let c0_i32_216 : BitVec 32 := 0#32
  let v312 : BitVec 1 := Scalar.cmpi .slt v310 c0_i32_216
  let c0_i32_217 : BitVec 32 := 0#32
  let v313 : BitVec 1 := Scalar.cmpi .slt v309 c0_i32_217
  let v314 : BitVec 1 := Scalar.xori v312 v313
  let c0_i32_215 : BitVec 32 := 0#32
  let v311 : BitVec 1 := Scalar.cmpi .ne v310 c0_i32_215
  let v315 : BitVec 1 := Scalar.andi v314 v311
  let v316 : BitVec 32 := Scalar.addi v310 v309
  let v317 : BitVec 32 := Scalar.select v315 v316 v310
  let c1_i32_2637 : BitVec 32 := 1#32
  let v2613 : BitVec 32 := Scalar.muli v317 c1_i32_2637
  let v2614 : BitVec 32 := Scalar.addi c0_i32_2638 v2613
  v2614.toNat
def k0_cond9 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v331 : BitVec 32 := Scalar.extui v13
  let c0_i32_230 : BitVec 32 := 0#32
  let v332 : BitVec 1 := Scalar.cmpi .ne v331 c0_i32_230
  v332

def k0_off23 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_221 : BitVec 32 := 8#32
  let v320 : BitVec 32 := Scalar.addi v2 c8_i32_221
  let c16_i32_222 : BitVec 32 := 16#32
  let c0_i32_223 : BitVec 32 := 0#32
  let v321 : BitVec 1 := Scalar.cmpi .eq c16_i32_222 c0_i32_223
  let c1_i32_224 : BitVec 32 := 1#32
  let v322 : BitVec 32 := Scalar.select v321 c1_i32_224 c16_i32_222
  let v323 : BitVec 32 := Scalar.remsi v320 v322
  let c0_i32_226 : BitVec 32 := 0#32
  let v325 : BitVec 1 := Scalar.cmpi .slt v323 c0_i32_226
  let c0_i32_227 : BitVec 32 := 0#32
  let v326 : BitVec 1 := Scalar.cmpi .slt v322 c0_i32_227
  let v327 : BitVec 1 := Scalar.xori v325 v326
  let c0_i32_225 : BitVec 32 := 0#32
  let v324 : BitVec 1 := Scalar.cmpi .ne v323 c0_i32_225
  let v328 : BitVec 1 := Scalar.andi v327 v324
  let v329 : BitVec 32 := Scalar.addi v323 v322
  let v330 : BitVec 32 := Scalar.select v328 v329 v323
  ![v330.toNat]
def k0_off24 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off25 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev30 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_221 : BitVec 32 := 8#32
  let v320 : BitVec 32 := Scalar.addi v2 c8_i32_221
  let c16_i32_222 : BitVec 32 := 16#32
  let c0_i32_223 : BitVec 32 := 0#32
  let v321 : BitVec 1 := Scalar.cmpi .eq c16_i32_222 c0_i32_223
  let c1_i32_224 : BitVec 32 := 1#32
  let v322 : BitVec 32 := Scalar.select v321 c1_i32_224 c16_i32_222
  let v323 : BitVec 32 := Scalar.remsi v320 v322
  let c0_i32_226 : BitVec 32 := 0#32
  let v325 : BitVec 1 := Scalar.cmpi .slt v323 c0_i32_226
  let c0_i32_227 : BitVec 32 := 0#32
  let v326 : BitVec 1 := Scalar.cmpi .slt v322 c0_i32_227
  let v327 : BitVec 1 := Scalar.xori v325 v326
  let c0_i32_225 : BitVec 32 := 0#32
  let v324 : BitVec 1 := Scalar.cmpi .ne v323 c0_i32_225
  let v328 : BitVec 1 := Scalar.andi v327 v324
  let v329 : BitVec 32 := Scalar.addi v323 v322
  let v330 : BitVec 32 := Scalar.select v328 v329 v323
  let c1_i32_2627 : BitVec 32 := 1#32
  let v2603 : BitVec 32 := Scalar.muli v330 c1_i32_2627
  let v2604 : BitVec 32 := Scalar.addi c0_i32_2628 v2603
  v2604.toNat
def k0_dev31 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_221 : BitVec 32 := 8#32
  let v320 : BitVec 32 := Scalar.addi v2 c8_i32_221
  let c16_i32_222 : BitVec 32 := 16#32
  let c0_i32_223 : BitVec 32 := 0#32
  let v321 : BitVec 1 := Scalar.cmpi .eq c16_i32_222 c0_i32_223
  let c1_i32_224 : BitVec 32 := 1#32
  let v322 : BitVec 32 := Scalar.select v321 c1_i32_224 c16_i32_222
  let v323 : BitVec 32 := Scalar.remsi v320 v322
  let c0_i32_226 : BitVec 32 := 0#32
  let v325 : BitVec 1 := Scalar.cmpi .slt v323 c0_i32_226
  let c0_i32_227 : BitVec 32 := 0#32
  let v326 : BitVec 1 := Scalar.cmpi .slt v322 c0_i32_227
  let v327 : BitVec 1 := Scalar.xori v325 v326
  let c0_i32_225 : BitVec 32 := 0#32
  let v324 : BitVec 1 := Scalar.cmpi .ne v323 c0_i32_225
  let v328 : BitVec 1 := Scalar.andi v327 v324
  let v329 : BitVec 32 := Scalar.addi v323 v322
  let v330 : BitVec 32 := Scalar.select v328 v329 v323
  let c1_i32_2637 : BitVec 32 := 1#32
  let v2613 : BitVec 32 := Scalar.muli v330 c1_i32_2637
  let v2614 : BitVec 32 := Scalar.addi c0_i32_2638 v2613
  v2614.toNat
def k0_cond10 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v344 : BitVec 32 := Scalar.extui v13
  let c0_i32_240 : BitVec 32 := 0#32
  let v345 : BitVec 1 := Scalar.cmpi .ne v344 c0_i32_240
  v345

def k0_off26 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_231 : BitVec 32 := 9#32
  let v333 : BitVec 32 := Scalar.addi v2 c9_i32_231
  let c16_i32_232 : BitVec 32 := 16#32
  let c0_i32_233 : BitVec 32 := 0#32
  let v334 : BitVec 1 := Scalar.cmpi .eq c16_i32_232 c0_i32_233
  let c1_i32_234 : BitVec 32 := 1#32
  let v335 : BitVec 32 := Scalar.select v334 c1_i32_234 c16_i32_232
  let v336 : BitVec 32 := Scalar.remsi v333 v335
  let c0_i32_236 : BitVec 32 := 0#32
  let v338 : BitVec 1 := Scalar.cmpi .slt v336 c0_i32_236
  let c0_i32_237 : BitVec 32 := 0#32
  let v339 : BitVec 1 := Scalar.cmpi .slt v335 c0_i32_237
  let v340 : BitVec 1 := Scalar.xori v338 v339
  let c0_i32_235 : BitVec 32 := 0#32
  let v337 : BitVec 1 := Scalar.cmpi .ne v336 c0_i32_235
  let v341 : BitVec 1 := Scalar.andi v340 v337
  let v342 : BitVec 32 := Scalar.addi v336 v335
  let v343 : BitVec 32 := Scalar.select v341 v342 v336
  ![v343.toNat]
def k0_off27 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off28 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev32 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_231 : BitVec 32 := 9#32
  let v333 : BitVec 32 := Scalar.addi v2 c9_i32_231
  let c16_i32_232 : BitVec 32 := 16#32
  let c0_i32_233 : BitVec 32 := 0#32
  let v334 : BitVec 1 := Scalar.cmpi .eq c16_i32_232 c0_i32_233
  let c1_i32_234 : BitVec 32 := 1#32
  let v335 : BitVec 32 := Scalar.select v334 c1_i32_234 c16_i32_232
  let v336 : BitVec 32 := Scalar.remsi v333 v335
  let c0_i32_236 : BitVec 32 := 0#32
  let v338 : BitVec 1 := Scalar.cmpi .slt v336 c0_i32_236
  let c0_i32_237 : BitVec 32 := 0#32
  let v339 : BitVec 1 := Scalar.cmpi .slt v335 c0_i32_237
  let v340 : BitVec 1 := Scalar.xori v338 v339
  let c0_i32_235 : BitVec 32 := 0#32
  let v337 : BitVec 1 := Scalar.cmpi .ne v336 c0_i32_235
  let v341 : BitVec 1 := Scalar.andi v340 v337
  let v342 : BitVec 32 := Scalar.addi v336 v335
  let v343 : BitVec 32 := Scalar.select v341 v342 v336
  let c1_i32_2627 : BitVec 32 := 1#32
  let v2603 : BitVec 32 := Scalar.muli v343 c1_i32_2627
  let v2604 : BitVec 32 := Scalar.addi c0_i32_2628 v2603
  v2604.toNat
def k0_dev33 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_231 : BitVec 32 := 9#32
  let v333 : BitVec 32 := Scalar.addi v2 c9_i32_231
  let c16_i32_232 : BitVec 32 := 16#32
  let c0_i32_233 : BitVec 32 := 0#32
  let v334 : BitVec 1 := Scalar.cmpi .eq c16_i32_232 c0_i32_233
  let c1_i32_234 : BitVec 32 := 1#32
  let v335 : BitVec 32 := Scalar.select v334 c1_i32_234 c16_i32_232
  let v336 : BitVec 32 := Scalar.remsi v333 v335
  let c0_i32_236 : BitVec 32 := 0#32
  let v338 : BitVec 1 := Scalar.cmpi .slt v336 c0_i32_236
  let c0_i32_237 : BitVec 32 := 0#32
  let v339 : BitVec 1 := Scalar.cmpi .slt v335 c0_i32_237
  let v340 : BitVec 1 := Scalar.xori v338 v339
  let c0_i32_235 : BitVec 32 := 0#32
  let v337 : BitVec 1 := Scalar.cmpi .ne v336 c0_i32_235
  let v341 : BitVec 1 := Scalar.andi v340 v337
  let v342 : BitVec 32 := Scalar.addi v336 v335
  let v343 : BitVec 32 := Scalar.select v341 v342 v336
  let c1_i32_2637 : BitVec 32 := 1#32
  let v2613 : BitVec 32 := Scalar.muli v343 c1_i32_2637
  let v2614 : BitVec 32 := Scalar.addi c0_i32_2638 v2613
  v2614.toNat
def k0_cond11 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v357 : BitVec 32 := Scalar.extui v13
  let c0_i32_250 : BitVec 32 := 0#32
  let v358 : BitVec 1 := Scalar.cmpi .ne v357 c0_i32_250
  v358

def k0_off29 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_241 : BitVec 32 := 10#32
  let v346 : BitVec 32 := Scalar.addi v2 c10_i32_241
  let c16_i32_242 : BitVec 32 := 16#32
  let c0_i32_243 : BitVec 32 := 0#32
  let v347 : BitVec 1 := Scalar.cmpi .eq c16_i32_242 c0_i32_243
  let c1_i32_244 : BitVec 32 := 1#32
  let v348 : BitVec 32 := Scalar.select v347 c1_i32_244 c16_i32_242
  let v349 : BitVec 32 := Scalar.remsi v346 v348
  let c0_i32_246 : BitVec 32 := 0#32
  let v351 : BitVec 1 := Scalar.cmpi .slt v349 c0_i32_246
  let c0_i32_247 : BitVec 32 := 0#32
  let v352 : BitVec 1 := Scalar.cmpi .slt v348 c0_i32_247
  let v353 : BitVec 1 := Scalar.xori v351 v352
  let c0_i32_245 : BitVec 32 := 0#32
  let v350 : BitVec 1 := Scalar.cmpi .ne v349 c0_i32_245
  let v354 : BitVec 1 := Scalar.andi v353 v350
  let v355 : BitVec 32 := Scalar.addi v349 v348
  let v356 : BitVec 32 := Scalar.select v354 v355 v349
  ![v356.toNat]
def k0_off30 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off31 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev34 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_241 : BitVec 32 := 10#32
  let v346 : BitVec 32 := Scalar.addi v2 c10_i32_241
  let c16_i32_242 : BitVec 32 := 16#32
  let c0_i32_243 : BitVec 32 := 0#32
  let v347 : BitVec 1 := Scalar.cmpi .eq c16_i32_242 c0_i32_243
  let c1_i32_244 : BitVec 32 := 1#32
  let v348 : BitVec 32 := Scalar.select v347 c1_i32_244 c16_i32_242
  let v349 : BitVec 32 := Scalar.remsi v346 v348
  let c0_i32_246 : BitVec 32 := 0#32
  let v351 : BitVec 1 := Scalar.cmpi .slt v349 c0_i32_246
  let c0_i32_247 : BitVec 32 := 0#32
  let v352 : BitVec 1 := Scalar.cmpi .slt v348 c0_i32_247
  let v353 : BitVec 1 := Scalar.xori v351 v352
  let c0_i32_245 : BitVec 32 := 0#32
  let v350 : BitVec 1 := Scalar.cmpi .ne v349 c0_i32_245
  let v354 : BitVec 1 := Scalar.andi v353 v350
  let v355 : BitVec 32 := Scalar.addi v349 v348
  let v356 : BitVec 32 := Scalar.select v354 v355 v349
  let c1_i32_2627 : BitVec 32 := 1#32
  let v2603 : BitVec 32 := Scalar.muli v356 c1_i32_2627
  let v2604 : BitVec 32 := Scalar.addi c0_i32_2628 v2603
  v2604.toNat
def k0_dev35 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_241 : BitVec 32 := 10#32
  let v346 : BitVec 32 := Scalar.addi v2 c10_i32_241
  let c16_i32_242 : BitVec 32 := 16#32
  let c0_i32_243 : BitVec 32 := 0#32
  let v347 : BitVec 1 := Scalar.cmpi .eq c16_i32_242 c0_i32_243
  let c1_i32_244 : BitVec 32 := 1#32
  let v348 : BitVec 32 := Scalar.select v347 c1_i32_244 c16_i32_242
  let v349 : BitVec 32 := Scalar.remsi v346 v348
  let c0_i32_246 : BitVec 32 := 0#32
  let v351 : BitVec 1 := Scalar.cmpi .slt v349 c0_i32_246
  let c0_i32_247 : BitVec 32 := 0#32
  let v352 : BitVec 1 := Scalar.cmpi .slt v348 c0_i32_247
  let v353 : BitVec 1 := Scalar.xori v351 v352
  let c0_i32_245 : BitVec 32 := 0#32
  let v350 : BitVec 1 := Scalar.cmpi .ne v349 c0_i32_245
  let v354 : BitVec 1 := Scalar.andi v353 v350
  let v355 : BitVec 32 := Scalar.addi v349 v348
  let v356 : BitVec 32 := Scalar.select v354 v355 v349
  let c1_i32_2637 : BitVec 32 := 1#32
  let v2613 : BitVec 32 := Scalar.muli v356 c1_i32_2637
  let v2614 : BitVec 32 := Scalar.addi c0_i32_2638 v2613
  v2614.toNat
def k0_cond12 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v370 : BitVec 32 := Scalar.extui v13
  let c0_i32_260 : BitVec 32 := 0#32
  let v371 : BitVec 1 := Scalar.cmpi .ne v370 c0_i32_260
  v371

def k0_off32 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_251 : BitVec 32 := 11#32
  let v359 : BitVec 32 := Scalar.addi v2 c11_i32_251
  let c16_i32_252 : BitVec 32 := 16#32
  let c0_i32_253 : BitVec 32 := 0#32
  let v360 : BitVec 1 := Scalar.cmpi .eq c16_i32_252 c0_i32_253
  let c1_i32_254 : BitVec 32 := 1#32
  let v361 : BitVec 32 := Scalar.select v360 c1_i32_254 c16_i32_252
  let v362 : BitVec 32 := Scalar.remsi v359 v361
  let c0_i32_256 : BitVec 32 := 0#32
  let v364 : BitVec 1 := Scalar.cmpi .slt v362 c0_i32_256
  let c0_i32_257 : BitVec 32 := 0#32
  let v365 : BitVec 1 := Scalar.cmpi .slt v361 c0_i32_257
  let v366 : BitVec 1 := Scalar.xori v364 v365
  let c0_i32_255 : BitVec 32 := 0#32
  let v363 : BitVec 1 := Scalar.cmpi .ne v362 c0_i32_255
  let v367 : BitVec 1 := Scalar.andi v366 v363
  let v368 : BitVec 32 := Scalar.addi v362 v361
  let v369 : BitVec 32 := Scalar.select v367 v368 v362
  ![v369.toNat]
def k0_off33 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off34 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev36 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_251 : BitVec 32 := 11#32
  let v359 : BitVec 32 := Scalar.addi v2 c11_i32_251
  let c16_i32_252 : BitVec 32 := 16#32
  let c0_i32_253 : BitVec 32 := 0#32
  let v360 : BitVec 1 := Scalar.cmpi .eq c16_i32_252 c0_i32_253
  let c1_i32_254 : BitVec 32 := 1#32
  let v361 : BitVec 32 := Scalar.select v360 c1_i32_254 c16_i32_252
  let v362 : BitVec 32 := Scalar.remsi v359 v361
  let c0_i32_256 : BitVec 32 := 0#32
  let v364 : BitVec 1 := Scalar.cmpi .slt v362 c0_i32_256
  let c0_i32_257 : BitVec 32 := 0#32
  let v365 : BitVec 1 := Scalar.cmpi .slt v361 c0_i32_257
  let v366 : BitVec 1 := Scalar.xori v364 v365
  let c0_i32_255 : BitVec 32 := 0#32
  let v363 : BitVec 1 := Scalar.cmpi .ne v362 c0_i32_255
  let v367 : BitVec 1 := Scalar.andi v366 v363
  let v368 : BitVec 32 := Scalar.addi v362 v361
  let v369 : BitVec 32 := Scalar.select v367 v368 v362
  let c1_i32_2627 : BitVec 32 := 1#32
  let v2603 : BitVec 32 := Scalar.muli v369 c1_i32_2627
  let v2604 : BitVec 32 := Scalar.addi c0_i32_2628 v2603
  v2604.toNat
def k0_dev37 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_251 : BitVec 32 := 11#32
  let v359 : BitVec 32 := Scalar.addi v2 c11_i32_251
  let c16_i32_252 : BitVec 32 := 16#32
  let c0_i32_253 : BitVec 32 := 0#32
  let v360 : BitVec 1 := Scalar.cmpi .eq c16_i32_252 c0_i32_253
  let c1_i32_254 : BitVec 32 := 1#32
  let v361 : BitVec 32 := Scalar.select v360 c1_i32_254 c16_i32_252
  let v362 : BitVec 32 := Scalar.remsi v359 v361
  let c0_i32_256 : BitVec 32 := 0#32
  let v364 : BitVec 1 := Scalar.cmpi .slt v362 c0_i32_256
  let c0_i32_257 : BitVec 32 := 0#32
  let v365 : BitVec 1 := Scalar.cmpi .slt v361 c0_i32_257
  let v366 : BitVec 1 := Scalar.xori v364 v365
  let c0_i32_255 : BitVec 32 := 0#32
  let v363 : BitVec 1 := Scalar.cmpi .ne v362 c0_i32_255
  let v367 : BitVec 1 := Scalar.andi v366 v363
  let v368 : BitVec 32 := Scalar.addi v362 v361
  let v369 : BitVec 32 := Scalar.select v367 v368 v362
  let c1_i32_2637 : BitVec 32 := 1#32
  let v2613 : BitVec 32 := Scalar.muli v369 c1_i32_2637
  let v2614 : BitVec 32 := Scalar.addi c0_i32_2638 v2613
  v2614.toNat
def k0_cond13 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v383 : BitVec 32 := Scalar.extui v13
  let c0_i32_270 : BitVec 32 := 0#32
  let v384 : BitVec 1 := Scalar.cmpi .ne v383 c0_i32_270
  v384

def k0_off35 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_261 : BitVec 32 := 12#32
  let v372 : BitVec 32 := Scalar.addi v2 c12_i32_261
  let c16_i32_262 : BitVec 32 := 16#32
  let c0_i32_263 : BitVec 32 := 0#32
  let v373 : BitVec 1 := Scalar.cmpi .eq c16_i32_262 c0_i32_263
  let c1_i32_264 : BitVec 32 := 1#32
  let v374 : BitVec 32 := Scalar.select v373 c1_i32_264 c16_i32_262
  let v375 : BitVec 32 := Scalar.remsi v372 v374
  let c0_i32_266 : BitVec 32 := 0#32
  let v377 : BitVec 1 := Scalar.cmpi .slt v375 c0_i32_266
  let c0_i32_267 : BitVec 32 := 0#32
  let v378 : BitVec 1 := Scalar.cmpi .slt v374 c0_i32_267
  let v379 : BitVec 1 := Scalar.xori v377 v378
  let c0_i32_265 : BitVec 32 := 0#32
  let v376 : BitVec 1 := Scalar.cmpi .ne v375 c0_i32_265
  let v380 : BitVec 1 := Scalar.andi v379 v376
  let v381 : BitVec 32 := Scalar.addi v375 v374
  let v382 : BitVec 32 := Scalar.select v380 v381 v375
  ![v382.toNat]
def k0_off36 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off37 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev38 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_261 : BitVec 32 := 12#32
  let v372 : BitVec 32 := Scalar.addi v2 c12_i32_261
  let c16_i32_262 : BitVec 32 := 16#32
  let c0_i32_263 : BitVec 32 := 0#32
  let v373 : BitVec 1 := Scalar.cmpi .eq c16_i32_262 c0_i32_263
  let c1_i32_264 : BitVec 32 := 1#32
  let v374 : BitVec 32 := Scalar.select v373 c1_i32_264 c16_i32_262
  let v375 : BitVec 32 := Scalar.remsi v372 v374
  let c0_i32_266 : BitVec 32 := 0#32
  let v377 : BitVec 1 := Scalar.cmpi .slt v375 c0_i32_266
  let c0_i32_267 : BitVec 32 := 0#32
  let v378 : BitVec 1 := Scalar.cmpi .slt v374 c0_i32_267
  let v379 : BitVec 1 := Scalar.xori v377 v378
  let c0_i32_265 : BitVec 32 := 0#32
  let v376 : BitVec 1 := Scalar.cmpi .ne v375 c0_i32_265
  let v380 : BitVec 1 := Scalar.andi v379 v376
  let v381 : BitVec 32 := Scalar.addi v375 v374
  let v382 : BitVec 32 := Scalar.select v380 v381 v375
  let c1_i32_2627 : BitVec 32 := 1#32
  let v2603 : BitVec 32 := Scalar.muli v382 c1_i32_2627
  let v2604 : BitVec 32 := Scalar.addi c0_i32_2628 v2603
  v2604.toNat
def k0_dev39 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_261 : BitVec 32 := 12#32
  let v372 : BitVec 32 := Scalar.addi v2 c12_i32_261
  let c16_i32_262 : BitVec 32 := 16#32
  let c0_i32_263 : BitVec 32 := 0#32
  let v373 : BitVec 1 := Scalar.cmpi .eq c16_i32_262 c0_i32_263
  let c1_i32_264 : BitVec 32 := 1#32
  let v374 : BitVec 32 := Scalar.select v373 c1_i32_264 c16_i32_262
  let v375 : BitVec 32 := Scalar.remsi v372 v374
  let c0_i32_266 : BitVec 32 := 0#32
  let v377 : BitVec 1 := Scalar.cmpi .slt v375 c0_i32_266
  let c0_i32_267 : BitVec 32 := 0#32
  let v378 : BitVec 1 := Scalar.cmpi .slt v374 c0_i32_267
  let v379 : BitVec 1 := Scalar.xori v377 v378
  let c0_i32_265 : BitVec 32 := 0#32
  let v376 : BitVec 1 := Scalar.cmpi .ne v375 c0_i32_265
  let v380 : BitVec 1 := Scalar.andi v379 v376
  let v381 : BitVec 32 := Scalar.addi v375 v374
  let v382 : BitVec 32 := Scalar.select v380 v381 v375
  let c1_i32_2637 : BitVec 32 := 1#32
  let v2613 : BitVec 32 := Scalar.muli v382 c1_i32_2637
  let v2614 : BitVec 32 := Scalar.addi c0_i32_2638 v2613
  v2614.toNat
def k0_cond14 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v396 : BitVec 32 := Scalar.extui v13
  let c0_i32_280 : BitVec 32 := 0#32
  let v397 : BitVec 1 := Scalar.cmpi .ne v396 c0_i32_280
  v397

def k0_off38 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_271 : BitVec 32 := 13#32
  let v385 : BitVec 32 := Scalar.addi v2 c13_i32_271
  let c16_i32_272 : BitVec 32 := 16#32
  let c0_i32_273 : BitVec 32 := 0#32
  let v386 : BitVec 1 := Scalar.cmpi .eq c16_i32_272 c0_i32_273
  let c1_i32_274 : BitVec 32 := 1#32
  let v387 : BitVec 32 := Scalar.select v386 c1_i32_274 c16_i32_272
  let v388 : BitVec 32 := Scalar.remsi v385 v387
  let c0_i32_276 : BitVec 32 := 0#32
  let v390 : BitVec 1 := Scalar.cmpi .slt v388 c0_i32_276
  let c0_i32_277 : BitVec 32 := 0#32
  let v391 : BitVec 1 := Scalar.cmpi .slt v387 c0_i32_277
  let v392 : BitVec 1 := Scalar.xori v390 v391
  let c0_i32_275 : BitVec 32 := 0#32
  let v389 : BitVec 1 := Scalar.cmpi .ne v388 c0_i32_275
  let v393 : BitVec 1 := Scalar.andi v392 v389
  let v394 : BitVec 32 := Scalar.addi v388 v387
  let v395 : BitVec 32 := Scalar.select v393 v394 v388
  ![v395.toNat]
def k0_off39 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off40 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev40 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_271 : BitVec 32 := 13#32
  let v385 : BitVec 32 := Scalar.addi v2 c13_i32_271
  let c16_i32_272 : BitVec 32 := 16#32
  let c0_i32_273 : BitVec 32 := 0#32
  let v386 : BitVec 1 := Scalar.cmpi .eq c16_i32_272 c0_i32_273
  let c1_i32_274 : BitVec 32 := 1#32
  let v387 : BitVec 32 := Scalar.select v386 c1_i32_274 c16_i32_272
  let v388 : BitVec 32 := Scalar.remsi v385 v387
  let c0_i32_276 : BitVec 32 := 0#32
  let v390 : BitVec 1 := Scalar.cmpi .slt v388 c0_i32_276
  let c0_i32_277 : BitVec 32 := 0#32
  let v391 : BitVec 1 := Scalar.cmpi .slt v387 c0_i32_277
  let v392 : BitVec 1 := Scalar.xori v390 v391
  let c0_i32_275 : BitVec 32 := 0#32
  let v389 : BitVec 1 := Scalar.cmpi .ne v388 c0_i32_275
  let v393 : BitVec 1 := Scalar.andi v392 v389
  let v394 : BitVec 32 := Scalar.addi v388 v387
  let v395 : BitVec 32 := Scalar.select v393 v394 v388
  let c1_i32_2627 : BitVec 32 := 1#32
  let v2603 : BitVec 32 := Scalar.muli v395 c1_i32_2627
  let v2604 : BitVec 32 := Scalar.addi c0_i32_2628 v2603
  v2604.toNat
def k0_dev41 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_271 : BitVec 32 := 13#32
  let v385 : BitVec 32 := Scalar.addi v2 c13_i32_271
  let c16_i32_272 : BitVec 32 := 16#32
  let c0_i32_273 : BitVec 32 := 0#32
  let v386 : BitVec 1 := Scalar.cmpi .eq c16_i32_272 c0_i32_273
  let c1_i32_274 : BitVec 32 := 1#32
  let v387 : BitVec 32 := Scalar.select v386 c1_i32_274 c16_i32_272
  let v388 : BitVec 32 := Scalar.remsi v385 v387
  let c0_i32_276 : BitVec 32 := 0#32
  let v390 : BitVec 1 := Scalar.cmpi .slt v388 c0_i32_276
  let c0_i32_277 : BitVec 32 := 0#32
  let v391 : BitVec 1 := Scalar.cmpi .slt v387 c0_i32_277
  let v392 : BitVec 1 := Scalar.xori v390 v391
  let c0_i32_275 : BitVec 32 := 0#32
  let v389 : BitVec 1 := Scalar.cmpi .ne v388 c0_i32_275
  let v393 : BitVec 1 := Scalar.andi v392 v389
  let v394 : BitVec 32 := Scalar.addi v388 v387
  let v395 : BitVec 32 := Scalar.select v393 v394 v388
  let c1_i32_2637 : BitVec 32 := 1#32
  let v2613 : BitVec 32 := Scalar.muli v395 c1_i32_2637
  let v2614 : BitVec 32 := Scalar.addi c0_i32_2638 v2613
  v2614.toNat
def k0_cond15 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v409 : BitVec 32 := Scalar.extui v13
  let c0_i32_290 : BitVec 32 := 0#32
  let v410 : BitVec 1 := Scalar.cmpi .ne v409 c0_i32_290
  v410

def k0_off41 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_281 : BitVec 32 := 14#32
  let v398 : BitVec 32 := Scalar.addi v2 c14_i32_281
  let c16_i32_282 : BitVec 32 := 16#32
  let c0_i32_283 : BitVec 32 := 0#32
  let v399 : BitVec 1 := Scalar.cmpi .eq c16_i32_282 c0_i32_283
  let c1_i32_284 : BitVec 32 := 1#32
  let v400 : BitVec 32 := Scalar.select v399 c1_i32_284 c16_i32_282
  let v401 : BitVec 32 := Scalar.remsi v398 v400
  let c0_i32_286 : BitVec 32 := 0#32
  let v403 : BitVec 1 := Scalar.cmpi .slt v401 c0_i32_286
  let c0_i32_287 : BitVec 32 := 0#32
  let v404 : BitVec 1 := Scalar.cmpi .slt v400 c0_i32_287
  let v405 : BitVec 1 := Scalar.xori v403 v404
  let c0_i32_285 : BitVec 32 := 0#32
  let v402 : BitVec 1 := Scalar.cmpi .ne v401 c0_i32_285
  let v406 : BitVec 1 := Scalar.andi v405 v402
  let v407 : BitVec 32 := Scalar.addi v401 v400
  let v408 : BitVec 32 := Scalar.select v406 v407 v401
  ![v408.toNat]
def k0_off42 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off43 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev42 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_281 : BitVec 32 := 14#32
  let v398 : BitVec 32 := Scalar.addi v2 c14_i32_281
  let c16_i32_282 : BitVec 32 := 16#32
  let c0_i32_283 : BitVec 32 := 0#32
  let v399 : BitVec 1 := Scalar.cmpi .eq c16_i32_282 c0_i32_283
  let c1_i32_284 : BitVec 32 := 1#32
  let v400 : BitVec 32 := Scalar.select v399 c1_i32_284 c16_i32_282
  let v401 : BitVec 32 := Scalar.remsi v398 v400
  let c0_i32_286 : BitVec 32 := 0#32
  let v403 : BitVec 1 := Scalar.cmpi .slt v401 c0_i32_286
  let c0_i32_287 : BitVec 32 := 0#32
  let v404 : BitVec 1 := Scalar.cmpi .slt v400 c0_i32_287
  let v405 : BitVec 1 := Scalar.xori v403 v404
  let c0_i32_285 : BitVec 32 := 0#32
  let v402 : BitVec 1 := Scalar.cmpi .ne v401 c0_i32_285
  let v406 : BitVec 1 := Scalar.andi v405 v402
  let v407 : BitVec 32 := Scalar.addi v401 v400
  let v408 : BitVec 32 := Scalar.select v406 v407 v401
  let c1_i32_2627 : BitVec 32 := 1#32
  let v2603 : BitVec 32 := Scalar.muli v408 c1_i32_2627
  let v2604 : BitVec 32 := Scalar.addi c0_i32_2628 v2603
  v2604.toNat
def k0_dev43 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_281 : BitVec 32 := 14#32
  let v398 : BitVec 32 := Scalar.addi v2 c14_i32_281
  let c16_i32_282 : BitVec 32 := 16#32
  let c0_i32_283 : BitVec 32 := 0#32
  let v399 : BitVec 1 := Scalar.cmpi .eq c16_i32_282 c0_i32_283
  let c1_i32_284 : BitVec 32 := 1#32
  let v400 : BitVec 32 := Scalar.select v399 c1_i32_284 c16_i32_282
  let v401 : BitVec 32 := Scalar.remsi v398 v400
  let c0_i32_286 : BitVec 32 := 0#32
  let v403 : BitVec 1 := Scalar.cmpi .slt v401 c0_i32_286
  let c0_i32_287 : BitVec 32 := 0#32
  let v404 : BitVec 1 := Scalar.cmpi .slt v400 c0_i32_287
  let v405 : BitVec 1 := Scalar.xori v403 v404
  let c0_i32_285 : BitVec 32 := 0#32
  let v402 : BitVec 1 := Scalar.cmpi .ne v401 c0_i32_285
  let v406 : BitVec 1 := Scalar.andi v405 v402
  let v407 : BitVec 32 := Scalar.addi v401 v400
  let v408 : BitVec 32 := Scalar.select v406 v407 v401
  let c1_i32_2637 : BitVec 32 := 1#32
  let v2613 : BitVec 32 := Scalar.muli v408 c1_i32_2637
  let v2614 : BitVec 32 := Scalar.addi c0_i32_2638 v2613
  v2614.toNat
def k0_cond16 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v422 : BitVec 32 := Scalar.extui v13
  let c0_i32_300 : BitVec 32 := 0#32
  let v423 : BitVec 1 := Scalar.cmpi .ne v422 c0_i32_300
  v423

def k0_off44 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_291 : BitVec 32 := 15#32
  let v411 : BitVec 32 := Scalar.addi v2 c15_i32_291
  let c16_i32_292 : BitVec 32 := 16#32
  let c0_i32_293 : BitVec 32 := 0#32
  let v412 : BitVec 1 := Scalar.cmpi .eq c16_i32_292 c0_i32_293
  let c1_i32_294 : BitVec 32 := 1#32
  let v413 : BitVec 32 := Scalar.select v412 c1_i32_294 c16_i32_292
  let v414 : BitVec 32 := Scalar.remsi v411 v413
  let c0_i32_296 : BitVec 32 := 0#32
  let v416 : BitVec 1 := Scalar.cmpi .slt v414 c0_i32_296
  let c0_i32_297 : BitVec 32 := 0#32
  let v417 : BitVec 1 := Scalar.cmpi .slt v413 c0_i32_297
  let v418 : BitVec 1 := Scalar.xori v416 v417
  let c0_i32_295 : BitVec 32 := 0#32
  let v415 : BitVec 1 := Scalar.cmpi .ne v414 c0_i32_295
  let v419 : BitVec 1 := Scalar.andi v418 v415
  let v420 : BitVec 32 := Scalar.addi v414 v413
  let v421 : BitVec 32 := Scalar.select v419 v420 v414
  ![v421.toNat]
def k0_off45 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off46 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2629 : BitVec 32 := 0#32
  let c0_i32_2630 : BitVec 32 := 0#32
  let c0_i32_2631 : BitVec 32 := 0#32
  let c0_i32_2632 : BitVec 32 := 0#32
  ![v30.toNat, 0, 0, 0, 0]
def k0_dev44 (d0 : Dev nD) : Nat :=
  let c0_i32_2628 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_291 : BitVec 32 := 15#32
  let v411 : BitVec 32 := Scalar.addi v2 c15_i32_291
  let c16_i32_292 : BitVec 32 := 16#32
  let c0_i32_293 : BitVec 32 := 0#32
  let v412 : BitVec 1 := Scalar.cmpi .eq c16_i32_292 c0_i32_293
  let c1_i32_294 : BitVec 32 := 1#32
  let v413 : BitVec 32 := Scalar.select v412 c1_i32_294 c16_i32_292
  let v414 : BitVec 32 := Scalar.remsi v411 v413
  let c0_i32_296 : BitVec 32 := 0#32
  let v416 : BitVec 1 := Scalar.cmpi .slt v414 c0_i32_296
  let c0_i32_297 : BitVec 32 := 0#32
  let v417 : BitVec 1 := Scalar.cmpi .slt v413 c0_i32_297
  let v418 : BitVec 1 := Scalar.xori v416 v417
  let c0_i32_295 : BitVec 32 := 0#32
  let v415 : BitVec 1 := Scalar.cmpi .ne v414 c0_i32_295
  let v419 : BitVec 1 := Scalar.andi v418 v415
  let v420 : BitVec 32 := Scalar.addi v414 v413
  let v421 : BitVec 32 := Scalar.select v419 v420 v414
  let c1_i32_2627 : BitVec 32 := 1#32
  let v2603 : BitVec 32 := Scalar.muli v421 c1_i32_2627
  let v2604 : BitVec 32 := Scalar.addi c0_i32_2628 v2603
  v2604.toNat
def k0_dev45 (d0 : Dev nD) : Nat :=
  let c0_i32_2638 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_291 : BitVec 32 := 15#32
  let v411 : BitVec 32 := Scalar.addi v2 c15_i32_291
  let c16_i32_292 : BitVec 32 := 16#32
  let c0_i32_293 : BitVec 32 := 0#32
  let v412 : BitVec 1 := Scalar.cmpi .eq c16_i32_292 c0_i32_293
  let c1_i32_294 : BitVec 32 := 1#32
  let v413 : BitVec 32 := Scalar.select v412 c1_i32_294 c16_i32_292
  let v414 : BitVec 32 := Scalar.remsi v411 v413
  let c0_i32_296 : BitVec 32 := 0#32
  let v416 : BitVec 1 := Scalar.cmpi .slt v414 c0_i32_296
  let c0_i32_297 : BitVec 32 := 0#32
  let v417 : BitVec 1 := Scalar.cmpi .slt v413 c0_i32_297
  let v418 : BitVec 1 := Scalar.xori v416 v417
  let c0_i32_295 : BitVec 32 := 0#32
  let v415 : BitVec 1 := Scalar.cmpi .ne v414 c0_i32_295
  let v419 : BitVec 1 := Scalar.andi v418 v415
  let v420 : BitVec 32 := Scalar.addi v414 v413
  let v421 : BitVec 32 := Scalar.select v419 v420 v414
  let c1_i32_2637 : BitVec 32 := 1#32
  let v2613 : BitVec 32 := Scalar.muli v421 c1_i32_2637
  let v2614 : BitVec 32 := Scalar.addi c0_i32_2638 v2613
  v2614.toNat
def k0_cond17 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v424 : BitVec 32 := Scalar.extui v13
  let c0_i32_301 : BitVec 32 := 0#32
  let v425 : BitVec 1 := Scalar.cmpi .ne v424 c0_i32_301
  v425

def k0_off47 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let v2604 : Index := Scalar.indexCast v30
  let c0_2632 : Index := 0#32
  let c0_2633 : Index := 0#32
  let c0_2634 : Index := 0#32
  let c0_2635 : Index := 0#32
  ![v2604.toNat, 0, 0, 0, 0]
def k0_cond26 (d0 : Dev nD) : BitVec 1 :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let c0_i32 : BitVec 32 := 0#32
  let v3 : BitVec 1 := Scalar.cmpi .eq c2_i32 c0_i32
  let c1_i32_0 : BitVec 32 := 1#32
  let v4 : BitVec 32 := Scalar.select v3 c1_i32_0 c2_i32
  let v5 : BitVec 32 := Scalar.remsi v2 v4
  let c0_i32_2 : BitVec 32 := 0#32
  let v7 : BitVec 1 := Scalar.cmpi .slt v5 c0_i32_2
  let c0_i32_3 : BitVec 32 := 0#32
  let v8 : BitVec 1 := Scalar.cmpi .slt v4 c0_i32_3
  let v9 : BitVec 1 := Scalar.xori v7 v8
  let c0_i32_1 : BitVec 32 := 0#32
  let v6 : BitVec 1 := Scalar.cmpi .ne v5 c0_i32_1
  let v10 : BitVec 1 := Scalar.andi v9 v6
  let v11 : BitVec 32 := Scalar.addi v5 v4
  let v12 : BitVec 32 := Scalar.select v10 v11 v5
  let c0_i32_4 : BitVec 32 := 0#32
  let v13 : BitVec 1 := Scalar.cmpi .eq v12 c0_i32_4
  let v460 : BitVec 32 := Scalar.extui v13
  let c0_i32_419 : BitVec 32 := 0#32
  let v461 : BitVec 1 := Scalar.cmpi .ne v460 c0_i32_419
  v461

def k0_off48 (d0 : Dev nD) (c1_i32_151 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v229 : BitVec 32 := Scalar.addi v2 c1_i32_151
  let c16_i32_152 : BitVec 32 := 16#32
  let c0_i32_153 : BitVec 32 := 0#32
  let v230 : BitVec 1 := Scalar.cmpi .eq c16_i32_152 c0_i32_153
  let c1_i32_154 : BitVec 32 := 1#32
  let v231 : BitVec 32 := Scalar.select v230 c1_i32_154 c16_i32_152
  let v232 : BitVec 32 := Scalar.remsi v229 v231
  let c0_i32_156 : BitVec 32 := 0#32
  let v234 : BitVec 1 := Scalar.cmpi .slt v232 c0_i32_156
  let c0_i32_157 : BitVec 32 := 0#32
  let v235 : BitVec 1 := Scalar.cmpi .slt v231 c0_i32_157
  let v236 : BitVec 1 := Scalar.xori v234 v235
  let c0_i32_155 : BitVec 32 := 0#32
  let v233 : BitVec 1 := Scalar.cmpi .ne v232 c0_i32_155
  let v237 : BitVec 1 := Scalar.andi v236 v233
  let v238 : BitVec 32 := Scalar.addi v232 v231
  let v239 : BitVec 32 := Scalar.select v237 v238 v232
  ![v239.toNat]
def k0_off49 (d0 : Dev nD) : Fin 5 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_6 : BitVec 32 := 0#32
  let v15 : BitVec 1 := Scalar.cmpi .sgt v2 c0_i32_6
  let v16 : BitVec 32 := Scalar.extui v15
  let c0_i32_7 : BitVec 32 := 0#32
  let v17 : BitVec 1 := Scalar.cmpi .slt v2 c0_i32_7
  let v18 : BitVec 32 := Scalar.extui v17
  let v19 : BitVec 32 := Scalar.subi v16 v18
  let c2_i32_5 : BitVec 32 := 2#32
  let c0_i32_8 : BitVec 32 := 0#32
  let v20 : BitVec 1 := Scalar.cmpi .sgt c2_i32_5 c0_i32_8
  let v21 : BitVec 32 := Scalar.extui v20
  let c0_i32_9 : BitVec 32 := 0#32
  let v22 : BitVec 1 := Scalar.cmpi .slt c2_i32_5 c0_i32_9
  let v23 : BitVec 32 := Scalar.extui v22
  let v24 : BitVec 32 := Scalar.subi v21 v23
  let v25 : BitVec 1 := Scalar.cmpi .ne v19 v24
  let v26 : BitVec 32 := Scalar.remsi v2 c2_i32_5
  let c0_i32_10 : BitVec 32 := 0#32
  let v27 : BitVec 1 := Scalar.cmpi .ne v26 c0_i32_10
  let v28 : BitVec 1 := Scalar.andi v25 v27
  let v14 : BitVec 32 := Scalar.divsi v2 c2_i32_5
  let c1_i32_11 : BitVec 32 := 1#32
  let v29 : BitVec 32 := Scalar.subi v14 c1_i32_11
  let v30 : BitVec 32 := Scalar.select v28 v29 v14
  let c0_i32_2632 : BitVec 32 := 0#32
  let c0_i32_2633 : BitVec 32 := 0#32
  let c0_i32_2634 : BitVec 32 := 0#32
  let c0_i32_2635 : BitVec 32 := 0#32
  ![v30.toNat, 0, 0, 0, 0]
def k0_off50 (d0 : Dev nD) (c1_i32_1782 : BitVec 32) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1318 : BitVec 32 := Scalar.addi v2 c1_i32_1782
  let c16_i32_1783 : BitVec 32 := 16#32
  let c0_i32_1784 : BitVec 32 := 0#32
  let v1319 : BitVec 1 := Scalar.cmpi .eq c16_i32_1783 c0_i32_1784
  let c1_i32_1785 : BitVec 32 := 1#32
  let v1320 : BitVec 32 := Scalar.select v1319 c1_i32_1785 c16_i32_1783
  let v1321 : BitVec 32 := Scalar.remsi v1318 v1320
  let c0_i32_1787 : BitVec 32 := 0#32
  let v1323 : BitVec 1 := Scalar.cmpi .slt v1321 c0_i32_1787
  let c0_i32_1788 : BitVec 32 := 0#32
  let v1324 : BitVec 1 := Scalar.cmpi .slt v1320 c0_i32_1788
  let v1325 : BitVec 1 := Scalar.xori v1323 v1324
  let c0_i32_1786 : BitVec 32 := 0#32
  let v1322 : BitVec 1 := Scalar.cmpi .ne v1321 c0_i32_1786
  let v1326 : BitVec 1 := Scalar.andi v1325 v1322
  let v1327 : BitVec 32 := Scalar.addi v1321 v1320
  let v1328 : BitVec 32 := Scalar.select v1326 v1327 v1321
  ![v1328.toNat]
def k0_off51 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off52 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_1792 : BitVec 32 := 0#32
  let c0_i32_1793 : BitVec 32 := 0#32
  ![v2.toNat, 0, 0]
def k0_off53 (d0 : Dev nD) (c1_i32_1782 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1318 : BitVec 32 := Scalar.addi v2 c1_i32_1782
  let c16_i32_1783 : BitVec 32 := 16#32
  let c0_i32_1784 : BitVec 32 := 0#32
  let v1319 : BitVec 1 := Scalar.cmpi .eq c16_i32_1783 c0_i32_1784
  let c1_i32_1785 : BitVec 32 := 1#32
  let v1320 : BitVec 32 := Scalar.select v1319 c1_i32_1785 c16_i32_1783
  let v1321 : BitVec 32 := Scalar.remsi v1318 v1320
  let c0_i32_1787 : BitVec 32 := 0#32
  let v1323 : BitVec 1 := Scalar.cmpi .slt v1321 c0_i32_1787
  let c0_i32_1788 : BitVec 32 := 0#32
  let v1324 : BitVec 1 := Scalar.cmpi .slt v1320 c0_i32_1788
  let v1325 : BitVec 1 := Scalar.xori v1323 v1324
  let c0_i32_1786 : BitVec 32 := 0#32
  let v1322 : BitVec 1 := Scalar.cmpi .ne v1321 c0_i32_1786
  let v1326 : BitVec 1 := Scalar.andi v1325 v1322
  let v1327 : BitVec 32 := Scalar.addi v1321 v1320
  let v1328 : BitVec 32 := Scalar.select v1326 v1327 v1321
  let c16_i32_1789 : BitVec 32 := 16#32
  let v1329 : BitVec 32 := Scalar.muli v1328 c16_i32_1789
  let c0_i32_1794 : BitVec 32 := 0#32
  ![v1329.toNat, 0]
def k0_dev46 (d0 : Dev nD) : Nat :=
  let c0_i32_1791 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_1782 : BitVec 32 := 1#32
  let v1318 : BitVec 32 := Scalar.addi v2 c1_i32_1782
  let c16_i32_1783 : BitVec 32 := 16#32
  let c0_i32_1784 : BitVec 32 := 0#32
  let v1319 : BitVec 1 := Scalar.cmpi .eq c16_i32_1783 c0_i32_1784
  let c1_i32_1785 : BitVec 32 := 1#32
  let v1320 : BitVec 32 := Scalar.select v1319 c1_i32_1785 c16_i32_1783
  let v1321 : BitVec 32 := Scalar.remsi v1318 v1320
  let c0_i32_1787 : BitVec 32 := 0#32
  let v1323 : BitVec 1 := Scalar.cmpi .slt v1321 c0_i32_1787
  let c0_i32_1788 : BitVec 32 := 0#32
  let v1324 : BitVec 1 := Scalar.cmpi .slt v1320 c0_i32_1788
  let v1325 : BitVec 1 := Scalar.xori v1323 v1324
  let c0_i32_1786 : BitVec 32 := 0#32
  let v1322 : BitVec 1 := Scalar.cmpi .ne v1321 c0_i32_1786
  let v1326 : BitVec 1 := Scalar.andi v1325 v1322
  let v1327 : BitVec 32 := Scalar.addi v1321 v1320
  let v1328 : BitVec 32 := Scalar.select v1326 v1327 v1321
  let c1_i32_1790 : BitVec 32 := 1#32
  let v1330 : BitVec 32 := Scalar.muli v1328 c1_i32_1790
  let v1331 : BitVec 32 := Scalar.addi c0_i32_1791 v1330
  v1331.toNat
def k0_dev47 (d0 : Dev nD) : Nat :=
  let c0_i32_1804 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_1795 : BitVec 32 := 2#32
  let v1339 : BitVec 32 := Scalar.addi v2 c2_i32_1795
  let c16_i32_1796 : BitVec 32 := 16#32
  let c0_i32_1797 : BitVec 32 := 0#32
  let v1340 : BitVec 1 := Scalar.cmpi .eq c16_i32_1796 c0_i32_1797
  let c1_i32_1798 : BitVec 32 := 1#32
  let v1341 : BitVec 32 := Scalar.select v1340 c1_i32_1798 c16_i32_1796
  let v1342 : BitVec 32 := Scalar.remsi v1339 v1341
  let c0_i32_1800 : BitVec 32 := 0#32
  let v1344 : BitVec 1 := Scalar.cmpi .slt v1342 c0_i32_1800
  let c0_i32_1801 : BitVec 32 := 0#32
  let v1345 : BitVec 1 := Scalar.cmpi .slt v1341 c0_i32_1801
  let v1346 : BitVec 1 := Scalar.xori v1344 v1345
  let c0_i32_1799 : BitVec 32 := 0#32
  let v1343 : BitVec 1 := Scalar.cmpi .ne v1342 c0_i32_1799
  let v1347 : BitVec 1 := Scalar.andi v1346 v1343
  let v1348 : BitVec 32 := Scalar.addi v1342 v1341
  let v1349 : BitVec 32 := Scalar.select v1347 v1348 v1342
  let c1_i32_1803 : BitVec 32 := 1#32
  let v1351 : BitVec 32 := Scalar.muli v1349 c1_i32_1803
  let v1352 : BitVec 32 := Scalar.addi c0_i32_1804 v1351
  v1352.toNat
def k0_dev48 (d0 : Dev nD) : Nat :=
  let c0_i32_1817 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_1808 : BitVec 32 := 3#32
  let v1360 : BitVec 32 := Scalar.addi v2 c3_i32_1808
  let c16_i32_1809 : BitVec 32 := 16#32
  let c0_i32_1810 : BitVec 32 := 0#32
  let v1361 : BitVec 1 := Scalar.cmpi .eq c16_i32_1809 c0_i32_1810
  let c1_i32_1811 : BitVec 32 := 1#32
  let v1362 : BitVec 32 := Scalar.select v1361 c1_i32_1811 c16_i32_1809
  let v1363 : BitVec 32 := Scalar.remsi v1360 v1362
  let c0_i32_1813 : BitVec 32 := 0#32
  let v1365 : BitVec 1 := Scalar.cmpi .slt v1363 c0_i32_1813
  let c0_i32_1814 : BitVec 32 := 0#32
  let v1366 : BitVec 1 := Scalar.cmpi .slt v1362 c0_i32_1814
  let v1367 : BitVec 1 := Scalar.xori v1365 v1366
  let c0_i32_1812 : BitVec 32 := 0#32
  let v1364 : BitVec 1 := Scalar.cmpi .ne v1363 c0_i32_1812
  let v1368 : BitVec 1 := Scalar.andi v1367 v1364
  let v1369 : BitVec 32 := Scalar.addi v1363 v1362
  let v1370 : BitVec 32 := Scalar.select v1368 v1369 v1363
  let c1_i32_1816 : BitVec 32 := 1#32
  let v1372 : BitVec 32 := Scalar.muli v1370 c1_i32_1816
  let v1373 : BitVec 32 := Scalar.addi c0_i32_1817 v1372
  v1373.toNat
def k0_dev49 (d0 : Dev nD) : Nat :=
  let c0_i32_1830 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_1821 : BitVec 32 := 4#32
  let v1381 : BitVec 32 := Scalar.addi v2 c4_i32_1821
  let c16_i32_1822 : BitVec 32 := 16#32
  let c0_i32_1823 : BitVec 32 := 0#32
  let v1382 : BitVec 1 := Scalar.cmpi .eq c16_i32_1822 c0_i32_1823
  let c1_i32_1824 : BitVec 32 := 1#32
  let v1383 : BitVec 32 := Scalar.select v1382 c1_i32_1824 c16_i32_1822
  let v1384 : BitVec 32 := Scalar.remsi v1381 v1383
  let c0_i32_1826 : BitVec 32 := 0#32
  let v1386 : BitVec 1 := Scalar.cmpi .slt v1384 c0_i32_1826
  let c0_i32_1827 : BitVec 32 := 0#32
  let v1387 : BitVec 1 := Scalar.cmpi .slt v1383 c0_i32_1827
  let v1388 : BitVec 1 := Scalar.xori v1386 v1387
  let c0_i32_1825 : BitVec 32 := 0#32
  let v1385 : BitVec 1 := Scalar.cmpi .ne v1384 c0_i32_1825
  let v1389 : BitVec 1 := Scalar.andi v1388 v1385
  let v1390 : BitVec 32 := Scalar.addi v1384 v1383
  let v1391 : BitVec 32 := Scalar.select v1389 v1390 v1384
  let c1_i32_1829 : BitVec 32 := 1#32
  let v1393 : BitVec 32 := Scalar.muli v1391 c1_i32_1829
  let v1394 : BitVec 32 := Scalar.addi c0_i32_1830 v1393
  v1394.toNat
def k0_dev50 (d0 : Dev nD) : Nat :=
  let c0_i32_1843 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_1834 : BitVec 32 := 5#32
  let v1402 : BitVec 32 := Scalar.addi v2 c5_i32_1834
  let c16_i32_1835 : BitVec 32 := 16#32
  let c0_i32_1836 : BitVec 32 := 0#32
  let v1403 : BitVec 1 := Scalar.cmpi .eq c16_i32_1835 c0_i32_1836
  let c1_i32_1837 : BitVec 32 := 1#32
  let v1404 : BitVec 32 := Scalar.select v1403 c1_i32_1837 c16_i32_1835
  let v1405 : BitVec 32 := Scalar.remsi v1402 v1404
  let c0_i32_1839 : BitVec 32 := 0#32
  let v1407 : BitVec 1 := Scalar.cmpi .slt v1405 c0_i32_1839
  let c0_i32_1840 : BitVec 32 := 0#32
  let v1408 : BitVec 1 := Scalar.cmpi .slt v1404 c0_i32_1840
  let v1409 : BitVec 1 := Scalar.xori v1407 v1408
  let c0_i32_1838 : BitVec 32 := 0#32
  let v1406 : BitVec 1 := Scalar.cmpi .ne v1405 c0_i32_1838
  let v1410 : BitVec 1 := Scalar.andi v1409 v1406
  let v1411 : BitVec 32 := Scalar.addi v1405 v1404
  let v1412 : BitVec 32 := Scalar.select v1410 v1411 v1405
  let c1_i32_1842 : BitVec 32 := 1#32
  let v1414 : BitVec 32 := Scalar.muli v1412 c1_i32_1842
  let v1415 : BitVec 32 := Scalar.addi c0_i32_1843 v1414
  v1415.toNat
def k0_dev51 (d0 : Dev nD) : Nat :=
  let c0_i32_1856 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_1847 : BitVec 32 := 6#32
  let v1423 : BitVec 32 := Scalar.addi v2 c6_i32_1847
  let c16_i32_1848 : BitVec 32 := 16#32
  let c0_i32_1849 : BitVec 32 := 0#32
  let v1424 : BitVec 1 := Scalar.cmpi .eq c16_i32_1848 c0_i32_1849
  let c1_i32_1850 : BitVec 32 := 1#32
  let v1425 : BitVec 32 := Scalar.select v1424 c1_i32_1850 c16_i32_1848
  let v1426 : BitVec 32 := Scalar.remsi v1423 v1425
  let c0_i32_1852 : BitVec 32 := 0#32
  let v1428 : BitVec 1 := Scalar.cmpi .slt v1426 c0_i32_1852
  let c0_i32_1853 : BitVec 32 := 0#32
  let v1429 : BitVec 1 := Scalar.cmpi .slt v1425 c0_i32_1853
  let v1430 : BitVec 1 := Scalar.xori v1428 v1429
  let c0_i32_1851 : BitVec 32 := 0#32
  let v1427 : BitVec 1 := Scalar.cmpi .ne v1426 c0_i32_1851
  let v1431 : BitVec 1 := Scalar.andi v1430 v1427
  let v1432 : BitVec 32 := Scalar.addi v1426 v1425
  let v1433 : BitVec 32 := Scalar.select v1431 v1432 v1426
  let c1_i32_1855 : BitVec 32 := 1#32
  let v1435 : BitVec 32 := Scalar.muli v1433 c1_i32_1855
  let v1436 : BitVec 32 := Scalar.addi c0_i32_1856 v1435
  v1436.toNat
def k0_dev52 (d0 : Dev nD) : Nat :=
  let c0_i32_1869 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_1860 : BitVec 32 := 7#32
  let v1444 : BitVec 32 := Scalar.addi v2 c7_i32_1860
  let c16_i32_1861 : BitVec 32 := 16#32
  let c0_i32_1862 : BitVec 32 := 0#32
  let v1445 : BitVec 1 := Scalar.cmpi .eq c16_i32_1861 c0_i32_1862
  let c1_i32_1863 : BitVec 32 := 1#32
  let v1446 : BitVec 32 := Scalar.select v1445 c1_i32_1863 c16_i32_1861
  let v1447 : BitVec 32 := Scalar.remsi v1444 v1446
  let c0_i32_1865 : BitVec 32 := 0#32
  let v1449 : BitVec 1 := Scalar.cmpi .slt v1447 c0_i32_1865
  let c0_i32_1866 : BitVec 32 := 0#32
  let v1450 : BitVec 1 := Scalar.cmpi .slt v1446 c0_i32_1866
  let v1451 : BitVec 1 := Scalar.xori v1449 v1450
  let c0_i32_1864 : BitVec 32 := 0#32
  let v1448 : BitVec 1 := Scalar.cmpi .ne v1447 c0_i32_1864
  let v1452 : BitVec 1 := Scalar.andi v1451 v1448
  let v1453 : BitVec 32 := Scalar.addi v1447 v1446
  let v1454 : BitVec 32 := Scalar.select v1452 v1453 v1447
  let c1_i32_1868 : BitVec 32 := 1#32
  let v1456 : BitVec 32 := Scalar.muli v1454 c1_i32_1868
  let v1457 : BitVec 32 := Scalar.addi c0_i32_1869 v1456
  v1457.toNat
def k0_dev53 (d0 : Dev nD) : Nat :=
  let c0_i32_1882 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_1873 : BitVec 32 := 8#32
  let v1465 : BitVec 32 := Scalar.addi v2 c8_i32_1873
  let c16_i32_1874 : BitVec 32 := 16#32
  let c0_i32_1875 : BitVec 32 := 0#32
  let v1466 : BitVec 1 := Scalar.cmpi .eq c16_i32_1874 c0_i32_1875
  let c1_i32_1876 : BitVec 32 := 1#32
  let v1467 : BitVec 32 := Scalar.select v1466 c1_i32_1876 c16_i32_1874
  let v1468 : BitVec 32 := Scalar.remsi v1465 v1467
  let c0_i32_1878 : BitVec 32 := 0#32
  let v1470 : BitVec 1 := Scalar.cmpi .slt v1468 c0_i32_1878
  let c0_i32_1879 : BitVec 32 := 0#32
  let v1471 : BitVec 1 := Scalar.cmpi .slt v1467 c0_i32_1879
  let v1472 : BitVec 1 := Scalar.xori v1470 v1471
  let c0_i32_1877 : BitVec 32 := 0#32
  let v1469 : BitVec 1 := Scalar.cmpi .ne v1468 c0_i32_1877
  let v1473 : BitVec 1 := Scalar.andi v1472 v1469
  let v1474 : BitVec 32 := Scalar.addi v1468 v1467
  let v1475 : BitVec 32 := Scalar.select v1473 v1474 v1468
  let c1_i32_1881 : BitVec 32 := 1#32
  let v1477 : BitVec 32 := Scalar.muli v1475 c1_i32_1881
  let v1478 : BitVec 32 := Scalar.addi c0_i32_1882 v1477
  v1478.toNat
def k0_dev54 (d0 : Dev nD) : Nat :=
  let c0_i32_1895 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_1886 : BitVec 32 := 9#32
  let v1486 : BitVec 32 := Scalar.addi v2 c9_i32_1886
  let c16_i32_1887 : BitVec 32 := 16#32
  let c0_i32_1888 : BitVec 32 := 0#32
  let v1487 : BitVec 1 := Scalar.cmpi .eq c16_i32_1887 c0_i32_1888
  let c1_i32_1889 : BitVec 32 := 1#32
  let v1488 : BitVec 32 := Scalar.select v1487 c1_i32_1889 c16_i32_1887
  let v1489 : BitVec 32 := Scalar.remsi v1486 v1488
  let c0_i32_1891 : BitVec 32 := 0#32
  let v1491 : BitVec 1 := Scalar.cmpi .slt v1489 c0_i32_1891
  let c0_i32_1892 : BitVec 32 := 0#32
  let v1492 : BitVec 1 := Scalar.cmpi .slt v1488 c0_i32_1892
  let v1493 : BitVec 1 := Scalar.xori v1491 v1492
  let c0_i32_1890 : BitVec 32 := 0#32
  let v1490 : BitVec 1 := Scalar.cmpi .ne v1489 c0_i32_1890
  let v1494 : BitVec 1 := Scalar.andi v1493 v1490
  let v1495 : BitVec 32 := Scalar.addi v1489 v1488
  let v1496 : BitVec 32 := Scalar.select v1494 v1495 v1489
  let c1_i32_1894 : BitVec 32 := 1#32
  let v1498 : BitVec 32 := Scalar.muli v1496 c1_i32_1894
  let v1499 : BitVec 32 := Scalar.addi c0_i32_1895 v1498
  v1499.toNat
def k0_dev55 (d0 : Dev nD) : Nat :=
  let c0_i32_1908 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_1899 : BitVec 32 := 10#32
  let v1507 : BitVec 32 := Scalar.addi v2 c10_i32_1899
  let c16_i32_1900 : BitVec 32 := 16#32
  let c0_i32_1901 : BitVec 32 := 0#32
  let v1508 : BitVec 1 := Scalar.cmpi .eq c16_i32_1900 c0_i32_1901
  let c1_i32_1902 : BitVec 32 := 1#32
  let v1509 : BitVec 32 := Scalar.select v1508 c1_i32_1902 c16_i32_1900
  let v1510 : BitVec 32 := Scalar.remsi v1507 v1509
  let c0_i32_1904 : BitVec 32 := 0#32
  let v1512 : BitVec 1 := Scalar.cmpi .slt v1510 c0_i32_1904
  let c0_i32_1905 : BitVec 32 := 0#32
  let v1513 : BitVec 1 := Scalar.cmpi .slt v1509 c0_i32_1905
  let v1514 : BitVec 1 := Scalar.xori v1512 v1513
  let c0_i32_1903 : BitVec 32 := 0#32
  let v1511 : BitVec 1 := Scalar.cmpi .ne v1510 c0_i32_1903
  let v1515 : BitVec 1 := Scalar.andi v1514 v1511
  let v1516 : BitVec 32 := Scalar.addi v1510 v1509
  let v1517 : BitVec 32 := Scalar.select v1515 v1516 v1510
  let c1_i32_1907 : BitVec 32 := 1#32
  let v1519 : BitVec 32 := Scalar.muli v1517 c1_i32_1907
  let v1520 : BitVec 32 := Scalar.addi c0_i32_1908 v1519
  v1520.toNat
def k0_dev56 (d0 : Dev nD) : Nat :=
  let c0_i32_1921 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_1912 : BitVec 32 := 11#32
  let v1528 : BitVec 32 := Scalar.addi v2 c11_i32_1912
  let c16_i32_1913 : BitVec 32 := 16#32
  let c0_i32_1914 : BitVec 32 := 0#32
  let v1529 : BitVec 1 := Scalar.cmpi .eq c16_i32_1913 c0_i32_1914
  let c1_i32_1915 : BitVec 32 := 1#32
  let v1530 : BitVec 32 := Scalar.select v1529 c1_i32_1915 c16_i32_1913
  let v1531 : BitVec 32 := Scalar.remsi v1528 v1530
  let c0_i32_1917 : BitVec 32 := 0#32
  let v1533 : BitVec 1 := Scalar.cmpi .slt v1531 c0_i32_1917
  let c0_i32_1918 : BitVec 32 := 0#32
  let v1534 : BitVec 1 := Scalar.cmpi .slt v1530 c0_i32_1918
  let v1535 : BitVec 1 := Scalar.xori v1533 v1534
  let c0_i32_1916 : BitVec 32 := 0#32
  let v1532 : BitVec 1 := Scalar.cmpi .ne v1531 c0_i32_1916
  let v1536 : BitVec 1 := Scalar.andi v1535 v1532
  let v1537 : BitVec 32 := Scalar.addi v1531 v1530
  let v1538 : BitVec 32 := Scalar.select v1536 v1537 v1531
  let c1_i32_1920 : BitVec 32 := 1#32
  let v1540 : BitVec 32 := Scalar.muli v1538 c1_i32_1920
  let v1541 : BitVec 32 := Scalar.addi c0_i32_1921 v1540
  v1541.toNat
def k0_dev57 (d0 : Dev nD) : Nat :=
  let c0_i32_1934 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1925 : BitVec 32 := 12#32
  let v1549 : BitVec 32 := Scalar.addi v2 c12_i32_1925
  let c16_i32_1926 : BitVec 32 := 16#32
  let c0_i32_1927 : BitVec 32 := 0#32
  let v1550 : BitVec 1 := Scalar.cmpi .eq c16_i32_1926 c0_i32_1927
  let c1_i32_1928 : BitVec 32 := 1#32
  let v1551 : BitVec 32 := Scalar.select v1550 c1_i32_1928 c16_i32_1926
  let v1552 : BitVec 32 := Scalar.remsi v1549 v1551
  let c0_i32_1930 : BitVec 32 := 0#32
  let v1554 : BitVec 1 := Scalar.cmpi .slt v1552 c0_i32_1930
  let c0_i32_1931 : BitVec 32 := 0#32
  let v1555 : BitVec 1 := Scalar.cmpi .slt v1551 c0_i32_1931
  let v1556 : BitVec 1 := Scalar.xori v1554 v1555
  let c0_i32_1929 : BitVec 32 := 0#32
  let v1553 : BitVec 1 := Scalar.cmpi .ne v1552 c0_i32_1929
  let v1557 : BitVec 1 := Scalar.andi v1556 v1553
  let v1558 : BitVec 32 := Scalar.addi v1552 v1551
  let v1559 : BitVec 32 := Scalar.select v1557 v1558 v1552
  let c1_i32_1933 : BitVec 32 := 1#32
  let v1561 : BitVec 32 := Scalar.muli v1559 c1_i32_1933
  let v1562 : BitVec 32 := Scalar.addi c0_i32_1934 v1561
  v1562.toNat
def k0_dev58 (d0 : Dev nD) : Nat :=
  let c0_i32_1947 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1938 : BitVec 32 := 13#32
  let v1570 : BitVec 32 := Scalar.addi v2 c13_i32_1938
  let c16_i32_1939 : BitVec 32 := 16#32
  let c0_i32_1940 : BitVec 32 := 0#32
  let v1571 : BitVec 1 := Scalar.cmpi .eq c16_i32_1939 c0_i32_1940
  let c1_i32_1941 : BitVec 32 := 1#32
  let v1572 : BitVec 32 := Scalar.select v1571 c1_i32_1941 c16_i32_1939
  let v1573 : BitVec 32 := Scalar.remsi v1570 v1572
  let c0_i32_1943 : BitVec 32 := 0#32
  let v1575 : BitVec 1 := Scalar.cmpi .slt v1573 c0_i32_1943
  let c0_i32_1944 : BitVec 32 := 0#32
  let v1576 : BitVec 1 := Scalar.cmpi .slt v1572 c0_i32_1944
  let v1577 : BitVec 1 := Scalar.xori v1575 v1576
  let c0_i32_1942 : BitVec 32 := 0#32
  let v1574 : BitVec 1 := Scalar.cmpi .ne v1573 c0_i32_1942
  let v1578 : BitVec 1 := Scalar.andi v1577 v1574
  let v1579 : BitVec 32 := Scalar.addi v1573 v1572
  let v1580 : BitVec 32 := Scalar.select v1578 v1579 v1573
  let c1_i32_1946 : BitVec 32 := 1#32
  let v1582 : BitVec 32 := Scalar.muli v1580 c1_i32_1946
  let v1583 : BitVec 32 := Scalar.addi c0_i32_1947 v1582
  v1583.toNat
def k0_dev59 (d0 : Dev nD) : Nat :=
  let c0_i32_1960 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1951 : BitVec 32 := 14#32
  let v1591 : BitVec 32 := Scalar.addi v2 c14_i32_1951
  let c16_i32_1952 : BitVec 32 := 16#32
  let c0_i32_1953 : BitVec 32 := 0#32
  let v1592 : BitVec 1 := Scalar.cmpi .eq c16_i32_1952 c0_i32_1953
  let c1_i32_1954 : BitVec 32 := 1#32
  let v1593 : BitVec 32 := Scalar.select v1592 c1_i32_1954 c16_i32_1952
  let v1594 : BitVec 32 := Scalar.remsi v1591 v1593
  let c0_i32_1956 : BitVec 32 := 0#32
  let v1596 : BitVec 1 := Scalar.cmpi .slt v1594 c0_i32_1956
  let c0_i32_1957 : BitVec 32 := 0#32
  let v1597 : BitVec 1 := Scalar.cmpi .slt v1593 c0_i32_1957
  let v1598 : BitVec 1 := Scalar.xori v1596 v1597
  let c0_i32_1955 : BitVec 32 := 0#32
  let v1595 : BitVec 1 := Scalar.cmpi .ne v1594 c0_i32_1955
  let v1599 : BitVec 1 := Scalar.andi v1598 v1595
  let v1600 : BitVec 32 := Scalar.addi v1594 v1593
  let v1601 : BitVec 32 := Scalar.select v1599 v1600 v1594
  let c1_i32_1959 : BitVec 32 := 1#32
  let v1603 : BitVec 32 := Scalar.muli v1601 c1_i32_1959
  let v1604 : BitVec 32 := Scalar.addi c0_i32_1960 v1603
  v1604.toNat
def k0_dev60 (d0 : Dev nD) : Nat :=
  let c0_i32_1973 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1964 : BitVec 32 := 15#32
  let v1612 : BitVec 32 := Scalar.addi v2 c15_i32_1964
  let c16_i32_1965 : BitVec 32 := 16#32
  let c0_i32_1966 : BitVec 32 := 0#32
  let v1613 : BitVec 1 := Scalar.cmpi .eq c16_i32_1965 c0_i32_1966
  let c1_i32_1967 : BitVec 32 := 1#32
  let v1614 : BitVec 32 := Scalar.select v1613 c1_i32_1967 c16_i32_1965
  let v1615 : BitVec 32 := Scalar.remsi v1612 v1614
  let c0_i32_1969 : BitVec 32 := 0#32
  let v1617 : BitVec 1 := Scalar.cmpi .slt v1615 c0_i32_1969
  let c0_i32_1970 : BitVec 32 := 0#32
  let v1618 : BitVec 1 := Scalar.cmpi .slt v1614 c0_i32_1970
  let v1619 : BitVec 1 := Scalar.xori v1617 v1618
  let c0_i32_1968 : BitVec 32 := 0#32
  let v1616 : BitVec 1 := Scalar.cmpi .ne v1615 c0_i32_1968
  let v1620 : BitVec 1 := Scalar.andi v1619 v1616
  let v1621 : BitVec 32 := Scalar.addi v1615 v1614
  let v1622 : BitVec 32 := Scalar.select v1620 v1621 v1615
  let c1_i32_1972 : BitVec 32 := 1#32
  let v1624 : BitVec 32 := Scalar.muli v1622 c1_i32_1972
  let v1625 : BitVec 32 := Scalar.addi c0_i32_1973 v1624
  v1625.toNat
def k0_off54 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_1977 : BitVec 32 := 16#32
  let v1633 : BitVec 32 := Scalar.muli v2 c16_i32_1977
  let v1634 : Index := Scalar.indexCast v1633
  let c0_1978 : Index := 0#32
  ![v1634.toNat, 0]
def k0_off55 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1637 : Index := Scalar.indexCast v2
  let c0_1979 : Index := 0#32
  let c0_1980 : Index := 0#32
  ![v1637.toNat, 0, 0]
def k0_off56 (d0 : Dev nD) (c1_i32_1981 : BitVec 32) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v1641 : BitVec 32 := Scalar.addi v2 c1_i32_1981
  let c16_i32_1982 : BitVec 32 := 16#32
  let c0_i32_1983 : BitVec 32 := 0#32
  let v1642 : BitVec 1 := Scalar.cmpi .eq c16_i32_1982 c0_i32_1983
  let c1_i32_1984 : BitVec 32 := 1#32
  let v1643 : BitVec 32 := Scalar.select v1642 c1_i32_1984 c16_i32_1982
  let v1644 : BitVec 32 := Scalar.remsi v1641 v1643
  let c0_i32_1986 : BitVec 32 := 0#32
  let v1646 : BitVec 1 := Scalar.cmpi .slt v1644 c0_i32_1986
  let c0_i32_1987 : BitVec 32 := 0#32
  let v1647 : BitVec 1 := Scalar.cmpi .slt v1643 c0_i32_1987
  let v1648 : BitVec 1 := Scalar.xori v1646 v1647
  let c0_i32_1985 : BitVec 32 := 0#32
  let v1645 : BitVec 1 := Scalar.cmpi .ne v1644 c0_i32_1985
  let v1649 : BitVec 1 := Scalar.andi v1648 v1645
  let v1650 : BitVec 32 := Scalar.addi v1644 v1643
  let v1651 : BitVec 32 := Scalar.select v1649 v1650 v1644
  let c0_i32_1990 : BitVec 32 := 0#32
  let c0_i32_1991 : BitVec 32 := 0#32
  ![v1651.toNat, 0, 0]
def k0_dev61 (d0 : Dev nD) : Nat :=
  let c0_i32_2250 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_2242 : BitVec 32 := 1#32
  let v1993 : BitVec 32 := Scalar.addi v2 c1_i32_2242
  let c16_i32_2243 : BitVec 32 := 16#32
  let c0_i32_2244 : BitVec 32 := 0#32
  let v1994 : BitVec 1 := Scalar.cmpi .eq c16_i32_2243 c0_i32_2244
  let c1_i32_2245 : BitVec 32 := 1#32
  let v1995 : BitVec 32 := Scalar.select v1994 c1_i32_2245 c16_i32_2243
  let v1996 : BitVec 32 := Scalar.remsi v1993 v1995
  let c0_i32_2247 : BitVec 32 := 0#32
  let v1998 : BitVec 1 := Scalar.cmpi .slt v1996 c0_i32_2247
  let c0_i32_2248 : BitVec 32 := 0#32
  let v1999 : BitVec 1 := Scalar.cmpi .slt v1995 c0_i32_2248
  let v2000 : BitVec 1 := Scalar.xori v1998 v1999
  let c0_i32_2246 : BitVec 32 := 0#32
  let v1997 : BitVec 1 := Scalar.cmpi .ne v1996 c0_i32_2246
  let v2001 : BitVec 1 := Scalar.andi v2000 v1997
  let v2002 : BitVec 32 := Scalar.addi v1996 v1995
  let v2003 : BitVec 32 := Scalar.select v2001 v2002 v1996
  let c1_i32_2249 : BitVec 32 := 1#32
  let v2004 : BitVec 32 := Scalar.muli v2003 c1_i32_2249
  let v2005 : BitVec 32 := Scalar.addi c0_i32_2250 v2004
  v2005.toNat
def k0_dev62 (d0 : Dev nD) : Nat :=
  let c0_i32_2261 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_2253 : BitVec 32 := 2#32
  let v2012 : BitVec 32 := Scalar.addi v2 c2_i32_2253
  let c16_i32_2254 : BitVec 32 := 16#32
  let c0_i32_2255 : BitVec 32 := 0#32
  let v2013 : BitVec 1 := Scalar.cmpi .eq c16_i32_2254 c0_i32_2255
  let c1_i32_2256 : BitVec 32 := 1#32
  let v2014 : BitVec 32 := Scalar.select v2013 c1_i32_2256 c16_i32_2254
  let v2015 : BitVec 32 := Scalar.remsi v2012 v2014
  let c0_i32_2258 : BitVec 32 := 0#32
  let v2017 : BitVec 1 := Scalar.cmpi .slt v2015 c0_i32_2258
  let c0_i32_2259 : BitVec 32 := 0#32
  let v2018 : BitVec 1 := Scalar.cmpi .slt v2014 c0_i32_2259
  let v2019 : BitVec 1 := Scalar.xori v2017 v2018
  let c0_i32_2257 : BitVec 32 := 0#32
  let v2016 : BitVec 1 := Scalar.cmpi .ne v2015 c0_i32_2257
  let v2020 : BitVec 1 := Scalar.andi v2019 v2016
  let v2021 : BitVec 32 := Scalar.addi v2015 v2014
  let v2022 : BitVec 32 := Scalar.select v2020 v2021 v2015
  let c1_i32_2260 : BitVec 32 := 1#32
  let v2023 : BitVec 32 := Scalar.muli v2022 c1_i32_2260
  let v2024 : BitVec 32 := Scalar.addi c0_i32_2261 v2023
  v2024.toNat
def k0_dev63 (d0 : Dev nD) : Nat :=
  let c0_i32_2272 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_2264 : BitVec 32 := 3#32
  let v2031 : BitVec 32 := Scalar.addi v2 c3_i32_2264
  let c16_i32_2265 : BitVec 32 := 16#32
  let c0_i32_2266 : BitVec 32 := 0#32
  let v2032 : BitVec 1 := Scalar.cmpi .eq c16_i32_2265 c0_i32_2266
  let c1_i32_2267 : BitVec 32 := 1#32
  let v2033 : BitVec 32 := Scalar.select v2032 c1_i32_2267 c16_i32_2265
  let v2034 : BitVec 32 := Scalar.remsi v2031 v2033
  let c0_i32_2269 : BitVec 32 := 0#32
  let v2036 : BitVec 1 := Scalar.cmpi .slt v2034 c0_i32_2269
  let c0_i32_2270 : BitVec 32 := 0#32
  let v2037 : BitVec 1 := Scalar.cmpi .slt v2033 c0_i32_2270
  let v2038 : BitVec 1 := Scalar.xori v2036 v2037
  let c0_i32_2268 : BitVec 32 := 0#32
  let v2035 : BitVec 1 := Scalar.cmpi .ne v2034 c0_i32_2268
  let v2039 : BitVec 1 := Scalar.andi v2038 v2035
  let v2040 : BitVec 32 := Scalar.addi v2034 v2033
  let v2041 : BitVec 32 := Scalar.select v2039 v2040 v2034
  let c1_i32_2271 : BitVec 32 := 1#32
  let v2042 : BitVec 32 := Scalar.muli v2041 c1_i32_2271
  let v2043 : BitVec 32 := Scalar.addi c0_i32_2272 v2042
  v2043.toNat
def k0_dev64 (d0 : Dev nD) : Nat :=
  let c0_i32_2283 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_2275 : BitVec 32 := 4#32
  let v2050 : BitVec 32 := Scalar.addi v2 c4_i32_2275
  let c16_i32_2276 : BitVec 32 := 16#32
  let c0_i32_2277 : BitVec 32 := 0#32
  let v2051 : BitVec 1 := Scalar.cmpi .eq c16_i32_2276 c0_i32_2277
  let c1_i32_2278 : BitVec 32 := 1#32
  let v2052 : BitVec 32 := Scalar.select v2051 c1_i32_2278 c16_i32_2276
  let v2053 : BitVec 32 := Scalar.remsi v2050 v2052
  let c0_i32_2280 : BitVec 32 := 0#32
  let v2055 : BitVec 1 := Scalar.cmpi .slt v2053 c0_i32_2280
  let c0_i32_2281 : BitVec 32 := 0#32
  let v2056 : BitVec 1 := Scalar.cmpi .slt v2052 c0_i32_2281
  let v2057 : BitVec 1 := Scalar.xori v2055 v2056
  let c0_i32_2279 : BitVec 32 := 0#32
  let v2054 : BitVec 1 := Scalar.cmpi .ne v2053 c0_i32_2279
  let v2058 : BitVec 1 := Scalar.andi v2057 v2054
  let v2059 : BitVec 32 := Scalar.addi v2053 v2052
  let v2060 : BitVec 32 := Scalar.select v2058 v2059 v2053
  let c1_i32_2282 : BitVec 32 := 1#32
  let v2061 : BitVec 32 := Scalar.muli v2060 c1_i32_2282
  let v2062 : BitVec 32 := Scalar.addi c0_i32_2283 v2061
  v2062.toNat
def k0_dev65 (d0 : Dev nD) : Nat :=
  let c0_i32_2294 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_2286 : BitVec 32 := 5#32
  let v2069 : BitVec 32 := Scalar.addi v2 c5_i32_2286
  let c16_i32_2287 : BitVec 32 := 16#32
  let c0_i32_2288 : BitVec 32 := 0#32
  let v2070 : BitVec 1 := Scalar.cmpi .eq c16_i32_2287 c0_i32_2288
  let c1_i32_2289 : BitVec 32 := 1#32
  let v2071 : BitVec 32 := Scalar.select v2070 c1_i32_2289 c16_i32_2287
  let v2072 : BitVec 32 := Scalar.remsi v2069 v2071
  let c0_i32_2291 : BitVec 32 := 0#32
  let v2074 : BitVec 1 := Scalar.cmpi .slt v2072 c0_i32_2291
  let c0_i32_2292 : BitVec 32 := 0#32
  let v2075 : BitVec 1 := Scalar.cmpi .slt v2071 c0_i32_2292
  let v2076 : BitVec 1 := Scalar.xori v2074 v2075
  let c0_i32_2290 : BitVec 32 := 0#32
  let v2073 : BitVec 1 := Scalar.cmpi .ne v2072 c0_i32_2290
  let v2077 : BitVec 1 := Scalar.andi v2076 v2073
  let v2078 : BitVec 32 := Scalar.addi v2072 v2071
  let v2079 : BitVec 32 := Scalar.select v2077 v2078 v2072
  let c1_i32_2293 : BitVec 32 := 1#32
  let v2080 : BitVec 32 := Scalar.muli v2079 c1_i32_2293
  let v2081 : BitVec 32 := Scalar.addi c0_i32_2294 v2080
  v2081.toNat
def k0_dev66 (d0 : Dev nD) : Nat :=
  let c0_i32_2305 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_2297 : BitVec 32 := 6#32
  let v2088 : BitVec 32 := Scalar.addi v2 c6_i32_2297
  let c16_i32_2298 : BitVec 32 := 16#32
  let c0_i32_2299 : BitVec 32 := 0#32
  let v2089 : BitVec 1 := Scalar.cmpi .eq c16_i32_2298 c0_i32_2299
  let c1_i32_2300 : BitVec 32 := 1#32
  let v2090 : BitVec 32 := Scalar.select v2089 c1_i32_2300 c16_i32_2298
  let v2091 : BitVec 32 := Scalar.remsi v2088 v2090
  let c0_i32_2302 : BitVec 32 := 0#32
  let v2093 : BitVec 1 := Scalar.cmpi .slt v2091 c0_i32_2302
  let c0_i32_2303 : BitVec 32 := 0#32
  let v2094 : BitVec 1 := Scalar.cmpi .slt v2090 c0_i32_2303
  let v2095 : BitVec 1 := Scalar.xori v2093 v2094
  let c0_i32_2301 : BitVec 32 := 0#32
  let v2092 : BitVec 1 := Scalar.cmpi .ne v2091 c0_i32_2301
  let v2096 : BitVec 1 := Scalar.andi v2095 v2092
  let v2097 : BitVec 32 := Scalar.addi v2091 v2090
  let v2098 : BitVec 32 := Scalar.select v2096 v2097 v2091
  let c1_i32_2304 : BitVec 32 := 1#32
  let v2099 : BitVec 32 := Scalar.muli v2098 c1_i32_2304
  let v2100 : BitVec 32 := Scalar.addi c0_i32_2305 v2099
  v2100.toNat
def k0_dev67 (d0 : Dev nD) : Nat :=
  let c0_i32_2316 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_2308 : BitVec 32 := 7#32
  let v2107 : BitVec 32 := Scalar.addi v2 c7_i32_2308
  let c16_i32_2309 : BitVec 32 := 16#32
  let c0_i32_2310 : BitVec 32 := 0#32
  let v2108 : BitVec 1 := Scalar.cmpi .eq c16_i32_2309 c0_i32_2310
  let c1_i32_2311 : BitVec 32 := 1#32
  let v2109 : BitVec 32 := Scalar.select v2108 c1_i32_2311 c16_i32_2309
  let v2110 : BitVec 32 := Scalar.remsi v2107 v2109
  let c0_i32_2313 : BitVec 32 := 0#32
  let v2112 : BitVec 1 := Scalar.cmpi .slt v2110 c0_i32_2313
  let c0_i32_2314 : BitVec 32 := 0#32
  let v2113 : BitVec 1 := Scalar.cmpi .slt v2109 c0_i32_2314
  let v2114 : BitVec 1 := Scalar.xori v2112 v2113
  let c0_i32_2312 : BitVec 32 := 0#32
  let v2111 : BitVec 1 := Scalar.cmpi .ne v2110 c0_i32_2312
  let v2115 : BitVec 1 := Scalar.andi v2114 v2111
  let v2116 : BitVec 32 := Scalar.addi v2110 v2109
  let v2117 : BitVec 32 := Scalar.select v2115 v2116 v2110
  let c1_i32_2315 : BitVec 32 := 1#32
  let v2118 : BitVec 32 := Scalar.muli v2117 c1_i32_2315
  let v2119 : BitVec 32 := Scalar.addi c0_i32_2316 v2118
  v2119.toNat
def k0_dev68 (d0 : Dev nD) : Nat :=
  let c0_i32_2327 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_2319 : BitVec 32 := 8#32
  let v2126 : BitVec 32 := Scalar.addi v2 c8_i32_2319
  let c16_i32_2320 : BitVec 32 := 16#32
  let c0_i32_2321 : BitVec 32 := 0#32
  let v2127 : BitVec 1 := Scalar.cmpi .eq c16_i32_2320 c0_i32_2321
  let c1_i32_2322 : BitVec 32 := 1#32
  let v2128 : BitVec 32 := Scalar.select v2127 c1_i32_2322 c16_i32_2320
  let v2129 : BitVec 32 := Scalar.remsi v2126 v2128
  let c0_i32_2324 : BitVec 32 := 0#32
  let v2131 : BitVec 1 := Scalar.cmpi .slt v2129 c0_i32_2324
  let c0_i32_2325 : BitVec 32 := 0#32
  let v2132 : BitVec 1 := Scalar.cmpi .slt v2128 c0_i32_2325
  let v2133 : BitVec 1 := Scalar.xori v2131 v2132
  let c0_i32_2323 : BitVec 32 := 0#32
  let v2130 : BitVec 1 := Scalar.cmpi .ne v2129 c0_i32_2323
  let v2134 : BitVec 1 := Scalar.andi v2133 v2130
  let v2135 : BitVec 32 := Scalar.addi v2129 v2128
  let v2136 : BitVec 32 := Scalar.select v2134 v2135 v2129
  let c1_i32_2326 : BitVec 32 := 1#32
  let v2137 : BitVec 32 := Scalar.muli v2136 c1_i32_2326
  let v2138 : BitVec 32 := Scalar.addi c0_i32_2327 v2137
  v2138.toNat
def k0_dev69 (d0 : Dev nD) : Nat :=
  let c0_i32_2338 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_2330 : BitVec 32 := 9#32
  let v2145 : BitVec 32 := Scalar.addi v2 c9_i32_2330
  let c16_i32_2331 : BitVec 32 := 16#32
  let c0_i32_2332 : BitVec 32 := 0#32
  let v2146 : BitVec 1 := Scalar.cmpi .eq c16_i32_2331 c0_i32_2332
  let c1_i32_2333 : BitVec 32 := 1#32
  let v2147 : BitVec 32 := Scalar.select v2146 c1_i32_2333 c16_i32_2331
  let v2148 : BitVec 32 := Scalar.remsi v2145 v2147
  let c0_i32_2335 : BitVec 32 := 0#32
  let v2150 : BitVec 1 := Scalar.cmpi .slt v2148 c0_i32_2335
  let c0_i32_2336 : BitVec 32 := 0#32
  let v2151 : BitVec 1 := Scalar.cmpi .slt v2147 c0_i32_2336
  let v2152 : BitVec 1 := Scalar.xori v2150 v2151
  let c0_i32_2334 : BitVec 32 := 0#32
  let v2149 : BitVec 1 := Scalar.cmpi .ne v2148 c0_i32_2334
  let v2153 : BitVec 1 := Scalar.andi v2152 v2149
  let v2154 : BitVec 32 := Scalar.addi v2148 v2147
  let v2155 : BitVec 32 := Scalar.select v2153 v2154 v2148
  let c1_i32_2337 : BitVec 32 := 1#32
  let v2156 : BitVec 32 := Scalar.muli v2155 c1_i32_2337
  let v2157 : BitVec 32 := Scalar.addi c0_i32_2338 v2156
  v2157.toNat
def k0_dev70 (d0 : Dev nD) : Nat :=
  let c0_i32_2349 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_2341 : BitVec 32 := 10#32
  let v2164 : BitVec 32 := Scalar.addi v2 c10_i32_2341
  let c16_i32_2342 : BitVec 32 := 16#32
  let c0_i32_2343 : BitVec 32 := 0#32
  let v2165 : BitVec 1 := Scalar.cmpi .eq c16_i32_2342 c0_i32_2343
  let c1_i32_2344 : BitVec 32 := 1#32
  let v2166 : BitVec 32 := Scalar.select v2165 c1_i32_2344 c16_i32_2342
  let v2167 : BitVec 32 := Scalar.remsi v2164 v2166
  let c0_i32_2346 : BitVec 32 := 0#32
  let v2169 : BitVec 1 := Scalar.cmpi .slt v2167 c0_i32_2346
  let c0_i32_2347 : BitVec 32 := 0#32
  let v2170 : BitVec 1 := Scalar.cmpi .slt v2166 c0_i32_2347
  let v2171 : BitVec 1 := Scalar.xori v2169 v2170
  let c0_i32_2345 : BitVec 32 := 0#32
  let v2168 : BitVec 1 := Scalar.cmpi .ne v2167 c0_i32_2345
  let v2172 : BitVec 1 := Scalar.andi v2171 v2168
  let v2173 : BitVec 32 := Scalar.addi v2167 v2166
  let v2174 : BitVec 32 := Scalar.select v2172 v2173 v2167
  let c1_i32_2348 : BitVec 32 := 1#32
  let v2175 : BitVec 32 := Scalar.muli v2174 c1_i32_2348
  let v2176 : BitVec 32 := Scalar.addi c0_i32_2349 v2175
  v2176.toNat
def k0_dev71 (d0 : Dev nD) : Nat :=
  let c0_i32_2360 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_2352 : BitVec 32 := 11#32
  let v2183 : BitVec 32 := Scalar.addi v2 c11_i32_2352
  let c16_i32_2353 : BitVec 32 := 16#32
  let c0_i32_2354 : BitVec 32 := 0#32
  let v2184 : BitVec 1 := Scalar.cmpi .eq c16_i32_2353 c0_i32_2354
  let c1_i32_2355 : BitVec 32 := 1#32
  let v2185 : BitVec 32 := Scalar.select v2184 c1_i32_2355 c16_i32_2353
  let v2186 : BitVec 32 := Scalar.remsi v2183 v2185
  let c0_i32_2357 : BitVec 32 := 0#32
  let v2188 : BitVec 1 := Scalar.cmpi .slt v2186 c0_i32_2357
  let c0_i32_2358 : BitVec 32 := 0#32
  let v2189 : BitVec 1 := Scalar.cmpi .slt v2185 c0_i32_2358
  let v2190 : BitVec 1 := Scalar.xori v2188 v2189
  let c0_i32_2356 : BitVec 32 := 0#32
  let v2187 : BitVec 1 := Scalar.cmpi .ne v2186 c0_i32_2356
  let v2191 : BitVec 1 := Scalar.andi v2190 v2187
  let v2192 : BitVec 32 := Scalar.addi v2186 v2185
  let v2193 : BitVec 32 := Scalar.select v2191 v2192 v2186
  let c1_i32_2359 : BitVec 32 := 1#32
  let v2194 : BitVec 32 := Scalar.muli v2193 c1_i32_2359
  let v2195 : BitVec 32 := Scalar.addi c0_i32_2360 v2194
  v2195.toNat
def k0_dev72 (d0 : Dev nD) : Nat :=
  let c0_i32_2371 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_2363 : BitVec 32 := 12#32
  let v2202 : BitVec 32 := Scalar.addi v2 c12_i32_2363
  let c16_i32_2364 : BitVec 32 := 16#32
  let c0_i32_2365 : BitVec 32 := 0#32
  let v2203 : BitVec 1 := Scalar.cmpi .eq c16_i32_2364 c0_i32_2365
  let c1_i32_2366 : BitVec 32 := 1#32
  let v2204 : BitVec 32 := Scalar.select v2203 c1_i32_2366 c16_i32_2364
  let v2205 : BitVec 32 := Scalar.remsi v2202 v2204
  let c0_i32_2368 : BitVec 32 := 0#32
  let v2207 : BitVec 1 := Scalar.cmpi .slt v2205 c0_i32_2368
  let c0_i32_2369 : BitVec 32 := 0#32
  let v2208 : BitVec 1 := Scalar.cmpi .slt v2204 c0_i32_2369
  let v2209 : BitVec 1 := Scalar.xori v2207 v2208
  let c0_i32_2367 : BitVec 32 := 0#32
  let v2206 : BitVec 1 := Scalar.cmpi .ne v2205 c0_i32_2367
  let v2210 : BitVec 1 := Scalar.andi v2209 v2206
  let v2211 : BitVec 32 := Scalar.addi v2205 v2204
  let v2212 : BitVec 32 := Scalar.select v2210 v2211 v2205
  let c1_i32_2370 : BitVec 32 := 1#32
  let v2213 : BitVec 32 := Scalar.muli v2212 c1_i32_2370
  let v2214 : BitVec 32 := Scalar.addi c0_i32_2371 v2213
  v2214.toNat
def k0_dev73 (d0 : Dev nD) : Nat :=
  let c0_i32_2382 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_2374 : BitVec 32 := 13#32
  let v2221 : BitVec 32 := Scalar.addi v2 c13_i32_2374
  let c16_i32_2375 : BitVec 32 := 16#32
  let c0_i32_2376 : BitVec 32 := 0#32
  let v2222 : BitVec 1 := Scalar.cmpi .eq c16_i32_2375 c0_i32_2376
  let c1_i32_2377 : BitVec 32 := 1#32
  let v2223 : BitVec 32 := Scalar.select v2222 c1_i32_2377 c16_i32_2375
  let v2224 : BitVec 32 := Scalar.remsi v2221 v2223
  let c0_i32_2379 : BitVec 32 := 0#32
  let v2226 : BitVec 1 := Scalar.cmpi .slt v2224 c0_i32_2379
  let c0_i32_2380 : BitVec 32 := 0#32
  let v2227 : BitVec 1 := Scalar.cmpi .slt v2223 c0_i32_2380
  let v2228 : BitVec 1 := Scalar.xori v2226 v2227
  let c0_i32_2378 : BitVec 32 := 0#32
  let v2225 : BitVec 1 := Scalar.cmpi .ne v2224 c0_i32_2378
  let v2229 : BitVec 1 := Scalar.andi v2228 v2225
  let v2230 : BitVec 32 := Scalar.addi v2224 v2223
  let v2231 : BitVec 32 := Scalar.select v2229 v2230 v2224
  let c1_i32_2381 : BitVec 32 := 1#32
  let v2232 : BitVec 32 := Scalar.muli v2231 c1_i32_2381
  let v2233 : BitVec 32 := Scalar.addi c0_i32_2382 v2232
  v2233.toNat
def k0_dev74 (d0 : Dev nD) : Nat :=
  let c0_i32_2393 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_2385 : BitVec 32 := 14#32
  let v2240 : BitVec 32 := Scalar.addi v2 c14_i32_2385
  let c16_i32_2386 : BitVec 32 := 16#32
  let c0_i32_2387 : BitVec 32 := 0#32
  let v2241 : BitVec 1 := Scalar.cmpi .eq c16_i32_2386 c0_i32_2387
  let c1_i32_2388 : BitVec 32 := 1#32
  let v2242 : BitVec 32 := Scalar.select v2241 c1_i32_2388 c16_i32_2386
  let v2243 : BitVec 32 := Scalar.remsi v2240 v2242
  let c0_i32_2390 : BitVec 32 := 0#32
  let v2245 : BitVec 1 := Scalar.cmpi .slt v2243 c0_i32_2390
  let c0_i32_2391 : BitVec 32 := 0#32
  let v2246 : BitVec 1 := Scalar.cmpi .slt v2242 c0_i32_2391
  let v2247 : BitVec 1 := Scalar.xori v2245 v2246
  let c0_i32_2389 : BitVec 32 := 0#32
  let v2244 : BitVec 1 := Scalar.cmpi .ne v2243 c0_i32_2389
  let v2248 : BitVec 1 := Scalar.andi v2247 v2244
  let v2249 : BitVec 32 := Scalar.addi v2243 v2242
  let v2250 : BitVec 32 := Scalar.select v2248 v2249 v2243
  let c1_i32_2392 : BitVec 32 := 1#32
  let v2251 : BitVec 32 := Scalar.muli v2250 c1_i32_2392
  let v2252 : BitVec 32 := Scalar.addi c0_i32_2393 v2251
  v2252.toNat
def k0_dev75 (d0 : Dev nD) : Nat :=
  let c0_i32_2404 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_2396 : BitVec 32 := 15#32
  let v2259 : BitVec 32 := Scalar.addi v2 c15_i32_2396
  let c16_i32_2397 : BitVec 32 := 16#32
  let c0_i32_2398 : BitVec 32 := 0#32
  let v2260 : BitVec 1 := Scalar.cmpi .eq c16_i32_2397 c0_i32_2398
  let c1_i32_2399 : BitVec 32 := 1#32
  let v2261 : BitVec 32 := Scalar.select v2260 c1_i32_2399 c16_i32_2397
  let v2262 : BitVec 32 := Scalar.remsi v2259 v2261
  let c0_i32_2401 : BitVec 32 := 0#32
  let v2264 : BitVec 1 := Scalar.cmpi .slt v2262 c0_i32_2401
  let c0_i32_2402 : BitVec 32 := 0#32
  let v2265 : BitVec 1 := Scalar.cmpi .slt v2261 c0_i32_2402
  let v2266 : BitVec 1 := Scalar.xori v2264 v2265
  let c0_i32_2400 : BitVec 32 := 0#32
  let v2263 : BitVec 1 := Scalar.cmpi .ne v2262 c0_i32_2400
  let v2267 : BitVec 1 := Scalar.andi v2266 v2263
  let v2268 : BitVec 32 := Scalar.addi v2262 v2261
  let v2269 : BitVec 32 := Scalar.select v2267 v2268 v2262
  let c1_i32_2403 : BitVec 32 := 1#32
  let v2270 : BitVec 32 := Scalar.muli v2269 c1_i32_2403
  let v2271 : BitVec 32 := Scalar.addi c0_i32_2404 v2270
  v2271.toNat
abbrev stage0_0 : Fin 1 → Memref sig .tc .vmem S2x128x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x128x64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x128x64x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x128x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== ReferenceIdeal.lean ====
abbrev S2x128x512 : Shape := ⟨3, ![2, 128, 512]⟩
abbrev S512x4096 : Shape := ⟨2, ![512, 4096]⟩
abbrev S2x2048x64x64 : Shape := ⟨4, ![2, 2048, 64, 64]⟩
abbrev S4096x512 : Shape := ⟨2, ![4096, 512]⟩
abbrev S2x128x4096 : Shape := ⟨3, ![2, 128, 4096]⟩
abbrev S2x128x64x64 : Shape := ⟨4, ![2, 128, 64, 64]⟩
abbrev S128 : Shape := ⟨1, ![128]⟩
abbrev S_ : Shape := ⟨0, ![]⟩
abbrev S128x1 : Shape := ⟨2, ![128, 1]⟩
abbrev S2048 : Shape := ⟨1, ![2048]⟩
abbrev S1x2048 : Shape := ⟨2, ![1, 2048]⟩
abbrev S128x2048 : Shape := ⟨2, ![128, 2048]⟩
abbrev S2x64x128x2048 : Shape := ⟨4, ![2, 64, 128, 2048]⟩
abbrev S1x1x128x2048 : Shape := ⟨4, ![1, 1, 128, 2048]⟩
abbrev S2x64x128 : Shape := ⟨3, ![2, 64, 128]⟩
abbrev S2x64x128x1 : Shape := ⟨4, ![2, 64, 128, 1]⟩
abbrev S1x1x128x1 : Shape := ⟨4, ![1, 1, 128, 1]⟩
abbrev S2x64x64x128 : Shape := ⟨4, ![2, 64, 64, 128]⟩

abbrev nBuf : Space → Nat
  | .hbm => 137
  | .vmem => 0
  | .smem => 0
  | _ => 0

abbrev hbmTy0_0 (i : Nat) : BufTy := match i % 128 with
  | 0 => ⟨S2x128x512, .f32⟩
  | 1 => ⟨S512x4096, .f32⟩
  | 2 => ⟨S2x2048x64x64, .f32⟩
  | 3 => ⟨S2x2048x64x64, .f32⟩
  | 4 => ⟨S4096x512, .f32⟩
  | 5 => ⟨S2x128x4096, .f32⟩
  | 6 => ⟨S2x128x64x64, .f32⟩
  | 7 => ⟨S128, .i32⟩
  | 8 => ⟨S_, .i32⟩
  | 9 => ⟨S_, .i32⟩
  | 10 => ⟨S128, .i32⟩
  | 11 => ⟨S128, .i32⟩
  | 12 => ⟨S128, .i32⟩
  | 13 => ⟨S_, .i32⟩
  | 14 => ⟨S128, .i32⟩
  | 15 => ⟨S128, .i1⟩
  | 16 => ⟨S128, .i32⟩
  | 17 => ⟨S128, .i32⟩
  | 18 => ⟨S_, .i32⟩
  | 19 => ⟨S128, .i32⟩
  | 20 => ⟨S128, .i1⟩
  | 21 => ⟨S128, .i1⟩
  | 22 => ⟨S_, .i32⟩
  | 23 => ⟨S128, .i32⟩
  | 24 => ⟨S128, .i32⟩
  | 25 => ⟨S128, .i32⟩
  | 26 => ⟨S128x1, .i32⟩
  | 27 => ⟨S2048, .i32⟩
  | 28 => ⟨S_, .i32⟩
  | 29 => ⟨S_, .i32⟩
  | 30 => ⟨S2048, .i32⟩
  | 31 => ⟨S2048, .i32⟩
  | 32 => ⟨S2048, .i32⟩
  | 33 => ⟨S_, .i32⟩
  | 34 => ⟨S2048, .i32⟩
  | 35 => ⟨S2048, .i1⟩
  | 36 => ⟨S2048, .i32⟩
  | 37 => ⟨S2048, .i32⟩
  | 38 => ⟨S_, .i32⟩
  | 39 => ⟨S2048, .i32⟩
  | 40 => ⟨S2048, .i1⟩
  | 41 => ⟨S2048, .i1⟩
  | 42 => ⟨S_, .i32⟩
  | 43 => ⟨S2048, .i32⟩
  | 44 => ⟨S2048, .i32⟩
  | 45 => ⟨S2048, .i32⟩
  | 46 => ⟨S1x2048, .i32⟩
  | 47 => ⟨S128x2048, .i32⟩
  | 48 => ⟨S128x2048, .i32⟩
  | 49 => ⟨S128x2048, .i1⟩
  | 50 => ⟨S_, .i32⟩
  | 51 => ⟨S_, .i32⟩
  | 52 => ⟨S_, .i32⟩
  | 53 => ⟨S_, .i1⟩
  | 54 => ⟨S_, .i32⟩
  | 55 => ⟨S_, .i32⟩
  | 56 => ⟨S1x2048, .i32⟩
  | 57 => ⟨S1x2048, .i32⟩
  | 58 => ⟨S_, .i32⟩
  | 59 => ⟨S1x2048, .i32⟩
  | 60 => ⟨S1x2048, .i1⟩
  | 61 => ⟨S_, .i32⟩
  | 62 => ⟨S1x2048, .i32⟩
  | 63 => ⟨S1x2048, .i1⟩
  | 64 => ⟨S_, .i32⟩
  | 65 => ⟨S_, .i1⟩
  | 66 => ⟨S1x2048, .i1⟩
  | 67 => ⟨S1x2048, .i1⟩
  | 68 => ⟨S1x2048, .i1⟩
  | 69 => ⟨S1x2048, .i32⟩
  | 70 => ⟨S1x2048, .i32⟩
  | 71 => ⟨S1x2048, .i32⟩
  | 72 => ⟨S_, .i32⟩
  | 73 => ⟨S_, .i32⟩
  | 74 => ⟨S_, .i32⟩
  | 75 => ⟨S_, .i1⟩
  | 76 => ⟨S_, .i32⟩
  | 77 => ⟨S_, .i32⟩
  | 78 => ⟨S128x1, .i32⟩
  | 79 => ⟨S128x1, .i32⟩
  | 80 => ⟨S_, .i32⟩
  | 81 => ⟨S128x1, .i32⟩
  | 82 => ⟨S128x1, .i1⟩
  | 83 => ⟨S_, .i32⟩
  | 84 => ⟨S128x1, .i32⟩
  | 85 => ⟨S128x1, .i1⟩
  | 86 => ⟨S_, .i32⟩
  | 87 => ⟨S_, .i1⟩
  | 88 => ⟨S128x1, .i1⟩
  | 89 => ⟨S128x1, .i1⟩
  | 90 => ⟨S128x1, .i1⟩
  | 91 => ⟨S128x1, .i32⟩
  | 92 => ⟨S128x1, .i32⟩
  | 93 => ⟨S128x1, .i32⟩
  | 94 => ⟨S128x2048, .i32⟩
  | 95 => ⟨S128x2048, .i32⟩
  | 96 => ⟨S128x2048, .i1⟩
  | 97 => ⟨S128x2048, .i1⟩
  | 98 => ⟨S2x64x128x2048, .f32⟩
  | 99 => ⟨S_, .f32⟩
  | 100 => ⟨S2x64x128x2048, .f32⟩
  | 101 => ⟨S2x64x128x2048, .f32⟩
  | 102 => ⟨S1x1x128x2048, .i1⟩
  | 103 => ⟨S_, .f32⟩
  | 104 => ⟨S_, .f32⟩
  | 105 => ⟨S2x64x128x2048, .i1⟩
  | 106 => ⟨S2x64x128x2048, .f32⟩
  | 107 => ⟨S2x64x128x2048, .f32⟩
  | 108 => ⟨S_, .f32⟩
  | 109 => ⟨S2x64x128, .f32⟩
  | 110 => ⟨S2x64x128x1, .f32⟩
  | 111 => ⟨S2x64x128x2048, .f32⟩
  | 112 => ⟨S2x64x128x2048, .f32⟩
  | 113 => ⟨S2x64x128x2048, .f32⟩
  | 114 => ⟨S_, .i1⟩
  | 115 => ⟨S128, .i1⟩
  | 116 => ⟨S1x1x128x1, .i1⟩
  | 117 => ⟨S_, .f32⟩
  | 118 => ⟨S2x64x128, .f32⟩
  | 119 => ⟨S2x64x128x1, .f32⟩
  | 120 => ⟨S_, .f32⟩
  | 121 => ⟨S_, .f32⟩
  | 122 => ⟨S2x64x128x1, .i1⟩
  | 123 => ⟨S2x64x128x1, .f32⟩
  | 124 => ⟨S2x64x128x1, .f32⟩
  | 125 => ⟨S2x64x128x2048, .f32⟩
  | 126 => ⟨S2x64x128x2048, .f32⟩
  | 127 => ⟨S1x1x128x2048, .i1⟩
  | _ => ⟨S2x128x512, .f32⟩

abbrev hbmTy0_1 (i : Nat) : BufTy := match i % 128 with
  | 0 => ⟨S_, .f32⟩
  | 1 => ⟨S_, .f32⟩
  | 2 => ⟨S2x64x128x2048, .i1⟩
  | 3 => ⟨S2x64x128x2048, .f32⟩
  | 4 => ⟨S2x64x128x2048, .f32⟩
  | 5 => ⟨S2x64x64x128, .f32⟩
  | 6 => ⟨S2x128x64x64, .f32⟩
  | 7 => ⟨S2x128x4096, .f32⟩
  | 8 => ⟨S2x128x512, .f32⟩
  | _ => ⟨S2x128x512, .f32⟩

abbrev hbmTy (i : Nat) : BufTy := match i / 128 with
  | 0 => hbmTy0_0 i
  | 1 => hbmTy0_1 i
  | _ => ⟨S2x128x512, .f32⟩

abbrev bufTy : (tb : Table) → Fin (tcTables nBuf tb) → BufTy
  | .hbm, ⟨i, _⟩ => hbmTy i
  | _, _ => ⟨S2x128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_c_0 : Ref sig .tc := ⟨.hbm, 28, rfl⟩
abbrev main_call1_v0 : Ref sig .tc := ⟨.hbm, 29, rfl⟩
abbrev main_call1_v1 : Ref sig .tc := ⟨.hbm, 30, rfl⟩
abbrev main_call1_v2 : Ref sig .tc := ⟨.hbm, 31, rfl⟩
abbrev main_call1_v3 : Ref sig .tc := ⟨.hbm, 32, rfl⟩
abbrev main_call1_v4 : Ref sig .tc := ⟨.hbm, 33, rfl⟩
abbrev main_call1_v5 : Ref sig .tc := ⟨.hbm, 34, rfl⟩
abbrev main_call1_v6 : Ref sig .tc := ⟨.hbm, 35, rfl⟩
abbrev main_call1_v7 : Ref sig .tc := ⟨.hbm, 36, rfl⟩
abbrev main_call1_v8 : Ref sig .tc := ⟨.hbm, 37, rfl⟩
abbrev main_call1_c : Ref sig .tc := ⟨.hbm, 38, rfl⟩
abbrev main_call1_v9 : Ref sig .tc := ⟨.hbm, 39, rfl⟩
abbrev main_call1_v10 : Ref sig .tc := ⟨.hbm, 40, rfl⟩
abbrev main_call1_v11 : Ref sig .tc := ⟨.hbm, 41, rfl⟩
abbrev main_call1_c_0 : Ref sig .tc := ⟨.hbm, 42, rfl⟩
abbrev main_call1_v12 : Ref sig .tc := ⟨.hbm, 43, rfl⟩
abbrev main_call1_v13 : Ref sig .tc := ⟨.hbm, 44, rfl⟩
abbrev main_v6 : Ref sig .tc := ⟨.hbm, 45, rfl⟩
abbrev main_v7 : Ref sig .tc := ⟨.hbm, 46, rfl⟩
abbrev main_v8 : Ref sig .tc := ⟨.hbm, 47, rfl⟩
abbrev main_v9 : Ref sig .tc := ⟨.hbm, 48, rfl⟩
abbrev main_v10 : Ref sig .tc := ⟨.hbm, 49, rfl⟩
abbrev main_c_1 : Ref sig .tc := ⟨.hbm, 50, rfl⟩
abbrev main_call2_v0 : Ref sig .tc := ⟨.hbm, 51, rfl⟩
abbrev main_call2_c : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_c_1 : Ref sig .tc := ⟨.hbm, 58, rfl⟩
abbrev main_call2_v5 : Ref sig .tc := ⟨.hbm, 59, rfl⟩
abbrev main_call2_v6 : Ref sig .tc := ⟨.hbm, 60, rfl⟩
abbrev main_call2_c_2 : Ref sig .tc := ⟨.hbm, 61, rfl⟩
abbrev main_call2_v7 : Ref sig .tc := ⟨.hbm, 62, rfl⟩
abbrev main_call2_v8 : Ref sig .tc := ⟨.hbm, 63, rfl⟩
abbrev main_call2_c_3 : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_v11 : Ref sig .tc := ⟨.hbm, 71, rfl⟩
abbrev main_c_2 : Ref sig .tc := ⟨.hbm, 72, rfl⟩
abbrev main_call3_v0 : Ref sig .tc := ⟨.hbm, 73, rfl⟩
abbrev main_call3_c : Ref sig .tc := ⟨.hbm, 74, rfl⟩
abbrev main_call3_v1 : Ref sig .tc := ⟨.hbm, 75, rfl⟩
abbrev main_call3_c_0 : Ref sig .tc := ⟨.hbm, 76, rfl⟩
abbrev main_call3_v2 : Ref sig .tc := ⟨.hbm, 77, rfl⟩
abbrev main_call3_v3 : Ref sig .tc := ⟨.hbm, 78, rfl⟩
abbrev main_call3_v4 : Ref sig .tc := ⟨.hbm, 79, rfl⟩
abbrev main_call3_c_1 : Ref sig .tc := ⟨.hbm, 80, rfl⟩
abbrev main_call3_v5 : Ref sig .tc := ⟨.hbm, 81, rfl⟩
abbrev main_call3_v6 : Ref sig .tc := ⟨.hbm, 82, rfl⟩
abbrev main_call3_c_2 : Ref sig .tc := ⟨.hbm, 83, rfl⟩
abbrev main_call3_v7 : Ref sig .tc := ⟨.hbm, 84, rfl⟩
abbrev main_call3_v8 : Ref sig .tc := ⟨.hbm, 85, rfl⟩
abbrev main_call3_c_3 : Ref sig .tc := ⟨.hbm, 86, rfl⟩
abbrev main_call3_v9 : Ref sig .tc := ⟨.hbm, 87, rfl⟩
abbrev main_call3_v10 : Ref sig .tc := ⟨.hbm, 88, rfl⟩
abbrev main_call3_v11 : Ref sig .tc := ⟨.hbm, 89, rfl⟩
abbrev main_call3_v12 : Ref sig .tc := ⟨.hbm, 90, rfl⟩
abbrev main_call3_v13 : Ref sig .tc := ⟨.hbm, 91, rfl⟩
abbrev main_call3_v14 : Ref sig .tc := ⟨.hbm, 92, rfl⟩
abbrev main_v12 : Ref sig .tc := ⟨.hbm, 93, rfl⟩
abbrev main_v13 : Ref sig .tc := ⟨.hbm, 94, rfl⟩
abbrev main_v14 : Ref sig .tc := ⟨.hbm, 95, rfl⟩
abbrev main_v15 : Ref sig .tc := ⟨.hbm, 96, rfl⟩
abbrev main_v16 : Ref sig .tc := ⟨.hbm, 97, rfl⟩
abbrev main_v17 : Ref sig .tc := ⟨.hbm, 98, rfl⟩
abbrev main_cst : Ref sig .tc := ⟨.hbm, 99, rfl⟩
abbrev main_v18 : Ref sig .tc := ⟨.hbm, 100, rfl⟩
abbrev main_v19 : Ref sig .tc := ⟨.hbm, 101, rfl⟩
abbrev main_v20 : Ref sig .tc := ⟨.hbm, 102, rfl⟩
abbrev main_cst_3 : Ref sig .tc := ⟨.hbm, 103, rfl⟩
abbrev main_call4_v0 : Ref sig .tc := ⟨.hbm, 104, rfl⟩
abbrev main_call4_v1 : Ref sig .tc := ⟨.hbm, 105, rfl⟩
abbrev main_call4_v2 : Ref sig .tc := ⟨.hbm, 106, rfl⟩
abbrev main_v21 : Ref sig .tc := ⟨.hbm, 107, rfl⟩
abbrev main_cst_4 : Ref sig .tc := ⟨.hbm, 108, rfl⟩
abbrev main_v22 : Ref sig .tc := ⟨.hbm, 109, rfl⟩
abbrev main_v23 : Ref sig .tc := ⟨.hbm, 110, rfl⟩
abbrev main_v24 : Ref sig .tc := ⟨.hbm, 111, rfl⟩
abbrev main_v25 : Ref sig .tc := ⟨.hbm, 112, rfl⟩
abbrev main_v26 : Ref sig .tc := ⟨.hbm, 113, rfl⟩
abbrev main_c_5 : Ref sig .tc := ⟨.hbm, 114, rfl⟩
abbrev main_v27 : Ref sig .tc := ⟨.hbm, 115, rfl⟩
abbrev main_v28 : Ref sig .tc := ⟨.hbm, 116, rfl⟩
abbrev main_cst_6 : Ref sig .tc := ⟨.hbm, 117, rfl⟩
abbrev main_v29 : Ref sig .tc := ⟨.hbm, 118, rfl⟩
abbrev main_v30 : Ref sig .tc := ⟨.hbm, 119, rfl⟩
abbrev main_cst_7 : Ref sig .tc := ⟨.hbm, 120, rfl⟩
abbrev main_call5_v0 : Ref sig .tc := ⟨.hbm, 121, rfl⟩
abbrev main_call5_v1 : Ref sig .tc := ⟨.hbm, 122, rfl⟩
abbrev main_call5_v2 : Ref sig .tc := ⟨.hbm, 123, rfl⟩
abbrev main_v31 : Ref sig .tc := ⟨.hbm, 124, rfl⟩
abbrev main_v32 : Ref sig .tc := ⟨.hbm, 125, rfl⟩
abbrev main_v33 : Ref sig .tc := ⟨.hbm, 126, rfl⟩
abbrev main_v34 : Ref sig .tc := ⟨.hbm, 127, rfl⟩
abbrev main_cst_8 : Ref sig .tc := ⟨.hbm, 128, rfl⟩
abbrev main_call6_v0 : Ref sig .tc := ⟨.hbm, 129, rfl⟩
abbrev main_call6_v1 : Ref sig .tc := ⟨.hbm, 130, rfl⟩
abbrev main_call6_v2 : Ref sig .tc := ⟨.hbm, 131, rfl⟩
abbrev main_v35 : Ref sig .tc := ⟨.hbm, 132, rfl⟩
abbrev main_v36 : Ref sig .tc := ⟨.hbm, 133, rfl⟩
abbrev main_v37 : Ref sig .tc := ⟨.hbm, 134, rfl⟩
abbrev main_v38 : Ref sig .tc := ⟨.hbm, 135, rfl⟩
abbrev main_v39 : Ref sig .tc := ⟨.hbm, 136, rfl⟩

abbrev nD : Nat := 1
abbrev τ : Topo := Topo.v7x

variable {F : FTy → Type} [FloatOps F]
-- ==== Proof.Rows.lean ====
/-
Groups of rows of a buffer.

Every scratch buffer of the kernel is cut along its first axis: into slots of one row (the staging and landing
buffers) or into chunks of several rows (the partial product). `rowsAt w k` is group `k` of `w` rows; the lemmas
here say that the views the program takes are exactly such groups, and that a buffer is the union of its groups.
-/
module

public import proofs.«01_k».proof.Proof.Gen.KernelIdeal.Skeleton
public import Idealize.ShloMosaic.Lib.Pipeline.Launch
public import Idealize.ShloMosaic.Lib.Pipeline.Kit
public import Idealize.ShloMosaic.Lib.Tactic

@[expose] public section

noncomputable section

namespace Cert.SparseAttn

open Idealize.ShloMosaic

/-- Group `k` of `w` consecutive rows. -/
def rowsAt {n : ℕ} {d : Fin (n + 1) → ℕ} (w k : ℕ) : Finset (⟨n + 1, d⟩ : Shape).Idx :=
  Finset.univ.filter fun i => (i 0).val / w = k

theorem mem_rowsAt {n : ℕ} {d : Fin (n + 1) → ℕ} {w k : ℕ} {i : (⟨n + 1, d⟩ : Shape).Idx} :
    i ∈ (rowsAt w k : Finset (⟨n + 1, d⟩ : Shape).Idx) ↔ (i 0).val / w = k := by
  simp [rowsAt]

/-- A rectangle of `w` rows starting at row `w * k`, whole on the other axes, is group `k`. -/
theorem set_rows {n : ℕ} {d : Fin (n + 1) → ℕ} (off size : Fin (n + 1) → ℕ)
    (inb : ∀ a, off a + size a ≤ (⟨n + 1, d⟩ : Shape).size a) (w k : ℕ) (hw : 0 < w)
    (h0 : off 0 = w * k) (hs : size 0 = w) (hr : ∀ a : Fin n, size a.succ = d a.succ) :
    (Rect.unit (s := (⟨n + 1, d⟩ : Shape)) off size inb).set = rowsAt w k := by
  ext i
  rw [Rect.mem_set_unit, mem_rowsAt, Fin.forall_fin_succ]
  have hall : ∀ a : Fin n, off a.succ ≤ (i a.succ).val ∧ (i a.succ).val < off a.succ + size a.succ := fun a => by
    have h1 : off a.succ + size a.succ ≤ d a.succ := inb a.succ
    have h2 : (i a.succ).val < d a.succ := (i a.succ).isLt
    have := hr a
    omega
  constructor
  · rintro ⟨⟨h1, h2⟩, -⟩
    rw [h0] at h1 h2
    rw [hs] at h2
    exact Nat.div_eq_of_lt_le (by rw [Nat.mul_comm]; exact h1) (by rw [Nat.succ_mul, Nat.mul_comm]; exact h2)
  · intro h
    refine ⟨?_, hall⟩
    rw [h0, hs]
    have h1 := Nat.div_add_mod (i 0).val w
    have h2 := Nat.mod_lt (i 0).val hw
    rw [h] at h1
    omega

theorem rowsAt_disjoint {n : ℕ} {d : Fin (n + 1) → ℕ} {w k k' : ℕ} (h : k ≠ k') :
    Disjoint (rowsAt w k : Finset (⟨n + 1, d⟩ : Shape).Idx) (rowsAt w k') := by
  rw [Finset.disjoint_left]
  intro i hi hi'
  exact h ((mem_rowsAt.mp hi).symm.trans (mem_rowsAt.mp hi'))

/-- A buffer of `K` groups is their union. -/
theorem rowsAt_union {n : ℕ} {d : Fin (n + 1) → ℕ} (w K : ℕ) (hw : 0 < w) (hK : d 0 = w * K) :
    (Finset.univ : Finset (⟨n + 1, d⟩ : Shape).Idx) = (Finset.univ : Finset (Fin K)).biUnion fun k => rowsAt w k.val := by
  ext i
  simp only [Finset.mem_univ, Finset.mem_biUnion, true_and, true_iff]
  have h : (i 0).val < d 0 := (i 0).isLt
  rw [hK] at h
  exact ⟨⟨(i 0).val / w, Nat.div_lt_of_lt_mul h⟩, mem_rowsAt.mpr rfl⟩

/-- What a view writes from what it reads off `g` is `g` on its elements. -/
theorem write_read_on {sg : RefSig} {κ : Kind} {sp : Space} {s : Shape} {e : EltTy} {Val : EltTy → Type} (v : View sg κ sp s e)
    (fd g : v.ty.Contents Val) (w : s.Idx → Val e) (hw : v.read Val g = w) :
    ∀ i ∈ v.set, v.write Val fd w Finset.univ i = g i := by
  intro i hi
  subst hw
  rw [View.write_read_eq_piecewise, Finset.piecewise_eq_of_mem]
  exact hi

end Cert.SparseAttn

end
-- ==== Proof.Contents.lean ====
/-
What each buffer holds.

The devices are numbered around a ring of sixteen. An even device `c` stages, for every offset `o`, the block of four
heads that device `c + o` works on (`KST`, `VST`), and sends it there; device `d` thus gathers one slot per even device
(`RBK`, `RBV`). Every device forms a partial product (`PB`), of which chunk `d` goes to device `d` (`ACC`); `d` adds the
sixteen chunks up (`RED`), and the sums are gathered by everyone (`GATH`).
-/
module

public import proofs.«01_k».proof.Proof.Rows

@[expose] public section

noncomputable section

namespace Cert.SparseAttn

open Cert.KernelIdeal Cert.KernelIdeal.Gen
open Idealize.ShloMosaic

variable {F : FTy → Type} [FloatOps F]

/-- The device `o` places after `c`, and the number of places from `c` to `d`. -/
def sh (c : Dev nD) (o : Fin 16) : Dev nD := ⟨(c.val + o.val) % 16, Nat.mod_lt _ (by decide)⟩
def df (c d : Dev nD) : Fin 16 := ⟨(d.val + 16 - c.val) % 16, Nat.mod_lt _ (by decide)⟩

theorem sh_df (c d : Dev nD) : sh c (df c d) = d := by revert c d; decide +kernel
theorem df_sh (c : Dev nD) (o : Fin 16) : df c (sh c o) = o := by revert c o; decide +kernel
theorem df_zero {c d : Dev nD} : df c d = 0 ↔ c = d := by revert c d; decide +kernel
theorem sh_zero (c : Dev nD) : sh c 0 = c := by revert c; decide +kernel
theorem sh_inj {c : Dev nD} {o o' : Fin 16} (h : sh c o = sh c o') : o = o' := by rw [← df_sh c o, h, df_sh]

/-- What the devices are given: the activations, their columns of the query weights, their rows of keys and values,
    their rows of the output weights. -/
structure Inputs (F : FTy → Type) where
  x : Dev nD → Vec F S2x128x512 .f32
  wq : Dev nD → Vec F S512x256 .f32
  k : Dev nD → Vec F S2x128x64x64 .f32
  v : Dev nD → Vec F S2x128x64x64 .f32
  wo : Dev nD → Vec F S256x512 .f32

theorem head_inb (e : Dev nD) : ∀ a, (![0, 0, 4 * e.val, 0] : Fin 4 → ℕ) a + S2x128x4x64.size a ≤ S2x128x64x64.size a := by
  revert e; decide

/-- Heads `4 e … 4 e + 3`. -/
def heads (X : Vec F S2x128x64x64 .f32) (e : Dev nD) : Vec F S2x128x4x64 .f32 :=
  fun j => X ((Rect.unit (s := S2x128x64x64) ![0, 0, 4 * e.val, 0] S2x128x4x64.size (head_inb e)).emb j)

/-- An index of a stack with its slot replaced by `0`. -/
def inSlot {n a : ℕ} {d : Fin n → ℕ} (i : (⟨n + 1, Matrix.vecCons a d⟩ : Shape).Idx) : (⟨n + 1, Matrix.vecCons 1 d⟩ : Shape).Idx :=
  fun b => Fin.cases (motive := fun b => Fin (Matrix.vecCons 1 d b)) ⟨0, Nat.one_pos⟩ (fun b => i b.succ) b

/-- An index of a stack with its slot replaced by `k`. -/
def withSlot {n a b : ℕ} {d : Fin n → ℕ} (k : Fin b) (i : (⟨n + 1, Matrix.vecCons a d⟩ : Shape).Idx) : (⟨n + 1, Matrix.vecCons b d⟩ : Shape).Idx :=
  fun x => Fin.cases (motive := fun x => Fin (Matrix.vecCons b d x)) k (fun x => i x.succ) x

/-- The staged blocks of device `c`: slot `o` the heads of device `c + o`. -/
def KST (X : Dev nD → Vec F S2x128x64x64 .f32) (c : Dev nD) : Vec F S16x2x128x4x64 .bf16 :=
  fun i => k0_pay2 (heads (X c) (sh c (i 0))) (inSlot i)

/-- The even device that fills slot `s`. -/
def srcOf (s : Fin 8) : Dev nD := ⟨2 * s.val, by have := s.isLt; show _ < 16; omega⟩

/-- The blocks device `d` gathers: slot `s` what device `2 s` staged for it. -/
def RBK (X : Dev nD → Vec F S2x128x64x64 .f32) (d : Dev nD) : Vec F S8x2x128x4x64 .bf16 :=
  fun i => KST X (srcOf (i 0)) (withSlot (b := 16) (df (srcOf (i 0)) d) i)

/-- The partial products' chunks device `d` collects: slot `j` from device `j`. -/
def ACC (PB : Dev nD → Vec F S256x512 .bf16) (d : Dev nD) : Vec F S16x16x512 .bf16 :=
  fun i => PB (i 0 : Fin 16) fun | ⟨0, _⟩ => ⟨16 * d.val + (i 1).val, by have h := d.isLt; have h' : (i 1).val < 16 := (i 1).isLt; show _ < 256; change d.val < 16 at h; omega⟩ | ⟨1, _⟩ => i 2

/-- The sum over the devices of chunk `d`. -/
def RED (PB : Dev nD → Vec F S256x512 .bf16) (d : Dev nD) : Vec F S16x512 .bf16 := k0_pay213 (ACC PB d)

/-- All the sums: slot `j` device `j`'s. -/
def GATH (PB : Dev nD → Vec F S256x512 .bf16) : Vec F S16x16x512 .bf16 :=
  fun i => RED PB (i 0 : Fin 16) fun | ⟨0, _⟩ => i 1 | ⟨1, _⟩ => i 2

/-! ## The views -/

abbrev kstM : Memref sig .tc .vmem S16x2x128x4x64 .bf16 := Memref.whole cc0_scratch0
abbrev vstM : Memref sig .tc .vmem S16x2x128x4x64 .bf16 := Memref.whole cc0_scratch1
abbrev rbkM : Memref sig .tc .vmem S8x2x128x4x64 .bf16 := Memref.whole cc0_scratch2
abbrev rbvM : Memref sig .tc .vmem S8x2x128x4x64 .bf16 := Memref.whole cc0_scratch3
abbrev pbM : Memref sig .tc .vmem S256x512 .bf16 := Memref.whole cc0_scratch4
abbrev accM : Memref sig .tc .vmem S16x16x512 .bf16 := Memref.whole cc0_scratch5
abbrev redM : Memref sig .tc .vmem S16x512 .bf16 := Memref.whole cc0_scratch6
abbrev gathM : Memref sig .tc .vmem S16x16x512 .bf16 := Memref.whole cc0_scratch7

/-- Slot of a staging buffer, of a gathering buffer, of a stack of chunks; a chunk of the partial product. -/
abbrev stSlot (M : Memref sig .tc .vmem S16x2x128x4x64 .bf16) (off : Fin 5 → ℕ) (inb : ∀ a, off a + S1x2x128x4x64.size a ≤ S16x2x128x4x64.size a) : Memref sig .tc .vmem S2x128x4x64 .bf16 :=
  (M.slice (Rect.unit (s := S16x2x128x4x64) off S1x2x128x4x64.size inb) (fun _ => rfl)).squeeze S2x128x4x64 squeezes_S1x2x128x4x64_S2x128x4x64
abbrev rbSlot (M : Memref sig .tc .vmem S8x2x128x4x64 .bf16) (off : Fin 5 → ℕ) (inb : ∀ a, off a + S1x2x128x4x64.size a ≤ S8x2x128x4x64.size a) : Memref sig .tc .vmem S2x128x4x64 .bf16 :=
  (M.slice (Rect.unit (s := S8x2x128x4x64) off S1x2x128x4x64.size inb) (fun _ => rfl)).squeeze S2x128x4x64 squeezes_S1x2x128x4x64_S2x128x4x64
abbrev stkSlot (M : Memref sig .tc .vmem S16x16x512 .bf16) (off : Fin 3 → ℕ) (inb : ∀ a, off a + S1x16x512.size a ≤ S16x16x512.size a) : Memref sig .tc .vmem S16x512 .bf16 :=
  (M.slice (Rect.unit (s := S16x16x512) off S1x16x512.size inb) (fun _ => rfl)).squeeze S16x512 squeezes_S1x16x512_S16x512
abbrev chunk (M : Memref sig .tc .vmem S256x512 .bf16) (off : Fin 2 → ℕ) (inb : ∀ a, off a + S16x512.size a ≤ S256x512.size a) : Memref sig .tc .vmem S16x512 .bf16 :=
  M.slice (Rect.unit (s := S256x512) off S16x512.size inb) (fun _ => rfl)

theorem set_kst (off inb) (k : ℕ) (h : off 0 = k) : (stSlot kstM off inb).view.set = rowsAt 1 k := by
  simp only [Memref.view_squeeze, Memref.view_slice, View.set_reshape]
  exact (View.set_slice_whole cc0_scratch0 _).trans (set_rows off _ inb 1 k Nat.one_pos (by rw [h, Nat.one_mul]) rfl (by decide))
theorem set_vst (off inb) (k : ℕ) (h : off 0 = k) : (stSlot vstM off inb).view.set = rowsAt 1 k := by
  simp only [Memref.view_squeeze, Memref.view_slice, View.set_reshape]
  exact (View.set_slice_whole cc0_scratch1 _).trans (set_rows off _ inb 1 k Nat.one_pos (by rw [h, Nat.one_mul]) rfl (by decide))
theorem set_rbk (off inb) (k : ℕ) (h : off 0 = k) : (rbSlot rbkM off inb).view.set = rowsAt 1 k := by
  simp only [Memref.view_squeeze, Memref.view_slice, View.set_reshape]
  exact (View.set_slice_whole cc0_scratch2 _).trans (set_rows off _ inb 1 k Nat.one_pos (by rw [h, Nat.one_mul]) rfl (by decide))
theorem set_rbv (off inb) (k : ℕ) (h : off 0 = k) : (rbSlot rbvM off inb).view.set = rowsAt 1 k := by
  simp only [Memref.view_squeeze, Memref.view_slice, View.set_reshape]
  exact (View.set_slice_whole cc0_scratch3 _).trans (set_rows off _ inb 1 k Nat.one_pos (by rw [h, Nat.one_mul]) rfl (by decide))
theorem set_pb (off inb) (k : ℕ) (h : off 0 = 16 * k) : (chunk pbM off inb).view.set = rowsAt 16 k :=
  (View.set_slice_whole cc0_scratch4 _).trans (set_rows off _ inb 16 k (by decide) h rfl (by decide))
theorem set_acc (off inb) (k : ℕ) (h : off 0 = k) : (stkSlot accM off inb).view.set = rowsAt 1 k := by
  simp only [Memref.view_squeeze, Memref.view_slice, View.set_reshape]
  exact (View.set_slice_whole cc0_scratch5 _).trans (set_rows off _ inb 1 k Nat.one_pos (by rw [h, Nat.one_mul]) rfl (by decide))
theorem set_gath (off inb) (k : ℕ) (h : off 0 = k) : (stkSlot gathM off inb).view.set = rowsAt 1 k := by
  simp only [Memref.view_squeeze, Memref.view_slice, View.set_reshape]
  exact (View.set_slice_whole cc0_scratch7 _).trans (set_rows off _ inb 1 k Nat.one_pos (by rw [h, Nat.one_mul]) rfl (by decide))

/-! ## What a landing leaves -/

/-- Off the first axis a slot's offsets are zero. -/
theorem off_zero {n : ℕ} {d off size : Fin (n + 1) → ℕ} (inb : ∀ a, off a + size a ≤ d a) (a : Fin n) (h : size a.succ = d a.succ) : off a.succ = 0 := by
  have := inb a.succ; omega

/-- Device `2 s` sending slot `o` of its staged keys into slot `s` of device `2 s + o`. -/
theorem land_rbk (X : Dev nD → Vec F S2x128x64x64 .f32) (d : Dev nD) (s : Fin 8) (o : Fin 16)
    (hd : sh (srcOf s) o = d)
    (offS inbS offD inbD) (hS : offS 0 = o.val) (hD : offD 0 = s.val) :
    (rbSlot rbkM offD inbD).view.read (Elt F) (RBK X d) = (stSlot kstM offS inbS).view.read (Elt F) (KST X (srcOf s)) := by
  funext x
  show RBK X d ((Rect.unit (s := S8x2x128x4x64) offD S1x2x128x4x64.size inbD).emb (Shape.reshapeEquiv squeezes_S1x2x128x4x64_S2x128x4x64.numel_eq x))
    = KST X (srcOf s) ((Rect.unit (s := S16x2x128x4x64) offS S1x2x128x4x64.size inbS).emb (Shape.reshapeEquiv squeezes_S1x2x128x4x64_S2x128x4x64.numel_eq x))
  generalize Shape.reshapeEquiv squeezes_S1x2x128x4x64_S2x128x4x64.numel_eq x = y
  have y0 : (y 0).val = 0 := by have : (y 0).val < 1 := (y 0).isLt; omega
  have h0 : ((Rect.unit (s := S8x2x128x4x64) offD S1x2x128x4x64.size inbD).emb y) 0 = s := Fin.ext (by
    show offD 0 + 1 * (y 0).val = _; omega)
  unfold RBK
  rw [h0]
  congr 1
  funext a
  refine Fin.cases ?_ (fun a => ?_) a
  · apply Fin.ext
    show (df (srcOf s) d).val = offS 0 + 1 * (y 0).val
    have : (df (srcOf s) d) = o := by rw [← hd]; exact df_sh _ _
    rw [this]; omega
  · apply Fin.ext
    show offD a.succ + 1 * (y a.succ).val = offS a.succ + 1 * (y a.succ).val
    have h1 : offS a.succ = 0 := off_zero inbS a ((by decide : ∀ a : Fin 4, S1x2x128x4x64.size a.succ = S16x2x128x4x64.size a.succ) a)
    have h2 : offD a.succ = 0 := off_zero inbD a ((by decide : ∀ a : Fin 4, S1x2x128x4x64.size a.succ = S8x2x128x4x64.size a.succ) a)
    omega

theorem land_rbv (X : Dev nD → Vec F S2x128x64x64 .f32) (d : Dev nD) (s : Fin 8) (o : Fin 16)
    (hd : sh (srcOf s) o = d)
    (offS inbS offD inbD) (hS : offS 0 = o.val) (hD : offD 0 = s.val) :
    (rbSlot rbvM offD inbD).view.read (Elt F) (RBK X d) = (stSlot vstM offS inbS).view.read (Elt F) (KST X (srcOf s)) :=
  land_rbk X d s o hd offS inbS offD inbD hS hD

/-- Device `c` sending chunk `d` of its partial product into slot `c` of device `d`. -/
theorem land_acc (PB : Dev nD → Vec F S256x512 .bf16) (c d : Dev nD) (offS inbS offD inbD)
    (hS : offS 0 = 16 * d.val) (hD : offD 0 = c.val) :
    (stkSlot accM offD inbD).view.read (Elt F) (ACC PB d) = (chunk pbM offS inbS).view.read (Elt F) (PB c) := by
  funext x
  show ACC PB d ((Rect.unit (s := S16x16x512) offD S1x16x512.size inbD).emb (Shape.reshapeEquiv squeezes_S1x16x512_S16x512.numel_eq x))
    = PB c ((Rect.unit (s := S256x512) offS S16x512.size inbS).emb x)
  rw [Shape.reshapeEquiv_cons_one (n := 2) (d := ![16, 512])]
  have h0 : ((Rect.unit (s := S16x16x512) offD S1x16x512.size inbD).emb (Fin.cons ⟨0, Nat.one_pos⟩ x : (⟨2 + 1, Matrix.vecCons 1 ![16, 512]⟩ : Shape).Idx)) 0 = c := Fin.ext (by
    show offD 0 + 1 * 0 = _; omega)
  unfold ACC
  rw [h0]
  congr 1
  have d1 : offD (Fin.succ 0) = 0 := off_zero inbD 0 (by decide)
  have d2 : offD (Fin.succ 1) = 0 := off_zero inbD 1 (by decide)
  have s1 : offS (Fin.succ 0) = 0 := off_zero inbS 0 (by decide)
  funext a
  apply Fin.ext
  match a with
  | ⟨0, _⟩ =>
    show 16 * d.val + (offD (Fin.succ 0) + 1 * (x 0).val) = offS 0 + 1 * (x 0).val
    omega
  | ⟨1, _⟩ =>
    show offD (Fin.succ 1) + 1 * (x 1).val = offS (Fin.succ 0) + 1 * (x 1).val
    omega

/-- Device `c` sending its sum into slot `c` of another. -/
theorem land_gath (PB : Dev nD → Vec F S256x512 .bf16) (c : Dev nD) (offD inbD) (hD : offD 0 = c.val) :
    (stkSlot gathM offD inbD).view.read (Elt F) (GATH PB) = redM.view.read (Elt F) (RED PB c) := by
  funext x
  show GATH PB ((Rect.unit (s := S16x16x512) offD S1x16x512.size inbD).emb (Shape.reshapeEquiv squeezes_S1x16x512_S16x512.numel_eq x))
    = RED PB c x
  rw [Shape.reshapeEquiv_cons_one (n := 2) (d := ![16, 512])]
  have h0 : ((Rect.unit (s := S16x16x512) offD S1x16x512.size inbD).emb (Fin.cons ⟨0, Nat.one_pos⟩ x : (⟨2 + 1, Matrix.vecCons 1 ![16, 512]⟩ : Shape).Idx)) 0 = c := Fin.ext (by
    show offD 0 + 1 * 0 = _; omega)
  unfold GATH
  rw [h0]
  congr 1
  have d1 : offD (Fin.succ 0) = 0 := off_zero inbD 0 (by decide)
  have d2 : offD (Fin.succ 1) = 0 := off_zero inbD 1 (by decide)
  funext a
  apply Fin.ext
  match a with
  | ⟨0, _⟩ =>
    show offD (Fin.succ 0) + 1 * (x 0).val = (x 0).val
    omega
  | ⟨1, _⟩ =>
    show offD (Fin.succ 1) + 1 * (x 1).val = (x 1).val
    omega

end Cert.SparseAttn

end
-- ==== Proof.Protocol.lean ====
/-
The protocol of the semaphores.

Each device has one barrier cell and eight arrays of sixteen transfer cells; every cell has one round.

* The barrier cell of `c`: the fifteen others signal it once each, `c` waits for fifteen. `d`'s signal hands `c` the
  places of `d` that `c` will write: slot `c` of `d`'s chunk stack and of `d`'s stack of sums and, if `c` is even, slot
  `c / 2` of `d`'s gathered keys and values.
* Arrays 0, 1 (keys, values arriving): entry `j` of `d` is credited by the transfer of the even device `j`; it hands `d`
  slot `j / 2` of its gathered keys (values) holding what `j` staged for `d`.
* Array 2 (chunks arriving): entry `j` of `d` hands `d` slot `j` of its chunk stack holding chunk `d` of `j`'s product.
* Array 3 (sums arriving): entry `j` of `d` hands `d` slot `j` of its stack of sums holding `j`'s sum.
* Arrays 4, 5, 6, 7 (the sender's side of the transfers into arrays 0, 1, 2, 3): entry `d` of `c` gives `c` back the slot,
  chunk or share that the transfer to `d` read.

A device signals first, waits on its barrier, starts its transfers of keys and values, waits for those that arrive, forms
its product, starts the transfers of its chunks, waits for those that arrive, adds up, starts the transfers of its sum,
waits for those that arrive: each wait is below all that the device still owes.
-/
module

public import proofs.«01_k».proof.Proof.Contents
public import proofs.«01_k».proof.Proof.Gen.KernelIdeal.Launch

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The cells -/

/-- A cell of a device: the barrier, or entry `j` of array `a`. -/
abbrev K : Type := Option (Fin 8 × Dev nD)

abbrev barS : Sem sig := (SemArray.scalar (sig.barrier 0 rfl) : Sems sig S_).sem

def dsem (a : Fin 8) (j : Dev nD) : DmaSem sig :=
  ⟨6 + 16 * a.val + j.val, by have h := j.isLt; have := a.isLt; change j.val < 16 at h; show _ < 134; omega⟩

def csem : K → SemLoc sig
  | none => .reg barS
  | some (a, j) => .dma (dsem a j)

abbrev cell (c : Dev nD) (k : K) : GSem nD τ sig := ((c : Thread nD τ), csem k)
abbrev bar (c : Dev nD) : GSem nD τ sig := cell c none
abbrev xf (c : Dev nD) (a : Fin 8) (j : Dev nD) : GSem nD τ sig := cell c (some (a, j))

/-- The cell a semaphore is. -/
def code : SemLoc sig → Option K
  | .reg s => if s = barS then some none else none
  | .dma n => if h : 6 ≤ n.val then some (some (⟨(n.val - 6) / 16, by have : n.val < 134 := n.isLt; omega⟩,
      ⟨(n.val - 6) % 16, Nat.mod_lt _ (by decide)⟩)) else none

theorem code_csem (k : K) : code (csem k) = some k := by
  cases k with
  | none => unfold csem code; exact if_pos rfl
  | some p =>
    obtain ⟨a, j⟩ := p
    have h : j.val < 16 := j.isLt
    have h6 : 6 ≤ (dsem a j).val := by show 6 ≤ 6 + 16 * a.val + j.val; omega
    show (if h : 6 ≤ (dsem a j).val then _ else _) = _
    rw [dif_pos h6]
    have e : (dsem a j).val = 6 + 16 * a.val + j.val := rfl
    congr 3
    · apply Fin.ext; show ((dsem a j).val - 6) / 16 = a.val; omega
    · apply Fin.ext; show ((dsem a j).val - 6) % 16 = j.val; omega

theorem csem_inj : Function.Injective csem := fun k k' h => by
  have := code_csem k; rw [h, code_csem] at this; exact (Option.some.inj this).symm

theorem cell_inj {c c' : Dev nD} {k k' : K} (h : cell c k = cell c' k') : c = c' ∧ k = k' :=
  ⟨congrArg (fun g : GSem nD τ sig => g.1.1) h, csem_inj (congrArg (fun g : GSem nD τ sig => g.2) h)⟩

/-! ## Places -/

/-- Device `c` sends keys and values. -/
abbrev ev (c : Dev nD) : Prop := c.val % 2 = 0

/-- The slot that `c` fills in another device's gathered keys and values; none if `c` is odd. -/
def rbRows (c : Dev nD) : Finset S8x2x128x4x64.Idx := if ev c then rowsAt 1 (c.val / 2) else ∅

section Pts
variable (c : Dev nD) (q : PosShare TreeShare)
abbrev kstP (S : Finset S16x2x128x4x64.Idx) (f : Vec F S16x2x128x4x64 .bf16) : sProp 𝕄 := ((c : Thread nD τ).loc cc0_scratch0) ↦[S]{q} f
abbrev vstP (S : Finset S16x2x128x4x64.Idx) (f : Vec F S16x2x128x4x64 .bf16) : sProp 𝕄 := ((c : Thread nD τ).loc cc0_scratch1) ↦[S]{q} f
abbrev rbkP (S : Finset S8x2x128x4x64.Idx) (f : Vec F S8x2x128x4x64 .bf16) : sProp 𝕄 := ((c : Thread nD τ).loc cc0_scratch2) ↦[S]{q} f
abbrev rbvP (S : Finset S8x2x128x4x64.Idx) (f : Vec F S8x2x128x4x64 .bf16) : sProp 𝕄 := ((c : Thread nD τ).loc cc0_scratch3) ↦[S]{q} f
abbrev pbP (S : Finset S256x512.Idx) (f : Vec F S256x512 .bf16) : sProp 𝕄 := ((c : Thread nD τ).loc cc0_scratch4) ↦[S]{q} f
abbrev accP (S : Finset S16x16x512.Idx) (f : Vec F S16x16x512 .bf16) : sProp 𝕄 := ((c : Thread nD τ).loc cc0_scratch5) ↦[S]{q} f
abbrev redP (S : Finset S16x512.Idx) (f : Vec F S16x512 .bf16) : sProp 𝕄 := ((c : Thread nD τ).loc cc0_scratch6) ↦[S]{q} f
abbrev gathP (S : Finset S16x16x512.Idx) (f : Vec F S16x16x512 .bf16) : sProp 𝕄 := ((c : Thread nD τ).loc cc0_scratch7) ↦[S]{q} f
end Pts

/-- The places of `d` that `c` writes. -/
def placeK (d c : Dev nD) : sProp 𝕄 := iprop(∃ f : Vec F S8x2x128x4x64 .bf16, rbkP d fullShare (rbRows c) f)
def placeV (d c : Dev nD) : sProp 𝕄 := iprop(∃ f : Vec F S8x2x128x4x64 .bf16, rbvP d fullShare (rbRows c) f)
def placeA (d c : Dev nD) : sProp 𝕄 := iprop(∃ f : Vec F S16x16x512 .bf16, accP d fullShare (rowsAt 1 c.val) f)
def placeG (d c : Dev nD) : sProp 𝕄 := iprop(∃ f : Vec F S16x16x512 .bf16, gathP d fullShare (rowsAt 1 c.val) f)

def barPay (c d : Dev nD) : sProp 𝕄 := iprop(placeK (F := F) d c ∗ placeV (F := F) d c ∗ placeA (F := F) d c ∗ placeG (F := F) d c)

variable (I : Inputs F) (PB : Dev nD → Vec F S256x512 .bf16)

/-- What a transfer cell hands over. -/
def xfPay (c : Dev nD) (a : Fin 8) (j : Dev nD) : sProp 𝕄 :=
  match a with
  | 0 => rbkP c fullShare (rbRows j) (RBK I.k c)
  | 1 => rbvP c fullShare (rbRows j) (RBK I.v c)
  | 2 => accP c fullShare (rowsAt 1 j.val) (ACC PB c)
  | 3 => gathP c fullShare (rowsAt 1 j.val) (GATH PB)
  | 4 => kstP c fullShare (rowsAt 1 (df c j).val) (KST I.k c)
  | 5 => vstP c fullShare (rowsAt 1 (df c j).val) (KST I.v c)
  | 6 => pbP c fullShare (rowsAt 16 j.val) (PB c)
  | 7 => redP c (Transfers.shareTok fullShare 16 (df c j)) Finset.univ (RED PB c)

/-- Whether a transfer cell is used. -/
def act (c : Dev nD) (a : Fin 8) (j : Dev nD) : Prop :=
  j ≠ c ∧ ((a = 0 ∨ a = 1) → ev j) ∧ ((a = 4 ∨ a = 5) → ev c)

instance (c a j) : Decidable (act c a j) := by unfold act; infer_instance

theorem zero_inb5 : ∀ a, (![0, 0, 0, 0, 0] : Fin 5 → ℕ) a + S1x2x128x4x64.size a ≤ S16x2x128x4x64.size a := by decide

/-- The credit of a transfer of a slot of keys, of a chunk. -/
abbrev NK : ℕ := (stSlot kstM ![0, 0, 0, 0, 0] zero_inb5).view.dmaCredit
abbrev NC : ℕ := (redM : Memref sig .tc .vmem S16x512 .bf16).view.dmaCredit
theorem NK_pos : 0 < NK := View.dmaCredit_pos _ (by decide)
theorem NC_pos : 0 < NC := View.dmaCredit_pos _ (by decide)

def amt : Fin 8 → ℕ
  | 0 | 1 | 4 | 5 => NK
  | 2 | 3 | 6 | 7 => NC
theorem amt_pos (a : Fin 8) : 0 < amt a := by
  fin_cases a <;> first | exact NK_pos | exact NC_pos

def Rd : Rounds.Schedule (GSem nD τ sig) (Dev nD) 𝕄 where
  duties g r := if r = 0 ∧ g.1.2 = .tc then
      (match code g.2 with
        | none => ∅
        | some none => Finset.univ.erase g.1.1
        | some (some (a, j)) => if act g.1.1 a j then {j} else ∅)
    else ∅
  unitless _ := False
  amount g _ _ := match code g.2 with
    | some (some (a, _)) => amt a
    | _ => 1
  payload g _ d := match code g.2 with
    | none => iprop(emp)
    | some none => barPay g.1.1 d
    | some (some (a, j)) => xfPay I PB g.1.1 a j
  amount_pos g _ _ _ := by
    split
    · exact amt_pos _
    · exact Nat.one_pos

instance Rd_storable (g : GSem nD τ sig) (r : ℕ) (d : Dev nD) :
    BI.Storable (upEmb : UEmb _ 𝕄) ((Rd I PB).payload g r d) := by
  show BI.Storable upEmb (match code g.2 with
    | none => iprop(emp)
    | some none => barPay g.1.1 d
    | some (some (a, j)) => xfPay I PB g.1.1 a j)
  split
  · infer_instance
  · unfold barPay placeK placeV placeA placeG; infer_instance
  · unfold xfPay; split <;> infer_instance

theorem duties_bar (c : Dev nD) : (Rd I PB).duties (bar c) 0 = Finset.univ.erase c := by
  dsimp only [Rd]; rw [if_pos ⟨rfl, rfl⟩, code_csem]
theorem duties_xf {c : Dev nD} {a : Fin 8} {j : Dev nD} (h : act c a j) : (Rd I PB).duties (xf c a j) 0 = {j} := by
  dsimp only [Rd]; rw [if_pos ⟨rfl, rfl⟩, code_csem]; exact if_pos h
theorem duties_idle {c : Dev nD} {a : Fin 8} {j : Dev nD} (h : ¬ act c a j) (r : ℕ) : (Rd I PB).duties (xf c a j) r = ∅ := by
  dsimp only [Rd]
  by_cases hr : r = 0
  · rw [if_pos ⟨hr, rfl⟩, code_csem]; exact if_neg h
  · exact if_neg fun h' => hr h'.1
theorem duties_later (g : GSem nD τ sig) : ∀ r, 1 ≤ r → (Rd I PB).duties g r = ∅ :=
  fun r hr => by dsimp only [Rd]; exact if_neg fun h => by omega

theorem amount_bar (c d : Dev nD) (r : ℕ) : (Rd I PB).amount (bar c) r d = 1 := by dsimp only [Rd]; rw [code_csem]
theorem amount_xf (c : Dev nD) (a : Fin 8) (j d : Dev nD) (r : ℕ) : (Rd I PB).amount (xf c a j) r d = amt a := by
  dsimp only [Rd]; rw [code_csem]
theorem payload_bar (c d : Dev nD) (r : ℕ) : (Rd I PB).payload (bar c) r d = barPay c d := by dsimp only [Rd]; rw [code_csem]
theorem payload_xf (c : Dev nD) (a : Fin 8) (j d : Dev nD) (r : ℕ) : (Rd I PB).payload (xf c a j) r d = xfPay I PB c a j := by
  dsimp only [Rd]; rw [code_csem]

theorem expect_bar (c : Dev nD) : (Rd I PB).expect (bar c) 0 = 15 := by
  unfold Schedule.expect Schedule.amountOf
  rw [duties_bar, Finset.sum_congr rfl fun d _ => amount_bar I PB c d 0, Finset.sum_const, smul_eq_mul,
    Finset.card_erase_of_mem (Finset.mem_univ _)]
  rfl
theorem expect_xf {c : Dev nD} {a : Fin 8} {j : Dev nD} (h : act c a j) : (Rd I PB).expect (xf c a j) 0 = amt a := by
  unfold Schedule.expect Schedule.amountOf; rw [duties_xf I PB h, Finset.sum_singleton, amount_xf]

theorem rest_bar (c : Dev nD) : bigSep ((Rd I PB).duties (bar c) 0 \ ∅) (fun d => (Rd I PB).payload (bar c) 0 d)
    = bigSep (Finset.univ.erase c) (fun d => barPay c d) := by
  rw [Finset.sdiff_empty, duties_bar]; congr 1
theorem rest_xf {c : Dev nD} {a : Fin 8} {j : Dev nD} (h : act c a j) :
    bigSep ((Rd I PB).duties (xf c a j) 0 \ ∅) (fun d => (Rd I PB).payload (xf c a j) 0 d) = xfPay I PB c a j := by
  rw [Finset.sdiff_empty, duties_xf I PB h, bigSep_singleton, payload_xf]

/-! ## Levels -/

def L (g : GSem nD τ sig) : Finset Unit := if g.1.2 = .tc then {()} else ∅
def lvK : Option K → ℕ
  | some none => 1
  | some (some (a, _)) => if a = 0 ∨ a = 1 then 2 else if a = 2 then 3 else if a = 3 then 4 else 0
  | none => 0
def lv (g : GSem nD τ sig) (_ : Unit) : ℕ := lvK (code g.2)

theorem L_of_ne (g : GSem nD τ sig) (h : g.1.2 ≠ .tc) : L g = ∅ := if_neg h
theorem L_tc (c : Dev nD) (sm : SemLoc sig) : L ((c : Thread nD τ), sm) = {()} := if_pos rfl
theorem lv_cell (c : Dev nD) (k : K) (u : Unit) : lv (cell c k) u = lvK (some k) := by unfold lv; rw [code_csem]

/-! ## What is owed -/

/-- The sum of a family over the places `k` and after. -/
def rem {M : Type} [AddCommMonoid M] (k : ℕ) (f : Fin 16 → M) : M := ∑ o ∈ Finset.univ.filter (fun o : Fin 16 => k ≤ o.val), f o

theorem rem_step {M : Type} [AddCommMonoid M] (f : Fin 16 → M) (o : Fin 16) : rem o.val f = rem (o.val + 1) f + f o := by
  unfold rem
  rw [show (Finset.univ.filter fun p : Fin 16 => o.val ≤ p.val) = insert o (Finset.univ.filter fun p : Fin 16 => o.val + 1 ≤ p.val) from by
      ext p; simp only [Finset.mem_filter, Finset.mem_univ, true_and, Finset.mem_insert, Fin.ext_iff]; omega,
    Finset.sum_insert (by simp), add_comm]
theorem rem_end {M : Type} [AddCommMonoid M] (f : Fin 16 → M) : rem 16 f = 0 := by
  unfold rem; exact Finset.sum_eq_zero fun p hp => by have := p.isLt; have := (Finset.mem_filter.mp hp).2; omega

def owB (c : Dev nD) (o : Fin 16) : CellTallies nD τ sig Unit := tallyAt (bar (sh c o)) () 1
def owK (c : Dev nD) (o : Fin 16) : CellTallies nD τ sig Unit :=
  if ev c then tallyAt (xf (sh c o) 1 c) () NK + tallyAt (xf (sh c o) 0 c) () NK else 0
def owR (c : Dev nD) (o : Fin 16) : CellTallies nD τ sig Unit := tallyAt (xf (sh c o) 2 c) () NC
def owG (c : Dev nD) (o : Fin 16) : CellTallies nD τ sig Unit := tallyAt (xf (sh c o) 3 c) () NC

/-- What device `c` still owes: the sums from place `g`, the chunks from place `r`, the keys and values from place `k`, the
    signals from place `b` on. -/
def owed (c : Dev nD) (b k r g : ℕ) : CellTallies nD τ sig Unit := rem g (owG c) + rem r (owR c) + rem k (owK c) + rem b (owB c)

def O₀ (c : Dev nD) : CellTallies nD τ sig Unit := owed c 1 1 1 1

theorem rem_pos {f : Fin 16 → CellTallies nD τ sig Unit} {k : ℕ} {g : GSem nD τ sig} {u : Unit} (h : 0 < rem k f g u) :
    ∃ o : Fin 16, k ≤ o.val ∧ 0 < f o g u := by
  unfold rem at h
  rw [Finset.sum_apply, Finsupp.finsetSum_apply] at h
  obtain ⟨o, ho, hne⟩ := Finset.exists_ne_zero_of_sum_ne_zero (Nat.pos_iff_ne_zero.mp h)
  exact ⟨o, (Finset.mem_filter.mp ho).2, Nat.pos_of_ne_zero hne⟩

theorem tallyAt_pos {g g' : GSem nD τ sig} {n : ℕ} {u : Unit} (h : 0 < (tallyAt g () n : CellTallies nD τ sig Unit) g' u) : g' = g := by
  rw [tallyAt_apply] at h
  by_contra hn
  rw [if_neg fun h' => hn h'.1] at h
  exact Nat.lt_irrefl 0 h

/-- A cell that is owed, and the lowest level it can have. -/
theorem owed_pos {c : Dev nD} {b k r g : ℕ} {x : GSem nD τ sig} {u : Unit} (h : 0 < owed c b k r g x u) :
    ∃ (d : Dev nD) (κ : K), x = cell d κ ∧ ((κ = none ∧ b < 16) ∨ ((κ = some (0, c) ∨ κ = some (1, c)) ∧ k < 16)
      ∨ (κ = some (2, c) ∧ r < 16) ∨ (κ = some (3, c) ∧ g < 16)) := by
  unfold owed at h
  simp only [Pi.add_apply, Finsupp.add_apply] at h
  rcases Nat.eq_zero_or_pos (rem g (owG c) x u) with h1 | h1
  · rcases Nat.eq_zero_or_pos (rem r (owR c) x u) with h2 | h2
    · rcases Nat.eq_zero_or_pos (rem k (owK c) x u) with h3 | h3
      · rw [h1, h2, h3] at h
        obtain ⟨o, ho, hp⟩ := rem_pos (f := owB c) (by simpa using h)
        exact ⟨sh c o, none, tallyAt_pos hp, .inl ⟨rfl, by have := o.isLt; omega⟩⟩
      · obtain ⟨o, ho, hp⟩ := rem_pos h3
        unfold owK at hp
        by_cases he : ev c
        · rw [if_pos he] at hp
          simp only [Pi.add_apply, Finsupp.add_apply] at hp
          rcases Nat.eq_zero_or_pos ((tallyAt (xf (sh c o) 1 c) () NK : CellTallies nD τ sig Unit) x u) with h4 | h4
          · rw [h4, Nat.zero_add] at hp
            exact ⟨sh c o, _, tallyAt_pos hp, .inr (.inl ⟨.inl rfl, by have := o.isLt; omega⟩)⟩
          · exact ⟨sh c o, _, tallyAt_pos h4, .inr (.inl ⟨.inr rfl, by have := o.isLt; omega⟩)⟩
        · rw [if_neg he] at hp; exact absurd hp (Nat.lt_irrefl 0)
    · obtain ⟨o, ho, hp⟩ := rem_pos h2
      exact ⟨sh c o, _, tallyAt_pos hp, .inr (.inr (.inl ⟨rfl, by have := o.isLt; omega⟩))⟩
  · obtain ⟨o, ho, hp⟩ := rem_pos h1
    exact ⟨sh c o, _, tallyAt_pos hp, .inr (.inr (.inr ⟨rfl, by have := o.isLt; omega⟩))⟩

/-- A wait at level `n` when all that is owed lies above `n`. -/
theorem mayWait (c : Dev nD) (sm : SemLoc sig) (n : ℕ) (hsm : lvK (code sm) ≤ n) (O : CellTallies nD τ sig Unit)
    (hO : ∀ x u, 0 < O x u → x.1.2 = .tc ∧ n < lv x u) :
    (levAts L lv : sProp 𝕄) ⊢ MayWait (c : Thread nD τ) sm () O :=
  MayOwe.of_cut (L := L) (lev := lv) n (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

/-- The same from the counts: `b`, `k`, `r`, `g` as far along as the level asks. -/
theorem mayWait_owed (c : Dev nD) (sm : SemLoc sig) (n : ℕ) (hsm : lvK (code sm) ≤ n) (b k r g : ℕ)
    (hb : 1 ≤ n → 16 ≤ b) (hk : 2 ≤ n → 16 ≤ k) (hr : 3 ≤ n → 16 ≤ r) (hg : 4 ≤ n → 16 ≤ g) :
    (levAts L lv : sProp 𝕄) ⊢ MayWait (c : Thread nD τ) sm () (owed c b k r g) :=
  mayWait c sm n hsm _ fun x u hx => by
    obtain ⟨d, κ, rfl, h⟩ := owed_pos hx
    refine ⟨rfl, ?_⟩
    rw [lv_cell]
    rcases h with ⟨rfl, h⟩ | ⟨rfl | rfl, h⟩ | ⟨rfl, h⟩ | ⟨rfl, h⟩ <;> simp only [lvK] <;> simp <;> omega

end Cert.SparseAttn

end
-- ==== Proof.Steps.lean ====
/-
One statement of each kind, at a symbolic device and place.

Every loop of the program is unrolled over the places `1 … 15` around the ring. `fam k A B` is a family over these places
of which those before `k` are done (`A`) and the others are not (`B`); each statement moves one place over.
-/
module

public import proofs.«01_k».proof.Proof.Protocol

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

abbrev 𝒱₀ : Variants := Variants.none

/-- A program run on device `c`. -/
abbrev run (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

theorem run_bind {c : Dev nD} {α β : Type} {p : Prog (TpuEff nD τ sig (Elt F) Λ₀ .tc) α}
    {k : α → Prog (TpuEff nD τ sig (Elt F) Λ₀ .tc) β} {P : sProp 𝕄} {S : α → sProp 𝕄} {Q : β → sProp 𝕄} (h : P ⊢ run c p S) :
    P ⊢ iprop((∀ r, S r -∗ run c (k r) Q) -∗ run c (p.bind k) Q) := by
  have e : run c (p.bind k) Q = run c p fun a => run c (k a) Q := wp_bind _ _ _ p k Q
  rw [e]
  iintro HP Hk
  iapply (wp_wand (Fr := frame) (wpE := wpE (defs₀ (F := F)) 𝒱₀ (c : Thread nD τ) none) (E := Set.univ)) $$ [HP]
  · iapply h; iexact HP
  · iexact Hk

theorem run_ret {c : Dev nD} {α : Type} {a : α} {Q : α → sProp 𝕄} : Q a ⊢ run c (.ret a) Q := by
  show Q a ⊢ wp frame (wpE (defs₀ (F := F)) 𝒱₀ (c : Thread nD τ) none) Set.univ (.ret a) Q
  rw [wp_ret]
  iintro H
  imodintro
  iexact H

/-- A part of the state that only the devices that send keys and values have. -/
def onlyEv (c : Dev nD) (X : sProp 𝕄) : sProp 𝕄 := if ev c then X else iprop(emp)
theorem onlyEv_pos {c : Dev nD} (h : ev c) (X : sProp 𝕄) : onlyEv c X = X := if_pos h
theorem onlyEv_neg {c : Dev nD} (h : ¬ ev c) (X : sProp 𝕄) : onlyEv c X = iprop(emp) := if_neg h

variable (I : Inputs F) (PB : Dev nD → Vec F S256x512 .bf16)

/-- The records every device holds: each cell's invariant, that its round is open, and the levels. -/
def recs (κ : Dev nD × K → ℕ) : sProp 𝕄 :=
  iprop(bigSep Finset.univ (fun p : Dev nD × K => cellInv ER (Rd I PB) (κ p) (cell p.1 p.2))
    ∗ bigSep Finset.univ (fun p : Dev nD × K => reached ER (cell p.1 p.2) 0) ∗ levAts L lv)

instance recs_persistent (κ) : BI.Persistent (recs I PB κ) := by unfold recs; infer_instance

variable {I PB} {κ : Dev nD × K → ℕ}

theorem recs_inv (c : Dev nD) (k : K) : recs I PB κ ⊢ cellInv ER (Rd I PB) (κ (c, k)) (cell c k) := by
  unfold recs
  iintro ⟨H, -, -⟩
  have h : bigSep Finset.univ (fun p : Dev nD × K => cellInv ER (Rd I PB) (κ p) (cell p.1 p.2)) ⊢ cellInv ER (Rd I PB) (κ (c, k)) (cell c k) := bigSep_elim (Finset.mem_univ (c, k))
  iapply h $$ H

theorem recs_reached (c : Dev nD) (k : K) : recs I PB κ ⊢ reached ER (cell c k) 0 := by
  unfold recs
  iintro ⟨-, H, -⟩
  have h : bigSep Finset.univ (fun p : Dev nD × K => (reached ER (cell p.1 p.2) 0 : sProp 𝕄)) ⊢ reached ER (cell c k) 0 := bigSep_elim (Finset.mem_univ (c, k))
  iapply h $$ H

theorem recs_lev : recs I PB κ ⊢ levAts L lv := by
  unfold recs; iintro ⟨-, -, H⟩; iexact H

theorem recs_wait (c : Dev nD) (k : K) (n : ℕ) (hl : lvK (some k) ≤ n) {b q r g : ℕ}
    (hb : 1 ≤ n → 16 ≤ b) (hk : 2 ≤ n → 16 ≤ q) (hr : 3 ≤ n → 16 ≤ r) (hg : 4 ≤ n → 16 ≤ g) :
    recs I PB κ ⊢ MayWait (c : Thread nD τ) (csem k) () (owed c b q r g) :=
  recs_lev.trans (mayWait_owed (F := F) c (csem k) n (by rw [code_csem]; exact hl) b q r g hb hk hr hg)

/-- What the device owes, whatever it has waited on. -/
def ow (c : Dev nD) (O : CellTallies nD τ sig Unit) : sProp 𝕄 := iprop(∃ W, owes (c : Thread nD τ) O W)

/-! ## Families over the places -/

def fam {n : ℕ} (S : Finset (Fin n)) (k : ℕ) (A B : Fin n → sProp 𝕄) : sProp 𝕄 := bigSep S fun o => if o.val < k then A o else B o

theorem fam_take {n : ℕ} {S : Finset (Fin n)} {A B : Fin n → sProp 𝕄} (o : Fin n) (ho : o ∈ S) {k k' : ℕ} (hk : o.val = k) (hk' : k' = k + 1) :
    fam S k A B ⊢ iprop(B o ∗ (A o -∗ fam S k' A B)) := by
  unfold fam
  subst hk hk'
  rw [← Finset.insert_erase ho, bigSep_insert (Finset.notMem_erase _ _), bigSep_insert (Finset.notMem_erase _ _), if_neg (lt_irrefl _), if_pos (Nat.lt_succ_self _)]
  have e : (bigSep (S.erase o) fun p => if p.val < o.val + 1 then A p else B p) = bigSep (S.erase o) fun p => if p.val < o.val then A p else B p := by
    unfold bigSep
    refine Finset.fold_congr fun p hp => ?_
    have : p.val ≠ o.val := fun h => Finset.ne_of_mem_erase hp (Fin.ext h)
    by_cases h : p.val < o.val
    · rw [if_pos h, if_pos (by omega)]
    · rw [if_neg h, if_neg (by omega)]
  rw [e]
  show iprop(B o ∗ bigSep (S.erase o) fun p => if p.val < o.val then A p else B p) ⊢ iprop(B o ∗ (A o -∗ (A o ∗ bigSep (S.erase o) fun p => if p.val < o.val then A p else B p)))
  iintro ⟨HB, HS⟩
  isplitl [HB]; · iexact HB
  iintro HA
  isplitl [HA]; · iexact HA
  iexact HS

theorem fam_congr {n : ℕ} {S : Finset (Fin n)} {Φ Ψ : Fin n → sProp 𝕄} (h : ∀ p ∈ S, Φ p = Ψ p) : bigSep S Φ = bigSep S Ψ := by
  unfold bigSep; exact Finset.fold_congr h

theorem fam_start {n : ℕ} {S : Finset (Fin n)} {A B : Fin n → sProp 𝕄} {k : ℕ} (hS : ∀ p ∈ S, k ≤ p.val) : bigSep S B ⊢ fam S k A B := by
  unfold fam; rw [fam_congr fun p hp => if_neg (Nat.not_lt.mpr (hS p hp))]

theorem fam_end {n : ℕ} {S : Finset (Fin n)} {A B : Fin n → sProp 𝕄} {k : ℕ} (hk : n ≤ k) : fam S k A B ⊢ bigSep S A := by
  unfold fam; rw [fam_congr fun p hp => if_pos (Nat.lt_of_lt_of_le p.isLt hk)]

/-- The places other than one's own. -/
abbrev away : Finset (Fin 16) := Finset.univ.erase 0

theorem away_ge : ∀ p ∈ away, 1 ≤ p.val := by decide

theorem sh_ne {c : Dev nD} {o : Fin 16} (ho : o ∈ away) : sh c o ≠ c := fun h =>
  Finset.ne_of_mem_erase ho (by rw [← df_sh c o, h]; exact df_zero.mpr rfl)

/-- The other devices, by place. -/
theorem others (c : Dev nD) (Φ : Dev nD → sProp 𝕄) : bigSep (Finset.univ.erase c) Φ = bigSep away fun o => Φ (sh c o) := by
  have h : (Finset.univ.erase c : Finset (Dev nD)) = away.map ⟨sh c, fun _ _ => sh_inj⟩ := by
    revert c; decide +kernel
  rw [h, bigSep_map]; rfl

theorem everyone (c : Dev nD) (Φ : Dev nD → sProp 𝕄) : bigSep Finset.univ Φ = iprop(Φ c ∗ bigSep away fun o => Φ (sh c o)) := by
  rw [← others, ← Finset.insert_erase (Finset.mem_univ c), bigSep_insert (Finset.notMem_erase _ _),
    Finset.insert_erase (Finset.mem_univ c)]
  rfl

/-! ## The semaphores the program names -/

theorem rm1 (off : Fin 1 → ℕ) (inb : ∀ a, off a + S1.size a ≤ S16.size a) :
    (S16.rowMajor ((Rect.unit (s := S16) off S1.size inb).emb (Shape.reshapeEquiv squeezes_S1_S_.numel_eq (fun i : Fin 0 => i.elim0))) : ℕ) = off 0 := by
  refine (Shape.rowMajor_val_one (d := ![16]) _).trans ?_
  show off 0 + 1 * _ = _
  have : ∀ y : S1.Idx, (y 0).val = 0 := fun y => by have : (y 0).val < 1 := (y 0).isLt; omega
  rw [this]; omega

section Sems
variable (off : Fin 1 → ℕ) (inb : ∀ a, off a + S1.size a ≤ S16.size a) (j : Dev nD) (h : off 0 = j.val)
include h
theorem sem8 : (SemLoc.dma ((cc0_scratch8.slice (Rect.unit (s := S16) off S1.size inb)).squeeze S_ squeezes_S1_S_).sem : SemLoc sig) = csem (some (0, j)) := by
  show SemLoc.dma _ = SemLoc.dma (dsem 0 j); congr 1; apply Fin.ext; show 6 + _ = 6 + 16 * 0 + j.val; rw [rm1, h]
theorem sem9 : (SemLoc.dma ((cc0_scratch9.slice (Rect.unit (s := S16) off S1.size inb)).squeeze S_ squeezes_S1_S_).sem : SemLoc sig) = csem (some (1, j)) := by
  show SemLoc.dma _ = SemLoc.dma (dsem 1 j); congr 1; apply Fin.ext; show 22 + _ = 6 + 16 * 1 + j.val; rw [rm1, h]
theorem sem10 : (SemLoc.dma ((cc0_scratch10.slice (Rect.unit (s := S16) off S1.size inb)).squeeze S_ squeezes_S1_S_).sem : SemLoc sig) = csem (some (2, j)) := by
  show SemLoc.dma _ = SemLoc.dma (dsem 2 j); congr 1; apply Fin.ext; show 38 + _ = 6 + 16 * 2 + j.val; rw [rm1, h]
theorem sem11 : (SemLoc.dma ((cc0_scratch11.slice (Rect.unit (s := S16) off S1.size inb)).squeeze S_ squeezes_S1_S_).sem : SemLoc sig) = csem (some (3, j)) := by
  show SemLoc.dma _ = SemLoc.dma (dsem 3 j); congr 1; apply Fin.ext; show 54 + _ = 6 + 16 * 3 + j.val; rw [rm1, h]
theorem sem12 : (SemLoc.dma ((cc0_scratch12.slice (Rect.unit (s := S16) off S1.size inb)).squeeze S_ squeezes_S1_S_).sem : SemLoc sig) = csem (some (4, j)) := by
  show SemLoc.dma _ = SemLoc.dma (dsem 4 j); congr 1; apply Fin.ext; show 70 + _ = 6 + 16 * 4 + j.val; rw [rm1, h]
theorem sem13 : (SemLoc.dma ((cc0_scratch13.slice (Rect.unit (s := S16) off S1.size inb)).squeeze S_ squeezes_S1_S_).sem : SemLoc sig) = csem (some (5, j)) := by
  show SemLoc.dma _ = SemLoc.dma (dsem 5 j); congr 1; apply Fin.ext; show 86 + _ = 6 + 16 * 5 + j.val; rw [rm1, h]
theorem sem14 : (SemLoc.dma ((cc0_scratch14.slice (Rect.unit (s := S16) off S1.size inb)).squeeze S_ squeezes_S1_S_).sem : SemLoc sig) = csem (some (6, j)) := by
  show SemLoc.dma _ = SemLoc.dma (dsem 6 j); congr 1; apply Fin.ext; show 102 + _ = 6 + 16 * 6 + j.val; rw [rm1, h]
theorem sem15 : (SemLoc.dma ((cc0_scratch15.slice (Rect.unit (s := S16) off S1.size inb)).squeeze S_ squeezes_S1_S_).sem : SemLoc sig) = csem (some (7, j)) := by
  show SemLoc.dma _ = SemLoc.dma (dsem 7 j); congr 1; apply Fin.ext; show 118 + _ = 6 + 16 * 7 + j.val; rw [rm1, h]
end Sems

/-! ## The handshake -/

variable (c : Dev nD)

/-- What the signal to the device at place `o` takes. -/
def BSig (o : Fin 16) : sProp 𝕄 := iprop(dutyTok ER (bar (sh c o)) 0 c ∗ barPay (F := F) (sh c o) c)

theorem owed_b (o : Fin 16) {n n' : ℕ} (hn : o.val = n) (hn' : n' = n + 1) (k r g : ℕ) :
    owed c n k r g = owed c n' k r g + tallyAt (bar (sh c o)) () 1 := by
  subst hn hn'; unfold owed; rw [rem_step (owB c) o, ← add_assoc]; rfl

theorem step_signal {α : Type} (o : Fin 16) (ho : o ∈ away) {n n' : ℕ} (hn : o.val = n) (hn' : n' = n + 1) {dev : Dev nD} (hdev : dev = sh c o)
    {am : ℤ} (ham : am = ((1 : ℕ) : ℤ)) {k r g : ℕ} {pr : PUnit → Prog (TpuEff nD τ sig (Elt F) Λ₀ .tc) α} {Q : α → sProp 𝕄} :
    iprop(recs I PB κ ∗ fam away n (fun _ => iprop(emp)) (BSig c) ∗ ow c (owed c n k r g))
      ⊢ iprop(((fam away n' (fun _ => iprop(emp)) (BSig c) ∗ ow c (owed c n' k r g)) -∗ run c (pr ⟨⟩) Q)
        -∗ run c (.op (.semSignal (dev : Thread nD τ) barS am) pr) Q) := by
  subst hdev ham
  iintro ⟨#Hr, Hf, Ho⟩ Hk
  ihave Hf := (fam_take o ho hn hn') $$ Hf
  icases Hf with ⟨HB, Hf⟩
  unfold BSig ow
  icases HB with ⟨Htok, Hpay⟩
  icases Ho with ⟨%W, Ho⟩
  have hp : barPay (F := F) (sh c o) c ⊢ (Rd I PB).payload ((sh c o : Thread nD τ), SemLoc.reg barS) 0 c := Entails.of_eq (payload_bar I PB (sh c o) c 0).symm
  ihave #Hi := (recs_inv (I := I) (PB := PB) (κ := κ) (sh c o) none) $$ Hr
  ihave #Hre := (recs_reached (I := I) (PB := PB) (κ := κ) (sh c o) none) $$ Hr
  iapply (Rounds.wp_signal 𝒱₀ ER (Rd I PB) (c : Thread nD τ) none (dst := (sh c o : Thread nD τ)) (κ := κ (sh c o, none)) (d := c) (r := 0)
    (by refine (congrArg (c ∈ ·) (duties_bar I PB (sh c o))).mpr ?_; exact Finset.mem_erase.mpr ⟨(sh_ne ho).symm, Finset.mem_univ _⟩) (amount_bar I PB (sh c o) c 0) () (owed c n' k r g)
    (owed_b c o hn hn' k r g)) $$ [Ho Htok Hpay]
  · isplitr; · iexact Hi
    isplitl [Ho]; · iexact Ho
    isplitl [Htok]; · iexact Htok
    isplitl [Hpay]; · iapply hp; iexact Hpay
    iexact Hre
  iintro Ho
  iapply Hk
  isplitl [Hf]; · iapply Hf; iempintro
  iexists W; iexact Ho

theorem step_barrier {α : Type} {am : ℤ} (ham : am = ((15 : ℕ) : ℤ)) {k r g : ℕ} {pr : PUnit → Prog (TpuEff nD τ sig (Elt F) Λ₀ .tc) α} {Q : α → sProp 𝕄} :
    iprop(recs I PB κ ∗ cred (tallyAt (bar c) () 15) ∗ atPos ER (bar c) 0 ∅ 0 ∗ ow c (owed c 16 k r g))
      ⊢ iprop(((semVal (bar c) 0 ∗ bigSep away (fun o => barPay (F := F) c (sh c o)) ∗ ow c (owed c 16 k r g)) -∗ run c (pr ⟨⟩) Q)
        -∗ run c (.op (.semWait barS am) pr) Q) := by
  subst ham
  iintro ⟨#Hr, Hc, Ha, Ho⟩ Hk
  unfold ow
  icases Ho with ⟨%W, Ho⟩
  ihave #Hi := (recs_inv (I := I) (PB := PB) (κ := κ) c none) $$ Hr
  iapply (Rounds.wp_wait_rest_token 𝒱₀ ER (Rd I PB) (c : Thread nD τ) none (κ := κ (c, none)) (wpE_semWait_eq 𝒱₀ (c : Thread nD τ) none Set.univ)
    (Set.mem_univ _) () (O := owed c 16 k r g) (W := W) (R := 0) (m := 0) (T := ∅) (by rw [Nat.zero_add]; exact (expect_bar I PB c).symm)) $$ [Hc Ha Ho]
  · isplitr; · iexact Hi
    isplitl [Hc]; · iexact Hc
    isplitl [Ho]; · iexact Ho
    isplitr
    · iapply (recs_wait (I := I) (PB := PB) (κ := κ) c none 1 le_rfl (fun _ => le_rfl) (fun h => absurd h (by decide)) (fun h => absurd h (by decide)) (fun h => absurd h (by decide)))
      iexact Hr
    iexact Ha
  iintro ⟨Ho, Ha, -, Hp⟩
  imod (Rounds.cell_close ER (Rd I PB) (Set.mem_univ (κ (c, none))) (fun h => h) (R := 0 + 1) (duties_later I PB (bar c))) $$ [Ha] with Hz
  · isplitr; · iexact Hi
    iexact Ha
  iapply Hk
  isplitl [Hz]; · iexact Hz
  isplitl [Hp]
  · rw [← others c (fun d => barPay (F := F) c d), ← rest_bar I PB c]; iexact Hp
  iexists _; iexact Ho

/-! ## Waiting for a transfer -/

/-- Before and after the wait on entry `j` of array `a`. -/
def BWait (a : Fin 8) (j : Dev nD) : sProp 𝕄 := iprop(cred (tallyAt (xf c a j) () (amt a)) ∗ atPos ER (xf c a j) 0 ∅ 0)
def AWait (I : Inputs F) (PB : Dev nD → Vec F S256x512 .bf16) (a : Fin 8) (j : Dev nD) : sProp 𝕄 := iprop(xfPay I PB c a j ∗ semVal (xf c a j) 0)

theorem step_wait {α : Type} (a : Fin 8) (j : Dev nD) (ha : act c a j) {sem : DmaSem sig} (hsem : (SemLoc.dma sem : SemLoc sig) = csem (some (a, j)))
    {sp sp' : Space} {s s' : Shape} {e e' : EltTy} {src : Memref sig .tc sp' s' e'} {dst : Memref sig .tc sp s e} {hsrc : src.view.WordExact} {hdst : dst.view.WordExact}
    (hN : dst.view.dmaCredit = amt a) (n : ℕ) (hl : lvK (some (some (a, j))) ≤ n) {b k r g : ℕ}
    (hb : 1 ≤ n → 16 ≤ b) (hk : 2 ≤ n → 16 ≤ k) (hr : 3 ≤ n → 16 ≤ r) (hg : 4 ≤ n → 16 ≤ g)
    {pr : PUnit → Prog (TpuEff nD τ sig (Elt F) Λ₀ .tc) α} {Q : α → sProp 𝕄} :
    iprop(recs I PB κ ∗ BWait c a j ∗ ow c (owed c b k r g))
      ⊢ iprop(((AWait c I PB a j ∗ ow c (owed c b k r g)) -∗ run c (pr ⟨⟩) Q)
        -∗ run c (.op (.waitDma2 sem src dst hsrc hdst) pr) Q) := by
  obtain rfl : sem = dsem a j := SemLoc.dma.inj hsem
  unfold BWait AWait ow
  iintro ⟨#Hr, ⟨Hc, Ha⟩, ⟨%W, Ho⟩⟩ Hk
  ihave #Hi := (recs_inv (I := I) (PB := PB) (κ := κ) c (some (a, j))) $$ Hr
  iapply (Rounds.wp_wait_rest_token 𝒱₀ ER (Rd I PB) (c : Thread nD τ) none (κ := κ (c, some (a, j))) (sm := csem (some (a, j))) (k' := amt a)
    (fun K' => by rw [wpE_waitDma2_eq 𝒱₀ (c : Thread nD τ) none Set.univ, hN]; rfl)
    (Set.mem_univ _) () (O := owed c b k r g) (W := W) (R := 0) (m := 0) (T := ∅) (by rw [Nat.zero_add]; exact (expect_xf I PB ha).symm)) $$ [Hc Ha Ho]
  · isplitr; · iexact Hi
    isplitl [Hc]; · iexact Hc
    isplitl [Ho]; · iexact Ho
    isplitr
    · iapply (recs_wait (I := I) (PB := PB) (κ := κ) c (some (a, j)) n hl hb hk hr hg)
      iexact Hr
    iexact Ha
  iintro ⟨Ho, Ha, -, Hp⟩
  imod (Rounds.cell_close ER (Rd I PB) (Set.mem_univ (κ (c, some (a, j)))) (fun h => h) (R := 0 + 1) (duties_later I PB (xf c a j))) $$ [Ha] with Hz
  · isplitr; · iexact Hi
    iexact Ha
  iapply Hk
  isplitl [Hp Hz]
  · isplitl [Hp]
    · rw [← rest_xf I PB ha]; iexact Hp
    iexact Hz
  iexists _; iexact Ho

/-- The same for the next place of a family. -/
theorem step_waits {α : Type} (a : Fin 8) (o : Fin 16) (ho : o ∈ away) {m m' : ℕ} (hm : o.val = m) (hm' : m' = m + 1) (ha : act c a (sh c o))
    {sem : DmaSem sig} (hsem : (SemLoc.dma sem : SemLoc sig) = csem (some (a, sh c o)))
    {sp sp' : Space} {s s' : Shape} {e e' : EltTy} {src : Memref sig .tc sp' s' e'} {dst : Memref sig .tc sp s e} {hsrc : src.view.WordExact} {hdst : dst.view.WordExact}
    (hN : dst.view.dmaCredit = amt a) (n : ℕ) (hl : lvK (some (some (a, sh c o))) ≤ n) {b k r g : ℕ}
    (hb : 1 ≤ n → 16 ≤ b) (hk : 2 ≤ n → 16 ≤ k) (hr : 3 ≤ n → 16 ≤ r) (hg : 4 ≤ n → 16 ≤ g)
    {pr : PUnit → Prog (TpuEff nD τ sig (Elt F) Λ₀ .tc) α} {Q : α → sProp 𝕄} :
    iprop(recs I PB κ ∗ fam away m (fun o => AWait c I PB a (sh c o)) (fun o => BWait c a (sh c o)) ∗ ow c (owed c b k r g))
      ⊢ iprop(((fam away m' (fun o => AWait c I PB a (sh c o)) (fun o => BWait c a (sh c o)) ∗ ow c (owed c b k r g)) -∗ run c (pr ⟨⟩) Q)
        -∗ run c (.op (.waitDma2 sem src dst hsrc hdst) pr) Q) := by
  iintro ⟨#Hr, Hf, Ho⟩ Hk
  ihave Hf := (fam_take o ho hm hm') $$ Hf
  icases Hf with ⟨HB, Hf⟩
  iapply (step_wait (I := I) (PB := PB) (κ := κ) c a (sh c o) ha hsem hN n hl hb hk hr hg) $$ [HB Ho]
  · isplitr; · iexact Hr
    isplitl [HB]; · iexact HB
    iexact Ho
  iintro ⟨HA, Ho⟩
  iapply Hk
  isplitl [Hf HA]; · iapply Hf; iexact HA
  iexact Ho

end Cert.SparseAttn

end
-- ==== Proof.Sends.lean ====
/-
The statements that send and the statements that touch the device's own buffers, at a symbolic device and place.
-/
module

public import proofs.«01_k».proof.Proof.Steps

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ}

theorem away_val {o : Fin 16} (ho : o ∈ away) : (o : Fin 16) ≠ 0 := Finset.ne_of_mem_erase ho

theorem src_half {c : Dev nD} (h : ev c) : ∃ s : Fin 8, s.val = c.val / 2 ∧ srcOf s = c := by revert c; decide +kernel

theorem rbRows_ev {c : Dev nD} (h : ev c) : rbRows c = rowsAt 1 (c.val / 2) := if_pos h

/-! ## Sends -/

variable (c : Dev nD)

theorem act_send {a : Fin 8} {o : Fin 16} (ho : o ∈ away) (h : (a = 4 ∨ a = 5) → ev c) (h' : a ≠ 0 ∧ a ≠ 1) : act c a (sh c o) :=
  ⟨sh_ne ho, fun h => (h.elim h'.1 h'.2).elim, h⟩
theorem act_recv {a : Fin 8} {o : Fin 16} (ho : o ∈ away) (h : (a = 0 ∨ a = 1) → ev c) (h' : a ≠ 4 ∧ a ≠ 5) : act (sh c o) a c :=
  ⟨(sh_ne ho).symm, h, fun h => (h.elim h'.1 h'.2).elim⟩

theorem nk_rbk (offD inbD) : (rbSlot rbkM offD inbD).view.dmaCredit = NK := rfl
theorem nk_rbv (offD inbD) : (rbSlot rbvM offD inbD).view.dmaCredit = NK := rfl
theorem nc_acc (offD inbD) : (stkSlot accM offD inbD).view.dmaCredit = NC := rfl
theorem nc_gath (offD inbD) : (stkSlot gathM offD inbD).view.dmaCredit = NC := rfl

section KV
variable (I : Inputs F)
def BKst (o : Fin 16) : sProp 𝕄 := iprop(kstP c fullShare (rowsAt 1 o.val) (KST I.k c) ∗ placeK (F := F) (sh c o) c
  ∗ dutyTok ER (xf c 4 (sh c o)) 0 (sh c o) ∗ dutyTok ER (xf (sh c o) 0 c) 0 c)
def BVst (o : Fin 16) : sProp 𝕄 := iprop(vstP c fullShare (rowsAt 1 o.val) (KST I.v c) ∗ placeV (F := F) (sh c o) c
  ∗ dutyTok ER (xf c 5 (sh c o)) 0 (sh c o) ∗ dutyTok ER (xf (sh c o) 1 c) 0 c)
end KV

theorem step_send_k {α : Type} (o : Fin 16) (ho : o ∈ away) (he : ev c) {dev : Dev nD} (hdev : dev = sh c o)
    {sS sem : SemLoc sig} (hsS : sS = csem (some (4, sh c o))) (hs : sem = csem (some (0, c)))
    {offS inbS offD inbD} (hS : offS 0 = o.val) (hD : offD 0 = c.val / 2)
    {hsc : (rbSlot rbkM offD inbD).view.ref.isScScratch = false}
    {hsrc : (stSlot kstM offS inbS).view.WordExact} {hdst : (rbSlot rbkM offD inbD).view.WordExact}
    {hsem : DmaTarget.Typed (nD := nD) (τ := τ) (sig := sig) (p := .tc) .vmem sem (.remote (dev : Thread nD τ) (rbSlot rbkM offD inbD) sS hsc)}
    {O : CellTallies nD τ sig Unit}
    {pr : PUnit → Prog (TpuEff nD τ sig (Elt F) Λ₀ .tc) α} {Q : α → sProp 𝕄} :
    iprop(recs I PB κ ∗ BKst c I o ∗ ow c (O + tallyAt (xf (sh c o) 0 c) () NK))
      ⊢ iprop(((cred (tallyAt (xf c 4 (sh c o)) () (amt 4)) ∗ ow c O) -∗ run c (pr ⟨⟩) Q)
        -∗ run c (.op (.enqueueDma (stSlot kstM offS inbS) (.remote (dev : Thread nD τ) (rbSlot rbkM offD inbD) sS hsc) sem hsrc hdst hsem) pr) Q) := by
  subst hdev hsS hs
  obtain ⟨s, hs, hsc'⟩ := src_half he
  iintro ⟨#Hr, HB, Ho⟩ Hk
  unfold BKst placeK ow
  icases HB with ⟨Hsrc, ⟨%fd, Hdst⟩, Ht1, Ht2⟩
  icases Ho with ⟨%W, Ho⟩
  ihave #Hi1 := (recs_inv (I := I) (PB := PB) (κ := κ) c (some (4, sh c o))) $$ Hr
  ihave #Hi2 := (recs_inv (I := I) (PB := PB) (κ := κ) (sh c o) (some (0, c))) $$ Hr
  ihave #Hr1 := (recs_reached (I := I) (PB := PB) (κ := κ) c (some (4, sh c o))) $$ Hr
  ihave #Hr2 := (recs_reached (I := I) (PB := PB) (κ := κ) (sh c o) (some (0, c))) $$ Hr
  have e1 := set_kst offS inbS o.val hS
  have e2 := set_rbk offD inbD (c.val / 2) hD
  have p1 : ((stSlot kstM offS inbS).view.loc (c : Thread nD τ) ↦[(stSlot kstM offS inbS).view.set]{fullShare} (KST I.k c) : sProp 𝕄)
      ⊢ (Rd I PB).payload (xf c 4 (sh c o)) 0 (sh c o) := by
    rw [payload_xf, e1]; unfold xfPay; rw [df_sh]
  have p2 : ((rbSlot rbkM offD inbD).view.loc (sh c o : Thread nD τ) ↦[(rbSlot rbkM offD inbD).view.set]{fullShare}
      ((rbSlot rbkM offD inbD).view.write (Elt F) fd ((stSlot kstM offS inbS).view.read (Elt F) (KST I.k c)) Finset.univ) : sProp 𝕄)
      ⊢ (Rd I PB).payload (xf (sh c o) 0 c) 0 c := by
    rw [payload_xf]; unfold xfPay rbkP; rw [rbRows_ev he, ← e2]
    have hDs : offD 0 = s.val := hD.trans hs.symm
    have hw := land_rbk I.k (sh c o) s o (by rw [hsc']) offS inbS offD inbD hS hDs
    rw [hsc'] at hw
    refine Entails.of_eq (pointsTo_congr ?_)
    exact write_read_on (rbSlot rbkM offD inbD).view fd (RBK I.k (sh c o)) ((stSlot kstM offS inbS).view.read (Elt F) (KST I.k c)) hw
  iapply (Rounds.wp_send_pointsTo 𝒱₀ ER (Rd I PB) (c : Thread nD τ) none (c' := (sh c o : Thread nD τ)) (src := stSlot kstM offS inbS) (dst := rbSlot rbkM offD inbD) (hsc := hsc)
    (sS := csem (some (4, sh c o))) (sem := csem (some (0, c))) (hsrc := hsrc) (hdst := hdst) (hsem := hsem) (κ₁ := κ (c, some (4, sh c o))) (κ₂ := κ (sh c o, some (0, c)))
    (r₁ := 0) (r₂ := 0) (d₁ := sh c o) (d₂ := c) (fs := KST I.k c) (fd := fd) (q := fullShare)
    (by rw [duties_xf I PB (act_send c ho (fun _ => he) (by decide))]; exact Finset.mem_singleton_self _)
    (by rw [duties_xf I PB (act_recv c ho (fun _ => he) (by decide))]; exact Finset.mem_singleton_self _)
    () () NK (nk_rbk offD inbD) (amount_xf I PB c 4 (sh c o) (sh c o) 0) (amount_xf I PB (sh c o) 0 c c 0) O rfl p1 p2) $$ [Hsrc Hdst Ht1 Ht2 Ho]
  · isplitr; · iexact Hi1
    isplitr; · iexact Hi2
    isplitl [Hsrc]; · rw [e1]; iexact Hsrc
    isplitl [Hdst]; · rw [e2, ← rbRows_ev he]; iexact Hdst
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists W; iexact Ho

theorem step_send_v {α : Type} (o : Fin 16) (ho : o ∈ away) (he : ev c) {dev : Dev nD} (hdev : dev = sh c o)
    {sS sem : SemLoc sig} (hsS : sS = csem (some (5, sh c o))) (hs : sem = csem (some (1, c)))
    {offS inbS offD inbD} (hS : offS 0 = o.val) (hD : offD 0 = c.val / 2)
    {hsc : (rbSlot rbvM offD inbD).view.ref.isScScratch = false}
    {hsrc : (stSlot vstM offS inbS).view.WordExact} {hdst : (rbSlot rbvM offD inbD).view.WordExact}
    {hsem : DmaTarget.Typed (nD := nD) (τ := τ) (sig := sig) (p := .tc) .vmem sem (.remote (dev : Thread nD τ) (rbSlot rbvM offD inbD) sS hsc)}
    {O : CellTallies nD τ sig Unit}
    {pr : PUnit → Prog (TpuEff nD τ sig (Elt F) Λ₀ .tc) α} {Q : α → sProp 𝕄} :
    iprop(recs I PB κ ∗ BVst c I o ∗ ow c (O + tallyAt (xf (sh c o) 1 c) () NK))
      ⊢ iprop(((cred (tallyAt (xf c 5 (sh c o)) () (amt 5)) ∗ ow c O) -∗ run c (pr ⟨⟩) Q)
        -∗ run c (.op (.enqueueDma (stSlot vstM offS inbS) (.remote (dev : Thread nD τ) (rbSlot rbvM offD inbD) sS hsc) sem hsrc hdst hsem) pr) Q) := by
  subst hdev hsS hs
  obtain ⟨s, hs, hsc'⟩ := src_half he
  iintro ⟨#Hr, HB, Ho⟩ Hk
  unfold BVst placeV ow
  icases HB with ⟨Hsrc, ⟨%fd, Hdst⟩, Ht1, Ht2⟩
  icases Ho with ⟨%W, Ho⟩
  ihave #Hi1 := (recs_inv (I := I) (PB := PB) (κ := κ) c (some (5, sh c o))) $$ Hr
  ihave #Hi2 := (recs_inv (I := I) (PB := PB) (κ := κ) (sh c o) (some (1, c))) $$ Hr
  ihave #Hr1 := (recs_reached (I := I) (PB := PB) (κ := κ) c (some (5, sh c o))) $$ Hr
  ihave #Hr2 := (recs_reached (I := I) (PB := PB) (κ := κ) (sh c o) (some (1, c))) $$ Hr
  have e1 := set_vst offS inbS o.val hS
  have e2 := set_rbv offD inbD (c.val / 2) hD
  have p1 : ((stSlot vstM offS inbS).view.loc (c : Thread nD τ) ↦[(stSlot vstM offS inbS).view.set]{fullShare} (KST I.v c) : sProp 𝕄)
      ⊢ (Rd I PB).payload (xf c 5 (sh c o)) 0 (sh c o) := by
    rw [payload_xf, e1]; unfold xfPay; rw [df_sh]
  have p2 : ((rbSlot rbvM offD inbD).view.loc (sh c o : Thread nD τ) ↦[(rbSlot rbvM offD inbD).view.set]{fullShare}
      ((rbSlot rbvM offD inbD).view.write (Elt F) fd ((stSlot vstM offS inbS).view.read (Elt F) (KST I.v c)) Finset.univ) : sProp 𝕄)
      ⊢ (Rd I PB).payload (xf (sh c o) 1 c) 0 c := by
    rw [payload_xf]; unfold xfPay rbvP; rw [rbRows_ev he, ← e2]
    have hDs : offD 0 = s.val := hD.trans hs.symm
    have hw := land_rbv I.v (sh c o) s o (by rw [hsc']) offS inbS offD inbD hS hDs
    rw [hsc'] at hw
    refine Entails.of_eq (pointsTo_congr ?_)
    exact write_read_on (rbSlot rbvM offD inbD).view fd (RBK I.v (sh c o)) ((stSlot vstM offS inbS).view.read (Elt F) (KST I.v c)) hw
  iapply (Rounds.wp_send_pointsTo 𝒱₀ ER (Rd I PB) (c : Thread nD τ) none (c' := (sh c o : Thread nD τ)) (src := stSlot vstM offS inbS) (dst := rbSlot rbvM offD inbD) (hsc := hsc)
    (sS := csem (some (5, sh c o))) (sem := csem (some (1, c))) (hsrc := hsrc) (hdst := hdst) (hsem := hsem) (κ₁ := κ (c, some (5, sh c o))) (κ₂ := κ (sh c o, some (1, c)))
    (r₁ := 0) (r₂ := 0) (d₁ := sh c o) (d₂ := c) (fs := KST I.v c) (fd := fd) (q := fullShare)
    (by rw [duties_xf I PB (act_send c ho (fun _ => he) (by decide))]; exact Finset.mem_singleton_self _)
    (by rw [duties_xf I PB (act_recv c ho (fun _ => he) (by decide))]; exact Finset.mem_singleton_self _)
    () () NK (nk_rbv offD inbD) (amount_xf I PB c 5 (sh c o) (sh c o) 0) (amount_xf I PB (sh c o) 1 c c 0) O rfl p1 p2) $$ [Hsrc Hdst Ht1 Ht2 Ho]
  · isplitr; · iexact Hi1
    isplitr; · iexact Hi2
    isplitl [Hsrc]; · rw [e1]; iexact Hsrc
    isplitl [Hdst]; · rw [e2, ← rbRows_ev he]; iexact Hdst
    isplitl [Ho]; · iexact Ho
    isplitl [Ht1]; · iexact Ht1
    isplitr; · iexact Hr1
    isplitl [Ht2]; · iexact Ht2
    iexact Hr2
  iintro ⟨Hc, Ho⟩
  iapply Hk
  isplitl [Hc]; · iexact Hc
  iexists W; iexact Ho

theorem owed_k (he : ev c) (o : Fin 16) {n n' : ℕ} (hn : o.val = n) (hn' : n' = n + 1) (b r g : ℕ) :
    owed c b n r g = owed c b n' r g + tallyAt (xf (sh c o) 1 c) () NK + tallyAt (xf (sh c o) 0 c) () NK := by
  subst hn hn'
  have e : owK c o = tallyAt (xf (sh c o) 1 c) () NK + tallyAt (xf (sh c o) 0 c) () NK := if_pos he
  unfold owed; rw [rem_step (owK c) o, e]
  ac_rfl

theorem owed_odd (he : ¬ ev c) (n n' : ℕ) (b r g : ℕ) : owed c b n r g = owed c b n' r g := by
  have e : owK c = fun _ => 0 := funext fun o => if_neg he
  unfold owed rem; rw [e]; simp only [Finset.sum_const_zero]

theorem owed_r (o : Fin 16) {n n' : ℕ} (hn : o.val = n) (hn' : n' = n + 1) (b k g : ℕ) :
    owed c b k n g = owed c b k n' g + tallyAt (xf (sh c o) 2 c) () NC := by
  subst hn hn'
  have e : owR c o = tallyAt (xf (sh c o) 2 c) () NC := rfl
  unfold owed; rw [rem_step (owR c) o, e]
  ac_rfl

theorem owed_g (o : Fin 16) {n n' : ℕ} (hn : o.val = n) (hn' : n' = n + 1) (b k r : ℕ) :
    owed c b k r n = owed c b k r n' + tallyAt (xf (sh c o) 3 c) () NC := by
  subst hn hn'
  have e : owG c o = tallyAt (xf (sh c o) 3 c) () NC := rfl
  unfold owed; rw [rem_step (owG c) o, e]
  ac_rfl

/-- The credits that the two sends of a place leave. -/
def AKV (o : Fin 16) : sProp 𝕄 := iprop(cred (tallyAt (xf c 4 (sh c o)) () (amt 4)) ∗ cred (tallyAt (xf c 5 (sh c o)) () (amt 5)))
def BKV (I : Inputs F) (o : Fin 16) : sProp 𝕄 := iprop(BKst c I o ∗ BVst c I o)

/-- The keys and the values of one place. -/
theorem step_send_kv {α : Type} (o : Fin 16) (ho : o ∈ away) (he : ev c) {n n' : ℕ} (hn : o.val = n) (hn' : n' = n + 1)
    {dev dev' : Dev nD} (hdev : dev = sh c o) (hdev' : dev' = sh c o)
    {sS sem sS' sem' : SemLoc sig} (hsS : sS = csem (some (4, sh c o))) (hs : sem = csem (some (0, c)))
    (hsS' : sS' = csem (some (5, sh c o))) (hs' : sem' = csem (some (1, c)))
    {offS inbS offD inbD} (hS : offS 0 = o.val) (hD : offD 0 = c.val / 2)
    {offS' inbS' offD' inbD'} (hS' : offS' 0 = o.val) (hD' : offD' 0 = c.val / 2)
    {hsc : (rbSlot rbkM offD inbD).view.ref.isScScratch = false}
    {hsrc : (stSlot kstM offS inbS).view.WordExact} {hdst : (rbSlot rbkM offD inbD).view.WordExact}
    {hsem : DmaTarget.Typed (nD := nD) (τ := τ) (sig := sig) (p := .tc) .vmem sem (.remote (dev : Thread nD τ) (rbSlot rbkM offD inbD) sS hsc)}
    {hsc' : (rbSlot rbvM offD' inbD').view.ref.isScScratch = false}
    {hsrc' : (stSlot vstM offS' inbS').view.WordExact} {hdst' : (rbSlot rbvM offD' inbD').view.WordExact}
    {hsem' : DmaTarget.Typed (nD := nD) (τ := τ) (sig := sig) (p := .tc) .vmem sem' (.remote (dev' : Thread nD τ) (rbSlot rbvM offD' inbD') sS' hsc')}
    {b r g : ℕ} {pr : PUnit → Prog (TpuEff nD τ sig (Elt F) Λ₀ .tc) α} {Q : α → sProp 𝕄} :
    iprop(recs I PB κ ∗ fam away n (AKV c) (BKV c I) ∗ ow c (owed c b n r g))
      ⊢ iprop(((fam away n' (AKV c) (BKV c I) ∗ ow c (owed c b n' r g)) -∗ run c (pr ⟨⟩) Q)
        -∗ run c (.op (.enqueueDma (stSlot kstM offS inbS) (.remote (dev : Thread nD τ) (rbSlot rbkM offD inbD) sS hsc) sem hsrc hdst hsem) fun _ =>
          .op (.enqueueDma (stSlot vstM offS' inbS') (.remote (dev' : Thread nD τ) (rbSlot rbvM offD' inbD') sS' hsc') sem' hsrc' hdst' hsem') pr) Q) := by
  rw [owed_k c he o hn hn' b r g]
  iintro ⟨#Hr, Hf, Ho⟩ Hk
  ihave Hf := (fam_take o ho hn hn') $$ Hf
  icases Hf with ⟨HB, Hf⟩
  unfold BKV
  icases HB with ⟨HBk, HBv⟩
  iapply (step_send_k (I := I) (PB := PB) (κ := κ) c o ho he hdev hsS hs hS hD) $$ [HBk Ho]
  · isplitr; · iexact Hr
    isplitl [HBk]; · iexact HBk
    iexact Ho
  iintro ⟨Hck, Ho⟩
  iapply (step_send_v (I := I) (PB := PB) (κ := κ) c o ho he hdev' hsS' hs' hS' hD') $$ [HBv Ho]
  · isplitr; · iexact Hr
    isplitl [HBv]; · iexact HBv
    iexact Ho
  iintro ⟨Hcv, Ho⟩
  iapply Hk
  isplitl [Hf Hck Hcv]
  · iapply Hf
    unfold AKV
    isplitl [Hck]; · iexact Hck
    iexact Hcv
  iexact Ho

/-! ## The two exchanges of chunks -/

def AR (o : Fin 16) : sProp 𝕄 := iprop(cred (tallyAt (xf c 6 (sh c o)) () (amt 6)))
def BR (PB : Dev nD → Vec F S256x512 .bf16) (o : Fin 16) : sProp 𝕄 := iprop(pbP c fullShare (rowsAt 16 (sh c o).val) (PB c) ∗ placeA (F := F) (sh c o) c
  ∗ dutyTok ER (xf c 6 (sh c o)) 0 (sh c o) ∗ dutyTok ER (xf (sh c o) 2 c) 0 c)
def AG (o : Fin 16) : sProp 𝕄 := iprop(cred (tallyAt (xf c 7 (sh c o)) () (amt 7)))
def BG (PB : Dev nD → Vec F S256x512 .bf16) (o : Fin 16) : sProp 𝕄 := iprop(redP c (Transfers.shareTok fullShare 16 o) Finset.univ (RED PB c) ∗ placeG (F := F) (sh c o) c
  ∗ dutyTok ER (xf c 7 (sh c o)) 0 (sh c o) ∗ dutyTok ER (xf (sh c o) 3 c) 0 c)

theorem step_send_r {α : Type} (o : Fin 16) (ho : o ∈ away) {n n' : ℕ} (hn : o.val = n) (hn' : n' = n + 1) {dev : Dev nD} (hdev : dev = sh c o)
    {sS sem : SemLoc sig} (hsS : sS = csem (some (6, sh c o))) (hs : sem = csem (some (2, c)))
    {offS inbS offD inbD} (hS : offS 0 = 16 * (sh c o).val) (hD : offD 0 = c.val)
    {hsc : (stkSlot accM offD inbD).view.ref.isScScratch = false}
    {hsrc : (chunk pbM offS inbS).view.WordExact} {hdst : (stkSlot accM offD inbD).view.WordExact}
    {hsem : DmaTarget.Typed (nD := nD) (τ := τ) (sig := sig) (p := .tc) .vmem sem (.remote (dev : Thread nD τ) (stkSlot accM offD inbD) sS hsc)}
    {b k g : ℕ} {pr : PUnit → Prog (TpuEff nD τ sig (Elt F) Λ₀ .tc) α} {Q : α → sProp 𝕄} :
    iprop(recs I PB κ ∗ fam away n (AR c) (BR c PB) ∗ ow c (owed c b k n g))
      ⊢ iprop(((fam away n' (AR c) (BR c PB) ∗ ow c (owed c b k n' g)) -∗ run c (pr ⟨⟩) Q)
        -∗ run c (.op (.enqueueDma (chunk pbM offS inbS) (.remote (dev : Thread nD τ) (stkSlot accM offD inbD) sS hsc) sem hsrc hdst hsem) pr) Q) := by
  subst hdev hsS hs
  rw [owed_r c o hn hn' b k g]
  iintro ⟨#Hr, Hf, Ho⟩ Hk
  ihave Hf := (fam_take o ho hn hn') $$ Hf
  icases Hf with ⟨HB, Hf⟩
  unfold BR placeA ow
  icases HB with ⟨Hsrc, ⟨%fd, Hdst⟩, Ht1, Ht2⟩
  icases Ho with ⟨%W, Ho⟩
  ihave #Hi1 := (recs_inv (I := I) (PB := PB) (κ := κ) c (some (6, sh c o))) $$ Hr
  ihave #Hi2 := (recs_inv (I := I) (PB := PB) (κ := κ) (sh c o) (some (2, c))) $$ Hr
  ihave #Hr1 := (recs_reached (I := I) (PB := PB) (κ := κ) c (some (6, sh c o))) $$ Hr
  ihave #Hr2 := (recs_reached (I := I) (PB := PB) (κ := κ) (sh c o) (some (2, c))) $$ Hr
  have e1 := set_pb offS inbS (sh c o).val hS
  have e2 := set_acc offD inbD c.val hD
  have p1 : ((chunk pbM offS inbS).view.loc (c : Thread nD τ) ↦[(chunk pbM offS inbS).view.set]{fullShare} (PB c) : sProp 𝕄)
      ⊢ (Rd I PB).payload (xf c 6 (sh c o)) 0 (sh c o) := by
    rw [payload_xf, e1]; exact Entails.rfl
  have p2 : ((stkSlot accM offD inbD).view.loc (sh c o : Thread nD τ) ↦[(stkSlot accM offD inbD).view.set]{fullShare}
      ((stkSlot accM offD inbD).view.write (Elt F) fd ((chunk pbM offS inbS).view.read (Elt F) (PB c)) Finset.univ) : sProp 𝕄)
      ⊢ (Rd I PB).payload (xf (sh c o) 2 c) 0 c := by
    rw [payload_xf]; unfold xfPay accP; rw [← e2]
    refine Entails.of_eq (pointsTo_congr ?_)
    exact write_read_on _ fd (ACC PB (sh c o)) _ (by exact land_acc PB c (sh c o) offS inbS offD inbD hS hD)
  iapply (Rounds.wp_send_pointsTo 𝒱₀ ER (Rd I PB) (c : Thread nD τ) none (c' := (sh c o : Thread nD τ)) (src := chunk pbM offS inbS) (dst := stkSlot accM offD inbD) (hsc := hsc)
    (sS := csem (some (6, sh c o))) (sem := csem (some (2, c))) (hsrc := hsrc) (hdst := hdst) (hsem := hsem) (κ₁ := κ (c, some (6, sh c o))) (κ₂ := κ (sh c o, some (2, c)))
    (r₁ := 0) (r₂ := 0) (d₁ := sh c o) (d₂ := c) (fs := PB c) (fd := fd) (q := fullShare)
    (by rw [duties_xf I PB (act_send c ho (fun h => absurd h (by decide)) (by decide))]; exact Finset.mem_singleton_self _)
    (by rw [duties_xf I PB (act_recv c ho (fun h => absurd h (by decide)) (by decide))]; exact Finset.mem_singleton_self _)
    () () NC (nc_acc offD inbD) (amount_xf I PB c 6 (sh c o) (sh c o) 0) (amount_xf I PB (sh c o) 2 c c 0) (owed c b k n' g) rfl p1 p2) $$ [Hsrc Hdst Ht1 Ht2 Ho]
  · isplitr; · iexact Hi1
    isplitr; · iexact Hi2
    isplitl [Hsrc]; · rw [e1]; iexact Hsrc
    isplitl [Hdst]; · rw [e2]; iexact Hdst
    isplitl [Ho]; · iexact Ho
    isplitl [Ht1]; · iexact Ht1
    isplitr; · iexact Hr1
    isplitl [Ht2]; · iexact Ht2
    iexact Hr2
  iintro ⟨Hc, Ho⟩
  iapply Hk
  isplitl [Hc Hf]; · iapply Hf; unfold AR; iexact Hc
  iexists W; iexact Ho

theorem set_redM : (redM : Memref sig .tc .vmem S16x512 .bf16).view.set = Finset.univ := View.set_whole _

theorem step_send_g {α : Type} (o : Fin 16) (ho : o ∈ away) {n n' : ℕ} (hn : o.val = n) (hn' : n' = n + 1) {dev : Dev nD} (hdev : dev = sh c o)
    {sS sem : SemLoc sig} (hsS : sS = csem (some (7, sh c o))) (hs : sem = csem (some (3, c)))
    {offD inbD} (hD : offD 0 = c.val)
    {hsc : (stkSlot gathM offD inbD).view.ref.isScScratch = false}
    {hsrc : redM.view.WordExact} {hdst : (stkSlot gathM offD inbD).view.WordExact}
    {hsem : DmaTarget.Typed (nD := nD) (τ := τ) (sig := sig) (p := .tc) .vmem sem (.remote (dev : Thread nD τ) (stkSlot gathM offD inbD) sS hsc)}
    {b k r : ℕ} {pr : PUnit → Prog (TpuEff nD τ sig (Elt F) Λ₀ .tc) α} {Q : α → sProp 𝕄} :
    iprop(recs I PB κ ∗ fam away n (AG c) (BG c PB) ∗ ow c (owed c b k r n))
      ⊢ iprop(((fam away n' (AG c) (BG c PB) ∗ ow c (owed c b k r n')) -∗ run c (pr ⟨⟩) Q)
        -∗ run c (.op (.enqueueDma redM (.remote (dev : Thread nD τ) (stkSlot gathM offD inbD) sS hsc) sem hsrc hdst hsem) pr) Q) := by
  subst hdev hsS hs
  rw [owed_g c o hn hn' b k r]
  iintro ⟨#Hr, Hf, Ho⟩ Hk
  ihave Hf := (fam_take o ho hn hn') $$ Hf
  icases Hf with ⟨HB, Hf⟩
  unfold BG placeG ow
  icases HB with ⟨Hsrc, ⟨%fd, Hdst⟩, Ht1, Ht2⟩
  icases Ho with ⟨%W, Ho⟩
  ihave #Hi1 := (recs_inv (I := I) (PB := PB) (κ := κ) c (some (7, sh c o))) $$ Hr
  ihave #Hi2 := (recs_inv (I := I) (PB := PB) (κ := κ) (sh c o) (some (3, c))) $$ Hr
  ihave #Hr1 := (recs_reached (I := I) (PB := PB) (κ := κ) c (some (7, sh c o))) $$ Hr
  ihave #Hr2 := (recs_reached (I := I) (PB := PB) (κ := κ) (sh c o) (some (3, c))) $$ Hr
  have e2 := set_gath offD inbD c.val hD
  have p1 : (redM.view.loc (c : Thread nD τ) ↦[redM.view.set]{Transfers.shareTok fullShare 16 o} (RED PB c) : sProp 𝕄)
      ⊢ (Rd I PB).payload (xf c 7 (sh c o)) 0 (sh c o) := by
    rw [payload_xf, set_redM]; unfold xfPay; rw [df_sh]
  have p2 : ((stkSlot gathM offD inbD).view.loc (sh c o : Thread nD τ) ↦[(stkSlot gathM offD inbD).view.set]{fullShare}
      ((stkSlot gathM offD inbD).view.write (Elt F) fd (redM.view.read (Elt F) (RED PB c)) Finset.univ) : sProp 𝕄)
      ⊢ (Rd I PB).payload (xf (sh c o) 3 c) 0 c := by
    rw [payload_xf]; unfold xfPay gathP; rw [← e2]
    refine Entails.of_eq (pointsTo_congr ?_)
    exact write_read_on _ fd (GATH PB) _ (by exact land_gath PB c offD inbD hD)
  iapply (Rounds.wp_send_pointsTo 𝒱₀ ER (Rd I PB) (c : Thread nD τ) none (c' := (sh c o : Thread nD τ)) (src := redM) (dst := stkSlot gathM offD inbD) (hsc := hsc)
    (sS := csem (some (7, sh c o))) (sem := csem (some (3, c))) (hsrc := hsrc) (hdst := hdst) (hsem := hsem) (κ₁ := κ (c, some (7, sh c o))) (κ₂ := κ (sh c o, some (3, c)))
    (r₁ := 0) (r₂ := 0) (d₁ := sh c o) (d₂ := c) (fs := RED PB c) (fd := fd) (q := Transfers.shareTok fullShare 16 o)
    (by rw [duties_xf I PB (act_send c ho (fun h => absurd h (by decide)) (by decide))]; exact Finset.mem_singleton_self _)
    (by rw [duties_xf I PB (act_recv c ho (fun h => absurd h (by decide)) (by decide))]; exact Finset.mem_singleton_self _)
    () () NC (nc_gath offD inbD) (amount_xf I PB c 7 (sh c o) (sh c o) 0) (amount_xf I PB (sh c o) 3 c c 0) (owed c b k r n') rfl p1 p2) $$ [Hsrc Hdst Ht1 Ht2 Ho]
  · isplitr; · iexact Hi1
    isplitr; · iexact Hi2
    isplitl [Hsrc]; · rw [set_redM]; iexact Hsrc
    isplitl [Hdst]; · rw [e2]; iexact Hdst
    isplitl [Ho]; · iexact Ho
    isplitl [Ht1]; · iexact Ht1
    isplitr; · iexact Hr1
    isplitl [Ht2]; · iexact Ht2
    iexact Hr2
  iintro ⟨Hc, Ho⟩
  iapply Hk
  isplitl [Hc Hf]; · iapply Hf; unfold AG; iexact Hc
  iexists W; iexact Ho

end Cert.SparseAttn

end
-- ==== Proof.Local.lean ====
/-
The statements that load from and store to the device's own buffers.
-/
module

public import proofs.«01_k».proof.Proof.Sends

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

/-- A load through a rectangle, holding any share of at least its elements. -/
theorem step_load {α : Type} {s : Shape} {e : EltTy} {m : Memref sig .tc .vmem s e} {r : Rect s} {hl : m.view.LoadsAt r.toLoadRect}
    {k : (r.toLoadRect.shape.Idx → Elt F e) → Prog (TpuEff nD τ sig (Elt F) Λ₀ .tc) α} {Q : α → sProp 𝕄}
    {S : Finset (Idx (m.view.loc (c : Thread nD τ)))} {q : PosShare TreeShare} {f : Buf (Elt F) (m.view.loc (c : Thread nD τ))}
    (hS : (m.access r).set ⊆ S) {v : r.toLoadRect.shape.Idx → Elt F e} (hv : (m.access r).read (Elt F) f = v) :
    (m.view.loc (c : Thread nD τ) ↦[S]{q} f : sProp 𝕄)
      ⊢ iprop(((m.view.loc (c : Thread nD τ) ↦[S]{q} f) -∗ run c (k v) Q) -∗ run c (.op (.load m r.toLoadRect hl) k) Q) := by
  subst hv
  exact wp_load_rect 𝒱₀ (c : Thread nD τ) none Set.univ (m := m) (r := r) hS

/-- A store that leaves the contents `g` there. -/
theorem step_store {α : Type} {s : Shape} {e : EltTy} {m : Memref sig .tc .vmem s e} {r : Rect s} {w : r.shape.Idx → Elt F e}
    {hx : (m.access r).Stores Finset.univ} {hm : (Finset.univ : Finset r.shape.Idx) = Finset.univ ∨ ∀ a, r.stride a = 1}
    {pr : PUnit → Prog (TpuEff nD τ sig (Elt F) Λ₀ .tc) α} {Q : α → sProp 𝕄}
    {S : Finset (Idx ((m.access r).loc (c : Thread nD τ)))} {f : Buf (Elt F) ((m.access r).loc (c : Thread nD τ))} (g : Buf (Elt F) ((m.access r).loc (c : Thread nD τ)))
    (hS : (m.access r).set = S) (hw : (m.access r).read (Elt F) g = w) :
    ((m.access r).loc (c : Thread nD τ) ↦[S]{fullShare} f : sProp 𝕄)
      ⊢ iprop((((m.access r).loc (c : Thread nD τ) ↦[S]{fullShare} g) -∗ run c (pr ⟨⟩) Q) -∗ run c (.op (.store m r w Finset.univ hx hm) pr) Q) := by
  subst hS
  have e : ((m.access r).loc (c : Thread nD τ) ↦[(m.access r).set]{fullShare} g : sProp 𝕄)
      = ((m.access r).loc (c : Thread nD τ) ↦[(m.access r).set]{fullShare} ((m.access r).write (Elt F) f w Finset.univ)) :=
    (pointsTo_congr (write_read_on (m.access r) f g w hw)).symm
  rw [e]
  exact wp_store 𝒱₀ (c : Thread nD τ) none Set.univ (m := m) (r := r) (Mk := Finset.univ) (by rw [View.setOn_univ])

section Slots
variable (off : Fin 5 → ℕ)
theorem acc_kst (inb) (k : ℕ) (h : off 0 = k) : (kstM.access (Rect.unit (s := S16x2x128x4x64) off S1x2x128x4x64.size inb)).set = rowsAt 1 k :=
  (View.set_slice_whole cc0_scratch0 _).trans (set_rows off _ inb 1 k Nat.one_pos (by rw [h, Nat.one_mul]) rfl (by decide))
theorem acc_vst (inb) (k : ℕ) (h : off 0 = k) : (vstM.access (Rect.unit (s := S16x2x128x4x64) off S1x2x128x4x64.size inb)).set = rowsAt 1 k :=
  (View.set_slice_whole cc0_scratch1 _).trans (set_rows off _ inb 1 k Nat.one_pos (by rw [h, Nat.one_mul]) rfl (by decide))
theorem acc_rbk (inb) (k : ℕ) (h : off 0 = k) : (rbkM.access (Rect.unit (s := S8x2x128x4x64) off S1x2x128x4x64.size inb)).set = rowsAt 1 k :=
  (View.set_slice_whole cc0_scratch2 _).trans (set_rows off _ inb 1 k Nat.one_pos (by rw [h, Nat.one_mul]) rfl (by decide))
theorem acc_rbv (inb) (k : ℕ) (h : off 0 = k) : (rbvM.access (Rect.unit (s := S8x2x128x4x64) off S1x2x128x4x64.size inb)).set = rowsAt 1 k :=
  (View.set_slice_whole cc0_scratch3 _).trans (set_rows off _ inb 1 k Nat.one_pos (by rw [h, Nat.one_mul]) rfl (by decide))
end Slots

/-- What a staging slot holds. -/
theorem stage_kst (X : Dev nD → Vec F S2x128x64x64 .f32) (o : Fin 16) (off inb) (h : off 0 = o.val) :
    (kstM.access (Rect.unit (s := S16x2x128x4x64) off S1x2x128x4x64.size inb)).read (Elt F) (KST X c) = k0_pay2 (heads (X c) (sh c o)) := by
  funext x
  show KST X c ((Rect.unit (s := S16x2x128x4x64) off S1x2x128x4x64.size inb).emb x) = _
  have x0 : (x 0).val = 0 := by have : (x 0).val < 1 := (x 0).isLt; omega
  have h0 : ((Rect.unit (s := S16x2x128x4x64) off S1x2x128x4x64.size inb).emb x) 0 = o := Fin.ext (by show off 0 + 1 * (x 0).val = _; omega)
  unfold KST
  rw [h0]
  congr 1
  funext a
  refine Fin.cases ?_ (fun a => ?_) a
  · apply Fin.ext; show 0 = (x 0).val; omega
  · apply Fin.ext
    show off a.succ + 1 * (x a.succ).val = (x a.succ).val
    have h1 : off a.succ = 0 := off_zero inb a ((by decide : ∀ a : Fin 4, S1x2x128x4x64.size a.succ = S16x2x128x4x64.size a.succ) a)
    omega
theorem stage_vst (X : Dev nD → Vec F S2x128x64x64 .f32) (o : Fin 16) (off inb) (h : off 0 = o.val) :
    (vstM.access (Rect.unit (s := S16x2x128x4x64) off S1x2x128x4x64.size inb)).read (Elt F) (KST X c) = k0_pay2 (heads (X c) (sh c o)) :=
  stage_kst c X o off inb h

/-- The slots before and after they are filled. -/
def AK0 (I : Inputs F) (o : Fin 16) : sProp 𝕄 := kstP c fullShare (rowsAt 1 o.val) (KST I.k c)
def BK0 (o : Fin 16) : sProp 𝕄 := iprop(∃ f : Vec F S16x2x128x4x64 .bf16, kstP c fullShare (rowsAt 1 o.val) f)
def AV0 (I : Inputs F) (o : Fin 16) : sProp 𝕄 := vstP c fullShare (rowsAt 1 o.val) (KST I.v c)
def BV0 (o : Fin 16) : sProp 𝕄 := iprop(∃ f : Vec F S16x2x128x4x64 .bf16, vstP c fullShare (rowsAt 1 o.val) f)

/-- The load before each store of a slot, and the store. -/
theorem step_stage_k {α : Type} (o : Fin 16) {n n' : ℕ} (hn : o.val = n) (hn' : n' = n + 1) {off inb off' inb'} (h : off 0 = o.val) (h' : off' 0 = o.val)
    {w : Vec F S1x2x128x4x64 .bf16} (hw : w = k0_pay2 (heads (I.k c) (sh c o)))
    {hl : (kstM.view).LoadsAt (Rect.unit (s := S16x2x128x4x64) off' S1x2x128x4x64.size inb').toLoadRect}
    {hx : (kstM.access (Rect.unit (s := S16x2x128x4x64) off S1x2x128x4x64.size inb)).Stores Finset.univ} {hm}
    {pr : PUnit → Prog (TpuEff nD τ sig (Elt F) Λ₀ .tc) α} {Q : α → sProp 𝕄} :
    fam Finset.univ n (AK0 c I) (BK0 c) ⊢ iprop((fam Finset.univ n' (AK0 c I) (BK0 c) -∗ run c (pr ⟨⟩) Q)
      -∗ run c (.op (.load kstM (Rect.unit (s := S16x2x128x4x64) off' S1x2x128x4x64.size inb').toLoadRect hl) fun _ =>
        .op (.store kstM (Rect.unit (s := S16x2x128x4x64) off S1x2x128x4x64.size inb) w Finset.univ hx hm) pr) Q) := by
  iintro Hf Hk
  ihave Hf := (fam_take o (Finset.mem_univ o) hn hn') $$ Hf
  icases Hf with ⟨HB, Hf⟩
  unfold BK0
  icases HB with ⟨%f, HB⟩
  iapply (step_load c (m := kstM) (r := Rect.unit (s := S16x2x128x4x64) off' S1x2x128x4x64.size inb') (S := rowsAt 1 o.val) (q := fullShare) (f := f) (by rw [acc_kst off' inb' o.val h']) rfl) $$ [HB]
  · iexact HB
  iintro HB
  iapply (step_store c (m := kstM) (r := Rect.unit (s := S16x2x128x4x64) off S1x2x128x4x64.size inb) (S := rowsAt 1 o.val) (f := f) (KST I.k c) (acc_kst off inb o.val h) ((stage_kst c I.k o off inb h).trans hw.symm)) $$ [HB]
  · iexact HB
  iintro HB
  iapply Hk
  iapply Hf
  unfold AK0
  iexact HB
theorem step_stage_v {α : Type} (o : Fin 16) {n n' : ℕ} (hn : o.val = n) (hn' : n' = n + 1) {off inb off' inb'} (h : off 0 = o.val) (h' : off' 0 = o.val)
    {w : Vec F S1x2x128x4x64 .bf16} (hw : w = k0_pay2 (heads (I.v c) (sh c o)))
    {hl : (vstM.view).LoadsAt (Rect.unit (s := S16x2x128x4x64) off' S1x2x128x4x64.size inb').toLoadRect}
    {hx : (vstM.access (Rect.unit (s := S16x2x128x4x64) off S1x2x128x4x64.size inb)).Stores Finset.univ} {hm}
    {pr : PUnit → Prog (TpuEff nD τ sig (Elt F) Λ₀ .tc) α} {Q : α → sProp 𝕄} :
    fam Finset.univ n (AV0 c I) (BV0 c) ⊢ iprop((fam Finset.univ n' (AV0 c I) (BV0 c) -∗ run c (pr ⟨⟩) Q)
      -∗ run c (.op (.load vstM (Rect.unit (s := S16x2x128x4x64) off' S1x2x128x4x64.size inb').toLoadRect hl) fun _ =>
        .op (.store vstM (Rect.unit (s := S16x2x128x4x64) off S1x2x128x4x64.size inb) w Finset.univ hx hm) pr) Q) := by
  iintro Hf Hk
  ihave Hf := (fam_take o (Finset.mem_univ o) hn hn') $$ Hf
  icases Hf with ⟨HB, Hf⟩
  unfold BV0
  icases HB with ⟨%f, HB⟩
  iapply (step_load c (m := vstM) (r := Rect.unit (s := S16x2x128x4x64) off' S1x2x128x4x64.size inb') (S := rowsAt 1 o.val) (q := fullShare) (f := f) (by rw [acc_vst off' inb' o.val h']) rfl) $$ [HB]
  · iexact HB
  iintro HB
  iapply (step_store c (m := vstM) (r := Rect.unit (s := S16x2x128x4x64) off S1x2x128x4x64.size inb) (S := rowsAt 1 o.val) (f := f) (KST I.v c) (acc_vst off inb o.val h) ((stage_vst c I.v o off inb h).trans hw.symm)) $$ [HB]
  · iexact HB
  iintro HB
  iapply Hk
  iapply Hf
  unfold AV0
  iexact HB

/-! ## The copies of the inputs -/

abbrev in0M : Memref sig .tc .vmem S2x128x512 .f32 := Memref.whole cc0_stg0_0
abbrev in1M : Memref sig .tc .vmem S512x256 .f32 := Memref.whole cc0_stg1_0
abbrev in2M : Memref sig .tc .vmem S2x128x64x64 .f32 := Memref.whole cc0_stg2_0
abbrev in3M : Memref sig .tc .vmem S2x128x64x64 .f32 := Memref.whole cc0_stg3_0
abbrev in4M : Memref sig .tc .vmem S256x512 .f32 := Memref.whole cc0_stg4_0
abbrev outM : Memref sig .tc .vmem S2x128x512 .f32 := Memref.whole cc0_stg5_0

abbrev in0P (f : Vec F S2x128x512 .f32) : sProp 𝕄 := ((c : Thread nD τ).loc cc0_stg0_0) ↦{fullShare} f
abbrev in1P (f : Vec F S512x256 .f32) : sProp 𝕄 := ((c : Thread nD τ).loc cc0_stg1_0) ↦{fullShare} f
abbrev in2P (f : Vec F S2x128x64x64 .f32) : sProp 𝕄 := ((c : Thread nD τ).loc cc0_stg2_0) ↦{fullShare} f
abbrev in3P (f : Vec F S2x128x64x64 .f32) : sProp 𝕄 := ((c : Thread nD τ).loc cc0_stg3_0) ↦{fullShare} f
abbrev in4P (f : Vec F S256x512 .f32) : sProp 𝕄 := ((c : Thread nD τ).loc cc0_stg4_0) ↦{fullShare} f
abbrev outP (f : Vec F S2x128x512 .f32) : sProp 𝕄 := ((c : Thread nD τ).loc cc0_stg5_0) ↦{fullShare} f

theorem ld_heads2 {α : Type} (e : Dev nD) {off inb} (h : off = ![0, 0, 4 * e.val, 0]) (X : Vec F S2x128x64x64 .f32) {hl : (in2M.view).LoadsAt (Rect.unit (s := S2x128x64x64) off S2x128x4x64.size inb).toLoadRect}
    {k : Vec F S2x128x4x64 .f32 → Prog (TpuEff nD τ sig (Elt F) Λ₀ .tc) α} {Q : α → sProp 𝕄} :
    in2P c X ⊢ iprop((in2P c X -∗ run c (k (heads X e)) Q)
      -∗ run c (.op (.load in2M (Rect.unit (s := S2x128x64x64) off S2x128x4x64.size inb).toLoadRect hl) k) Q) := by
  subst h
  have hv : (in2M.access (Rect.unit (s := S2x128x64x64) ![0, 0, 4 * e.val, 0] S2x128x4x64.size inb)).read (Elt F) X = heads X e := by funext x; rfl
  exact step_load c (m := in2M) (r := Rect.unit (s := S2x128x64x64) ![0, 0, 4 * e.val, 0] S2x128x4x64.size inb) (S := Finset.univ) (q := fullShare) (f := X) (Finset.subset_univ _) hv
theorem ld_heads3 {α : Type} (e : Dev nD) {off inb} (h : off = ![0, 0, 4 * e.val, 0]) (X : Vec F S2x128x64x64 .f32) {hl : (in3M.view).LoadsAt (Rect.unit (s := S2x128x64x64) off S2x128x4x64.size inb).toLoadRect}
    {k : Vec F S2x128x4x64 .f32 → Prog (TpuEff nD τ sig (Elt F) Λ₀ .tc) α} {Q : α → sProp 𝕄} :
    in3P c X ⊢ iprop((in3P c X -∗ run c (k (heads X e)) Q)
      -∗ run c (.op (.load in3M (Rect.unit (s := S2x128x64x64) off S2x128x4x64.size inb).toLoadRect hl) k) Q) := by
  subst h
  have hv : (in3M.access (Rect.unit (s := S2x128x64x64) ![0, 0, 4 * e.val, 0] S2x128x4x64.size inb)).read (Elt F) X = heads X e := by funext x; rfl
  exact step_load c (m := in3M) (r := Rect.unit (s := S2x128x64x64) ![0, 0, 4 * e.val, 0] S2x128x4x64.size inb) (S := Finset.univ) (q := fullShare) (f := X) (Finset.subset_univ _) hv

end Cert.SparseAttn

end
-- ==== Proof.Facts.lean ====
/-
Which device each statement of the program names, and at which place it cuts each buffer.
-/
module

public import proofs.«01_k».proof.Proof.Contents

@[expose] public section

noncomputable section

namespace Cert.SparseAttn

open Cert.KernelIdeal Cert.KernelIdeal.Gen
open Idealize.ShloMosaic
open Idealize.ShloMosaic.TcCoe

theorem dev_eq {c : Dev nD} {o : Fin 16} {n : ℕ} (h : n = (sh c o).val) (p : n < nD) : (⟨n, p⟩ : Dev nD) = sh c o := Fin.ext h

theorem f_dev1 (c : Dev nD) : k0_dev1 c = (sh c 1).val := by revert c; decide +kernel

theorem f_dev2 (c : Dev nD) : k0_dev2 c = (sh c 2).val := by revert c; decide +kernel

theorem f_dev3 (c : Dev nD) : k0_dev3 c = (sh c 3).val := by revert c; decide +kernel

theorem f_dev4 (c : Dev nD) : k0_dev4 c = (sh c 4).val := by revert c; decide +kernel

theorem f_dev5 (c : Dev nD) : k0_dev5 c = (sh c 5).val := by revert c; decide +kernel

theorem f_dev6 (c : Dev nD) : k0_dev6 c = (sh c 6).val := by revert c; decide +kernel

theorem f_dev7 (c : Dev nD) : k0_dev7 c = (sh c 7).val := by revert c; decide +kernel

theorem f_dev8 (c : Dev nD) : k0_dev8 c = (sh c 8).val := by revert c; decide +kernel

theorem f_dev9 (c : Dev nD) : k0_dev9 c = (sh c 9).val := by revert c; decide +kernel

theorem f_dev10 (c : Dev nD) : k0_dev10 c = (sh c 10).val := by revert c; decide +kernel

theorem f_dev11 (c : Dev nD) : k0_dev11 c = (sh c 11).val := by revert c; decide +kernel

theorem f_dev12 (c : Dev nD) : k0_dev12 c = (sh c 12).val := by revert c; decide +kernel

theorem f_dev13 (c : Dev nD) : k0_dev13 c = (sh c 13).val := by revert c; decide +kernel

theorem f_dev14 (c : Dev nD) : k0_dev14 c = (sh c 14).val := by revert c; decide +kernel

theorem f_dev15 (c : Dev nD) : k0_dev15 c = (sh c 15).val := by revert c; decide +kernel

theorem f_dev16 (c : Dev nD) : k0_dev16 c = (sh c 1).val := by revert c; decide +kernel

theorem f_dev17 (c : Dev nD) : k0_dev17 c = (sh c 1).val := by revert c; decide +kernel

theorem f_dev18 (c : Dev nD) : k0_dev18 c = (sh c 2).val := by revert c; decide +kernel

theorem f_dev19 (c : Dev nD) : k0_dev19 c = (sh c 2).val := by revert c; decide +kernel

theorem f_dev20 (c : Dev nD) : k0_dev20 c = (sh c 3).val := by revert c; decide +kernel

theorem f_dev21 (c : Dev nD) : k0_dev21 c = (sh c 3).val := by revert c; decide +kernel

theorem f_dev22 (c : Dev nD) : k0_dev22 c = (sh c 4).val := by revert c; decide +kernel

theorem f_dev23 (c : Dev nD) : k0_dev23 c = (sh c 4).val := by revert c; decide +kernel

theorem f_dev24 (c : Dev nD) : k0_dev24 c = (sh c 5).val := by revert c; decide +kernel

theorem f_dev25 (c : Dev nD) : k0_dev25 c = (sh c 5).val := by revert c; decide +kernel

theorem f_dev26 (c : Dev nD) : k0_dev26 c = (sh c 6).val := by revert c; decide +kernel

theorem f_dev27 (c : Dev nD) : k0_dev27 c = (sh c 6).val := by revert c; decide +kernel

theorem f_dev28 (c : Dev nD) : k0_dev28 c = (sh c 7).val := by revert c; decide +kernel

theorem f_dev29 (c : Dev nD) : k0_dev29 c = (sh c 7).val := by revert c; decide +kernel

theorem f_dev30 (c : Dev nD) : k0_dev30 c = (sh c 8).val := by revert c; decide +kernel

theorem f_dev31 (c : Dev nD) : k0_dev31 c = (sh c 8).val := by revert c; decide +kernel

theorem f_dev32 (c : Dev nD) : k0_dev32 c = (sh c 9).val := by revert c; decide +kernel

theorem f_dev33 (c : Dev nD) : k0_dev33 c = (sh c 9).val := by revert c; decide +kernel

theorem f_dev34 (c : Dev nD) : k0_dev34 c = (sh c 10).val := by revert c; decide +kernel

theorem f_dev35 (c : Dev nD) : k0_dev35 c = (sh c 10).val := by revert c; decide +kernel

theorem f_dev36 (c : Dev nD) : k0_dev36 c = (sh c 11).val := by revert c; decide +kernel

theorem f_dev37 (c : Dev nD) : k0_dev37 c = (sh c 11).val := by revert c; decide +kernel

theorem f_dev38 (c : Dev nD) : k0_dev38 c = (sh c 12).val := by revert c; decide +kernel

theorem f_dev39 (c : Dev nD) : k0_dev39 c = (sh c 12).val := by revert c; decide +kernel

theorem f_dev40 (c : Dev nD) : k0_dev40 c = (sh c 13).val := by revert c; decide +kernel

theorem f_dev41 (c : Dev nD) : k0_dev41 c = (sh c 13).val := by revert c; decide +kernel

theorem f_dev42 (c : Dev nD) : k0_dev42 c = (sh c 14).val := by revert c; decide +kernel

theorem f_dev43 (c : Dev nD) : k0_dev43 c = (sh c 14).val := by revert c; decide +kernel

theorem f_dev44 (c : Dev nD) : k0_dev44 c = (sh c 15).val := by revert c; decide +kernel

theorem f_dev45 (c : Dev nD) : k0_dev45 c = (sh c 15).val := by revert c; decide +kernel

theorem f_dev46 (c : Dev nD) : k0_dev46 c = (sh c 1).val := by revert c; decide +kernel

theorem f_dev47 (c : Dev nD) : k0_dev47 c = (sh c 2).val := by revert c; decide +kernel

theorem f_dev48 (c : Dev nD) : k0_dev48 c = (sh c 3).val := by revert c; decide +kernel

theorem f_dev49 (c : Dev nD) : k0_dev49 c = (sh c 4).val := by revert c; decide +kernel

theorem f_dev50 (c : Dev nD) : k0_dev50 c = (sh c 5).val := by revert c; decide +kernel

theorem f_dev51 (c : Dev nD) : k0_dev51 c = (sh c 6).val := by revert c; decide +kernel

theorem f_dev52 (c : Dev nD) : k0_dev52 c = (sh c 7).val := by revert c; decide +kernel

theorem f_dev53 (c : Dev nD) : k0_dev53 c = (sh c 8).val := by revert c; decide +kernel

theorem f_dev54 (c : Dev nD) : k0_dev54 c = (sh c 9).val := by revert c; decide +kernel

theorem f_dev55 (c : Dev nD) : k0_dev55 c = (sh c 10).val := by revert c; decide +kernel

theorem f_dev56 (c : Dev nD) : k0_dev56 c = (sh c 11).val := by revert c; decide +kernel

theorem f_dev57 (c : Dev nD) : k0_dev57 c = (sh c 12).val := by revert c; decide +kernel

theorem f_dev58 (c : Dev nD) : k0_dev58 c = (sh c 13).val := by revert c; decide +kernel

theorem f_dev59 (c : Dev nD) : k0_dev59 c = (sh c 14).val := by revert c; decide +kernel

theorem f_dev60 (c : Dev nD) : k0_dev60 c = (sh c 15).val := by revert c; decide +kernel

theorem f_dev61 (c : Dev nD) : k0_dev61 c = (sh c 1).val := by revert c; decide +kernel

theorem f_dev62 (c : Dev nD) : k0_dev62 c = (sh c 2).val := by revert c; decide +kernel

theorem f_dev63 (c : Dev nD) : k0_dev63 c = (sh c 3).val := by revert c; decide +kernel

theorem f_dev64 (c : Dev nD) : k0_dev64 c = (sh c 4).val := by revert c; decide +kernel

theorem f_dev65 (c : Dev nD) : k0_dev65 c = (sh c 5).val := by revert c; decide +kernel

theorem f_dev66 (c : Dev nD) : k0_dev66 c = (sh c 6).val := by revert c; decide +kernel

theorem f_dev67 (c : Dev nD) : k0_dev67 c = (sh c 7).val := by revert c; decide +kernel

theorem f_dev68 (c : Dev nD) : k0_dev68 c = (sh c 8).val := by revert c; decide +kernel

theorem f_dev69 (c : Dev nD) : k0_dev69 c = (sh c 9).val := by revert c; decide +kernel

theorem f_dev70 (c : Dev nD) : k0_dev70 c = (sh c 10).val := by revert c; decide +kernel

theorem f_dev71 (c : Dev nD) : k0_dev71 c = (sh c 11).val := by revert c; decide +kernel

theorem f_dev72 (c : Dev nD) : k0_dev72 c = (sh c 12).val := by revert c; decide +kernel

theorem f_dev73 (c : Dev nD) : k0_dev73 c = (sh c 13).val := by revert c; decide +kernel

theorem f_dev74 (c : Dev nD) : k0_dev74 c = (sh c 14).val := by revert c; decide +kernel

theorem f_dev75 (c : Dev nD) : k0_dev75 c = (sh c 15).val := by revert c; decide +kernel

theorem f_cond1 (c : Dev nD) : k0_cond1 c = 1#1 ↔ c.val % 2 = 0 := by revert c; decide +kernel

theorem f_cond2 (c : Dev nD) : k0_cond2 c = 1#1 ↔ c.val % 2 = 0 := by revert c; decide +kernel

theorem f_cond3 (c : Dev nD) : k0_cond3 c = 1#1 ↔ c.val % 2 = 0 := by revert c; decide +kernel

theorem f_cond4 (c : Dev nD) : k0_cond4 c = 1#1 ↔ c.val % 2 = 0 := by revert c; decide +kernel

theorem f_cond5 (c : Dev nD) : k0_cond5 c = 1#1 ↔ c.val % 2 = 0 := by revert c; decide +kernel

theorem f_cond6 (c : Dev nD) : k0_cond6 c = 1#1 ↔ c.val % 2 = 0 := by revert c; decide +kernel

theorem f_cond7 (c : Dev nD) : k0_cond7 c = 1#1 ↔ c.val % 2 = 0 := by revert c; decide +kernel

theorem f_cond8 (c : Dev nD) : k0_cond8 c = 1#1 ↔ c.val % 2 = 0 := by revert c; decide +kernel

theorem f_cond9 (c : Dev nD) : k0_cond9 c = 1#1 ↔ c.val % 2 = 0 := by revert c; decide +kernel

theorem f_cond10 (c : Dev nD) : k0_cond10 c = 1#1 ↔ c.val % 2 = 0 := by revert c; decide +kernel

theorem f_cond11 (c : Dev nD) : k0_cond11 c = 1#1 ↔ c.val % 2 = 0 := by revert c; decide +kernel

theorem f_cond12 (c : Dev nD) : k0_cond12 c = 1#1 ↔ c.val % 2 = 0 := by revert c; decide +kernel

theorem f_cond13 (c : Dev nD) : k0_cond13 c = 1#1 ↔ c.val % 2 = 0 := by revert c; decide +kernel

theorem f_cond14 (c : Dev nD) : k0_cond14 c = 1#1 ↔ c.val % 2 = 0 := by revert c; decide +kernel

theorem f_cond15 (c : Dev nD) : k0_cond15 c = 1#1 ↔ c.val % 2 = 0 := by revert c; decide +kernel

theorem f_cond16 (c : Dev nD) : k0_cond16 c = 1#1 ↔ c.val % 2 = 0 := by revert c; decide +kernel

theorem f_cond17 (c : Dev nD) : k0_cond17 c = 1#1 ↔ c.val % 2 = 0 := by revert c; decide +kernel

theorem f_cond26 (c : Dev nD) : k0_cond26 c = 1#1 ↔ c.val % 2 = 0 := by revert c; decide +kernel

theorem f_off1_0 (c : Dev nD) : k0_off1 c 0#32 = ![0, 0, 4 * (sh c 0).val, 0] := by revert c; decide +kernel

theorem f_off1_1 (c : Dev nD) : k0_off1 c 1#32 = ![0, 0, 4 * (sh c 1).val, 0] := by revert c; decide +kernel

theorem f_off1_2 (c : Dev nD) : k0_off1 c 2#32 = ![0, 0, 4 * (sh c 2).val, 0] := by revert c; decide +kernel

theorem f_off1_3 (c : Dev nD) : k0_off1 c 3#32 = ![0, 0, 4 * (sh c 3).val, 0] := by revert c; decide +kernel

theorem f_off1_4 (c : Dev nD) : k0_off1 c 4#32 = ![0, 0, 4 * (sh c 4).val, 0] := by revert c; decide +kernel

theorem f_off1_5 (c : Dev nD) : k0_off1 c 5#32 = ![0, 0, 4 * (sh c 5).val, 0] := by revert c; decide +kernel

theorem f_off1_6 (c : Dev nD) : k0_off1 c 6#32 = ![0, 0, 4 * (sh c 6).val, 0] := by revert c; decide +kernel

theorem f_off1_7 (c : Dev nD) : k0_off1 c 7#32 = ![0, 0, 4 * (sh c 7).val, 0] := by revert c; decide +kernel

theorem f_off1_8 (c : Dev nD) : k0_off1 c 8#32 = ![0, 0, 4 * (sh c 8).val, 0] := by revert c; decide +kernel

theorem f_off1_9 (c : Dev nD) : k0_off1 c 9#32 = ![0, 0, 4 * (sh c 9).val, 0] := by revert c; decide +kernel

theorem f_off1_10 (c : Dev nD) : k0_off1 c 10#32 = ![0, 0, 4 * (sh c 10).val, 0] := by revert c; decide +kernel

theorem f_off1_11 (c : Dev nD) : k0_off1 c 11#32 = ![0, 0, 4 * (sh c 11).val, 0] := by revert c; decide +kernel

theorem f_off1_12 (c : Dev nD) : k0_off1 c 12#32 = ![0, 0, 4 * (sh c 12).val, 0] := by revert c; decide +kernel

theorem f_off1_13 (c : Dev nD) : k0_off1 c 13#32 = ![0, 0, 4 * (sh c 13).val, 0] := by revert c; decide +kernel

theorem f_off1_14 (c : Dev nD) : k0_off1 c 14#32 = ![0, 0, 4 * (sh c 14).val, 0] := by revert c; decide +kernel

theorem f_off1_15 (c : Dev nD) : k0_off1 c 15#32 = ![0, 0, 4 * (sh c 15).val, 0] := by revert c; decide +kernel

theorem f_off2 (c : Dev nD) : k0_off2 c 0 = (sh c 1).val := by revert c; decide +kernel

theorem f_off3 (c : Dev nD) : k0_off3 c 0 = c.val := by revert c; decide +kernel

theorem f_off4 (c : Dev nD) : k0_off4 c 0 = c.val / 2 := by revert c; decide +kernel

theorem f_off5 (c : Dev nD) : k0_off5 c 0 = (sh c 2).val := by revert c; decide +kernel

theorem f_off6 (c : Dev nD) : k0_off6 c 0 = c.val := by revert c; decide +kernel

theorem f_off7 (c : Dev nD) : k0_off7 c 0 = c.val / 2 := by revert c; decide +kernel

theorem f_off8 (c : Dev nD) : k0_off8 c 0 = (sh c 3).val := by revert c; decide +kernel

theorem f_off9 (c : Dev nD) : k0_off9 c 0 = c.val := by revert c; decide +kernel

theorem f_off10 (c : Dev nD) : k0_off10 c 0 = c.val / 2 := by revert c; decide +kernel

theorem f_off11 (c : Dev nD) : k0_off11 c 0 = (sh c 4).val := by revert c; decide +kernel

theorem f_off12 (c : Dev nD) : k0_off12 c 0 = c.val := by revert c; decide +kernel

theorem f_off13 (c : Dev nD) : k0_off13 c 0 = c.val / 2 := by revert c; decide +kernel

theorem f_off14 (c : Dev nD) : k0_off14 c 0 = (sh c 5).val := by revert c; decide +kernel

theorem f_off15 (c : Dev nD) : k0_off15 c 0 = c.val := by revert c; decide +kernel

theorem f_off16 (c : Dev nD) : k0_off16 c 0 = c.val / 2 := by revert c; decide +kernel

theorem f_off17 (c : Dev nD) : k0_off17 c 0 = (sh c 6).val := by revert c; decide +kernel

theorem f_off18 (c : Dev nD) : k0_off18 c 0 = c.val := by revert c; decide +kernel

theorem f_off19 (c : Dev nD) : k0_off19 c 0 = c.val / 2 := by revert c; decide +kernel

theorem f_off20 (c : Dev nD) : k0_off20 c 0 = (sh c 7).val := by revert c; decide +kernel

theorem f_off21 (c : Dev nD) : k0_off21 c 0 = c.val := by revert c; decide +kernel

theorem f_off22 (c : Dev nD) : k0_off22 c 0 = c.val / 2 := by revert c; decide +kernel

theorem f_off23 (c : Dev nD) : k0_off23 c 0 = (sh c 8).val := by revert c; decide +kernel

theorem f_off24 (c : Dev nD) : k0_off24 c 0 = c.val := by revert c; decide +kernel

theorem f_off25 (c : Dev nD) : k0_off25 c 0 = c.val / 2 := by revert c; decide +kernel

theorem f_off26 (c : Dev nD) : k0_off26 c 0 = (sh c 9).val := by revert c; decide +kernel

theorem f_off27 (c : Dev nD) : k0_off27 c 0 = c.val := by revert c; decide +kernel

theorem f_off28 (c : Dev nD) : k0_off28 c 0 = c.val / 2 := by revert c; decide +kernel

theorem f_off29 (c : Dev nD) : k0_off29 c 0 = (sh c 10).val := by revert c; decide +kernel

theorem f_off30 (c : Dev nD) : k0_off30 c 0 = c.val := by revert c; decide +kernel

theorem f_off31 (c : Dev nD) : k0_off31 c 0 = c.val / 2 := by revert c; decide +kernel

theorem f_off32 (c : Dev nD) : k0_off32 c 0 = (sh c 11).val := by revert c; decide +kernel

theorem f_off33 (c : Dev nD) : k0_off33 c 0 = c.val := by revert c; decide +kernel

theorem f_off34 (c : Dev nD) : k0_off34 c 0 = c.val / 2 := by revert c; decide +kernel

theorem f_off35 (c : Dev nD) : k0_off35 c 0 = (sh c 12).val := by revert c; decide +kernel

theorem f_off36 (c : Dev nD) : k0_off36 c 0 = c.val := by revert c; decide +kernel

theorem f_off37 (c : Dev nD) : k0_off37 c 0 = c.val / 2 := by revert c; decide +kernel

theorem f_off38 (c : Dev nD) : k0_off38 c 0 = (sh c 13).val := by revert c; decide +kernel

theorem f_off39 (c : Dev nD) : k0_off39 c 0 = c.val := by revert c; decide +kernel

theorem f_off40 (c : Dev nD) : k0_off40 c 0 = c.val / 2 := by revert c; decide +kernel

theorem f_off41 (c : Dev nD) : k0_off41 c 0 = (sh c 14).val := by revert c; decide +kernel

theorem f_off42 (c : Dev nD) : k0_off42 c 0 = c.val := by revert c; decide +kernel

theorem f_off43 (c : Dev nD) : k0_off43 c 0 = c.val / 2 := by revert c; decide +kernel

theorem f_off44 (c : Dev nD) : k0_off44 c 0 = (sh c 15).val := by revert c; decide +kernel

theorem f_off45 (c : Dev nD) : k0_off45 c 0 = c.val := by revert c; decide +kernel

theorem f_off46 (c : Dev nD) : k0_off46 c 0 = c.val / 2 := by revert c; decide +kernel

theorem f_off47 (c : Dev nD) : k0_off47 c 0 = c.val / 2 := by revert c; decide +kernel

theorem f_off49 (c : Dev nD) : k0_off49 c 0 = c.val / 2 := by revert c; decide +kernel

theorem f_off48_1 (c : Dev nD) : k0_off48 c 1#32 0 = (sh c 1).val := by revert c; decide +kernel

theorem f_off50_1 (c : Dev nD) : k0_off50 c 1#32 0 = (sh c 1).val := by revert c; decide +kernel

theorem f_off53_1 (c : Dev nD) : k0_off53 c 1#32 0 = 16 * (sh c 1).val := by revert c; decide +kernel

theorem f_off56_1 (c : Dev nD) : k0_off56 c 1#32 0 = (sh c 1).val := by revert c; decide +kernel

theorem f_off48_2 (c : Dev nD) : k0_off48 c 2#32 0 = (sh c 2).val := by revert c; decide +kernel

theorem f_off50_2 (c : Dev nD) : k0_off50 c 2#32 0 = (sh c 2).val := by revert c; decide +kernel

theorem f_off53_2 (c : Dev nD) : k0_off53 c 2#32 0 = 16 * (sh c 2).val := by revert c; decide +kernel

theorem f_off56_2 (c : Dev nD) : k0_off56 c 2#32 0 = (sh c 2).val := by revert c; decide +kernel

theorem f_off48_3 (c : Dev nD) : k0_off48 c 3#32 0 = (sh c 3).val := by revert c; decide +kernel

theorem f_off50_3 (c : Dev nD) : k0_off50 c 3#32 0 = (sh c 3).val := by revert c; decide +kernel

theorem f_off53_3 (c : Dev nD) : k0_off53 c 3#32 0 = 16 * (sh c 3).val := by revert c; decide +kernel

theorem f_off56_3 (c : Dev nD) : k0_off56 c 3#32 0 = (sh c 3).val := by revert c; decide +kernel

theorem f_off48_4 (c : Dev nD) : k0_off48 c 4#32 0 = (sh c 4).val := by revert c; decide +kernel

theorem f_off50_4 (c : Dev nD) : k0_off50 c 4#32 0 = (sh c 4).val := by revert c; decide +kernel

theorem f_off53_4 (c : Dev nD) : k0_off53 c 4#32 0 = 16 * (sh c 4).val := by revert c; decide +kernel

theorem f_off56_4 (c : Dev nD) : k0_off56 c 4#32 0 = (sh c 4).val := by revert c; decide +kernel

theorem f_off48_5 (c : Dev nD) : k0_off48 c 5#32 0 = (sh c 5).val := by revert c; decide +kernel

theorem f_off50_5 (c : Dev nD) : k0_off50 c 5#32 0 = (sh c 5).val := by revert c; decide +kernel

theorem f_off53_5 (c : Dev nD) : k0_off53 c 5#32 0 = 16 * (sh c 5).val := by revert c; decide +kernel

theorem f_off56_5 (c : Dev nD) : k0_off56 c 5#32 0 = (sh c 5).val := by revert c; decide +kernel

theorem f_off48_6 (c : Dev nD) : k0_off48 c 6#32 0 = (sh c 6).val := by revert c; decide +kernel

theorem f_off50_6 (c : Dev nD) : k0_off50 c 6#32 0 = (sh c 6).val := by revert c; decide +kernel

theorem f_off53_6 (c : Dev nD) : k0_off53 c 6#32 0 = 16 * (sh c 6).val := by revert c; decide +kernel

theorem f_off56_6 (c : Dev nD) : k0_off56 c 6#32 0 = (sh c 6).val := by revert c; decide +kernel

theorem f_off48_7 (c : Dev nD) : k0_off48 c 7#32 0 = (sh c 7).val := by revert c; decide +kernel

theorem f_off50_7 (c : Dev nD) : k0_off50 c 7#32 0 = (sh c 7).val := by revert c; decide +kernel

theorem f_off53_7 (c : Dev nD) : k0_off53 c 7#32 0 = 16 * (sh c 7).val := by revert c; decide +kernel

theorem f_off56_7 (c : Dev nD) : k0_off56 c 7#32 0 = (sh c 7).val := by revert c; decide +kernel

theorem f_off48_8 (c : Dev nD) : k0_off48 c 8#32 0 = (sh c 8).val := by revert c; decide +kernel

theorem f_off50_8 (c : Dev nD) : k0_off50 c 8#32 0 = (sh c 8).val := by revert c; decide +kernel

theorem f_off53_8 (c : Dev nD) : k0_off53 c 8#32 0 = 16 * (sh c 8).val := by revert c; decide +kernel

theorem f_off56_8 (c : Dev nD) : k0_off56 c 8#32 0 = (sh c 8).val := by revert c; decide +kernel

theorem f_off48_9 (c : Dev nD) : k0_off48 c 9#32 0 = (sh c 9).val := by revert c; decide +kernel

theorem f_off50_9 (c : Dev nD) : k0_off50 c 9#32 0 = (sh c 9).val := by revert c; decide +kernel

theorem f_off53_9 (c : Dev nD) : k0_off53 c 9#32 0 = 16 * (sh c 9).val := by revert c; decide +kernel

theorem f_off56_9 (c : Dev nD) : k0_off56 c 9#32 0 = (sh c 9).val := by revert c; decide +kernel

theorem f_off48_10 (c : Dev nD) : k0_off48 c 10#32 0 = (sh c 10).val := by revert c; decide +kernel

theorem f_off50_10 (c : Dev nD) : k0_off50 c 10#32 0 = (sh c 10).val := by revert c; decide +kernel

theorem f_off53_10 (c : Dev nD) : k0_off53 c 10#32 0 = 16 * (sh c 10).val := by revert c; decide +kernel

theorem f_off56_10 (c : Dev nD) : k0_off56 c 10#32 0 = (sh c 10).val := by revert c; decide +kernel

theorem f_off48_11 (c : Dev nD) : k0_off48 c 11#32 0 = (sh c 11).val := by revert c; decide +kernel

theorem f_off50_11 (c : Dev nD) : k0_off50 c 11#32 0 = (sh c 11).val := by revert c; decide +kernel

theorem f_off53_11 (c : Dev nD) : k0_off53 c 11#32 0 = 16 * (sh c 11).val := by revert c; decide +kernel

theorem f_off56_11 (c : Dev nD) : k0_off56 c 11#32 0 = (sh c 11).val := by revert c; decide +kernel

theorem f_off48_12 (c : Dev nD) : k0_off48 c 12#32 0 = (sh c 12).val := by revert c; decide +kernel

theorem f_off50_12 (c : Dev nD) : k0_off50 c 12#32 0 = (sh c 12).val := by revert c; decide +kernel

theorem f_off53_12 (c : Dev nD) : k0_off53 c 12#32 0 = 16 * (sh c 12).val := by revert c; decide +kernel

theorem f_off56_12 (c : Dev nD) : k0_off56 c 12#32 0 = (sh c 12).val := by revert c; decide +kernel

theorem f_off48_13 (c : Dev nD) : k0_off48 c 13#32 0 = (sh c 13).val := by revert c; decide +kernel

theorem f_off50_13 (c : Dev nD) : k0_off50 c 13#32 0 = (sh c 13).val := by revert c; decide +kernel

theorem f_off53_13 (c : Dev nD) : k0_off53 c 13#32 0 = 16 * (sh c 13).val := by revert c; decide +kernel

theorem f_off56_13 (c : Dev nD) : k0_off56 c 13#32 0 = (sh c 13).val := by revert c; decide +kernel

theorem f_off48_14 (c : Dev nD) : k0_off48 c 14#32 0 = (sh c 14).val := by revert c; decide +kernel

theorem f_off50_14 (c : Dev nD) : k0_off50 c 14#32 0 = (sh c 14).val := by revert c; decide +kernel

theorem f_off53_14 (c : Dev nD) : k0_off53 c 14#32 0 = 16 * (sh c 14).val := by revert c; decide +kernel

theorem f_off56_14 (c : Dev nD) : k0_off56 c 14#32 0 = (sh c 14).val := by revert c; decide +kernel

theorem f_off48_15 (c : Dev nD) : k0_off48 c 15#32 0 = (sh c 15).val := by revert c; decide +kernel

theorem f_off50_15 (c : Dev nD) : k0_off50 c 15#32 0 = (sh c 15).val := by revert c; decide +kernel

theorem f_off53_15 (c : Dev nD) : k0_off53 c 15#32 0 = 16 * (sh c 15).val := by revert c; decide +kernel

theorem f_off56_15 (c : Dev nD) : k0_off56 c 15#32 0 = (sh c 15).val := by revert c; decide +kernel

theorem f_off51 (c : Dev nD) : k0_off51 c 0 = c.val := by revert c; decide +kernel

theorem f_off52 (c : Dev nD) : k0_off52 c 0 = c.val := by revert c; decide +kernel

theorem f_off54 (c : Dev nD) : k0_off54 c 0 = 16 * c.val := by revert c; decide +kernel

theorem f_off55 (c : Dev nD) : k0_off55 c 0 = c.val := by revert c; decide +kernel

end Cert.SparseAttn

end
-- ==== Proof.Moves.lean ====
/-
The copies a device makes of its own blocks, and the loads of whole buffers.
-/
module

public import proofs.«01_k».proof.Proof.Local
public import proofs.«01_k».proof.Proof.Facts

public import Idealize.ShloMosaic.Lib.Pipeline.Value

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

/-- Reading everything is reading what is there. -/
theorem emb_whole {s : Shape} (off : Fin s.rank → ℕ) (inb : ∀ a, off a + s.size a ≤ s.size a) (x : s.Idx) : (Rect.unit (s := s) off s.size inb).emb x = x := by
  funext a
  apply Fin.ext
  show off a + 1 * (x a).val = (x a).val
  have := inb a
  omega

/-- Loading a whole buffer. -/
theorem ld_red {α : Type} {off inb} (f : Vec F S16x512 .bf16) (q : PosShare TreeShare) {hl : (redM.view).LoadsAt (Rect.unit (s := S16x512) off S16x512.size inb).toLoadRect}
    {k : Vec F S16x512 .bf16 → Prog (TpuEff nD τ sig (Elt F) Λ₀ .tc) α} {Q : α → sProp 𝕄} :
    redP c q Finset.univ f ⊢ iprop((redP c q Finset.univ f -∗ run c (k f) Q)
      -∗ run c (.op (.load redM (Rect.unit (s := S16x512) off S16x512.size inb).toLoadRect hl) k) Q) := by
  have hv : (redM.access (Rect.unit (s := S16x512) off S16x512.size inb)).read (Elt F) f = f := by
    funext x; exact congrArg f (emb_whole off inb x)
  exact step_load c (m := redM) (r := Rect.unit (s := S16x512) off S16x512.size inb) (S := Finset.univ) (q := q) (f := f) (Finset.subset_univ _) hv
theorem ld_acc {α : Type} {off inb} (f : Vec F S16x16x512 .bf16) {hl : (accM.view).LoadsAt (Rect.unit (s := S16x16x512) off S16x16x512.size inb).toLoadRect}
    {k : Vec F S16x16x512 .bf16 → Prog (TpuEff nD τ sig (Elt F) Λ₀ .tc) α} {Q : α → sProp 𝕄} :
    accP c fullShare Finset.univ f ⊢ iprop((accP c fullShare Finset.univ f -∗ run c (k f) Q)
      -∗ run c (.op (.load accM (Rect.unit (s := S16x16x512) off S16x16x512.size inb).toLoadRect hl) k) Q) := by
  have hv : (accM.access (Rect.unit (s := S16x16x512) off S16x16x512.size inb)).read (Elt F) f = f := by
    funext x; exact congrArg f (emb_whole off inb x)
  exact step_load c (m := accM) (r := Rect.unit (s := S16x16x512) off S16x16x512.size inb) (S := Finset.univ) (q := fullShare) (f := f) (Finset.subset_univ _) hv
theorem ld_gath {α : Type} {off inb} (f : Vec F S16x16x512 .bf16) {hl : (gathM.view).LoadsAt (Rect.unit (s := S16x16x512) off S16x16x512.size inb).toLoadRect}
    {k : Vec F S16x16x512 .bf16 → Prog (TpuEff nD τ sig (Elt F) Λ₀ .tc) α} {Q : α → sProp 𝕄} :
    gathP c fullShare Finset.univ f ⊢ iprop((gathP c fullShare Finset.univ f -∗ run c (k f) Q)
      -∗ run c (.op (.load gathM (Rect.unit (s := S16x16x512) off S16x16x512.size inb).toLoadRect hl) k) Q) := by
  have hv : (gathM.access (Rect.unit (s := S16x16x512) off S16x16x512.size inb)).read (Elt F) f = f := by
    funext x; exact congrArg f (emb_whole off inb x)
  exact step_load c (m := gathM) (r := Rect.unit (s := S16x16x512) off S16x16x512.size inb) (S := Finset.univ) (q := fullShare) (f := f) (Finset.subset_univ _) hv
theorem ld_in1 {α : Type} {off inb} (f : Vec F S512x256 .f32) {hl : (in1M.view).LoadsAt (Rect.unit (s := S512x256) off S512x256.size inb).toLoadRect}
    {k : Vec F S512x256 .f32 → Prog (TpuEff nD τ sig (Elt F) Λ₀ .tc) α} {Q : α → sProp 𝕄} :
    in1P c f ⊢ iprop((in1P c f -∗ run c (k f) Q)
      -∗ run c (.op (.load in1M (Rect.unit (s := S512x256) off S512x256.size inb).toLoadRect hl) k) Q) := by
  have hv : (in1M.access (Rect.unit (s := S512x256) off S512x256.size inb)).read (Elt F) f = f := by
    funext x; exact congrArg f (emb_whole off inb x)
  exact step_load c (m := in1M) (r := Rect.unit (s := S512x256) off S512x256.size inb) (S := Finset.univ) (q := fullShare) (f := f) (Finset.subset_univ _) hv
theorem ld_in4 {α : Type} {off inb} (f : Vec F S256x512 .f32) {hl : (in4M.view).LoadsAt (Rect.unit (s := S256x512) off S256x512.size inb).toLoadRect}
    {k : Vec F S256x512 .f32 → Prog (TpuEff nD τ sig (Elt F) Λ₀ .tc) α} {Q : α → sProp 𝕄} :
    in4P c f ⊢ iprop((in4P c f -∗ run c (k f) Q)
      -∗ run c (.op (.load in4M (Rect.unit (s := S256x512) off S256x512.size inb).toLoadRect hl) k) Q) := by
  have hv : (in4M.access (Rect.unit (s := S256x512) off S256x512.size inb)).read (Elt F) f = f := by
    funext x; exact congrArg f (emb_whole off inb x)
  exact step_load c (m := in4M) (r := Rect.unit (s := S256x512) off S256x512.size inb) (S := Finset.univ) (q := fullShare) (f := f) (Finset.subset_univ _) hv
theorem ld_out {α : Type} {off inb} (f : Vec F S2x128x512 .f32) {hl : (outM.view).LoadsAt (Rect.unit (s := S2x128x512) off S2x128x512.size inb).toLoadRect}
    {k : Vec F S2x128x512 .f32 → Prog (TpuEff nD τ sig (Elt F) Λ₀ .tc) α} {Q : α → sProp 𝕄} :
    outP c f ⊢ iprop((outP c f -∗ run c (k f) Q)
      -∗ run c (.op (.load outM (Rect.unit (s := S2x128x512) off S2x128x512.size inb).toLoadRect hl) k) Q) := by
  have hv : (outM.access (Rect.unit (s := S2x128x512) off S2x128x512.size inb)).read (Elt F) f = f := by
    funext x; exact congrArg f (emb_whole off inb x)
  exact step_load c (m := outM) (r := Rect.unit (s := S2x128x512) off S2x128x512.size inb) (S := Finset.univ) (q := fullShare) (f := f) (Finset.subset_univ _) hv

theorem rect_whole {s : Shape} (off : Fin s.rank → ℕ) (inb : ∀ a, off a + s.size a ≤ s.size a) : (Rect.unit (s := s) off s.size inb).set = Finset.univ := by
  ext x
  refine ⟨fun _ => Finset.mem_univ _, fun _ => ?_⟩
  refine Rect.mem_set_unit.mpr fun a => ?_
  have := inb a
  have := (x a).isLt
  omega

/-- Storing over a whole buffer. -/
theorem st_red {α : Type} {off inb} (f g : Vec F S16x512 .bf16) {w : Vec F S16x512 .bf16} (hw : w = g)
    {hx : (redM.access (Rect.unit (s := S16x512) off S16x512.size inb)).Stores Finset.univ} {hm}
    {pr : PUnit → Prog (TpuEff nD τ sig (Elt F) Λ₀ .tc) α} {Q : α → sProp 𝕄} :
    redP c fullShare Finset.univ f ⊢ iprop((redP c fullShare Finset.univ g -∗ run c (pr ⟨⟩) Q)
      -∗ run c (.op (.store redM (Rect.unit (s := S16x512) off S16x512.size inb) w Finset.univ hx hm) pr) Q) := by
  subst hw
  have hS : (redM.access (Rect.unit (s := S16x512) off S16x512.size inb)).set = Finset.univ := (View.set_slice_whole cc0_scratch6 _).trans (rect_whole _ _)
  have hv : (redM.access (Rect.unit (s := S16x512) off S16x512.size inb)).read (Elt F) w = w := by
    funext x; exact congrArg w (emb_whole off inb x)
  exact step_store c (m := redM) (r := Rect.unit (s := S16x512) off S16x512.size inb) (S := Finset.univ) (f := f) w hS hv
theorem st_out {α : Type} {off inb} (f g : Vec F S2x128x512 .f32) {w : Vec F S2x128x512 .f32} (hw : w = g)
    {hx : (outM.access (Rect.unit (s := S2x128x512) off S2x128x512.size inb)).Stores Finset.univ} {hm}
    {pr : PUnit → Prog (TpuEff nD τ sig (Elt F) Λ₀ .tc) α} {Q : α → sProp 𝕄} :
    outP c f ⊢ iprop((outP c g -∗ run c (pr ⟨⟩) Q)
      -∗ run c (.op (.store outM (Rect.unit (s := S2x128x512) off S2x128x512.size inb) w Finset.univ hx hm) pr) Q) := by
  subst hw
  have hS : (outM.access (Rect.unit (s := S2x128x512) off S2x128x512.size inb)).set = Finset.univ := (View.set_slice_whole cc0_stg5_0 _).trans (rect_whole _ _)
  have hv : (outM.access (Rect.unit (s := S2x128x512) off S2x128x512.size inb)).read (Elt F) w = w := by
    funext x; exact congrArg w (emb_whole off inb x)
  exact step_store c (m := outM) (r := Rect.unit (s := S2x128x512) off S2x128x512.size inb) (S := Finset.univ) (f := f) w hS hv

/-! ## The device's own slot of the gathered keys and values -/

theorem own_rbk (X : Dev nD → Vec F S2x128x64x64 .f32) (he : ev c) {off off' inb inb'} (h : off 0 = c.val / 2) (h' : off' 0 = 0) :
    (rbkM.access (Rect.unit (s := S8x2x128x4x64) off S1x2x128x4x64.size inb)).read (Elt F) (RBK X c)
      = k0_pay37 ((kstM.access (Rect.unit (s := S16x2x128x4x64) off' S1x2x128x4x64.size inb')).read (Elt F) (KST X c)) := by
  obtain ⟨s, hs, hsc⟩ := src_half he
  dsimp only [k0_pay37]
  rw [shapeCast_self]
  funext x
  show RBK X c ((Rect.unit (s := S8x2x128x4x64) off S1x2x128x4x64.size inb).emb x) = KST X c ((Rect.unit (s := S16x2x128x4x64) off' S1x2x128x4x64.size inb').emb x)
  have x0 : (x 0).val = 0 := by have : (x 0).val < 1 := (x 0).isLt; omega
  have h0 : ((Rect.unit (s := S8x2x128x4x64) off S1x2x128x4x64.size inb).emb x) 0 = s := Fin.ext (by show off 0 + 1 * (x 0).val = _; omega)
  unfold RBK
  rw [h0, hsc]
  congr 1
  funext a
  refine Fin.cases ?_ (fun a => ?_) a
  · apply Fin.ext
    show (df c c).val = off' 0 + 1 * (x 0).val
    have : df c c = 0 := df_zero.mpr rfl
    rw [this]
    show 0 = _
    omega
  · apply Fin.ext
    show off a.succ + 1 * (x a.succ).val = off' a.succ + 1 * (x a.succ).val
    have h1 : off a.succ = 0 := off_zero inb a ((by decide : ∀ a : Fin 4, S1x2x128x4x64.size a.succ = S8x2x128x4x64.size a.succ) a)
    have h2 : off' a.succ = 0 := off_zero inb' a ((by decide : ∀ a : Fin 4, S1x2x128x4x64.size a.succ = S16x2x128x4x64.size a.succ) a)
    omega

theorem own_rbv (X : Dev nD → Vec F S2x128x64x64 .f32) (he : ev c) {off off' inb inb'} (h : off 0 = c.val / 2) (h' : off' 0 = 0) :
    (rbvM.access (Rect.unit (s := S8x2x128x4x64) off S1x2x128x4x64.size inb)).read (Elt F) (RBK X c)
      = k0_pay38 ((vstM.access (Rect.unit (s := S16x2x128x4x64) off' S1x2x128x4x64.size inb')).read (Elt F) (KST X c)) :=
  own_rbk c X he h h'

/-! ## The device's own chunk -/

theorem acc_pb (off inb) (k : ℕ) (h : off 0 = 16 * k) : (pbM.access (Rect.unit (s := S256x512) off S16x512.size inb)).set = rowsAt 16 k :=
  (View.set_slice_whole cc0_scratch4 _).trans (set_rows off _ inb 16 k (by decide) h rfl (by decide))
theorem acc_acc (off inb) (k : ℕ) (h : off 0 = k) : (accM.access (Rect.unit (s := S16x16x512) off S1x16x512.size inb)).set = rowsAt 1 k :=
  (View.set_slice_whole cc0_scratch5 _).trans (set_rows off _ inb 1 k Nat.one_pos (by rw [h, Nat.one_mul]) rfl (by decide))
theorem acc_gath (off inb) (k : ℕ) (h : off 0 = k) : (gathM.access (Rect.unit (s := S16x16x512) off S1x16x512.size inb)).set = rowsAt 1 k :=
  (View.set_slice_whole cc0_scratch7 _).trans (set_rows off _ inb 1 k Nat.one_pos (by rw [h, Nat.one_mul]) rfl (by decide))

theorem cast_slot (v : Vec F S16x512 .bf16) (x : S1x16x512.Idx) :
    shapeCast S1x16x512 v shapeCasts_S16x512_S1x16x512 x = v fun | ⟨0, _⟩ => x 1 | ⟨1, _⟩ => x 2 := by
  rw [shapeCast_addUnit_apply (n := 2) ![16, 512] v shapeCasts_S16x512_S1x16x512 x]
  congr 1
  funext a
  match a with
  | ⟨0, _⟩ => rfl
  | ⟨1, _⟩ => rfl

theorem own_acc {off off' inb inb'} (h : off 0 = c.val) (h' : off' 0 = 16 * c.val) :
    (accM.access (Rect.unit (s := S16x16x512) off S1x16x512.size inb)).read (Elt F) (ACC PB c)
      = k0_pay212 ((pbM.access (Rect.unit (s := S256x512) off' S16x512.size inb')).read (Elt F) (PB c)) := by
  dsimp only [k0_pay212]
  rw [shapeCast_self]
  funext x
  rw [cast_slot]
  show ACC PB c ((Rect.unit (s := S16x16x512) off S1x16x512.size inb).emb x) = PB c ((Rect.unit (s := S256x512) off' S16x512.size inb').emb _)
  have x0 : (x 0).val = 0 := by have : (x 0).val < 1 := (x 0).isLt; omega
  have h0 : ((Rect.unit (s := S16x16x512) off S1x16x512.size inb).emb x) 0 = c := Fin.ext (by show off 0 + 1 * (x 0).val = _; omega)
  unfold ACC
  rw [h0]
  congr 1
  have d1 : off (Fin.succ 0) = 0 := off_zero inb 0 (by decide)
  have d2 : off (Fin.succ 1) = 0 := off_zero inb 1 (by decide)
  have s1 : off' (Fin.succ 0) = 0 := off_zero inb' 0 (by decide)
  funext a
  apply Fin.ext
  match a with
  | ⟨0, _⟩ =>
    show 16 * c.val + (off (Fin.succ 0) + 1 * (x 1).val) = off' 0 + 1 * (x 1).val
    omega
  | ⟨1, _⟩ =>
    show off (Fin.succ 1) + 1 * (x 2).val = off' (Fin.succ 0) + 1 * (x 2).val
    omega

theorem own_gath (PB : Dev nD → Vec F S256x512 .bf16) {off inb} (h : off 0 = c.val) :
    (gathM.access (Rect.unit (s := S16x16x512) off S1x16x512.size inb)).read (Elt F) (GATH PB) = k0_pay214 (RED PB c) := by
  dsimp only [k0_pay214]
  rw [shapeCast_self]
  funext x
  rw [cast_slot]
  show GATH PB ((Rect.unit (s := S16x16x512) off S1x16x512.size inb).emb x) = RED PB c _
  have x0 : (x 0).val = 0 := by have : (x 0).val < 1 := (x 0).isLt; omega
  have h0 : ((Rect.unit (s := S16x16x512) off S1x16x512.size inb).emb x) 0 = c := Fin.ext (by show off 0 + 1 * (x 0).val = _; omega)
  unfold GATH
  rw [h0]
  congr 1
  have d1 : off (Fin.succ 0) = 0 := off_zero inb 0 (by decide)
  have d2 : off (Fin.succ 1) = 0 := off_zero inb 1 (by decide)
  funext a
  apply Fin.ext
  match a with
  | ⟨0, _⟩ =>
    show off (Fin.succ 0) + 1 * (x 1).val = (x 1).val
    omega
  | ⟨1, _⟩ =>
    show off (Fin.succ 1) + 1 * (x 2).val = (x 2).val
    omega

/-- Storing over a slot of a stack. -/
theorem st_slot_rbk {α : Type} {off inb} (k : ℕ) (h : off 0 = k) (f g : Vec F S8x2x128x4x64 .bf16) {w : Vec F S1x2x128x4x64 .bf16}
    (hw : (rbkM.access (Rect.unit (s := S8x2x128x4x64) off S1x2x128x4x64.size inb)).read (Elt F) g = w)
    {hx : (rbkM.access (Rect.unit (s := S8x2x128x4x64) off S1x2x128x4x64.size inb)).Stores Finset.univ} {hm}
    {pr : PUnit → Prog (TpuEff nD τ sig (Elt F) Λ₀ .tc) α} {Q : α → sProp 𝕄} :
    rbkP c fullShare (rowsAt 1 k) f ⊢ iprop((rbkP c fullShare (rowsAt 1 k) g -∗ run c (pr ⟨⟩) Q)
      -∗ run c (.op (.store rbkM (Rect.unit (s := S8x2x128x4x64) off S1x2x128x4x64.size inb) w Finset.univ hx hm) pr) Q) :=
  step_store c (m := rbkM) (r := Rect.unit (s := S8x2x128x4x64) off S1x2x128x4x64.size inb) (S := rowsAt (d := S8x2x128x4x64.size) 1 k) (f := f) g (acc_rbk off inb k h) hw
theorem ld_slot_rbk {α : Type} {off inb} (k : ℕ) (h : off 0 = k) (f : Vec F S8x2x128x4x64 .bf16) {hl : (rbkM.view).LoadsAt (Rect.unit (s := S8x2x128x4x64) off S1x2x128x4x64.size inb).toLoadRect}
    {pr : Vec F S1x2x128x4x64 .bf16 → Prog (TpuEff nD τ sig (Elt F) Λ₀ .tc) α} {Q : α → sProp 𝕄} :
    rbkP c fullShare (rowsAt 1 k) f ⊢ iprop((rbkP c fullShare (rowsAt 1 k) f -∗ run c (pr ((rbkM.access (Rect.unit (s := S8x2x128x4x64) off S1x2x128x4x64.size inb)).read (Elt F) f)) Q)
      -∗ run c (.op (.load rbkM (Rect.unit (s := S8x2x128x4x64) off S1x2x128x4x64.size inb).toLoadRect hl) pr) Q) :=
  step_load c (m := rbkM) (r := Rect.unit (s := S8x2x128x4x64) off S1x2x128x4x64.size inb) (S := rowsAt (d := S8x2x128x4x64.size) 1 k) (q := fullShare) (f := f) (by rw [acc_rbk off inb k h]) rfl
theorem st_slot_rbv {α : Type} {off inb} (k : ℕ) (h : off 0 = k) (f g : Vec F S8x2x128x4x64 .bf16) {w : Vec F S1x2x128x4x64 .bf16}
    (hw : (rbvM.access (Rect.unit (s := S8x2x128x4x64) off S1x2x128x4x64.size inb)).read (Elt F) g = w)
    {hx : (rbvM.access (Rect.unit (s := S8x2x128x4x64) off S1x2x128x4x64.size inb)).Stores Finset.univ} {hm}
    {pr : PUnit → Prog (TpuEff nD τ sig (Elt F) Λ₀ .tc) α} {Q : α → sProp 𝕄} :
    rbvP c fullShare (rowsAt 1 k) f ⊢ iprop((rbvP c fullShare (rowsAt 1 k) g -∗ run c (pr ⟨⟩) Q)
      -∗ run c (.op (.store rbvM (Rect.unit (s := S8x2x128x4x64) off S1x2x128x4x64.size inb) w Finset.univ hx hm) pr) Q) :=
  step_store c (m := rbvM) (r := Rect.unit (s := S8x2x128x4x64) off S1x2x128x4x64.size inb) (S := rowsAt (d := S8x2x128x4x64.size) 1 k) (f := f) g (acc_rbv off inb k h) hw
theorem ld_slot_rbv {α : Type} {off inb} (k : ℕ) (h : off 0 = k) (f : Vec F S8x2x128x4x64 .bf16) {hl : (rbvM.view).LoadsAt (Rect.unit (s := S8x2x128x4x64) off S1x2x128x4x64.size inb).toLoadRect}
    {pr : Vec F S1x2x128x4x64 .bf16 → Prog (TpuEff nD τ sig (Elt F) Λ₀ .tc) α} {Q : α → sProp 𝕄} :
    rbvP c fullShare (rowsAt 1 k) f ⊢ iprop((rbvP c fullShare (rowsAt 1 k) f -∗ run c (pr ((rbvM.access (Rect.unit (s := S8x2x128x4x64) off S1x2x128x4x64.size inb)).read (Elt F) f)) Q)
      -∗ run c (.op (.load rbvM (Rect.unit (s := S8x2x128x4x64) off S1x2x128x4x64.size inb).toLoadRect hl) pr) Q) :=
  step_load c (m := rbvM) (r := Rect.unit (s := S8x2x128x4x64) off S1x2x128x4x64.size inb) (S := rowsAt (d := S8x2x128x4x64.size) 1 k) (q := fullShare) (f := f) (by rw [acc_rbv off inb k h]) rfl
theorem st_slot_acc {α : Type} {off inb} (k : ℕ) (h : off 0 = k) (f g : Vec F S16x16x512 .bf16) {w : Vec F S1x16x512 .bf16}
    (hw : (accM.access (Rect.unit (s := S16x16x512) off S1x16x512.size inb)).read (Elt F) g = w)
    {hx : (accM.access (Rect.unit (s := S16x16x512) off S1x16x512.size inb)).Stores Finset.univ} {hm}
    {pr : PUnit → Prog (TpuEff nD τ sig (Elt F) Λ₀ .tc) α} {Q : α → sProp 𝕄} :
    accP c fullShare (rowsAt 1 k) f ⊢ iprop((accP c fullShare (rowsAt 1 k) g -∗ run c (pr ⟨⟩) Q)
      -∗ run c (.op (.store accM (Rect.unit (s := S16x16x512) off S1x16x512.size inb) w Finset.univ hx hm) pr) Q) :=
  step_store c (m := accM) (r := Rect.unit (s := S16x16x512) off S1x16x512.size inb) (S := rowsAt (d := S16x16x512.size) 1 k) (f := f) g (acc_acc off inb k h) hw
theorem ld_slot_acc {α : Type} {off inb} (k : ℕ) (h : off 0 = k) (f : Vec F S16x16x512 .bf16) {hl : (accM.view).LoadsAt (Rect.unit (s := S16x16x512) off S1x16x512.size inb).toLoadRect}
    {pr : Vec F S1x16x512 .bf16 → Prog (TpuEff nD τ sig (Elt F) Λ₀ .tc) α} {Q : α → sProp 𝕄} :
    accP c fullShare (rowsAt 1 k) f ⊢ iprop((accP c fullShare (rowsAt 1 k) f -∗ run c (pr ((accM.access (Rect.unit (s := S16x16x512) off S1x16x512.size inb)).read (Elt F) f)) Q)
      -∗ run c (.op (.load accM (Rect.unit (s := S16x16x512) off S1x16x512.size inb).toLoadRect hl) pr) Q) :=
  step_load c (m := accM) (r := Rect.unit (s := S16x16x512) off S1x16x512.size inb) (S := rowsAt (d := S16x16x512.size) 1 k) (q := fullShare) (f := f) (by rw [acc_acc off inb k h]) rfl
theorem st_slot_gath {α : Type} {off inb} (k : ℕ) (h : off 0 = k) (f g : Vec F S16x16x512 .bf16) {w : Vec F S1x16x512 .bf16}
    (hw : (gathM.access (Rect.unit (s := S16x16x512) off S1x16x512.size inb)).read (Elt F) g = w)
    {hx : (gathM.access (Rect.unit (s := S16x16x512) off S1x16x512.size inb)).Stores Finset.univ} {hm}
    {pr : PUnit → Prog (TpuEff nD τ sig (Elt F) Λ₀ .tc) α} {Q : α → sProp 𝕄} :
    gathP c fullShare (rowsAt 1 k) f ⊢ iprop((gathP c fullShare (rowsAt 1 k) g -∗ run c (pr ⟨⟩) Q)
      -∗ run c (.op (.store gathM (Rect.unit (s := S16x16x512) off S1x16x512.size inb) w Finset.univ hx hm) pr) Q) :=
  step_store c (m := gathM) (r := Rect.unit (s := S16x16x512) off S1x16x512.size inb) (S := rowsAt (d := S16x16x512.size) 1 k) (f := f) g (acc_gath off inb k h) hw
theorem ld_slot_gath {α : Type} {off inb} (k : ℕ) (h : off 0 = k) (f : Vec F S16x16x512 .bf16) {hl : (gathM.view).LoadsAt (Rect.unit (s := S16x16x512) off S1x16x512.size inb).toLoadRect}
    {pr : Vec F S1x16x512 .bf16 → Prog (TpuEff nD τ sig (Elt F) Λ₀ .tc) α} {Q : α → sProp 𝕄} :
    gathP c fullShare (rowsAt 1 k) f ⊢ iprop((gathP c fullShare (rowsAt 1 k) f -∗ run c (pr ((gathM.access (Rect.unit (s := S16x16x512) off S1x16x512.size inb)).read (Elt F) f)) Q)
      -∗ run c (.op (.load gathM (Rect.unit (s := S16x16x512) off S1x16x512.size inb).toLoadRect hl) pr) Q) :=
  step_load c (m := gathM) (r := Rect.unit (s := S16x16x512) off S1x16x512.size inb) (S := rowsAt (d := S16x16x512.size) 1 k) (q := fullShare) (f := f) (by rw [acc_gath off inb k h]) rfl

end Cert.SparseAttn

end
-- ==== Proof.Staging.lean ====
/-
The handshake and the staging of the keys and values.
-/
module

public import proofs.«01_k».proof.Proof.Moves

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

theorem part1 (hc : k0_cond1 c = 1#1) (v2) :
    iprop(fam Finset.univ 0 (AK0 c I) (BK0 c) ∗ fam Finset.univ 0 (AV0 c I) (BV0 c) ∗ in2P c (I.k c) ∗ in3P c (I.v c)) ⊢ run c (k0_part1 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc) (fun r => iprop(fam Finset.univ 1 (AK0 c I) (BK0 c) ∗ fam Finset.univ 1 (AV0 c I) (BV0 c) ∗ in2P c (I.k c) ∗ in3P c (I.v c))) := by
  rw [k0_part1_eq_skeleton]
  unfold k0_part1_skel
  simp only [Prog.lift, Prog.bind_op, Prog.bind_ret, Prog.pure_eq_ret]
  iintro ⟨Hk, Hv, H2, H3⟩
  iapply (ld_heads2 c (sh c 0) (f_off1_0 c) (I.k c)) $$ [H2]
  · iexact H2
  iintro H2
  iapply (step_stage_k (I := I) c 0 (n := 0) (n' := 1) rfl rfl rfl rfl rfl) $$ [Hk]
  · iexact Hk
  iintro Hk
  iapply (ld_heads3 c (sh c 0) (f_off1_0 c) (I.v c)) $$ [H3]
  · iexact H3
  iintro H3
  iapply (step_stage_v (I := I) c 0 (n := 0) (n' := 1) rfl rfl rfl rfl rfl) $$ [Hv]
  · iexact Hv
  iintro Hv
  iapply run_ret
  isplitl [Hk]; · iexact Hk
  isplitl [Hv]; · iexact Hv
  isplitl [H2]; · iexact H2
  iexact H3

theorem part2 (hc : k0_cond1 c = 1#1) (v2 v2630 c16_i32_2653 v2631 c1_i32_2655) :
    iprop(fam Finset.univ 1 (AK0 c I) (BK0 c) ∗ fam Finset.univ 1 (AV0 c I) (BV0 c) ∗ in2P c (I.k c) ∗ in3P c (I.v c)) ⊢ run c (k0_part2 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2630 c16_i32_2653 v2631 c1_i32_2655) (fun r => iprop(fam Finset.univ 2 (AK0 c I) (BK0 c) ∗ fam Finset.univ 2 (AV0 c I) (BV0 c) ∗ in2P c (I.k c) ∗ in3P c (I.v c))) := by
  rw [k0_part2_eq_skeleton]
  unfold k0_part2_skel
  simp only [Prog.lift, Prog.bind_op, Prog.bind_ret, Prog.pure_eq_ret]
  iintro ⟨Hk, Hv, H2, H3⟩
  iapply (ld_heads2 c (sh c 1) (f_off1_1 c) (I.k c)) $$ [H2]
  · iexact H2
  iintro H2
  iapply (step_stage_k (I := I) c 1 (n := 1) (n' := 2) rfl rfl rfl rfl rfl) $$ [Hk]
  · iexact Hk
  iintro Hk
  iapply (ld_heads3 c (sh c 1) (f_off1_1 c) (I.v c)) $$ [H3]
  · iexact H3
  iintro H3
  iapply (step_stage_v (I := I) c 1 (n := 1) (n' := 2) rfl rfl rfl rfl rfl) $$ [Hv]
  · iexact Hv
  iintro Hv
  iapply run_ret
  isplitl [Hk]; · iexact Hk
  isplitl [Hv]; · iexact Hv
  isplitl [H2]; · iexact H2
  iexact H3

theorem part3 (hc : k0_cond1 c = 1#1) (v2 v2659 v2660 v2661 v2662) :
    iprop(fam Finset.univ 2 (AK0 c I) (BK0 c) ∗ fam Finset.univ 2 (AV0 c I) (BV0 c) ∗ in2P c (I.k c) ∗ in3P c (I.v c)) ⊢ run c (k0_part3 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2659 v2660 v2661 v2662) (fun r => iprop(fam Finset.univ 3 (AK0 c I) (BK0 c) ∗ fam Finset.univ 3 (AV0 c I) (BV0 c) ∗ in2P c (I.k c) ∗ in3P c (I.v c))) := by
  rw [k0_part3_eq_skeleton]
  unfold k0_part3_skel
  simp only [Prog.lift, Prog.bind_op, Prog.bind_ret, Prog.pure_eq_ret]
  iintro ⟨Hk, Hv, H2, H3⟩
  iapply (ld_heads2 c (sh c 2) (f_off1_2 c) (I.k c)) $$ [H2]
  · iexact H2
  iintro H2
  iapply (step_stage_k (I := I) c 2 (n := 2) (n' := 3) rfl rfl rfl rfl rfl) $$ [Hk]
  · iexact Hk
  iintro Hk
  iapply (ld_heads3 c (sh c 2) (f_off1_2 c) (I.v c)) $$ [H3]
  · iexact H3
  iintro H3
  iapply (step_stage_v (I := I) c 2 (n := 2) (n' := 3) rfl rfl rfl rfl rfl) $$ [Hv]
  · iexact Hv
  iintro Hv
  iapply run_ret
  isplitl [Hk]; · iexact Hk
  isplitl [Hv]; · iexact Hv
  isplitl [H2]; · iexact H2
  iexact H3

theorem part4 (hc : k0_cond1 c = 1#1) (v2 v2694) :
    iprop(fam Finset.univ 3 (AK0 c I) (BK0 c) ∗ fam Finset.univ 3 (AV0 c I) (BV0 c) ∗ in2P c (I.k c) ∗ in3P c (I.v c)) ⊢ run c (k0_part4 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2694) (fun r => iprop(fam Finset.univ 4 (AK0 c I) (BK0 c) ∗ fam Finset.univ 4 (AV0 c I) (BV0 c) ∗ in2P c (I.k c) ∗ in3P c (I.v c))) := by
  rw [k0_part4_eq_skeleton]
  unfold k0_part4_skel
  simp only [Prog.lift, Prog.bind_op, Prog.bind_ret, Prog.pure_eq_ret]
  iintro ⟨Hk, Hv, H2, H3⟩
  iapply (ld_heads2 c (sh c 3) (f_off1_3 c) (I.k c)) $$ [H2]
  · iexact H2
  iintro H2
  iapply (step_stage_k (I := I) c 3 (n := 3) (n' := 4) rfl rfl rfl rfl rfl) $$ [Hk]
  · iexact Hk
  iintro Hk
  iapply (ld_heads3 c (sh c 3) (f_off1_3 c) (I.v c)) $$ [H3]
  · iexact H3
  iintro H3
  iapply (step_stage_v (I := I) c 3 (n := 3) (n' := 4) rfl rfl rfl rfl rfl) $$ [Hv]
  · iexact Hv
  iintro Hv
  iapply run_ret
  isplitl [Hk]; · iexact Hk
  isplitl [Hv]; · iexact Hv
  isplitl [H2]; · iexact H2
  iexact H3

theorem part5 (hc : k0_cond1 c = 1#1) (v2 v2721) :
    iprop(fam Finset.univ 4 (AK0 c I) (BK0 c) ∗ fam Finset.univ 4 (AV0 c I) (BV0 c) ∗ in2P c (I.k c) ∗ in3P c (I.v c)) ⊢ run c (k0_part5 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2721) (fun r => iprop(⌜r.2 = k0_pay12 (heads (I.k c) (sh c 5))⌝ ∗ fam Finset.univ 5 (AK0 c I) (BK0 c) ∗ fam Finset.univ 5 (AV0 c I) (BV0 c) ∗ in2P c (I.k c) ∗ in3P c (I.v c))) := by
  rw [k0_part5_eq_skeleton]
  unfold k0_part5_skel
  simp only [Prog.lift, Prog.bind_op, Prog.bind_ret, Prog.pure_eq_ret]
  iintro ⟨Hk, Hv, H2, H3⟩
  iapply (ld_heads2 c (sh c 4) (f_off1_4 c) (I.k c)) $$ [H2]
  · iexact H2
  iintro H2
  iapply (step_stage_k (I := I) c 4 (n := 4) (n' := 5) rfl rfl rfl rfl rfl) $$ [Hk]
  · iexact Hk
  iintro Hk
  iapply (ld_heads3 c (sh c 4) (f_off1_4 c) (I.v c)) $$ [H3]
  · iexact H3
  iintro H3
  iapply (step_stage_v (I := I) c 4 (n := 4) (n' := 5) rfl rfl rfl rfl rfl) $$ [Hv]
  · iexact Hv
  iintro Hv
  iapply (ld_heads2 c (sh c 5) (f_off1_5 c) (I.k c)) $$ [H2]
  · iexact H2
  iintro H2
  iapply run_ret
  isplitr; · ipureintro; rfl
  isplitl [Hk]; · iexact Hk
  isplitl [Hv]; · iexact Hv
  isplitl [H2]; · iexact H2
  iexact H3

theorem part6 (hc : k0_cond1 c = 1#1) (v2 v2748 v2753) (hp : v2753 = k0_pay12 (heads (I.k c) (sh c 5))) :
    iprop(fam Finset.univ 5 (AK0 c I) (BK0 c) ∗ fam Finset.univ 5 (AV0 c I) (BV0 c) ∗ in2P c (I.k c) ∗ in3P c (I.v c)) ⊢ run c (k0_part6 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2748 v2753) (fun r => iprop(fam Finset.univ 7 (AK0 c I) (BK0 c) ∗ fam Finset.univ 6 (AV0 c I) (BV0 c) ∗ in2P c (I.k c) ∗ in3P c (I.v c))) := by
  rw [k0_part6_eq_skeleton]
  unfold k0_part6_skel
  simp only [Prog.lift, Prog.bind_op, Prog.bind_ret, Prog.pure_eq_ret]
  subst hp
  iintro ⟨Hk, Hv, H2, H3⟩
  iapply (step_stage_k (I := I) c 5 (n := 5) (n' := 6) rfl rfl rfl rfl rfl) $$ [Hk]
  · iexact Hk
  iintro Hk
  iapply (ld_heads3 c (sh c 5) (f_off1_5 c) (I.v c)) $$ [H3]
  · iexact H3
  iintro H3
  iapply (step_stage_v (I := I) c 5 (n := 5) (n' := 6) rfl rfl rfl rfl rfl) $$ [Hv]
  · iexact Hv
  iintro Hv
  iapply (ld_heads2 c (sh c 6) (f_off1_6 c) (I.k c)) $$ [H2]
  · iexact H2
  iintro H2
  iapply (step_stage_k (I := I) c 6 (n := 6) (n' := 7) rfl rfl rfl rfl rfl) $$ [Hk]
  · iexact Hk
  iintro Hk
  iapply run_ret
  isplitl [Hk]; · iexact Hk
  isplitl [Hv]; · iexact Hv
  isplitl [H2]; · iexact H2
  iexact H3

theorem part7 (hc : k0_cond1 c = 1#1) (v2 v2775) :
    iprop(fam Finset.univ 7 (AK0 c I) (BK0 c) ∗ fam Finset.univ 6 (AV0 c I) (BV0 c) ∗ in2P c (I.k c) ∗ in3P c (I.v c)) ⊢ run c (k0_part7 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2775) (fun r => iprop(fam Finset.univ 8 (AK0 c I) (BK0 c) ∗ fam Finset.univ 7 (AV0 c I) (BV0 c) ∗ in2P c (I.k c) ∗ in3P c (I.v c))) := by
  rw [k0_part7_eq_skeleton]
  unfold k0_part7_skel
  simp only [Prog.lift, Prog.bind_op, Prog.bind_ret, Prog.pure_eq_ret]
  iintro ⟨Hk, Hv, H2, H3⟩
  iapply (ld_heads3 c (sh c 6) (f_off1_6 c) (I.v c)) $$ [H3]
  · iexact H3
  iintro H3
  iapply (step_stage_v (I := I) c 6 (n := 6) (n' := 7) rfl rfl rfl rfl rfl) $$ [Hv]
  · iexact Hv
  iintro Hv
  iapply (ld_heads2 c (sh c 7) (f_off1_7 c) (I.k c)) $$ [H2]
  · iexact H2
  iintro H2
  iapply (step_stage_k (I := I) c 7 (n := 7) (n' := 8) rfl rfl rfl rfl rfl) $$ [Hk]
  · iexact Hk
  iintro Hk
  iapply run_ret
  isplitl [Hk]; · iexact Hk
  isplitl [Hv]; · iexact Hv
  isplitl [H2]; · iexact H2
  iexact H3

theorem part8 (hc : k0_cond1 c = 1#1) (v2) :
    iprop(fam Finset.univ 8 (AK0 c I) (BK0 c) ∗ fam Finset.univ 7 (AV0 c I) (BV0 c) ∗ in2P c (I.k c) ∗ in3P c (I.v c)) ⊢ run c (k0_part8 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc) (fun r => iprop(⌜r = k0_pay20 (heads (I.v c) (sh c 8))⌝ ∗ fam Finset.univ 9 (AK0 c I) (BK0 c) ∗ fam Finset.univ 8 (AV0 c I) (BV0 c) ∗ in2P c (I.k c) ∗ in3P c (I.v c))) := by
  rw [k0_part8_eq_skeleton]
  unfold k0_part8_skel
  simp only [Prog.lift, Prog.bind_op, Prog.bind_ret, Prog.pure_eq_ret]
  iintro ⟨Hk, Hv, H2, H3⟩
  iapply (ld_heads3 c (sh c 7) (f_off1_7 c) (I.v c)) $$ [H3]
  · iexact H3
  iintro H3
  iapply (step_stage_v (I := I) c 7 (n := 7) (n' := 8) rfl rfl rfl rfl rfl) $$ [Hv]
  · iexact Hv
  iintro Hv
  iapply (ld_heads2 c (sh c 8) (f_off1_8 c) (I.k c)) $$ [H2]
  · iexact H2
  iintro H2
  iapply (step_stage_k (I := I) c 8 (n := 8) (n' := 9) rfl rfl rfl rfl rfl) $$ [Hk]
  · iexact Hk
  iintro Hk
  iapply (ld_heads3 c (sh c 8) (f_off1_8 c) (I.v c)) $$ [H3]
  · iexact H3
  iintro H3
  iapply run_ret
  isplitr; · ipureintro; rfl
  isplitl [Hk]; · iexact Hk
  isplitl [Hv]; · iexact Hv
  isplitl [H2]; · iexact H2
  iexact H3

theorem part9 (hc : k0_cond1 c = 1#1) (v2 v2842) (hp : v2842 = k0_pay20 (heads (I.v c) (sh c 8))) :
    iprop(fam Finset.univ 9 (AK0 c I) (BK0 c) ∗ fam Finset.univ 8 (AV0 c I) (BV0 c) ∗ in2P c (I.k c) ∗ in3P c (I.v c)) ⊢ run c (k0_part9 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2842) (fun r => iprop(fam Finset.univ 10 (AK0 c I) (BK0 c) ∗ fam Finset.univ 10 (AV0 c I) (BV0 c) ∗ in2P c (I.k c) ∗ in3P c (I.v c))) := by
  rw [k0_part9_eq_skeleton]
  unfold k0_part9_skel
  simp only [Prog.lift, Prog.bind_op, Prog.bind_ret, Prog.pure_eq_ret]
  subst hp
  iintro ⟨Hk, Hv, H2, H3⟩
  iapply (step_stage_v (I := I) c 8 (n := 8) (n' := 9) rfl rfl rfl rfl rfl) $$ [Hv]
  · iexact Hv
  iintro Hv
  iapply (ld_heads2 c (sh c 9) (f_off1_9 c) (I.k c)) $$ [H2]
  · iexact H2
  iintro H2
  iapply (step_stage_k (I := I) c 9 (n := 9) (n' := 10) rfl rfl rfl rfl rfl) $$ [Hk]
  · iexact Hk
  iintro Hk
  iapply (ld_heads3 c (sh c 9) (f_off1_9 c) (I.v c)) $$ [H3]
  · iexact H3
  iintro H3
  iapply (step_stage_v (I := I) c 9 (n := 9) (n' := 10) rfl rfl rfl rfl rfl) $$ [Hv]
  · iexact Hv
  iintro Hv
  iapply run_ret
  isplitl [Hk]; · iexact Hk
  isplitl [Hv]; · iexact Hv
  isplitl [H2]; · iexact H2
  iexact H3

theorem part10 (hc : k0_cond1 c = 1#1) (v2) :
    iprop(fam Finset.univ 10 (AK0 c I) (BK0 c) ∗ fam Finset.univ 10 (AV0 c I) (BV0 c) ∗ in2P c (I.k c) ∗ in3P c (I.v c)) ⊢ run c (k0_part10 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc) (fun r => iprop(fam Finset.univ 11 (AK0 c I) (BK0 c) ∗ fam Finset.univ 11 (AV0 c I) (BV0 c) ∗ in2P c (I.k c) ∗ in3P c (I.v c))) := by
  rw [k0_part10_eq_skeleton]
  unfold k0_part10_skel
  simp only [Prog.lift, Prog.bind_op, Prog.bind_ret, Prog.pure_eq_ret]
  iintro ⟨Hk, Hv, H2, H3⟩
  iapply (ld_heads2 c (sh c 10) (f_off1_10 c) (I.k c)) $$ [H2]
  · iexact H2
  iintro H2
  iapply (step_stage_k (I := I) c 10 (n := 10) (n' := 11) rfl rfl rfl rfl rfl) $$ [Hk]
  · iexact Hk
  iintro Hk
  iapply (ld_heads3 c (sh c 10) (f_off1_10 c) (I.v c)) $$ [H3]
  · iexact H3
  iintro H3
  iapply (step_stage_v (I := I) c 10 (n := 10) (n' := 11) rfl rfl rfl rfl rfl) $$ [Hv]
  · iexact Hv
  iintro Hv
  iapply run_ret
  isplitl [Hk]; · iexact Hk
  isplitl [Hv]; · iexact Hv
  isplitl [H2]; · iexact H2
  iexact H3

theorem part11 (hc : k0_cond1 c = 1#1) (v2 v2900 c16_i32_2900 v2901 c1_i32_2902) :
    iprop(fam Finset.univ 11 (AK0 c I) (BK0 c) ∗ fam Finset.univ 11 (AV0 c I) (BV0 c) ∗ in2P c (I.k c) ∗ in3P c (I.v c)) ⊢ run c (k0_part11 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2900 c16_i32_2900 v2901 c1_i32_2902) (fun r => iprop(fam Finset.univ 12 (AK0 c I) (BK0 c) ∗ fam Finset.univ 12 (AV0 c I) (BV0 c) ∗ in2P c (I.k c) ∗ in3P c (I.v c))) := by
  rw [k0_part11_eq_skeleton]
  unfold k0_part11_skel
  simp only [Prog.lift, Prog.bind_op, Prog.bind_ret, Prog.pure_eq_ret]
  iintro ⟨Hk, Hv, H2, H3⟩
  iapply (ld_heads2 c (sh c 11) (f_off1_11 c) (I.k c)) $$ [H2]
  · iexact H2
  iintro H2
  iapply (step_stage_k (I := I) c 11 (n := 11) (n' := 12) rfl rfl rfl rfl rfl) $$ [Hk]
  · iexact Hk
  iintro Hk
  iapply (ld_heads3 c (sh c 11) (f_off1_11 c) (I.v c)) $$ [H3]
  · iexact H3
  iintro H3
  iapply (step_stage_v (I := I) c 11 (n := 11) (n' := 12) rfl rfl rfl rfl rfl) $$ [Hv]
  · iexact Hv
  iintro Hv
  iapply run_ret
  isplitl [Hk]; · iexact Hk
  isplitl [Hv]; · iexact Hv
  isplitl [H2]; · iexact H2
  iexact H3

theorem part12 (hc : k0_cond1 c = 1#1) (v2 v2929 v2930 v2931 v2932) :
    iprop(fam Finset.univ 12 (AK0 c I) (BK0 c) ∗ fam Finset.univ 12 (AV0 c I) (BV0 c) ∗ in2P c (I.k c) ∗ in3P c (I.v c)) ⊢ run c (k0_part12 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2929 v2930 v2931 v2932) (fun r => iprop(fam Finset.univ 13 (AK0 c I) (BK0 c) ∗ fam Finset.univ 13 (AV0 c I) (BV0 c) ∗ in2P c (I.k c) ∗ in3P c (I.v c))) := by
  rw [k0_part12_eq_skeleton]
  unfold k0_part12_skel
  simp only [Prog.lift, Prog.bind_op, Prog.bind_ret, Prog.pure_eq_ret]
  iintro ⟨Hk, Hv, H2, H3⟩
  iapply (ld_heads2 c (sh c 12) (f_off1_12 c) (I.k c)) $$ [H2]
  · iexact H2
  iintro H2
  iapply (step_stage_k (I := I) c 12 (n := 12) (n' := 13) rfl rfl rfl rfl rfl) $$ [Hk]
  · iexact Hk
  iintro Hk
  iapply (ld_heads3 c (sh c 12) (f_off1_12 c) (I.v c)) $$ [H3]
  · iexact H3
  iintro H3
  iapply (step_stage_v (I := I) c 12 (n := 12) (n' := 13) rfl rfl rfl rfl rfl) $$ [Hv]
  · iexact Hv
  iintro Hv
  iapply run_ret
  isplitl [Hk]; · iexact Hk
  isplitl [Hv]; · iexact Hv
  isplitl [H2]; · iexact H2
  iexact H3

theorem part13 (hc : k0_cond1 c = 1#1) (v2 v2964) :
    iprop(fam Finset.univ 13 (AK0 c I) (BK0 c) ∗ fam Finset.univ 13 (AV0 c I) (BV0 c) ∗ in2P c (I.k c) ∗ in3P c (I.v c)) ⊢ run c (k0_part13 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2964) (fun r => iprop(fam Finset.univ 14 (AK0 c I) (BK0 c) ∗ fam Finset.univ 14 (AV0 c I) (BV0 c) ∗ in2P c (I.k c) ∗ in3P c (I.v c))) := by
  rw [k0_part13_eq_skeleton]
  unfold k0_part13_skel
  simp only [Prog.lift, Prog.bind_op, Prog.bind_ret, Prog.pure_eq_ret]
  iintro ⟨Hk, Hv, H2, H3⟩
  iapply (ld_heads2 c (sh c 13) (f_off1_13 c) (I.k c)) $$ [H2]
  · iexact H2
  iintro H2
  iapply (step_stage_k (I := I) c 13 (n := 13) (n' := 14) rfl rfl rfl rfl rfl) $$ [Hk]
  · iexact Hk
  iintro Hk
  iapply (ld_heads3 c (sh c 13) (f_off1_13 c) (I.v c)) $$ [H3]
  · iexact H3
  iintro H3
  iapply (step_stage_v (I := I) c 13 (n := 13) (n' := 14) rfl rfl rfl rfl rfl) $$ [Hv]
  · iexact Hv
  iintro Hv
  iapply run_ret
  isplitl [Hk]; · iexact Hk
  isplitl [Hv]; · iexact Hv
  isplitl [H2]; · iexact H2
  iexact H3

theorem part14 (hc : k0_cond1 c = 1#1) (v2 v2991) :
    iprop(fam Finset.univ 14 (AK0 c I) (BK0 c) ∗ fam Finset.univ 14 (AV0 c I) (BV0 c) ∗ in2P c (I.k c) ∗ in3P c (I.v c)) ⊢ run c (k0_part14 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 hc v2991) (fun r => iprop(⌜r.2 = k0_pay34 (heads (I.k c) (sh c 15))⌝ ∗ fam Finset.univ 15 (AK0 c I) (BK0 c) ∗ fam Finset.univ 15 (AV0 c I) (BV0 c) ∗ in2P c (I.k c) ∗ in3P c (I.v c))) := by
  rw [k0_part14_eq_skeleton]
  unfold k0_part14_skel
  simp only [Prog.lift, Prog.bind_op, Prog.bind_ret, Prog.pure_eq_ret]
  iintro ⟨Hk, Hv, H2, H3⟩
  iapply (ld_heads2 c (sh c 14) (f_off1_14 c) (I.k c)) $$ [H2]
  · iexact H2
  iintro H2
  iapply (step_stage_k (I := I) c 14 (n := 14) (n' := 15) rfl rfl rfl rfl rfl) $$ [Hk]
  · iexact Hk
  iintro Hk
  iapply (ld_heads3 c (sh c 14) (f_off1_14 c) (I.v c)) $$ [H3]
  · iexact H3
  iintro H3
  iapply (step_stage_v (I := I) c 14 (n := 14) (n' := 15) rfl rfl rfl rfl rfl) $$ [Hv]
  · iexact Hv
  iintro Hv
  iapply (ld_heads2 c (sh c 15) (f_off1_15 c) (I.k c)) $$ [H2]
  · iexact H2
  iintro H2
  iapply run_ret
  isplitr; · ipureintro; rfl
  isplitl [Hk]; · iexact Hk
  isplitl [Hv]; · iexact Hv
  isplitl [H2]; · iexact H2
  iexact H3

theorem part24 (v2 v34 v35 v36 c0_i32_17) :
    iprop(recs I PB κ ∗ fam away 1 (fun _ => iprop(emp)) (BSig c) ∗ ow c (owed c 1 1 1 1))
      ⊢ run c (k0_part24 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 (SemArray.scalar (sig.barrier 0 rfl)) v34 v35 v36 c0_i32_17) (fun _ => iprop(fam away 3 (fun _ => iprop(emp)) (BSig c) ∗ ow c (owed c 3 1 1 1))) := by
  rw [k0_part24_eq_skeleton]
  unfold k0_part24_skel
  simp only [semSignalWord, semWaitWord, Prog.lift, Prog.bind_op, Prog.bind_ret, Prog.pure_eq_ret]
  iintro ⟨#Hr, Hf, Ho⟩
  iapply (step_signal (I := I) (PB := PB) (κ := κ) c 1 (by decide) (n := 1) (n' := 2) rfl rfl (dev_eq (f_dev1 c) _) (by decide)) $$ [Hf Ho]
  · isplitr; · iexact Hr
    isplitl [Hf]; · iexact Hf
    iexact Ho
  iintro ⟨Hf, Ho⟩
  iapply (step_signal (I := I) (PB := PB) (κ := κ) c 2 (by decide) (n := 2) (n' := 3) rfl rfl (dev_eq (f_dev2 c) _) (by decide)) $$ [Hf Ho]
  · isplitr; · iexact Hr
    isplitl [Hf]; · iexact Hf
    iexact Ho
  iintro ⟨Hf, Ho⟩
  iapply run_ret
  isplitl [Hf]; · iexact Hf
  iexact Ho

theorem part25 (v2) :
    iprop(recs I PB κ ∗ fam away 3 (fun _ => iprop(emp)) (BSig c) ∗ ow c (owed c 3 1 1 1))
      ⊢ run c (k0_part25 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 (SemArray.scalar (sig.barrier 0 rfl))) (fun _ => iprop(fam away 6 (fun _ => iprop(emp)) (BSig c) ∗ ow c (owed c 6 1 1 1))) := by
  rw [k0_part25_eq_skeleton]
  unfold k0_part25_skel
  simp only [semSignalWord, semWaitWord, Prog.lift, Prog.bind_op, Prog.bind_ret, Prog.pure_eq_ret]
  iintro ⟨#Hr, Hf, Ho⟩
  iapply (step_signal (I := I) (PB := PB) (κ := κ) c 3 (by decide) (n := 3) (n' := 4) rfl rfl (dev_eq (f_dev3 c) _) (by decide)) $$ [Hf Ho]
  · isplitr; · iexact Hr
    isplitl [Hf]; · iexact Hf
    iexact Ho
  iintro ⟨Hf, Ho⟩
  iapply (step_signal (I := I) (PB := PB) (κ := κ) c 4 (by decide) (n := 4) (n' := 5) rfl rfl (dev_eq (f_dev4 c) _) (by decide)) $$ [Hf Ho]
  · isplitr; · iexact Hr
    isplitl [Hf]; · iexact Hf
    iexact Ho
  iintro ⟨Hf, Ho⟩
  iapply (step_signal (I := I) (PB := PB) (κ := κ) c 5 (by decide) (n := 5) (n' := 6) rfl rfl (dev_eq (f_dev5 c) _) (by decide)) $$ [Hf Ho]
  · isplitr; · iexact Hr
    isplitl [Hf]; · iexact Hf
    iexact Ho
  iintro ⟨Hf, Ho⟩
  iapply run_ret
  isplitl [Hf]; · iexact Hf
  iexact Ho

theorem part26 (v2 v99 v100 v101 c0_i32_63) :
    iprop(recs I PB κ ∗ fam away 6 (fun _ => iprop(emp)) (BSig c) ∗ ow c (owed c 6 1 1 1))
      ⊢ run c (k0_part26 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 (SemArray.scalar (sig.barrier 0 rfl)) v99 v100 v101 c0_i32_63) (fun _ => iprop(fam away 8 (fun _ => iprop(emp)) (BSig c) ∗ ow c (owed c 8 1 1 1))) := by
  rw [k0_part26_eq_skeleton]
  unfold k0_part26_skel
  simp only [semSignalWord, semWaitWord, Prog.lift, Prog.bind_op, Prog.bind_ret, Prog.pure_eq_ret]
  iintro ⟨#Hr, Hf, Ho⟩
  iapply (step_signal (I := I) (PB := PB) (κ := κ) c 6 (by decide) (n := 6) (n' := 7) rfl rfl (dev_eq (f_dev6 c) _) (by decide)) $$ [Hf Ho]
  · isplitr; · iexact Hr
    isplitl [Hf]; · iexact Hf
    iexact Ho
  iintro ⟨Hf, Ho⟩
  iapply (step_signal (I := I) (PB := PB) (κ := κ) c 7 (by decide) (n := 7) (n' := 8) rfl rfl (dev_eq (f_dev7 c) _) (by decide)) $$ [Hf Ho]
  · isplitr; · iexact Hr
    isplitl [Hf]; · iexact Hf
    iexact Ho
  iintro ⟨Hf, Ho⟩
  iapply run_ret
  isplitl [Hf]; · iexact Hf
  iexact Ho

theorem part27 (v2) :
    iprop(recs I PB κ ∗ fam away 8 (fun _ => iprop(emp)) (BSig c) ∗ ow c (owed c 8 1 1 1))
      ⊢ run c (k0_part27 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 (SemArray.scalar (sig.barrier 0 rfl))) (fun _ => iprop(fam away 11 (fun _ => iprop(emp)) (BSig c) ∗ ow c (owed c 11 1 1 1))) := by
  rw [k0_part27_eq_skeleton]
  unfold k0_part27_skel
  simp only [semSignalWord, semWaitWord, Prog.lift, Prog.bind_op, Prog.bind_ret, Prog.pure_eq_ret]
  iintro ⟨#Hr, Hf, Ho⟩
  iapply (step_signal (I := I) (PB := PB) (κ := κ) c 8 (by decide) (n := 8) (n' := 9) rfl rfl (dev_eq (f_dev8 c) _) (by decide)) $$ [Hf Ho]
  · isplitr; · iexact Hr
    isplitl [Hf]; · iexact Hf
    iexact Ho
  iintro ⟨Hf, Ho⟩
  iapply (step_signal (I := I) (PB := PB) (κ := κ) c 9 (by decide) (n := 9) (n' := 10) rfl rfl (dev_eq (f_dev9 c) _) (by decide)) $$ [Hf Ho]
  · isplitr; · iexact Hr
    isplitl [Hf]; · iexact Hf
    iexact Ho
  iintro ⟨Hf, Ho⟩
  iapply (step_signal (I := I) (PB := PB) (κ := κ) c 10 (by decide) (n := 10) (n' := 11) rfl rfl (dev_eq (f_dev10 c) _) (by decide)) $$ [Hf Ho]
  · isplitr; · iexact Hr
    isplitl [Hf]; · iexact Hf
    iexact Ho
  iintro ⟨Hf, Ho⟩
  iapply run_ret
  isplitl [Hf]; · iexact Hf
  iexact Ho

theorem part28 (v2 v164 v165 v166 c0_i32_108) :
    iprop(recs I PB κ ∗ fam away 11 (fun _ => iprop(emp)) (BSig c) ∗ ow c (owed c 11 1 1 1))
      ⊢ run c (k0_part28 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 (SemArray.scalar (sig.barrier 0 rfl)) v164 v165 v166 c0_i32_108) (fun _ => iprop(fam away 13 (fun _ => iprop(emp)) (BSig c) ∗ ow c (owed c 13 1 1 1))) := by
  rw [k0_part28_eq_skeleton]
  unfold k0_part28_skel
  simp only [semSignalWord, semWaitWord, Prog.lift, Prog.bind_op, Prog.bind_ret, Prog.pure_eq_ret]
  iintro ⟨#Hr, Hf, Ho⟩
  iapply (step_signal (I := I) (PB := PB) (κ := κ) c 11 (by decide) (n := 11) (n' := 12) rfl rfl (dev_eq (f_dev11 c) _) (by decide)) $$ [Hf Ho]
  · isplitr; · iexact Hr
    isplitl [Hf]; · iexact Hf
    iexact Ho
  iintro ⟨Hf, Ho⟩
  iapply (step_signal (I := I) (PB := PB) (κ := κ) c 12 (by decide) (n := 12) (n' := 13) rfl rfl (dev_eq (f_dev12 c) _) (by decide)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part29 (v2 v13) :
    iprop(recs I PB κ ∗ fam away 13 (fun _ => iprop(emp)) (BSig c) ∗ cred (tallyAt (bar c) () 15) ∗ atPos ER (bar c) 0 ∅ 0 ∗ ow c (owed c 13 1 1 1) ∗ onlyEv c iprop(fam Finset.univ 0 (AK0 c I) (BK0 c) ∗ fam Finset.univ 0 (AV0 c I) (BV0 c) ∗ in2P c (I.k c) ∗ in3P c (I.v c)))
      ⊢ run c (k0_part29 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 (SemArray.scalar (sig.barrier 0 rfl))) (fun _ => iprop(semVal (bar c) 0 ∗ bigSep away (fun o => barPay (F := F) c (sh c o)) ∗ ow c (owed c 16 1 1 1) ∗ onlyEv c iprop(fam Finset.univ 16 (AK0 c I) (BK0 c) ∗ fam Finset.univ 16 (AV0 c I) (BV0 c) ∗ in2P c (I.k c) ∗ in3P c (I.v c)))) := by
  rw [k0_part29_eq_skeleton]
  unfold k0_part29_skel
  by_cases he : ev c
  · have hc := (f_cond1 c).mpr he
    simp only [semSignalWord, semWaitWord, Prog.lift, Prog.bind_op, Prog.bind_ret, Prog.pure_eq_ret, dif_pos hc, onlyEv_pos he]
    iintro ⟨#Hr, Hf, Hc, Ha, Ho, HS⟩
    iapply (step_signal (I := I) (PB := PB) (κ := κ) c 13 (by decide) (n := 13) (n' := 14) rfl rfl (dev_eq (f_dev13 c) _) (by decide)) $$ [Hf Ho]
    · isplitr; · iexact Hr
      isplitl [Hf]; · iexact Hf
      iexact Ho
    iintro ⟨Hf, Ho⟩
    iapply (step_signal (I := I) (PB := PB) (κ := κ) c 14 (by decide) (n := 14) (n' := 15) rfl rfl (dev_eq (f_dev14 c) _) (by decide)) $$ [Hf Ho]
    · isplitr; · iexact Hr
      isplitl [Hf]; · iexact Hf
      iexact Ho
    iintro ⟨Hf, Ho⟩
    iapply (step_signal (I := I) (PB := PB) (κ := κ) c 15 (by decide) (n := 15) (n' := 16) rfl rfl (dev_eq (f_dev15 c) _) (by decide)) $$ [Hf Ho]
    · isplitr; · iexact Hr
      isplitl [Hf]; · iexact Hf
      iexact Ho
    iintro ⟨Hf, Ho⟩
    iapply (step_barrier (I := I) (PB := PB) (κ := κ) c (by decide)) $$ [Hc Ha Ho]
    · isplitr; · iexact Hr
      isplitl [Hc]; · iexact Hc
      isplitl [Ha]; · iexact Ha
      iexact Ho
    iintro ⟨Hz, Hb, Ho⟩
    iapply (run_bind (part1 (I := I) c hc _)) $$ [HS]
    · iexact HS
    iintro %r
    iintro HS
    obtain ⟨r0, r1, r2, r3⟩ := r
    dsimp only
    iapply (run_bind (part2 (I := I) c hc _ _ _ _ _)) $$ [HS]
    · iexact HS
    iintro %r
    iintro HS
    obtain ⟨r0, r1, r2, r3⟩ := r
    dsimp only
    iapply (run_bind (part3 (I := I) c hc _ _ _ _ _)) $$ [HS]
    · iexact HS
    iintro %r
    iintro HS
    iapply (run_bind (part4 (I := I) c hc _ _)) $$ [HS]
    · iexact HS
    iintro %r
    iintro HS
    iapply (run_bind (part5 (I := I) c hc _ _)) $$ [HS]
    · iexact HS
    iintro %r
    iintro ⟨%hp, HS⟩
    obtain ⟨r0, r1⟩ := r
    dsimp only at hp ⊢
    iapply (run_bind (part6 (I := I) c hc _ _ _ hp)) $$ [HS]
    · iexact HS
    iintro %r
    iintro HS
    iapply (run_bind (part7 (I := I) c hc _ _)) $$ [HS]
    · iexact HS
    iintro %r
    iintro HS
    iapply (run_bind (part8 (I := I) c hc _)) $$ [HS]
    · iexact HS
    iintro %r
    iintro ⟨%hp, HS⟩
    iapply (run_bind (part9 (I := I) c hc _ _ hp)) $$ [HS]
    · iexact HS
    iintro %r
    iintro HS
    iapply (run_bind (part10 (I := I) c hc _)) $$ [HS]
    · iexact HS
    iintro %r
    iintro HS
    obtain ⟨r0, r1, r2, r3⟩ := r
    dsimp only
    iapply (run_bind (part11 (I := I) c hc _ _ _ _ _)) $$ [HS]
    · iexact HS
    iintro %r
    iintro HS
    obtain ⟨r0, r1, r2, r3⟩ := r
    dsimp only
    iapply (run_bind (part12 (I := I) c hc _ _ _ _ _)) $$ [HS]
    · iexact HS
    iintro %r
    iintro HS
    iapply (run_bind (part13 (I := I) c hc _ _)) $$ [HS]
    · iexact HS
    iintro %r
    iintro HS
    iapply (run_bind (part14 (I := I) c hc _ _)) $$ [HS]
    · iexact HS
    iintro %r
    iintro ⟨%hp, HS⟩
    obtain ⟨r0, r1⟩ := r
    dsimp only at hp ⊢
    icases HS with ⟨Hk, Hv, H2, H3⟩
    iapply (step_stage_k (I := I) c 15 (n := 15) (n' := 16) rfl rfl rfl rfl (by rw [hp]; rfl)) $$ [Hk]
    · iexact Hk
    iintro Hk
    iapply (ld_heads3 c (sh c 15) (f_off1_15 c) (I.v c)) $$ [H3]
    · iexact H3
    iintro H3
    iapply (step_stage_v (I := I) c 15 (n := 15) (n' := 16) rfl rfl rfl rfl rfl) $$ [Hv]
    · iexact Hv
    iintro Hv
    iapply run_ret
    isplitl [Hz]; · iexact Hz
    isplitl [Hb]; · iexact Hb
    isplitl [Ho]; · iexact Ho
    isplitl [Hk]; · iexact Hk
    isplitl [Hv]; · iexact Hv
    isplitl [H2]; · iexact H2
    iexact H3
  · have hc : ¬ k0_cond1 c = 1#1 := fun h => he ((f_cond1 c).mp h)
    simp only [semSignalWord, semWaitWord, Prog.lift, Prog.bind_op, Prog.bind_ret, Prog.pure_eq_ret, dif_neg hc, onlyEv_neg he]
    iintro ⟨#Hr, Hf, Hc, Ha, Ho, HS⟩
    iapply (step_signal (I := I) (PB := PB) (κ := κ) c 13 (by decide) (n := 13) (n' := 14) rfl rfl (dev_eq (f_dev13 c) _) (by decide)) $$ [Hf Ho]
    · isplitr; · iexact Hr
      isplitl [Hf]; · iexact Hf
      iexact Ho
    iintro ⟨Hf, Ho⟩
    iapply (step_signal (I := I) (PB := PB) (κ := κ) c 14 (by decide) (n := 14) (n' := 15) rfl rfl (dev_eq (f_dev14 c) _) (by decide)) $$ [Hf Ho]
    · isplitr; · iexact Hr
      isplitl [Hf]; · iexact Hf
      iexact Ho
    iintro ⟨Hf, Ho⟩
    iapply (step_signal (I := I) (PB := PB) (κ := κ) c 15 (by decide) (n := 15) (n' := 16) rfl rfl (dev_eq (f_dev15 c) _) (by decide)) $$ [Hf Ho]
    · isplitr; · iexact Hr
      isplitl [Hf]; · iexact Hf
      iexact Ho
    iintro ⟨Hf, Ho⟩
    iapply (step_barrier (I := I) (PB := PB) (κ := κ) c (by decide)) $$ [Hc Ha Ho]
    · isplitr; · iexact Hr
      isplitl [Hc]; · iexact Hc
      isplitl [Ha]; · iexact Ha
      iexact Ho
    iintro ⟨Hz, Hb, Ho⟩
    iapply run_ret
    isplitl [Hz]; · iexact Hz
    isplitl [Hb]; · iexact Hb
    isplitl [Ho]; · iexact Ho
    iexact HS

end Cert.SparseAttn

end
-- ==== Proof.SendsKV.lean ====
/-
The transfers of the keys and values, and the device's own slot of them.
-/
module

public import proofs.«01_k».proof.Proof.Staging

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

/-- A device's own slot: the staged blocks at place `0`, and where they go. -/
def OwnIn (I : Inputs F) : sProp 𝕄 := iprop(kstP c fullShare (rowsAt 1 0) (KST I.k c) ∗ vstP c fullShare (rowsAt 1 0) (KST I.v c) ∗ placeK (F := F) c c ∗ placeV (F := F) c c)
def OwnOut (I : Inputs F) : sProp 𝕄 := iprop(kstP c fullShare (rowsAt 1 0) (KST I.k c) ∗ vstP c fullShare (rowsAt 1 0) (KST I.v c)
  ∗ rbkP c fullShare (rowsAt 1 (c.val / 2)) (RBK I.k c) ∗ rbvP c fullShare (rowsAt 1 (c.val / 2)) (RBK I.v c))

set_option maxHeartbeats 4000000 in
theorem part30 (v2 v13 v229 c16_i32_152 c0_i32_153) :
    iprop(recs I PB κ ∗ onlyEv c (fam away 1 (AKV c) (BKV c I)) ∗ ow c (owed c 16 1 1 1))
      ⊢ run c (k0_part30 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 v229 c16_i32_152 c0_i32_153) (fun _ => iprop(onlyEv c (fam away 3 (AKV c) (BKV c I)) ∗ ow c (owed c 16 3 1 1))) := by
  rw [k0_part30_eq_skeleton]
  unfold k0_part30_skel
  by_cases he : ev c
  · simp only [Prog.lift, Prog.bind_op, Prog.bind_ret, Prog.pure_eq_ret, dif_pos ((f_cond2 c).mpr he), dif_pos ((f_cond3 c).mpr he), onlyEv_pos he]
    iintro ⟨#Hr, Hf, Ho⟩
    iapply (step_send_kv (I := I) (PB := PB) (κ := κ) c 1 (by decide) he (n := 1) (n' := 2) rfl rfl (dev_eq (f_dev16 c) _) (dev_eq (f_dev17 c) _) (sem12 _ _ _ (f_off2 c)) (sem8 _ _ _ (f_off3 c)) (sem13 _ _ _ (f_off2 c)) (sem9 _ _ _ (f_off3 c)) rfl (f_off4 c) rfl (f_off4 c)) $$ [Hf Ho]
    · isplitr; · iexact Hr
      isplitl [Hf]; · iexact Hf
      iexact Ho
    iintro ⟨Hf, Ho⟩
    iapply (step_send_kv (I := I) (PB := PB) (κ := κ) c 2 (by decide) he (n := 2) (n' := 3) rfl rfl (dev_eq (f_dev18 c) _) (dev_eq (f_dev19 c) _) (sem12 _ _ _ (f_off5 c)) (sem8 _ _ _ (f_off6 c)) (sem13 _ _ _ (f_off5 c)) (sem9 _ _ _ (f_off6 c)) rfl (f_off7 c) rfl (f_off7 c)) $$ [Hf Ho]
    · isplitr; · iexact Hr
      isplitl [Hf]; · iexact Hf
      iexact Ho
    iintro ⟨Hf, Ho⟩
    iapply run_ret
    isplitl [Hf]; · iexact Hf
    iexact Ho
  · simp only [Prog.lift, Prog.bind_op, Prog.bind_ret, Prog.pure_eq_ret, dif_neg (fun h => he ((f_cond2 c).mp h)), dif_neg (fun h => he ((f_cond3 c).mp h)), onlyEv_neg he, owed_odd c he 1 3]
    iintro ⟨#Hr, Hf, Ho⟩
    iapply run_ret
    isplitl [Hf]; · iexact Hf
    iexact Ho

set_option maxHeartbeats 4000000 in
theorem part31 (v2 v13 v257 v258 v263) :
    iprop(recs I PB κ ∗ onlyEv c (fam away 3 (AKV c) (BKV c I)) ∗ ow c (owed c 16 3 1 1))
      ⊢ run c (k0_part31 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 v257 v258 v263) (fun _ => iprop(onlyEv c (fam away 6 (AKV c) (BKV c I)) ∗ ow c (owed c 16 6 1 1))) := by
  rw [k0_part31_eq_skeleton]
  unfold k0_part31_skel
  by_cases he : ev c
  · simp only [Prog.lift, Prog.bind_op, Prog.bind_ret, Prog.pure_eq_ret, dif_pos ((f_cond4 c).mpr he), dif_pos ((f_cond5 c).mpr he), dif_pos ((f_cond6 c).mpr he), onlyEv_pos he]
    iintro ⟨#Hr, Hf, Ho⟩
    iapply (step_send_kv (I := I) (PB := PB) (κ := κ) c 3 (by decide) he (n := 3) (n' := 4) rfl rfl (dev_eq (f_dev20 c) _) (dev_eq (f_dev21 c) _) (sem12 _ _ _ (f_off8 c)) (sem8 _ _ _ (f_off9 c)) (sem13 _ _ _ (f_off8 c)) (sem9 _ _ _ (f_off9 c)) rfl (f_off10 c) rfl (f_off10 c)) $$ [Hf Ho]
    · isplitr; · iexact Hr
      isplitl [Hf]; · iexact Hf
      iexact Ho
    iintro ⟨Hf, Ho⟩
    iapply (step_send_kv (I := I) (PB := PB) (κ := κ) c 4 (by decide) he (n := 4) (n' := 5) rfl rfl (dev_eq (f_dev22 c) _) (dev_eq (f_dev23 c) _) (sem12 _ _ _ (f_off11 c)) (sem8 _ _ _ (f_off12 c)) (sem13 _ _ _ (f_off11 c)) (sem9 _ _ _ (f_off12 c)) rfl (f_off13 c) rfl (f_off13 c)) $$ [Hf Ho]
    · isplitr; · iexact Hr
      isplitl [Hf]; · iexact Hf
      iexact Ho
    iintro ⟨Hf, Ho⟩
    iapply (step_send_kv (I := I) (PB := PB) (κ := κ) c 5 (by decide) he (n := 5) (n' := 6) rfl rfl (dev_eq (f_dev24 c) _) (dev_eq (f_dev25 c) _) (sem12 _ _ _ (f_off14 c)) (sem8 _ _ _ (f_off15 c)) (sem13 _ _ _ (f_off14 c)) (sem9 _ _ _ (f_off15 c)) rfl (f_off16 c) rfl (f_off16 c)) $$ [Hf Ho]
    · isplitr; · iexact Hr
      isplitl [Hf]; · iexact Hf
      iexact Ho
    iintro ⟨Hf, Ho⟩
    iapply run_ret
    isplitl [Hf]; · iexact Hf
    iexact Ho
  · simp only [Prog.lift, Prog.bind_op, Prog.bind_ret, Prog.pure_eq_ret, dif_neg (fun h => he ((f_cond4 c).mp h)), dif_neg (fun h => he ((f_cond5 c).mp h)), dif_neg (fun h => he ((f_cond6 c).mp h)), onlyEv_neg he, owed_odd c he 3 6]
    iintro ⟨#Hr, Hf, Ho⟩
    iapply run_ret
    isplitl [Hf]; · iexact Hf
    iexact Ho

set_option maxHeartbeats 4000000 in
theorem part32 (v2 v13 v294 c16_i32_202 c0_i32_203) :
    iprop(recs I PB κ ∗ onlyEv c (fam away 6 (AKV c) (BKV c I)) ∗ ow c (owed c 16 6 1 1))
      ⊢ run c (k0_part32 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 v294 c16_i32_202 c0_i32_203) (fun _ => iprop(onlyEv c (fam away 8 (AKV c) (BKV c I)) ∗ ow c (owed c 16 8 1 1))) := by
  rw [k0_part32_eq_skeleton]
  unfold k0_part32_skel
  by_cases he : ev c
  · simp only [Prog.lift, Prog.bind_op, Prog.bind_ret, Prog.pure_eq_ret, dif_pos ((f_cond7 c).mpr he), dif_pos ((f_cond8 c).mpr he), onlyEv_pos he]
    iintro ⟨#Hr, Hf, Ho⟩
    iapply (step_send_kv (I := I) (PB := PB) (κ := κ) c 6 (by decide) he (n := 6) (n' := 7) rfl rfl (dev_eq (f_dev26 c) _) (dev_eq (f_dev27 c) _) (sem12 _ _ _ (f_off17 c)) (sem8 _ _ _ (f_off18 c)) (sem13 _ _ _ (f_off17 c)) (sem9 _ _ _ (f_off18 c)) rfl (f_off19 c) rfl (f_off19 c)) $$ [Hf Ho]
    · isplitr; · iexact Hr
      isplitl [Hf]; · iexact Hf
      iexact Ho
    iintro ⟨Hf, Ho⟩
    iapply (step_send_kv (I := I) (PB := PB) (κ := κ) c 7 (by decide) he (n := 7) (n' := 8) rfl rfl (dev_eq (f_dev28 c) _) (dev_eq (f_dev29 c) _) (sem12 _ _ _ (f_off20 c)) (sem8 _ _ _ (f_off21 c)) (sem13 _ _ _ (f_off20 c)) (sem9 _ _ _ (f_off21 c)) rfl (f_off22 c) rfl (f_off22 c)) $$ [Hf Ho]
    · isplitr; · iexact Hr
      isplitl [Hf]; · iexact Hf
      iexact Ho
    iintro ⟨Hf, Ho⟩
    iapply run_ret
    isplitl [Hf]; · iexact Hf
    iexact Ho
  · simp only [Prog.lift, Prog.bind_op, Prog.bind_ret, Prog.pure_eq_ret, dif_neg (fun h => he ((f_cond7 c).mp h)), dif_neg (fun h => he ((f_cond8 c).mp h)), onlyEv_neg he, owed_odd c he 6 8]
    iintro ⟨#Hr, Hf, Ho⟩
    iapply run_ret
    isplitl [Hf]; · iexact Hf
    iexact Ho

set_option maxHeartbeats 4000000 in
theorem part33 (v2 v13 v322 v323 v328) :
    iprop(recs I PB κ ∗ onlyEv c (fam away 8 (AKV c) (BKV c I)) ∗ ow c (owed c 16 8 1 1))
      ⊢ run c (k0_part33 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 v322 v323 v328) (fun _ => iprop(onlyEv c (fam away 11 (AKV c) (BKV c I)) ∗ ow c (owed c 16 11 1 1))) := by
  rw [k0_part33_eq_skeleton]
  unfold k0_part33_skel
  by_cases he : ev c
  · simp only [Prog.lift, Prog.bind_op, Prog.bind_ret, Prog.pure_eq_ret, dif_pos ((f_cond9 c).mpr he), dif_pos ((f_cond10 c).mpr he), dif_pos ((f_cond11 c).mpr he), onlyEv_pos he]
    iintro ⟨#Hr, Hf, Ho⟩
    iapply (step_send_kv (I := I) (PB := PB) (κ := κ) c 8 (by decide) he (n := 8) (n' := 9) rfl rfl (dev_eq (f_dev30 c) _) (dev_eq (f_dev31 c) _) (sem12 _ _ _ (f_off23 c)) (sem8 _ _ _ (f_off24 c)) (sem13 _ _ _ (f_off23 c)) (sem9 _ _ _ (f_off24 c)) rfl (f_off25 c) rfl (f_off25 c)) $$ [Hf Ho]
    · isplitr; · iexact Hr
      isplitl [Hf]; · iexact Hf
      iexact Ho
    iintro ⟨Hf, Ho⟩
    iapply (step_send_kv (I := I) (PB := PB) (κ := κ) c 9 (by decide) he (n := 9) (n' := 10) rfl rfl (dev_eq (f_dev32 c) _) (dev_eq (f_dev33 c) _) (sem12 _ _ _ (f_off26 c)) (sem8 _ _ _ (f_off27 c)) (sem13 _ _ _ (f_off26 c)) (sem9 _ _ _ (f_off27 c)) rfl (f_off28 c) rfl (f_off28 c)) $$ [Hf Ho]
    · isplitr; · iexact Hr
      isplitl [Hf]; · iexact Hf
      iexact Ho
    iintro ⟨Hf, Ho⟩
    iapply (step_send_kv (I := I) (PB := PB) (κ := κ) c 10 (by decide) he (n := 10) (n' := 11) rfl rfl (dev_eq (f_dev34 c) _) (dev_eq (f_dev35 c) _) (sem12 _ _ _ (f_off29 c)) (sem8 _ _ _ (f_off30 c)) (sem13 _ _ _ (f_off29 c)) (sem9 _ _ _ (f_off30 c)) rfl (f_off31 c) rfl (f_off31 c)) $$ [Hf Ho]
    · isplitr; · iexact Hr
      isplitl [Hf]; · iexact Hf
      iexact Ho
    iintro ⟨Hf, Ho⟩
    iapply run_ret
    isplitl [Hf]; · iexact Hf
    iexact Ho
  · simp only [Prog.lift, Prog.bind_op, Prog.bind_ret, Prog.pure_eq_ret, dif_neg (fun h => he ((f_cond9 c).mp h)), dif_neg (fun h => he ((f_cond10 c).mp h)), dif_neg (fun h => he ((f_cond11 c).mp h)), onlyEv_neg he, owed_odd c he 8 11]
    iintro ⟨#Hr, Hf, Ho⟩
    iapply run_ret
    isplitl [Hf]; · iexact Hf
    iexact Ho

set_option maxHeartbeats 4000000 in
theorem part34 (v2 v13 v359 c16_i32_252 c0_i32_253) :
    iprop(recs I PB κ ∗ onlyEv c (fam away 11 (AKV c) (BKV c I)) ∗ ow c (owed c 16 11 1 1))
      ⊢ run c (k0_part34 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 v359 c16_i32_252 c0_i32_253) (fun _ => iprop(onlyEv c (fam away 13 (AKV c) (BKV c I)) ∗ ow c (owed c 16 13 1 1))) := by
  rw [k0_part34_eq_skeleton]
  unfold k0_part34_skel
  by_cases he : ev c
  · simp only [Prog.lift, Prog.bind_op, Prog.bind_ret, Prog.pure_eq_ret, dif_pos ((f_cond12 c).mpr he), dif_pos ((f_cond13 c).mpr he), onlyEv_pos he]
    iintro ⟨#Hr, Hf, Ho⟩
    iapply (step_send_kv (I := I) (PB := PB) (κ := κ) c 11 (by decide) he (n := 11) (n' := 12) rfl rfl (dev_eq (f_dev36 c) _) (dev_eq (f_dev37 c) _) (sem12 _ _ _ (f_off32 c)) (sem8 _ _ _ (f_off33 c)) (sem13 _ _ _ (f_off32 c)) (sem9 _ _ _ (f_off33 c)) rfl (f_off34 c) rfl (f_off34 c)) $$ [Hf Ho]
    · isplitr; · iexact Hr
      isplitl [Hf]; · iexact Hf
      iexact Ho
    iintro ⟨Hf, Ho⟩
    iapply (step_send_kv (I := I) (PB := PB) (κ := κ) c 12 (by decide) he (n := 12) (n' := 13) rfl rfl (dev_eq (f_dev38 c) _) (dev_eq (f_dev39 c) _) (sem12 _ _ _ (f_off35 c)) (sem8 _ _ _ (f_off36 c)) (sem13 _ _ _ (f_off35 c)) (sem9 _ _ _ (f_off36 c)) rfl (f_off37 c) rfl (f_off37 c)) $$ [Hf Ho]
    · isplitr; · iexact Hr
      isplitl [Hf]; · iexact Hf
      iexact Ho
    iintro ⟨Hf, Ho⟩
    iapply run_ret
    isplitl [Hf]; · iexact Hf
    iexact Ho
  · simp only [Prog.lift, Prog.bind_op, Prog.bind_ret, Prog.pure_eq_ret, dif_neg (fun h => he ((f_cond12 c).mp h)), dif_neg (fun h => he ((f_cond13 c).mp h)), onlyEv_neg he, owed_odd c he 11 13]
    iintro ⟨#Hr, Hf, Ho⟩
    iapply run_ret
    isplitl [Hf]; · iexact Hf
    iexact Ho

set_option maxHeartbeats 4000000 in
theorem part35 (v2 v13 v30 v387 v388 v393) :
    iprop(recs I PB κ ∗ onlyEv c (fam away 13 (AKV c) (BKV c I)) ∗ ow c (owed c 16 13 1 1) ∗ onlyEv c (OwnIn c I))
      ⊢ run c (k0_part35 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v13 v30 v387 v388 v393) (fun _ => iprop(onlyEv c (fam away 16 (AKV c) (BKV c I)) ∗ ow c (owed c 16 16 1 1) ∗ onlyEv c (OwnOut c I))) := by
  rw [k0_part35_eq_skeleton]
  unfold k0_part35_skel
  by_cases he : ev c
  · simp only [Prog.lift, Prog.bind_op, Prog.bind_ret, Prog.pure_eq_ret, dif_pos ((f_cond14 c).mpr he), dif_pos ((f_cond15 c).mpr he), dif_pos ((f_cond16 c).mpr he), dif_pos ((f_cond17 c).mpr he), onlyEv_pos he]
    iintro ⟨#Hr, Hf, Ho, HQ⟩
    iapply (step_send_kv (I := I) (PB := PB) (κ := κ) c 13 (by decide) he (n := 13) (n' := 14) rfl rfl (dev_eq (f_dev40 c) _) (dev_eq (f_dev41 c) _) (sem12 _ _ _ (f_off38 c)) (sem8 _ _ _ (f_off39 c)) (sem13 _ _ _ (f_off38 c)) (sem9 _ _ _ (f_off39 c)) rfl (f_off40 c) rfl (f_off40 c)) $$ [Hf Ho]
    · isplitr; · iexact Hr
      isplitl [Hf]; · iexact Hf
      iexact Ho
    iintro ⟨Hf, Ho⟩
    iapply (step_send_kv (I := I) (PB := PB) (κ := κ) c 14 (by decide) he (n := 14) (n' := 15) rfl rfl (dev_eq (f_dev42 c) _) (dev_eq (f_dev43 c) _) (sem12 _ _ _ (f_off41 c)) (sem8 _ _ _ (f_off42 c)) (sem13 _ _ _ (f_off41 c)) (sem9 _ _ _ (f_off42 c)) rfl (f_off43 c) rfl (f_off43 c)) $$ [Hf Ho]
    · isplitr; · iexact Hr
      isplitl [Hf]; · iexact Hf
      iexact Ho
    iintro ⟨Hf, Ho⟩
    iapply (step_send_kv (I := I) (PB := PB) (κ := κ) c 15 (by decide) he (n := 15) (n' := 16) rfl rfl (dev_eq (f_dev44 c) _) (dev_eq (f_dev45 c) _) (sem12 _ _ _ (f_off44 c)) (sem8 _ _ _ (f_off45 c)) (sem13 _ _ _ (f_off44 c)) (sem9 _ _ _ (f_off45 c)) rfl (f_off46 c) rfl (f_off46 c)) $$ [Hf Ho]
    · isplitr; · iexact Hr
      isplitl [Hf]; · iexact Hf
      iexact Ho
    iintro ⟨Hf, Ho⟩
    unfold OwnIn OwnOut
    icases HQ with ⟨Hk, Hv, Hpk, Hpv⟩
    unfold placeK placeV
    rw [rbRows_ev he]
    icases Hpk with ⟨%f, Hpk⟩
    icases Hpv with ⟨%g, Hpv⟩
    iapply (step_load c (m := kstM) (r := Rect.unit (s := S16x2x128x4x64) ![0, 0, 0, 0, 0] S1x2x128x4x64.size _) (S := rowsAt 1 0) (q := fullShare) (f := KST I.k c) (by rw [acc_kst _ _ 0 rfl]) rfl) $$ [Hk]
    · iexact Hk
    iintro Hk
    iapply (ld_slot_rbk c (c.val / 2) (f_off47 c) f) $$ [Hpk]
    · iexact Hpk
    iintro Hpk
    iapply (st_slot_rbk c (c.val / 2) (f_off47 c) f (RBK I.k c) (own_rbk c I.k he (off' := ![0, 0, 0, 0, 0]) (f_off47 c) rfl)) $$ [Hpk]
    · iexact Hpk
    iintro Hpk
    iapply (step_load c (m := vstM) (r := Rect.unit (s := S16x2x128x4x64) ![0, 0, 0, 0, 0] S1x2x128x4x64.size _) (S := rowsAt 1 0) (q := fullShare) (f := KST I.v c) (by rw [acc_vst _ _ 0 rfl]) rfl) $$ [Hv]
    · iexact Hv
    iintro Hv
    iapply (ld_slot_rbv c (c.val / 2) (f_off47 c) g) $$ [Hpv]
    · iexact Hpv
    iintro Hpv
    iapply (st_slot_rbv c (c.val / 2) (f_off47 c) g (RBK I.v c) (own_rbv c I.v he (off' := ![0, 0, 0, 0, 0]) (f_off47 c) rfl)) $$ [Hpv]
    · iexact Hpv
    iintro Hpv
    iapply run_ret
    isplitl [Hf]; · iexact Hf
    isplitl [Ho]; · iexact Ho
    isplitl [Hk]; · iexact Hk
    isplitl [Hv]; · iexact Hv
    isplitl [Hpk]; · iexact Hpk
    iexact Hpv
  · simp only [Prog.lift, Prog.bind_op, Prog.bind_ret, Prog.pure_eq_ret, dif_neg (fun h => he ((f_cond14 c).mp h)), dif_neg (fun h => he ((f_cond15 c).mp h)), dif_neg (fun h => he ((f_cond16 c).mp h)), dif_neg (fun h => he ((f_cond17 c).mp h)), onlyEv_neg he, owed_odd c he 13 16]
    iintro ⟨#Hr, Hf, Ho, HQ⟩
    iapply run_ret
    isplitl [Hf]; · iexact Hf
    isplitl [Ho]; · iexact Ho
    iexact HQ

end Cert.SparseAttn

end
-- ==== Proof.RecvBase.lean ====
/-
The waits for the keys and values: for every slot the arrival, and on a device that sends, its own transfers.
-/
module

public import proofs.«01_k».proof.Proof.SendsKV

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

theorem nk_kst (off inb) : (stSlot kstM off inb).view.dmaCredit = NK := rfl
theorem nk_vst (off inb) : (stSlot vstM off inb).view.dmaCredit = NK := rfl
theorem nc_pb (off inb) : (chunk pbM off inb).view.dmaCredit = NC := rfl
theorem nc_red : redM.view.dmaCredit = NC := rfl

/-! ## Buffers by groups of rows -/

theorem rows_kst (q : PosShare TreeShare) (f : Vec F S16x2x128x4x64 .bf16) : kstP c q Finset.univ f = bigSep Finset.univ fun k : Fin 16 => kstP c q (rowsAt 1 k.val) f :=
  (congrArg (fun S => kstP c q S f) (rowsAt_union (d := S16x2x128x4x64.size) 1 16 (by decide) rfl)).trans
    (pointsTo_biUnion (ℓ := (c : Thread nD τ).loc cc0_scratch0) (q := q) (f := f) Finset.univ (fun k : Fin 16 => rowsAt (d := S16x2x128x4x64.size) 1 k.val)
      fun _ _ _ _ h => rowsAt_disjoint fun e => h (Fin.ext e))
theorem rows_vst (q : PosShare TreeShare) (f : Vec F S16x2x128x4x64 .bf16) : vstP c q Finset.univ f = bigSep Finset.univ fun k : Fin 16 => vstP c q (rowsAt 1 k.val) f :=
  (congrArg (fun S => vstP c q S f) (rowsAt_union (d := S16x2x128x4x64.size) 1 16 (by decide) rfl)).trans
    (pointsTo_biUnion (ℓ := (c : Thread nD τ).loc cc0_scratch1) (q := q) (f := f) Finset.univ (fun k : Fin 16 => rowsAt (d := S16x2x128x4x64.size) 1 k.val)
      fun _ _ _ _ h => rowsAt_disjoint fun e => h (Fin.ext e))
theorem rows_rbk (q : PosShare TreeShare) (f : Vec F S8x2x128x4x64 .bf16) : rbkP c q Finset.univ f = bigSep Finset.univ fun k : Fin 8 => rbkP c q (rowsAt 1 k.val) f :=
  (congrArg (fun S => rbkP c q S f) (rowsAt_union (d := S8x2x128x4x64.size) 1 8 (by decide) rfl)).trans
    (pointsTo_biUnion (ℓ := (c : Thread nD τ).loc cc0_scratch2) (q := q) (f := f) Finset.univ (fun k : Fin 8 => rowsAt (d := S8x2x128x4x64.size) 1 k.val)
      fun _ _ _ _ h => rowsAt_disjoint fun e => h (Fin.ext e))
theorem rows_rbv (q : PosShare TreeShare) (f : Vec F S8x2x128x4x64 .bf16) : rbvP c q Finset.univ f = bigSep Finset.univ fun k : Fin 8 => rbvP c q (rowsAt 1 k.val) f :=
  (congrArg (fun S => rbvP c q S f) (rowsAt_union (d := S8x2x128x4x64.size) 1 8 (by decide) rfl)).trans
    (pointsTo_biUnion (ℓ := (c : Thread nD τ).loc cc0_scratch3) (q := q) (f := f) Finset.univ (fun k : Fin 8 => rowsAt (d := S8x2x128x4x64.size) 1 k.val)
      fun _ _ _ _ h => rowsAt_disjoint fun e => h (Fin.ext e))
theorem rows_pb (q : PosShare TreeShare) (f : Vec F S256x512 .bf16) : pbP c q Finset.univ f = bigSep Finset.univ fun k : Fin 16 => pbP c q (rowsAt 16 k.val) f :=
  (congrArg (fun S => pbP c q S f) (rowsAt_union (d := S256x512.size) 16 16 (by decide) rfl)).trans
    (pointsTo_biUnion (ℓ := (c : Thread nD τ).loc cc0_scratch4) (q := q) (f := f) Finset.univ (fun k : Fin 16 => rowsAt (d := S256x512.size) 16 k.val)
      fun _ _ _ _ h => rowsAt_disjoint fun e => h (Fin.ext e))
theorem rows_acc (q : PosShare TreeShare) (f : Vec F S16x16x512 .bf16) : accP c q Finset.univ f = bigSep Finset.univ fun k : Fin 16 => accP c q (rowsAt 1 k.val) f :=
  (congrArg (fun S => accP c q S f) (rowsAt_union (d := S16x16x512.size) 1 16 (by decide) rfl)).trans
    (pointsTo_biUnion (ℓ := (c : Thread nD τ).loc cc0_scratch5) (q := q) (f := f) Finset.univ (fun k : Fin 16 => rowsAt (d := S16x16x512.size) 1 k.val)
      fun _ _ _ _ h => rowsAt_disjoint fun e => h (Fin.ext e))
theorem rows_gath (q : PosShare TreeShare) (f : Vec F S16x16x512 .bf16) : gathP c q Finset.univ f = bigSep Finset.univ fun k : Fin 16 => gathP c q (rowsAt 1 k.val) f :=
  (congrArg (fun S => gathP c q S f) (rowsAt_union (d := S16x16x512.size) 1 16 (by decide) rfl)).trans
    (pointsTo_biUnion (ℓ := (c : Thread nD τ).loc cc0_scratch7) (q := q) (f := f) Finset.univ (fun k : Fin 16 => rowsAt (d := S16x16x512.size) 1 k.val)
      fun _ _ _ _ h => rowsAt_disjoint fun e => h (Fin.ext e))

/-! ## One slot of keys and values -/

/-- After the wait for slot `m`, and before it: on the device the slot comes from, it is there already. -/
def AM (I : Inputs F) (m : Fin 8) : sProp 𝕄 := iprop(rbkP c fullShare (rowsAt 1 m.val) (RBK I.k c) ∗ rbvP c fullShare (rowsAt 1 m.val) (RBK I.v c)
  ∗ semVal (xf c 0 (srcOf m)) 0 ∗ semVal (xf c 1 (srcOf m)) 0)
def BM (I : Inputs F) (m : Fin 8) : sProp 𝕄 := if srcOf m = c then AM c I m else iprop(BWait c 0 (srcOf m) ∗ BWait c 1 (srcOf m))

theorem rbRows_src (m : Fin 8) : rbRows (srcOf m) = rowsAt 1 m.val := by
  have h : (srcOf m).val / 2 = m.val := by show 2 * m.val / 2 = m.val; omega
  have he : ev (srcOf m) := by show 2 * m.val % 2 = 0; omega
  rw [rbRows_ev he, h]

theorem recv_block {α : Type} {k : Prog (TpuEff nD τ sig (Elt F) Λ₀ .tc) α} {Q : α → sProp 𝕄} (m : Fin 8) {n n' : ℕ} (hn : m.val = n) (hn' : n' = n + 1) {b : BitVec 1} (hb : b = 1#1 ↔ srcOf m ≠ c) {r g : ℕ}
    {sem sem' : DmaSem sig} (hs : (SemLoc.dma sem : SemLoc sig) = csem (some (0, srcOf m))) (hs' : (SemLoc.dma sem' : SemLoc sig) = csem (some (1, srcOf m)))
    {sp₁ sp₂ sp₃ sp₄ : Space} {s₁ s₂ s₃ s₄ : Shape} {e₁ e₂ e₃ e₄ : EltTy} {src : Memref sig .tc sp₁ s₁ e₁} {dst : Memref sig .tc sp₂ s₂ e₂}
    {src' : Memref sig .tc sp₃ s₃ e₃} {dst' : Memref sig .tc sp₄ s₄ e₄} {h₁ : src.view.WordExact} {h₂ : dst.view.WordExact} {h₃ : src'.view.WordExact} {h₄ : dst'.view.WordExact}
    (hN : dst.view.dmaCredit = amt 0) (hN' : dst'.view.dmaCredit = amt 1) :
    iprop(recs I PB κ ∗ fam Finset.univ n (AM c I) (BM c I) ∗ ow c (owed c 16 16 r g))
      ⊢ iprop(((fam Finset.univ n' (AM c I) (BM c I) ∗ ow c (owed c 16 16 r g)) -∗ run c k Q)
        -∗ run c (dite (b = 1#1) (fun _ => .op (.waitDma2 sem src dst h₁ h₂) fun _ => .op (.waitDma2 sem' src' dst' h₃ h₄) fun _ => k) (fun _ => k)) Q) := by
  by_cases hc : srcOf m = c
  · rw [dif_neg fun h => hb.mp h hc]
    have e : BM c I m ⊢ AM c I m := Entails.of_eq (if_pos hc)
    iintro ⟨#Hr, Hf, Ho⟩ Hk
    ihave Hf := (fam_take m (Finset.mem_univ m) hn hn') $$ Hf
    icases Hf with ⟨HB, Hf⟩
    ihave HB := e $$ HB
    iapply Hk
    isplitl [HB Hf]; · iapply Hf; iexact HB
    iexact Ho
  · rw [dif_pos (hb.mpr hc)]
    have e : BM c I m ⊢ iprop(BWait c 0 (srcOf m) ∗ BWait c 1 (srcOf m)) := Entails.of_eq (if_neg hc)
    have he : ev (srcOf m) := by show 2 * m.val % 2 = 0; omega
    have a0 : act c 0 (srcOf m) := ⟨hc, fun _ => he, fun h => absurd h (by decide)⟩
    have a1 : act c 1 (srcOf m) := ⟨hc, fun _ => he, fun h => absurd h (by decide)⟩
    have hk : AWait c I PB 0 (srcOf m) ⊢ iprop(rbkP c fullShare (rowsAt 1 m.val) (RBK I.k c) ∗ semVal (xf c 0 (srcOf m)) 0) :=
      Entails.of_eq (by unfold AWait xfPay; rw [rbRows_src])
    have hv : AWait c I PB 1 (srcOf m) ⊢ iprop(rbvP c fullShare (rowsAt 1 m.val) (RBK I.v c) ∗ semVal (xf c 1 (srcOf m)) 0) :=
      Entails.of_eq (by unfold AWait xfPay; rw [rbRows_src])
    iintro ⟨#Hr, Hf, Ho⟩ Hk
    ihave Hf := (fam_take m (Finset.mem_univ m) hn hn') $$ Hf
    icases Hf with ⟨HB, Hf⟩
    ihave HB := e $$ HB
    icases HB with ⟨H0, H1⟩
    iapply (step_wait (I := I) (PB := PB) (κ := κ) c 0 (srcOf m) a0 hs hN 2 le_rfl (fun _ => le_rfl) (fun _ => le_rfl) (fun h => absurd h (by decide)) (fun h => absurd h (by decide))) $$ [H0 Ho]
    · isplitr; · iexact Hr
      isplitl [H0]; · iexact H0
      iexact Ho
    iintro ⟨H0, Ho⟩
    iapply (step_wait (I := I) (PB := PB) (κ := κ) c 1 (srcOf m) a1 hs' hN' 2 le_rfl (fun _ => le_rfl) (fun _ => le_rfl) (fun h => absurd h (by decide)) (fun h => absurd h (by decide))) $$ [H1 Ho]
    · isplitr; · iexact Hr
      isplitl [H1]; · iexact H1
      iexact Ho
    iintro ⟨H1, Ho⟩
    ihave H0 := hk $$ H0
    ihave H1 := hv $$ H1
    icases H0 with ⟨Hkk, Hsk⟩
    icases H1 with ⟨Hv, Hsv⟩
    iapply Hk
    isplitl [Hkk Hsk Hv Hsv Hf]
    · iapply Hf
      unfold AM
      isplitl [Hkk]; · iexact Hkk
      isplitl [Hv]; · iexact Hv
      isplitl [Hsk]; · iexact Hsk
      iexact Hsv
    iexact Ho

/-- The device's index along the ring, as the program computes it. -/
abbrev wv : BitVec 32 := Scalar.remsi (Scalar.divsi (Dev.word c) 1#32) 16#32
theorem recv_cond0 : (Scalar.cmpi .ne (Scalar.extui (Scalar.cmpi .ne (wv c) 0#32) : BitVec 32) 0#32 = 1#1) ↔ srcOf 0 ≠ c := by revert c; decide +kernel
theorem recv_cond1 : (Scalar.cmpi .ne (Scalar.extui (Scalar.cmpi .ne (wv c) 2#32) : BitVec 32) 0#32 = 1#1) ↔ srcOf 1 ≠ c := by revert c; decide +kernel
theorem recv_cond2 : (Scalar.cmpi .ne (Scalar.extui (Scalar.cmpi .ne (wv c) 4#32) : BitVec 32) 0#32 = 1#1) ↔ srcOf 2 ≠ c := by revert c; decide +kernel
theorem recv_cond3 : (Scalar.cmpi .ne (Scalar.extui (Scalar.cmpi .ne (wv c) 6#32) : BitVec 32) 0#32 = 1#1) ↔ srcOf 3 ≠ c := by revert c; decide +kernel
theorem recv_cond4 : (Scalar.cmpi .ne (Scalar.extui (Scalar.cmpi .ne (wv c) 8#32) : BitVec 32) 0#32 = 1#1) ↔ srcOf 4 ≠ c := by revert c; decide +kernel
theorem recv_cond5 : (Scalar.cmpi .ne (Scalar.extui (Scalar.cmpi .ne (wv c) 10#32) : BitVec 32) 0#32 = 1#1) ↔ srcOf 5 ≠ c := by revert c; decide +kernel
theorem recv_cond6 : (Scalar.cmpi .ne (Scalar.extui (Scalar.cmpi .ne (wv c) 12#32) : BitVec 32) 0#32 = 1#1) ↔ srcOf 6 ≠ c := by revert c; decide +kernel
theorem recv_cond7 : (Scalar.cmpi .ne (Scalar.extui (Scalar.cmpi .ne (wv c) 14#32) : BitVec 32) 0#32 = 1#1) ↔ srcOf 7 ≠ c := by revert c; decide +kernel

/-! ## What the loads read -/

/-- One block of keys or values in the receive buffer. -/
def kvBlk (f : Vec F S8x2x128x4x64 .bf16) (off : Fin 5 → ℕ) (inb : ∀ a, off a + S1x1x64x1x64.size a ≤ S8x2x128x4x64.size a) : Vec F S1x1x64x1x64 .bf16 :=
  fun j => f ((Rect.unit (s := S8x2x128x4x64) off S1x1x64x1x64.size inb).emb j)
/-- One batch of the activations. -/
def xBlk (f : Vec F S2x128x512 .f32) (off : Fin 3 → ℕ) (inb : ∀ a, off a + S1x128x512.size a ≤ S2x128x512.size a) : Vec F S1x128x512 .f32 :=
  fun j => f ((Rect.unit (s := S2x128x512) off S1x128x512.size inb).emb j)

theorem ld_x {α : Type} {off inb} (f : Vec F S2x128x512 .f32) {hl : (in0M.view).LoadsAt (Rect.unit (s := S2x128x512) off S1x128x512.size inb).toLoadRect}
    {k : Vec F S1x128x512 .f32 → Prog (TpuEff nD τ sig (Elt F) Λ₀ .tc) α} {Q : α → sProp 𝕄} :
    in0P c f ⊢ iprop((in0P c f -∗ run c (k (xBlk f off inb)) Q)
      -∗ run c (.op (.load in0M (Rect.unit (s := S2x128x512) off S1x128x512.size inb).toLoadRect hl) k) Q) :=
  step_load c (m := in0M) (r := Rect.unit (s := S2x128x512) off S1x128x512.size inb) (S := Finset.univ) (q := fullShare) (f := f) (Finset.subset_univ _) (v := xBlk f off inb) rfl
theorem ld_kv_rbk {α : Type} {off inb} (f : Vec F S8x2x128x4x64 .bf16) {hl : (rbkM.view).LoadsAt (Rect.unit (s := S8x2x128x4x64) off S1x1x64x1x64.size inb).toLoadRect}
    {k : Vec F S1x1x64x1x64 .bf16 → Prog (TpuEff nD τ sig (Elt F) Λ₀ .tc) α} {Q : α → sProp 𝕄} :
    rbkP c fullShare Finset.univ f ⊢ iprop((rbkP c fullShare Finset.univ f -∗ run c (k (kvBlk f off inb)) Q)
      -∗ run c (.op (.load rbkM (Rect.unit (s := S8x2x128x4x64) off S1x1x64x1x64.size inb).toLoadRect hl) k) Q) :=
  step_load c (m := rbkM) (r := Rect.unit (s := S8x2x128x4x64) off S1x1x64x1x64.size inb) (S := Finset.univ) (q := fullShare) (f := f) (Finset.subset_univ _) (v := kvBlk f off inb) rfl
theorem ld_kv_rbv {α : Type} {off inb} (f : Vec F S8x2x128x4x64 .bf16) {hl : (rbvM.view).LoadsAt (Rect.unit (s := S8x2x128x4x64) off S1x1x64x1x64.size inb).toLoadRect}
    {k : Vec F S1x1x64x1x64 .bf16 → Prog (TpuEff nD τ sig (Elt F) Λ₀ .tc) α} {Q : α → sProp 𝕄} :
    rbvP c fullShare Finset.univ f ⊢ iprop((rbvP c fullShare Finset.univ f -∗ run c (k (kvBlk f off inb)) Q)
      -∗ run c (.op (.load rbvM (Rect.unit (s := S8x2x128x4x64) off S1x1x64x1x64.size inb).toLoadRect hl) k) Q) :=
  step_load c (m := rbvM) (r := Rect.unit (s := S8x2x128x4x64) off S1x1x64x1x64.size inb) (S := Finset.univ) (q := fullShare) (f := f) (Finset.subset_univ _) (v := kvBlk f off inb) rfl

end Cert.SparseAttn

end
-- ==== Proof.SentKV.lean ====
/-
The waits for one's own transfers of keys and values.
-/
module

public import proofs.«01_k».proof.Proof.RecvBase

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

set_option maxHeartbeats 4000000 in
theorem part15 (hc : k0_cond26 c = 1#1) :
    iprop(recs I PB κ ∗ fam away 1 (fun o => AWait c I PB 4 (sh c o)) (fun o => BWait c 4 (sh c o)) ∗ fam away 1 (fun o => AWait c I PB 5 (sh c o)) (fun o => BWait c 5 (sh c o)) ∗ ow c (owed c 16 16 1 1))
      ⊢ run c (k0_part15 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 3 (fun o => AWait c I PB 4 (sh c o)) (fun o => BWait c 4 (sh c o)) ∗ fam away 2 (fun o => AWait c I PB 5 (sh c o)) (fun o => BWait c 5 (sh c o)) ∗ ow c (owed c 16 16 1 1))) := by
  have he : ev c := (f_cond26 c).mp hc
  rw [k0_part15_eq_skeleton]
  unfold k0_part15_skel
  simp only [Prog.lift, Prog.bind_op, Prog.bind_ret, Prog.pure_eq_ret]
  iintro ⟨#Hr, Hf, Hg, Ho⟩
  iapply (step_waits (I := I) (PB := PB) (κ := κ) c 4 1 (by decide) (m := 1) (m' := 2) rfl rfl (act_send c (by decide) (fun _ => he) (by decide)) (sem12 _ _ _ (f_off48_1 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 1 (by decide) (m := 1) (m' := 2) rfl rfl (act_send c (by decide) (fun _ => he) (by decide)) (sem13 _ _ _ (f_off48_1 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 2 (by decide) (m := 2) (m' := 3) rfl rfl (act_send c (by decide) (fun _ => he) (by decide)) (sem12 _ _ _ (f_off48_2 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply run_ret
  isplitl [Hf]; · iexact Hf
  isplitl [Hg]; · iexact Hg
  iexact Ho

set_option maxHeartbeats 4000000 in
theorem part16 (hc : k0_cond26 c = 1#1) :
    iprop(recs I PB κ ∗ fam away 3 (fun o => AWait c I PB 4 (sh c o)) (fun o => BWait c 4 (sh c o)) ∗ fam away 2 (fun o => AWait c I PB 5 (sh c o)) (fun o => BWait c 5 (sh c o)) ∗ ow c (owed c 16 16 1 1))
      ⊢ run c (k0_part16 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 5 (fun o => AWait c I PB 4 (sh c o)) (fun o => BWait c 4 (sh c o)) ∗ fam away 4 (fun o => AWait c I PB 5 (sh c o)) (fun o => BWait c 5 (sh c o)) ∗ ow c (owed c 16 16 1 1))) := by
  have he : ev c := (f_cond26 c).mp hc
  rw [k0_part16_eq_skeleton]
  unfold k0_part16_skel
  simp only [Prog.lift, Prog.bind_op, Prog.bind_ret, Prog.pure_eq_ret]
  iintro ⟨#Hr, Hf, Hg, Ho⟩
  iapply (step_waits (I := I) (PB := PB) (κ := κ) c 5 2 (by decide) (m := 2) (m' := 3) rfl rfl (act_send c (by decide) (fun _ => he) (by decide)) (sem13 _ _ _ (f_off48_2 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 3 (by decide) (m := 3) (m' := 4) rfl rfl (act_send c (by decide) (fun _ => he) (by decide)) (sem12 _ _ _ (f_off48_3 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 3 (by decide) (m := 3) (m' := 4) rfl rfl (act_send c (by decide) (fun _ => he) (by decide)) (sem13 _ _ _ (f_off48_3 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 4 (by decide) (m := 4) (m' := 5) rfl rfl (act_send c (by decide) (fun _ => he) (by decide)) (sem12 _ _ _ (f_off48_4 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply run_ret
  isplitl [Hf]; · iexact Hf
  isplitl [Hg]; · iexact Hg
  iexact Ho

set_option maxHeartbeats 4000000 in
theorem part17 (hc : k0_cond26 c = 1#1) :
    iprop(recs I PB κ ∗ fam away 5 (fun o => AWait c I PB 4 (sh c o)) (fun o => BWait c 4 (sh c o)) ∗ fam away 4 (fun o => AWait c I PB 5 (sh c o)) (fun o => BWait c 5 (sh c o)) ∗ ow c (owed c 16 16 1 1))
      ⊢ run c (k0_part17 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 7 (fun o => AWait c I PB 4 (sh c o)) (fun o => BWait c 4 (sh c o)) ∗ fam away 6 (fun o => AWait c I PB 5 (sh c o)) (fun o => BWait c 5 (sh c o)) ∗ ow c (owed c 16 16 1 1))) := by
  have he : ev c := (f_cond26 c).mp hc
  rw [k0_part17_eq_skeleton]
  unfold k0_part17_skel
  simp only [Prog.lift, Prog.bind_op, Prog.bind_ret, Prog.pure_eq_ret]
  iintro ⟨#Hr, Hf, Hg, Ho⟩
  iapply (step_waits (I := I) (PB := PB) (κ := κ) c 5 4 (by decide) (m := 4) (m' := 5) rfl rfl (act_send c (by decide) (fun _ => he) (by decide)) (sem13 _ _ _ (f_off48_4 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 5 (by decide) (m := 5) (m' := 6) rfl rfl (act_send c (by decide) (fun _ => he) (by decide)) (sem12 _ _ _ (f_off48_5 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 5 (by decide) (m := 5) (m' := 6) rfl rfl (act_send c (by decide) (fun _ => he) (by decide)) (sem13 _ _ _ (f_off48_5 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 6 (by decide) (m := 6) (m' := 7) rfl rfl (act_send c (by decide) (fun _ => he) (by decide)) (sem12 _ _ _ (f_off48_6 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply run_ret
  isplitl [Hf]; · iexact Hf
  isplitl [Hg]; · iexact Hg
  iexact Ho

set_option maxHeartbeats 4000000 in
theorem part18 (hc : k0_cond26 c = 1#1) :
    iprop(recs I PB κ ∗ fam away 7 (fun o => AWait c I PB 4 (sh c o)) (fun o => BWait c 4 (sh c o)) ∗ fam away 6 (fun o => AWait c I PB 5 (sh c o)) (fun o => BWait c 5 (sh c o)) ∗ ow c (owed c 16 16 1 1))
      ⊢ run c (k0_part18 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 9 (fun o => AWait c I PB 4 (sh c o)) (fun o => BWait c 4 (sh c o)) ∗ fam away 8 (fun o => AWait c I PB 5 (sh c o)) (fun o => BWait c 5 (sh c o)) ∗ ow c (owed c 16 16 1 1))) := by
  have he : ev c := (f_cond26 c).mp hc
  rw [k0_part18_eq_skeleton]
  unfold k0_part18_skel
  simp only [Prog.lift, Prog.bind_op, Prog.bind_ret, Prog.pure_eq_ret]
  iintro ⟨#Hr, Hf, Hg, Ho⟩
  iapply (step_waits (I := I) (PB := PB) (κ := κ) c 5 6 (by decide) (m := 6) (m' := 7) rfl rfl (act_send c (by decide) (fun _ => he) (by decide)) (sem13 _ _ _ (f_off48_6 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 7 (by decide) (m := 7) (m' := 8) rfl rfl (act_send c (by decide) (fun _ => he) (by decide)) (sem12 _ _ _ (f_off48_7 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 7 (by decide) (m := 7) (m' := 8) rfl rfl (act_send c (by decide) (fun _ => he) (by decide)) (sem13 _ _ _ (f_off48_7 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 8 (by decide) (m := 8) (m' := 9) rfl rfl (act_send c (by decide) (fun _ => he) (by decide)) (sem12 _ _ _ (f_off48_8 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply run_ret
  isplitl [Hf]; · iexact Hf
  isplitl [Hg]; · iexact Hg
  iexact Ho

set_option maxHeartbeats 4000000 in
theorem part19 (hc : k0_cond26 c = 1#1) :
    iprop(recs I PB κ ∗ fam away 9 (fun o => AWait c I PB 4 (sh c o)) (fun o => BWait c 4 (sh c o)) ∗ fam away 8 (fun o => AWait c I PB 5 (sh c o)) (fun o => BWait c 5 (sh c o)) ∗ ow c (owed c 16 16 1 1))
      ⊢ run c (k0_part19 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 10 (fun o => AWait c I PB 4 (sh c o)) (fun o => BWait c 4 (sh c o)) ∗ fam away 10 (fun o => AWait c I PB 5 (sh c o)) (fun o => BWait c 5 (sh c o)) ∗ ow c (owed c 16 16 1 1))) := by
  have he : ev c := (f_cond26 c).mp hc
  rw [k0_part19_eq_skeleton]
  unfold k0_part19_skel
  simp only [Prog.lift, Prog.bind_op, Prog.bind_ret, Prog.pure_eq_ret]
  iintro ⟨#Hr, Hf, Hg, Ho⟩
  iapply (step_waits (I := I) (PB := PB) (κ := κ) c 5 8 (by decide) (m := 8) (m' := 9) rfl rfl (act_send c (by decide) (fun _ => he) (by decide)) (sem13 _ _ _ (f_off48_8 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 9 (by decide) (m := 9) (m' := 10) rfl rfl (act_send c (by decide) (fun _ => he) (by decide)) (sem12 _ _ _ (f_off48_9 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 9 (by decide) (m := 9) (m' := 10) rfl rfl (act_send c (by decide) (fun _ => he) (by decide)) (sem13 _ _ _ (f_off48_9 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply run_ret
  isplitl [Hf]; · iexact Hf
  isplitl [Hg]; · iexact Hg
  iexact Ho

set_option maxHeartbeats 4000000 in
theorem part20 (hc : k0_cond26 c = 1#1) :
    iprop(recs I PB κ ∗ fam away 10 (fun o => AWait c I PB 4 (sh c o)) (fun o => BWait c 4 (sh c o)) ∗ fam away 10 (fun o => AWait c I PB 5 (sh c o)) (fun o => BWait c 5 (sh c o)) ∗ ow c (owed c 16 16 1 1))
      ⊢ run c (k0_part20 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 12 (fun o => AWait c I PB 4 (sh c o)) (fun o => BWait c 4 (sh c o)) ∗ fam away 12 (fun o => AWait c I PB 5 (sh c o)) (fun o => BWait c 5 (sh c o)) ∗ ow c (owed c 16 16 1 1))) := by
  have he : ev c := (f_cond26 c).mp hc
  rw [k0_part20_eq_skeleton]
  unfold k0_part20_skel
  simp only [Prog.lift, Prog.bind_op, Prog.bind_ret, Prog.pure_eq_ret]
  iintro ⟨#Hr, Hf, Hg, Ho⟩
  iapply (step_waits (I := I) (PB := PB) (κ := κ) c 4 10 (by decide) (m := 10) (m' := 11) rfl rfl (act_send c (by decide) (fun _ => he) (by decide)) (sem12 _ _ _ (f_off48_10 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 10 (by decide) (m := 10) (m' := 11) rfl rfl (act_send c (by decide) (fun _ => he) (by decide)) (sem13 _ _ _ (f_off48_10 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 11 (by decide) (m := 11) (m' := 12) rfl rfl (act_send c (by decide) (fun _ => he) (by decide)) (sem12 _ _ _ (f_off48_11 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 11 (by decide) (m := 11) (m' := 12) rfl rfl (act_send c (by decide) (fun _ => he) (by decide)) (sem13 _ _ _ (f_off48_11 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply run_ret
  isplitl [Hf]; · iexact Hf
  isplitl [Hg]; · iexact Hg
  iexact Ho

set_option maxHeartbeats 4000000 in
theorem part21 (hc : k0_cond26 c = 1#1) :
    iprop(recs I PB κ ∗ fam away 12 (fun o => AWait c I PB 4 (sh c o)) (fun o => BWait c 4 (sh c o)) ∗ fam away 12 (fun o => AWait c I PB 5 (sh c o)) (fun o => BWait c 5 (sh c o)) ∗ ow c (owed c 16 16 1 1))
      ⊢ run c (k0_part21 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 14 (fun o => AWait c I PB 4 (sh c o)) (fun o => BWait c 4 (sh c o)) ∗ fam away 14 (fun o => AWait c I PB 5 (sh c o)) (fun o => BWait c 5 (sh c o)) ∗ ow c (owed c 16 16 1 1))) := by
  have he : ev c := (f_cond26 c).mp hc
  rw [k0_part21_eq_skeleton]
  unfold k0_part21_skel
  simp only [Prog.lift, Prog.bind_op, Prog.bind_ret, Prog.pure_eq_ret]
  iintro ⟨#Hr, Hf, Hg, Ho⟩
  iapply (step_waits (I := I) (PB := PB) (κ := κ) c 4 12 (by decide) (m := 12) (m' := 13) rfl rfl (act_send c (by decide) (fun _ => he) (by decide)) (sem12 _ _ _ (f_off48_12 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 12 (by decide) (m := 12) (m' := 13) rfl rfl (act_send c (by decide) (fun _ => he) (by decide)) (sem13 _ _ _ (f_off48_12 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 13 (by decide) (m := 13) (m' := 14) rfl rfl (act_send c (by decide) (fun _ => he) (by decide)) (sem12 _ _ _ (f_off48_13 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 13 (by decide) (m := 13) (m' := 14) rfl rfl (act_send c (by decide) (fun _ => he) (by decide)) (sem13 _ _ _ (f_off48_13 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply run_ret
  isplitl [Hf]; · iexact Hf
  isplitl [Hg]; · iexact Hg
  iexact Ho

set_option maxHeartbeats 4000000 in
theorem part22 (hc : k0_cond26 c = 1#1) :
    iprop(recs I PB κ ∗ fam away 14 (fun o => AWait c I PB 4 (sh c o)) (fun o => BWait c 4 (sh c o)) ∗ fam away 14 (fun o => AWait c I PB 5 (sh c o)) (fun o => BWait c 5 (sh c o)) ∗ ow c (owed c 16 16 1 1))
      ⊢ run c (k0_part22 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc) (fun _ => iprop(fam away 16 (fun o => AWait c I PB 4 (sh c o)) (fun o => BWait c 4 (sh c o)) ∗ fam away 16 (fun o => AWait c I PB 5 (sh c o)) (fun o => BWait c 5 (sh c o)) ∗ ow c (owed c 16 16 1 1))) := by
  have he : ev c := (f_cond26 c).mp hc
  rw [k0_part22_eq_skeleton]
  unfold k0_part22_skel
  simp only [Prog.lift, Prog.bind_op, Prog.bind_ret, Prog.pure_eq_ret]
  iintro ⟨#Hr, Hf, Hg, Ho⟩
  iapply (step_waits (I := I) (PB := PB) (κ := κ) c 4 14 (by decide) (m := 14) (m' := 15) rfl rfl (act_send c (by decide) (fun _ => he) (by decide)) (sem12 _ _ _ (f_off48_14 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 14 (by decide) (m := 14) (m' := 15) rfl rfl (act_send c (by decide) (fun _ => he) (by decide)) (sem13 _ _ _ (f_off48_14 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 4 15 (by decide) (m := 15) (m' := 16) rfl rfl (act_send c (by decide) (fun _ => he) (by decide)) (sem12 _ _ _ (f_off48_15 c)) (nk_kst _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 5 15 (by decide) (m := 15) (m' := 16) rfl rfl (act_send c (by decide) (fun _ => he) (by decide)) (sem13 _ _ _ (f_off48_15 c)) (nk_vst _ _) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply run_ret
  isplitl [Hf]; · iexact Hf
  isplitl [Hg]; · iexact Hg
  iexact Ho
/-- The waits for one's own transfers, on a device that has made some. -/
theorem sent_block {α : Type} {k : Prog (TpuEff nD τ sig (Elt F) Λ₀ .tc) α} {Q : α → sProp 𝕄} :
    iprop(recs I PB κ ∗ onlyEv c iprop(fam away 1 (fun o => AWait c I PB 4 (sh c o)) (fun o => BWait c 4 (sh c o)) ∗ fam away 1 (fun o => AWait c I PB 5 (sh c o)) (fun o => BWait c 5 (sh c o))) ∗ ow c (owed c 16 16 1 1))
      ⊢ iprop(((onlyEv c iprop(fam away 16 (fun o => AWait c I PB 4 (sh c o)) (fun o => BWait c 4 (sh c o)) ∗ fam away 16 (fun o => AWait c I PB 5 (sh c o)) (fun o => BWait c 5 (sh c o))) ∗ ow c (owed c 16 16 1 1)) -∗ run c k Q)
        -∗ run c (dite (k0_cond26 c = 1#1) (fun hc => ((k0_part15 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part16 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part17 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part18 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part19 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part20 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part21 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => ((k0_part22 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c hc)).bind fun _ => k) (fun _ => k)) Q) := by
  by_cases he : ev c
  · have hc : k0_cond26 c = 1#1 := (f_cond26 c).mpr he
    simp only [dif_pos hc, onlyEv_pos he]
    iintro ⟨#Hr, ⟨Hf, Hg⟩, Ho⟩ Hk
    iapply (run_bind (part15 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part16 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part17 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part18 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part19 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part20 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part21 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply (run_bind (part22 (I := I) (PB := PB) (κ := κ) c hc)) $$ [Hf Hg Ho]
    · isplitr; · iexact Hr
      isplitl [Hf]; · iexact Hf
      isplitl [Hg]; · iexact Hg
      iexact Ho
    iintro %r ⟨Hf, Hg, Ho⟩
    iapply Hk
    isplitl [Hf Hg]
    · isplitl [Hf]; · iexact Hf
      iexact Hg
    iexact Ho
  · simp only [dif_neg (fun h => he ((f_cond26 c).mp h)), onlyEv_neg he]
    iintro ⟨#Hr, Hf, Ho⟩ Hk
    iapply Hk
    isplitl [Hf]; · iexact Hf
    iexact Ho

end Cert.SparseAttn

end
-- ==== Proof.RecvKV.lean ====
/-
The projections, and the wait for every slot of keys and values.
-/
module

public import proofs.«01_k».proof.Proof.SentKV

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

set_option maxHeartbeats 4000000 in
theorem part36 :
    iprop(recs I PB κ ∗ in1P c (I.wq c) ∗ in0P c (I.x c) ∗ fam Finset.univ 0 (AM c I) (BM c I) ∗ ow c (owed c 16 16 1 1))
      ⊢ run c (k0_part36 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 (wv c)) (fun r => iprop(⌜r.1 = k0_pay40 (I.wq c) (xBlk (I.x c) ![0, 0, 0] inb_S2x128x512_S1x128x512_0_0_0)
          ∧ r.2.1 = k0_pay41 (I.wq c) (xBlk (I.x c) ![1, 0, 0] inb_S2x128x512_S1x128x512_1_0_0)
          ∧ r.2.2.1 = Scalar.extui (Scalar.cmpi .ne (wv c) 4#32) ∧ r.2.2.2 = 0#32⌝
        ∗ in1P c (I.wq c) ∗ in0P c (I.x c) ∗ fam Finset.univ 2 (AM c I) (BM c I) ∗ ow c (owed c 16 16 1 1))) := by
  rw [k0_part36_eq_skeleton]
  unfold k0_part36_skel
  simp only [Prog.lift, Prog.bind_op, Prog.bind_ret, Prog.pure_eq_ret]
  iintro ⟨#Hr, H1, H0, Hm, Ho⟩
  iapply (ld_in1 c (I.wq c)) $$ [H1]
  · iexact H1
  iintro H1
  iapply (ld_x c (I.x c)) $$ [H0]
  · iexact H0
  iintro H0
  iapply (ld_x c (I.x c)) $$ [H0]
  · iexact H0
  iintro H0
  iapply (recv_block (I := I) (PB := PB) (κ := κ) c 0 (n := 0) (n' := 1) rfl rfl (recv_cond0 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply (recv_block (I := I) (PB := PB) (κ := κ) c 1 (n := 1) (n' := 2) rfl rfl (recv_cond1 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply run_ret
  isplitr; · ipureintro; exact ⟨rfl, rfl, rfl, rfl⟩
  isplitl [H1]; · iexact H1
  isplitl [H0]; · iexact H0
  isplitl [Hm]; · iexact Hm
  iexact Ho

set_option maxHeartbeats 4000000 in
theorem part37 (v443 c0 : BitVec 32) (h : v443 = Scalar.extui (Scalar.cmpi .ne (wv c) 4#32)) (h0 : c0 = 0#32) :
    iprop(recs I PB κ ∗ fam Finset.univ 2 (AM c I) (BM c I) ∗ ow c (owed c 16 16 1 1))
      ⊢ run c (k0_part37 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 (wv c) v443 c0) (fun r => iprop(⌜r = Scalar.cmpi .ne (wv c) 14#32⌝ ∗ fam Finset.univ 7 (AM c I) (BM c I) ∗ ow c (owed c 16 16 1 1))) := by
  subst h h0
  rw [k0_part37_eq_skeleton]
  unfold k0_part37_skel
  simp only [Prog.lift, Prog.bind_op, Prog.bind_ret, Prog.pure_eq_ret]
  iintro ⟨#Hr, Hm, Ho⟩
  iapply (recv_block (I := I) (PB := PB) (κ := κ) c 2 (n := 2) (n' := 3) rfl rfl (recv_cond2 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply (recv_block (I := I) (PB := PB) (κ := κ) c 3 (n := 3) (n' := 4) rfl rfl (recv_cond3 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply (recv_block (I := I) (PB := PB) (κ := κ) c 4 (n := 4) (n' := 5) rfl rfl (recv_cond4 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply (recv_block (I := I) (PB := PB) (κ := κ) c 5 (n := 5) (n' := 6) rfl rfl (recv_cond5 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply (recv_block (I := I) (PB := PB) (κ := κ) c 6 (n := 6) (n' := 7) rfl rfl (recv_cond6 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply run_ret
  isplitr; · ipureintro; rfl
  isplitl [Hm]; · iexact Hm
  iexact Ho

set_option maxHeartbeats 4000000 in
theorem part38 (v13 v457 : BitVec 1) (h : v457 = Scalar.cmpi .ne (wv c) 14#32) (v431 : FVec F S128x4x64 .f32) :
    iprop(recs I PB κ ∗ fam Finset.univ 7 (AM c I) (BM c I) ∗ onlyEv c iprop(fam away 1 (fun o => AWait c I PB 4 (sh c o)) (fun o => BWait c 4 (sh c o)) ∗ fam away 1 (fun o => AWait c I PB 5 (sh c o)) (fun o => BWait c 5 (sh c o))) ∗ ow c (owed c 16 16 1 1))
      ⊢ run c (k0_part38 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v13 v431 v457) (fun r => iprop(⌜r.1 = k0_pay42 v431 ∧ r.2 = k0_pay43 (kvBlk (RBK I.k c) ![0, 0, 0, 0, 0] inb_S8x2x128x4x64_S1x1x64x1x64_0_0_0_0_0)⌝
        ∗ rbkP c fullShare Finset.univ (RBK I.k c) ∗ rbvP c fullShare Finset.univ (RBK I.v c)
        ∗ bigSep Finset.univ (fun m : Fin 8 => iprop(semVal (xf c 0 (srcOf m)) 0 ∗ semVal (xf c 1 (srcOf m)) 0))
        ∗ onlyEv c iprop(fam away 16 (fun o => AWait c I PB 4 (sh c o)) (fun o => BWait c 4 (sh c o)) ∗ fam away 16 (fun o => AWait c I PB 5 (sh c o)) (fun o => BWait c 5 (sh c o))) ∗ ow c (owed c 16 16 1 1))) := by
  subst h
  rw [k0_part38_eq_skeleton]
  unfold k0_part38_skel
  simp only [Prog.lift, Prog.bind_op, Prog.bind_ret, Prog.pure_eq_ret]
  iintro ⟨#Hr, Hm, Hs, Ho⟩
  iapply (recv_block (I := I) (PB := PB) (κ := κ) c 7 (n := 7) (n' := 8) rfl rfl (recv_cond7 c) (sem8 _ _ _ rfl) (sem9 _ _ _ rfl) (nk_rbk _ _) (nk_rbv _ _)) $$ [Hm Ho]
  · isplitr; · iexact Hr
    isplitl [Hm]; · iexact Hm
    iexact Ho
  iintro ⟨Hm, Ho⟩
  iapply (sent_block (I := I) (PB := PB) (κ := κ) c) $$ [Hs Ho]
  · isplitr; · iexact Hr
    isplitl [Hs]; · iexact Hs
    iexact Ho
  iintro ⟨Hs, Ho⟩
  ihave Hm := (fam_end le_rfl) $$ Hm
  have hm : bigSep Finset.univ (AM c I) = iprop(rbkP c fullShare Finset.univ (RBK I.k c) ∗ rbvP c fullShare Finset.univ (RBK I.v c)
      ∗ bigSep Finset.univ (fun m : Fin 8 => iprop(semVal (xf c 0 (srcOf m)) 0 ∗ semVal (xf c 1 (srcOf m)) 0))) := by
    unfold AM
    rw [bigSep_sep', bigSep_sep', rows_rbk, rows_rbv]
  ihave Hm := (Entails.of_eq hm) $$ Hm
  icases Hm with ⟨Hk, Hv, Hz⟩
  iapply (ld_kv_rbk c (RBK I.k c)) $$ [Hk]
  · iexact Hk
  iintro Hk
  iapply run_ret
  isplitr; · ipureintro; exact ⟨rfl, rfl⟩
  isplitl [Hk]; · iexact Hk
  isplitl [Hv]; · iexact Hv
  isplitl [Hz]; · iexact Hz
  isplitl [Hs]; · iexact Hs
  iexact Ho

end Cert.SparseAttn

end
-- ==== Proof.Reduce.lean ====
/-
The exchange of the partial sums: the sends, the waits, and the sum.
-/
module

public import proofs.«01_k».proof.Proof.RecvKV

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

set_option maxHeartbeats 4000000 in
theorem part76 (v2 : BitVec 32) (v1318 : BitVec 32) (c16_i32_1783 : BitVec 32) (v1319 : BitVec 1) (c1_i32_1785 : BitVec 32) :
    iprop(recs I PB κ ∗ fam away 1 (AR c) (BR c PB) ∗ ow c (owed c 16 16 1 1))
      ⊢ run c (k0_part76 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1318 c16_i32_1783 v1319 c1_i32_1785) (fun _ => iprop(fam away 2 (AR c) (BR c PB) ∗ ow c (owed c 16 16 2 1))) := by
  rw [k0_part76_eq_skeleton]
  unfold k0_part76_skel
  simp only [Prog.lift, Prog.bind_op, Prog.bind_ret, Prog.pure_eq_ret]
  iintro ⟨#Hr, Hf, Ho⟩
  iapply (step_send_r (I := I) (PB := PB) (κ := κ) c 1 (by decide) (n := 1) (n' := 2) rfl rfl (dev_eq (f_dev46 c) _) (sem14 _ _ _ (f_off50_1 c)) (sem10 _ _ _ (f_off51 c)) (f_off53_1 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part77 (v2 : BitVec 32) :
    iprop(recs I PB κ ∗ fam away 2 (AR c) (BR c PB) ∗ ow c (owed c 16 16 2 1))
      ⊢ run c (k0_part77 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 4 (AR c) (BR c PB) ∗ ow c (owed c 16 16 4 1))) := by
  rw [k0_part77_eq_skeleton]
  unfold k0_part77_skel
  simp only [Prog.lift, Prog.bind_op, Prog.bind_ret, Prog.pure_eq_ret]
  iintro ⟨#Hr, Hf, Ho⟩
  iapply (step_send_r (I := I) (PB := PB) (κ := κ) c 2 (by decide) (n := 2) (n' := 3) rfl rfl (dev_eq (f_dev47 c) _) (sem14 _ _ _ (f_off50_2 c)) (sem10 _ _ _ (f_off51 c)) (f_off53_2 c) (f_off52 c)) $$ [Hf Ho]
  · isplitr; · iexact Hr
    isplitl [Hf]; · iexact Hf
    iexact Ho
  iintro ⟨Hf, Ho⟩
  iapply (step_send_r (I := I) (PB := PB) (κ := κ) c 3 (by decide) (n := 3) (n' := 4) rfl rfl (dev_eq (f_dev48 c) _) (sem14 _ _ _ (f_off50_3 c)) (sem10 _ _ _ (f_off51 c)) (f_off53_3 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part78 (v2 : BitVec 32) (v1391 : BitVec 32) (c1_i32_1829 : BitVec 32) :
    iprop(recs I PB κ ∗ fam away 4 (AR c) (BR c PB) ∗ ow c (owed c 16 16 4 1))
      ⊢ run c (k0_part78 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1391 c1_i32_1829) (fun _ => iprop(fam away 6 (AR c) (BR c PB) ∗ ow c (owed c 16 16 6 1))) := by
  rw [k0_part78_eq_skeleton]
  unfold k0_part78_skel
  simp only [Prog.lift, Prog.bind_op, Prog.bind_ret, Prog.pure_eq_ret]
  iintro ⟨#Hr, Hf, Ho⟩
  iapply (step_send_r (I := I) (PB := PB) (κ := κ) c 4 (by decide) (n := 4) (n' := 5) rfl rfl (dev_eq (f_dev49 c) _) (sem14 _ _ _ (f_off50_4 c)) (sem10 _ _ _ (f_off51 c)) (f_off53_4 c) (f_off52 c)) $$ [Hf Ho]
  · isplitr; · iexact Hr
    isplitl [Hf]; · iexact Hf
    iexact Ho
  iintro ⟨Hf, Ho⟩
  iapply (step_send_r (I := I) (PB := PB) (κ := κ) c 5 (by decide) (n := 5) (n' := 6) rfl rfl (dev_eq (f_dev50 c) _) (sem14 _ _ _ (f_off50_5 c)) (sem10 _ _ _ (f_off51 c)) (f_off53_5 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part79 (v2 : BitVec 32) (v1425 : BitVec 32) (v1426 : BitVec 32) (v1427 : BitVec 1) (c0_i32_1852 : BitVec 32) :
    iprop(recs I PB κ ∗ fam away 6 (AR c) (BR c PB) ∗ ow c (owed c 16 16 6 1))
      ⊢ run c (k0_part79 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1425 v1426 v1427 c0_i32_1852) (fun _ => iprop(fam away 8 (AR c) (BR c PB) ∗ ow c (owed c 16 16 8 1))) := by
  rw [k0_part79_eq_skeleton]
  unfold k0_part79_skel
  simp only [Prog.lift, Prog.bind_op, Prog.bind_ret, Prog.pure_eq_ret]
  iintro ⟨#Hr, Hf, Ho⟩
  iapply (step_send_r (I := I) (PB := PB) (κ := κ) c 6 (by decide) (n := 6) (n' := 7) rfl rfl (dev_eq (f_dev51 c) _) (sem14 _ _ _ (f_off50_6 c)) (sem10 _ _ _ (f_off51 c)) (f_off53_6 c) (f_off52 c)) $$ [Hf Ho]
  · isplitr; · iexact Hr
    isplitl [Hf]; · iexact Hf
    iexact Ho
  iintro ⟨Hf, Ho⟩
  iapply (step_send_r (I := I) (PB := PB) (κ := κ) c 7 (by decide) (n := 7) (n' := 8) rfl rfl (dev_eq (f_dev52 c) _) (sem14 _ _ _ (f_off50_7 c)) (sem10 _ _ _ (f_off51 c)) (f_off53_7 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part80 (v2 : BitVec 32) (c8_i32_1873 : BitVec 32) :
    iprop(recs I PB κ ∗ fam away 8 (AR c) (BR c PB) ∗ ow c (owed c 16 16 8 1))
      ⊢ run c (k0_part80 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 c8_i32_1873) (fun _ => iprop(fam away 9 (AR c) (BR c PB) ∗ ow c (owed c 16 16 9 1))) := by
  rw [k0_part80_eq_skeleton]
  unfold k0_part80_skel
  simp only [Prog.lift, Prog.bind_op, Prog.bind_ret, Prog.pure_eq_ret]
  iintro ⟨#Hr, Hf, Ho⟩
  iapply (step_send_r (I := I) (PB := PB) (κ := κ) c 8 (by decide) (n := 8) (n' := 9) rfl rfl (dev_eq (f_dev53 c) _) (sem14 _ _ _ (f_off50_8 c)) (sem10 _ _ _ (f_off51 c)) (f_off53_8 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part81 (v2 : BitVec 32) :
    iprop(recs I PB κ ∗ fam away 9 (AR c) (BR c PB) ∗ ow c (owed c 16 16 9 1))
      ⊢ run c (k0_part81 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 11 (AR c) (BR c PB) ∗ ow c (owed c 16 16 11 1))) := by
  rw [k0_part81_eq_skeleton]
  unfold k0_part81_skel
  simp only [Prog.lift, Prog.bind_op, Prog.bind_ret, Prog.pure_eq_ret]
  iintro ⟨#Hr, Hf, Ho⟩
  iapply (step_send_r (I := I) (PB := PB) (κ := κ) c 9 (by decide) (n := 9) (n' := 10) rfl rfl (dev_eq (f_dev54 c) _) (sem14 _ _ _ (f_off50_9 c)) (sem10 _ _ _ (f_off51 c)) (f_off53_9 c) (f_off52 c)) $$ [Hf Ho]
  · isplitr; · iexact Hr
    isplitl [Hf]; · iexact Hf
    iexact Ho
  iintro ⟨Hf, Ho⟩
  iapply (step_send_r (I := I) (PB := PB) (κ := κ) c 10 (by decide) (n := 10) (n' := 11) rfl rfl (dev_eq (f_dev55 c) _) (sem14 _ _ _ (f_off50_10 c)) (sem10 _ _ _ (f_off51 c)) (f_off53_10 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part82 (v2 : BitVec 32) (v1530 : BitVec 32) (v1531 : BitVec 32) (v1536 : BitVec 1) :
    iprop(recs I PB κ ∗ fam away 11 (AR c) (BR c PB) ∗ ow c (owed c 16 16 11 1))
      ⊢ run c (k0_part82 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1530 v1531 v1536) (fun _ => iprop(fam away 13 (AR c) (BR c PB) ∗ ow c (owed c 16 16 13 1))) := by
  rw [k0_part82_eq_skeleton]
  unfold k0_part82_skel
  simp only [Prog.lift, Prog.bind_op, Prog.bind_ret, Prog.pure_eq_ret]
  iintro ⟨#Hr, Hf, Ho⟩
  iapply (step_send_r (I := I) (PB := PB) (κ := κ) c 11 (by decide) (n := 11) (n' := 12) rfl rfl (dev_eq (f_dev56 c) _) (sem14 _ _ _ (f_off50_11 c)) (sem10 _ _ _ (f_off51 c)) (f_off53_11 c) (f_off52 c)) $$ [Hf Ho]
  · isplitr; · iexact Hr
    isplitl [Hf]; · iexact Hf
    iexact Ho
  iintro ⟨Hf, Ho⟩
  iapply (step_send_r (I := I) (PB := PB) (κ := κ) c 12 (by decide) (n := 12) (n' := 13) rfl rfl (dev_eq (f_dev57 c) _) (sem14 _ _ _ (f_off50_12 c)) (sem10 _ _ _ (f_off51 c)) (f_off53_12 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part83 (v2 : BitVec 32) (v1570 : BitVec 32) (c16_i32_1939 : BitVec 32) (v1571 : BitVec 1) (c1_i32_1941 : BitVec 32) :
    iprop(recs I PB κ ∗ fam away 13 (AR c) (BR c PB) ∗ ow c (owed c 16 16 13 1))
      ⊢ run c (k0_part83 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1570 c16_i32_1939 v1571 c1_i32_1941) (fun _ => iprop(fam away 14 (AR c) (BR c PB) ∗ ow c (owed c 16 16 14 1))) := by
  rw [k0_part83_eq_skeleton]
  unfold k0_part83_skel
  simp only [Prog.lift, Prog.bind_op, Prog.bind_ret, Prog.pure_eq_ret]
  iintro ⟨#Hr, Hf, Ho⟩
  iapply (step_send_r (I := I) (PB := PB) (κ := κ) c 13 (by decide) (n := 13) (n' := 14) rfl rfl (dev_eq (f_dev58 c) _) (sem14 _ _ _ (f_off50_13 c)) (sem10 _ _ _ (f_off51 c)) (f_off53_13 c) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part84 (v2 : BitVec 32) :
    iprop(recs I PB κ ∗ fam away 14 (AR c) (BR c PB) ∗ ow c (owed c 16 16 14 1) ∗ pbP c fullShare (rowsAt 16 c.val) (PB c) ∗ placeA c c)
      ⊢ run c (k0_part84 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 16 (AR c) (BR c PB) ∗ ow c (owed c 16 16 16 1) ∗ pbP c fullShare (rowsAt 16 c.val) (PB c) ∗ accP c fullShare (rowsAt 1 c.val) (ACC PB c))) := by
  rw [k0_part84_eq_skeleton]
  unfold k0_part84_skel
  simp only [Prog.lift, Prog.bind_op, Prog.bind_ret, Prog.pure_eq_ret]
  iintro ⟨#Hr, Hf, Ho, Hb, Ha⟩
  iapply (step_send_r (I := I) (PB := PB) (κ := κ) c 14 (by decide) (n := 14) (n' := 15) rfl rfl (dev_eq (f_dev59 c) _) (sem14 _ _ _ (f_off50_14 c)) (sem10 _ _ _ (f_off51 c)) (f_off53_14 c) (f_off52 c)) $$ [Hf Ho]
  · isplitr; · iexact Hr
    isplitl [Hf]; · iexact Hf
    iexact Ho
  iintro ⟨Hf, Ho⟩
  iapply (step_send_r (I := I) (PB := PB) (κ := κ) c 15 (by decide) (n := 15) (n' := 16) rfl rfl (dev_eq (f_dev60 c) _) (sem14 _ _ _ (f_off50_15 c)) (sem10 _ _ _ (f_off51 c)) (f_off53_15 c) (f_off52 c)) $$ [Hf Ho]
  · isplitr; · iexact Hr
    isplitl [Hf]; · iexact Hf
    iexact Ho
  iintro ⟨Hf, Ho⟩
  unfold placeA
  icases Ha with ⟨%f, Ha⟩
  iapply (step_load c (m := pbM) (r := Rect.unit (s := S256x512) (k0_off54 c) S16x512.size _) (S := rowsAt (d := S256x512.size) 16 c.val) (q := fullShare) (f := PB c) (by rw [acc_pb _ _ c.val (f_off54 c)]) rfl) $$ [Hb]
  · iexact Hb
  iintro Hb
  iapply (ld_slot_acc c c.val (f_off55 c) f) $$ [Ha]
  · iexact Ha
  iintro Ha
  iapply (st_slot_acc c c.val (f_off55 c) f (ACC PB c) (own_acc c (f_off55 c) (f_off54 c))) $$ [Ha]
  · iexact Ha
  iintro Ha
  iapply run_ret
  isplitl [Hf]; · iexact Hf
  isplitl [Ho]; · iexact Ho
  isplitl [Hb]; · iexact Hb
  iexact Ha

set_option maxHeartbeats 4000000 in
theorem part85 (v2 : BitVec 32) (v1643 : BitVec 32) (v1644 : BitVec 32) :
    iprop(recs I PB κ ∗ fam away 1 (fun o => AWait c I PB 2 (sh c o)) (fun o => BWait c 2 (sh c o)) ∗ ow c (owed c 16 16 16 1))
      ⊢ run c (k0_part85 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1643 v1644) (fun _ => iprop(fam away 3 (fun o => AWait c I PB 2 (sh c o)) (fun o => BWait c 2 (sh c o)) ∗ ow c (owed c 16 16 16 1))) := by
  rw [k0_part85_eq_skeleton]
  unfold k0_part85_skel
  simp only [Prog.lift, Prog.bind_op, Prog.bind_ret, Prog.pure_eq_ret]
  iintro ⟨#Hr, Hf, Ho⟩
  iapply (step_waits (I := I) (PB := PB) (κ := κ) c 2 1 (by decide) (m := 1) (m' := 2) rfl rfl (act_send c (by decide) (fun h => absurd h (by decide)) (by decide)) (sem10 _ _ _ (f_off50_1 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 2 (by decide) (m := 2) (m' := 3) rfl rfl (act_send c (by decide) (fun h => absurd h (by decide)) (by decide)) (sem10 _ _ _ (f_off50_2 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part86 (v2 : BitVec 32) (v1677 : BitVec 32) (c16_i32_2008 : BitVec 32) (c0_i32_2009 : BitVec 32) :
    iprop(recs I PB κ ∗ fam away 3 (fun o => AWait c I PB 2 (sh c o)) (fun o => BWait c 2 (sh c o)) ∗ ow c (owed c 16 16 16 1))
      ⊢ run c (k0_part86 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1677 c16_i32_2008 c0_i32_2009) (fun _ => iprop(fam away 5 (fun o => AWait c I PB 2 (sh c o)) (fun o => BWait c 2 (sh c o)) ∗ ow c (owed c 16 16 16 1))) := by
  rw [k0_part86_eq_skeleton]
  unfold k0_part86_skel
  simp only [Prog.lift, Prog.bind_op, Prog.bind_ret, Prog.pure_eq_ret]
  iintro ⟨#Hr, Hf, Ho⟩
  iapply (step_waits (I := I) (PB := PB) (κ := κ) c 2 3 (by decide) (m := 3) (m' := 4) rfl rfl (act_send c (by decide) (fun h => absurd h (by decide)) (by decide)) (sem10 _ _ _ (f_off50_3 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 4 (by decide) (m := 4) (m' := 5) rfl rfl (act_send c (by decide) (fun h => absurd h (by decide)) (by decide)) (sem10 _ _ _ (f_off50_4 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part87 (v2 : BitVec 32) :
    iprop(recs I PB κ ∗ fam away 5 (fun o => AWait c I PB 2 (sh c o)) (fun o => BWait c 2 (sh c o)) ∗ ow c (owed c 16 16 16 1))
      ⊢ run c (k0_part87 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 6 (fun o => AWait c I PB 2 (sh c o)) (fun o => BWait c 2 (sh c o)) ∗ ow c (owed c 16 16 16 1))) := by
  rw [k0_part87_eq_skeleton]
  unfold k0_part87_skel
  simp only [Prog.lift, Prog.bind_op, Prog.bind_ret, Prog.pure_eq_ret]
  iintro ⟨#Hr, Hf, Ho⟩
  iapply (step_waits (I := I) (PB := PB) (κ := κ) c 2 5 (by decide) (m := 5) (m' := 6) rfl rfl (act_send c (by decide) (fun h => absurd h (by decide)) (by decide)) (sem10 _ _ _ (f_off50_5 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part88 (v2 : BitVec 32) :
    iprop(recs I PB κ ∗ fam away 6 (fun o => AWait c I PB 2 (sh c o)) (fun o => BWait c 2 (sh c o)) ∗ ow c (owed c 16 16 16 1))
      ⊢ run c (k0_part88 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 8 (fun o => AWait c I PB 2 (sh c o)) (fun o => BWait c 2 (sh c o)) ∗ ow c (owed c 16 16 16 1))) := by
  rw [k0_part88_eq_skeleton]
  unfold k0_part88_skel
  simp only [Prog.lift, Prog.bind_op, Prog.bind_ret, Prog.pure_eq_ret]
  iintro ⟨#Hr, Hf, Ho⟩
  iapply (step_waits (I := I) (PB := PB) (κ := κ) c 2 6 (by decide) (m := 6) (m' := 7) rfl rfl (act_send c (by decide) (fun h => absurd h (by decide)) (by decide)) (sem10 _ _ _ (f_off50_6 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 7 (by decide) (m := 7) (m' := 8) rfl rfl (act_send c (by decide) (fun h => absurd h (by decide)) (by decide)) (sem10 _ _ _ (f_off50_7 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part89 (v2 : BitVec 32) :
    iprop(recs I PB κ ∗ fam away 8 (fun o => AWait c I PB 2 (sh c o)) (fun o => BWait c 2 (sh c o)) ∗ ow c (owed c 16 16 16 1))
      ⊢ run c (k0_part89 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 10 (fun o => AWait c I PB 2 (sh c o)) (fun o => BWait c 2 (sh c o)) ∗ ow c (owed c 16 16 16 1))) := by
  rw [k0_part89_eq_skeleton]
  unfold k0_part89_skel
  simp only [Prog.lift, Prog.bind_op, Prog.bind_ret, Prog.pure_eq_ret]
  iintro ⟨#Hr, Hf, Ho⟩
  iapply (step_waits (I := I) (PB := PB) (κ := κ) c 2 8 (by decide) (m := 8) (m' := 9) rfl rfl (act_send c (by decide) (fun h => absurd h (by decide)) (by decide)) (sem10 _ _ _ (f_off50_8 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 9 (by decide) (m := 9) (m' := 10) rfl rfl (act_send c (by decide) (fun h => absurd h (by decide)) (by decide)) (sem10 _ _ _ (f_off50_9 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part90 (v2 : BitVec 32) (v1814 : BitVec 32) :
    iprop(recs I PB κ ∗ fam away 10 (fun o => AWait c I PB 2 (sh c o)) (fun o => BWait c 2 (sh c o)) ∗ ow c (owed c 16 16 16 1))
      ⊢ run c (k0_part90 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1814) (fun _ => iprop(fam away 12 (fun o => AWait c I PB 2 (sh c o)) (fun o => BWait c 2 (sh c o)) ∗ ow c (owed c 16 16 16 1))) := by
  rw [k0_part90_eq_skeleton]
  unfold k0_part90_skel
  simp only [Prog.lift, Prog.bind_op, Prog.bind_ret, Prog.pure_eq_ret]
  iintro ⟨#Hr, Hf, Ho⟩
  iapply (step_waits (I := I) (PB := PB) (κ := κ) c 2 10 (by decide) (m := 10) (m' := 11) rfl rfl (act_send c (by decide) (fun h => absurd h (by decide)) (by decide)) (sem10 _ _ _ (f_off50_10 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 11 (by decide) (m := 11) (m' := 12) rfl rfl (act_send c (by decide) (fun h => absurd h (by decide)) (by decide)) (sem10 _ _ _ (f_off50_11 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part91 (v2 : BitVec 32) (v1841 : BitVec 32) (v1842 : BitVec 32) (v1847 : BitVec 1) :
    iprop(recs I PB κ ∗ fam away 12 (fun o => AWait c I PB 2 (sh c o)) (fun o => BWait c 2 (sh c o)) ∗ ow c (owed c 16 16 16 1))
      ⊢ run c (k0_part91 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1841 v1842 v1847) (fun _ => iprop(fam away 14 (fun o => AWait c I PB 2 (sh c o)) (fun o => BWait c 2 (sh c o)) ∗ ow c (owed c 16 16 16 1))) := by
  rw [k0_part91_eq_skeleton]
  unfold k0_part91_skel
  simp only [Prog.lift, Prog.bind_op, Prog.bind_ret, Prog.pure_eq_ret]
  iintro ⟨#Hr, Hf, Ho⟩
  iapply (step_waits (I := I) (PB := PB) (κ := κ) c 2 12 (by decide) (m := 12) (m' := 13) rfl rfl (act_send c (by decide) (fun h => absurd h (by decide)) (by decide)) (sem10 _ _ _ (f_off50_12 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 13 (by decide) (m := 13) (m' := 14) rfl rfl (act_send c (by decide) (fun h => absurd h (by decide)) (by decide)) (sem10 _ _ _ (f_off50_13 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part92 (v2 : BitVec 32) (v1877 : BitVec 32) (v1878 : BitVec 32) (v1879 : BitVec 1) (v1880 : BitVec 1) :
    iprop(recs I PB κ ∗ fam away 14 (fun o => AWait c I PB 2 (sh c o)) (fun o => BWait c 2 (sh c o)) ∗ ow c (owed c 16 16 16 1))
      ⊢ run c (k0_part92 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1877 v1878 v1879 v1880) (fun _ => iprop(fam away 16 (fun o => AWait c I PB 2 (sh c o)) (fun o => BWait c 2 (sh c o)) ∗ ow c (owed c 16 16 16 1))) := by
  rw [k0_part92_eq_skeleton]
  unfold k0_part92_skel
  simp only [Prog.lift, Prog.bind_op, Prog.bind_ret, Prog.pure_eq_ret]
  iintro ⟨#Hr, Hf, Ho⟩
  iapply (step_waits (I := I) (PB := PB) (κ := κ) c 2 14 (by decide) (m := 14) (m' := 15) rfl rfl (act_send c (by decide) (fun h => absurd h (by decide)) (by decide)) (sem10 _ _ _ (f_off50_14 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply (step_waits (I := I) (PB := PB) (κ := κ) c 2 15 (by decide) (m := 15) (m' := 16) rfl rfl (act_send c (by decide) (fun h => absurd h (by decide)) (by decide)) (sem10 _ _ _ (f_off50_15 c)) (nc_acc _ _) 3 le_rfl (fun _ => le_rfl) (fun _ => le_rfl) (fun _ => le_rfl) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part93  :
    iprop(recs I PB κ ∗ fam away 1 (fun o => AWait c I PB 6 (sh c o)) (fun o => BWait c 6 (sh c o)) ∗ ow c (owed c 16 16 16 1))
      ⊢ run c (k0_part93 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c) (fun _ => iprop(fam away 7 (fun o => AWait c I PB 6 (sh c o)) (fun o => BWait c 6 (sh c o)) ∗ ow c (owed c 16 16 16 1))) := by
  rw [k0_part93_eq_skeleton]
  unfold k0_part93_skel
  simp only [Prog.lift, Prog.bind_op, Prog.bind_ret, Prog.pure_eq_ret]
  iintro ⟨#Hr, Hf, Ho⟩
  iapply (step_waits (I := I) (PB := PB) (κ := κ) c 6 1 (by decide) (m := 1) (m' := 2) rfl rfl (act_send c (by decide) (fun h => absurd h (by decide)) (by decide)) (sem14 _ _ _ (f_off50_1 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 2 (by decide) (m := 2) (m' := 3) rfl rfl (act_send c (by decide) (fun h => absurd h (by decide)) (by decide)) (sem14 _ _ _ (f_off50_2 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 3 (by decide) (m := 3) (m' := 4) rfl rfl (act_send c (by decide) (fun h => absurd h (by decide)) (by decide)) (sem14 _ _ _ (f_off50_3 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 4 (by decide) (m := 4) (m' := 5) rfl rfl (act_send c (by decide) (fun h => absurd h (by decide)) (by decide)) (sem14 _ _ _ (f_off50_4 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 5 (by decide) (m := 5) (m' := 6) rfl rfl (act_send c (by decide) (fun h => absurd h (by decide)) (by decide)) (sem14 _ _ _ (f_off50_5 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 6 (by decide) (m := 6) (m' := 7) rfl rfl (act_send c (by decide) (fun h => absurd h (by decide)) (by decide)) (sem14 _ _ _ (f_off50_6 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part94  :
    iprop(recs I PB κ ∗ fam away 7 (fun o => AWait c I PB 6 (sh c o)) (fun o => BWait c 6 (sh c o)) ∗ ow c (owed c 16 16 16 1))
      ⊢ run c (k0_part94 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c) (fun _ => iprop(fam away 13 (fun o => AWait c I PB 6 (sh c o)) (fun o => BWait c 6 (sh c o)) ∗ ow c (owed c 16 16 16 1))) := by
  rw [k0_part94_eq_skeleton]
  unfold k0_part94_skel
  simp only [Prog.lift, Prog.bind_op, Prog.bind_ret, Prog.pure_eq_ret]
  iintro ⟨#Hr, Hf, Ho⟩
  iapply (step_waits (I := I) (PB := PB) (κ := κ) c 6 7 (by decide) (m := 7) (m' := 8) rfl rfl (act_send c (by decide) (fun h => absurd h (by decide)) (by decide)) (sem14 _ _ _ (f_off50_7 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 8 (by decide) (m := 8) (m' := 9) rfl rfl (act_send c (by decide) (fun h => absurd h (by decide)) (by decide)) (sem14 _ _ _ (f_off50_8 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 9 (by decide) (m := 9) (m' := 10) rfl rfl (act_send c (by decide) (fun h => absurd h (by decide)) (by decide)) (sem14 _ _ _ (f_off50_9 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 10 (by decide) (m := 10) (m' := 11) rfl rfl (act_send c (by decide) (fun h => absurd h (by decide)) (by decide)) (sem14 _ _ _ (f_off50_10 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 11 (by decide) (m := 11) (m' := 12) rfl rfl (act_send c (by decide) (fun h => absurd h (by decide)) (by decide)) (sem14 _ _ _ (f_off50_11 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 12 (by decide) (m := 12) (m' := 13) rfl rfl (act_send c (by decide) (fun h => absurd h (by decide)) (by decide)) (sem14 _ _ _ (f_off50_12 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part95 (v2 : BitVec 32) :
    iprop(recs I PB κ ∗ fam away 13 (fun o => AWait c I PB 6 (sh c o)) (fun o => BWait c 6 (sh c o)) ∗ ow c (owed c 16 16 16 1) ∗ accP c fullShare Finset.univ (ACC PB c) ∗ (∃ f : Vec F S16x512 .bf16, redP c fullShare Finset.univ f))
      ⊢ run c (k0_part95 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 16 (fun o => AWait c I PB 6 (sh c o)) (fun o => BWait c 6 (sh c o)) ∗ ow c (owed c 16 16 16 1) ∗ accP c fullShare Finset.univ (ACC PB c) ∗ redP c fullShare Finset.univ (RED PB c))) := by
  rw [k0_part95_eq_skeleton]
  unfold k0_part95_skel
  simp only [Prog.lift, Prog.bind_op, Prog.bind_ret, Prog.pure_eq_ret]
  iintro ⟨#Hr, Hf, Ho, Ha, Hd⟩
  iapply (step_waits (I := I) (PB := PB) (κ := κ) c 6 13 (by decide) (m := 13) (m' := 14) rfl rfl (act_send c (by decide) (fun h => absurd h (by decide)) (by decide)) (sem14 _ _ _ (f_off50_13 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 14 (by decide) (m := 14) (m' := 15) rfl rfl (act_send c (by decide) (fun h => absurd h (by decide)) (by decide)) (sem14 _ _ _ (f_off50_14 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  iapply (step_waits (I := I) (PB := PB) (κ := κ) c 6 15 (by decide) (m := 15) (m' := 16) rfl rfl (act_send c (by decide) (fun h => absurd h (by decide)) (by decide)) (sem14 _ _ _ (f_off50_15 c)) (nc_pb _ _) 0 le_rfl (fun h => absurd h (by decide)) (fun h => absurd h (by decide)) (fun h => absurd h (by decide)) (fun h => absurd h (by decide))) $$ [Hf Ho]
  · isplitr; · iexact Hr
    isplitl [Hf]; · iexact Hf
    iexact Ho
  iintro ⟨Hf, Ho⟩
  icases Hd with ⟨%f, Hd⟩
  iapply (ld_acc c (ACC PB c)) $$ [Ha]
  · iexact Ha
  iintro Ha
  iapply (ld_red c f fullShare) $$ [Hd]
  · iexact Hd
  iintro Hd
  iapply (st_red c f (RED PB c) rfl) $$ [Hd]
  · iexact Hd
  iintro Hd
  iapply run_ret
  isplitl [Hf]; · iexact Hf
  isplitl [Ho]; · iexact Ho
  isplitl [Ha]; · iexact Ha
  iexact Hd

end Cert.SparseAttn

end
-- ==== Proof.Gather.lean ====
/-
The exchange of the sums: the sends and the waits.
-/
module

public import proofs.«01_k».proof.Proof.Reduce

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {I : Inputs F} {PB : Dev nD → Vec F S256x512 .bf16} {κ : Dev nD × K → ℕ} (c : Dev nD)

set_option maxHeartbeats 4000000 in
theorem part96 (v2 : BitVec 32) :
    iprop(recs I PB κ ∗ fam away 1 (AG c) (BG c PB) ∗ ow c (owed c 16 16 16 1))
      ⊢ run c (k0_part96 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 3 (AG c) (BG c PB) ∗ ow c (owed c 16 16 16 3))) := by
  rw [k0_part96_eq_skeleton]
  unfold k0_part96_skel
  simp only [Prog.lift, Prog.bind_op, Prog.bind_ret, Prog.pure_eq_ret]
  iintro ⟨#Hr, Hf, Ho⟩
  iapply (step_send_g (I := I) (PB := PB) (κ := κ) c 1 (by decide) (n := 1) (n' := 2) rfl rfl (dev_eq (f_dev61 c) _) (sem15 _ _ _ (f_off50_1 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 2 (by decide) (n := 2) (n' := 3) rfl rfl (dev_eq (f_dev62 c) _) (sem15 _ _ _ (f_off50_2 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part97 (v2 : BitVec 32) :
    iprop(recs I PB κ ∗ fam away 3 (AG c) (BG c PB) ∗ ow c (owed c 16 16 16 3))
      ⊢ run c (k0_part97 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 5 (AG c) (BG c PB) ∗ ow c (owed c 16 16 16 5))) := by
  rw [k0_part97_eq_skeleton]
  unfold k0_part97_skel
  simp only [Prog.lift, Prog.bind_op, Prog.bind_ret, Prog.pure_eq_ret]
  iintro ⟨#Hr, Hf, Ho⟩
  iapply (step_send_g (I := I) (PB := PB) (κ := κ) c 3 (by decide) (n := 3) (n' := 4) rfl rfl (dev_eq (f_dev63 c) _) (sem15 _ _ _ (f_off50_3 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 4 (by decide) (n := 4) (n' := 5) rfl rfl (dev_eq (f_dev64 c) _) (sem15 _ _ _ (f_off50_4 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part98 (v2 : BitVec 32) (v2080 : BitVec 32) :
    iprop(recs I PB κ ∗ fam away 5 (AG c) (BG c PB) ∗ ow c (owed c 16 16 16 5))
      ⊢ run c (k0_part98 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2080) (fun _ => iprop(fam away 7 (AG c) (BG c PB) ∗ ow c (owed c 16 16 16 7))) := by
  rw [k0_part98_eq_skeleton]
  unfold k0_part98_skel
  simp only [Prog.lift, Prog.bind_op, Prog.bind_ret, Prog.pure_eq_ret]
  iintro ⟨#Hr, Hf, Ho⟩
  iapply (step_send_g (I := I) (PB := PB) (κ := κ) c 5 (by decide) (n := 5) (n' := 6) rfl rfl (dev_eq (f_dev65 c) _) (sem15 _ _ _ (f_off50_5 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 6 (by decide) (n := 6) (n' := 7) rfl rfl (dev_eq (f_dev66 c) _) (sem15 _ _ _ (f_off50_6 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part99 (v2 : BitVec 32) (v2117 : BitVec 32) :
    iprop(recs I PB κ ∗ fam away 7 (AG c) (BG c PB) ∗ ow c (owed c 16 16 16 7))
      ⊢ run c (k0_part99 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2117) (fun _ => iprop(fam away 9 (AG c) (BG c PB) ∗ ow c (owed c 16 16 16 9))) := by
  rw [k0_part99_eq_skeleton]
  unfold k0_part99_skel
  simp only [Prog.lift, Prog.bind_op, Prog.bind_ret, Prog.pure_eq_ret]
  iintro ⟨#Hr, Hf, Ho⟩
  iapply (step_send_g (I := I) (PB := PB) (κ := κ) c 7 (by decide) (n := 7) (n' := 8) rfl rfl (dev_eq (f_dev67 c) _) (sem15 _ _ _ (f_off50_7 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 8 (by decide) (n := 8) (n' := 9) rfl rfl (dev_eq (f_dev68 c) _) (sem15 _ _ _ (f_off50_8 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part100 (v2 : BitVec 32) (v2147 : BitVec 32) (v2148 : BitVec 32) (v2153 : BitVec 1) :
    iprop(recs I PB κ ∗ fam away 9 (AG c) (BG c PB) ∗ ow c (owed c 16 16 16 9))
      ⊢ run c (k0_part100 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2147 v2148 v2153) (fun _ => iprop(fam away 11 (AG c) (BG c PB) ∗ ow c (owed c 16 16 16 11))) := by
  rw [k0_part100_eq_skeleton]
  unfold k0_part100_skel
  simp only [Prog.lift, Prog.bind_op, Prog.bind_ret, Prog.pure_eq_ret]
  iintro ⟨#Hr, Hf, Ho⟩
  iapply (step_send_g (I := I) (PB := PB) (κ := κ) c 9 (by decide) (n := 9) (n' := 10) rfl rfl (dev_eq (f_dev69 c) _) (sem15 _ _ _ (f_off50_9 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 10 (by decide) (n := 10) (n' := 11) rfl rfl (dev_eq (f_dev70 c) _) (sem15 _ _ _ (f_off50_10 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part101 (v2 : BitVec 32) (v2185 : BitVec 32) (v2186 : BitVec 32) (v2187 : BitVec 1) (v2188 : BitVec 1) (v2189 : BitVec 1) :
    iprop(recs I PB κ ∗ fam away 11 (AG c) (BG c PB) ∗ ow c (owed c 16 16 16 11))
      ⊢ run c (k0_part101 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2185 v2186 v2187 v2188 v2189) (fun _ => iprop(fam away 13 (AG c) (BG c PB) ∗ ow c (owed c 16 16 16 13))) := by
  rw [k0_part101_eq_skeleton]
  unfold k0_part101_skel
  simp only [Prog.lift, Prog.bind_op, Prog.bind_ret, Prog.pure_eq_ret]
  iintro ⟨#Hr, Hf, Ho⟩
  iapply (step_send_g (I := I) (PB := PB) (κ := κ) c 11 (by decide) (n := 11) (n' := 12) rfl rfl (dev_eq (f_dev71 c) _) (sem15 _ _ _ (f_off50_11 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 12 (by decide) (n := 12) (n' := 13) rfl rfl (dev_eq (f_dev72 c) _) (sem15 _ _ _ (f_off50_12 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part102 (v2 : BitVec 32) (v2223 : BitVec 32) (v2224 : BitVec 32) (v2225 : BitVec 1) (v2226 : BitVec 1) :
    iprop(recs I PB κ ∗ fam away 13 (AG c) (BG c PB) ∗ ow c (owed c 16 16 16 13))
      ⊢ run c (k0_part102 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2223 v2224 v2225 v2226) (fun _ => iprop(fam away 15 (AG c) (BG c PB) ∗ ow c (owed c 16 16 16 15))) := by
  rw [k0_part102_eq_skeleton]
  unfold k0_part102_skel
  simp only [Prog.lift, Prog.bind_op, Prog.bind_ret, Prog.pure_eq_ret]
  iintro ⟨#Hr, Hf, Ho⟩
  iapply (step_send_g (I := I) (PB := PB) (κ := κ) c 13 (by decide) (n := 13) (n' := 14) rfl rfl (dev_eq (f_dev73 c) _) (sem15 _ _ _ (f_off50_13 c)) (sem11 _ _ _ (f_off51 c)) (f_off52 c)) $$ [Hf Ho]
  · isplitr; · iexact Hr
    isplitl [Hf]; · iexact Hf
    iexact Ho
  iintro ⟨Hf, Ho⟩
  iapply (step_send_g (I := I) (PB := PB) (κ := κ) c 14 (by decide) (n := 14) (n' := 15) rfl rfl (dev_eq (f_dev74 c) _) (sem15 _ _ _ (f_off50_14 c)) (sem11 _ _ _ (f_off51 c)) (f_off52 c)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part103 (v2 : BitVec 32) (v2261 : BitVec 32) (v2262 : BitVec 32) (v2263 : BitVec 1) :
    iprop(recs I PB κ ∗ fam away 15 (AG c) (BG c PB) ∗ ow c (owed c 16 16 16 15) ∗ redP c (Transfers.shareDrop fullShare 16) Finset.univ (RED PB c) ∗ placeG c c)
      ⊢ run c (k0_part103 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2261 v2262 v2263) (fun _ => iprop(fam away 16 (AG c) (BG c PB) ∗ ow c (owed c 16 16 16 16) ∗ redP c (Transfers.shareDrop fullShare 16) Finset.univ (RED PB c) ∗ gathP c fullShare (rowsAt 1 c.val) (GATH PB))) := by
  rw [k0_part103_eq_skeleton]
  unfold k0_part103_skel
  simp only [Prog.lift, Prog.bind_op, Prog.bind_ret, Prog.pure_eq_ret]
  iintro ⟨#Hr, Hf, Ho, Hd, Ha⟩
  iapply (step_send_g (I := I) (PB := PB) (κ := κ) c 15 (by decide) (n := 15) (n' := 16) rfl rfl (dev_eq (f_dev75 c) _) (sem15 _ _ _ (f_off50_15 c)) (sem11 _ _ _ (f_off51 c)) (f_off52 c)) $$ [Hf Ho]
  · isplitr; · iexact Hr
    isplitl [Hf]; · iexact Hf
    iexact Ho
  iintro ⟨Hf, Ho⟩
  unfold placeG
  icases Ha with ⟨%f, Ha⟩
  iapply (ld_red c (RED PB c) (Transfers.shareDrop fullShare 16)) $$ [Hd]
  · iexact Hd
  iintro Hd
  iapply (ld_slot_gath c c.val (f_off55 c) f) $$ [Ha]
  · iexact Ha
  iintro Ha
  iapply (st_slot_gath c c.val (f_off55 c) f (GATH PB) (own_gath c PB (f_off55 c))) $$ [Ha]
  · iexact Ha
  iintro Ha
  iapply run_ret
  isplitl [Hf]; · iexact Hf
  isplitl [Ho]; · iexact Ho
  isplitl [Hd]; · iexact Hd
  iexact Ha

set_option maxHeartbeats 4000000 in
theorem part104 (v2 : BitVec 32) :
    iprop(recs I PB κ ∗ fam away 1 (fun o => AWait c I PB 3 (sh c o)) (fun o => BWait c 3 (sh c o)) ∗ ow c (owed c 16 16 16 16))
      ⊢ run c (k0_part104 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2) (fun _ => iprop(fam away 4 (fun o => AWait c I PB 3 (sh c o)) (fun o => BWait c 3 (sh c o)) ∗ ow c (owed c 16 16 16 16))) := by
  rw [k0_part104_eq_skeleton]
  unfold k0_part104_skel
  simp only [Prog.lift, Prog.bind_op, Prog.bind_ret, Prog.pure_eq_ret]
  iintro ⟨#Hr, Hf, Ho⟩
  iapply (step_waits (I := I) (PB := PB) (κ := κ) c 3 1 (by decide) (m := 1) (m' := 2) rfl rfl (act_send c (by decide) (fun h => absurd h (by decide)) (by decide)) (sem11 _ _ _ (f_off50_1 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 2 (by decide) (m := 2) (m' := 3) rfl rfl (act_send c (by decide) (fun h => absurd h (by decide)) (by decide)) (sem11 _ _ _ (f_off50_2 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 3 (by decide) (m := 3) (m' := 4) rfl rfl (act_send c (by decide) (fun h => absurd h (by decide)) (by decide)) (sem11 _ _ _ (f_off50_3 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part105 (v2 : BitVec 32) (c4_i32_2444 : BitVec 32) :
    iprop(recs I PB κ ∗ fam away 4 (fun o => AWait c I PB 3 (sh c o)) (fun o => BWait c 3 (sh c o)) ∗ ow c (owed c 16 16 16 16))
      ⊢ run c (k0_part105 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 c4_i32_2444) (fun _ => iprop(fam away 6 (fun o => AWait c I PB 3 (sh c o)) (fun o => BWait c 3 (sh c o)) ∗ ow c (owed c 16 16 16 16))) := by
  rw [k0_part105_eq_skeleton]
  unfold k0_part105_skel
  simp only [Prog.lift, Prog.bind_op, Prog.bind_ret, Prog.pure_eq_ret]
  iintro ⟨#Hr, Hf, Ho⟩
  iapply (step_waits (I := I) (PB := PB) (κ := κ) c 3 4 (by decide) (m := 4) (m' := 5) rfl rfl (act_send c (by decide) (fun h => absurd h (by decide)) (by decide)) (sem11 _ _ _ (f_off50_4 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 5 (by decide) (m := 5) (m' := 6) rfl rfl (act_send c (by decide) (fun h => absurd h (by decide)) (by decide)) (sem11 _ _ _ (f_off50_5 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part106 (v2 : BitVec 32) (v2369 : BitVec 32) (c16_i32_2467 : BitVec 32) :
    iprop(recs I PB κ ∗ fam away 6 (fun o => AWait c I PB 3 (sh c o)) (fun o => BWait c 3 (sh c o)) ∗ ow c (owed c 16 16 16 16))
      ⊢ run c (k0_part106 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2369 c16_i32_2467) (fun _ => iprop(fam away 8 (fun o => AWait c I PB 3 (sh c o)) (fun o => BWait c 3 (sh c o)) ∗ ow c (owed c 16 16 16 16))) := by
  rw [k0_part106_eq_skeleton]
  unfold k0_part106_skel
  simp only [Prog.lift, Prog.bind_op, Prog.bind_ret, Prog.pure_eq_ret]
  iintro ⟨#Hr, Hf, Ho⟩
  iapply (step_waits (I := I) (PB := PB) (κ := κ) c 3 6 (by decide) (m := 6) (m' := 7) rfl rfl (act_send c (by decide) (fun h => absurd h (by decide)) (by decide)) (sem11 _ _ _ (f_off50_6 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 7 (by decide) (m := 7) (m' := 8) rfl rfl (act_send c (by decide) (fun h => absurd h (by decide)) (by decide)) (sem11 _ _ _ (f_off50_7 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part107 (v2 : BitVec 32) (v2403 : BitVec 32) (c16_i32_2489 : BitVec 32) (v2404 : BitVec 1) :
    iprop(recs I PB κ ∗ fam away 8 (fun o => AWait c I PB 3 (sh c o)) (fun o => BWait c 3 (sh c o)) ∗ ow c (owed c 16 16 16 16))
      ⊢ run c (k0_part107 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2403 c16_i32_2489 v2404) (fun _ => iprop(fam away 10 (fun o => AWait c I PB 3 (sh c o)) (fun o => BWait c 3 (sh c o)) ∗ ow c (owed c 16 16 16 16))) := by
  rw [k0_part107_eq_skeleton]
  unfold k0_part107_skel
  simp only [Prog.lift, Prog.bind_op, Prog.bind_ret, Prog.pure_eq_ret]
  iintro ⟨#Hr, Hf, Ho⟩
  iapply (step_waits (I := I) (PB := PB) (κ := κ) c 3 8 (by decide) (m := 8) (m' := 9) rfl rfl (act_send c (by decide) (fun h => absurd h (by decide)) (by decide)) (sem11 _ _ _ (f_off50_8 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 9 (by decide) (m := 9) (m' := 10) rfl rfl (act_send c (by decide) (fun h => absurd h (by decide)) (by decide)) (sem11 _ _ _ (f_off50_9 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part108 (v2 : BitVec 32) (v2437 : BitVec 32) (v2439 : BitVec 32) :
    iprop(recs I PB κ ∗ fam away 10 (fun o => AWait c I PB 3 (sh c o)) (fun o => BWait c 3 (sh c o)) ∗ ow c (owed c 16 16 16 16))
      ⊢ run c (k0_part108 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2437 v2439) (fun _ => iprop(fam away 12 (fun o => AWait c I PB 3 (sh c o)) (fun o => BWait c 3 (sh c o)) ∗ ow c (owed c 16 16 16 16))) := by
  rw [k0_part108_eq_skeleton]
  unfold k0_part108_skel
  simp only [Prog.lift, Prog.bind_op, Prog.bind_ret, Prog.pure_eq_ret]
  iintro ⟨#Hr, Hf, Ho⟩
  iapply (step_waits (I := I) (PB := PB) (κ := κ) c 3 10 (by decide) (m := 10) (m' := 11) rfl rfl (act_send c (by decide) (fun h => absurd h (by decide)) (by decide)) (sem11 _ _ _ (f_off50_10 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 11 (by decide) (m := 11) (m' := 12) rfl rfl (act_send c (by decide) (fun h => absurd h (by decide)) (by decide)) (sem11 _ _ _ (f_off50_11 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part109 (v2 : BitVec 32) (v2473 : BitVec 32) (v2474 : BitVec 32) (c0_i32_2536 : BitVec 32) :
    iprop(recs I PB κ ∗ fam away 12 (fun o => AWait c I PB 3 (sh c o)) (fun o => BWait c 3 (sh c o)) ∗ ow c (owed c 16 16 16 16))
      ⊢ run c (k0_part109 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2473 v2474 c0_i32_2536) (fun _ => iprop(fam away 14 (fun o => AWait c I PB 3 (sh c o)) (fun o => BWait c 3 (sh c o)) ∗ ow c (owed c 16 16 16 16))) := by
  rw [k0_part109_eq_skeleton]
  unfold k0_part109_skel
  simp only [Prog.lift, Prog.bind_op, Prog.bind_ret, Prog.pure_eq_ret]
  iintro ⟨#Hr, Hf, Ho⟩
  iapply (step_waits (I := I) (PB := PB) (κ := κ) c 3 12 (by decide) (m := 12) (m' := 13) rfl rfl (act_send c (by decide) (fun h => absurd h (by decide)) (by decide)) (sem11 _ _ _ (f_off50_12 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 13 (by decide) (m := 13) (m' := 14) rfl rfl (act_send c (by decide) (fun h => absurd h (by decide)) (by decide)) (sem11 _ _ _ (f_off50_13 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply run_ret
  isplitl [Hf]; · iexact Hf
  iexact Ho

set_option maxHeartbeats 4000000 in
theorem part110 (v2 : BitVec 32) (v2507 : BitVec 32) (v2508 : BitVec 32) (v2509 : BitVec 1) (c0_i32_2559 : BitVec 32) :
    iprop(recs I PB κ ∗ fam away 14 (fun o => AWait c I PB 3 (sh c o)) (fun o => BWait c 3 (sh c o)) ∗ ow c (owed c 16 16 16 16) ∗ fam away 1 (fun o => AWait c I PB 7 (sh c o)) (fun o => BWait c 7 (sh c o)))
      ⊢ run c (k0_part110 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v2507 v2508 v2509 c0_i32_2559) (fun _ => iprop(fam away 16 (fun o => AWait c I PB 3 (sh c o)) (fun o => BWait c 3 (sh c o)) ∗ ow c (owed c 16 16 16 16) ∗ fam away 2 (fun o => AWait c I PB 7 (sh c o)) (fun o => BWait c 7 (sh c o)))) := by
  rw [k0_part110_eq_skeleton]
  unfold k0_part110_skel
  simp only [Prog.lift, Prog.bind_op, Prog.bind_ret, Prog.pure_eq_ret]
  iintro ⟨#Hr, Hf, Ho, Hg⟩
  iapply (step_waits (I := I) (PB := PB) (κ := κ) c 3 14 (by decide) (m := 14) (m' := 15) rfl rfl (act_send c (by decide) (fun h => absurd h (by decide)) (by decide)) (sem11 _ _ _ (f_off50_14 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 3 15 (by decide) (m := 15) (m' := 16) rfl rfl (act_send c (by decide) (fun h => absurd h (by decide)) (by decide)) (sem11 _ _ _ (f_off50_15 c)) (nc_gath _ _) 4 le_rfl (fun _ => le_rfl) (fun _ => le_rfl) (fun _ => le_rfl) (fun _ => le_rfl)) $$ [Hf Ho]
  · isplitr; · iexact Hr
    isplitl [Hf]; · iexact Hf
    iexact Ho
  iintro ⟨Hf, Ho⟩
  iapply (step_waits (I := I) (PB := PB) (κ := κ) c 7 1 (by decide) (m := 1) (m' := 2) rfl rfl (act_send c (by decide) (fun h => absurd h (by decide)) (by decide)) (sem15 _ _ _ (f_off50_1 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply run_ret
  isplitl [Hf]; · iexact Hf
  isplitl [Ho]; · iexact Ho
  iexact Hg

set_option maxHeartbeats 4000000 in
theorem part111  :
    iprop(recs I PB κ ∗ fam away 2 (fun o => AWait c I PB 7 (sh c o)) (fun o => BWait c 7 (sh c o)) ∗ ow c (owed c 16 16 16 16))
      ⊢ run c (k0_part111 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c) (fun _ => iprop(fam away 10 (fun o => AWait c I PB 7 (sh c o)) (fun o => BWait c 7 (sh c o)) ∗ ow c (owed c 16 16 16 16))) := by
  rw [k0_part111_eq_skeleton]
  unfold k0_part111_skel
  simp only [Prog.lift, Prog.bind_op, Prog.bind_ret, Prog.pure_eq_ret]
  iintro ⟨#Hr, Hg, Ho⟩
  iapply (step_waits (I := I) (PB := PB) (κ := κ) c 7 2 (by decide) (m := 2) (m' := 3) rfl rfl (act_send c (by decide) (fun h => absurd h (by decide)) (by decide)) (sem15 _ _ _ (f_off50_2 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 3 (by decide) (m := 3) (m' := 4) rfl rfl (act_send c (by decide) (fun h => absurd h (by decide)) (by decide)) (sem15 _ _ _ (f_off50_3 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 4 (by decide) (m := 4) (m' := 5) rfl rfl (act_send c (by decide) (fun h => absurd h (by decide)) (by decide)) (sem15 _ _ _ (f_off50_4 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 5 (by decide) (m := 5) (m' := 6) rfl rfl (act_send c (by decide) (fun h => absurd h (by decide)) (by decide)) (sem15 _ _ _ (f_off50_5 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 6 (by decide) (m := 6) (m' := 7) rfl rfl (act_send c (by decide) (fun h => absurd h (by decide)) (by decide)) (sem15 _ _ _ (f_off50_6 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 7 (by decide) (m := 7) (m' := 8) rfl rfl (act_send c (by decide) (fun h => absurd h (by decide)) (by decide)) (sem15 _ _ _ (f_off50_7 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 8 (by decide) (m := 8) (m' := 9) rfl rfl (act_send c (by decide) (fun h => absurd h (by decide)) (by decide)) (sem15 _ _ _ (f_off50_8 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply (step_waits (I := I) (PB := PB) (κ := κ) c 7 9 (by decide) (m := 9) (m' := 10) rfl rfl (act_send c (by decide) (fun h => absurd h (by decide)) (by decide)) (sem15 _ _ _ (f_off50_9 c)) (nc_red) 0 le_rfl (fun h => absurd h (by decide)) (fun h => absurd h (by decide)) (fun h => absurd h (by decide)) (fun h => absurd h (by decide))) $$ [Hg Ho]
  · isplitr; · iexact Hr
    isplitl [Hg]; · iexact Hg
    iexact Ho
  iintro ⟨Hg, Ho⟩
  iapply run_ret
  isplitl [Hg]; · iexact Hg
  iexact Ho

end Cert.SparseAttn

end
-- ==== Proof.Attn.lean ====
/-
The attention a device computes for its heads, from the blocks of keys and values it has received,
and the sum over its heads that it adds to the output.
-/
module

public import proofs.«01_k».proof.Proof.Gather

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- The eight blocks of keys or values, one from each source, of batch `b`, query block `qb` and head `h`. -/
def kvRow (f : Vec F S8x2x128x4x64 .bf16) (b qb : Fin 2) (h : Fin 4) (m : Fin 8) : Vec F S1x1x64x1x64 .bf16 :=
  kvBlk f ![m.val, b.val, 64 * qb.val, h.val, 0] (by revert m b qb h; decide)

/-- The eight blocks one below the other. -/
def catKV (p : Fin 8 → Vec F S1x1x64x1x64 .bf16) : FVec F S512x64 .f32 :=
  extf .f32 (concatenate S512x64 0 [⟨S64x64, shapeCast S64x64 (p 0) shapeCasts_S1x1x64x1x64_S64x64⟩, ⟨S64x64, shapeCast S64x64 (p 1) shapeCasts_S1x1x64x1x64_S64x64⟩,
    ⟨S64x64, shapeCast S64x64 (p 2) shapeCasts_S1x1x64x1x64_S64x64⟩, ⟨S64x64, shapeCast S64x64 (p 3) shapeCasts_S1x1x64x1x64_S64x64⟩,
    ⟨S64x64, shapeCast S64x64 (p 4) shapeCasts_S1x1x64x1x64_S64x64⟩, ⟨S64x64, shapeCast S64x64 (p 5) shapeCasts_S1x1x64x1x64_S64x64⟩,
    ⟨S64x64, shapeCast S64x64 (p 6) shapeCasts_S1x1x64x1x64_S64x64⟩, ⟨S64x64, shapeCast S64x64 (p 7) shapeCasts_S1x1x64x1x64_S64x64⟩]
    concatenates_S64x64_S64x64_S64x64_S64x64_S64x64_S64x64_S64x64_S64x64_S512x64_d0) bitsLt_bf16_f32

/-- The scores of one block of queries against its keys. -/
def scores (q : FVec F S64x64 .f32) (k : FVec F S512x64 .f32) : FVec F S64x512 .f32 :=
  mulf (matmul dot_S64x64_S64x512_S64x512_1_0_0_1_n_n none q (transpose S64x512 [1, 0] k transposes_S512x64_p1_0_S64x512) (constant S64x512 .f32 0x00000000#32))
    (broadcast S64x512 (Scalar.ofBits .f32 0x3E000000#32))

/-- The exponentials of the scores less the largest of their row. -/
def weights (s : FVec F S64x512 .f32) : FVec F S64x512 .f32 :=
  exp (subf s (broadcastTo S64x512 (shapeCast S64x1 (multiReduction .maximumf [1] S64 s 0xFF800000#32 reduces_S64x512_S64 (.inl rfl) rfl) shapeCasts_S64_S64x1) broadcasts_S64x1_S64x512))

/-- The weights over their row's sum. -/
def norm (w : FVec F S64x512 .f32) : FVec F S64x512 .f32 :=
  divf w (broadcastTo S64x512 (shapeCast S64x1 (multiReduction .add [1] S64 w 0x00000000#32 reduces_S64x512_S64 (.inl rfl) rfl) shapeCasts_S64_S64x1) broadcasts_S64x1_S64x512)

/-- The attention of one block of queries. -/
def tile (q : FVec F S64x64 .f32) (k v : FVec F S512x64 .f32) : FVec F S64x64 .f32 :=
  matmul dot_S64x512_S512x64_S64x64_1_0_0_1_n_n none (norm (weights (scores q k))) v (constant S64x64 .f32 0x00000000#32)

/-- One block of queries of one head. -/
def qOf (Q : FVec F S128x4x64 .f32) (qb : Fin 2) (h : Fin 4) : FVec F S64x64 .f32 :=
  shapeCast S64x64 (extractStridedSlice S64x1x64 ![64 * qb.val, h.val, 0] Q (by revert qb h; decide)) shapeCasts_S64x1x64_S64x64

/-- The queries of one batch. -/
def proj (wq : Vec F S512x256 .f32) (x : Vec F S1x128x512 .f32) : FVec F S128x4x64 .f32 :=
  shapeCast S128x4x64 (matmul dot_S128x512_S512x256_S128x256_1_0_0_1_n_n none (shapeCast S128x512 x shapeCasts_S1x128x512_S128x512)
    (shapeCast S512x256 wq shapeCasts_S512x256_S512x256) (constant S128x256 .f32 0x00000000#32)) shapeCasts_S128x256_S128x4x64

/-- The attention of one batch and one head. -/
def ctx (Q : FVec F S128x4x64 .f32) (f g : Vec F S8x2x128x4x64 .bf16) (b : Fin 2) (h : Fin 4) : FVec F S128x64 .f32 :=
  concatenate S128x64 0 [⟨S64x64, tile (qOf Q 0 h) (catKV (kvRow f b 0 h)) (catKV (kvRow g b 0 h))⟩, ⟨S64x64, tile (qOf Q 1 h) (catKV (kvRow f b 1 h)) (catKV (kvRow g b 1 h))⟩]
    concatenates_S64x64_S64x64_S128x64_d0

/-- What a device adds to one batch of the output. -/
def pbRows (x : Vec F S2x128x512 .f32) (wq : Vec F S512x256 .f32) (f g : Vec F S8x2x128x4x64 .bf16) (wo : Vec F S256x512 .f32) (b : Fin 2) : FVec F S128x512 .bf16 :=
  let Q := proj wq (xBlk x ![b.val, 0, 0] (by revert b; decide))
  shapeCast S128x512 (truncf .bf16 (matmul dot_S128x256_S256x512_S128x512_1_0_0_1_n_n none
    (concatenate S128x256 1 [⟨S128x64, ctx Q f g b 0⟩, ⟨S128x64, ctx Q f g b 1⟩, ⟨S128x64, ctx Q f g b 2⟩, ⟨S128x64, ctx Q f g b 3⟩] concatenates_S128x64_S128x64_S128x64_S128x64_S128x256_d1)
    (shapeCast S256x512 wo shapeCasts_S256x512_S256x512) (constant S128x512 .f32 0x00000000#32)) bitsLt_bf16_f32) shapeCasts_S128x512_S128x512

/-- An index of one batch. -/
def ix2 (r : Fin 128) (e : Fin 512) : S128x512.Idx := fun a => match a with | 0 => r | 1 => e

/-- What a device adds to the output. -/
def pbOf (x : Vec F S2x128x512 .f32) (wq : Vec F S512x256 .f32) (f g : Vec F S8x2x128x4x64 .bf16) (wo : Vec F S256x512 .f32) : Vec F S256x512 .bf16 := fun i =>
  pbRows x wq f g wo ⟨(i 0).val / 128, by have : (i 0).val < 256 := (i 0).isLt; omega⟩ (ix2 ⟨(i 0).val % 128, Nat.mod_lt _ (by decide)⟩ (i 1))

theorem pbOf_at (x : Vec F S2x128x512 .f32) (wq : Vec F S512x256 .f32) (f g : Vec F S8x2x128x4x64 .bf16) (wo : Vec F S256x512 .f32) (b : Fin 2) (i : S256x512.Idx) (j : S128x512.Idx)
    (e0 : (i 0).val = 128 * b.val + (j 0).val) (e1 : (i 1).val = (j 1).val) : pbOf x wq f g wo i = pbRows x wq f g wo b j := by
  have h0 : (j 0).val < 128 := (j 0).isLt
  have hb : (⟨(i 0).val / 128, by have : (i 0).val < 256 := (i 0).isLt; omega⟩ : Fin 2) = b := Fin.ext (by show (i 0).val / 128 = b.val; rw [e0]; omega)
  have hj : ix2 ⟨(i 0).val % 128, Nat.mod_lt _ (by decide)⟩ (i 1) = j := by
    funext a
    refine Fin.cases ?_ (fun a => Fin.cases ?_ (fun a => a.elim0) a) a
    · apply Fin.ext; show (i 0).val % 128 = (j 0).val; rw [e0]; omega
    · apply Fin.ext; exact e1
  unfold pbOf
  rw [hb, hj]

theorem pb_read (x : Vec F S2x128x512 .f32) (wq : Vec F S512x256 .f32) (f g : Vec F S8x2x128x4x64 .bf16) (wo : Vec F S256x512 .f32) (b : Fin 2) {off inb} (h : off = ![128 * b.val, 0]) :
    (pbM.access (Rect.unit (s := S256x512) off S128x512.size inb)).read (Elt F) (pbOf x wq f g wo) = pbRows x wq f g wo b := by
  subst h
  funext j
  refine pbOf_at x wq f g wo b _ j ?_ ?_
  · show 128 * b.val + 1 * (j 0).val = _; omega
  · show 0 + 1 * (j 1).val = _; omega

theorem acc_pb128 (off inb) (k : ℕ) (h : off 0 = 128 * k) : (pbM.access (Rect.unit (s := S256x512) off S128x512.size inb)).set = rowsAt 128 k :=
  (View.set_slice_whole cc0_scratch4 _).trans (set_rows off _ inb 128 k (by decide) h rfl (by decide))

theorem ld_pb {α : Type} {off inb} (k : ℕ) (h : off 0 = 128 * k) (f : Vec F S256x512 .bf16) {hl : (pbM.view).LoadsAt (Rect.unit (s := S256x512) off S128x512.size inb).toLoadRect}
    {pr : Vec F S128x512 .bf16 → Prog (TpuEff nD τ sig (Elt F) Λ₀ .tc) α} {Q : α → sProp 𝕄} :
    pbP c fullShare (rowsAt 128 k) f ⊢ iprop((pbP c fullShare (rowsAt 128 k) f -∗ run c (pr ((pbM.access (Rect.unit (s := S256x512) off S128x512.size inb)).read (Elt F) f)) Q)
      -∗ run c (.op (.load pbM (Rect.unit (s := S256x512) off S128x512.size inb).toLoadRect hl) pr) Q) :=
  step_load c (m := pbM) (r := Rect.unit (s := S256x512) off S128x512.size inb) (S := rowsAt (d := S256x512.size) 128 k) (q := fullShare) (f := f) (by rw [acc_pb128 off inb k h]) rfl

theorem st_pb {α : Type} {off inb} (k : ℕ) (h : off 0 = 128 * k) (f g : Vec F S256x512 .bf16) {w : Vec F S128x512 .bf16}
    (hw : (pbM.access (Rect.unit (s := S256x512) off S128x512.size inb)).read (Elt F) g = w)
    {hx : (pbM.access (Rect.unit (s := S256x512) off S128x512.size inb)).Stores Finset.univ} {hm}
    {pr : PUnit → Prog (TpuEff nD τ sig (Elt F) Λ₀ .tc) α} {Q : α → sProp 𝕄} :
    pbP c fullShare (rowsAt 128 k) f ⊢ iprop((pbP c fullShare (rowsAt 128 k) g -∗ run c (pr ⟨⟩) Q)
      -∗ run c (.op (.store pbM (Rect.unit (s := S256x512) off S128x512.size inb) w Finset.univ hx hm) pr) Q) :=
  step_store c (m := pbM) (r := Rect.unit (s := S256x512) off S128x512.size inb) (S := rowsAt (d := S256x512.size) 128 k) (f := f) g (acc_pb128 off inb k h) hw

end Cert.SparseAttn

end
-- ==== Proof.Compute0.lean ====
/-
The parts that compute the attention of the first batch.
-/
module

public import proofs.«01_k».proof.Proof.Attn

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (f g : Vec F S8x2x128x4x64 .bf16) (w4 : Vec F S256x512 .f32)

set_option maxHeartbeats 4000000 in
theorem part39 (v465 : FVec F S64x64 .bf16) :
    iprop(rbkP c fullShare Finset.univ f ∗ rbvP c fullShare Finset.univ g)
      ⊢ run c (k0_part39 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v465) (fun r => iprop(⌜r.1 = k0_pay44 v465 (kvBlk f ![1, 0, 0, 0, 0] inb_S8x2x128x4x64_S1x1x64x1x64_1_0_0_0_0) (kvBlk f ![2, 0, 0, 0, 0] inb_S8x2x128x4x64_S1x1x64x1x64_2_0_0_0_0) (kvBlk f ![3, 0, 0, 0, 0] inb_S8x2x128x4x64_S1x1x64x1x64_3_0_0_0_0) (kvBlk f ![4, 0, 0, 0, 0] inb_S8x2x128x4x64_S1x1x64x1x64_4_0_0_0_0) (kvBlk f ![5, 0, 0, 0, 0] inb_S8x2x128x4x64_S1x1x64x1x64_5_0_0_0_0) (kvBlk f ![6, 0, 0, 0, 0] inb_S8x2x128x4x64_S1x1x64x1x64_6_0_0_0_0) (kvBlk f ![7, 0, 0, 0, 0] inb_S8x2x128x4x64_S1x1x64x1x64_7_0_0_0_0) ∧ r.2.1 = k0_pay45 (kvBlk g ![0, 0, 0, 0, 0] inb_S8x2x128x4x64_S1x1x64x1x64_0_0_0_0_0) ∧ r.2.2 = k0_pay46 (kvBlk g ![1, 0, 0, 0, 0] inb_S8x2x128x4x64_S1x1x64x1x64_1_0_0_0_0)⌝ ∗ rbkP c fullShare Finset.univ f ∗ rbvP c fullShare Finset.univ g)) := by
  rw [k0_part39_eq_skeleton]
  unfold k0_part39_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl⟩
  isplitl [Hk]; · iexact Hk
  iexact Hv

set_option maxHeartbeats 4000000 in
theorem part40 (v463 : FVec F S64x64 .f32) (v481 : FVec F S512x64 .f32) (v483 : FVec F S64x64 .bf16) (v485 : FVec F S64x64 .bf16) :
    iprop(rbkP c fullShare Finset.univ f ∗ rbvP c fullShare Finset.univ g)
      ⊢ run c (k0_part40 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v463 v481 v483 v485) (fun r => iprop(⌜r.1 = k0_pay47 v483 v485 (kvBlk g ![2, 0, 0, 0, 0] inb_S8x2x128x4x64_S1x1x64x1x64_2_0_0_0_0) (kvBlk g ![3, 0, 0, 0, 0] inb_S8x2x128x4x64_S1x1x64x1x64_3_0_0_0_0) (kvBlk g ![4, 0, 0, 0, 0] inb_S8x2x128x4x64_S1x1x64x1x64_4_0_0_0_0) (kvBlk g ![5, 0, 0, 0, 0] inb_S8x2x128x4x64_S1x1x64x1x64_5_0_0_0_0) (kvBlk g ![6, 0, 0, 0, 0] inb_S8x2x128x4x64_S1x1x64x1x64_6_0_0_0_0) (kvBlk g ![7, 0, 0, 0, 0] inb_S8x2x128x4x64_S1x1x64x1x64_7_0_0_0_0) ∧ r.2.1 = k0_pay48 v463 v481 ∧ r.2.2 = k0_pay49 v463 v481⌝ ∗ rbkP c fullShare Finset.univ f ∗ rbvP c fullShare Finset.univ g)) := by
  rw [k0_part40_eq_skeleton]
  unfold k0_part40_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl⟩
  isplitl [Hk]; · iexact Hk
  iexact Hv

set_option maxHeartbeats 4000000 in
theorem part41 (v431 : FVec F S128x4x64 .f32) (v499 : FVec F S512x64 .f32) (v508 : FVec F S64x512 .f32) (v511 : FVec F S64x512 .f32) :
    iprop(rbkP c fullShare Finset.univ f ∗ rbvP c fullShare Finset.univ g)
      ⊢ run c (k0_part41 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v499 v508 v511) (fun r => iprop(⌜r.1 = k0_pay50 v499 v508 v511 ∧ r.2.1 = k0_pay51 v431 ∧ r.2.2.1 = k0_pay52 (kvBlk f ![0, 0, 64, 0, 0] inb_S8x2x128x4x64_S1x1x64x1x64_0_0_64_0_0) ∧ r.2.2.2.1 = k0_pay53 (kvBlk f ![1, 0, 64, 0, 0] inb_S8x2x128x4x64_S1x1x64x1x64_1_0_64_0_0) ∧ r.2.2.2.2.1 = k0_pay54 (kvBlk f ![2, 0, 64, 0, 0] inb_S8x2x128x4x64_S1x1x64x1x64_2_0_64_0_0) ∧ r.2.2.2.2.2.1 = k0_pay55 (kvBlk f ![3, 0, 64, 0, 0] inb_S8x2x128x4x64_S1x1x64x1x64_3_0_64_0_0) ∧ r.2.2.2.2.2.2.1 = k0_pay56 (kvBlk f ![4, 0, 64, 0, 0] inb_S8x2x128x4x64_S1x1x64x1x64_4_0_64_0_0) ∧ r.2.2.2.2.2.2.2.1 = k0_pay57 (kvBlk f ![5, 0, 64, 0, 0] inb_S8x2x128x4x64_S1x1x64x1x64_5_0_64_0_0) ∧ r.2.2.2.2.2.2.2.2.1 = k0_pay58 (kvBlk f ![6, 0, 64, 0, 0] inb_S8x2x128x4x64_S1x1x64x1x64_6_0_64_0_0) ∧ r.2.2.2.2.2.2.2.2.2 = (kvBlk f ![7, 0, 64, 0, 0] inb_S8x2x128x4x64_S1x1x64x1x64_7_0_64_0_0)⌝ ∗ rbkP c fullShare Finset.univ f ∗ rbvP c fullShare Finset.univ g)) := by
  rw [k0_part41_eq_skeleton]
  unfold k0_part41_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl, rfl, rfl, rfl, rfl⟩
  isplitl [Hk]; · iexact Hk
  iexact Hv

set_option maxHeartbeats 4000000 in
theorem part42 (v517 : FVec F S64x64 .bf16) (v519 : FVec F S64x64 .bf16) (v521 : FVec F S64x64 .bf16) (v523 : FVec F S64x64 .bf16) (v525 : FVec F S64x64 .bf16) (v527 : FVec F S64x64 .bf16) (v529 : FVec F S64x64 .bf16) (v530 : Vec F S1x1x64x1x64 .bf16) :
    iprop(rbkP c fullShare Finset.univ f ∗ rbvP c fullShare Finset.univ g)
      ⊢ run c (k0_part42 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v517 v519 v521 v523 v525 v527 v529 v530) (fun r => iprop(⌜r.1 = k0_pay59 v517 v519 v521 v523 v525 v527 v529 v530 ∧ r.2 = k0_pay60 (kvBlk g ![0, 0, 64, 0, 0] inb_S8x2x128x4x64_S1x1x64x1x64_0_0_64_0_0) (kvBlk g ![1, 0, 64, 0, 0] inb_S8x2x128x4x64_S1x1x64x1x64_1_0_64_0_0) (kvBlk g ![2, 0, 64, 0, 0] inb_S8x2x128x4x64_S1x1x64x1x64_2_0_64_0_0) (kvBlk g ![3, 0, 64, 0, 0] inb_S8x2x128x4x64_S1x1x64x1x64_3_0_64_0_0) (kvBlk g ![4, 0, 64, 0, 0] inb_S8x2x128x4x64_S1x1x64x1x64_4_0_64_0_0) (kvBlk g ![5, 0, 64, 0, 0] inb_S8x2x128x4x64_S1x1x64x1x64_5_0_64_0_0) (kvBlk g ![6, 0, 64, 0, 0] inb_S8x2x128x4x64_S1x1x64x1x64_6_0_64_0_0) (kvBlk g ![7, 0, 64, 0, 0] inb_S8x2x128x4x64_S1x1x64x1x64_7_0_64_0_0)⌝ ∗ rbkP c fullShare Finset.univ f ∗ rbvP c fullShare Finset.univ g)) := by
  rw [k0_part42_eq_skeleton]
  unfold k0_part42_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl⟩
  isplitl [Hk]; · iexact Hk
  iexact Hv

set_option maxHeartbeats 4000000 in
theorem part43 (v431 : FVec F S128x4x64 .f32) (v513 : FVec F S64x64 .f32) (v515 : FVec F S64x64 .f32) (v533 : FVec F S512x64 .f32) (v550 : FVec F S512x64 .bf16) :
    iprop(rbkP c fullShare Finset.univ f ∗ rbvP c fullShare Finset.univ g)
      ⊢ run c (k0_part43 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v513 v515 v533 v550) (fun r => iprop(⌜r.1 = k0_pay61 v513 v515 v533 v550 ∧ r.2.1 = k0_pay62 v431 ∧ r.2.2.1 = k0_pay63 (kvBlk f ![0, 0, 0, 1, 0] inb_S8x2x128x4x64_S1x1x64x1x64_0_0_0_1_0) ∧ r.2.2.2.1 = k0_pay64 (kvBlk f ![1, 0, 0, 1, 0] inb_S8x2x128x4x64_S1x1x64x1x64_1_0_0_1_0) ∧ r.2.2.2.2.1 = k0_pay65 (kvBlk f ![2, 0, 0, 1, 0] inb_S8x2x128x4x64_S1x1x64x1x64_2_0_0_1_0) ∧ r.2.2.2.2.2.1 = k0_pay66 (kvBlk f ![3, 0, 0, 1, 0] inb_S8x2x128x4x64_S1x1x64x1x64_3_0_0_1_0) ∧ r.2.2.2.2.2.2 = k0_pay67 (kvBlk f ![4, 0, 0, 1, 0] inb_S8x2x128x4x64_S1x1x64x1x64_4_0_0_1_0)⌝ ∗ rbkP c fullShare Finset.univ f ∗ rbvP c fullShare Finset.univ g)) := by
  rw [k0_part43_eq_skeleton]
  unfold k0_part43_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl, rfl⟩
  isplitl [Hk]; · iexact Hk
  iexact Hv

set_option maxHeartbeats 4000000 in
theorem part44 (v570 : FVec F S64x64 .bf16) (v572 : FVec F S64x64 .bf16) (v574 : FVec F S64x64 .bf16) (v576 : FVec F S64x64 .bf16) (v578 : FVec F S64x64 .bf16) :
    iprop(rbkP c fullShare Finset.univ f ∗ rbvP c fullShare Finset.univ g)
      ⊢ run c (k0_part44 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v570 v572 v574 v576 v578) (fun r => iprop(⌜r.1 = k0_pay68 v570 v572 v574 v576 v578 (kvBlk f ![5, 0, 0, 1, 0] inb_S8x2x128x4x64_S1x1x64x1x64_5_0_0_1_0) (kvBlk f ![6, 0, 0, 1, 0] inb_S8x2x128x4x64_S1x1x64x1x64_6_0_0_1_0) (kvBlk f ![7, 0, 0, 1, 0] inb_S8x2x128x4x64_S1x1x64x1x64_7_0_0_1_0) ∧ r.2.1 = k0_pay69 (kvBlk g ![0, 0, 0, 1, 0] inb_S8x2x128x4x64_S1x1x64x1x64_0_0_0_1_0) ∧ r.2.2.1 = k0_pay70 (kvBlk g ![1, 0, 0, 1, 0] inb_S8x2x128x4x64_S1x1x64x1x64_1_0_0_1_0) ∧ r.2.2.2.1 = k0_pay71 (kvBlk g ![2, 0, 0, 1, 0] inb_S8x2x128x4x64_S1x1x64x1x64_2_0_0_1_0) ∧ r.2.2.2.2.1 = k0_pay72 (kvBlk g ![3, 0, 0, 1, 0] inb_S8x2x128x4x64_S1x1x64x1x64_3_0_0_1_0) ∧ r.2.2.2.2.2 = k0_pay73 (kvBlk g ![4, 0, 0, 1, 0] inb_S8x2x128x4x64_S1x1x64x1x64_4_0_0_1_0)⌝ ∗ rbkP c fullShare Finset.univ f ∗ rbvP c fullShare Finset.univ g)) := by
  rw [k0_part44_eq_skeleton]
  unfold k0_part44_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl, rfl⟩
  isplitl [Hk]; · iexact Hk
  iexact Hv

set_option maxHeartbeats 4000000 in
theorem part45 (v431 : FVec F S128x4x64 .f32) (v568 : FVec F S64x64 .f32) (v586 : FVec F S512x64 .f32) (v588 : FVec F S64x64 .bf16) (v590 : FVec F S64x64 .bf16) (v592 : FVec F S64x64 .bf16) (v594 : FVec F S64x64 .bf16) (v596 : FVec F S64x64 .bf16) :
    iprop(rbkP c fullShare Finset.univ f ∗ rbvP c fullShare Finset.univ g)
      ⊢ run c (k0_part45 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v568 v586 v588 v590 v592 v594 v596) (fun r => iprop(⌜r.1 = k0_pay74 v568 v586 v588 v590 v592 v594 v596 (kvBlk g ![5, 0, 0, 1, 0] inb_S8x2x128x4x64_S1x1x64x1x64_5_0_0_1_0) (kvBlk g ![6, 0, 0, 1, 0] inb_S8x2x128x4x64_S1x1x64x1x64_6_0_0_1_0) (kvBlk g ![7, 0, 0, 1, 0] inb_S8x2x128x4x64_S1x1x64x1x64_7_0_0_1_0) ∧ r.2.1 = k0_pay75 v431 ∧ r.2.2.1 = k0_pay76 (kvBlk f ![0, 0, 64, 1, 0] inb_S8x2x128x4x64_S1x1x64x1x64_0_0_64_1_0) ∧ r.2.2.2.1 = k0_pay77 (kvBlk f ![1, 0, 64, 1, 0] inb_S8x2x128x4x64_S1x1x64x1x64_1_0_64_1_0) ∧ r.2.2.2.2 = (kvBlk f ![2, 0, 64, 1, 0] inb_S8x2x128x4x64_S1x1x64x1x64_2_0_64_1_0)⌝ ∗ rbkP c fullShare Finset.univ f ∗ rbvP c fullShare Finset.univ g)) := by
  rw [k0_part45_eq_skeleton]
  unfold k0_part45_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl⟩
  isplitl [Hk]; · iexact Hk
  iexact Hv

set_option maxHeartbeats 4000000 in
theorem part46 (v622 : FVec F S64x64 .bf16) (v624 : FVec F S64x64 .bf16) (v625 : Vec F S1x1x64x1x64 .bf16) :
    iprop(rbkP c fullShare Finset.univ f ∗ rbvP c fullShare Finset.univ g)
      ⊢ run c (k0_part46 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v622 v624 v625) (fun r => iprop(⌜r.1 = k0_pay78 v622 v624 v625 (kvBlk f ![3, 0, 64, 1, 0] inb_S8x2x128x4x64_S1x1x64x1x64_3_0_64_1_0) (kvBlk f ![4, 0, 64, 1, 0] inb_S8x2x128x4x64_S1x1x64x1x64_4_0_64_1_0) (kvBlk f ![5, 0, 64, 1, 0] inb_S8x2x128x4x64_S1x1x64x1x64_5_0_64_1_0) (kvBlk f ![6, 0, 64, 1, 0] inb_S8x2x128x4x64_S1x1x64x1x64_6_0_64_1_0) (kvBlk f ![7, 0, 64, 1, 0] inb_S8x2x128x4x64_S1x1x64x1x64_7_0_64_1_0) ∧ r.2.1 = k0_pay79 (kvBlk g ![0, 0, 64, 1, 0] inb_S8x2x128x4x64_S1x1x64x1x64_0_0_64_1_0) ∧ r.2.2.1 = k0_pay80 (kvBlk g ![1, 0, 64, 1, 0] inb_S8x2x128x4x64_S1x1x64x1x64_1_0_64_1_0) ∧ r.2.2.2 = k0_pay81 (kvBlk g ![2, 0, 64, 1, 0] inb_S8x2x128x4x64_S1x1x64x1x64_2_0_64_1_0)⌝ ∗ rbkP c fullShare Finset.univ f ∗ rbvP c fullShare Finset.univ g)) := by
  rw [k0_part46_eq_skeleton]
  unfold k0_part46_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl⟩
  isplitl [Hk]; · iexact Hk
  iexact Hv

set_option maxHeartbeats 4000000 in
theorem part47 (v431 : FVec F S128x4x64 .f32) (v618 : FVec F S64x64 .f32) (v620 : FVec F S64x64 .f32) (v638 : FVec F S512x64 .f32) (v640 : FVec F S64x64 .bf16) (v642 : FVec F S64x64 .bf16) (v644 : FVec F S64x64 .bf16) :
    iprop(rbkP c fullShare Finset.univ f ∗ rbvP c fullShare Finset.univ g)
      ⊢ run c (k0_part47 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v618 v620 v638 v640 v642 v644) (fun r => iprop(⌜r.1 = k0_pay82 v618 v620 v638 v640 v642 v644 (kvBlk g ![3, 0, 64, 1, 0] inb_S8x2x128x4x64_S1x1x64x1x64_3_0_64_1_0) (kvBlk g ![4, 0, 64, 1, 0] inb_S8x2x128x4x64_S1x1x64x1x64_4_0_64_1_0) (kvBlk g ![5, 0, 64, 1, 0] inb_S8x2x128x4x64_S1x1x64x1x64_5_0_64_1_0) (kvBlk g ![6, 0, 64, 1, 0] inb_S8x2x128x4x64_S1x1x64x1x64_6_0_64_1_0) (kvBlk g ![7, 0, 64, 1, 0] inb_S8x2x128x4x64_S1x1x64x1x64_7_0_64_1_0) ∧ r.2 = k0_pay83 v431⌝ ∗ rbkP c fullShare Finset.univ f ∗ rbvP c fullShare Finset.univ g)) := by
  rw [k0_part47_eq_skeleton]
  unfold k0_part47_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl⟩
  isplitl [Hk]; · iexact Hk
  iexact Hv

set_option maxHeartbeats 4000000 in
theorem part48  :
    iprop(rbkP c fullShare Finset.univ f ∗ rbvP c fullShare Finset.univ g)
      ⊢ run c (k0_part48 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15) (fun r => iprop(⌜r = k0_pay84 (kvBlk f ![0, 0, 0, 2, 0] inb_S8x2x128x4x64_S1x1x64x1x64_0_0_0_2_0) (kvBlk f ![1, 0, 0, 2, 0] inb_S8x2x128x4x64_S1x1x64x1x64_1_0_0_2_0) (kvBlk f ![2, 0, 0, 2, 0] inb_S8x2x128x4x64_S1x1x64x1x64_2_0_0_2_0) (kvBlk f ![3, 0, 0, 2, 0] inb_S8x2x128x4x64_S1x1x64x1x64_3_0_0_2_0) (kvBlk f ![4, 0, 0, 2, 0] inb_S8x2x128x4x64_S1x1x64x1x64_4_0_0_2_0) (kvBlk f ![5, 0, 0, 2, 0] inb_S8x2x128x4x64_S1x1x64x1x64_5_0_0_2_0) (kvBlk f ![6, 0, 0, 2, 0] inb_S8x2x128x4x64_S1x1x64x1x64_6_0_0_2_0) (kvBlk f ![7, 0, 0, 2, 0] inb_S8x2x128x4x64_S1x1x64x1x64_7_0_0_2_0)⌝ ∗ rbkP c fullShare Finset.univ f ∗ rbvP c fullShare Finset.univ g)) := by
  rw [k0_part48_eq_skeleton]
  unfold k0_part48_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact rfl
  isplitl [Hk]; · iexact Hk
  iexact Hv

set_option maxHeartbeats 4000000 in
theorem part49 (v673 : FVec F S64x64 .f32) (v691 : FVec F S512x64 .f32) :
    iprop(rbkP c fullShare Finset.univ f ∗ rbvP c fullShare Finset.univ g)
      ⊢ run c (k0_part49 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v673 v691) (fun r => iprop(⌜r.1 = k0_pay85 (kvBlk g ![0, 0, 0, 2, 0] inb_S8x2x128x4x64_S1x1x64x1x64_0_0_0_2_0) (kvBlk g ![1, 0, 0, 2, 0] inb_S8x2x128x4x64_S1x1x64x1x64_1_0_0_2_0) (kvBlk g ![2, 0, 0, 2, 0] inb_S8x2x128x4x64_S1x1x64x1x64_2_0_0_2_0) (kvBlk g ![3, 0, 0, 2, 0] inb_S8x2x128x4x64_S1x1x64x1x64_3_0_0_2_0) (kvBlk g ![4, 0, 0, 2, 0] inb_S8x2x128x4x64_S1x1x64x1x64_4_0_0_2_0) (kvBlk g ![5, 0, 0, 2, 0] inb_S8x2x128x4x64_S1x1x64x1x64_5_0_0_2_0) (kvBlk g ![6, 0, 0, 2, 0] inb_S8x2x128x4x64_S1x1x64x1x64_6_0_0_2_0) (kvBlk g ![7, 0, 0, 2, 0] inb_S8x2x128x4x64_S1x1x64x1x64_7_0_0_2_0) ∧ r.2 = k0_pay86 v673 v691⌝ ∗ rbkP c fullShare Finset.univ f ∗ rbvP c fullShare Finset.univ g)) := by
  rw [k0_part49_eq_skeleton]
  unfold k0_part49_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl⟩
  isplitl [Hk]; · iexact Hk
  iexact Hv

set_option maxHeartbeats 4000000 in
theorem part50 (v431 : FVec F S128x4x64 .f32) (v709 : FVec F S512x64 .f32) (v713 : FVec F S64x512 .f32) :
    iprop(rbkP c fullShare Finset.univ f ∗ rbvP c fullShare Finset.univ g)
      ⊢ run c (k0_part50 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v709 v713) (fun r => iprop(⌜r.1 = k0_pay87 v709 v713 ∧ r.2.1 = k0_pay88 v431 ∧ r.2.2.1 = k0_pay89 (kvBlk f ![0, 0, 64, 2, 0] inb_S8x2x128x4x64_S1x1x64x1x64_0_0_64_2_0) ∧ r.2.2.2.1 = k0_pay90 (kvBlk f ![1, 0, 64, 2, 0] inb_S8x2x128x4x64_S1x1x64x1x64_1_0_64_2_0) ∧ r.2.2.2.2.1 = k0_pay91 (kvBlk f ![2, 0, 64, 2, 0] inb_S8x2x128x4x64_S1x1x64x1x64_2_0_64_2_0) ∧ r.2.2.2.2.2.1 = k0_pay92 (kvBlk f ![3, 0, 64, 2, 0] inb_S8x2x128x4x64_S1x1x64x1x64_3_0_64_2_0) ∧ r.2.2.2.2.2.2.1 = k0_pay93 (kvBlk f ![4, 0, 64, 2, 0] inb_S8x2x128x4x64_S1x1x64x1x64_4_0_64_2_0) ∧ r.2.2.2.2.2.2.2 = k0_pay94 (kvBlk f ![5, 0, 64, 2, 0] inb_S8x2x128x4x64_S1x1x64x1x64_5_0_64_2_0)⌝ ∗ rbkP c fullShare Finset.univ f ∗ rbvP c fullShare Finset.univ g)) := by
  rw [k0_part50_eq_skeleton]
  unfold k0_part50_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl, rfl, rfl⟩
  isplitl [Hk]; · iexact Hk
  iexact Hv

set_option maxHeartbeats 4000000 in
theorem part51 (v727 : FVec F S64x64 .bf16) (v729 : FVec F S64x64 .bf16) (v731 : FVec F S64x64 .bf16) (v733 : FVec F S64x64 .bf16) (v735 : FVec F S64x64 .bf16) (v737 : FVec F S64x64 .bf16) :
    iprop(rbkP c fullShare Finset.univ f ∗ rbvP c fullShare Finset.univ g)
      ⊢ run c (k0_part51 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v727 v729 v731 v733 v735 v737) (fun r => iprop(⌜r.1 = k0_pay95 v727 v729 v731 v733 v735 v737 (kvBlk f ![6, 0, 64, 2, 0] inb_S8x2x128x4x64_S1x1x64x1x64_6_0_64_2_0) (kvBlk f ![7, 0, 64, 2, 0] inb_S8x2x128x4x64_S1x1x64x1x64_7_0_64_2_0) ∧ r.2.1 = k0_pay96 (kvBlk g ![0, 0, 64, 2, 0] inb_S8x2x128x4x64_S1x1x64x1x64_0_0_64_2_0) ∧ r.2.2.1 = k0_pay97 (kvBlk g ![1, 0, 64, 2, 0] inb_S8x2x128x4x64_S1x1x64x1x64_1_0_64_2_0) ∧ r.2.2.2.1 = k0_pay98 (kvBlk g ![2, 0, 64, 2, 0] inb_S8x2x128x4x64_S1x1x64x1x64_2_0_64_2_0) ∧ r.2.2.2.2.1 = k0_pay99 (kvBlk g ![3, 0, 64, 2, 0] inb_S8x2x128x4x64_S1x1x64x1x64_3_0_64_2_0) ∧ r.2.2.2.2.2.1 = k0_pay100 (kvBlk g ![4, 0, 64, 2, 0] inb_S8x2x128x4x64_S1x1x64x1x64_4_0_64_2_0) ∧ r.2.2.2.2.2.2 = k0_pay101 (kvBlk g ![5, 0, 64, 2, 0] inb_S8x2x128x4x64_S1x1x64x1x64_5_0_64_2_0)⌝ ∗ rbkP c fullShare Finset.univ f ∗ rbvP c fullShare Finset.univ g)) := by
  rw [k0_part51_eq_skeleton]
  unfold k0_part51_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl, rfl, rfl⟩
  isplitl [Hk]; · iexact Hk
  iexact Hv

set_option maxHeartbeats 4000000 in
theorem part52 (v431 : FVec F S128x4x64 .f32) (v723 : FVec F S64x64 .f32) (v725 : FVec F S64x64 .f32) (v743 : FVec F S512x64 .f32) (v745 : FVec F S64x64 .bf16) (v747 : FVec F S64x64 .bf16) (v749 : FVec F S64x64 .bf16) (v751 : FVec F S64x64 .bf16) (v753 : FVec F S64x64 .bf16) (v755 : FVec F S64x64 .bf16) :
    iprop(rbkP c fullShare Finset.univ f ∗ rbvP c fullShare Finset.univ g)
      ⊢ run c (k0_part52 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v723 v725 v743 v745 v747 v749 v751 v753 v755) (fun r => iprop(⌜r.1 = k0_pay102 v723 v725 v743 v745 v747 v749 v751 v753 v755 (kvBlk g ![6, 0, 64, 2, 0] inb_S8x2x128x4x64_S1x1x64x1x64_6_0_64_2_0) (kvBlk g ![7, 0, 64, 2, 0] inb_S8x2x128x4x64_S1x1x64x1x64_7_0_64_2_0) ∧ r.2.1 = k0_pay103 v431 ∧ r.2.2.1 = k0_pay104 (kvBlk f ![0, 0, 0, 3, 0] inb_S8x2x128x4x64_S1x1x64x1x64_0_0_0_3_0) ∧ r.2.2.2.1 = k0_pay105 (kvBlk f ![1, 0, 0, 3, 0] inb_S8x2x128x4x64_S1x1x64x1x64_1_0_0_3_0) ∧ r.2.2.2.2.1 = k0_pay106 (kvBlk f ![2, 0, 0, 3, 0] inb_S8x2x128x4x64_S1x1x64x1x64_2_0_0_3_0) ∧ r.2.2.2.2.2 = (kvBlk f ![3, 0, 0, 3, 0] inb_S8x2x128x4x64_S1x1x64x1x64_3_0_0_3_0)⌝ ∗ rbkP c fullShare Finset.univ f ∗ rbvP c fullShare Finset.univ g)) := by
  rw [k0_part52_eq_skeleton]
  unfold k0_part52_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl⟩
  isplitl [Hk]; · iexact Hk
  iexact Hv

set_option maxHeartbeats 4000000 in
theorem part53 (v780 : FVec F S64x64 .bf16) (v782 : FVec F S64x64 .bf16) (v784 : FVec F S64x64 .bf16) (v785 : Vec F S1x1x64x1x64 .bf16) :
    iprop(rbkP c fullShare Finset.univ f ∗ rbvP c fullShare Finset.univ g)
      ⊢ run c (k0_part53 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v780 v782 v784 v785) (fun r => iprop(⌜r.1 = k0_pay107 v780 v782 v784 v785 (kvBlk f ![4, 0, 0, 3, 0] inb_S8x2x128x4x64_S1x1x64x1x64_4_0_0_3_0) (kvBlk f ![5, 0, 0, 3, 0] inb_S8x2x128x4x64_S1x1x64x1x64_5_0_0_3_0) (kvBlk f ![6, 0, 0, 3, 0] inb_S8x2x128x4x64_S1x1x64x1x64_6_0_0_3_0) (kvBlk f ![7, 0, 0, 3, 0] inb_S8x2x128x4x64_S1x1x64x1x64_7_0_0_3_0) ∧ r.2.1 = k0_pay108 (kvBlk g ![0, 0, 0, 3, 0] inb_S8x2x128x4x64_S1x1x64x1x64_0_0_0_3_0) ∧ r.2.2.1 = k0_pay109 (kvBlk g ![1, 0, 0, 3, 0] inb_S8x2x128x4x64_S1x1x64x1x64_1_0_0_3_0) ∧ r.2.2.2.1 = k0_pay110 (kvBlk g ![2, 0, 0, 3, 0] inb_S8x2x128x4x64_S1x1x64x1x64_2_0_0_3_0) ∧ r.2.2.2.2 = k0_pay111 (kvBlk g ![3, 0, 0, 3, 0] inb_S8x2x128x4x64_S1x1x64x1x64_3_0_0_3_0)⌝ ∗ rbkP c fullShare Finset.univ f ∗ rbvP c fullShare Finset.univ g)) := by
  rw [k0_part53_eq_skeleton]
  unfold k0_part53_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl⟩
  isplitl [Hk]; · iexact Hk
  iexact Hv

set_option maxHeartbeats 4000000 in
theorem part54 (v431 : FVec F S128x4x64 .f32) (v778 : FVec F S64x64 .f32) (v796 : FVec F S512x64 .f32) (v798 : FVec F S64x64 .bf16) (v800 : FVec F S64x64 .bf16) (v802 : FVec F S64x64 .bf16) (v804 : FVec F S64x64 .bf16) :
    iprop(rbkP c fullShare Finset.univ f ∗ rbvP c fullShare Finset.univ g)
      ⊢ run c (k0_part54 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v431 v778 v796 v798 v800 v802 v804) (fun r => iprop(⌜r.1 = k0_pay112 v778 v796 v798 v800 v802 v804 (kvBlk g ![4, 0, 0, 3, 0] inb_S8x2x128x4x64_S1x1x64x1x64_4_0_0_3_0) (kvBlk g ![5, 0, 0, 3, 0] inb_S8x2x128x4x64_S1x1x64x1x64_5_0_0_3_0) (kvBlk g ![6, 0, 0, 3, 0] inb_S8x2x128x4x64_S1x1x64x1x64_6_0_0_3_0) (kvBlk g ![7, 0, 0, 3, 0] inb_S8x2x128x4x64_S1x1x64x1x64_7_0_0_3_0) ∧ r.2.1 = k0_pay113 v431 ∧ r.2.2 = k0_pay114 (kvBlk f ![0, 0, 64, 3, 0] inb_S8x2x128x4x64_S1x1x64x1x64_0_0_64_3_0)⌝ ∗ rbkP c fullShare Finset.univ f ∗ rbvP c fullShare Finset.univ g)) := by
  rw [k0_part54_eq_skeleton]
  unfold k0_part54_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbk c f) $$ [Hk]
  · iexact Hk
  iintro Hk
  iapply run_ret
  isplitr; · ipureintro; exact ⟨rfl, rfl, rfl⟩
  isplitl [Hk]; · iexact Hk
  iexact Hv

set_option maxHeartbeats 4000000 in
theorem part55 (v832 : FVec F S64x64 .bf16) :
    iprop(rbkP c fullShare Finset.univ f ∗ rbvP c fullShare Finset.univ g)
      ⊢ run c (k0_part55 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v832) (fun r => iprop(⌜r.1 = k0_pay115 v832 (kvBlk f ![1, 0, 64, 3, 0] inb_S8x2x128x4x64_S1x1x64x1x64_1_0_64_3_0) (kvBlk f ![2, 0, 64, 3, 0] inb_S8x2x128x4x64_S1x1x64x1x64_2_0_64_3_0) (kvBlk f ![3, 0, 64, 3, 0] inb_S8x2x128x4x64_S1x1x64x1x64_3_0_64_3_0) (kvBlk f ![4, 0, 64, 3, 0] inb_S8x2x128x4x64_S1x1x64x1x64_4_0_64_3_0) (kvBlk f ![5, 0, 64, 3, 0] inb_S8x2x128x4x64_S1x1x64x1x64_5_0_64_3_0) (kvBlk f ![6, 0, 64, 3, 0] inb_S8x2x128x4x64_S1x1x64x1x64_6_0_64_3_0) (kvBlk f ![7, 0, 64, 3, 0] inb_S8x2x128x4x64_S1x1x64x1x64_7_0_64_3_0) ∧ r.2 = k0_pay116 (kvBlk g ![0, 0, 64, 3, 0] inb_S8x2x128x4x64_S1x1x64x1x64_0_0_64_3_0)⌝ ∗ rbkP c fullShare Finset.univ f ∗ rbvP c fullShare Finset.univ g)) := by
  rw [k0_part55_eq_skeleton]
  unfold k0_part55_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply run_ret
  isplitr; · ipureintro; exact ⟨rfl, rfl⟩
  isplitl [Hk]; · iexact Hk
  iexact Hv

set_option maxHeartbeats 4000000 in
theorem part56 (v830 : FVec F S64x64 .f32) (v848 : FVec F S512x64 .f32) (v850 : FVec F S64x64 .bf16) :
    iprop(rbkP c fullShare Finset.univ f ∗ rbvP c fullShare Finset.univ g)
      ⊢ run c (k0_part56 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v830 v848 v850) (fun r => iprop(⌜r.1 = k0_pay117 v850 (kvBlk g ![1, 0, 64, 3, 0] inb_S8x2x128x4x64_S1x1x64x1x64_1_0_64_3_0) (kvBlk g ![2, 0, 64, 3, 0] inb_S8x2x128x4x64_S1x1x64x1x64_2_0_64_3_0) (kvBlk g ![3, 0, 64, 3, 0] inb_S8x2x128x4x64_S1x1x64x1x64_3_0_64_3_0) (kvBlk g ![4, 0, 64, 3, 0] inb_S8x2x128x4x64_S1x1x64x1x64_4_0_64_3_0) (kvBlk g ![5, 0, 64, 3, 0] inb_S8x2x128x4x64_S1x1x64x1x64_5_0_64_3_0) (kvBlk g ![6, 0, 64, 3, 0] inb_S8x2x128x4x64_S1x1x64x1x64_6_0_64_3_0) (kvBlk g ![7, 0, 64, 3, 0] inb_S8x2x128x4x64_S1x1x64x1x64_7_0_64_3_0) ∧ r.2.1 = k0_pay118 v830 v848 ∧ r.2.2 = k0_pay119 v830 v848⌝ ∗ rbkP c fullShare Finset.univ f ∗ rbvP c fullShare Finset.univ g)) := by
  rw [k0_part56_eq_skeleton]
  unfold k0_part56_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl⟩
  isplitl [Hk]; · iexact Hk
  iexact Hv

set_option maxHeartbeats 4000000 in
theorem part57 (v435 : FVec F S128x4x64 .f32) (v566 : FVec F S128x64 .f32) (v671 : FVec F S128x64 .f32) (v776 : FVec F S128x64 .f32) (v828 : FVec F S64x64 .f32) (v866 : FVec F S512x64 .f32) (v875 : FVec F S64x512 .f32) (v876 : FVec F S64 .f32)
    (p P : Vec F S256x512 .bf16) (hw : (pbM.access (Rect.unit (s := S256x512) ![0, 0] S128x512.size inb_S256x512_S128x512_0_0)).read (Elt F) P = (k0_pay120 v566 v671 v776 v828 v866 v875 v876 w4)) :
    iprop(rbkP c fullShare Finset.univ f ∗ rbvP c fullShare Finset.univ g ∗ in4P c w4 ∗ pbP c fullShare (rowsAt 128 0) p)
      ⊢ run c (k0_part57 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v566 v671 v776 v828 v866 v875 v876) (fun r => iprop(⌜r.1 = k0_pay121 v435 ∧ r.2.1 = k0_pay122 (kvBlk f ![0, 1, 0, 0, 0] inb_S8x2x128x4x64_S1x1x64x1x64_0_1_0_0_0) ∧ r.2.2.1 = k0_pay123 (kvBlk f ![1, 1, 0, 0, 0] inb_S8x2x128x4x64_S1x1x64x1x64_1_1_0_0_0) ∧ r.2.2.2.1 = k0_pay124 (kvBlk f ![2, 1, 0, 0, 0] inb_S8x2x128x4x64_S1x1x64x1x64_2_1_0_0_0) ∧ r.2.2.2.2.1 = k0_pay125 (kvBlk f ![3, 1, 0, 0, 0] inb_S8x2x128x4x64_S1x1x64x1x64_3_1_0_0_0) ∧ r.2.2.2.2.2 = k0_pay126 (kvBlk f ![4, 1, 0, 0, 0] inb_S8x2x128x4x64_S1x1x64x1x64_4_1_0_0_0)⌝ ∗ rbkP c fullShare Finset.univ f ∗ rbvP c fullShare Finset.univ g ∗ in4P c w4 ∗ pbP c fullShare (rowsAt 128 0) P)) := by
  rw [k0_part57_eq_skeleton]
  unfold k0_part57_skel
  simp only [Prog.lift, Prog.bind_op, Prog.bind_ret, Prog.pure_eq_ret]
  iintro ⟨Hk, Hv, H4, Hb⟩
  iapply (ld_in4 c w4) $$ [H4]
  · iexact H4
  iintro H4
  iapply (ld_pb c 0 rfl p) $$ [Hb]
  · iexact Hb
  iintro Hb
  iapply (st_pb c 0 rfl p P hw) $$ [Hb]
  · iexact Hb
  iintro Hb
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl⟩
  isplitl [Hk]; · iexact Hk
  isplitl [Hv]; · iexact Hv
  isplitl [H4]; · iexact H4
  iexact Hb

end Cert.SparseAttn

end
-- ==== Proof.Compute1.lean ====
/-
The parts that compute the attention of the second batch.
-/
module

public import proofs.«01_k».proof.Proof.Compute0

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (f g : Vec F S8x2x128x4x64 .bf16) (w4 : Vec F S256x512 .f32)

set_option maxHeartbeats 4000000 in
theorem part58 (v893 : FVec F S64x64 .bf16) (v895 : FVec F S64x64 .bf16) (v897 : FVec F S64x64 .bf16) (v899 : FVec F S64x64 .bf16) (v901 : FVec F S64x64 .bf16) :
    iprop(rbkP c fullShare Finset.univ f ∗ rbvP c fullShare Finset.univ g)
      ⊢ run c (k0_part58 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v893 v895 v897 v899 v901) (fun r => iprop(⌜r.1 = k0_pay127 v893 v895 v897 v899 v901 (kvBlk f ![5, 1, 0, 0, 0] inb_S8x2x128x4x64_S1x1x64x1x64_5_1_0_0_0) (kvBlk f ![6, 1, 0, 0, 0] inb_S8x2x128x4x64_S1x1x64x1x64_6_1_0_0_0) (kvBlk f ![7, 1, 0, 0, 0] inb_S8x2x128x4x64_S1x1x64x1x64_7_1_0_0_0) ∧ r.2.1 = k0_pay128 (kvBlk g ![0, 1, 0, 0, 0] inb_S8x2x128x4x64_S1x1x64x1x64_0_1_0_0_0) ∧ r.2.2.1 = k0_pay129 (kvBlk g ![1, 1, 0, 0, 0] inb_S8x2x128x4x64_S1x1x64x1x64_1_1_0_0_0) ∧ r.2.2.2.1 = k0_pay130 (kvBlk g ![2, 1, 0, 0, 0] inb_S8x2x128x4x64_S1x1x64x1x64_2_1_0_0_0) ∧ r.2.2.2.2.1 = k0_pay131 (kvBlk g ![3, 1, 0, 0, 0] inb_S8x2x128x4x64_S1x1x64x1x64_3_1_0_0_0) ∧ r.2.2.2.2.2 = k0_pay132 (kvBlk g ![4, 1, 0, 0, 0] inb_S8x2x128x4x64_S1x1x64x1x64_4_1_0_0_0)⌝ ∗ rbkP c fullShare Finset.univ f ∗ rbvP c fullShare Finset.univ g)) := by
  rw [k0_part58_eq_skeleton]
  unfold k0_part58_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl, rfl⟩
  isplitl [Hk]; · iexact Hk
  iexact Hv

set_option maxHeartbeats 4000000 in
theorem part59 (v435 : FVec F S128x4x64 .f32) (v891 : FVec F S64x64 .f32) (v909 : FVec F S512x64 .f32) (v911 : FVec F S64x64 .bf16) (v913 : FVec F S64x64 .bf16) (v915 : FVec F S64x64 .bf16) (v917 : FVec F S64x64 .bf16) (v919 : FVec F S64x64 .bf16) :
    iprop(rbkP c fullShare Finset.univ f ∗ rbvP c fullShare Finset.univ g)
      ⊢ run c (k0_part59 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v891 v909 v911 v913 v915 v917 v919) (fun r => iprop(⌜r.1 = k0_pay133 v891 v909 v911 v913 v915 v917 v919 (kvBlk g ![5, 1, 0, 0, 0] inb_S8x2x128x4x64_S1x1x64x1x64_5_1_0_0_0) (kvBlk g ![6, 1, 0, 0, 0] inb_S8x2x128x4x64_S1x1x64x1x64_6_1_0_0_0) (kvBlk g ![7, 1, 0, 0, 0] inb_S8x2x128x4x64_S1x1x64x1x64_7_1_0_0_0) ∧ r.2.1 = k0_pay134 v435 ∧ r.2.2.1 = k0_pay135 (kvBlk f ![0, 1, 64, 0, 0] inb_S8x2x128x4x64_S1x1x64x1x64_0_1_64_0_0) ∧ r.2.2.2.1 = k0_pay136 (kvBlk f ![1, 1, 64, 0, 0] inb_S8x2x128x4x64_S1x1x64x1x64_1_1_64_0_0) ∧ r.2.2.2.2 = k0_pay137 (kvBlk f ![2, 1, 64, 0, 0] inb_S8x2x128x4x64_S1x1x64x1x64_2_1_64_0_0)⌝ ∗ rbkP c fullShare Finset.univ f ∗ rbvP c fullShare Finset.univ g)) := by
  rw [k0_part59_eq_skeleton]
  unfold k0_part59_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl⟩
  isplitl [Hk]; · iexact Hk
  iexact Hv

set_option maxHeartbeats 4000000 in
theorem part60 (v945 : FVec F S64x64 .bf16) (v947 : FVec F S64x64 .bf16) (v949 : FVec F S64x64 .bf16) :
    iprop(rbkP c fullShare Finset.univ f ∗ rbvP c fullShare Finset.univ g)
      ⊢ run c (k0_part60 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v945 v947 v949) (fun r => iprop(⌜r.1 = k0_pay138 v945 v947 v949 (kvBlk f ![3, 1, 64, 0, 0] inb_S8x2x128x4x64_S1x1x64x1x64_3_1_64_0_0) (kvBlk f ![4, 1, 64, 0, 0] inb_S8x2x128x4x64_S1x1x64x1x64_4_1_64_0_0) (kvBlk f ![5, 1, 64, 0, 0] inb_S8x2x128x4x64_S1x1x64x1x64_5_1_64_0_0) (kvBlk f ![6, 1, 64, 0, 0] inb_S8x2x128x4x64_S1x1x64x1x64_6_1_64_0_0) (kvBlk f ![7, 1, 64, 0, 0] inb_S8x2x128x4x64_S1x1x64x1x64_7_1_64_0_0) ∧ r.2.1 = k0_pay139 (kvBlk g ![0, 1, 64, 0, 0] inb_S8x2x128x4x64_S1x1x64x1x64_0_1_64_0_0) ∧ r.2.2.1 = k0_pay140 (kvBlk g ![1, 1, 64, 0, 0] inb_S8x2x128x4x64_S1x1x64x1x64_1_1_64_0_0) ∧ r.2.2.2 = k0_pay141 (kvBlk g ![2, 1, 64, 0, 0] inb_S8x2x128x4x64_S1x1x64x1x64_2_1_64_0_0)⌝ ∗ rbkP c fullShare Finset.univ f ∗ rbvP c fullShare Finset.univ g)) := by
  rw [k0_part60_eq_skeleton]
  unfold k0_part60_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl⟩
  isplitl [Hk]; · iexact Hk
  iexact Hv

set_option maxHeartbeats 4000000 in
theorem part61 (v435 : FVec F S128x4x64 .f32) (v941 : FVec F S64x64 .f32) (v943 : FVec F S64x64 .f32) (v961 : FVec F S512x64 .f32) (v963 : FVec F S64x64 .bf16) (v965 : FVec F S64x64 .bf16) (v967 : FVec F S64x64 .bf16) :
    iprop(rbkP c fullShare Finset.univ f ∗ rbvP c fullShare Finset.univ g)
      ⊢ run c (k0_part61 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v941 v943 v961 v963 v965 v967) (fun r => iprop(⌜r.1 = k0_pay142 v941 v943 v961 v963 v965 v967 (kvBlk g ![3, 1, 64, 0, 0] inb_S8x2x128x4x64_S1x1x64x1x64_3_1_64_0_0) (kvBlk g ![4, 1, 64, 0, 0] inb_S8x2x128x4x64_S1x1x64x1x64_4_1_64_0_0) (kvBlk g ![5, 1, 64, 0, 0] inb_S8x2x128x4x64_S1x1x64x1x64_5_1_64_0_0) (kvBlk g ![6, 1, 64, 0, 0] inb_S8x2x128x4x64_S1x1x64x1x64_6_1_64_0_0) (kvBlk g ![7, 1, 64, 0, 0] inb_S8x2x128x4x64_S1x1x64x1x64_7_1_64_0_0) ∧ r.2 = k0_pay143 v435⌝ ∗ rbkP c fullShare Finset.univ f ∗ rbvP c fullShare Finset.univ g)) := by
  rw [k0_part61_eq_skeleton]
  unfold k0_part61_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl⟩
  isplitl [Hk]; · iexact Hk
  iexact Hv

set_option maxHeartbeats 4000000 in
theorem part62  :
    iprop(rbkP c fullShare Finset.univ f ∗ rbvP c fullShare Finset.univ g)
      ⊢ run c (k0_part62 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15) (fun r => iprop(⌜r = k0_pay144 (kvBlk f ![0, 1, 0, 1, 0] inb_S8x2x128x4x64_S1x1x64x1x64_0_1_0_1_0) (kvBlk f ![1, 1, 0, 1, 0] inb_S8x2x128x4x64_S1x1x64x1x64_1_1_0_1_0) (kvBlk f ![2, 1, 0, 1, 0] inb_S8x2x128x4x64_S1x1x64x1x64_2_1_0_1_0) (kvBlk f ![3, 1, 0, 1, 0] inb_S8x2x128x4x64_S1x1x64x1x64_3_1_0_1_0) (kvBlk f ![4, 1, 0, 1, 0] inb_S8x2x128x4x64_S1x1x64x1x64_4_1_0_1_0) (kvBlk f ![5, 1, 0, 1, 0] inb_S8x2x128x4x64_S1x1x64x1x64_5_1_0_1_0) (kvBlk f ![6, 1, 0, 1, 0] inb_S8x2x128x4x64_S1x1x64x1x64_6_1_0_1_0) (kvBlk f ![7, 1, 0, 1, 0] inb_S8x2x128x4x64_S1x1x64x1x64_7_1_0_1_0)⌝ ∗ rbkP c fullShare Finset.univ f ∗ rbvP c fullShare Finset.univ g)) := by
  rw [k0_part62_eq_skeleton]
  unfold k0_part62_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact rfl
  isplitl [Hk]; · iexact Hk
  iexact Hv

set_option maxHeartbeats 4000000 in
theorem part63 (v996 : FVec F S64x64 .f32) (v1014 : FVec F S512x64 .f32) :
    iprop(rbkP c fullShare Finset.univ f ∗ rbvP c fullShare Finset.univ g)
      ⊢ run c (k0_part63 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v996 v1014) (fun r => iprop(⌜r.1 = k0_pay145 (kvBlk g ![0, 1, 0, 1, 0] inb_S8x2x128x4x64_S1x1x64x1x64_0_1_0_1_0) (kvBlk g ![1, 1, 0, 1, 0] inb_S8x2x128x4x64_S1x1x64x1x64_1_1_0_1_0) (kvBlk g ![2, 1, 0, 1, 0] inb_S8x2x128x4x64_S1x1x64x1x64_2_1_0_1_0) (kvBlk g ![3, 1, 0, 1, 0] inb_S8x2x128x4x64_S1x1x64x1x64_3_1_0_1_0) (kvBlk g ![4, 1, 0, 1, 0] inb_S8x2x128x4x64_S1x1x64x1x64_4_1_0_1_0) (kvBlk g ![5, 1, 0, 1, 0] inb_S8x2x128x4x64_S1x1x64x1x64_5_1_0_1_0) (kvBlk g ![6, 1, 0, 1, 0] inb_S8x2x128x4x64_S1x1x64x1x64_6_1_0_1_0) (kvBlk g ![7, 1, 0, 1, 0] inb_S8x2x128x4x64_S1x1x64x1x64_7_1_0_1_0) ∧ r.2 = k0_pay146 v996 v1014⌝ ∗ rbkP c fullShare Finset.univ f ∗ rbvP c fullShare Finset.univ g)) := by
  rw [k0_part63_eq_skeleton]
  unfold k0_part63_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl⟩
  isplitl [Hk]; · iexact Hk
  iexact Hv

set_option maxHeartbeats 4000000 in
theorem part64 (v435 : FVec F S128x4x64 .f32) (v1032 : FVec F S512x64 .f32) (v1036 : FVec F S64x512 .f32) :
    iprop(rbkP c fullShare Finset.univ f ∗ rbvP c fullShare Finset.univ g)
      ⊢ run c (k0_part64 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v1032 v1036) (fun r => iprop(⌜r.1 = k0_pay147 v1032 v1036 ∧ r.2.1 = k0_pay148 v435 ∧ r.2.2.1 = k0_pay149 (kvBlk f ![0, 1, 64, 1, 0] inb_S8x2x128x4x64_S1x1x64x1x64_0_1_64_1_0) ∧ r.2.2.2.1 = k0_pay150 (kvBlk f ![1, 1, 64, 1, 0] inb_S8x2x128x4x64_S1x1x64x1x64_1_1_64_1_0) ∧ r.2.2.2.2.1 = k0_pay151 (kvBlk f ![2, 1, 64, 1, 0] inb_S8x2x128x4x64_S1x1x64x1x64_2_1_64_1_0) ∧ r.2.2.2.2.2.1 = k0_pay152 (kvBlk f ![3, 1, 64, 1, 0] inb_S8x2x128x4x64_S1x1x64x1x64_3_1_64_1_0) ∧ r.2.2.2.2.2.2.1 = k0_pay153 (kvBlk f ![4, 1, 64, 1, 0] inb_S8x2x128x4x64_S1x1x64x1x64_4_1_64_1_0) ∧ r.2.2.2.2.2.2.2 = k0_pay154 (kvBlk f ![5, 1, 64, 1, 0] inb_S8x2x128x4x64_S1x1x64x1x64_5_1_64_1_0)⌝ ∗ rbkP c fullShare Finset.univ f ∗ rbvP c fullShare Finset.univ g)) := by
  rw [k0_part64_eq_skeleton]
  unfold k0_part64_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl, rfl, rfl⟩
  isplitl [Hk]; · iexact Hk
  iexact Hv

set_option maxHeartbeats 4000000 in
theorem part65 (v1050 : FVec F S64x64 .bf16) (v1052 : FVec F S64x64 .bf16) (v1054 : FVec F S64x64 .bf16) (v1056 : FVec F S64x64 .bf16) (v1058 : FVec F S64x64 .bf16) (v1060 : FVec F S64x64 .bf16) :
    iprop(rbkP c fullShare Finset.univ f ∗ rbvP c fullShare Finset.univ g)
      ⊢ run c (k0_part65 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v1050 v1052 v1054 v1056 v1058 v1060) (fun r => iprop(⌜r.1 = k0_pay155 v1050 v1052 v1054 v1056 v1058 v1060 (kvBlk f ![6, 1, 64, 1, 0] inb_S8x2x128x4x64_S1x1x64x1x64_6_1_64_1_0) (kvBlk f ![7, 1, 64, 1, 0] inb_S8x2x128x4x64_S1x1x64x1x64_7_1_64_1_0) ∧ r.2.1 = k0_pay156 (kvBlk g ![0, 1, 64, 1, 0] inb_S8x2x128x4x64_S1x1x64x1x64_0_1_64_1_0) ∧ r.2.2.1 = k0_pay157 (kvBlk g ![1, 1, 64, 1, 0] inb_S8x2x128x4x64_S1x1x64x1x64_1_1_64_1_0) ∧ r.2.2.2.1 = k0_pay158 (kvBlk g ![2, 1, 64, 1, 0] inb_S8x2x128x4x64_S1x1x64x1x64_2_1_64_1_0) ∧ r.2.2.2.2.1 = k0_pay159 (kvBlk g ![3, 1, 64, 1, 0] inb_S8x2x128x4x64_S1x1x64x1x64_3_1_64_1_0) ∧ r.2.2.2.2.2.1 = k0_pay160 (kvBlk g ![4, 1, 64, 1, 0] inb_S8x2x128x4x64_S1x1x64x1x64_4_1_64_1_0) ∧ r.2.2.2.2.2.2.1 = k0_pay161 (kvBlk g ![5, 1, 64, 1, 0] inb_S8x2x128x4x64_S1x1x64x1x64_5_1_64_1_0) ∧ r.2.2.2.2.2.2.2 = (kvBlk g ![6, 1, 64, 1, 0] inb_S8x2x128x4x64_S1x1x64x1x64_6_1_64_1_0)⌝ ∗ rbkP c fullShare Finset.univ f ∗ rbvP c fullShare Finset.univ g)) := by
  rw [k0_part65_eq_skeleton]
  unfold k0_part65_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl, rfl, rfl, rfl⟩
  isplitl [Hk]; · iexact Hk
  iexact Hv

set_option maxHeartbeats 4000000 in
theorem part66 (v435 : FVec F S128x4x64 .f32) (v1046 : FVec F S64x64 .f32) (v1048 : FVec F S64x64 .f32) (v1066 : FVec F S512x64 .f32) (v1068 : FVec F S64x64 .bf16) (v1070 : FVec F S64x64 .bf16) (v1072 : FVec F S64x64 .bf16) (v1074 : FVec F S64x64 .bf16) (v1076 : FVec F S64x64 .bf16) (v1078 : FVec F S64x64 .bf16) (v1079 : Vec F S1x1x64x1x64 .bf16) :
    iprop(rbkP c fullShare Finset.univ f ∗ rbvP c fullShare Finset.univ g)
      ⊢ run c (k0_part66 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v1046 v1048 v1066 v1068 v1070 v1072 v1074 v1076 v1078 v1079) (fun r => iprop(⌜r.1 = k0_pay162 v1046 v1048 v1066 v1068 v1070 v1072 v1074 v1076 v1078 v1079 (kvBlk g ![7, 1, 64, 1, 0] inb_S8x2x128x4x64_S1x1x64x1x64_7_1_64_1_0) ∧ r.2.1 = k0_pay163 v435 ∧ r.2.2.1 = k0_pay164 (kvBlk f ![0, 1, 0, 2, 0] inb_S8x2x128x4x64_S1x1x64x1x64_0_1_0_2_0) ∧ r.2.2.2.1 = k0_pay165 (kvBlk f ![1, 1, 0, 2, 0] inb_S8x2x128x4x64_S1x1x64x1x64_1_1_0_2_0) ∧ r.2.2.2.2.1 = k0_pay166 (kvBlk f ![2, 1, 0, 2, 0] inb_S8x2x128x4x64_S1x1x64x1x64_2_1_0_2_0) ∧ r.2.2.2.2.2 = k0_pay167 (kvBlk f ![3, 1, 0, 2, 0] inb_S8x2x128x4x64_S1x1x64x1x64_3_1_0_2_0)⌝ ∗ rbkP c fullShare Finset.univ f ∗ rbvP c fullShare Finset.univ g)) := by
  rw [k0_part66_eq_skeleton]
  unfold k0_part66_skel
  simp only [Prog.lift, Prog.bind_op, Prog.bind_ret, Prog.pure_eq_ret]
  iintro ⟨Hk, Hv⟩
  iapply (ld_kv_rbv c g) $$ [Hv]
  · iexact Hv
  iintro Hv
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl⟩
  isplitl [Hk]; · iexact Hk
  iexact Hv

set_option maxHeartbeats 4000000 in
theorem part67 (v1103 : FVec F S64x64 .bf16) (v1105 : FVec F S64x64 .bf16) (v1107 : FVec F S64x64 .bf16) (v1109 : FVec F S64x64 .bf16) :
    iprop(rbkP c fullShare Finset.univ f ∗ rbvP c fullShare Finset.univ g)
      ⊢ run c (k0_part67 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v1103 v1105 v1107 v1109) (fun r => iprop(⌜r.1 = k0_pay168 v1103 v1105 v1107 v1109 (kvBlk f ![4, 1, 0, 2, 0] inb_S8x2x128x4x64_S1x1x64x1x64_4_1_0_2_0) (kvBlk f ![5, 1, 0, 2, 0] inb_S8x2x128x4x64_S1x1x64x1x64_5_1_0_2_0) (kvBlk f ![6, 1, 0, 2, 0] inb_S8x2x128x4x64_S1x1x64x1x64_6_1_0_2_0) (kvBlk f ![7, 1, 0, 2, 0] inb_S8x2x128x4x64_S1x1x64x1x64_7_1_0_2_0) ∧ r.2.1 = k0_pay169 (kvBlk g ![0, 1, 0, 2, 0] inb_S8x2x128x4x64_S1x1x64x1x64_0_1_0_2_0) ∧ r.2.2.1 = k0_pay170 (kvBlk g ![1, 1, 0, 2, 0] inb_S8x2x128x4x64_S1x1x64x1x64_1_1_0_2_0) ∧ r.2.2.2.1 = k0_pay171 (kvBlk g ![2, 1, 0, 2, 0] inb_S8x2x128x4x64_S1x1x64x1x64_2_1_0_2_0) ∧ r.2.2.2.2 = k0_pay172 (kvBlk g ![3, 1, 0, 2, 0] inb_S8x2x128x4x64_S1x1x64x1x64_3_1_0_2_0)⌝ ∗ rbkP c fullShare Finset.univ f ∗ rbvP c fullShare Finset.univ g)) := by
  rw [k0_part67_eq_skeleton]
  unfold k0_part67_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl⟩
  isplitl [Hk]; · iexact Hk
  iexact Hv

set_option maxHeartbeats 4000000 in
theorem part68 (v435 : FVec F S128x4x64 .f32) (v1101 : FVec F S64x64 .f32) (v1119 : FVec F S512x64 .f32) (v1121 : FVec F S64x64 .bf16) (v1123 : FVec F S64x64 .bf16) (v1125 : FVec F S64x64 .bf16) (v1127 : FVec F S64x64 .bf16) :
    iprop(rbkP c fullShare Finset.univ f ∗ rbvP c fullShare Finset.univ g)
      ⊢ run c (k0_part68 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v1101 v1119 v1121 v1123 v1125 v1127) (fun r => iprop(⌜r.1 = k0_pay173 v1101 v1119 v1121 v1123 v1125 v1127 (kvBlk g ![4, 1, 0, 2, 0] inb_S8x2x128x4x64_S1x1x64x1x64_4_1_0_2_0) (kvBlk g ![5, 1, 0, 2, 0] inb_S8x2x128x4x64_S1x1x64x1x64_5_1_0_2_0) (kvBlk g ![6, 1, 0, 2, 0] inb_S8x2x128x4x64_S1x1x64x1x64_6_1_0_2_0) (kvBlk g ![7, 1, 0, 2, 0] inb_S8x2x128x4x64_S1x1x64x1x64_7_1_0_2_0) ∧ r.2.1 = k0_pay174 v435 ∧ r.2.2 = k0_pay175 (kvBlk f ![0, 1, 64, 2, 0] inb_S8x2x128x4x64_S1x1x64x1x64_0_1_64_2_0)⌝ ∗ rbkP c fullShare Finset.univ f ∗ rbvP c fullShare Finset.univ g)) := by
  rw [k0_part68_eq_skeleton]
  unfold k0_part68_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbk c f) $$ [Hk]
  · iexact Hk
  iintro Hk
  iapply run_ret
  isplitr; · ipureintro; exact ⟨rfl, rfl, rfl⟩
  isplitl [Hk]; · iexact Hk
  iexact Hv

set_option maxHeartbeats 4000000 in
theorem part69 (v1155 : FVec F S64x64 .bf16) :
    iprop(rbkP c fullShare Finset.univ f ∗ rbvP c fullShare Finset.univ g)
      ⊢ run c (k0_part69 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v1155) (fun r => iprop(⌜r.1 = k0_pay176 v1155 (kvBlk f ![1, 1, 64, 2, 0] inb_S8x2x128x4x64_S1x1x64x1x64_1_1_64_2_0) (kvBlk f ![2, 1, 64, 2, 0] inb_S8x2x128x4x64_S1x1x64x1x64_2_1_64_2_0) (kvBlk f ![3, 1, 64, 2, 0] inb_S8x2x128x4x64_S1x1x64x1x64_3_1_64_2_0) (kvBlk f ![4, 1, 64, 2, 0] inb_S8x2x128x4x64_S1x1x64x1x64_4_1_64_2_0) (kvBlk f ![5, 1, 64, 2, 0] inb_S8x2x128x4x64_S1x1x64x1x64_5_1_64_2_0) (kvBlk f ![6, 1, 64, 2, 0] inb_S8x2x128x4x64_S1x1x64x1x64_6_1_64_2_0) (kvBlk f ![7, 1, 64, 2, 0] inb_S8x2x128x4x64_S1x1x64x1x64_7_1_64_2_0) ∧ r.2.1 = k0_pay177 (kvBlk g ![0, 1, 64, 2, 0] inb_S8x2x128x4x64_S1x1x64x1x64_0_1_64_2_0) ∧ r.2.2 = (kvBlk g ![1, 1, 64, 2, 0] inb_S8x2x128x4x64_S1x1x64x1x64_1_1_64_2_0)⌝ ∗ rbkP c fullShare Finset.univ f ∗ rbvP c fullShare Finset.univ g)) := by
  rw [k0_part69_eq_skeleton]
  unfold k0_part69_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl⟩
  isplitl [Hk]; · iexact Hk
  iexact Hv

set_option maxHeartbeats 4000000 in
theorem part70 (v1153 : FVec F S64x64 .f32) (v1171 : FVec F S512x64 .f32) (v1173 : FVec F S64x64 .bf16) (v1174 : Vec F S1x1x64x1x64 .bf16) :
    iprop(rbkP c fullShare Finset.univ f ∗ rbvP c fullShare Finset.univ g)
      ⊢ run c (k0_part70 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v1153 v1171 v1173 v1174) (fun r => iprop(⌜r.1 = k0_pay178 v1173 v1174 (kvBlk g ![2, 1, 64, 2, 0] inb_S8x2x128x4x64_S1x1x64x1x64_2_1_64_2_0) (kvBlk g ![3, 1, 64, 2, 0] inb_S8x2x128x4x64_S1x1x64x1x64_3_1_64_2_0) (kvBlk g ![4, 1, 64, 2, 0] inb_S8x2x128x4x64_S1x1x64x1x64_4_1_64_2_0) (kvBlk g ![5, 1, 64, 2, 0] inb_S8x2x128x4x64_S1x1x64x1x64_5_1_64_2_0) (kvBlk g ![6, 1, 64, 2, 0] inb_S8x2x128x4x64_S1x1x64x1x64_6_1_64_2_0) (kvBlk g ![7, 1, 64, 2, 0] inb_S8x2x128x4x64_S1x1x64x1x64_7_1_64_2_0) ∧ r.2.1 = k0_pay179 v1153 v1171 ∧ r.2.2 = k0_pay180 v1153 v1171⌝ ∗ rbkP c fullShare Finset.univ f ∗ rbvP c fullShare Finset.univ g)) := by
  rw [k0_part70_eq_skeleton]
  unfold k0_part70_skel
  simp only [Prog.lift, Prog.bind_op, Prog.bind_ret, Prog.pure_eq_ret]
  iintro ⟨Hk, Hv⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl⟩
  isplitl [Hk]; · iexact Hk
  iexact Hv

set_option maxHeartbeats 4000000 in
theorem part71 (v435 : FVec F S128x4x64 .f32) (v1151 : FVec F S64x64 .f32) (v1189 : FVec F S512x64 .f32) (v1198 : FVec F S64x512 .f32) (v1200 : FVec F S64x1 .f32) :
    iprop(rbkP c fullShare Finset.univ f ∗ rbvP c fullShare Finset.univ g)
      ⊢ run c (k0_part71 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v1151 v1189 v1198 v1200) (fun r => iprop(⌜r.1 = k0_pay181 v1151 v1189 v1198 v1200 ∧ r.2.1 = k0_pay182 v435 ∧ r.2.2.1 = k0_pay183 (kvBlk f ![0, 1, 0, 3, 0] inb_S8x2x128x4x64_S1x1x64x1x64_0_1_0_3_0) ∧ r.2.2.2.1 = k0_pay184 (kvBlk f ![1, 1, 0, 3, 0] inb_S8x2x128x4x64_S1x1x64x1x64_1_1_0_3_0) ∧ r.2.2.2.2.1 = k0_pay185 (kvBlk f ![2, 1, 0, 3, 0] inb_S8x2x128x4x64_S1x1x64x1x64_2_1_0_3_0) ∧ r.2.2.2.2.2.1 = k0_pay186 (kvBlk f ![3, 1, 0, 3, 0] inb_S8x2x128x4x64_S1x1x64x1x64_3_1_0_3_0) ∧ r.2.2.2.2.2.2.1 = k0_pay187 (kvBlk f ![4, 1, 0, 3, 0] inb_S8x2x128x4x64_S1x1x64x1x64_4_1_0_3_0) ∧ r.2.2.2.2.2.2.2.1 = k0_pay188 (kvBlk f ![5, 1, 0, 3, 0] inb_S8x2x128x4x64_S1x1x64x1x64_5_1_0_3_0) ∧ r.2.2.2.2.2.2.2.2 = k0_pay189 (kvBlk f ![6, 1, 0, 3, 0] inb_S8x2x128x4x64_S1x1x64x1x64_6_1_0_3_0)⌝ ∗ rbkP c fullShare Finset.univ f ∗ rbvP c fullShare Finset.univ g)) := by
  rw [k0_part71_eq_skeleton]
  unfold k0_part71_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl, rfl, rfl, rfl⟩
  isplitl [Hk]; · iexact Hk
  iexact Hv

set_option maxHeartbeats 4000000 in
theorem part72 (v1208 : FVec F S64x64 .bf16) (v1210 : FVec F S64x64 .bf16) (v1212 : FVec F S64x64 .bf16) (v1214 : FVec F S64x64 .bf16) (v1216 : FVec F S64x64 .bf16) (v1218 : FVec F S64x64 .bf16) (v1220 : FVec F S64x64 .bf16) :
    iprop(rbkP c fullShare Finset.univ f ∗ rbvP c fullShare Finset.univ g)
      ⊢ run c (k0_part72 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v1208 v1210 v1212 v1214 v1216 v1218 v1220) (fun r => iprop(⌜r.1 = k0_pay190 v1208 v1210 v1212 v1214 v1216 v1218 v1220 (kvBlk f ![7, 1, 0, 3, 0] inb_S8x2x128x4x64_S1x1x64x1x64_7_1_0_3_0) ∧ r.2.1 = k0_pay191 (kvBlk g ![0, 1, 0, 3, 0] inb_S8x2x128x4x64_S1x1x64x1x64_0_1_0_3_0) ∧ r.2.2.1 = k0_pay192 (kvBlk g ![1, 1, 0, 3, 0] inb_S8x2x128x4x64_S1x1x64x1x64_1_1_0_3_0) ∧ r.2.2.2.1 = k0_pay193 (kvBlk g ![2, 1, 0, 3, 0] inb_S8x2x128x4x64_S1x1x64x1x64_2_1_0_3_0) ∧ r.2.2.2.2.1 = k0_pay194 (kvBlk g ![3, 1, 0, 3, 0] inb_S8x2x128x4x64_S1x1x64x1x64_3_1_0_3_0) ∧ r.2.2.2.2.2.1 = k0_pay195 (kvBlk g ![4, 1, 0, 3, 0] inb_S8x2x128x4x64_S1x1x64x1x64_4_1_0_3_0) ∧ r.2.2.2.2.2.2.1 = k0_pay196 (kvBlk g ![5, 1, 0, 3, 0] inb_S8x2x128x4x64_S1x1x64x1x64_5_1_0_3_0) ∧ r.2.2.2.2.2.2.2.1 = k0_pay197 (kvBlk g ![6, 1, 0, 3, 0] inb_S8x2x128x4x64_S1x1x64x1x64_6_1_0_3_0) ∧ r.2.2.2.2.2.2.2.2 = (kvBlk g ![7, 1, 0, 3, 0] inb_S8x2x128x4x64_S1x1x64x1x64_7_1_0_3_0)⌝ ∗ rbkP c fullShare Finset.univ f ∗ rbvP c fullShare Finset.univ g)) := by
  rw [k0_part72_eq_skeleton]
  unfold k0_part72_skel
  simp only [Prog.lift, Prog.bind_op, Prog.bind_ret, Prog.pure_eq_ret]
  iintro ⟨Hk, Hv⟩
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl, rfl, rfl, rfl, rfl⟩
  isplitl [Hk]; · iexact Hk
  iexact Hv

set_option maxHeartbeats 4000000 in
theorem part73 (v435 : FVec F S128x4x64 .f32) (v1206 : FVec F S64x64 .f32) (v1224 : FVec F S512x64 .f32) (v1226 : FVec F S64x64 .bf16) (v1228 : FVec F S64x64 .bf16) (v1230 : FVec F S64x64 .bf16) (v1232 : FVec F S64x64 .bf16) (v1234 : FVec F S64x64 .bf16) (v1236 : FVec F S64x64 .bf16) (v1238 : FVec F S64x64 .bf16) (v1239 : Vec F S1x1x64x1x64 .bf16) :
    iprop(rbkP c fullShare Finset.univ f ∗ rbvP c fullShare Finset.univ g)
      ⊢ run c (k0_part73 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v435 v1206 v1224 v1226 v1228 v1230 v1232 v1234 v1236 v1238 v1239) (fun r => iprop(⌜r.1 = k0_pay198 v1206 v1224 v1226 v1228 v1230 v1232 v1234 v1236 v1238 v1239 ∧ r.2.1 = k0_pay199 v435 ∧ r.2.2.1 = k0_pay200 (kvBlk f ![0, 1, 64, 3, 0] inb_S8x2x128x4x64_S1x1x64x1x64_0_1_64_3_0) ∧ r.2.2.2.1 = k0_pay201 (kvBlk f ![1, 1, 64, 3, 0] inb_S8x2x128x4x64_S1x1x64x1x64_1_1_64_3_0) ∧ r.2.2.2.2.1 = k0_pay202 (kvBlk f ![2, 1, 64, 3, 0] inb_S8x2x128x4x64_S1x1x64x1x64_2_1_64_3_0) ∧ r.2.2.2.2.2.1 = k0_pay203 (kvBlk f ![3, 1, 64, 3, 0] inb_S8x2x128x4x64_S1x1x64x1x64_3_1_64_3_0) ∧ r.2.2.2.2.2.2 = k0_pay204 (kvBlk f ![4, 1, 64, 3, 0] inb_S8x2x128x4x64_S1x1x64x1x64_4_1_64_3_0)⌝ ∗ rbkP c fullShare Finset.univ f ∗ rbvP c fullShare Finset.univ g)) := by
  rw [k0_part73_eq_skeleton]
  unfold k0_part73_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply run_ret
  isplitr; · ipureintro; exact ⟨rfl, rfl, rfl, rfl, rfl, rfl, rfl⟩
  isplitl [Hk]; · iexact Hk
  iexact Hv

set_option maxHeartbeats 4000000 in
theorem part74 (v1260 : FVec F S64x64 .bf16) (v1262 : FVec F S64x64 .bf16) (v1264 : FVec F S64x64 .bf16) (v1266 : FVec F S64x64 .bf16) (v1268 : FVec F S64x64 .bf16) :
    iprop(rbkP c fullShare Finset.univ f ∗ rbvP c fullShare Finset.univ g)
      ⊢ run c (k0_part74 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v1260 v1262 v1264 v1266 v1268) (fun r => iprop(⌜r.1 = k0_pay205 v1260 v1262 v1264 v1266 v1268 (kvBlk f ![5, 1, 64, 3, 0] inb_S8x2x128x4x64_S1x1x64x1x64_5_1_64_3_0) (kvBlk f ![6, 1, 64, 3, 0] inb_S8x2x128x4x64_S1x1x64x1x64_6_1_64_3_0) (kvBlk f ![7, 1, 64, 3, 0] inb_S8x2x128x4x64_S1x1x64x1x64_7_1_64_3_0) ∧ r.2.1 = k0_pay206 (kvBlk g ![0, 1, 64, 3, 0] inb_S8x2x128x4x64_S1x1x64x1x64_0_1_64_3_0) ∧ r.2.2.1 = k0_pay207 (kvBlk g ![1, 1, 64, 3, 0] inb_S8x2x128x4x64_S1x1x64x1x64_1_1_64_3_0) ∧ r.2.2.2.1 = k0_pay208 (kvBlk g ![2, 1, 64, 3, 0] inb_S8x2x128x4x64_S1x1x64x1x64_2_1_64_3_0) ∧ r.2.2.2.2.1 = k0_pay209 (kvBlk g ![3, 1, 64, 3, 0] inb_S8x2x128x4x64_S1x1x64x1x64_3_1_64_3_0) ∧ r.2.2.2.2.2 = k0_pay210 (kvBlk g ![4, 1, 64, 3, 0] inb_S8x2x128x4x64_S1x1x64x1x64_4_1_64_3_0)⌝ ∗ rbkP c fullShare Finset.univ f ∗ rbvP c fullShare Finset.univ g)) := by
  rw [k0_part74_eq_skeleton]
  unfold k0_part74_skel
  simp only [Prog.lift, Prog.bind_op, Prog.bind_ret, Prog.pure_eq_ret]
  iintro ⟨Hk, Hv⟩
  iapply (ld_kv_rbk c f) $$ [Hk]
  · iexact Hk
  iintro Hk
  iapply (ld_kv_rbk c f) $$ [Hk]
  · iexact Hk
  iintro Hk
  iapply (ld_kv_rbk c f) $$ [Hk]
  · iexact Hk
  iintro Hk
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply run_ret
  isplitr; · ipureintro; exact ⟨rfl, rfl, rfl, rfl, rfl, rfl⟩
  isplitl [Hk]; · iexact Hk
  iexact Hv

set_option maxHeartbeats 4000000 in
theorem part75 (v2 : BitVec 32) (v994 : FVec F S128x64 .f32) (v1099 : FVec F S128x64 .f32) (v1204 : FVec F S128x64 .f32) (v1256 : FVec F S64x64 .f32) (v1258 : FVec F S64x64 .f32) (v1276 : FVec F S512x64 .f32) (v1278 : FVec F S64x64 .bf16) (v1280 : FVec F S64x64 .bf16) (v1282 : FVec F S64x64 .bf16) (v1284 : FVec F S64x64 .bf16) (v1286 : FVec F S64x64 .bf16)
    (p P : Vec F S256x512 .bf16) (hw : (pbM.access (Rect.unit (s := S256x512) ![128, 0] S128x512.size inb_S256x512_S128x512_128_0)).read (Elt F) P = (k0_pay211 v994 v1099 v1204 v1256 v1258 v1276 v1278 v1280 v1282 v1284 v1286 (kvBlk g ![5, 1, 64, 3, 0] inb_S8x2x128x4x64_S1x1x64x1x64_5_1_64_3_0) (kvBlk g ![6, 1, 64, 3, 0] inb_S8x2x128x4x64_S1x1x64x1x64_6_1_64_3_0) (kvBlk g ![7, 1, 64, 3, 0] inb_S8x2x128x4x64_S1x1x64x1x64_7_1_64_3_0) w4)) :
    iprop(rbkP c fullShare Finset.univ f ∗ rbvP c fullShare Finset.univ g ∗ in4P c w4 ∗ pbP c fullShare (rowsAt 128 1) p)
      ⊢ run c (k0_part75 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 v2 v994 v1099 v1204 v1256 v1258 v1276 v1278 v1280 v1282 v1284 v1286) (fun r => iprop(rbkP c fullShare Finset.univ f ∗ rbvP c fullShare Finset.univ g ∗ in4P c w4 ∗ pbP c fullShare (rowsAt 128 1) P)) := by
  rw [k0_part75_eq_skeleton]
  unfold k0_part75_skel
  simp only [Prog.lift, Prog.bind_op, Prog.bind_ret, Prog.pure_eq_ret]
  iintro ⟨Hk, Hv, H4, Hb⟩
  iapply (ld_kv_rbv c g) $$ [Hv]
  · iexact Hv
  iintro Hv
  iapply (ld_kv_rbv c g) $$ [Hv]
  · iexact Hv
  iintro Hv
  iapply (ld_kv_rbv c g) $$ [Hv]
  · iexact Hv
  iintro Hv
  iapply (ld_in4 c w4) $$ [H4]
  · iexact H4
  iintro H4
  iapply (ld_pb c 1 rfl p) $$ [Hb]
  · iexact Hb
  iintro Hb
  iapply (st_pb c 1 rfl p P hw) $$ [Hb]
  · iexact Hb
  iintro Hb
  iapply run_ret
  isplitl [Hk]; · iexact Hk
  isplitl [Hv]; · iexact Hv
  isplitl [H4]; · iexact H4
  iexact Hb

end Cert.SparseAttn

end
-- ==== Proof.Match.lean ====
/-
The values the body computes, in order, are those of the attention.
-/
module

public import proofs.«01_k».proof.Proof.Compute1

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable {x : Vec F S2x128x512 .f32} {wq : Vec F S512x256 .f32} {f g : Vec F S8x2x128x4x64 .bf16} {wo : Vec F S256x512 .f32}

theorem head00 {v431 : FVec F S128x4x64 .f32} {v463 : FVec F S64x64 .f32} {v465 : FVec F S64x64 .bf16} {v481 : FVec F S512x64 .f32} {v483 : FVec F S64x64 .bf16} {v485 : FVec F S64x64 .bf16} {v499 : FVec F S512x64 .f32} {v508 : FVec F S64x512 .f32} {v511 : FVec F S64x512 .f32} {v513 : FVec F S64x64 .f32} {v515 : FVec F S64x64 .f32} {v517 : FVec F S64x64 .bf16} {v519 : FVec F S64x64 .bf16} {v521 : FVec F S64x64 .bf16} {v523 : FVec F S64x64 .bf16} {v525 : FVec F S64x64 .bf16} {v527 : FVec F S64x64 .bf16} {v529 : FVec F S64x64 .bf16} {v530 : Vec F S1x1x64x1x64 .bf16} {v533 : FVec F S512x64 .f32} {v550 : FVec F S512x64 .bf16} {v566 : FVec F S128x64 .f32} (h483 : v483 = k0_pay45 (kvBlk g ![0, 0, 0, 0, 0] inb_S8x2x128x4x64_S1x1x64x1x64_0_0_0_0_0)) (h485 : v485 = k0_pay46 (kvBlk g ![1, 0, 0, 0, 0] inb_S8x2x128x4x64_S1x1x64x1x64_1_0_0_0_0)) (h499 : v499 = k0_pay47 v483 v485 (kvBlk g ![2, 0, 0, 0, 0] inb_S8x2x128x4x64_S1x1x64x1x64_2_0_0_0_0) (kvBlk g ![3, 0, 0, 0, 0] inb_S8x2x128x4x64_S1x1x64x1x64_3_0_0_0_0) (kvBlk g ![4, 0, 0, 0, 0] inb_S8x2x128x4x64_S1x1x64x1x64_4_0_0_0_0) (kvBlk g ![5, 0, 0, 0, 0] inb_S8x2x128x4x64_S1x1x64x1x64_5_0_0_0_0) (kvBlk g ![6, 0, 0, 0, 0] inb_S8x2x128x4x64_S1x1x64x1x64_6_0_0_0_0) (kvBlk g ![7, 0, 0, 0, 0] inb_S8x2x128x4x64_S1x1x64x1x64_7_0_0_0_0)) (h463 : v463 = k0_pay42 v431) (h465 : v465 = k0_pay43 (kvBlk f ![0, 0, 0, 0, 0] inb_S8x2x128x4x64_S1x1x64x1x64_0_0_0_0_0)) (h481 : v481 = k0_pay44 v465 (kvBlk f ![1, 0, 0, 0, 0] inb_S8x2x128x4x64_S1x1x64x1x64_1_0_0_0_0) (kvBlk f ![2, 0, 0, 0, 0] inb_S8x2x128x4x64_S1x1x64x1x64_2_0_0_0_0) (kvBlk f ![3, 0, 0, 0, 0] inb_S8x2x128x4x64_S1x1x64x1x64_3_0_0_0_0) (kvBlk f ![4, 0, 0, 0, 0] inb_S8x2x128x4x64_S1x1x64x1x64_4_0_0_0_0) (kvBlk f ![5, 0, 0, 0, 0] inb_S8x2x128x4x64_S1x1x64x1x64_5_0_0_0_0) (kvBlk f ![6, 0, 0, 0, 0] inb_S8x2x128x4x64_S1x1x64x1x64_6_0_0_0_0) (kvBlk f ![7, 0, 0, 0, 0] inb_S8x2x128x4x64_S1x1x64x1x64_7_0_0_0_0)) (h508 : v508 = k0_pay48 v463 v481) (h511 : v511 = k0_pay49 v463 v481) (h513 : v513 = k0_pay50 v499 v508 v511) (h515 : v515 = k0_pay51 v431) (h517 : v517 = k0_pay52 (kvBlk f ![0, 0, 64, 0, 0] inb_S8x2x128x4x64_S1x1x64x1x64_0_0_64_0_0)) (h519 : v519 = k0_pay53 (kvBlk f ![1, 0, 64, 0, 0] inb_S8x2x128x4x64_S1x1x64x1x64_1_0_64_0_0)) (h521 : v521 = k0_pay54 (kvBlk f ![2, 0, 64, 0, 0] inb_S8x2x128x4x64_S1x1x64x1x64_2_0_64_0_0)) (h523 : v523 = k0_pay55 (kvBlk f ![3, 0, 64, 0, 0] inb_S8x2x128x4x64_S1x1x64x1x64_3_0_64_0_0)) (h525 : v525 = k0_pay56 (kvBlk f ![4, 0, 64, 0, 0] inb_S8x2x128x4x64_S1x1x64x1x64_4_0_64_0_0)) (h527 : v527 = k0_pay57 (kvBlk f ![5, 0, 64, 0, 0] inb_S8x2x128x4x64_S1x1x64x1x64_5_0_64_0_0)) (h529 : v529 = k0_pay58 (kvBlk f ![6, 0, 64, 0, 0] inb_S8x2x128x4x64_S1x1x64x1x64_6_0_64_0_0)) (h530 : v530 = (kvBlk f ![7, 0, 64, 0, 0] inb_S8x2x128x4x64_S1x1x64x1x64_7_0_64_0_0)) (h533 : v533 = k0_pay59 v517 v519 v521 v523 v525 v527 v529 v530) (h550 : v550 = k0_pay60 (kvBlk g ![0, 0, 64, 0, 0] inb_S8x2x128x4x64_S1x1x64x1x64_0_0_64_0_0) (kvBlk g ![1, 0, 64, 0, 0] inb_S8x2x128x4x64_S1x1x64x1x64_1_0_64_0_0) (kvBlk g ![2, 0, 64, 0, 0] inb_S8x2x128x4x64_S1x1x64x1x64_2_0_64_0_0) (kvBlk g ![3, 0, 64, 0, 0] inb_S8x2x128x4x64_S1x1x64x1x64_3_0_64_0_0) (kvBlk g ![4, 0, 64, 0, 0] inb_S8x2x128x4x64_S1x1x64x1x64_4_0_64_0_0) (kvBlk g ![5, 0, 64, 0, 0] inb_S8x2x128x4x64_S1x1x64x1x64_5_0_64_0_0) (kvBlk g ![6, 0, 64, 0, 0] inb_S8x2x128x4x64_S1x1x64x1x64_6_0_64_0_0) (kvBlk g ![7, 0, 64, 0, 0] inb_S8x2x128x4x64_S1x1x64x1x64_7_0_64_0_0)) (h566 : v566 = k0_pay61 v513 v515 v533 v550) :
    v566 = ctx v431 f g 0 0 := by
  subst v566 v550 v533 v530 v529 v527 v525 v523 v521 v519 v517 v515 v513 v511 v508 v481 v465 v463 v499 v485 v483
  rfl

theorem head01 {v431 : FVec F S128x4x64 .f32} {v568 : FVec F S64x64 .f32} {v570 : FVec F S64x64 .bf16} {v572 : FVec F S64x64 .bf16} {v574 : FVec F S64x64 .bf16} {v576 : FVec F S64x64 .bf16} {v578 : FVec F S64x64 .bf16} {v586 : FVec F S512x64 .f32} {v588 : FVec F S64x64 .bf16} {v590 : FVec F S64x64 .bf16} {v592 : FVec F S64x64 .bf16} {v594 : FVec F S64x64 .bf16} {v596 : FVec F S64x64 .bf16} {v618 : FVec F S64x64 .f32} {v620 : FVec F S64x64 .f32} {v622 : FVec F S64x64 .bf16} {v624 : FVec F S64x64 .bf16} {v625 : Vec F S1x1x64x1x64 .bf16} {v638 : FVec F S512x64 .f32} {v640 : FVec F S64x64 .bf16} {v642 : FVec F S64x64 .bf16} {v644 : FVec F S64x64 .bf16} {v671 : FVec F S128x64 .f32} (h568 : v568 = k0_pay62 v431) (h570 : v570 = k0_pay63 (kvBlk f ![0, 0, 0, 1, 0] inb_S8x2x128x4x64_S1x1x64x1x64_0_0_0_1_0)) (h572 : v572 = k0_pay64 (kvBlk f ![1, 0, 0, 1, 0] inb_S8x2x128x4x64_S1x1x64x1x64_1_0_0_1_0)) (h574 : v574 = k0_pay65 (kvBlk f ![2, 0, 0, 1, 0] inb_S8x2x128x4x64_S1x1x64x1x64_2_0_0_1_0)) (h576 : v576 = k0_pay66 (kvBlk f ![3, 0, 0, 1, 0] inb_S8x2x128x4x64_S1x1x64x1x64_3_0_0_1_0)) (h578 : v578 = k0_pay67 (kvBlk f ![4, 0, 0, 1, 0] inb_S8x2x128x4x64_S1x1x64x1x64_4_0_0_1_0)) (h586 : v586 = k0_pay68 v570 v572 v574 v576 v578 (kvBlk f ![5, 0, 0, 1, 0] inb_S8x2x128x4x64_S1x1x64x1x64_5_0_0_1_0) (kvBlk f ![6, 0, 0, 1, 0] inb_S8x2x128x4x64_S1x1x64x1x64_6_0_0_1_0) (kvBlk f ![7, 0, 0, 1, 0] inb_S8x2x128x4x64_S1x1x64x1x64_7_0_0_1_0)) (h588 : v588 = k0_pay69 (kvBlk g ![0, 0, 0, 1, 0] inb_S8x2x128x4x64_S1x1x64x1x64_0_0_0_1_0)) (h590 : v590 = k0_pay70 (kvBlk g ![1, 0, 0, 1, 0] inb_S8x2x128x4x64_S1x1x64x1x64_1_0_0_1_0)) (h592 : v592 = k0_pay71 (kvBlk g ![2, 0, 0, 1, 0] inb_S8x2x128x4x64_S1x1x64x1x64_2_0_0_1_0)) (h594 : v594 = k0_pay72 (kvBlk g ![3, 0, 0, 1, 0] inb_S8x2x128x4x64_S1x1x64x1x64_3_0_0_1_0)) (h596 : v596 = k0_pay73 (kvBlk g ![4, 0, 0, 1, 0] inb_S8x2x128x4x64_S1x1x64x1x64_4_0_0_1_0)) (h618 : v618 = k0_pay74 v568 v586 v588 v590 v592 v594 v596 (kvBlk g ![5, 0, 0, 1, 0] inb_S8x2x128x4x64_S1x1x64x1x64_5_0_0_1_0) (kvBlk g ![6, 0, 0, 1, 0] inb_S8x2x128x4x64_S1x1x64x1x64_6_0_0_1_0) (kvBlk g ![7, 0, 0, 1, 0] inb_S8x2x128x4x64_S1x1x64x1x64_7_0_0_1_0)) (h620 : v620 = k0_pay75 v431) (h622 : v622 = k0_pay76 (kvBlk f ![0, 0, 64, 1, 0] inb_S8x2x128x4x64_S1x1x64x1x64_0_0_64_1_0)) (h624 : v624 = k0_pay77 (kvBlk f ![1, 0, 64, 1, 0] inb_S8x2x128x4x64_S1x1x64x1x64_1_0_64_1_0)) (h625 : v625 = (kvBlk f ![2, 0, 64, 1, 0] inb_S8x2x128x4x64_S1x1x64x1x64_2_0_64_1_0)) (h638 : v638 = k0_pay78 v622 v624 v625 (kvBlk f ![3, 0, 64, 1, 0] inb_S8x2x128x4x64_S1x1x64x1x64_3_0_64_1_0) (kvBlk f ![4, 0, 64, 1, 0] inb_S8x2x128x4x64_S1x1x64x1x64_4_0_64_1_0) (kvBlk f ![5, 0, 64, 1, 0] inb_S8x2x128x4x64_S1x1x64x1x64_5_0_64_1_0) (kvBlk f ![6, 0, 64, 1, 0] inb_S8x2x128x4x64_S1x1x64x1x64_6_0_64_1_0) (kvBlk f ![7, 0, 64, 1, 0] inb_S8x2x128x4x64_S1x1x64x1x64_7_0_64_1_0)) (h640 : v640 = k0_pay79 (kvBlk g ![0, 0, 64, 1, 0] inb_S8x2x128x4x64_S1x1x64x1x64_0_0_64_1_0)) (h642 : v642 = k0_pay80 (kvBlk g ![1, 0, 64, 1, 0] inb_S8x2x128x4x64_S1x1x64x1x64_1_0_64_1_0)) (h644 : v644 = k0_pay81 (kvBlk g ![2, 0, 64, 1, 0] inb_S8x2x128x4x64_S1x1x64x1x64_2_0_64_1_0)) (h671 : v671 = k0_pay82 v618 v620 v638 v640 v642 v644 (kvBlk g ![3, 0, 64, 1, 0] inb_S8x2x128x4x64_S1x1x64x1x64_3_0_64_1_0) (kvBlk g ![4, 0, 64, 1, 0] inb_S8x2x128x4x64_S1x1x64x1x64_4_0_64_1_0) (kvBlk g ![5, 0, 64, 1, 0] inb_S8x2x128x4x64_S1x1x64x1x64_5_0_64_1_0) (kvBlk g ![6, 0, 64, 1, 0] inb_S8x2x128x4x64_S1x1x64x1x64_6_0_64_1_0) (kvBlk g ![7, 0, 64, 1, 0] inb_S8x2x128x4x64_S1x1x64x1x64_7_0_64_1_0)) :
    v671 = ctx v431 f g 0 1 := by
  subst v671 v644 v642 v640 v638 v625 v624 v622 v620 v618 v596 v594 v592 v590 v588 v586 v578 v576 v574 v572 v570 v568
  rfl

theorem head02 {v431 : FVec F S128x4x64 .f32} {v673 : FVec F S64x64 .f32} {v691 : FVec F S512x64 .f32} {v709 : FVec F S512x64 .f32} {v713 : FVec F S64x512 .f32} {v723 : FVec F S64x64 .f32} {v725 : FVec F S64x64 .f32} {v727 : FVec F S64x64 .bf16} {v729 : FVec F S64x64 .bf16} {v731 : FVec F S64x64 .bf16} {v733 : FVec F S64x64 .bf16} {v735 : FVec F S64x64 .bf16} {v737 : FVec F S64x64 .bf16} {v743 : FVec F S512x64 .f32} {v745 : FVec F S64x64 .bf16} {v747 : FVec F S64x64 .bf16} {v749 : FVec F S64x64 .bf16} {v751 : FVec F S64x64 .bf16} {v753 : FVec F S64x64 .bf16} {v755 : FVec F S64x64 .bf16} {v776 : FVec F S128x64 .f32} (h709 : v709 = k0_pay85 (kvBlk g ![0, 0, 0, 2, 0] inb_S8x2x128x4x64_S1x1x64x1x64_0_0_0_2_0) (kvBlk g ![1, 0, 0, 2, 0] inb_S8x2x128x4x64_S1x1x64x1x64_1_0_0_2_0) (kvBlk g ![2, 0, 0, 2, 0] inb_S8x2x128x4x64_S1x1x64x1x64_2_0_0_2_0) (kvBlk g ![3, 0, 0, 2, 0] inb_S8x2x128x4x64_S1x1x64x1x64_3_0_0_2_0) (kvBlk g ![4, 0, 0, 2, 0] inb_S8x2x128x4x64_S1x1x64x1x64_4_0_0_2_0) (kvBlk g ![5, 0, 0, 2, 0] inb_S8x2x128x4x64_S1x1x64x1x64_5_0_0_2_0) (kvBlk g ![6, 0, 0, 2, 0] inb_S8x2x128x4x64_S1x1x64x1x64_6_0_0_2_0) (kvBlk g ![7, 0, 0, 2, 0] inb_S8x2x128x4x64_S1x1x64x1x64_7_0_0_2_0)) (h673 : v673 = k0_pay83 v431) (h691 : v691 = k0_pay84 (kvBlk f ![0, 0, 0, 2, 0] inb_S8x2x128x4x64_S1x1x64x1x64_0_0_0_2_0) (kvBlk f ![1, 0, 0, 2, 0] inb_S8x2x128x4x64_S1x1x64x1x64_1_0_0_2_0) (kvBlk f ![2, 0, 0, 2, 0] inb_S8x2x128x4x64_S1x1x64x1x64_2_0_0_2_0) (kvBlk f ![3, 0, 0, 2, 0] inb_S8x2x128x4x64_S1x1x64x1x64_3_0_0_2_0) (kvBlk f ![4, 0, 0, 2, 0] inb_S8x2x128x4x64_S1x1x64x1x64_4_0_0_2_0) (kvBlk f ![5, 0, 0, 2, 0] inb_S8x2x128x4x64_S1x1x64x1x64_5_0_0_2_0) (kvBlk f ![6, 0, 0, 2, 0] inb_S8x2x128x4x64_S1x1x64x1x64_6_0_0_2_0) (kvBlk f ![7, 0, 0, 2, 0] inb_S8x2x128x4x64_S1x1x64x1x64_7_0_0_2_0)) (h713 : v713 = k0_pay86 v673 v691) (h723 : v723 = k0_pay87 v709 v713) (h725 : v725 = k0_pay88 v431) (h727 : v727 = k0_pay89 (kvBlk f ![0, 0, 64, 2, 0] inb_S8x2x128x4x64_S1x1x64x1x64_0_0_64_2_0)) (h729 : v729 = k0_pay90 (kvBlk f ![1, 0, 64, 2, 0] inb_S8x2x128x4x64_S1x1x64x1x64_1_0_64_2_0)) (h731 : v731 = k0_pay91 (kvBlk f ![2, 0, 64, 2, 0] inb_S8x2x128x4x64_S1x1x64x1x64_2_0_64_2_0)) (h733 : v733 = k0_pay92 (kvBlk f ![3, 0, 64, 2, 0] inb_S8x2x128x4x64_S1x1x64x1x64_3_0_64_2_0)) (h735 : v735 = k0_pay93 (kvBlk f ![4, 0, 64, 2, 0] inb_S8x2x128x4x64_S1x1x64x1x64_4_0_64_2_0)) (h737 : v737 = k0_pay94 (kvBlk f ![5, 0, 64, 2, 0] inb_S8x2x128x4x64_S1x1x64x1x64_5_0_64_2_0)) (h743 : v743 = k0_pay95 v727 v729 v731 v733 v735 v737 (kvBlk f ![6, 0, 64, 2, 0] inb_S8x2x128x4x64_S1x1x64x1x64_6_0_64_2_0) (kvBlk f ![7, 0, 64, 2, 0] inb_S8x2x128x4x64_S1x1x64x1x64_7_0_64_2_0)) (h745 : v745 = k0_pay96 (kvBlk g ![0, 0, 64, 2, 0] inb_S8x2x128x4x64_S1x1x64x1x64_0_0_64_2_0)) (h747 : v747 = k0_pay97 (kvBlk g ![1, 0, 64, 2, 0] inb_S8x2x128x4x64_S1x1x64x1x64_1_0_64_2_0)) (h749 : v749 = k0_pay98 (kvBlk g ![2, 0, 64, 2, 0] inb_S8x2x128x4x64_S1x1x64x1x64_2_0_64_2_0)) (h751 : v751 = k0_pay99 (kvBlk g ![3, 0, 64, 2, 0] inb_S8x2x128x4x64_S1x1x64x1x64_3_0_64_2_0)) (h753 : v753 = k0_pay100 (kvBlk g ![4, 0, 64, 2, 0] inb_S8x2x128x4x64_S1x1x64x1x64_4_0_64_2_0)) (h755 : v755 = k0_pay101 (kvBlk g ![5, 0, 64, 2, 0] inb_S8x2x128x4x64_S1x1x64x1x64_5_0_64_2_0)) (h776 : v776 = k0_pay102 v723 v725 v743 v745 v747 v749 v751 v753 v755 (kvBlk g ![6, 0, 64, 2, 0] inb_S8x2x128x4x64_S1x1x64x1x64_6_0_64_2_0) (kvBlk g ![7, 0, 64, 2, 0] inb_S8x2x128x4x64_S1x1x64x1x64_7_0_64_2_0)) :
    v776 = ctx v431 f g 0 2 := by
  subst v776 v755 v753 v751 v749 v747 v745 v743 v737 v735 v733 v731 v729 v727 v725 v723 v713 v691 v673 v709
  rfl

theorem head10 {v435 : FVec F S128x4x64 .f32} {v891 : FVec F S64x64 .f32} {v893 : FVec F S64x64 .bf16} {v895 : FVec F S64x64 .bf16} {v897 : FVec F S64x64 .bf16} {v899 : FVec F S64x64 .bf16} {v901 : FVec F S64x64 .bf16} {v909 : FVec F S512x64 .f32} {v911 : FVec F S64x64 .bf16} {v913 : FVec F S64x64 .bf16} {v915 : FVec F S64x64 .bf16} {v917 : FVec F S64x64 .bf16} {v919 : FVec F S64x64 .bf16} {v941 : FVec F S64x64 .f32} {v943 : FVec F S64x64 .f32} {v945 : FVec F S64x64 .bf16} {v947 : FVec F S64x64 .bf16} {v949 : FVec F S64x64 .bf16} {v961 : FVec F S512x64 .f32} {v963 : FVec F S64x64 .bf16} {v965 : FVec F S64x64 .bf16} {v967 : FVec F S64x64 .bf16} {v994 : FVec F S128x64 .f32} (h891 : v891 = k0_pay121 v435) (h893 : v893 = k0_pay122 (kvBlk f ![0, 1, 0, 0, 0] inb_S8x2x128x4x64_S1x1x64x1x64_0_1_0_0_0)) (h895 : v895 = k0_pay123 (kvBlk f ![1, 1, 0, 0, 0] inb_S8x2x128x4x64_S1x1x64x1x64_1_1_0_0_0)) (h897 : v897 = k0_pay124 (kvBlk f ![2, 1, 0, 0, 0] inb_S8x2x128x4x64_S1x1x64x1x64_2_1_0_0_0)) (h899 : v899 = k0_pay125 (kvBlk f ![3, 1, 0, 0, 0] inb_S8x2x128x4x64_S1x1x64x1x64_3_1_0_0_0)) (h901 : v901 = k0_pay126 (kvBlk f ![4, 1, 0, 0, 0] inb_S8x2x128x4x64_S1x1x64x1x64_4_1_0_0_0)) (h909 : v909 = k0_pay127 v893 v895 v897 v899 v901 (kvBlk f ![5, 1, 0, 0, 0] inb_S8x2x128x4x64_S1x1x64x1x64_5_1_0_0_0) (kvBlk f ![6, 1, 0, 0, 0] inb_S8x2x128x4x64_S1x1x64x1x64_6_1_0_0_0) (kvBlk f ![7, 1, 0, 0, 0] inb_S8x2x128x4x64_S1x1x64x1x64_7_1_0_0_0)) (h911 : v911 = k0_pay128 (kvBlk g ![0, 1, 0, 0, 0] inb_S8x2x128x4x64_S1x1x64x1x64_0_1_0_0_0)) (h913 : v913 = k0_pay129 (kvBlk g ![1, 1, 0, 0, 0] inb_S8x2x128x4x64_S1x1x64x1x64_1_1_0_0_0)) (h915 : v915 = k0_pay130 (kvBlk g ![2, 1, 0, 0, 0] inb_S8x2x128x4x64_S1x1x64x1x64_2_1_0_0_0)) (h917 : v917 = k0_pay131 (kvBlk g ![3, 1, 0, 0, 0] inb_S8x2x128x4x64_S1x1x64x1x64_3_1_0_0_0)) (h919 : v919 = k0_pay132 (kvBlk g ![4, 1, 0, 0, 0] inb_S8x2x128x4x64_S1x1x64x1x64_4_1_0_0_0)) (h941 : v941 = k0_pay133 v891 v909 v911 v913 v915 v917 v919 (kvBlk g ![5, 1, 0, 0, 0] inb_S8x2x128x4x64_S1x1x64x1x64_5_1_0_0_0) (kvBlk g ![6, 1, 0, 0, 0] inb_S8x2x128x4x64_S1x1x64x1x64_6_1_0_0_0) (kvBlk g ![7, 1, 0, 0, 0] inb_S8x2x128x4x64_S1x1x64x1x64_7_1_0_0_0)) (h943 : v943 = k0_pay134 v435) (h945 : v945 = k0_pay135 (kvBlk f ![0, 1, 64, 0, 0] inb_S8x2x128x4x64_S1x1x64x1x64_0_1_64_0_0)) (h947 : v947 = k0_pay136 (kvBlk f ![1, 1, 64, 0, 0] inb_S8x2x128x4x64_S1x1x64x1x64_1_1_64_0_0)) (h949 : v949 = k0_pay137 (kvBlk f ![2, 1, 64, 0, 0] inb_S8x2x128x4x64_S1x1x64x1x64_2_1_64_0_0)) (h961 : v961 = k0_pay138 v945 v947 v949 (kvBlk f ![3, 1, 64, 0, 0] inb_S8x2x128x4x64_S1x1x64x1x64_3_1_64_0_0) (kvBlk f ![4, 1, 64, 0, 0] inb_S8x2x128x4x64_S1x1x64x1x64_4_1_64_0_0) (kvBlk f ![5, 1, 64, 0, 0] inb_S8x2x128x4x64_S1x1x64x1x64_5_1_64_0_0) (kvBlk f ![6, 1, 64, 0, 0] inb_S8x2x128x4x64_S1x1x64x1x64_6_1_64_0_0) (kvBlk f ![7, 1, 64, 0, 0] inb_S8x2x128x4x64_S1x1x64x1x64_7_1_64_0_0)) (h963 : v963 = k0_pay139 (kvBlk g ![0, 1, 64, 0, 0] inb_S8x2x128x4x64_S1x1x64x1x64_0_1_64_0_0)) (h965 : v965 = k0_pay140 (kvBlk g ![1, 1, 64, 0, 0] inb_S8x2x128x4x64_S1x1x64x1x64_1_1_64_0_0)) (h967 : v967 = k0_pay141 (kvBlk g ![2, 1, 64, 0, 0] inb_S8x2x128x4x64_S1x1x64x1x64_2_1_64_0_0)) (h994 : v994 = k0_pay142 v941 v943 v961 v963 v965 v967 (kvBlk g ![3, 1, 64, 0, 0] inb_S8x2x128x4x64_S1x1x64x1x64_3_1_64_0_0) (kvBlk g ![4, 1, 64, 0, 0] inb_S8x2x128x4x64_S1x1x64x1x64_4_1_64_0_0) (kvBlk g ![5, 1, 64, 0, 0] inb_S8x2x128x4x64_S1x1x64x1x64_5_1_64_0_0) (kvBlk g ![6, 1, 64, 0, 0] inb_S8x2x128x4x64_S1x1x64x1x64_6_1_64_0_0) (kvBlk g ![7, 1, 64, 0, 0] inb_S8x2x128x4x64_S1x1x64x1x64_7_1_64_0_0)) :
    v994 = ctx v435 f g 1 0 := by
  subst v994 v967 v965 v963 v961 v949 v947 v945 v943 v941 v919 v917 v915 v913 v911 v909 v901 v899 v897 v895 v893 v891
  rfl

theorem head11 {v435 : FVec F S128x4x64 .f32} {v996 : FVec F S64x64 .f32} {v1014 : FVec F S512x64 .f32} {v1032 : FVec F S512x64 .f32} {v1036 : FVec F S64x512 .f32} {v1046 : FVec F S64x64 .f32} {v1048 : FVec F S64x64 .f32} {v1050 : FVec F S64x64 .bf16} {v1052 : FVec F S64x64 .bf16} {v1054 : FVec F S64x64 .bf16} {v1056 : FVec F S64x64 .bf16} {v1058 : FVec F S64x64 .bf16} {v1060 : FVec F S64x64 .bf16} {v1066 : FVec F S512x64 .f32} {v1068 : FVec F S64x64 .bf16} {v1070 : FVec F S64x64 .bf16} {v1072 : FVec F S64x64 .bf16} {v1074 : FVec F S64x64 .bf16} {v1076 : FVec F S64x64 .bf16} {v1078 : FVec F S64x64 .bf16} {v1079 : Vec F S1x1x64x1x64 .bf16} {v1099 : FVec F S128x64 .f32} (h1032 : v1032 = k0_pay145 (kvBlk g ![0, 1, 0, 1, 0] inb_S8x2x128x4x64_S1x1x64x1x64_0_1_0_1_0) (kvBlk g ![1, 1, 0, 1, 0] inb_S8x2x128x4x64_S1x1x64x1x64_1_1_0_1_0) (kvBlk g ![2, 1, 0, 1, 0] inb_S8x2x128x4x64_S1x1x64x1x64_2_1_0_1_0) (kvBlk g ![3, 1, 0, 1, 0] inb_S8x2x128x4x64_S1x1x64x1x64_3_1_0_1_0) (kvBlk g ![4, 1, 0, 1, 0] inb_S8x2x128x4x64_S1x1x64x1x64_4_1_0_1_0) (kvBlk g ![5, 1, 0, 1, 0] inb_S8x2x128x4x64_S1x1x64x1x64_5_1_0_1_0) (kvBlk g ![6, 1, 0, 1, 0] inb_S8x2x128x4x64_S1x1x64x1x64_6_1_0_1_0) (kvBlk g ![7, 1, 0, 1, 0] inb_S8x2x128x4x64_S1x1x64x1x64_7_1_0_1_0)) (h996 : v996 = k0_pay143 v435) (h1014 : v1014 = k0_pay144 (kvBlk f ![0, 1, 0, 1, 0] inb_S8x2x128x4x64_S1x1x64x1x64_0_1_0_1_0) (kvBlk f ![1, 1, 0, 1, 0] inb_S8x2x128x4x64_S1x1x64x1x64_1_1_0_1_0) (kvBlk f ![2, 1, 0, 1, 0] inb_S8x2x128x4x64_S1x1x64x1x64_2_1_0_1_0) (kvBlk f ![3, 1, 0, 1, 0] inb_S8x2x128x4x64_S1x1x64x1x64_3_1_0_1_0) (kvBlk f ![4, 1, 0, 1, 0] inb_S8x2x128x4x64_S1x1x64x1x64_4_1_0_1_0) (kvBlk f ![5, 1, 0, 1, 0] inb_S8x2x128x4x64_S1x1x64x1x64_5_1_0_1_0) (kvBlk f ![6, 1, 0, 1, 0] inb_S8x2x128x4x64_S1x1x64x1x64_6_1_0_1_0) (kvBlk f ![7, 1, 0, 1, 0] inb_S8x2x128x4x64_S1x1x64x1x64_7_1_0_1_0)) (h1036 : v1036 = k0_pay146 v996 v1014) (h1046 : v1046 = k0_pay147 v1032 v1036) (h1048 : v1048 = k0_pay148 v435) (h1050 : v1050 = k0_pay149 (kvBlk f ![0, 1, 64, 1, 0] inb_S8x2x128x4x64_S1x1x64x1x64_0_1_64_1_0)) (h1052 : v1052 = k0_pay150 (kvBlk f ![1, 1, 64, 1, 0] inb_S8x2x128x4x64_S1x1x64x1x64_1_1_64_1_0)) (h1054 : v1054 = k0_pay151 (kvBlk f ![2, 1, 64, 1, 0] inb_S8x2x128x4x64_S1x1x64x1x64_2_1_64_1_0)) (h1056 : v1056 = k0_pay152 (kvBlk f ![3, 1, 64, 1, 0] inb_S8x2x128x4x64_S1x1x64x1x64_3_1_64_1_0)) (h1058 : v1058 = k0_pay153 (kvBlk f ![4, 1, 64, 1, 0] inb_S8x2x128x4x64_S1x1x64x1x64_4_1_64_1_0)) (h1060 : v1060 = k0_pay154 (kvBlk f ![5, 1, 64, 1, 0] inb_S8x2x128x4x64_S1x1x64x1x64_5_1_64_1_0)) (h1066 : v1066 = k0_pay155 v1050 v1052 v1054 v1056 v1058 v1060 (kvBlk f ![6, 1, 64, 1, 0] inb_S8x2x128x4x64_S1x1x64x1x64_6_1_64_1_0) (kvBlk f ![7, 1, 64, 1, 0] inb_S8x2x128x4x64_S1x1x64x1x64_7_1_64_1_0)) (h1068 : v1068 = k0_pay156 (kvBlk g ![0, 1, 64, 1, 0] inb_S8x2x128x4x64_S1x1x64x1x64_0_1_64_1_0)) (h1070 : v1070 = k0_pay157 (kvBlk g ![1, 1, 64, 1, 0] inb_S8x2x128x4x64_S1x1x64x1x64_1_1_64_1_0)) (h1072 : v1072 = k0_pay158 (kvBlk g ![2, 1, 64, 1, 0] inb_S8x2x128x4x64_S1x1x64x1x64_2_1_64_1_0)) (h1074 : v1074 = k0_pay159 (kvBlk g ![3, 1, 64, 1, 0] inb_S8x2x128x4x64_S1x1x64x1x64_3_1_64_1_0)) (h1076 : v1076 = k0_pay160 (kvBlk g ![4, 1, 64, 1, 0] inb_S8x2x128x4x64_S1x1x64x1x64_4_1_64_1_0)) (h1078 : v1078 = k0_pay161 (kvBlk g ![5, 1, 64, 1, 0] inb_S8x2x128x4x64_S1x1x64x1x64_5_1_64_1_0)) (h1079 : v1079 = (kvBlk g ![6, 1, 64, 1, 0] inb_S8x2x128x4x64_S1x1x64x1x64_6_1_64_1_0)) (h1099 : v1099 = k0_pay162 v1046 v1048 v1066 v1068 v1070 v1072 v1074 v1076 v1078 v1079 (kvBlk g ![7, 1, 64, 1, 0] inb_S8x2x128x4x64_S1x1x64x1x64_7_1_64_1_0)) :
    v1099 = ctx v435 f g 1 1 := by
  subst v1099 v1079 v1078 v1076 v1074 v1072 v1070 v1068 v1066 v1060 v1058 v1056 v1054 v1052 v1050 v1048 v1046 v1036 v1014 v996 v1032
  rfl

theorem head12 {v435 : FVec F S128x4x64 .f32} {v1101 : FVec F S64x64 .f32} {v1103 : FVec F S64x64 .bf16} {v1105 : FVec F S64x64 .bf16} {v1107 : FVec F S64x64 .bf16} {v1109 : FVec F S64x64 .bf16} {v1119 : FVec F S512x64 .f32} {v1121 : FVec F S64x64 .bf16} {v1123 : FVec F S64x64 .bf16} {v1125 : FVec F S64x64 .bf16} {v1127 : FVec F S64x64 .bf16} {v1151 : FVec F S64x64 .f32} {v1153 : FVec F S64x64 .f32} {v1155 : FVec F S64x64 .bf16} {v1171 : FVec F S512x64 .f32} {v1173 : FVec F S64x64 .bf16} {v1174 : Vec F S1x1x64x1x64 .bf16} {v1189 : FVec F S512x64 .f32} {v1198 : FVec F S64x512 .f32} {v1200 : FVec F S64x1 .f32} {v1204 : FVec F S128x64 .f32} (h1101 : v1101 = k0_pay163 v435) (h1103 : v1103 = k0_pay164 (kvBlk f ![0, 1, 0, 2, 0] inb_S8x2x128x4x64_S1x1x64x1x64_0_1_0_2_0)) (h1105 : v1105 = k0_pay165 (kvBlk f ![1, 1, 0, 2, 0] inb_S8x2x128x4x64_S1x1x64x1x64_1_1_0_2_0)) (h1107 : v1107 = k0_pay166 (kvBlk f ![2, 1, 0, 2, 0] inb_S8x2x128x4x64_S1x1x64x1x64_2_1_0_2_0)) (h1109 : v1109 = k0_pay167 (kvBlk f ![3, 1, 0, 2, 0] inb_S8x2x128x4x64_S1x1x64x1x64_3_1_0_2_0)) (h1119 : v1119 = k0_pay168 v1103 v1105 v1107 v1109 (kvBlk f ![4, 1, 0, 2, 0] inb_S8x2x128x4x64_S1x1x64x1x64_4_1_0_2_0) (kvBlk f ![5, 1, 0, 2, 0] inb_S8x2x128x4x64_S1x1x64x1x64_5_1_0_2_0) (kvBlk f ![6, 1, 0, 2, 0] inb_S8x2x128x4x64_S1x1x64x1x64_6_1_0_2_0) (kvBlk f ![7, 1, 0, 2, 0] inb_S8x2x128x4x64_S1x1x64x1x64_7_1_0_2_0)) (h1121 : v1121 = k0_pay169 (kvBlk g ![0, 1, 0, 2, 0] inb_S8x2x128x4x64_S1x1x64x1x64_0_1_0_2_0)) (h1123 : v1123 = k0_pay170 (kvBlk g ![1, 1, 0, 2, 0] inb_S8x2x128x4x64_S1x1x64x1x64_1_1_0_2_0)) (h1125 : v1125 = k0_pay171 (kvBlk g ![2, 1, 0, 2, 0] inb_S8x2x128x4x64_S1x1x64x1x64_2_1_0_2_0)) (h1127 : v1127 = k0_pay172 (kvBlk g ![3, 1, 0, 2, 0] inb_S8x2x128x4x64_S1x1x64x1x64_3_1_0_2_0)) (h1151 : v1151 = k0_pay173 v1101 v1119 v1121 v1123 v1125 v1127 (kvBlk g ![4, 1, 0, 2, 0] inb_S8x2x128x4x64_S1x1x64x1x64_4_1_0_2_0) (kvBlk g ![5, 1, 0, 2, 0] inb_S8x2x128x4x64_S1x1x64x1x64_5_1_0_2_0) (kvBlk g ![6, 1, 0, 2, 0] inb_S8x2x128x4x64_S1x1x64x1x64_6_1_0_2_0) (kvBlk g ![7, 1, 0, 2, 0] inb_S8x2x128x4x64_S1x1x64x1x64_7_1_0_2_0)) (h1173 : v1173 = k0_pay177 (kvBlk g ![0, 1, 64, 2, 0] inb_S8x2x128x4x64_S1x1x64x1x64_0_1_64_2_0)) (h1174 : v1174 = (kvBlk g ![1, 1, 64, 2, 0] inb_S8x2x128x4x64_S1x1x64x1x64_1_1_64_2_0)) (h1189 : v1189 = k0_pay178 v1173 v1174 (kvBlk g ![2, 1, 64, 2, 0] inb_S8x2x128x4x64_S1x1x64x1x64_2_1_64_2_0) (kvBlk g ![3, 1, 64, 2, 0] inb_S8x2x128x4x64_S1x1x64x1x64_3_1_64_2_0) (kvBlk g ![4, 1, 64, 2, 0] inb_S8x2x128x4x64_S1x1x64x1x64_4_1_64_2_0) (kvBlk g ![5, 1, 64, 2, 0] inb_S8x2x128x4x64_S1x1x64x1x64_5_1_64_2_0) (kvBlk g ![6, 1, 64, 2, 0] inb_S8x2x128x4x64_S1x1x64x1x64_6_1_64_2_0) (kvBlk g ![7, 1, 64, 2, 0] inb_S8x2x128x4x64_S1x1x64x1x64_7_1_64_2_0)) (h1153 : v1153 = k0_pay174 v435) (h1155 : v1155 = k0_pay175 (kvBlk f ![0, 1, 64, 2, 0] inb_S8x2x128x4x64_S1x1x64x1x64_0_1_64_2_0)) (h1171 : v1171 = k0_pay176 v1155 (kvBlk f ![1, 1, 64, 2, 0] inb_S8x2x128x4x64_S1x1x64x1x64_1_1_64_2_0) (kvBlk f ![2, 1, 64, 2, 0] inb_S8x2x128x4x64_S1x1x64x1x64_2_1_64_2_0) (kvBlk f ![3, 1, 64, 2, 0] inb_S8x2x128x4x64_S1x1x64x1x64_3_1_64_2_0) (kvBlk f ![4, 1, 64, 2, 0] inb_S8x2x128x4x64_S1x1x64x1x64_4_1_64_2_0) (kvBlk f ![5, 1, 64, 2, 0] inb_S8x2x128x4x64_S1x1x64x1x64_5_1_64_2_0) (kvBlk f ![6, 1, 64, 2, 0] inb_S8x2x128x4x64_S1x1x64x1x64_6_1_64_2_0) (kvBlk f ![7, 1, 64, 2, 0] inb_S8x2x128x4x64_S1x1x64x1x64_7_1_64_2_0)) (h1198 : v1198 = k0_pay179 v1153 v1171) (h1200 : v1200 = k0_pay180 v1153 v1171) (h1204 : v1204 = k0_pay181 v1151 v1189 v1198 v1200) :
    v1204 = ctx v435 f g 1 2 := by
  subst v1204 v1200 v1198 v1171 v1155 v1153 v1189 v1174 v1173 v1151 v1127 v1125 v1123 v1121 v1119 v1109 v1107 v1105 v1103 v1101
  rfl

theorem rows0 {v431 : FVec F S128x4x64 .f32} {v566 : FVec F S128x64 .f32} {v671 : FVec F S128x64 .f32} {v776 : FVec F S128x64 .f32} {v778 : FVec F S64x64 .f32} {v780 : FVec F S64x64 .bf16} {v782 : FVec F S64x64 .bf16} {v784 : FVec F S64x64 .bf16} {v785 : Vec F S1x1x64x1x64 .bf16} {v796 : FVec F S512x64 .f32} {v798 : FVec F S64x64 .bf16} {v800 : FVec F S64x64 .bf16} {v802 : FVec F S64x64 .bf16} {v804 : FVec F S64x64 .bf16} {v828 : FVec F S64x64 .f32} {v830 : FVec F S64x64 .f32} {v832 : FVec F S64x64 .bf16} {v848 : FVec F S512x64 .f32} {v850 : FVec F S64x64 .bf16} {v866 : FVec F S512x64 .f32} {v875 : FVec F S64x512 .f32} {v876 : FVec F S64 .f32} (h431 : v431 = k0_pay40 wq (xBlk x ![0, 0, 0] inb_S2x128x512_S1x128x512_0_0_0)) (h778 : v778 = k0_pay103 v431) (h780 : v780 = k0_pay104 (kvBlk f ![0, 0, 0, 3, 0] inb_S8x2x128x4x64_S1x1x64x1x64_0_0_0_3_0)) (h782 : v782 = k0_pay105 (kvBlk f ![1, 0, 0, 3, 0] inb_S8x2x128x4x64_S1x1x64x1x64_1_0_0_3_0)) (h784 : v784 = k0_pay106 (kvBlk f ![2, 0, 0, 3, 0] inb_S8x2x128x4x64_S1x1x64x1x64_2_0_0_3_0)) (h785 : v785 = (kvBlk f ![3, 0, 0, 3, 0] inb_S8x2x128x4x64_S1x1x64x1x64_3_0_0_3_0)) (h796 : v796 = k0_pay107 v780 v782 v784 v785 (kvBlk f ![4, 0, 0, 3, 0] inb_S8x2x128x4x64_S1x1x64x1x64_4_0_0_3_0) (kvBlk f ![5, 0, 0, 3, 0] inb_S8x2x128x4x64_S1x1x64x1x64_5_0_0_3_0) (kvBlk f ![6, 0, 0, 3, 0] inb_S8x2x128x4x64_S1x1x64x1x64_6_0_0_3_0) (kvBlk f ![7, 0, 0, 3, 0] inb_S8x2x128x4x64_S1x1x64x1x64_7_0_0_3_0)) (h798 : v798 = k0_pay108 (kvBlk g ![0, 0, 0, 3, 0] inb_S8x2x128x4x64_S1x1x64x1x64_0_0_0_3_0)) (h800 : v800 = k0_pay109 (kvBlk g ![1, 0, 0, 3, 0] inb_S8x2x128x4x64_S1x1x64x1x64_1_0_0_3_0)) (h802 : v802 = k0_pay110 (kvBlk g ![2, 0, 0, 3, 0] inb_S8x2x128x4x64_S1x1x64x1x64_2_0_0_3_0)) (h804 : v804 = k0_pay111 (kvBlk g ![3, 0, 0, 3, 0] inb_S8x2x128x4x64_S1x1x64x1x64_3_0_0_3_0)) (h828 : v828 = k0_pay112 v778 v796 v798 v800 v802 v804 (kvBlk g ![4, 0, 0, 3, 0] inb_S8x2x128x4x64_S1x1x64x1x64_4_0_0_3_0) (kvBlk g ![5, 0, 0, 3, 0] inb_S8x2x128x4x64_S1x1x64x1x64_5_0_0_3_0) (kvBlk g ![6, 0, 0, 3, 0] inb_S8x2x128x4x64_S1x1x64x1x64_6_0_0_3_0) (kvBlk g ![7, 0, 0, 3, 0] inb_S8x2x128x4x64_S1x1x64x1x64_7_0_0_3_0)) (h850 : v850 = k0_pay116 (kvBlk g ![0, 0, 64, 3, 0] inb_S8x2x128x4x64_S1x1x64x1x64_0_0_64_3_0)) (h866 : v866 = k0_pay117 v850 (kvBlk g ![1, 0, 64, 3, 0] inb_S8x2x128x4x64_S1x1x64x1x64_1_0_64_3_0) (kvBlk g ![2, 0, 64, 3, 0] inb_S8x2x128x4x64_S1x1x64x1x64_2_0_64_3_0) (kvBlk g ![3, 0, 64, 3, 0] inb_S8x2x128x4x64_S1x1x64x1x64_3_0_64_3_0) (kvBlk g ![4, 0, 64, 3, 0] inb_S8x2x128x4x64_S1x1x64x1x64_4_0_64_3_0) (kvBlk g ![5, 0, 64, 3, 0] inb_S8x2x128x4x64_S1x1x64x1x64_5_0_64_3_0) (kvBlk g ![6, 0, 64, 3, 0] inb_S8x2x128x4x64_S1x1x64x1x64_6_0_64_3_0) (kvBlk g ![7, 0, 64, 3, 0] inb_S8x2x128x4x64_S1x1x64x1x64_7_0_64_3_0)) (h830 : v830 = k0_pay113 v431) (h832 : v832 = k0_pay114 (kvBlk f ![0, 0, 64, 3, 0] inb_S8x2x128x4x64_S1x1x64x1x64_0_0_64_3_0)) (h848 : v848 = k0_pay115 v832 (kvBlk f ![1, 0, 64, 3, 0] inb_S8x2x128x4x64_S1x1x64x1x64_1_0_64_3_0) (kvBlk f ![2, 0, 64, 3, 0] inb_S8x2x128x4x64_S1x1x64x1x64_2_0_64_3_0) (kvBlk f ![3, 0, 64, 3, 0] inb_S8x2x128x4x64_S1x1x64x1x64_3_0_64_3_0) (kvBlk f ![4, 0, 64, 3, 0] inb_S8x2x128x4x64_S1x1x64x1x64_4_0_64_3_0) (kvBlk f ![5, 0, 64, 3, 0] inb_S8x2x128x4x64_S1x1x64x1x64_5_0_64_3_0) (kvBlk f ![6, 0, 64, 3, 0] inb_S8x2x128x4x64_S1x1x64x1x64_6_0_64_3_0) (kvBlk f ![7, 0, 64, 3, 0] inb_S8x2x128x4x64_S1x1x64x1x64_7_0_64_3_0)) (h875 : v875 = k0_pay118 v830 v848) (h876 : v876 = k0_pay119 v830 v848) (h566 : v566 = ctx v431 f g 0 0) (h671 : v671 = ctx v431 f g 0 1) (h776 : v776 = ctx v431 f g 0 2) :
    pbRows x wq f g wo 0 = k0_pay120 v566 v671 v776 v828 v866 v875 v876 wo := by
  subst v566 v671 v776 v876 v875 v848 v832 v830 v866 v850 v828 v804 v802 v800 v798 v796 v785 v784 v782 v780 v778 v431
  rfl

theorem rows1 {v435 : FVec F S128x4x64 .f32} {v994 : FVec F S128x64 .f32} {v1099 : FVec F S128x64 .f32} {v1204 : FVec F S128x64 .f32} {v1206 : FVec F S64x64 .f32} {v1208 : FVec F S64x64 .bf16} {v1210 : FVec F S64x64 .bf16} {v1212 : FVec F S64x64 .bf16} {v1214 : FVec F S64x64 .bf16} {v1216 : FVec F S64x64 .bf16} {v1218 : FVec F S64x64 .bf16} {v1220 : FVec F S64x64 .bf16} {v1224 : FVec F S512x64 .f32} {v1226 : FVec F S64x64 .bf16} {v1228 : FVec F S64x64 .bf16} {v1230 : FVec F S64x64 .bf16} {v1232 : FVec F S64x64 .bf16} {v1234 : FVec F S64x64 .bf16} {v1236 : FVec F S64x64 .bf16} {v1238 : FVec F S64x64 .bf16} {v1239 : Vec F S1x1x64x1x64 .bf16} {v1256 : FVec F S64x64 .f32} {v1258 : FVec F S64x64 .f32} {v1260 : FVec F S64x64 .bf16} {v1262 : FVec F S64x64 .bf16} {v1264 : FVec F S64x64 .bf16} {v1266 : FVec F S64x64 .bf16} {v1268 : FVec F S64x64 .bf16} {v1276 : FVec F S512x64 .f32} {v1278 : FVec F S64x64 .bf16} {v1280 : FVec F S64x64 .bf16} {v1282 : FVec F S64x64 .bf16} {v1284 : FVec F S64x64 .bf16} {v1286 : FVec F S64x64 .bf16} (h435 : v435 = k0_pay41 wq (xBlk x ![1, 0, 0] inb_S2x128x512_S1x128x512_1_0_0)) (h1206 : v1206 = k0_pay182 v435) (h1208 : v1208 = k0_pay183 (kvBlk f ![0, 1, 0, 3, 0] inb_S8x2x128x4x64_S1x1x64x1x64_0_1_0_3_0)) (h1210 : v1210 = k0_pay184 (kvBlk f ![1, 1, 0, 3, 0] inb_S8x2x128x4x64_S1x1x64x1x64_1_1_0_3_0)) (h1212 : v1212 = k0_pay185 (kvBlk f ![2, 1, 0, 3, 0] inb_S8x2x128x4x64_S1x1x64x1x64_2_1_0_3_0)) (h1214 : v1214 = k0_pay186 (kvBlk f ![3, 1, 0, 3, 0] inb_S8x2x128x4x64_S1x1x64x1x64_3_1_0_3_0)) (h1216 : v1216 = k0_pay187 (kvBlk f ![4, 1, 0, 3, 0] inb_S8x2x128x4x64_S1x1x64x1x64_4_1_0_3_0)) (h1218 : v1218 = k0_pay188 (kvBlk f ![5, 1, 0, 3, 0] inb_S8x2x128x4x64_S1x1x64x1x64_5_1_0_3_0)) (h1220 : v1220 = k0_pay189 (kvBlk f ![6, 1, 0, 3, 0] inb_S8x2x128x4x64_S1x1x64x1x64_6_1_0_3_0)) (h1224 : v1224 = k0_pay190 v1208 v1210 v1212 v1214 v1216 v1218 v1220 (kvBlk f ![7, 1, 0, 3, 0] inb_S8x2x128x4x64_S1x1x64x1x64_7_1_0_3_0)) (h1226 : v1226 = k0_pay191 (kvBlk g ![0, 1, 0, 3, 0] inb_S8x2x128x4x64_S1x1x64x1x64_0_1_0_3_0)) (h1228 : v1228 = k0_pay192 (kvBlk g ![1, 1, 0, 3, 0] inb_S8x2x128x4x64_S1x1x64x1x64_1_1_0_3_0)) (h1230 : v1230 = k0_pay193 (kvBlk g ![2, 1, 0, 3, 0] inb_S8x2x128x4x64_S1x1x64x1x64_2_1_0_3_0)) (h1232 : v1232 = k0_pay194 (kvBlk g ![3, 1, 0, 3, 0] inb_S8x2x128x4x64_S1x1x64x1x64_3_1_0_3_0)) (h1234 : v1234 = k0_pay195 (kvBlk g ![4, 1, 0, 3, 0] inb_S8x2x128x4x64_S1x1x64x1x64_4_1_0_3_0)) (h1236 : v1236 = k0_pay196 (kvBlk g ![5, 1, 0, 3, 0] inb_S8x2x128x4x64_S1x1x64x1x64_5_1_0_3_0)) (h1238 : v1238 = k0_pay197 (kvBlk g ![6, 1, 0, 3, 0] inb_S8x2x128x4x64_S1x1x64x1x64_6_1_0_3_0)) (h1239 : v1239 = (kvBlk g ![7, 1, 0, 3, 0] inb_S8x2x128x4x64_S1x1x64x1x64_7_1_0_3_0)) (h1256 : v1256 = k0_pay198 v1206 v1224 v1226 v1228 v1230 v1232 v1234 v1236 v1238 v1239) (h1258 : v1258 = k0_pay199 v435) (h1260 : v1260 = k0_pay200 (kvBlk f ![0, 1, 64, 3, 0] inb_S8x2x128x4x64_S1x1x64x1x64_0_1_64_3_0)) (h1262 : v1262 = k0_pay201 (kvBlk f ![1, 1, 64, 3, 0] inb_S8x2x128x4x64_S1x1x64x1x64_1_1_64_3_0)) (h1264 : v1264 = k0_pay202 (kvBlk f ![2, 1, 64, 3, 0] inb_S8x2x128x4x64_S1x1x64x1x64_2_1_64_3_0)) (h1266 : v1266 = k0_pay203 (kvBlk f ![3, 1, 64, 3, 0] inb_S8x2x128x4x64_S1x1x64x1x64_3_1_64_3_0)) (h1268 : v1268 = k0_pay204 (kvBlk f ![4, 1, 64, 3, 0] inb_S8x2x128x4x64_S1x1x64x1x64_4_1_64_3_0)) (h1276 : v1276 = k0_pay205 v1260 v1262 v1264 v1266 v1268 (kvBlk f ![5, 1, 64, 3, 0] inb_S8x2x128x4x64_S1x1x64x1x64_5_1_64_3_0) (kvBlk f ![6, 1, 64, 3, 0] inb_S8x2x128x4x64_S1x1x64x1x64_6_1_64_3_0) (kvBlk f ![7, 1, 64, 3, 0] inb_S8x2x128x4x64_S1x1x64x1x64_7_1_64_3_0)) (h1278 : v1278 = k0_pay206 (kvBlk g ![0, 1, 64, 3, 0] inb_S8x2x128x4x64_S1x1x64x1x64_0_1_64_3_0)) (h1280 : v1280 = k0_pay207 (kvBlk g ![1, 1, 64, 3, 0] inb_S8x2x128x4x64_S1x1x64x1x64_1_1_64_3_0)) (h1282 : v1282 = k0_pay208 (kvBlk g ![2, 1, 64, 3, 0] inb_S8x2x128x4x64_S1x1x64x1x64_2_1_64_3_0)) (h1284 : v1284 = k0_pay209 (kvBlk g ![3, 1, 64, 3, 0] inb_S8x2x128x4x64_S1x1x64x1x64_3_1_64_3_0)) (h1286 : v1286 = k0_pay210 (kvBlk g ![4, 1, 64, 3, 0] inb_S8x2x128x4x64_S1x1x64x1x64_4_1_64_3_0)) (h994 : v994 = ctx v435 f g 1 0) (h1099 : v1099 = ctx v435 f g 1 1) (h1204 : v1204 = ctx v435 f g 1 2) :
    pbRows x wq f g wo 1 = k0_pay211 v994 v1099 v1204 v1256 v1258 v1276 v1278 v1280 v1282 v1284 v1286 (kvBlk g ![5, 1, 64, 3, 0] inb_S8x2x128x4x64_S1x1x64x1x64_5_1_64_3_0) (kvBlk g ![6, 1, 64, 3, 0] inb_S8x2x128x4x64_S1x1x64x1x64_6_1_64_3_0) (kvBlk g ![7, 1, 64, 3, 0] inb_S8x2x128x4x64_S1x1x64x1x64_7_1_64_3_0) wo := by
  subst v994 v1099 v1204 v1286 v1284 v1282 v1280 v1278 v1276 v1268 v1266 v1264 v1262 v1260 v1258 v1256 v1239 v1238 v1236 v1234 v1232 v1230 v1228 v1226 v1224 v1220 v1218 v1216 v1214 v1212 v1210 v1208 v1206 v435
  rfl

end Cert.SparseAttn

end
-- ==== Proof.Regroup.lean ====
/-
Between the phases: what one phase leaves, put together as the next phase wants it.
-/
module

public import proofs.«01_k».proof.Proof.Match

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD) (I : Inputs F) (PB : Dev nD → Vec F S256x512 .bf16)

/-- A part of the state that only the devices that send no keys and values have. -/
def onlyOd (c : Dev nD) (X : sProp 𝕄) : sProp 𝕄 := if ev c then iprop(emp) else X
theorem onlyOd_pos {c : Dev nD} (h : ev c) (X : sProp 𝕄) : onlyOd c X = iprop(emp) := if_pos h
theorem onlyOd_neg {c : Dev nD} (h : ¬ ev c) (X : sProp 𝕄) : onlyOd c X = X := if_neg h

theorem parity_split (X : sProp 𝕄) : X ⊢ iprop(onlyEv c X ∗ onlyOd c X) := by
  by_cases he : ev c
  · rw [onlyEv_pos he, onlyOd_pos he]; iintro H; isplitl; · iexact H
    iempintro
  · rw [onlyEv_neg he, onlyOd_neg he]; iintro H; isplitr; · iempintro
    iexact H
theorem parity_join (X : sProp 𝕄) : iprop(onlyEv c X ∗ onlyOd c X) ⊢ X := by
  by_cases he : ev c
  · rw [onlyEv_pos he, onlyOd_pos he]; iintro ⟨H, -⟩; iexact H
  · rw [onlyEv_neg he, onlyOd_neg he]; iintro ⟨-, H⟩; iexact H

theorem some_of {A : Type} {Φ : A → sProp 𝕄} (a : A) : Φ a ⊢ iprop(∃ x, Φ x) := by
  iintro H; iexists a; iexact H

theorem place0 (Φ : Fin 16 → sProp 𝕄) : bigSep Finset.univ Φ = iprop(Φ 0 ∗ bigSep away Φ) := by
  rw [bigSep_univ_at Φ 0]

/-- The device that sends no keys and values and follows a source. -/
def oddOf (m : Fin 8) : Dev nD := ⟨2 * m.val + 1, by have := m.isLt; show _ < 16; omega⟩

theorem by_parity (Φ : Dev nD → sProp 𝕄) : bigSep Finset.univ Φ = iprop(bigSep Finset.univ (fun m : Fin 8 => Φ (srcOf m)) ∗ bigSep Finset.univ (fun m : Fin 8 => Φ (oddOf m))) := by
  have hd : Disjoint ((Finset.univ : Finset (Fin 8)).map ⟨srcOf, by decide⟩) ((Finset.univ : Finset (Fin 8)).map ⟨oddOf, by decide⟩) := by decide
  have h : (Finset.univ : Finset (Dev nD)) = (Finset.univ : Finset (Fin 8)).map ⟨srcOf, by decide⟩ ∪ (Finset.univ : Finset (Fin 8)).map ⟨oddOf, by decide⟩ := by decide
  rw [h, BI.bigSep_union hd, bigSep_map, bigSep_map]; rfl

/-- A device's position at the cell of place `o` of array `a`, and the cell's counter at zero. -/
def pos (a : Fin 8) (o : Fin 16) : sProp 𝕄 := atPos ER (xf c a (sh c o)) 0 ∅ 0
def zer (a : Fin 8) (o : Fin 16) : sProp 𝕄 := semVal (xf c a (sh c o)) 0
def crd (a : Fin 8) (o : Fin 16) : sProp 𝕄 := cred (tallyAt (xf c a (sh c o)) () (amt a))

abbrev Fam (a : Fin 8) (n : ℕ) : sProp 𝕄 := fam away n (fun o => AWait c I PB a (sh c o)) (fun o => BWait c a (sh c o))

theorem wait_ready (a : Fin 8) : iprop(bigSep away (crd (F := F) c a) ∗ bigSep away (pos c a)) ⊢ Fam c I PB a 1 :=
  (Entails.of_eq (bigSep_sep' away (crd c a) (pos c a)).symm).trans (fam_start away_ge)

theorem wait_done (a : Fin 8) : Fam c I PB a 16 ⊢ iprop(bigSep away (fun o => xfPay I PB c a (sh c o)) ∗ bigSep away (zer c a)) :=
  (fam_end le_rfl).trans (Entails.of_eq (bigSep_sep' away (fun o => xfPay I PB c a (sh c o)) (zer c a)))

/-! ## Keys and values -/

/-- The right to pay the cells of place `o`: the device's own send cell of array `b` and the peer's receive cell of array `a`. -/
def tok (b a : Fin 8) (o : Fin 16) : sProp 𝕄 := iprop(dutyTok ER (xf c b (sh c o)) 0 (sh c o) ∗ dutyTok ER (xf (sh c o) a c) 0 c)

abbrev plK (o : Fin 16) : sProp 𝕄 := placeK (F := F) (sh c o) c
abbrev plV (o : Fin 16) : sProp 𝕄 := placeV (F := F) (sh c o) c
abbrev plA (o : Fin 16) : sProp 𝕄 := placeA (F := F) (sh c o) c
abbrev plG (o : Fin 16) : sProp 𝕄 := placeG (F := F) (sh c o) c

theorem signalled : bigSep away (fun o => barPay (F := F) c (sh c o)) ⊢ iprop(bigSep away (plK (F := F) c) ∗ bigSep away (plV (F := F) c) ∗ bigSep away (plA (F := F) c) ∗ bigSep away (plG (F := F) c)) := by
  unfold barPay
  rw [bigSep_sep', bigSep_sep', bigSep_sep']

theorem kv_ready :
    iprop(onlyEv c iprop(fam Finset.univ 16 (AK0 c I) (BK0 c) ∗ fam Finset.univ 16 (AV0 c I) (BV0 c) ∗ in2P c (I.k c) ∗ in3P c (I.v c))
        ∗ onlyEv c iprop(bigSep away (tok c 4 0) ∗ bigSep away (tok c 5 1)) ∗ placeK (F := F) c c ∗ placeV (F := F) c c
        ∗ bigSep away (plK (F := F) c) ∗ bigSep away (plV (F := F) c))
      ⊢ iprop(onlyEv c (fam away 1 (AKV c) (BKV c I)) ∗ onlyEv c (OwnIn c I) ∗ onlyEv c iprop(in2P c (I.k c) ∗ in3P c (I.v c))) := by
  by_cases he : ev c
  · simp only [onlyEv_pos he]
    have hk : fam Finset.univ 16 (AK0 c I) (BK0 c) ⊢ iprop(kstP c fullShare (rowsAt 1 0) (KST I.k c) ∗ bigSep away (AK0 c I)) := (fam_end le_rfl).trans (Entails.of_eq (place0 _))
    have hv : fam Finset.univ 16 (AV0 c I) (BV0 c) ⊢ iprop(vstP c fullShare (rowsAt 1 0) (KST I.v c) ∗ bigSep away (AV0 c I)) := (fam_end le_rfl).trans (Entails.of_eq (place0 _))
    have hj : iprop((bigSep away (AK0 c I) ∗ bigSep away (plK (F := F) c) ∗ bigSep away (tok c 4 0)) ∗ (bigSep away (AV0 c I) ∗ bigSep away (plV (F := F) c) ∗ bigSep away (tok c 5 1)))
        ⊢ bigSep away (BKV c I) := by
      simp only [← bigSep_sep']; exact Entails.refl _
    iintro ⟨⟨HK, HV, H2, H3⟩, ⟨HT4, HT5⟩, Hp, Hq, HPK, HPV⟩
    ihave HK := hk $$ HK
    icases HK with ⟨HK0, HK⟩
    ihave HV := hv $$ HV
    icases HV with ⟨HV0, HV⟩
    isplitl [HK HV HT4 HT5 HPK HPV]
    · iapply (fam_start away_ge)
      iapply hj
      isplitl [HK HPK HT4]
      · isplitl [HK]; · iexact HK
        isplitl [HPK] <;> iassumption
      isplitl [HV]; · iexact HV
      isplitl [HPV] <;> iassumption
    isplitl [HK0 HV0 Hp Hq]
    · unfold OwnIn
      isplitl [HK0]; · iexact HK0
      isplitl [HV0]; · iexact HV0
      isplitl [Hp] <;> iassumption
    isplitl [H2] <;> iassumption
  · simp only [onlyEv_neg he]
    iintro -
    isplitr; · iempintro
    isplitr <;> iempintro

theorem kv_sent :
    iprop(onlyEv c (fam away 16 (AKV c) (BKV c I)) ∗ onlyEv c iprop(bigSep away (pos (F := F) c 4) ∗ bigSep away (pos c 5)))
      ⊢ onlyEv c iprop(Fam c I PB 4 1 ∗ Fam c I PB 5 1) := by
  by_cases he : ev c
  · simp only [onlyEv_pos he]
    have h : fam away 16 (AKV c) (BKV c I) ⊢ iprop(bigSep away (crd (F := F) c 4) ∗ bigSep away (crd c 5)) := (fam_end le_rfl).trans (Entails.of_eq (bigSep_sep' away (crd c 4) (crd c 5)))
    iintro ⟨H, H4, H5⟩
    ihave H := h $$ H
    icases H with ⟨Ha, Hb⟩
    isplitl [Ha H4]
    · iapply (wait_ready c I PB 4); isplitl [Ha] <;> iassumption
    iapply (wait_ready c I PB 5); isplitl [Hb] <;> iassumption
  · simp only [onlyEv_neg he]
    iintro -
    iempintro

/-- The receive cells of source `m`: closed if the source is the device itself, else open with the credit. -/
def SM (m : Fin 8) : sProp 𝕄 := if srcOf m = c then iprop(semVal (xf c 0 (srcOf m)) 0 ∗ semVal (xf c 1 (srcOf m)) 0) else iprop(BWait c 0 (srcOf m) ∗ BWait c 1 (srcOf m))

theorem bm_ready :
    iprop(onlyEv c (OwnOut c I) ∗ bigSep Finset.univ (SM (F := F) c))
      ⊢ iprop(onlyEv c iprop(kstP c fullShare (rowsAt 1 0) (KST I.k c) ∗ vstP c fullShare (rowsAt 1 0) (KST I.v c)) ∗ fam Finset.univ 0 (AM c I) (BM c I)) := by
  by_cases he : ev c
  · obtain ⟨m, hm⟩ : ∃ m : Fin 8, srcOf m = c := ⟨⟨c.val / 2, by have : c.val < 16 := c.isLt; omega⟩, Fin.ext (by show 2 * (c.val / 2) = c.val; have : c.val % 2 = 0 := he; omega)⟩
    have hm2 : c.val / 2 = m.val := by rw [← hm]; show 2 * m.val / 2 = m.val; omega
    have e : ∀ Φ : Fin 8 → sProp 𝕄, bigSep Finset.univ Φ = iprop(Φ m ∗ bigSep (Finset.univ.erase m) Φ) := fun Φ => bigSep_univ_at Φ m
    have hr : bigSep (Finset.univ.erase m) (SM (F := F) c) = bigSep (Finset.univ.erase m) (BM c I) := fam_congr fun p hp => by
      have hne : srcOf p ≠ c := fun h => Finset.ne_of_mem_erase hp (by
        have := congrArg (fun d : Dev nD => d.val) (h.trans hm.symm); exact Fin.ext (by change 2 * p.val = 2 * m.val at this; omega))
      unfold SM BM; rw [if_neg hne, if_neg hne]
    simp only [onlyEv_pos he]
    have hf : bigSep Finset.univ (BM c I) ⊢ fam Finset.univ 0 (AM c I) (BM c I) := fam_start fun _ _ => Nat.zero_le _
    refine BIBase.Entails.trans ?_ (sep_mono_right hf)
    rw [e, e, hr, show SM (F := F) c m = iprop(semVal (xf c 0 (srcOf m)) 0 ∗ semVal (xf c 1 (srcOf m)) 0) from if_pos hm, show BM c I m = AM c I m from if_pos hm]
    unfold OwnOut AM
    rw [hm2]
    iintro ⟨⟨Hk, Hv, Hrk, Hrv⟩, ⟨⟨Hz, Hz'⟩, H⟩⟩
    isplitl [Hk Hv]
    · isplitl [Hk] <;> iassumption
    isplitl [Hrk Hrv Hz Hz']
    · isplitl [Hrk]; · iexact Hrk
      isplitl [Hrv]; · iexact Hrv
      isplitl [Hz] <;> iassumption
    iexact H
  · simp only [onlyEv_neg he]
    have hr : bigSep Finset.univ (SM (F := F) c) = bigSep Finset.univ (BM c I) := fam_congr fun p hp => by
      have hne : srcOf p ≠ c := fun h => he (by rw [← h]; show 2 * p.val % 2 = 0; omega)
      unfold SM BM; rw [if_neg hne, if_neg hne]
    have hf : bigSep Finset.univ (BM c I) ⊢ fam Finset.univ 0 (AM c I) (BM c I) := fam_start fun _ _ => Nat.zero_le _
    refine BIBase.Entails.trans ?_ (sep_mono_right hf)
    rw [hr]

/-! ## The sum over the heads -/

theorem pb_halves (q : PosShare TreeShare) (f : Vec F S256x512 .bf16) : pbP c q Finset.univ f = iprop(pbP c q (rowsAt 128 0) f ∗ pbP c q (rowsAt 128 1) f) := by
  have h := (congrArg (fun S => pbP c q S f) (rowsAt_union (d := S256x512.size) 128 2 (by decide) rfl)).trans
    (pointsTo_biUnion (ℓ := (c : Thread nD τ).loc cc0_scratch4) (q := q) (f := f) Finset.univ (fun k : Fin 2 => rowsAt (d := S256x512.size) 128 k.val)
      fun _ _ _ _ h => rowsAt_disjoint fun e => h (Fin.ext e))
  rw [h, bigSep_univ_two]; rfl

theorem red_ready :
    iprop(pbP c fullShare (rowsAt 128 0) (PB c) ∗ pbP c fullShare (rowsAt 128 1) (PB c) ∗ bigSep away (plA (F := F) c) ∗ bigSep away (tok c 6 2))
      ⊢ iprop(pbP c fullShare (rowsAt 16 c.val) (PB c) ∗ fam away 1 (AR c) (BR c PB)) := by
  have h1 : iprop(pbP c fullShare (rowsAt 128 0) (PB c) ∗ pbP c fullShare (rowsAt 128 1) (PB c)) ⊢ iprop(pbP c fullShare (rowsAt 16 c.val) (PB c) ∗ bigSep away fun o => pbP c fullShare (rowsAt 16 (sh c o).val) (PB c)) := by
    rw [← pb_halves, rows_pb]; exact Entails.of_eq (everyone c fun d => pbP c fullShare (rowsAt 16 d.val) (PB c))
  have hj : iprop((bigSep away fun o => pbP c fullShare (rowsAt 16 (sh c o).val) (PB c)) ∗ bigSep away (plA (F := F) c) ∗ bigSep away (tok c 6 2)) ⊢ bigSep away (BR c PB) := by
    simp only [← bigSep_sep']; exact Entails.refl _
  iintro ⟨Ht, Hb, HA, HT⟩
  ihave H := h1 $$ [Ht Hb]
  · isplitl [Ht] <;> iassumption
  icases H with ⟨Ho, H⟩
  isplitl [Ho]; · iexact Ho
  iapply (fam_start away_ge)
  iapply hj
  isplitl [H]; · iexact H
  isplitl [HA] <;> iassumption

theorem red_wait : iprop(fam away 16 (AR c) (BR c PB) ∗ bigSep away (pos c 6)) ⊢ Fam c I PB 6 1 :=
  (sep_mono_left (fam_end le_rfl)).trans (wait_ready c I PB 6)

theorem pb_join : iprop(pbP c fullShare (rowsAt 16 c.val) (PB c) ∗ Fam c I PB 6 16) ⊢ iprop(pbP c fullShare Finset.univ (PB c) ∗ bigSep away (zer c 6)) := by
  have h : iprop(pbP c fullShare (rowsAt 16 c.val) (PB c) ∗ bigSep away (fun o => xfPay I PB c 6 (sh c o))) ⊢ pbP c fullShare Finset.univ (PB c) := by
    rw [rows_pb]; exact Entails.of_eq (everyone c fun d => pbP c fullShare (rowsAt 16 d.val) (PB c)).symm
  iintro ⟨Ho, H⟩
  ihave H := (wait_done c I PB 6) $$ H
  icases H with ⟨H, Hz⟩
  isplitl [Ho H]
  · iapply h; isplitl [Ho] <;> iassumption
  iexact Hz

theorem acc_join : iprop(accP c fullShare (rowsAt 1 c.val) (ACC PB c) ∗ Fam c I PB 2 16) ⊢ iprop(accP c fullShare Finset.univ (ACC PB c) ∗ bigSep away (zer c 2)) := by
  have h : iprop(accP c fullShare (rowsAt 1 c.val) (ACC PB c) ∗ bigSep away (fun o => xfPay I PB c 2 (sh c o))) ⊢ accP c fullShare Finset.univ (ACC PB c) := by
    rw [rows_acc]; exact Entails.of_eq (everyone c fun d => accP c fullShare (rowsAt 1 d.val) (ACC PB c)).symm
  iintro ⟨Ho, H⟩
  ihave H := (wait_done c I PB 2) $$ H
  icases H with ⟨H, Hz⟩
  isplitl [Ho H]
  · iapply h; isplitl [Ho] <;> iassumption
  iexact Hz

/-! ## The gathered sums -/

abbrev redTok (o : Fin 16) : sProp 𝕄 := redP c (Transfers.shareTok fullShare 16 o) Finset.univ (RED PB c)

theorem red_shares : redP c fullShare Finset.univ (RED PB c)
    ⊣⊢ iprop(redP c (Transfers.shareDrop fullShare 16) Finset.univ (RED PB c) ∗ redTok c PB 0 ∗ bigSep away (redTok c PB)) := by
  rw [← place0 (redTok c PB)]
  exact Transfers.pointsTo_toks fullShare 16

theorem gath_ready : iprop(bigSep away (redTok c PB) ∗ bigSep away (plG (F := F) c) ∗ bigSep away (tok c 7 3)) ⊢ fam away 1 (AG c) (BG c PB) := by
  refine BIBase.Entails.trans ?_ (fam_start away_ge)
  simp only [← bigSep_sep']; exact Entails.refl _

theorem gath_wait : iprop(fam away 16 (AG c) (BG c PB) ∗ bigSep away (pos c 7)) ⊢ Fam c I PB 7 1 :=
  (sep_mono_left (fam_end le_rfl)).trans (wait_ready c I PB 7)

theorem gath_join : iprop(gathP c fullShare (rowsAt 1 c.val) (GATH PB) ∗ Fam c I PB 3 16) ⊢ iprop(gathP c fullShare Finset.univ (GATH PB) ∗ bigSep away (zer c 3)) := by
  have h : iprop(gathP c fullShare (rowsAt 1 c.val) (GATH PB) ∗ bigSep away (fun o => xfPay I PB c 3 (sh c o))) ⊢ gathP c fullShare Finset.univ (GATH PB) := by
    rw [rows_gath]; exact Entails.of_eq (everyone c fun d => gathP c fullShare (rowsAt 1 d.val) (GATH PB)).symm
  iintro ⟨Ho, H⟩
  ihave H := (wait_done c I PB 3) $$ H
  icases H with ⟨H, Hz⟩
  isplitl [Ho H]
  · iapply h; isplitl [Ho] <;> iassumption
  iexact Hz

theorem red_join : iprop(redP c (Transfers.shareDrop fullShare 16) Finset.univ (RED PB c) ∗ redTok c PB 0 ∗ Fam c I PB 7 16) ⊢ iprop(redP c fullShare Finset.univ (RED PB c) ∗ bigSep away (zer c 7)) := by
  have h : bigSep away (fun o => xfPay I PB c 7 (sh c o)) = bigSep away (redTok c PB) := fam_congr fun o _ => by unfold xfPay; dsimp only; rw [df_sh]
  have h' := (wait_done c I PB 7).trans (Entails.of_eq (congrArg (fun X => iprop(X ∗ bigSep away (zer c 7))) h))
  iintro ⟨Hd, H0, H⟩
  ihave H := h' $$ H
  icases H with ⟨H, Hz⟩
  isplitl [Hd H0 H]
  · iapply (red_shares c PB).2
    isplitl [Hd]; · iexact Hd
    isplitl [H0] <;> iassumption
  iexact Hz

/-! ## The ends -/

abbrev someK : sProp 𝕄 := iprop(∃ f : Vec F S16x2x128x4x64 .bf16, kstP c fullShare Finset.univ f)
abbrev someV : sProp 𝕄 := iprop(∃ f : Vec F S16x2x128x4x64 .bf16, vstP c fullShare Finset.univ f)

theorem kst_slots : someK (F := F) c ⊢ fam Finset.univ 0 (AK0 c I) (BK0 c) := by
  refine BIBase.Entails.trans ?_ (fam_start fun _ _ => Nat.zero_le _)
  iintro ⟨%f, H⟩
  have h : kstP c fullShare Finset.univ f ⊢ bigSep Finset.univ (BK0 (F := F) c) := by
    rw [rows_kst]; exact bigSep_mono fun o _ => by exact some_of (Φ := fun f => kstP c fullShare (rowsAt 1 o.val) f) f
  iapply h; iexact H
theorem vst_slots : someV (F := F) c ⊢ fam Finset.univ 0 (AV0 c I) (BV0 c) := by
  refine BIBase.Entails.trans ?_ (fam_start fun _ _ => Nat.zero_le _)
  iintro ⟨%f, H⟩
  have h : vstP c fullShare Finset.univ f ⊢ bigSep Finset.univ (BV0 (F := F) c) := by
    rw [rows_vst]; exact bigSep_mono fun o _ => by exact some_of (Φ := fun f => vstP c fullShare (rowsAt 1 o.val) f) f
  iapply h; iexact H

theorem kv_join : iprop(onlyEv c iprop(kstP c fullShare (rowsAt 1 0) (KST I.k c) ∗ vstP c fullShare (rowsAt 1 0) (KST I.v c)) ∗ onlyEv c iprop(Fam c I PB 4 16 ∗ Fam c I PB 5 16) ∗ onlyOd c iprop(someK (F := F) c ∗ someV (F := F) c)
      ∗ onlyOd c iprop(bigSep away (zer c 4) ∗ bigSep away (zer c 5)))
    ⊢ iprop(someK (F := F) c ∗ someV (F := F) c ∗ bigSep away (zer c 4) ∗ bigSep away (zer c 5)) := by
  by_cases he : ev c
  · simp only [onlyEv_pos he, onlyOd_pos he]
    have h4 : bigSep away (fun o => xfPay I PB c 4 (sh c o)) = bigSep away (AK0 c I) := fam_congr fun o _ => by unfold xfPay AK0; dsimp only; rw [df_sh]
    have h5 : bigSep away (fun o => xfPay I PB c 5 (sh c o)) = bigSep away (AV0 c I) := fam_congr fun o _ => by unfold xfPay AV0; dsimp only; rw [df_sh]
    have h4' := (wait_done c I PB 4).trans (Entails.of_eq (congrArg (fun X => iprop(X ∗ bigSep away (zer c 4))) h4))
    have h5' := (wait_done c I PB 5).trans (Entails.of_eq (congrArg (fun X => iprop(X ∗ bigSep away (zer c 5))) h5))
    have hk : iprop(kstP c fullShare (rowsAt 1 0) (KST I.k c) ∗ bigSep away (AK0 c I)) ⊢ kstP c fullShare Finset.univ (KST I.k c) := by rw [rows_kst, place0]; exact Entails.refl _
    have hv : iprop(vstP c fullShare (rowsAt 1 0) (KST I.v c) ∗ bigSep away (AV0 c I)) ⊢ vstP c fullShare Finset.univ (KST I.v c) := by rw [rows_vst, place0]; exact Entails.refl _
    iintro ⟨⟨HK0, HV0⟩, ⟨H4, H5⟩, -, -⟩
    ihave H4 := h4' $$ H4
    icases H4 with ⟨H4, Z4⟩
    ihave H5 := h5' $$ H5
    icases H5 with ⟨H5, Z5⟩
    isplitl [HK0 H4]
    · iexists (KST I.k c); iapply hk; isplitl [HK0] <;> iassumption
    isplitl [HV0 H5]
    · iexists (KST I.v c); iapply hv; isplitl [HV0] <;> iassumption
    isplitl [Z4] <;> iassumption
  · simp only [onlyEv_neg he, onlyOd_neg he]
    iintro ⟨-, -, ⟨HK, HV⟩, HZ, HZ'⟩
    isplitl [HK]; · iexact HK
    isplitl [HV]; · iexact HV
    isplitl [HZ] <;> iassumption

abbrev someRK : sProp 𝕄 := iprop(∃ f : Vec F S8x2x128x4x64 .bf16, rbkP c fullShare Finset.univ f)
abbrev someRV : sProp 𝕄 := iprop(∃ f : Vec F S8x2x128x4x64 .bf16, rbvP c fullShare Finset.univ f)
abbrev someB : sProp 𝕄 := iprop(∃ f : Vec F S256x512 .bf16, pbP c fullShare Finset.univ f)
abbrev someA : sProp 𝕄 := iprop(∃ f : Vec F S16x16x512 .bf16, accP c fullShare Finset.univ f)
abbrev someD : sProp 𝕄 := iprop(∃ f : Vec F S16x512 .bf16, redP c fullShare Finset.univ f)
abbrev someG : sProp 𝕄 := iprop(∃ f : Vec F S16x16x512 .bf16, gathP c fullShare Finset.univ f)

theorem rbk_places : someRK (F := F) c ⊢ bigSep Finset.univ fun d : Dev nD => placeK (F := F) c d := by
  iintro ⟨%f, H⟩
  have h : rbkP c fullShare Finset.univ f ⊢ bigSep Finset.univ fun d : Dev nD => placeK (F := F) c d := by
    rw [rows_rbk, by_parity]
    have h1 : (bigSep Finset.univ fun m : Fin 8 => rbkP c fullShare (rowsAt 1 m.val) f) ⊢ bigSep Finset.univ fun m : Fin 8 => placeK (F := F) c (srcOf m) :=
      bigSep_mono fun m _ => by unfold placeK; rw [rbRows_src]; exact some_of (Φ := fun f => rbkP c fullShare (rowsAt 1 m.val) f) f
    have h2 : (iprop(emp) : sProp 𝕄) ⊢ bigSep Finset.univ fun m : Fin 8 => placeK (F := F) c (oddOf m) := by
      refine BIBase.Entails.trans (Entails.of_eq (bigSep_emp_const (Finset.univ : Finset (Fin 8))).symm) (bigSep_mono fun m _ => ?_)
      have ho : rbRows (oddOf m) = ∅ := if_neg (by show ¬ (2 * m.val + 1) % 2 = 0; omega)
      unfold placeK; rw [ho]
      have he : (iprop(emp) : sProp 𝕄) ⊢ rbkP c fullShare ∅ f := Entails.of_eq pointsTo_empty.symm
      exact he.trans (some_of (Φ := fun f => rbkP c fullShare ∅ f) f)
    iintro H
    isplitl; · iapply h1; iexact H
    iapply h2; iempintro
  iapply h; iexact H
theorem rbv_places : someRV (F := F) c ⊢ bigSep Finset.univ fun d : Dev nD => placeV (F := F) c d := by
  iintro ⟨%f, H⟩
  have h : rbvP c fullShare Finset.univ f ⊢ bigSep Finset.univ fun d : Dev nD => placeV (F := F) c d := by
    rw [rows_rbv, by_parity]
    have h1 : (bigSep Finset.univ fun m : Fin 8 => rbvP c fullShare (rowsAt 1 m.val) f) ⊢ bigSep Finset.univ fun m : Fin 8 => placeV (F := F) c (srcOf m) :=
      bigSep_mono fun m _ => by unfold placeV; rw [rbRows_src]; exact some_of (Φ := fun f => rbvP c fullShare (rowsAt 1 m.val) f) f
    have h2 : (iprop(emp) : sProp 𝕄) ⊢ bigSep Finset.univ fun m : Fin 8 => placeV (F := F) c (oddOf m) := by
      refine BIBase.Entails.trans (Entails.of_eq (bigSep_emp_const (Finset.univ : Finset (Fin 8))).symm) (bigSep_mono fun m _ => ?_)
      have ho : rbRows (oddOf m) = ∅ := if_neg (by show ¬ (2 * m.val + 1) % 2 = 0; omega)
      unfold placeV; rw [ho]
      have he : (iprop(emp) : sProp 𝕄) ⊢ rbvP c fullShare ∅ f := Entails.of_eq pointsTo_empty.symm
      exact he.trans (some_of (Φ := fun f => rbvP c fullShare ∅ f) f)
    iintro H
    isplitl; · iapply h1; iexact H
    iapply h2; iempintro
  iapply h; iexact H
theorem acc_places : someA (F := F) c ⊢ bigSep Finset.univ fun d : Dev nD => placeA (F := F) c d := by
  iintro ⟨%f, H⟩
  have h : accP c fullShare Finset.univ f ⊢ bigSep Finset.univ fun d : Dev nD => placeA (F := F) c d := by
    rw [rows_acc]; exact bigSep_mono fun d _ => by exact some_of (Φ := fun f => accP c fullShare (rowsAt 1 d.val) f) f
  iapply h; iexact H
theorem gath_places : someG (F := F) c ⊢ bigSep Finset.univ fun d : Dev nD => placeG (F := F) c d := by
  iintro ⟨%f, H⟩
  have h : gathP c fullShare Finset.univ f ⊢ bigSep Finset.univ fun d : Dev nD => placeG (F := F) c d := by
    rw [rows_gath]; exact bigSep_mono fun d _ => by exact some_of (Φ := fun f => gathP c fullShare (rowsAt 1 d.val) f) f
  iapply h; iexact H

/-- The places of the receive buffers, dealt: the device's own, and with each signal its target's. -/
theorem sig_ready : iprop(someRK (F := F) c ∗ someRV (F := F) c ∗ someA (F := F) c ∗ someG (F := F) c ∗ bigSep away (fun o => dutyTok ER (bar (sh c o)) 0 c))
    ⊢ iprop(placeK (F := F) c c ∗ placeV (F := F) c c ∗ placeA (F := F) c c ∗ placeG (F := F) c c ∗ fam away 1 (fun _ => iprop(emp)) (BSig c)) := by
  have hK := (rbk_places (F := F) c).trans (Entails.of_eq (everyone c fun d => placeK (F := F) c d))
  have hV := (rbv_places (F := F) c).trans (Entails.of_eq (everyone c fun d => placeV (F := F) c d))
  have hA := (acc_places (F := F) c).trans (Entails.of_eq (everyone c fun d => placeA (F := F) c d))
  have hG := (gath_places (F := F) c).trans (Entails.of_eq (everyone c fun d => placeG (F := F) c d))
  have hj : iprop(bigSep away (fun o => dutyTok ER (bar (sh c o)) 0 c) ∗ (bigSep away fun o => placeK (F := F) c (sh c o)) ∗ (bigSep away fun o => placeV (F := F) c (sh c o))
      ∗ (bigSep away fun o => placeA (F := F) c (sh c o)) ∗ (bigSep away fun o => placeG (F := F) c (sh c o))) ⊢ bigSep away (BSig (F := F) c) := by
    simp only [← bigSep_sep']; exact Entails.refl _
  iintro ⟨HK, HV, HA, HG, HT⟩
  ihave HK := hK $$ HK
  ihave HV := hV $$ HV
  ihave HA := hA $$ HA
  ihave HG := hG $$ HG
  icases HK with ⟨HK0, HK⟩
  icases HV with ⟨HV0, HV⟩
  icases HA with ⟨HA0, HA⟩
  icases HG with ⟨HG0, HG⟩
  isplitl [HK0]; · iexact HK0
  isplitl [HV0]; · iexact HV0
  isplitl [HA0]; · iexact HA0
  isplitl [HG0]; · iexact HG0
  iapply (fam_start away_ge)
  iapply hj
  isplitl [HT]; · iexact HT
  isplitl [HK]; · iexact HK
  isplitl [HV]; · iexact HV
  isplitl [HA] <;> iassumption

end Cert.SparseAttn

end
-- ==== Proof.Half.lean ====
/-
The first half of the body: the handshake, the transfers of keys and values, the attention, and
most of the sends of the reduce-scatter.
-/
module

public import proofs.«01_k».proof.Proof.Regroup

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-- What each device adds to the output. -/
def PBof (I : Inputs F) (c : Dev nD) : Vec F S256x512 .bf16 := pbOf (I.x c) (I.wq c) (RBK I.k c) (RBK I.v c) (I.wo c)

variable {I : Inputs F} {κ : Dev nD × K → ℕ}

theorem part23 : (iprop(emp) : sProp 𝕄) ⊢ run c (k0_part23 (F := F) in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15) (fun r => iprop(⌜c = r.1 ∧ wv c = r.2.1 ∧ (SemArray.scalar (sig.barrier 0 rfl) : Sems sig S_) = r.2.2.2.2.1⌝ ∗ emp)) := by
  rw [k0_part23_eq_skeleton]
  unfold k0_part23_skel
  simp only [Prog.lift, Prog.bind_op, Prog.bind_ret, Prog.pure_eq_ret, run, wp_deviceId]
  iintro -
  iapply (run_ret (c := c))
  isplitr; · ipureintro; exact ⟨rfl, rfl, rfl⟩
  iempintro

set_option maxHeartbeats 0 in
theorem part112 :
    iprop(recs I (PBof I) κ ∗ fam away 1 (fun _ => iprop(emp)) (BSig c) ∗ cred (tallyAt (bar c) () 15) ∗ atPos ER (bar c) 0 ∅ 0 ∗ ow c (owed c 1 1 1 1)
        ∗ onlyEv c iprop(fam Finset.univ 0 (AK0 c I) (BK0 c) ∗ fam Finset.univ 0 (AV0 c I) (BV0 c) ∗ in2P c (I.k c) ∗ in3P c (I.v c))
        ∗ onlyEv c iprop(bigSep away (tok c 4 0) ∗ bigSep away (tok c 5 1)) ∗ placeK c c ∗ placeV c c
        ∗ onlyEv c iprop(bigSep away (pos c 4) ∗ bigSep away (pos c 5)) ∗ bigSep Finset.univ (SM c)
        ∗ in1P c (I.wq c) ∗ in0P c (I.x c) ∗ in4P c (I.wo c) ∗ someB c ∗ bigSep away (tok c 6 2))
      ⊢ run c (k0_part112 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15) (fun r => iprop(⌜c = r.1⌝ ∗ semVal (bar c) 0 ∗ onlyEv c iprop(in2P c (I.k c) ∗ in3P c (I.v c))
        ∗ onlyEv c iprop(kstP c fullShare (rowsAt 1 0) (KST I.k c) ∗ vstP c fullShare (rowsAt 1 0) (KST I.v c))
        ∗ onlyEv c iprop(Fam c I (PBof I) 4 16 ∗ Fam c I (PBof I) 5 16)
        ∗ rbkP c fullShare Finset.univ (RBK I.k c) ∗ rbvP c fullShare Finset.univ (RBK I.v c)
        ∗ bigSep Finset.univ (fun m : Fin 8 => iprop(semVal (xf c 0 (srcOf m)) 0 ∗ semVal (xf c 1 (srcOf m)) 0))
        ∗ in1P c (I.wq c) ∗ in0P c (I.x c) ∗ in4P c (I.wo c) ∗ pbP c fullShare (rowsAt 16 c.val) (PBof I c)
        ∗ fam away 13 (AR c) (BR c (PBof I)) ∗ bigSep away (plG c) ∗ ow c (owed c 16 16 13 1))) := by
  rw [k0_part112_eq_skeleton]
  unfold k0_part112_skel
  iintro ⟨#Hr, Hsig, Hcb, Hab, Ho, HS, HT, HpK, HpV, Hq, HSM, H1, H0, H4, ⟨%f0, Hb⟩, HT6⟩
  ihave He := (Entails.of_eq (pb_halves c fullShare f0)) $$ Hb
  icases He with ⟨Hb0, Hb1⟩
  iapply (run_bind (part23 c)) $$ []
  · iempintro
  iintro %r ⟨%hp, -⟩
  obtain ⟨d0, v2, v13, v30, v31, v34, v35, v36, c0_i32_17⟩ := r
  dsimp only at hp ⊢
  obtain ⟨rfl, rfl, rfl⟩ := hp
  iapply (run_bind (part24 (I := I) (PB := PBof I) (κ := κ) c _ _ _ _ _)) $$ [Hsig Ho]
  · isplitr; · iexact Hr
    isplitl [Hsig]; · iexact Hsig
    iexact Ho
  iintro %r ⟨Hsig, Ho⟩
  iapply (run_bind (part25 (I := I) (PB := PBof I) (κ := κ) c _)) $$ [Hsig Ho]
  · isplitr; · iexact Hr
    isplitl [Hsig]; · iexact Hsig
    iexact Ho
  iintro %r ⟨Hsig, Ho⟩
  obtain ⟨v99, v100, v101, c0_i32_63⟩ := r
  dsimp only
  iapply (run_bind (part26 (I := I) (PB := PBof I) (κ := κ) c _ _ _ _ _)) $$ [Hsig Ho]
  · isplitr; · iexact Hr
    isplitl [Hsig]; · iexact Hsig
    iexact Ho
  iintro %r ⟨Hsig, Ho⟩
  iapply (run_bind (part27 (I := I) (PB := PBof I) (κ := κ) c _)) $$ [Hsig Ho]
  · isplitr; · iexact Hr
    isplitl [Hsig]; · iexact Hsig
    iexact Ho
  iintro %r ⟨Hsig, Ho⟩
  obtain ⟨v164, v165, v166, c0_i32_108⟩ := r
  dsimp only
  iapply (run_bind (part28 (I := I) (PB := PBof I) (κ := κ) c _ _ _ _ _)) $$ [Hsig Ho]
  · isplitr; · iexact Hr
    isplitl [Hsig]; · iexact Hsig
    iexact Ho
  iintro %r ⟨Hsig, Ho⟩
  iapply (run_bind (part29 (I := I) (PB := PBof I) (κ := κ) c _ _)) $$ [Hsig Hcb Hab Ho HS]
  · isplitr; · iexact Hr
    isplitl [Hsig]; · iexact Hsig
    isplitl [Hcb]; · iexact Hcb
    isplitl [Hab]; · iexact Hab
    isplitl [Ho]; · iexact Ho
    iexact HS
  iintro %r ⟨Hzb, Hpay, Ho, HS⟩
  obtain ⟨v229, c16_i32_152, c0_i32_153⟩ := r
  dsimp only
  ihave Hpay := (signalled c) $$ Hpay
  icases Hpay with ⟨HplK, HplV, HplA, HplG⟩
  ihave HX := (kv_ready c I) $$ [HS HT HpK HpV HplK HplV]
  · isplitl [HS]; · iexact HS
    isplitl [HT]; · iexact HT
    isplitl [HpK]; · iexact HpK
    isplitl [HpV]; · iexact HpV
    isplitl [HplK]; · iexact HplK
    iexact HplV
  icases HX with ⟨Hkv, Hown, H23⟩
  iapply (run_bind (part30 (I := I) (PB := PBof I) (κ := κ) c _ _ _ _ _)) $$ [Hkv Ho]
  · isplitr; · iexact Hr
    isplitl [Hkv]; · iexact Hkv
    iexact Ho
  iintro %r ⟨Hkv, Ho⟩
  obtain ⟨v257, v258, v263⟩ := r
  dsimp only
  iapply (run_bind (part31 (I := I) (PB := PBof I) (κ := κ) c _ _ _ _ _)) $$ [Hkv Ho]
  · isplitr; · iexact Hr
    isplitl [Hkv]; · iexact Hkv
    iexact Ho
  iintro %r ⟨Hkv, Ho⟩
  obtain ⟨v294, c16_i32_202, c0_i32_203⟩ := r
  dsimp only
  iapply (run_bind (part32 (I := I) (PB := PBof I) (κ := κ) c _ _ _ _ _)) $$ [Hkv Ho]
  · isplitr; · iexact Hr
    isplitl [Hkv]; · iexact Hkv
    iexact Ho
  iintro %r ⟨Hkv, Ho⟩
  obtain ⟨v322, v323, v328⟩ := r
  dsimp only
  iapply (run_bind (part33 (I := I) (PB := PBof I) (κ := κ) c _ _ _ _ _)) $$ [Hkv Ho]
  · isplitr; · iexact Hr
    isplitl [Hkv]; · iexact Hkv
    iexact Ho
  iintro %r ⟨Hkv, Ho⟩
  obtain ⟨v359, c16_i32_252, c0_i32_253⟩ := r
  dsimp only
  iapply (run_bind (part34 (I := I) (PB := PBof I) (κ := κ) c _ _ _ _ _)) $$ [Hkv Ho]
  · isplitr; · iexact Hr
    isplitl [Hkv]; · iexact Hkv
    iexact Ho
  iintro %r ⟨Hkv, Ho⟩
  obtain ⟨v387, v388, v393⟩ := r
  dsimp only
  iapply (run_bind (part35 (I := I) (PB := PBof I) (κ := κ) c _ _ _ _ _ _)) $$ [Hkv Ho Hown]
  · isplitr; · iexact Hr
    isplitl [Hkv]; · iexact Hkv
    isplitl [Ho]; · iexact Ho
    iexact Hown
  iintro %r ⟨Hkv, Ho, Hown⟩
  ihave HX := (kv_sent c I (PBof I)) $$ [Hkv Hq]
  · isplitl [Hkv]; · iexact Hkv
    iexact Hq
  icases HX with Hkv
  ihave HX := (bm_ready c I) $$ [Hown HSM]
  · isplitl [Hown]; · iexact Hown
    iexact HSM
  icases HX with ⟨Hst, HM⟩
  iapply (run_bind (part36 (I := I) (PB := PBof I) (κ := κ) c)) $$ [H1 H0 HM Ho]
  · isplitr; · iexact Hr
    isplitl [H1]; · iexact H1
    isplitl [H0]; · iexact H0
    isplitl [HM]; · iexact HM
    iexact Ho
  iintro %r ⟨%h36, H1, H0, HM, Ho⟩
  obtain ⟨v431, v435, v443, c0_i32_338⟩ := r
  dsimp only at h36 ⊢
  obtain ⟨h431, h435, h443, h338⟩ := h36
  iapply (run_bind (part37 (I := I) (PB := PBof I) (κ := κ) c _ _ h443 h338)) $$ [HM Ho]
  · isplitr; · iexact Hr
    isplitl [HM]; · iexact HM
    iexact Ho
  iintro %r ⟨%h37, HM, Ho⟩
  rename' r => v457
  iapply (run_bind (part38 (I := I) (PB := PBof I) (κ := κ) c _ _ h37 _)) $$ [HM Hkv Ho]
  · isplitr; · iexact Hr
    isplitl [HM]; · iexact HM
    isplitl [Hkv]; · iexact Hkv
    iexact Ho
  iintro %r ⟨%h38, Hk, Hv, Hz01, Hkv, Ho⟩
  obtain ⟨v463, v465⟩ := r
  dsimp only at h38 ⊢
  obtain ⟨h463, h465⟩ := h38
  iapply (run_bind (part39 c (RBK I.k c) (RBK I.v c) _)) $$ [Hk Hv]
  · isplitl [Hk]; · iexact Hk
    iexact Hv
  iintro %r ⟨%h39, Hk, Hv⟩
  obtain ⟨v481, v483, v485⟩ := r
  dsimp only at h39 ⊢
  obtain ⟨h481, h483, h485⟩ := h39
  iapply (run_bind (part40 c (RBK I.k c) (RBK I.v c) _ _ _ _)) $$ [Hk Hv]
  · isplitl [Hk]; · iexact Hk
    iexact Hv
  iintro %r ⟨%h40, Hk, Hv⟩
  obtain ⟨v499, v508, v511⟩ := r
  dsimp only at h40 ⊢
  obtain ⟨h499, h508, h511⟩ := h40
  iapply (run_bind (part41 c (RBK I.k c) (RBK I.v c) _ _ _ _)) $$ [Hk Hv]
  · isplitl [Hk]; · iexact Hk
    iexact Hv
  iintro %r ⟨%h41, Hk, Hv⟩
  obtain ⟨v513, v515, v517, v519, v521, v523, v525, v527, v529, v530⟩ := r
  dsimp only at h41 ⊢
  obtain ⟨h513, h515, h517, h519, h521, h523, h525, h527, h529, h530⟩ := h41
  iapply (run_bind (part42 c (RBK I.k c) (RBK I.v c) _ _ _ _ _ _ _ _)) $$ [Hk Hv]
  · isplitl [Hk]; · iexact Hk
    iexact Hv
  iintro %r ⟨%h42, Hk, Hv⟩
  obtain ⟨v533, v550⟩ := r
  dsimp only at h42 ⊢
  obtain ⟨h533, h550⟩ := h42
  iapply (run_bind (part43 c (RBK I.k c) (RBK I.v c) _ _ _ _ _)) $$ [Hk Hv]
  · isplitl [Hk]; · iexact Hk
    iexact Hv
  iintro %r ⟨%h43, Hk, Hv⟩
  obtain ⟨v566, v568, v570, v572, v574, v576, v578⟩ := r
  dsimp only at h43 ⊢
  obtain ⟨h566, h568, h570, h572, h574, h576, h578⟩ := h43
  iapply (run_bind (part44 c (RBK I.k c) (RBK I.v c) _ _ _ _ _)) $$ [Hk Hv]
  · isplitl [Hk]; · iexact Hk
    iexact Hv
  iintro %r ⟨%h44, Hk, Hv⟩
  obtain ⟨v586, v588, v590, v592, v594, v596⟩ := r
  dsimp only at h44 ⊢
  obtain ⟨h586, h588, h590, h592, h594, h596⟩ := h44
  iapply (run_bind (part45 c (RBK I.k c) (RBK I.v c) _ _ _ _ _ _ _ _)) $$ [Hk Hv]
  · isplitl [Hk]; · iexact Hk
    iexact Hv
  iintro %r ⟨%h45, Hk, Hv⟩
  obtain ⟨v618, v620, v622, v624, v625⟩ := r
  dsimp only at h45 ⊢
  obtain ⟨h618, h620, h622, h624, h625⟩ := h45
  iapply (run_bind (part46 c (RBK I.k c) (RBK I.v c) _ _ _)) $$ [Hk Hv]
  · isplitl [Hk]; · iexact Hk
    iexact Hv
  iintro %r ⟨%h46, Hk, Hv⟩
  obtain ⟨v638, v640, v642, v644⟩ := r
  dsimp only at h46 ⊢
  obtain ⟨h638, h640, h642, h644⟩ := h46
  iapply (run_bind (part47 c (RBK I.k c) (RBK I.v c) _ _ _ _ _ _ _)) $$ [Hk Hv]
  · isplitl [Hk]; · iexact Hk
    iexact Hv
  iintro %r ⟨%h47, Hk, Hv⟩
  obtain ⟨v671, v673⟩ := r
  dsimp only at h47 ⊢
  obtain ⟨h671, h673⟩ := h47
  iapply (run_bind (part48 c (RBK I.k c) (RBK I.v c) )) $$ [Hk Hv]
  · isplitl [Hk]; · iexact Hk
    iexact Hv
  iintro %r ⟨%h48, Hk, Hv⟩
  rename' r => v691
  have h691 := h48
  iapply (run_bind (part49 c (RBK I.k c) (RBK I.v c) _ _)) $$ [Hk Hv]
  · isplitl [Hk]; · iexact Hk
    iexact Hv
  iintro %r ⟨%h49, Hk, Hv⟩
  obtain ⟨v709, v713⟩ := r
  dsimp only at h49 ⊢
  obtain ⟨h709, h713⟩ := h49
  iapply (run_bind (part50 c (RBK I.k c) (RBK I.v c) _ _ _)) $$ [Hk Hv]
  · isplitl [Hk]; · iexact Hk
    iexact Hv
  iintro %r ⟨%h50, Hk, Hv⟩
  obtain ⟨v723, v725, v727, v729, v731, v733, v735, v737⟩ := r
  dsimp only at h50 ⊢
  obtain ⟨h723, h725, h727, h729, h731, h733, h735, h737⟩ := h50
  iapply (run_bind (part51 c (RBK I.k c) (RBK I.v c) _ _ _ _ _ _)) $$ [Hk Hv]
  · isplitl [Hk]; · iexact Hk
    iexact Hv
  iintro %r ⟨%h51, Hk, Hv⟩
  obtain ⟨v743, v745, v747, v749, v751, v753, v755⟩ := r
  dsimp only at h51 ⊢
  obtain ⟨h743, h745, h747, h749, h751, h753, h755⟩ := h51
  iapply (run_bind (part52 c (RBK I.k c) (RBK I.v c) _ _ _ _ _ _ _ _ _ _)) $$ [Hk Hv]
  · isplitl [Hk]; · iexact Hk
    iexact Hv
  iintro %r ⟨%h52, Hk, Hv⟩
  obtain ⟨v776, v778, v780, v782, v784, v785⟩ := r
  dsimp only at h52 ⊢
  obtain ⟨h776, h778, h780, h782, h784, h785⟩ := h52
  iapply (run_bind (part53 c (RBK I.k c) (RBK I.v c) _ _ _ _)) $$ [Hk Hv]
  · isplitl [Hk]; · iexact Hk
    iexact Hv
  iintro %r ⟨%h53, Hk, Hv⟩
  obtain ⟨v796, v798, v800, v802, v804⟩ := r
  dsimp only at h53 ⊢
  obtain ⟨h796, h798, h800, h802, h804⟩ := h53
  iapply (run_bind (part54 c (RBK I.k c) (RBK I.v c) _ _ _ _ _ _ _)) $$ [Hk Hv]
  · isplitl [Hk]; · iexact Hk
    iexact Hv
  iintro %r ⟨%h54, Hk, Hv⟩
  obtain ⟨v828, v830, v832⟩ := r
  dsimp only at h54 ⊢
  obtain ⟨h828, h830, h832⟩ := h54
  iapply (run_bind (part55 c (RBK I.k c) (RBK I.v c) _)) $$ [Hk Hv]
  · isplitl [Hk]; · iexact Hk
    iexact Hv
  iintro %r ⟨%h55, Hk, Hv⟩
  obtain ⟨v848, v850⟩ := r
  dsimp only at h55 ⊢
  obtain ⟨h848, h850⟩ := h55
  iapply (run_bind (part56 c (RBK I.k c) (RBK I.v c) _ _ _)) $$ [Hk Hv]
  · isplitl [Hk]; · iexact Hk
    iexact Hv
  iintro %r ⟨%h56, Hk, Hv⟩
  obtain ⟨v866, v875, v876⟩ := r
  dsimp only at h56 ⊢
  obtain ⟨h866, h875, h876⟩ := h56
  have g566 := head00 h483 h485 h499 h463 h465 h481 h508 h511 h513 h515 h517 h519 h521 h523 h525 h527 h529 h530 h533 h550 h566
  have g671 := head01 h568 h570 h572 h574 h576 h578 h586 h588 h590 h592 h594 h596 h618 h620 h622 h624 h625 h638 h640 h642 h644 h671
  have g776 := head02 h709 h673 h691 h713 h723 h725 h727 h729 h731 h733 h735 h737 h743 h745 h747 h749 h751 h753 h755 h776
  have hw57 := (pb_read (inb := inb_S256x512_S128x512_0_0) (I.x c) (I.wq c) (RBK I.k c) (RBK I.v c) (I.wo c) 0 rfl).trans (rows0 (wo := I.wo c) h431 h778 h780 h782 h784 h785 h796 h798 h800 h802 h804 h828 h850 h866 h830 h832 h848 h875 h876 g566 g671 g776)
  iapply (run_bind (part57 c (RBK I.k c) (RBK I.v c) (I.wo c) _ _ _ _ _ _ _ _ f0 (PBof I c) hw57)) $$ [Hk Hv H4 Hb0]
  · isplitl [Hk]; · iexact Hk
    isplitl [Hv]; · iexact Hv
    isplitl [H4]; · iexact H4
    iexact Hb0
  iintro %r ⟨%h57, Hk, Hv, H4, Hb0⟩
  obtain ⟨v891, v893, v895, v897, v899, v901⟩ := r
  dsimp only at h57 ⊢
  obtain ⟨h891, h893, h895, h897, h899, h901⟩ := h57
  iapply (run_bind (part58 c (RBK I.k c) (RBK I.v c) _ _ _ _ _)) $$ [Hk Hv]
  · isplitl [Hk]; · iexact Hk
    iexact Hv
  iintro %r ⟨%h58, Hk, Hv⟩
  obtain ⟨v909, v911, v913, v915, v917, v919⟩ := r
  dsimp only at h58 ⊢
  obtain ⟨h909, h911, h913, h915, h917, h919⟩ := h58
  iapply (run_bind (part59 c (RBK I.k c) (RBK I.v c) _ _ _ _ _ _ _ _)) $$ [Hk Hv]
  · isplitl [Hk]; · iexact Hk
    iexact Hv
  iintro %r ⟨%h59, Hk, Hv⟩
  obtain ⟨v941, v943, v945, v947, v949⟩ := r
  dsimp only at h59 ⊢
  obtain ⟨h941, h943, h945, h947, h949⟩ := h59
  iapply (run_bind (part60 c (RBK I.k c) (RBK I.v c) _ _ _)) $$ [Hk Hv]
  · isplitl [Hk]; · iexact Hk
    iexact Hv
  iintro %r ⟨%h60, Hk, Hv⟩
  obtain ⟨v961, v963, v965, v967⟩ := r
  dsimp only at h60 ⊢
  obtain ⟨h961, h963, h965, h967⟩ := h60
  iapply (run_bind (part61 c (RBK I.k c) (RBK I.v c) _ _ _ _ _ _ _)) $$ [Hk Hv]
  · isplitl [Hk]; · iexact Hk
    iexact Hv
  iintro %r ⟨%h61, Hk, Hv⟩
  obtain ⟨v994, v996⟩ := r
  dsimp only at h61 ⊢
  obtain ⟨h994, h996⟩ := h61
  iapply (run_bind (part62 c (RBK I.k c) (RBK I.v c) )) $$ [Hk Hv]
  · isplitl [Hk]; · iexact Hk
    iexact Hv
  iintro %r ⟨%h62, Hk, Hv⟩
  rename' r => v1014
  have h1014 := h62
  iapply (run_bind (part63 c (RBK I.k c) (RBK I.v c) _ _)) $$ [Hk Hv]
  · isplitl [Hk]; · iexact Hk
    iexact Hv
  iintro %r ⟨%h63, Hk, Hv⟩
  obtain ⟨v1032, v1036⟩ := r
  dsimp only at h63 ⊢
  obtain ⟨h1032, h1036⟩ := h63
  iapply (run_bind (part64 c (RBK I.k c) (RBK I.v c) _ _ _)) $$ [Hk Hv]
  · isplitl [Hk]; · iexact Hk
    iexact Hv
  iintro %r ⟨%h64, Hk, Hv⟩
  obtain ⟨v1046, v1048, v1050, v1052, v1054, v1056, v1058, v1060⟩ := r
  dsimp only at h64 ⊢
  obtain ⟨h1046, h1048, h1050, h1052, h1054, h1056, h1058, h1060⟩ := h64
  iapply (run_bind (part65 c (RBK I.k c) (RBK I.v c) _ _ _ _ _ _)) $$ [Hk Hv]
  · isplitl [Hk]; · iexact Hk
    iexact Hv
  iintro %r ⟨%h65, Hk, Hv⟩
  obtain ⟨v1066, v1068, v1070, v1072, v1074, v1076, v1078, v1079⟩ := r
  dsimp only at h65 ⊢
  obtain ⟨h1066, h1068, h1070, h1072, h1074, h1076, h1078, h1079⟩ := h65
  iapply (run_bind (part66 c (RBK I.k c) (RBK I.v c) _ _ _ _ _ _ _ _ _ _ _)) $$ [Hk Hv]
  · isplitl [Hk]; · iexact Hk
    iexact Hv
  iintro %r ⟨%h66, Hk, Hv⟩
  obtain ⟨v1099, v1101, v1103, v1105, v1107, v1109⟩ := r
  dsimp only at h66 ⊢
  obtain ⟨h1099, h1101, h1103, h1105, h1107, h1109⟩ := h66
  iapply (run_bind (part67 c (RBK I.k c) (RBK I.v c) _ _ _ _)) $$ [Hk Hv]
  · isplitl [Hk]; · iexact Hk
    iexact Hv
  iintro %r ⟨%h67, Hk, Hv⟩
  obtain ⟨v1119, v1121, v1123, v1125, v1127⟩ := r
  dsimp only at h67 ⊢
  obtain ⟨h1119, h1121, h1123, h1125, h1127⟩ := h67
  iapply (run_bind (part68 c (RBK I.k c) (RBK I.v c) _ _ _ _ _ _ _)) $$ [Hk Hv]
  · isplitl [Hk]; · iexact Hk
    iexact Hv
  iintro %r ⟨%h68, Hk, Hv⟩
  obtain ⟨v1151, v1153, v1155⟩ := r
  dsimp only at h68 ⊢
  obtain ⟨h1151, h1153, h1155⟩ := h68
  iapply (run_bind (part69 c (RBK I.k c) (RBK I.v c) _)) $$ [Hk Hv]
  · isplitl [Hk]; · iexact Hk
    iexact Hv
  iintro %r ⟨%h69, Hk, Hv⟩
  obtain ⟨v1171, v1173, v1174⟩ := r
  dsimp only at h69 ⊢
  obtain ⟨h1171, h1173, h1174⟩ := h69
  iapply (run_bind (part70 c (RBK I.k c) (RBK I.v c) _ _ _ _)) $$ [Hk Hv]
  · isplitl [Hk]; · iexact Hk
    iexact Hv
  iintro %r ⟨%h70, Hk, Hv⟩
  obtain ⟨v1189, v1198, v1200⟩ := r
  dsimp only at h70 ⊢
  obtain ⟨h1189, h1198, h1200⟩ := h70
  iapply (run_bind (part71 c (RBK I.k c) (RBK I.v c) _ _ _ _ _)) $$ [Hk Hv]
  · isplitl [Hk]; · iexact Hk
    iexact Hv
  iintro %r ⟨%h71, Hk, Hv⟩
  obtain ⟨v1204, v1206, v1208, v1210, v1212, v1214, v1216, v1218, v1220⟩ := r
  dsimp only at h71 ⊢
  obtain ⟨h1204, h1206, h1208, h1210, h1212, h1214, h1216, h1218, h1220⟩ := h71
  iapply (run_bind (part72 c (RBK I.k c) (RBK I.v c) _ _ _ _ _ _ _)) $$ [Hk Hv]
  · isplitl [Hk]; · iexact Hk
    iexact Hv
  iintro %r ⟨%h72, Hk, Hv⟩
  obtain ⟨v1224, v1226, v1228, v1230, v1232, v1234, v1236, v1238, v1239⟩ := r
  dsimp only at h72 ⊢
  obtain ⟨h1224, h1226, h1228, h1230, h1232, h1234, h1236, h1238, h1239⟩ := h72
  iapply (run_bind (part73 c (RBK I.k c) (RBK I.v c) _ _ _ _ _ _ _ _ _ _ _)) $$ [Hk Hv]
  · isplitl [Hk]; · iexact Hk
    iexact Hv
  iintro %r ⟨%h73, Hk, Hv⟩
  obtain ⟨v1256, v1258, v1260, v1262, v1264, v1266, v1268⟩ := r
  dsimp only at h73 ⊢
  obtain ⟨h1256, h1258, h1260, h1262, h1264, h1266, h1268⟩ := h73
  iapply (run_bind (part74 c (RBK I.k c) (RBK I.v c) _ _ _ _ _)) $$ [Hk Hv]
  · isplitl [Hk]; · iexact Hk
    iexact Hv
  iintro %r ⟨%h74, Hk, Hv⟩
  obtain ⟨v1276, v1278, v1280, v1282, v1284, v1286⟩ := r
  dsimp only at h74 ⊢
  obtain ⟨h1276, h1278, h1280, h1282, h1284, h1286⟩ := h74
  have g994 := head10 h891 h893 h895 h897 h899 h901 h909 h911 h913 h915 h917 h919 h941 h943 h945 h947 h949 h961 h963 h965 h967 h994
  have g1099 := head11 h1032 h996 h1014 h1036 h1046 h1048 h1050 h1052 h1054 h1056 h1058 h1060 h1066 h1068 h1070 h1072 h1074 h1076 h1078 h1079 h1099
  have g1204 := head12 h1101 h1103 h1105 h1107 h1109 h1119 h1121 h1123 h1125 h1127 h1151 h1173 h1174 h1189 h1153 h1155 h1171 h1198 h1200 h1204
  have hw75 := (pb_read (inb := inb_S256x512_S128x512_128_0) (I.x c) (I.wq c) (RBK I.k c) (RBK I.v c) (I.wo c) 1 rfl).trans (rows1 (wo := I.wo c) h435 h1206 h1208 h1210 h1212 h1214 h1216 h1218 h1220 h1224 h1226 h1228 h1230 h1232 h1234 h1236 h1238 h1239 h1256 h1258 h1260 h1262 h1264 h1266 h1268 h1276 h1278 h1280 h1282 h1284 h1286 g994 g1099 g1204)
  iapply (run_bind (part75 c (RBK I.k c) (RBK I.v c) (I.wo c) _ _ _ _ _ _ _ _ _ _ _ _ f0 (PBof I c) hw75)) $$ [Hk Hv H4 Hb1]
  · isplitl [Hk]; · iexact Hk
    isplitl [Hv]; · iexact Hv
    isplitl [H4]; · iexact H4
    iexact Hb1
  iintro %r ⟨Hk, Hv, H4, Hb1⟩
  obtain ⟨v1318, c16_i32_1783, v1319, c1_i32_1785⟩ := r
  dsimp only
  ihave HX := (red_ready c (PBof I)) $$ [Hb0 Hb1 HplA HT6]
  · isplitl [Hb0]; · iexact Hb0
    isplitl [Hb1]; · iexact Hb1
    isplitl [HplA]; · iexact HplA
    iexact HT6
  icases HX with ⟨Hb, HR⟩
  iapply (run_bind (part76 (I := I) (PB := PBof I) (κ := κ) c _ _ _ _ _)) $$ [HR Ho]
  · isplitr; · iexact Hr
    isplitl [HR]; · iexact HR
    iexact Ho
  iintro %r ⟨HR, Ho⟩
  iapply (run_bind (part77 (I := I) (PB := PBof I) (κ := κ) c _)) $$ [HR Ho]
  · isplitr; · iexact Hr
    isplitl [HR]; · iexact HR
    iexact Ho
  iintro %r ⟨HR, Ho⟩
  obtain ⟨v1391, c1_i32_1829⟩ := r
  dsimp only
  iapply (run_bind (part78 (I := I) (PB := PBof I) (κ := κ) c _ _ _)) $$ [HR Ho]
  · isplitr; · iexact Hr
    isplitl [HR]; · iexact HR
    iexact Ho
  iintro %r ⟨HR, Ho⟩
  obtain ⟨v1425, v1426, v1427, c0_i32_1852⟩ := r
  dsimp only
  iapply (run_bind (part79 (I := I) (PB := PBof I) (κ := κ) c _ _ _ _ _)) $$ [HR Ho]
  · isplitr; · iexact Hr
    isplitl [HR]; · iexact HR
    iexact Ho
  iintro %r ⟨HR, Ho⟩
  rename' r => c8_i32_1873
  iapply (run_bind (part80 (I := I) (PB := PBof I) (κ := κ) c _ _)) $$ [HR Ho]
  · isplitr; · iexact Hr
    isplitl [HR]; · iexact HR
    iexact Ho
  iintro %r ⟨HR, Ho⟩
  iapply (run_bind (part81 (I := I) (PB := PBof I) (κ := κ) c _)) $$ [HR Ho]
  · isplitr; · iexact Hr
    isplitl [HR]; · iexact HR
    iexact Ho
  iintro %r ⟨HR, Ho⟩
  obtain ⟨v1530, v1531, v1536⟩ := r
  dsimp only
  iapply (run_bind (part82 (I := I) (PB := PBof I) (κ := κ) c _ _ _ _)) $$ [HR Ho]
  · isplitr; · iexact Hr
    isplitl [HR]; · iexact HR
    iexact Ho
  iintro %r ⟨HR, Ho⟩
  obtain ⟨v1570, c16_i32_1939, v1571, c1_i32_1941⟩ := r
  dsimp only
  iapply run_ret
  isplitr; · ipureintro; rfl
  isplitl [Hzb]; · iexact Hzb
  isplitl [H23]; · iexact H23
  isplitl [Hst]; · iexact Hst
  isplitl [Hkv]; · iexact Hkv
  isplitl [Hk]; · iexact Hk
  isplitl [Hv]; · iexact Hv
  isplitl [Hz01]; · iexact Hz01
  isplitl [H1]; · iexact H1
  isplitl [H0]; · iexact H0
  isplitl [H4]; · iexact H4
  isplitl [Hb]; · iexact Hb
  isplitl [HR]; · iexact HR
  isplitl [HplG]; · iexact HplG
  iexact Ho

end Cert.SparseAttn

end
-- ==== Proof.Body.lean ====
/-
The second half of the body, and the whole body.
-/
module

public import proofs.«01_k».proof.Proof.Half

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

theorem owed_done : owed c 16 16 16 16 = 0 := by
  unfold owed
  rw [rem_end, rem_end, rem_end, rem_end, add_zero, add_zero, add_zero]

variable {I : Inputs F} {PB : Dev nD → Vec F S256x512 .bf16} {κ : Dev nD × K → ℕ}

theorem part113 (v2 : BitVec 32) (v1570 : BitVec 32) (c16_i32_1939 : BitVec 32) (v1571 : BitVec 1) (c1_i32_1941 : BitVec 32) :
    iprop(recs I PB κ ∗ fam away 13 (AR c) (BR c PB) ∗ ow c (owed c 16 16 13 1) ∗ pbP c fullShare (rowsAt 16 c.val) (PB c) ∗ placeA c c ∗ placeG c c
        ∗ bigSep away (crd c 2) ∗ bigSep away (pos c 2) ∗ bigSep away (crd c 3) ∗ bigSep away (pos c 3) ∗ bigSep away (pos c 6) ∗ bigSep away (pos c 7)
        ∗ someD c ∗ bigSep away (plG c) ∗ bigSep away (tok c 7 3))
      ⊢ run c (k0_part113 in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15 c v2 v1570 c16_i32_1939 v1571 c1_i32_1941) (fun _ => iprop(Fam c I PB 7 14 ∗ ow c (owed c 16 16 16 16) ∗ pbP c fullShare Finset.univ (PB c)
        ∗ accP c fullShare Finset.univ (ACC PB c) ∗ gathP c fullShare Finset.univ (GATH PB) ∗ redP c (Transfers.shareDrop fullShare 16) Finset.univ (RED PB c) ∗ redTok c PB 0
        ∗ bigSep away (zer c 2) ∗ bigSep away (zer c 3) ∗ bigSep away (zer c 6))) := by
  rw [k0_part113_eq_skeleton]
  unfold k0_part113_skel
  iintro ⟨#Hr, HR, Ho, Hb, HpA, HpG, Hc2, Hq2, Hc3, Hq3, Hq6, Hq7, Hd, HplG, HT⟩
  iapply (run_bind (part83 (I := I) (PB := PB) (κ := κ) c _ _ _ _ _)) $$ [HR Ho]
  · isplitr; · iexact Hr
    isplitl [HR]; · iexact HR
    iexact Ho
  iintro %r ⟨HR, Ho⟩
  iapply (run_bind (part84 (I := I) (PB := PB) (κ := κ) c _)) $$ [HR Ho Hb HpA]
  · isplitr; · iexact Hr
    isplitl [HR]; · iexact HR
    isplitl [Ho]; · iexact Ho
    isplitl [Hb]; · iexact Hb
    iexact HpA
  iintro %r ⟨HR, Ho, Hb, Ha⟩
  obtain ⟨v1643, v1644⟩ := r
  dsimp only
  ihave HX := (wait_ready c I PB 2) $$ [Hc2 Hq2]
  · isplitl [Hc2]; · iexact Hc2
    iexact Hq2
  icases HX with H2
  iapply (run_bind (part85 (I := I) (PB := PB) (κ := κ) c _ _ _)) $$ [H2 Ho]
  · isplitr; · iexact Hr
    isplitl [H2]; · iexact H2
    iexact Ho
  iintro %r ⟨H2, Ho⟩
  obtain ⟨v1677, c16_i32_2008, c0_i32_2009⟩ := r
  dsimp only
  iapply (run_bind (part86 (I := I) (PB := PB) (κ := κ) c _ _ _ _)) $$ [H2 Ho]
  · isplitr; · iexact Hr
    isplitl [H2]; · iexact H2
    iexact Ho
  iintro %r ⟨H2, Ho⟩
  iapply (run_bind (part87 (I := I) (PB := PB) (κ := κ) c _)) $$ [H2 Ho]
  · isplitr; · iexact Hr
    isplitl [H2]; · iexact H2
    iexact Ho
  iintro %r ⟨H2, Ho⟩
  iapply (run_bind (part88 (I := I) (PB := PB) (κ := κ) c _)) $$ [H2 Ho]
  · isplitr; · iexact Hr
    isplitl [H2]; · iexact H2
    iexact Ho
  iintro %r ⟨H2, Ho⟩
  iapply (run_bind (part89 (I := I) (PB := PB) (κ := κ) c _)) $$ [H2 Ho]
  · isplitr; · iexact Hr
    isplitl [H2]; · iexact H2
    iexact Ho
  iintro %r ⟨H2, Ho⟩
  rename' r => v1814
  iapply (run_bind (part90 (I := I) (PB := PB) (κ := κ) c _ _)) $$ [H2 Ho]
  · isplitr; · iexact Hr
    isplitl [H2]; · iexact H2
    iexact Ho
  iintro %r ⟨H2, Ho⟩
  obtain ⟨v1841, v1842, v1847⟩ := r
  dsimp only
  iapply (run_bind (part91 (I := I) (PB := PB) (κ := κ) c _ _ _ _)) $$ [H2 Ho]
  · isplitr; · iexact Hr
    isplitl [H2]; · iexact H2
    iexact Ho
  iintro %r ⟨H2, Ho⟩
  obtain ⟨v1877, v1878, v1879, v1880⟩ := r
  dsimp only
  iapply (run_bind (part92 (I := I) (PB := PB) (κ := κ) c _ _ _ _ _)) $$ [H2 Ho]
  · isplitr; · iexact Hr
    isplitl [H2]; · iexact H2
    iexact Ho
  iintro %r ⟨H2, Ho⟩
  ihave HX := (acc_join c I PB) $$ [Ha H2]
  · isplitl [Ha]; · iexact Ha
    iexact H2
  icases HX with ⟨Ha, Hz2⟩
  ihave HX := (red_wait c I PB) $$ [HR Hq6]
  · isplitl [HR]; · iexact HR
    iexact Hq6
  icases HX with H6
  iapply (run_bind (part93 (I := I) (PB := PB) (κ := κ) c )) $$ [H6 Ho]
  · isplitr; · iexact Hr
    isplitl [H6]; · iexact H6
    iexact Ho
  iintro %r ⟨H6, Ho⟩
  iapply (run_bind (part94 (I := I) (PB := PB) (κ := κ) c )) $$ [H6 Ho]
  · isplitr; · iexact Hr
    isplitl [H6]; · iexact H6
    iexact Ho
  iintro %r ⟨H6, Ho⟩
  iapply (run_bind (part95 (I := I) (PB := PB) (κ := κ) c _)) $$ [H6 Ho Ha Hd]
  · isplitr; · iexact Hr
    isplitl [H6]; · iexact H6
    isplitl [Ho]; · iexact Ho
    isplitl [Ha]; · iexact Ha
    iexact Hd
  iintro %r ⟨H6, Ho, Ha, Hd⟩
  ihave HX := (pb_join c I PB) $$ [Hb H6]
  · isplitl [Hb]; · iexact Hb
    iexact H6
  icases HX with ⟨Hb, Hz6⟩
  ihave HX := ((red_shares c PB).1) $$ [Hd]
  · iexact Hd
  icases HX with ⟨Hd, Hd0, Htk⟩
  ihave HX := (gath_ready c PB) $$ [Htk HplG HT]
  · isplitl [Htk]; · iexact Htk
    isplitl [HplG]; · iexact HplG
    iexact HT
  icases HX with HG
  iapply (run_bind (part96 (I := I) (PB := PB) (κ := κ) c _)) $$ [HG Ho]
  · isplitr; · iexact Hr
    isplitl [HG]; · iexact HG
    iexact Ho
  iintro %r ⟨HG, Ho⟩
  iapply (run_bind (part97 (I := I) (PB := PB) (κ := κ) c _)) $$ [HG Ho]
  · isplitr; · iexact Hr
    isplitl [HG]; · iexact HG
    iexact Ho
  iintro %r ⟨HG, Ho⟩
  rename' r => v2080
  iapply (run_bind (part98 (I := I) (PB := PB) (κ := κ) c _ _)) $$ [HG Ho]
  · isplitr; · iexact Hr
    isplitl [HG]; · iexact HG
    iexact Ho
  iintro %r ⟨HG, Ho⟩
  rename' r => v2117
  iapply (run_bind (part99 (I := I) (PB := PB) (κ := κ) c _ _)) $$ [HG Ho]
  · isplitr; · iexact Hr
    isplitl [HG]; · iexact HG
    iexact Ho
  iintro %r ⟨HG, Ho⟩
  obtain ⟨v2147, v2148, v2153⟩ := r
  dsimp only
  iapply (run_bind (part100 (I := I) (PB := PB) (κ := κ) c _ _ _ _)) $$ [HG Ho]
  · isplitr; · iexact Hr
    isplitl [HG]; · iexact HG
    iexact Ho
  iintro %r ⟨HG, Ho⟩
  obtain ⟨v2185, v2186, v2187, v2188, v2189⟩ := r
  dsimp only
  iapply (run_bind (part101 (I := I) (PB := PB) (κ := κ) c _ _ _ _ _ _)) $$ [HG Ho]
  · isplitr; · iexact Hr
    isplitl [HG]; · iexact HG
    iexact Ho
  iintro %r ⟨HG, Ho⟩
  obtain ⟨v2223, v2224, v2225, v2226⟩ := r
  dsimp only
  iapply (run_bind (part102 (I := I) (PB := PB) (κ := κ) c _ _ _ _ _)) $$ [HG Ho]
  · isplitr; · iexact Hr
    isplitl [HG]; · iexact HG
    iexact Ho
  iintro %r ⟨HG, Ho⟩
  obtain ⟨v2261, v2262, v2263⟩ := r
  dsimp only
  iapply (run_bind (part103 (I := I) (PB := PB) (κ := κ) c _ _ _ _)) $$ [HG Ho Hd HpG]
  · isplitr; · iexact Hr
    isplitl [HG]; · iexact HG
    isplitl [Ho]; · iexact Ho
    isplitl [Hd]; · iexact Hd
    iexact HpG
  iintro %r ⟨HG, Ho, Hd, Hg⟩
  ihave HX := (wait_ready c I PB 3) $$ [Hc3 Hq3]
  · isplitl [Hc3]; · iexact Hc3
    iexact Hq3
  icases HX with H3
  ihave HX := (gath_wait c I PB) $$ [HG Hq7]
  · isplitl [HG]; · iexact HG
    iexact Hq7
  icases HX with H7
  iapply (run_bind (part104 (I := I) (PB := PB) (κ := κ) c _)) $$ [H3 Ho]
  · isplitr; · iexact Hr
    isplitl [H3]; · iexact H3
    iexact Ho
  iintro %r ⟨H3, Ho⟩
  rename' r => c4_i32_2444
  iapply (run_bind (part105 (I := I) (PB := PB) (κ := κ) c _ _)) $$ [H3 Ho]
  · isplitr; · iexact Hr
    isplitl [H3]; · iexact H3
    iexact Ho
  iintro %r ⟨H3, Ho⟩
  obtain ⟨v2369, c16_i32_2467⟩ := r
  dsimp only
  iapply (run_bind (part106 (I := I) (PB := PB) (κ := κ) c _ _ _)) $$ [H3 Ho]
  · isplitr; · iexact Hr
    isplitl [H3]; · iexact H3
    iexact Ho
  iintro %r ⟨H3, Ho⟩
  obtain ⟨v2403, c16_i32_2489, v2404⟩ := r
  dsimp only
  iapply (run_bind (part107 (I := I) (PB := PB) (κ := κ) c _ _ _ _)) $$ [H3 Ho]
  · isplitr; · iexact Hr
    isplitl [H3]; · iexact H3
    iexact Ho
  iintro %r ⟨H3, Ho⟩
  obtain ⟨v2437, v2439⟩ := r
  dsimp only
  iapply (run_bind (part108 (I := I) (PB := PB) (κ := κ) c _ _ _)) $$ [H3 Ho]
  · isplitr; · iexact Hr
    isplitl [H3]; · iexact H3
    iexact Ho
  iintro %r ⟨H3, Ho⟩
  obtain ⟨v2473, v2474, c0_i32_2536⟩ := r
  dsimp only
  iapply (run_bind (part109 (I := I) (PB := PB) (κ := κ) c _ _ _ _)) $$ [H3 Ho]
  · isplitr; · iexact Hr
    isplitl [H3]; · iexact H3
    iexact Ho
  iintro %r ⟨H3, Ho⟩
  obtain ⟨v2507, v2508, v2509, c0_i32_2559⟩ := r
  dsimp only
  iapply (run_bind (part110 (I := I) (PB := PB) (κ := κ) c _ _ _ _ _)) $$ [H3 Ho H7]
  · isplitr; · iexact Hr
    isplitl [H3]; · iexact H3
    isplitl [Ho]; · iexact Ho
    iexact H7
  iintro %r ⟨H3, Ho, H7⟩
  ihave HX := (gath_join c I PB) $$ [Hg H3]
  · isplitl [Hg]; · iexact Hg
    iexact H3
  icases HX with ⟨Hg, Hz3⟩
  iapply (run_bind (part111 (I := I) (PB := PB) (κ := κ) c )) $$ [H7 Ho]
  · isplitr; · iexact Hr
    isplitl [H7]; · iexact H7
    iexact Ho
  iintro %r ⟨H7, Ho⟩
  simp only [Prog.lift, Prog.bind_op, Prog.bind_ret, Prog.pure_eq_ret]
  iapply (step_waits (I := I) (PB := PB) (κ := κ) c 7 10 (by decide) (m := 10) (m' := 11) rfl rfl (act_send c (by decide) (fun h => absurd h (by decide)) (by decide)) (sem15 _ _ _ (f_off50_10 c)) (nc_red) 0 le_rfl (fun h => absurd h (by decide)) (fun h => absurd h (by decide)) (fun h => absurd h (by decide)) (fun h => absurd h (by decide))) $$ [H7 Ho]
  · isplitr; · iexact Hr
    isplitl [H7]; · iexact H7
    iexact Ho
  iintro ⟨H7, Ho⟩
  iapply (step_waits (I := I) (PB := PB) (κ := κ) c 7 11 (by decide) (m := 11) (m' := 12) rfl rfl (act_send c (by decide) (fun h => absurd h (by decide)) (by decide)) (sem15 _ _ _ (f_off50_11 c)) (nc_red) 0 le_rfl (fun h => absurd h (by decide)) (fun h => absurd h (by decide)) (fun h => absurd h (by decide)) (fun h => absurd h (by decide))) $$ [H7 Ho]
  · isplitr; · iexact Hr
    isplitl [H7]; · iexact H7
    iexact Ho
  iintro ⟨H7, Ho⟩
  iapply (step_waits (I := I) (PB := PB) (κ := κ) c 7 12 (by decide) (m := 12) (m' := 13) rfl rfl (act_send c (by decide) (fun h => absurd h (by decide)) (by decide)) (sem15 _ _ _ (f_off50_12 c)) (nc_red) 0 le_rfl (fun h => absurd h (by decide)) (fun h => absurd h (by decide)) (fun h => absurd h (by decide)) (fun h => absurd h (by decide))) $$ [H7 Ho]
  · isplitr; · iexact Hr
    isplitl [H7]; · iexact H7
    iexact Ho
  iintro ⟨H7, Ho⟩
  iapply (step_waits (I := I) (PB := PB) (κ := κ) c 7 13 (by decide) (m := 13) (m' := 14) rfl rfl (act_send c (by decide) (fun h => absurd h (by decide)) (by decide)) (sem15 _ _ _ (f_off50_13 c)) (nc_red) 0 le_rfl (fun h => absurd h (by decide)) (fun h => absurd h (by decide)) (fun h => absurd h (by decide)) (fun h => absurd h (by decide))) $$ [H7 Ho]
  · isplitr; · iexact Hr
    isplitl [H7]; · iexact H7
    iexact Ho
  iintro ⟨H7, Ho⟩
  iapply run_ret
  isplitl [H7]; · iexact H7
  isplitl [Ho]; · iexact Ho
  isplitl [Hb]; · iexact Hb
  isplitl [Ha]; · iexact Ha
  isplitl [Hg]; · iexact Hg
  isplitl [Hd]; · iexact Hd
  isplitl [Hd0]; · iexact Hd0
  isplitl [Hz2]; · iexact Hz2
  isplitl [Hz3]; · iexact Hz3
  iexact Hz6

/-! ## The whole body -/

theorem kv_start (I : Inputs F) : iprop(someK c ∗ someV c ∗ in2P c (I.k c) ∗ in3P c (I.v c))
    ⊢ iprop(onlyEv c iprop(fam Finset.univ 0 (AK0 c I) (BK0 c) ∗ fam Finset.univ 0 (AV0 c I) (BV0 c) ∗ in2P c (I.k c) ∗ in3P c (I.v c))
      ∗ onlyOd c iprop(someK (F := F) c ∗ someV (F := F) c) ∗ onlyOd c iprop(in2P c (I.k c) ∗ in3P c (I.v c))) := by
  by_cases he : ev c
  · simp only [onlyEv_pos he, onlyOd_pos he]
    iintro ⟨HK, HV, H2, H3⟩
    ihave HK := (kst_slots c I) $$ HK
    ihave HV := (vst_slots c I) $$ HV
    isplitl
    · isplitl [HK]; · iexact HK
      isplitl [HV]; · iexact HV
      isplitl [H2]; · iexact H2
      iexact H3
    · isplitl <;> iempintro
  · simp only [onlyEv_neg he, onlyOd_neg he]
    iintro ⟨HK, HV, H2, H3⟩
    isplitr; · iempintro
    isplitl [HK HV]
    · isplitl [HK]; · iexact HK
      iexact HV
    · isplitl [H2]; · iexact H2
      iexact H3

/-- The counters of array `a`, all at zero. -/
def zeros (a : Fin 8) : sProp 𝕄 := bigSep Finset.univ fun j : Dev nD => semVal (xf c a j) 0

theorem zeros_eq (a : Fin 8) : (zeros c a : sProp 𝕄) = iprop(semVal (xf c a c) 0 ∗ bigSep away (zer c a)) := everyone c fun j => semVal (xf c a j) 0

theorem zeros_src : iprop((bigSep Finset.univ fun m : Fin 8 => iprop(semVal (xf c 0 (srcOf m)) 0 ∗ semVal (xf c 1 (srcOf m)) 0))
      ∗ (bigSep Finset.univ fun m : Fin 8 => iprop(semVal (xf c 0 (oddOf m)) 0 ∗ semVal (xf c 1 (oddOf m)) 0))) ⊢ (iprop(zeros c 0 ∗ zeros c 1) : sProp 𝕄) := by
  unfold zeros
  exact Entails.of_eq ((by_parity (fun j : Dev nD => (iprop(semVal (xf c 0 j) 0 ∗ semVal (xf c 1 j) 0) : sProp 𝕄))).symm.trans (bigSep_sep' _ _ _))

/-- What the protocol hands device `c` at its start. -/
def ghost : sProp 𝕄 :=
  iprop((bigSep away fun o => dutyTok ER (bar (sh c o)) 0 c) ∗ onlyEv c iprop(bigSep away (tok c 4 0) ∗ bigSep away (tok c 5 1)) ∗ bigSep away (tok c 6 2) ∗ bigSep away (tok c 7 3)
    ∗ cred (tallyAt (bar c) () 15) ∗ bigSep away (crd c 2) ∗ bigSep away (crd c 3)
    ∗ atPos ER (bar c) 0 ∅ 0 ∗ bigSep Finset.univ (SM c) ∗ (bigSep Finset.univ fun m : Fin 8 => iprop(semVal (xf c 0 (oddOf m)) 0 ∗ semVal (xf c 1 (oddOf m)) 0))
    ∗ bigSep away (pos c 2) ∗ bigSep away (pos c 3) ∗ bigSep away (pos c 6) ∗ bigSep away (pos c 7)
    ∗ onlyEv c iprop(bigSep away (pos c 4) ∗ bigSep away (pos c 5)) ∗ onlyOd c iprop(bigSep away (zer c 4) ∗ bigSep away (zer c 5))
    ∗ semVal (xf c 2 c) 0 ∗ semVal (xf c 3 c) 0 ∗ semVal (xf c 4 c) 0 ∗ semVal (xf c 5 c) 0 ∗ semVal (xf c 6 c) 0 ∗ semVal (xf c 7 c) 0)

/-- The eight buffers, at any contents. -/
def bufs : sProp 𝕄 := iprop(someK c ∗ someV c ∗ someRK c ∗ someRV c ∗ someB c ∗ someA c ∗ someD c ∗ someG c)

/-- The inputs. -/
def ins (I : Inputs F) : sProp 𝕄 := iprop(in0P c (I.x c) ∗ in1P c (I.wq c) ∗ in2P c (I.k c) ∗ in3P c (I.v c) ∗ in4P c (I.wo c))

/-- All counters at zero. -/
def allZero : sProp 𝕄 := iprop(zeros c 0 ∗ zeros c 1 ∗ zeros c 2 ∗ zeros c 3 ∗ zeros c 4 ∗ zeros c 5 ∗ zeros c 6 ∗ zeros c 7)

theorem body (f : Vec F S2x128x512 .f32) :
    iprop(recs I (PBof I) κ ∗ ghost c ∗ bufs c ∗ ins c I ∗ outP c f ∗ ow c (O₀ c))
      ⊢ run c (cc0_body in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15) (fun _ => iprop(bufs c ∗ semVal (bar c) 0 ∗ allZero c ∗ ins c I ∗ outP c (k0_pay1 (GATH (PBof I))) ∗ ow c 0)) := by
  rw [cc0_body_eq_skeleton]
  unfold cc0_body_skel ghost bufs ins
  rw [← owed_done c]
  iintro ⟨#Hr, ⟨HTB, HT45, HT6, HT7, Hcb, Hc2, Hc3, Hab, HSM, Hz01', Hq2, Hq3, Hq6, Hq7, Hq45, Hz45, Hy2, Hy3, Hy4, Hy5, Hy6, Hy7⟩, ⟨HK, HV, HRK, HRV, HB, HA, HD, HG⟩, ⟨H0, H1, H2, H3, H4⟩, Hout, Ho⟩
  ihave HX := (kv_start c I) $$ [HK HV H2 H3]
  · isplitl [HK]; · iexact HK
    isplitl [HV]; · iexact HV
    isplitl [H2]; · iexact H2
    iexact H3
  icases HX with ⟨HS, HKVo, H23o⟩
  ihave HX := (sig_ready c) $$ [HRK HRV HA HG HTB]
  · isplitl [HRK]; · iexact HRK
    isplitl [HRV]; · iexact HRV
    isplitl [HA]; · iexact HA
    isplitl [HG]; · iexact HG
    iexact HTB
  icases HX with ⟨HpK, HpV, HpA, HpG, Hsig⟩
  iapply (run_bind (part112 (I := I) (κ := κ) c)) $$ [Hsig Hcb Hab Ho HS HT45 HpK HpV Hq45 HSM H1 H0 H4 HB HT6]
  · isplitr; · iexact Hr
    isplitl [Hsig]; · iexact Hsig
    isplitl [Hcb]; · iexact Hcb
    isplitl [Hab]; · iexact Hab
    isplitl [Ho]; · iexact Ho
    isplitl [HS]; · iexact HS
    isplitl [HT45]; · iexact HT45
    isplitl [HpK]; · iexact HpK
    isplitl [HpV]; · iexact HpV
    isplitl [Hq45]; · iexact Hq45
    isplitl [HSM]; · iexact HSM
    isplitl [H1]; · iexact H1
    isplitl [H0]; · iexact H0
    isplitl [H4]; · iexact H4
    isplitl [HB]; · iexact HB
    iexact HT6
  iintro %r ⟨%hp, Hzb, H23, Hst, Hkv, Hk, Hv, Hz01, H1, H0, H4, Hb, HR, HplG, Ho⟩
  obtain ⟨d0, v2, v1570, c16, v1571, c1⟩ := r
  dsimp only at hp ⊢
  subst hp
  iapply (run_bind (part113 (I := I) (PB := PBof I) (κ := κ) c _ _ _ _ _)) $$ [HR Ho Hb HpA HpG Hc2 Hq2 Hc3 Hq3 Hq6 Hq7 HD HplG HT7]
  · isplitr; · iexact Hr
    isplitl [HR]; · iexact HR
    isplitl [Ho]; · iexact Ho
    isplitl [Hb]; · iexact Hb
    isplitl [HpA]; · iexact HpA
    isplitl [HpG]; · iexact HpG
    isplitl [Hc2]; · iexact Hc2
    isplitl [Hq2]; · iexact Hq2
    isplitl [Hc3]; · iexact Hc3
    isplitl [Hq3]; · iexact Hq3
    isplitl [Hq6]; · iexact Hq6
    isplitl [Hq7]; · iexact Hq7
    isplitl [HD]; · iexact HD
    isplitl [HplG]; · iexact HplG
    iexact HT7
  iintro %r ⟨H7, Ho, Hb, Ha, Hg, Hd, Hd0, Hz2, Hz3, Hz6⟩
  simp only [Prog.lift, Prog.bind_op, Prog.bind_ret, Prog.pure_eq_ret]
  iapply (step_waits (I := I) (PB := PBof I) (κ := κ) c 7 14 (by decide) (m := 14) (m' := 15) rfl rfl (act_send c (by decide) (fun h => absurd h (by decide)) (by decide)) (sem15 _ _ _ (f_off50_14 c)) (nc_red) 0 le_rfl (fun h => absurd h (by decide)) (fun h => absurd h (by decide)) (fun h => absurd h (by decide)) (fun h => absurd h (by decide))) $$ [H7 Ho]
  · isplitr; · iexact Hr
    isplitl [H7]; · iexact H7
    iexact Ho
  iintro ⟨H7, Ho⟩
  iapply (step_waits (I := I) (PB := PBof I) (κ := κ) c 7 15 (by decide) (m := 15) (m' := 16) rfl rfl (act_send c (by decide) (fun h => absurd h (by decide)) (by decide)) (sem15 _ _ _ (f_off50_15 c)) (nc_red) 0 le_rfl (fun h => absurd h (by decide)) (fun h => absurd h (by decide)) (fun h => absurd h (by decide)) (fun h => absurd h (by decide))) $$ [H7 Ho]
  · isplitr; · iexact Hr
    isplitl [H7]; · iexact H7
    iexact Ho
  iintro ⟨H7, Ho⟩
  iapply (ld_gath c (GATH (PBof I))) $$ [Hg]
  · iexact Hg
  iintro Hg
  iapply (ld_out c f) $$ [Hout]
  · iexact Hout
  iintro Hout
  iapply (st_out c f (k0_pay1 (GATH (PBof I))) rfl) $$ [Hout]
  · iexact Hout
  iintro Hout
  ihave HX := (red_join c I (PBof I)) $$ [Hd Hd0 H7]
  · isplitl [Hd]; · iexact Hd
    isplitl [Hd0]; · iexact Hd0
    iexact H7
  icases HX with ⟨Hd, Hz7⟩
  ihave HX := (kv_join c I (PBof I)) $$ [Hst Hkv HKVo Hz45]
  · isplitl [Hst]; · iexact Hst
    isplitl [Hkv]; · iexact Hkv
    isplitl [HKVo]; · iexact HKVo
    iexact Hz45
  icases HX with ⟨HK, HV, Hz4, Hz5⟩
  ihave HX := (parity_join c iprop(in2P c (I.k c) ∗ in3P c (I.v c))) $$ [H23 H23o]
  · isplitl [H23]; · iexact H23
    iexact H23o
  icases HX with ⟨H2, H3⟩
  ihave HX := (zeros_src c) $$ [Hz01 Hz01']
  · isplitl [Hz01]; · iexact Hz01
    iexact Hz01'
  icases HX with ⟨Hw0, Hw1⟩
  ihave Hw2 := (Entails.of_eq (zeros_eq c 2).symm) $$ [Hy2 Hz2]
  · isplitl [Hy2]; · iexact Hy2
    iexact Hz2
  ihave Hw3 := (Entails.of_eq (zeros_eq c 3).symm) $$ [Hy3 Hz3]
  · isplitl [Hy3]; · iexact Hy3
    iexact Hz3
  ihave Hw4 := (Entails.of_eq (zeros_eq c 4).symm) $$ [Hy4 Hz4]
  · isplitl [Hy4]; · iexact Hy4
    iexact Hz4
  ihave Hw5 := (Entails.of_eq (zeros_eq c 5).symm) $$ [Hy5 Hz5]
  · isplitl [Hy5]; · iexact Hy5
    iexact Hz5
  ihave Hw6 := (Entails.of_eq (zeros_eq c 6).symm) $$ [Hy6 Hz6]
  · isplitl [Hy6]; · iexact Hy6
    iexact Hz6
  ihave Hw7 := (Entails.of_eq (zeros_eq c 7).symm) $$ [Hy7 Hz7]
  · isplitl [Hy7]; · iexact Hy7
    iexact Hz7
  iapply run_ret
  unfold allZero
  isplitl [HK HV Hk Hv Hb Ha Hd Hg]
  · isplitl [HK]; · iexact HK
    isplitl [HV]; · iexact HV
    isplitl [Hk]; · iexists _; iexact Hk
    isplitl [Hv]; · iexists _; iexact Hv
    isplitl [Hb]; · iexists _; iexact Hb
    isplitl [Ha]; · iexists _; iexact Ha
    isplitl [Hd]; · iexists _; iexact Hd
    iexists _; iexact Hg
  isplitl [Hzb]; · iexact Hzb
  isplitl [Hw0 Hw1 Hw2 Hw3 Hw4 Hw5 Hw6 Hw7]
  · isplitl [Hw0]; · iexact Hw0
    isplitl [Hw1]; · iexact Hw1
    isplitl [Hw2]; · iexact Hw2
    isplitl [Hw3]; · iexact Hw3
    isplitl [Hw4]; · iexact Hw4
    isplitl [Hw5]; · iexact Hw5
    isplitl [Hw6]; · iexact Hw6
    iexact Hw7
  isplitl [H0 H1 H2 H3 H4]
  · isplitl [H0]; · iexact H0
    isplitl [H1]; · iexact H1
    isplitl [H2]; · iexact H2
    isplitl [H3]; · iexact H3
    iexact H4
  isplitl [Hout]; · iexact Hout
  iexact Ho

end Cert.SparseAttn

end
-- ==== Proof.Deal.lean ====
/-
What each device starts with: tokens, positions and credits, out of what the launch makes.
-/
module

public import proofs.«01_k».proof.Proof.Body

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

/-! ## Families over the cells -/

theorem cells_split (Φ : K → sProp 𝕄) :
    bigSep Finset.univ Φ = iprop(Φ none ∗ bigSep Finset.univ fun a : Fin 8 => bigSep Finset.univ fun j : Dev nD => Φ (some (a, j))) := by
  have h : (Finset.univ : Finset K) = insert none ((Finset.univ : Finset (Fin 8 × Dev nD)).map Function.Embedding.some) := by
    ext k; cases k <;> simp
  rw [h, bigSep_insert (by simp), bigSep_map, bigSep_univ_prod]; rfl

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  bigSep_univ_eq_bigSepL [0, 1, 2, 3, 4, 5, 6, 7] (by decide) (by decide) Φ

theorem with_persistent {A : Type} [DecidableEq A] {S : Finset A} {R : sProp 𝕄} [BI.Persistent R] {Φ Ψ : A → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem away_of (Φ : Dev nD → sProp 𝕄) : bigSep Finset.univ Φ ⊢ bigSep away fun o => Φ (sh c o) := by
  rw [everyone c Φ]; iintro ⟨-, H⟩; iexact H

theorem onlyEv_of (X : sProp 𝕄) : X ⊢ onlyEv c X := by
  by_cases he : ev c
  · rw [onlyEv_pos he]
  · rw [onlyEv_neg he]; iintro -; iempintro

/-! ## The tokens -/

/-- The duty tokens of a device's own cells, as they are made. -/
def toks : sProp 𝕄 :=
  iprop((bigSep Finset.univ fun j : Dev nD => dutyTok ER (bar c) 0 j)
    ∗ bigSep Finset.univ fun a : Fin 8 => bigSep Finset.univ fun j : Dev nD => dutyTok ER (xf c a j) 0 j)

/-- Who gets a transfer cell's token: the sender for the cells of what arrives, the device itself for the others. -/
def deal (a : Fin 8) (j : Dev nD) : sProp 𝕄 := if a.val < 4 then dutyTok ER (xf j a c) 0 c else dutyTok ER (xf c a j) 0 j

def dealt : sProp 𝕄 :=
  iprop((bigSep Finset.univ fun j : Dev nD => dutyTok ER (bar j) 0 c)
    ∗ bigSep Finset.univ fun a : Fin 8 => bigSep Finset.univ fun j : Dev nD => deal c a j)

theorem toks_dealt : (bigSep Finset.univ fun c : Dev nD => (toks c : sProp 𝕄)) = bigSep Finset.univ fun c : Dev nD => dealt c := by
  unfold toks dealt
  rw [bigSep_sep', bigSep_sep', bigSep_univ_comm (fun (c j : Dev nD) => (dutyTok ER (bar c) 0 j : sProp 𝕄)),
    bigSep_univ_comm (fun (c : Dev nD) (a : Fin 8) => bigSep Finset.univ fun j : Dev nD => (dutyTok ER (xf c a j) 0 j : sProp 𝕄)),
    bigSep_univ_comm (fun (c : Dev nD) (a : Fin 8) => bigSep Finset.univ fun j : Dev nD => (deal c a j : sProp 𝕄))]
  congr 1
  refine bigSep_congr fun a _ => ?_
  by_cases h : a.val < 4
  · rw [bigSep_univ_comm (fun (c j : Dev nD) => (dutyTok ER (xf c a j) 0 j : sProp 𝕄))]
    exact bigSep_congr fun c _ => bigSep_congr fun j _ => (if_pos h).symm
  · exact bigSep_congr fun c _ => bigSep_congr fun j _ => (if_neg h).symm

theorem deal_tok (b a : Fin 8) (hb : ¬ b.val < 4) (ha : a.val < 4) :
    iprop((bigSep Finset.univ fun j : Dev nD => deal c b j) ∗ (bigSep Finset.univ fun j : Dev nD => deal c a j)) ⊢ (bigSep away (tok c b a) : sProp 𝕄) := by
  have h : iprop((bigSep away fun o => (deal c b (sh c o) : sProp 𝕄)) ∗ (bigSep away fun o => deal c a (sh c o))) ⊢ bigSep away (tok c b a) := by
    have e (o : Fin 16) : iprop(deal c b (sh c o) ∗ deal c a (sh c o)) = (tok c b a o : sProp 𝕄) := by unfold deal tok; rw [if_neg hb, if_pos ha]
    rw [← bigSep_sep']
    exact bigSep_mono fun o _ => Entails.of_eq (e o)
  exact (BI.sep_mono (away_of c _) (away_of c _)).trans h

/-! ## The positions -/

/-- A transfer cell once the idle ones are closed. -/
def PS (a : Fin 8) (j : Dev nD) : sProp 𝕄 := if act c a j then atPos ER (xf c a j) 0 ∅ 0 else semVal (xf c a j) 0

variable {I : Inputs F} {PB : Dev nD → Vec F S256x512 .bf16} {κ : Dev nD × K → ℕ}

theorem close_idle (a : Fin 8) (j : Dev nD) :
    iprop(recs I PB κ ∗ atPos ER (xf c a j) 0 ∅ 0) ⊢ |={Set.univ}=> PS c a j := by
  unfold PS
  by_cases h : act c a j
  · rw [if_pos h]; iintro ⟨-, H⟩; imodintro; iexact H
  · rw [if_neg h]
    iintro ⟨#Hr, H⟩
    iapply (Rounds.cell_close ER (Rd I PB) (Set.mem_univ (κ (c, some (a, j)))) (fun h => h) (R := 0) (fun r _ => duties_idle I PB h r))
    isplitr
    · iapply (recs_inv c (some (a, j))); iexact Hr
    iexact H

theorem close_all :
    iprop(recs I PB κ ∗ bigSep Finset.univ fun a : Fin 8 => bigSep Finset.univ fun j : Dev nD => atPos ER (xf c a j) 0 ∅ 0)
      ⊢ |={Set.univ}=> bigSep Finset.univ fun a : Fin 8 => bigSep Finset.univ fun j : Dev nD => PS c a j := by
  refine BIBase.Entails.trans ?_ (bigSep_fupd _ _)
  exact with_persistent fun a _ => BIBase.Entails.trans (with_persistent fun j _ => close_idle c a j) (bigSep_fupd _ _)

/-- An array whose cells are all used but the device's own. -/
theorem ps_used (a : Fin 8) (h : ∀ o ∈ away, act c a (sh c o)) :
    (bigSep Finset.univ fun j : Dev nD => PS c a j) ⊢ (iprop(semVal (xf c a c) 0 ∗ bigSep away (pos c a)) : sProp 𝕄) := by
  have e0 : (PS c a c : sProp 𝕄) = semVal (xf c a c) 0 := if_neg fun h' => h'.1 rfl
  have e (o : Fin 16) (ho : o ∈ away) : (PS c a (sh c o) : sProp 𝕄) = pos c a o := if_pos (h o ho)
  rw [everyone c (fun j => PS c a j), e0, bigSep_congr e]

theorem ps_idle (a : Fin 8) (h : ∀ j, ¬ act c a j) :
    (bigSep Finset.univ fun j : Dev nD => PS c a j) ⊢ (iprop(semVal (xf c a c) 0 ∗ bigSep away (zer c a)) : sProp 𝕄) := by
  have e0 : (PS c a c : sProp 𝕄) = semVal (xf c a c) 0 := if_neg (h c)
  have e (o : Fin 16) (ho : o ∈ away) : (PS c a (sh c o) : sProp 𝕄) = zer c a o := if_neg (h _)
  rw [everyone c (fun j => PS c a j), e0, bigSep_congr e]

/-- The cells of the sends of keys and values. -/
theorem ps_sent : iprop((bigSep Finset.univ fun j : Dev nD => PS c 4 j) ∗ (bigSep Finset.univ fun j : Dev nD => PS c 5 j))
    ⊢ (iprop(onlyEv c iprop(bigSep away (pos c 4) ∗ bigSep away (pos c 5)) ∗ onlyOd c iprop(bigSep away (zer c 4) ∗ bigSep away (zer c 5))
        ∗ semVal (xf c 4 c) 0 ∗ semVal (xf c 5 c) 0) : sProp 𝕄) := by
  by_cases he : ev c
  · rw [onlyEv_pos he, onlyOd_pos he]
    have h : iprop((bigSep Finset.univ fun j : Dev nD => PS c 4 j) ∗ (bigSep Finset.univ fun j : Dev nD => PS c 5 j)) ⊢ (iprop((semVal (xf c 4 c) 0 ∗ bigSep away (pos c 4)) ∗ semVal (xf c 5 c) 0 ∗ bigSep away (pos c 5)) : sProp 𝕄) :=
      BI.sep_mono (ps_used c 4 fun o ho => ⟨sh_ne ho, fun h => absurd h (by decide), fun _ => he⟩)
      (ps_used c 5 fun o ho => ⟨sh_ne ho, fun h => absurd h (by decide), fun _ => he⟩)
    refine BIBase.Entails.trans h ?_
    iintro ⟨⟨H1, H2⟩, H3, H4⟩
    isplitl [H2 H4]
    · isplitl [H2] <;> iassumption
    isplitr; · iempintro
    isplitl [H1] <;> iassumption
  · rw [onlyEv_neg he, onlyOd_neg he]
    have h : iprop((bigSep Finset.univ fun j : Dev nD => PS c 4 j) ∗ (bigSep Finset.univ fun j : Dev nD => PS c 5 j)) ⊢ (iprop((semVal (xf c 4 c) 0 ∗ bigSep away (zer c 4)) ∗ semVal (xf c 5 c) 0 ∗ bigSep away (zer c 5)) : sProp 𝕄) :=
      BI.sep_mono (ps_idle c 4 fun j h => he (h.2.2 (by decide))) (ps_idle c 5 fun j h => he (h.2.2 (by decide)))
    refine BIBase.Entails.trans h ?_
    iintro ⟨⟨H1, H2⟩, H3, H4⟩
    isplitr; · iempintro
    isplitl [H2 H4]
    · isplitl [H2] <;> iassumption
    isplitl [H1] <;> iassumption

/-! ## The credits -/

theorem at_cell (c d : Dev nD) (k k' : K) (n : ℕ) : (tallyAt (cell d k) () n : CellTallies nD τ sig Unit) (cell c k') () = if c = d ∧ k' = k then n else 0 := by
  rw [tallyAt_apply]
  by_cases h : c = d ∧ k' = k
  · rw [if_pos h, h.1, h.2, if_pos ⟨rfl, rfl⟩]
  · rw [if_neg h, if_neg fun h' => h (cell_inj h'.1)]

theorem rem_at (f : Fin 16 → CellTallies nD τ sig Unit) (k : ℕ) (x : GSem nD τ sig) : rem k f x () = rem k fun o => f o x () := by
  unfold rem; rw [Finset.sum_apply, Finsupp.finsetSum_apply]

theorem O₀_at (d : Dev nD) (x : GSem nD τ sig) :
    O₀ d x () = rem 1 fun o => owG d o x () + owR d o x () + owK d o x () + owB d o x () := by
  unfold O₀ owed
  simp only [Pi.add_apply, Finsupp.add_apply, rem_at]
  unfold rem
  rw [Finset.sum_add_distrib, Finset.sum_add_distrib, Finset.sum_add_distrib]

theorem owK_at (d : Dev nD) (o : Fin 16) (x : GSem nD τ sig) : owK d o x () = if ev d then (tallyAt (xf (sh d o) 1 d) () NK : CellTallies nD τ sig Unit) x () + (tallyAt (xf (sh d o) 0 d) () NK : CellTallies nD τ sig Unit) x () else 0 := by
  unfold owK; split <;> rfl

theorem one_place {c j : Dev nD} (h : j ≠ c) (n : ℕ) : (∑ d : Dev nD, rem 1 fun o => if c = sh d o ∧ j = d then n else 0) = n := by
  rw [Finset.sum_eq_single j (fun d _ hd => by unfold rem; exact Finset.sum_eq_zero fun o _ => if_neg fun h => hd h.2.symm) (fun h => absurd (Finset.mem_univ _) h)]
  have h1 : 1 ≤ (df j c).val := Nat.one_le_iff_ne_zero.mpr fun h0 => h (df_zero.mp (Fin.ext h0))
  have hm : df j c ∈ (Finset.univ : Finset (Fin 16)).filter fun o => 1 ≤ o.val := by simp only [Finset.mem_filter, Finset.mem_univ, true_and]; exact h1
  unfold rem
  rw [Finset.sum_eq_single (df j c) (fun o _ ho => if_neg fun h => ho (by rw [h.1, df_sh])) (fun hn => absurd hm hn)]
  exact if_pos ⟨(sh_df j c).symm, rfl⟩

theorem fifteen : ∀ c : Dev nD, (∑ d : Dev nD, rem 1 fun o => if c = sh d o then 1 else 0) = 15 := by decide +kernel

theorem due_bar (c : Dev nD) : ∑ d : Dev nD, O₀ d (bar c) () = 15 := by
  have h : ∀ d : Dev nD, O₀ d (bar c) () = rem 1 fun o => if c = sh d o then 1 else 0 := fun d => by
    rw [O₀_at]; congr 1; funext o
    rw [owK_at]; unfold owG owR owB
    simp only [at_cell]
    simp
  rw [Finset.sum_congr rfl fun d _ => h d, fifteen]

theorem due_xf (c : Dev nD) (a : Fin 8) (j : Dev nD) (ha : a = 0 ∨ a = 1 ∨ a = 2 ∨ a = 3) (h : act c a j) : ∑ d : Dev nD, O₀ d (xf c a j) () = amt a := by
  have hs : ∀ d : Dev nD, O₀ d (xf c a j) () = rem 1 fun o => if c = sh d o ∧ j = d then amt a else 0 := fun d => by
    rw [O₀_at]; congr 1; funext o
    rw [owK_at]; unfold owG owR owB
    simp only [at_cell]
    by_cases hc : c = sh d o ∧ j = d
    · obtain ⟨h1, h2⟩ := hc
      subst h2
      have hr : (if c = sh j o ∧ j = j then amt a else 0) = amt a := if_pos ⟨h1, rfl⟩
      rw [hr]
      rcases ha with rfl | rfl | rfl | rfl
      · rw [if_pos (h.2.1 (by decide))]; simp [h1, amt]
      · rw [if_pos (h.2.1 (by decide))]; simp [h1, amt]
      · simp [h1, amt]
      · simp [h1, amt]
    · rw [if_neg hc]
      have hn : ∀ a' : Fin 8, ¬ (c = sh d o ∧ (some (a, j) : K) = some (a', d)) := fun a' h' => hc ⟨h'.1, by have := h'.2; simp at this; exact this.2⟩
      simp only [if_neg (hn _)]
      simp
  rw [Finset.sum_congr rfl fun d _ => hs d, one_place h.1]

/-- What the launch gives for a cell. -/
def crAt (k : K) : sProp 𝕄 := cred (tallyOn (cell c k) (launchCredit (Pipeline.owing O₀) 0 (cell c k)))

theorem launch_at (k : K) (n : ℕ) (h : ∑ d : Dev nD, O₀ d (cell c k) () = n) :
    tallyOn (cell c k) (launchCredit (Pipeline.owing O₀) 0 (cell c k)) = (tallyAt (cell c k) () n : CellTallies nD τ sig Unit) := by
  unfold tallyAt
  refine congrArg _ (Finsupp.ext fun u => ?_)
  cases u
  rw [Pipeline.launchCredit_owing, h, Finsupp.single_eq_same]

theorem crAt_eq (k : K) (n : ℕ) (h : ∑ d : Dev nD, O₀ d (cell c k) () = n) : (crAt c k : sProp 𝕄) = cred (tallyAt (cell c k) () n) := by
  unfold crAt; rw [launch_at c k n h]

theorem launch_cells : (Pipeline.launchCred O₀ c : sProp 𝕄)
    ⊢ iprop(crAt c none ∗ (bigSep Finset.univ fun j : Dev nD => crAt c (some (0, j))) ∗ (bigSep Finset.univ fun j : Dev nD => crAt c (some (1, j)))
      ∗ (bigSep Finset.univ fun j : Dev nD => crAt c (some (2, j))) ∗ (bigSep Finset.univ fun j : Dev nD => crAt c (some (3, j)))) := by
  have h : bigSep Finset.univ (crAt c) ⊢ (iprop(crAt c none ∗ (bigSep Finset.univ fun j : Dev nD => crAt c (some (0, j))) ∗ (bigSep Finset.univ fun j : Dev nD => crAt c (some (1, j)))
      ∗ (bigSep Finset.univ fun j : Dev nD => crAt c (some (2, j))) ∗ (bigSep Finset.univ fun j : Dev nD => crAt c (some (3, j)))) : sProp 𝕄) := by
    rw [cells_split, eight]
    iintro ⟨H, H0, H1, H2, H3, -⟩
    isplitl [H]; · iexact H
    isplitl [H0]; · iexact H0
    isplitl [H1]; · iexact H1
    isplitl [H2] <;> iassumption
  refine BIBase.Entails.trans ?_ h
  unfold Pipeline.launchCred
  exact (bigSep_subset (Finset.subset_univ (Finset.univ.map ⟨csem, csem_inj⟩))).trans (Entails.of_eq (bigSep_map _))

theorem cr_away (a : Fin 8) (ha : a = 2 ∨ a = 3) : (bigSep Finset.univ fun j : Dev nD => crAt c (some (a, j))) ⊢ (bigSep away (crd c a) : sProp 𝕄) :=
  (away_of c _).trans (bigSep_mono fun o ho => Entails.of_eq (crAt_eq c _ _ (due_xf c a _ (by tauto)
    ⟨sh_ne ho, fun h => absurd h (by rcases ha with rfl | rfl <;> decide), fun h => absurd h (by rcases ha with rfl | rfl <;> decide)⟩)))

theorem source (m : Fin 8) : iprop((PS c 0 (srcOf m) ∗ PS c 1 (srcOf m)) ∗ crAt c (some (0, srcOf m)) ∗ crAt c (some (1, srcOf m))) ⊢ (SM c m : sProp 𝕄) := by
  unfold SM PS BWait
  by_cases hm : srcOf m = c
  · rw [if_pos hm, if_neg fun h => h.1 hm, if_neg fun h => h.1 hm]
    iintro ⟨H, -⟩; iexact H
  · have he : ev (srcOf m) := by show 2 * m.val % 2 = 0; omega
    have h0 : act c 0 (srcOf m) := ⟨hm, fun _ => he, fun h => absurd h (by decide)⟩
    have h1 : act c 1 (srcOf m) := ⟨hm, fun _ => he, fun h => absurd h (by decide)⟩
    rw [if_neg hm, if_pos h0, if_pos h1, crAt_eq c _ _ (due_xf c 0 _ (by tauto) h0), crAt_eq c _ _ (due_xf c 1 _ (by tauto) h1)]
    iintro ⟨⟨H0, H1⟩, H2, H3⟩
    isplitl [H0 H2]
    · isplitl [H2] <;> iassumption
    isplitl [H3] <;> iassumption

/-- The cells of the arriving keys and values. -/
theorem sources :
    iprop(((bigSep Finset.univ fun j : Dev nD => PS c 0 j) ∗ (bigSep Finset.univ fun j : Dev nD => PS c 1 j))
        ∗ (bigSep Finset.univ fun j : Dev nD => crAt c (some (0, j))) ∗ (bigSep Finset.univ fun j : Dev nD => crAt c (some (1, j))))
      ⊢ (iprop(bigSep Finset.univ (SM c) ∗ bigSep Finset.univ fun m : Fin 8 => iprop(semVal (xf c 0 (oddOf m)) 0 ∗ semVal (xf c 1 (oddOf m)) 0)) : sProp 𝕄) := by
  have hS : iprop(((bigSep Finset.univ fun m : Fin 8 => PS c 0 (srcOf m)) ∗ (bigSep Finset.univ fun m : Fin 8 => PS c 1 (srcOf m)))
        ∗ (bigSep Finset.univ fun m : Fin 8 => crAt c (some (0, srcOf m))) ∗ (bigSep Finset.univ fun m : Fin 8 => crAt c (some (1, srcOf m))))
      ⊢ (bigSep Finset.univ (SM c) : sProp 𝕄) := by
    rw [← bigSep_sep', ← bigSep_sep', ← bigSep_sep']
    have hm (m : Fin 8) : iprop((PS c 0 (srcOf m) ∗ PS c 1 (srcOf m)) ∗ crAt c (some (0, srcOf m)) ∗ crAt c (some (1, srcOf m))) ⊢ (SM c m : sProp 𝕄) := source c m
    exact bigSep_mono fun m _ => hm m
  have hZ : iprop((bigSep Finset.univ fun m : Fin 8 => PS c 0 (oddOf m)) ∗ (bigSep Finset.univ fun m : Fin 8 => PS c 1 (oddOf m)))
      ⊢ (bigSep Finset.univ fun m : Fin 8 => iprop(semVal (xf c 0 (oddOf m)) 0 ∗ semVal (xf c 1 (oddOf m)) 0) : sProp 𝕄) := by
    have e (m : Fin 8) : iprop(PS c 0 (oddOf m) ∗ PS c 1 (oddOf m)) = (iprop(semVal (xf c 0 (oddOf m)) 0 ∗ semVal (xf c 1 (oddOf m)) 0) : sProp 𝕄) := by
      have he : ¬ ev (oddOf m) := by show ¬ (2 * m.val + 1) % 2 = 0; omega
      unfold PS
      rw [if_neg fun h => he (h.2.1 (by decide)), if_neg fun h => he (h.2.1 (by decide))]
    rw [← bigSep_sep']
    exact bigSep_mono fun m _ => Entails.of_eq (e m)
  rw [by_parity (fun j => PS c 0 j), by_parity (fun j => PS c 1 j), by_parity (fun j => crAt c (some (0, j))), by_parity (fun j => crAt c (some (1, j)))]
  iintro ⟨⟨⟨H1, H2⟩, H3, H4⟩, ⟨H5, -⟩, H6, -⟩
  isplitl [H1 H3 H5 H6]
  · iapply hS
    isplitl [H1 H3]
    · isplitl [H1] <;> iassumption
    isplitl [H5] <;> iassumption
  iapply hZ
  isplitl [H2] <;> iassumption

/-! ## What a device starts with -/

def held : sProp 𝕄 := iprop((bigSep Finset.univ fun k : K => atPos ER (cell c k) 0 ∅ 0) ∗ dealt c)

theorem ghost_of : iprop(recs I PB κ ∗ held c ∗ Pipeline.launchCred O₀ c) ⊢ |={Set.univ}=> ghost c := by
  unfold held dealt
  rw [cells_split, eight (fun a => bigSep Finset.univ fun j : Dev nD => (deal c a j : sProp 𝕄))]
  iintro ⟨#Hr, ⟨⟨Hb, Hat⟩, Htb, T0, T1, T2, T3, T4, T5, T6, T7⟩, Hcr⟩
  ihave Hc := (launch_cells (F := F) c) $$ Hcr
  icases Hc with ⟨Cb, C0, C1, C2, C3⟩
  imod (close_all (I := I) (PB := PB) (κ := κ) c) $$ [Hat] with HP
  · isplitr; · iexact Hr
    iexact Hat
  have h8 := Entails.of_eq (eight (fun a => bigSep Finset.univ fun j : Dev nD => (PS c a j : sProp 𝕄)))
  ihave HP := h8 $$ HP
  icases HP with ⟨P0, P1, P2, P3, P4, P5, P6, P7⟩
  imodintro
  have hu : ∀ a : Fin 8, (a = 2 ∨ a = 3 ∨ a = 6 ∨ a = 7) → (bigSep Finset.univ fun j : Dev nD => PS c a j) ⊢ (iprop(semVal (xf c a c) 0 ∗ bigSep away (pos c a)) : sProp 𝕄) :=
    fun a ha => ps_used c a fun o ho => ⟨sh_ne ho, fun h => absurd h (by rcases ha with rfl | rfl | rfl | rfl <;> decide),
      fun h => absurd h (by rcases ha with rfl | rfl | rfl | rfl <;> decide)⟩
  ihave Q2 := (hu 2 (by decide)) $$ P2
  ihave Q3 := (hu 3 (by decide)) $$ P3
  ihave Q6 := (hu 6 (by decide)) $$ P6
  ihave Q7 := (hu 7 (by decide)) $$ P7
  icases Q2 with ⟨Z2, Q2⟩
  icases Q3 with ⟨Z3, Q3⟩
  icases Q6 with ⟨Z6, Q6⟩
  icases Q7 with ⟨Z7, Q7⟩
  ihave Q := (ps_sent (F := F) c) $$ [P4 P5]
  · isplitl [P4] <;> iassumption
  icases Q with ⟨QE, QO, Z4, Z5⟩
  ihave S := (sources (F := F) c) $$ [P0 P1 C0 C1]
  · isplitl [P0 P1]
    · isplitl [P0] <;> iassumption
    isplitl [C0] <;> iassumption
  icases S with ⟨SS, SZ⟩
  unfold ghost
  isplitl [Htb]
  · iapply (away_of c fun j => (dutyTok ER (bar j) 0 c : sProp 𝕄)); iexact Htb
  isplitl [T4 T0 T5 T1]
  · iapply (onlyEv_of c iprop(bigSep away (tok c 4 0) ∗ bigSep away (tok c 5 1)))
    isplitl [T4 T0]
    · iapply (deal_tok c 4 0 (by decide) (by decide)); isplitl [T4] <;> iassumption
    · iapply (deal_tok c 5 1 (by decide) (by decide)); isplitl [T5] <;> iassumption
  isplitl [T6 T2]
  · iapply (deal_tok c 6 2 (by decide) (by decide)); isplitl [T6] <;> iassumption
  isplitl [T7 T3]
  · iapply (deal_tok c 7 3 (by decide) (by decide)); isplitl [T7] <;> iassumption
  isplitl [Cb]
  · have h : (crAt c none : sProp 𝕄) ⊢ cred (tallyAt (bar c) () 15) := Entails.of_eq (crAt_eq c none 15 (due_bar c))
    iapply h; iexact Cb
  isplitl [C2]; · iapply (cr_away c 2 (.inl rfl)); iexact C2
  isplitl [C3]; · iapply (cr_away c 3 (.inr rfl)); iexact C3
  isplitl [Hb]; · iexact Hb
  isplitl [SS]; · iexact SS
  isplitl [SZ]; · iexact SZ
  isplitl [Q2]; · iexact Q2
  isplitl [Q3]; · iexact Q3
  isplitl [Q6]; · iexact Q6
  isplitl [Q7]; · iexact Q7
  isplitl [QE]; · iexact QE
  isplitl [QO]; · iexact QO
  isplitl [Z2]; · iexact Z2
  isplitl [Z3]; · iexact Z3
  isplitl [Z4]; · iexact Z4
  isplitl [Z5]; · iexact Z5
  isplitl [Z6]; · iexact Z6
  iexact Z7

end Cert.SparseAttn

end
-- ==== Proof.Launch.lean ====
/-
The launch: the devices' bodies put together into the run of the whole program.
-/
module

public import proofs.«01_k».proof.Proof.Deal
public import Idealize.ShloMosaic.Lib.Pipeline.CollectiveSegs

@[expose] public section

noncomputable section

namespace Cert.SparseAttn

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (c : Dev nD)

open Idealize.ShloMosaic.Pipeline (Dat Cfg Window BodyObligation cellOf)

variable (m : (ℓ : Loc nD τ sig) → Buf (Elt F) ℓ) (ρ : Dev nD → PrngReg)

/-- The state at launch: the given memory, every counter at zero. -/
def s₀ : MemSt nD τ sig (Elt F) := ⟨m, fun _ => 0, ρ⟩

/-- What the devices are given. -/
def given : Inputs F where
  x c := (win0_0.blk (0 : Fin 1)).view.read (Elt F) ((s₀ m ρ).mem ((c : Thread nD τ).loc main_arg0))
  wq c := (win0_1.blk (0 : Fin 1)).view.read (Elt F) ((s₀ m ρ).mem ((c : Thread nD τ).loc main_arg1))
  k c := (win0_2.blk (0 : Fin 1)).view.read (Elt F) ((s₀ m ρ).mem ((c : Thread nD τ).loc main_arg2))
  v c := (win0_3.blk (0 : Fin 1)).view.read (Elt F) ((s₀ m ρ).mem ((c : Thread nD τ).loc main_arg3))
  wo c := (win0_4.blk (0 : Fin 1)).view.read (Elt F) ((s₀ m ρ).mem ((c : Thread nD τ).loc main_arg4))

/-- What every device ends with. -/
def result : Vec F S2x128x512 .f32 := k0_pay1 (GATH (PBof (given m ρ)))

/-- The cells' rounds, over what the devices are given. -/
abbrev sched : Rounds.Schedule (GSem nD τ sig) (Dev nD) 𝕄 := Rd (given m ρ) (PBof (given m ρ))

def start : sProp 𝕄 := iprop(∃ κ, recs (given m ρ) (PBof (given m ρ)) κ ∗ ghost c)

def before : sProp 𝕄 := iprop(start c m ρ ∗ bufs c)
def after : sProp 𝕄 := iprop(bufs (F := F) c ∗ semVal (bar c) 0 ∗ allZero c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => (given m ρ).x c
    | ⟨1, _⟩ => (given m ρ).wq c
    | ⟨2, _⟩ => (given m ρ).k c
    | ⟨3, _⟩ => (given m ρ).v c
    | ⟨4, _⟩ => (given m ρ).wo c
    | ⟨5, _⟩ => result m ρ
  Φ t := match t with
    | ⟨0, _⟩ => before c m ρ
    | ⟨_ + 1, _⟩ => after c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

theorem windows (Φ : Fin cfg0.W → sProp 𝕄) :
    bigSep Finset.univ Φ = iprop(Φ (0 : Fin 6) ∗ Φ (1 : Fin 6) ∗ Φ (2 : Fin 6) ∗ Φ (3 : Fin 6) ∗ Φ (4 : Fin 6) ∗ Φ (5 : Fin 6)) := bigSep_W0 Φ

theorem owns_whole (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## The body between the launch's states -/

abbrev stg (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def pre : sProp 𝕄 :=
  iprop(before c m ρ ∗ (dats m ρ 0 c).owesAt () t₀.castSucc
    ∗ (∃ d, stg c cc0_stg0_0 ((dats m ρ 0 c).before (0 : Fin 6) t₀ d))
    ∗ (∃ d, stg c cc0_stg1_0 ((dats m ρ 0 c).before (1 : Fin 6) t₀ d))
    ∗ (∃ d, stg c cc0_stg2_0 ((dats m ρ 0 c).before (2 : Fin 6) t₀ d))
    ∗ (∃ d, stg c cc0_stg3_0 ((dats m ρ 0 c).before (3 : Fin 6) t₀ d))
    ∗ (∃ d, stg c cc0_stg4_0 ((dats m ρ 0 c).before (4 : Fin 6) t₀ d))
    ∗ (∃ d, stg c cc0_stg5_0 ((dats m ρ 0 c).before (5 : Fin 6) t₀ d)))

def post : sProp 𝕄 :=
  iprop(after (F := F) c ∗ (dats m ρ 0 c).owesAt () t₀.succ
    ∗ stg c cc0_stg0_0 ((given m ρ).x c) ∗ stg c cc0_stg1_0 ((given m ρ).wq c) ∗ stg c cc0_stg2_0 ((given m ρ).k c)
    ∗ stg c cc0_stg3_0 ((given m ρ).v c) ∗ stg c cc0_stg4_0 ((given m ρ).wo c) ∗ stg c cc0_stg5_0 (result m ρ))

theorem fetched (w : Fin 6) : (cfg0.win w).isOut = false → (cfg0.win w).fetch t₀ = true := by revert w; decide

theorem before_x (d) : (dats m ρ 0 c).before (0 : Fin 6) t₀ d = (given m ρ).x c := by unfold Dat.before; rw [if_pos (fetched 0 rfl)]; rfl
theorem before_wq (d) : (dats m ρ 0 c).before (1 : Fin 6) t₀ d = (given m ρ).wq c := by unfold Dat.before; rw [if_pos (fetched 1 rfl)]; rfl
theorem before_k (d) : (dats m ρ 0 c).before (2 : Fin 6) t₀ d = (given m ρ).k c := by unfold Dat.before; rw [if_pos (fetched 2 rfl)]; rfl
theorem before_v (d) : (dats m ρ 0 c).before (3 : Fin 6) t₀ d = (given m ρ).v c := by unfold Dat.before; rw [if_pos (fetched 3 rfl)]; rfl
theorem before_wo (d) : (dats m ρ 0 c).before (4 : Fin 6) t₀ d = (given m ρ).wo c := by unfold Dat.before; rw [if_pos (fetched 4 rfl)]; rfl

theorem staged (b : Ref sig .tc) (X : b.ty.Contents (Elt F)) : (((c : Thread nD τ).loc b) ↦{fullShare} X : sProp 𝕄) ⊢ stg c b X := by
  iintro H; iexists X; isplitr; · (ipureintro; rfl)
  iexact H

theorem unstaged (b : Ref sig .tc) (X : b.ty.Contents (Elt F)) : stg c b X ⊢ (((c : Thread nD τ).loc b) ↦{fullShare} X : sProp 𝕄) := by
  iintro ⟨%f, %h, H⟩; subst h; iexact H

theorem owes_in : (dats m ρ 0 c).owesAt () t₀.castSucc ⊢ (ow c (O₀ c) : sProp 𝕄) := by
  unfold ow Dat.owesAt Pipeline.owesWithin
  rw [show (dats m ρ 0 c).owed t₀.castSucc = O₀ c from rfl]
  iintro ⟨%W, %hW, H⟩; iexists W; iexact H

theorem owes_out : (ow c 0 : sProp 𝕄) ⊢ (dats m ρ 0 c).owesAt () t₀.succ := by
  unfold ow Dat.owesAt Pipeline.owesWithin
  rw [show (dats m ρ 0 c).owed t₀.succ = 0 from rfl]
  iintro ⟨%W, H⟩; iexists W; isplitr; · (ipureintro; exact fun _ _ => Or.inl trivial)
  iexact H

theorem ready : pre c m ρ ⊢ iprop(∃ κ f, recs (given m ρ) (PBof (given m ρ)) κ ∗ ghost c ∗ bufs c ∗ ins c (given m ρ) ∗ outP c f ∗ ow c (O₀ c)) := by
  unfold pre before start ins
  simp only [before_x, before_wq, before_k, before_v, before_wo]
  iintro ⟨⟨⟨%κ, Hr, Hg⟩, Hb⟩, Ho, ⟨%d0, H0⟩, ⟨%d1, H1⟩, ⟨%d2, H2⟩, ⟨%d3, H3⟩, ⟨%d4, H4⟩, ⟨%d5, %f, %hf, H5⟩⟩
  iexists κ; iexists f
  isplitl [Hr]; · iexact Hr
  isplitl [Hg]; · iexact Hg
  isplitl [Hb]; · iexact Hb
  isplitl [H0 H1 H2 H3 H4]
  · isplitl [H0]; · iapply (unstaged c cc0_stg0_0 ((given m ρ).x c)); iexact H0
    isplitl [H1]; · iapply (unstaged c cc0_stg1_0 ((given m ρ).wq c)); iexact H1
    isplitl [H2]; · iapply (unstaged c cc0_stg2_0 ((given m ρ).k c)); iexact H2
    isplitl [H3]; · iapply (unstaged c cc0_stg3_0 ((given m ρ).v c)); iexact H3
    iapply (unstaged c cc0_stg4_0 ((given m ρ).wo c)); iexact H4
  isplitl [H5]; · iexact H5
  iapply (owes_in c m ρ); iexact Ho

theorem finish : iprop(bufs (F := F) c ∗ semVal (bar c) 0 ∗ allZero c ∗ ins c (given m ρ) ∗ outP c (result m ρ) ∗ ow c 0) ⊢ post c m ρ := by
  unfold post after ins
  iintro ⟨Hb, Hs, Hz, ⟨H0, H1, H2, H3, H4⟩, H5, Ho⟩
  isplitl [Hb Hs Hz]
  · isplitl [Hb]; · iexact Hb
    isplitl [Hs] <;> iassumption
  isplitl [Ho]; · iapply (owes_out c m ρ); iexact Ho
  isplitl [H0]; · iapply (staged c cc0_stg0_0 ((given m ρ).x c)); iexact H0
  isplitl [H1]; · iapply (staged c cc0_stg1_0 ((given m ρ).wq c)); iexact H1
  isplitl [H2]; · iapply (staged c cc0_stg2_0 ((given m ρ).k c)); iexact H2
  isplitl [H3]; · iapply (staged c cc0_stg3_0 ((given m ρ).v c)); iexact H3
  isplitl [H4]; · iapply (staged c cc0_stg4_0 ((given m ρ).wo c)); iexact H4
  iapply (staged c cc0_stg5_0 (result m ρ)); iexact H5

theorem run_weaken {α : Type} {p : Prog (TpuEff nD τ sig (Elt F) Λ₀ .tc) α} {P : sProp 𝕄} {S Q : α → sProp 𝕄} (h : P ⊢ run c p S) (hQ : ∀ r, S r ⊢ Q r) : P ⊢ run c p Q := by
  iintro HP
  iapply (wp_wand (Fr := frame) (wpE := wpE (defs₀ (F := F)) 𝒱₀ (c : Thread nD τ) none) (E := Set.univ)) $$ [HP]
  · iapply h; iexact HP
  · iintro %r H; iapply (hQ r); iexact H

theorem body_from : pre c m ρ ⊢ run c (cc0_body in0M (Memref.isWhole_whole _) in1M (Memref.isWhole_whole _) in2M (Memref.isWhole_whole _) in3M (Memref.isWhole_whole _) in4M (Memref.isWhole_whole _) outM (Memref.isWhole_whole _) kstM (Memref.isWhole_whole _) vstM (Memref.isWhole_whole _) rbkM (Memref.isWhole_whole _) rbvM (Memref.isWhole_whole _) pbM (Memref.isWhole_whole _) accM (Memref.isWhole_whole _) redM (Memref.isWhole_whole _) gathM (Memref.isWhole_whole _) cc0_scratch8 cc0_scratch9 cc0_scratch10 cc0_scratch11 cc0_scratch12 cc0_scratch13 cc0_scratch14 cc0_scratch15) (fun _ => post c m ρ) := by
  refine BIBase.Entails.trans (ready c m ρ) ?_
  iintro ⟨%κ, %f, H⟩
  iapply (run_weaken c (body c (I := given m ρ) (κ := κ) f) fun _ => finish c m ρ)
  iexact H

set_option maxRecDepth 8000 in
theorem body_obligation (c : Dev nD) : BodyObligation (dats (F := F) m ρ 0 c) (defs₀ (F := F)) 𝒱₀ () Set.univ := fun t => by
  rw [fin_N t]
  rw [windows, windows]
  simp only [owns_whole]
  exact body_from c m ρ

/-! ## The cells and tokens of the launch -/

/-- The semaphores of the kernel's own. -/
def osem (p : Fin 8 × Dev nD) : SemLoc sig := csem (some p)

theorem osem_facts : Pipeline.OwnSemFacts cfg0.spec osem where
  isScoped := by decide +kernel
  inj p q h := Option.some.inj (csem_inj h)
  disj := by decide +kernel

def allCells : Finset (GSem nD τ sig) := Finset.univ.map ⟨fun p : Dev nD × K => cell p.1 p.2, fun p q h => Prod.ext (cell_inj h).1 (cell_inj h).2⟩

/-- A token's cell, round and payer. -/
def tokAt (p : Dev nD × Option (Fin 8) × Dev nD) : GSem nD τ sig × ℕ × Dev nD := (cell p.1 (p.2.1.map fun a => (a, p.2.2)), 0, p.2.2)

theorem tokAt_inj : Function.Injective tokAt := by
  rintro ⟨c, o, j⟩ ⟨c', o', j'⟩ h
  have hc := cell_inj (congrArg Prod.fst h)
  have hj : j = j' := congrArg (fun x => x.2.2) h
  have hc1 : c = c' := hc.1
  have hk : (o.map fun a => (a, j)) = o'.map fun a => (a, j') := hc.2
  subst hj hc1
  have : o = o' := by
    cases o <;> cases o' <;> simp_all
  subst this; rfl

def allToks : Finset (GSem nD τ sig × ℕ × Dev nD) := Finset.univ.map ⟨tokAt, tokAt_inj⟩

def u₀ : UU := (initOf (Pipeline.cells cfgs cellOf_inj) (Pipeline.launchToks cfgs cellOf_inj), initOf allCells allToks)

theorem over_cells (Φ : GSem nD τ sig → sProp 𝕄) : bigSep allCells Φ = bigSep Finset.univ fun c : Dev nD => bigSep Finset.univ fun k : K => Φ (cell c k) := by
  unfold allCells; rw [bigSep_map, bigSep_univ_prod]; rfl

theorem over_toks : bigSep allToks (fun x => (dutyTok ER x.1 x.2.1 x.2.2 : sProp 𝕄)) = bigSep Finset.univ fun c : Dev nD => toks c := by
  have ho (Φ : Option (Fin 8) → sProp 𝕄) : bigSep Finset.univ Φ = iprop(Φ none ∗ bigSep Finset.univ fun a => Φ (some a)) := by
    have h : (Finset.univ : Finset (Option (Fin 8))) = insert none ((Finset.univ : Finset (Fin 8)).map Function.Embedding.some) := by
      ext k; cases k <;> simp
    rw [h, bigSep_insert (by simp), bigSep_map]; rfl
  unfold allToks; rw [bigSep_map, bigSep_univ_prod]
  refine bigSep_congr fun c _ => ?_
  rw [bigSep_univ_prod, ho]; rfl

/-- What the launch deals a device. -/
def G (c : Dev nD) : sProp 𝕄 :=
  iprop((bigSep Finset.univ fun k : K => roundState ER (sched m ρ) (cell c k) 0)
    ∗ (bigSep Finset.univ fun k : K => reached ER (cell c k) 0) ∗ (bigSep Finset.univ fun k : K => atPos ER (cell c k) 0 ∅ 0) ∗ toks c)

def G' (c : Dev nD) : sProp 𝕄 :=
  iprop((∃ κ : Dev nD × K → ℕ, bigSep Finset.univ (fun p : Dev nD × K => cellInv ER (sched m ρ) (κ p) (cell p.1 p.2))
    ∗ bigSep Finset.univ (fun p : Dev nD × K => reached ER (cell p.1 p.2) 0)) ∗ held c)

theorem fund : BI.own (ER (initOf allCells allToks)) ⊢ (|==> bigSep Finset.univ (G m ρ) : sProp 𝕄) := by
  have h1 := over_cells (F := F) fun g => roundState ER (sched m ρ) g 0
  have h2 := over_cells (F := F) fun g => reached ER g 0
  have h3 := over_cells (F := F) fun g => atPos ER g 0 ∅ 0
  iintro HX
  imod (Rounds.fund ER (sched m ρ) allCells allToks) $$ HX with ⟨Hs, Hr, Ha, Ht⟩
  imodintro
  ihave Hs := (Entails.of_eq h1) $$ Hs
  ihave Hr := (Entails.of_eq h2) $$ Hr
  ihave Ha := (Entails.of_eq h3) $$ Ha
  ihave Ht := (Entails.of_eq (over_toks (F := F))) $$ Ht
  unfold G; simp only [bigSep_sep']
  isplitl [Hs]; · iexact Hs
  isplitl [Hr]; · iexact Hr
  isplitl [Ha] <;> iassumption

theorem unscoped_eq : (unscopedSems0 c : sProp 𝕄) = semVal (bar c) 0 := by
  unfold unscopedSems0; rw [bigSep_eq_bigSepL_of_eq [SemLoc.reg barS] (by decide) (by decide)]; rfl

theorem own_eq : (Pipeline.ownSems0 (Ix := Unit) (Name := ℕ) (U := UU) (Lvl := ℕ) (Val := Elt F) (τ := τ) osem c : sProp 𝕄) = allZero c := by
  unfold Pipeline.ownSems0 allZero zeros; rw [bigSep_univ_prod, eight]; rfl

theorem counters : iprop(Pipeline.ownSems0 (Ix := Unit) (Name := ℕ) (U := UU) (Lvl := ℕ) (Val := Elt F) (τ := τ) osem c ∗ unscopedSems0 c)
    ⊢ (bigSep Finset.univ fun k : K => semVal (cell c k) 0 : sProp 𝕄) := by
  rw [own_eq, unscoped_eq, cells_split, eight]
  unfold allZero zeros
  iintro ⟨H, HB⟩
  isplitl [HB] <;> iassumption

theorem alloc (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun k : K => iprop(∃ κ : ℕ, cellInv ER (sched m ρ) κ (cell c k)))
          ∗ (bigSep Finset.univ fun k : K => reached ER (cell c k) 0) ∗ (bigSep Finset.univ fun k : K => atPos ER (cell c k) 0 ∅ 0) ∗ toks c) := by
  have h : iprop((bigSep Finset.univ fun k : K => semVal (cell c k) 0) ∗ bigSep Finset.univ fun k : K => roundState ER (sched m ρ) (cell c k) 0)
      ⊢ (|={Set.univ}=> bigSep Finset.univ fun k : K => iprop(∃ κ : ℕ, cellInv ER (sched m ρ) κ (cell c k)) : sProp 𝕄) := by
    rw [← bigSep_sep']
    exact (bigSep_mono fun k _ => (Rounds.body_intro ER (sched m ρ) (cell c k)).trans inv_alloc).trans (bigSep_fupd _ _)
  unfold G
  iintro ⟨Ho, Hu, Hs, Hrest⟩
  ihave Hv := (counters (F := F) c) $$ [Ho Hu]
  · isplitl [Ho] <;> iassumption
  imod h $$ [Hv Hs] with Hi
  · isplitl [Hv] <;> iassumption
  imodintro
  isplitl [Hi] <;> iassumption

theorem deal_all :
    (bigSep Finset.univ fun c : Dev nD => iprop((bigSep Finset.univ fun k : K => iprop(∃ κ : ℕ, cellInv ER (sched m ρ) κ (cell c k)))
          ∗ (bigSep Finset.univ fun k : K => reached ER (cell c k) 0) ∗ (bigSep Finset.univ fun k : K => atPos ER (cell c k) 0 ∅ 0) ∗ toks c) : sProp 𝕄)
      ⊢ bigSep Finset.univ (G' m ρ) := by
  have hh : iprop((bigSep Finset.univ fun c : Dev nD => bigSep Finset.univ fun k : K => (atPos ER (cell c k) 0 ∅ 0 : sProp 𝕄)) ∗ bigSep Finset.univ fun c : Dev nD => dealt c)
      ⊢ (bigSep Finset.univ fun c : Dev nD => held c : sProp 𝕄) := by
    unfold held; rw [bigSep_sep']
  have hp (κ : Dev nD × K → ℕ) : iprop((bigSep Finset.univ (fun p : Dev nD × K => cellInv ER (sched m ρ) (κ p) (cell p.1 p.2))
      ∗ bigSep Finset.univ (fun p : Dev nD × K => reached ER (cell p.1 p.2) 0)) ∗ bigSep Finset.univ fun c : Dev nD => held c) ⊢ (bigSep Finset.univ (G' m ρ) : sProp 𝕄) :=
    with_persistent fun c _ => by
      unfold G'
      iintro ⟨H, Hh⟩
      isplitl [H]
      · iexists κ; iexact H
      iexact Hh
  rw [bigSep_sep', bigSep_sep', bigSep_sep', ← bigSep_univ_prod (fun p : Dev nD × K => iprop(∃ κ : ℕ, cellInv ER (sched m ρ) κ (cell p.1 p.2))),
    ← bigSep_univ_prod (fun p : Dev nD × K => (reached ER (cell p.1 p.2) 0 : sProp 𝕄)), toks_dealt]
  iintro ⟨HI, HR, Ha, Ht⟩
  ihave HK := (BI.bigSep_exists_pi Finset.univ (fun (p : Dev nD × K) (κ : ℕ) => (cellInv ER (sched m ρ) κ (cell p.1 p.2) : sProp 𝕄))) $$ HI
  icases HK with ⟨%κ, HI⟩
  iapply (hp κ)
  isplitl [HI HR]
  · isplitl [HI] <;> iassumption
  iapply hh
  isplitl [Ha] <;> iassumption

theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => alloc m ρ c).trans (bigSep_fupd _ _)).trans (BI.fupd_mono (deal_all m ρ))

/-! ## The run -/

theorem start_of (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(start c m ρ ∗ emp) := by
  unfold G' start
  iintro ⟨-, Hl, Hc, -, ⟨%κ, HI, HR⟩, Hh⟩
  ihave Hr := (show iprop(bigSep Finset.univ (fun p : Dev nD × K => cellInv ER (sched m ρ) (κ p) (cell p.1 p.2))
    ∗ bigSep Finset.univ (fun p : Dev nD × K => reached ER (cell p.1 p.2) 0) ∗ levAts L lv) ⊢ recs (given m ρ) (PBof (given m ρ)) κ from Entails.of_eq rfl) $$ [HI HR Hl]
  · isplitl [HI]; · iexact HI
    isplitl [HR] <;> iassumption
  icases Hr with #Hr
  imod (ghost_of c (I := given m ρ) (PB := PBof (given m ρ)) (κ := κ)) $$ [Hh Hc] with Hg
  · isplitr; · iexact Hr
    isplitl [Hh] <;> iassumption
  imodintro
  isplitl
  · iexists κ
    isplitr; · iexact Hr
    iexact Hg
  iempintro

theorem enter (c : Dev nD) :
    iprop(start c m ρ ∗ Pipeline.prefHeld Pipeline.Prefetch.none c (fun _ => fullShare.right) (fun k => k.elim0) ∗ Pipeline.scopedRest cfg0.spec c)
      ⊢ (dats m ρ 0 c).Φ 0 := by
  have h : (Pipeline.scopedRest (Ix := Unit) (Name := ℕ) (U := UU) (Lvl := ℕ) (Val := Elt F) cfg0.spec c : sProp 𝕄) ⊢ bufs c := by
    rw [scopedRest0_eq]; exact Entails.of_eq rfl
  rw [show (dats m ρ 0 c).Φ 0 = before c m ρ from rfl]
  unfold before
  iintro ⟨Hs, -, Hr⟩
  isplitl [Hs]; · iexact Hs
  iapply h; iexact Hr

theorem leave (c : Dev nD) :
    (dats m ρ 0 c).Φ (Fin.last cfg0.N) ⊢ iprop(unscopedSems0 c ∗ Pipeline.ownSems0 osem c ∗ Pipeline.scopedRest cfg0.spec c) := by
  have h : (bufs c : sProp 𝕄) ⊢ Pipeline.scopedRest (Ix := Unit) (Name := ℕ) (U := UU) (Lvl := ℕ) (Val := Elt F) cfg0.spec c := by
    rw [scopedRest0_eq]; exact Entails.of_eq rfl
  rw [show (dats m ρ 0 c).Φ (Fin.last cfg0.N) = after c from rfl, own_eq, unscoped_eq]
  unfold after
  iintro ⟨Hb, Hs, Hz⟩
  isplitl [Hs]; · iexact Hs
  isplitl [Hz]; · iexact Hz
  iapply h; iexact Hb

theorem waits (c : Dev nD) : (levAts L lv : sProp 𝕄) ⊢ Pipeline.cellsWaits cfgs (dats m ρ) () 0 c :=
  Pipeline.cellsWaits_intro cfgs (dats m ρ) () 0 c fun w s t => by
    have hs : lvK (code (.dma ((cfg0.win w).sem s))) ≤ 0 := by fin_cases w <;> fin_cases s <;> decide
    rcases t with ⟨_ | _, ht⟩
    · exact mayWait_owed c _ 0 hs 1 1 1 1 (by omega) (by omega) (by omega) (by omega)
    · exact mayWait c _ 0 hs 0 fun x u hx => absurd hx (Nat.lt_irrefl 0)

theorem share_eq (c : Dev nD) (w : Fin cfg0.W) : (dats m ρ 0 c).share w = fullShare := by unfold Dat.share; split <;> rfl

/-- What an array holds at the end. -/
def final (c : Dev nD) (w : Fin cfg0.W) : Buf (Elt F) ((cfg0.win w).arr.view.loc (c : Thread nD τ)) := (dats m ρ 0 c).arrAt w cfg0.N

def Ends : PUnit × MemSt nD τ sig (Elt F) → Prop := fun r =>
  ∀ c : Dev nD, ∀ w : Fin cfg0.W, r.2.mem ((cfg0.win w).arr.view.loc (c : Thread nD τ)) = final m ρ c w

set_option maxRecDepth 8000 in
/-- On sixteen devices, over any floats, from any memory with every counter at zero: the kernels all end, with every array
    as stated and every counter back at zero. -/
theorem run_main : θ_run defs (onTc (τ := τ) (main (F := F))) (s₀ m ρ) (fun r => Ends m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ osem_facts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj) (O₀ := O₀) (howed₀ := fun _ => rfl) (howedN := fun _ => rfl)
    (L := L) (lv := lv) (hL := L_of_ne) (hwaits := waits m ρ) (G := G m ρ) (G' := G' m ρ) (u₀ := u₀)
    (hu₀ := by
      unfold u₀
      iintro Hu
      ihave H := (ownU_pair _ _) $$ Hu
      icases H with ⟨HP, HX⟩
      imod (fund m ρ) $$ HX with HG
      imodintro
      isplitl [HP] <;> iassumption)
    (hglob := glob m ρ) (hA := fun _ _ => rfl) (hpf := fun _ k => k.elim0)
    (X := fun c => start c m ρ) (Y := fun c => unscopedSems0 c) (Z := fun _ => iprop(emp))
    (hX := start_of m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

theorem final_in (c : Dev nD) (w : Fin 6) (h : (cfg0.win w).isOut = false) : final m ρ c w = (s₀ m ρ).mem ((cfg0.win w).arr.view.loc (c : Thread nD τ)) :=
  (dats (F := F) m ρ 0 c).arrAt_in w h _

end Cert.SparseAttn

end
-- ==== Proof.SoftSum.lean ====
/-
Attention of one query over a list of keys, over the extended reals, and the fact that keys with the score −∞ and the
weight zero may be left out of it.
-/
module

public import Idealize.ShloMosaic.PureOps.Ideal
public import Idealize.ShloMosaic.PureOps.Ideal.Laws

@[expose] public section

noncomputable section

namespace Cert.SoftSum

open Idealize.ShloMosaic

/-- The largest of the scores. -/
def top {n : ℕ} (s : Fin n → EReal) : EReal := Finset.univ.fold max ⊥ s

/-- The weight of key `j` before it is normalised. -/
def wt {n : ℕ} (s : Fin n → EReal) (j : Fin n) : EReal := Ideal.exp (s j - top s)

/-- The values weighted by the softmax of the scores. -/
def att {n : ℕ} (s v : Fin n → EReal) : EReal := ∑ j, Ideal.div (wt s j) (∑ k, wt s k) * v j

section
variable {n N : ℕ} (κ : Fin n → Fin N) (hκ : Function.Injective κ) (p : Fin N → Prop) [DecidablePred p] (hp : ∀ j, p j ↔ ∃ k, κ k = j)
include hp

/-- A key with the score −∞ doesn't change the largest score. -/
theorem top_masked (S : Fin N → EReal) : top (fun j => if p j then S j else ⊥) = top fun k => S (κ k) := by
  unfold top
  apply le_antisymm
  · rw [Finset.fold_max_le]
    refine ⟨bot_le, fun j _ => ?_⟩
    by_cases h : p j
    · obtain ⟨k, rfl⟩ := (hp j).1 h
      rw [if_pos h, Finset.le_fold_max]
      exact .inr ⟨k, Finset.mem_univ _, le_rfl⟩
    · rw [if_neg h]; exact bot_le
  · rw [Finset.fold_max_le]
    refine ⟨bot_le, fun k _ => ?_⟩
    rw [Finset.le_fold_max]
    exact .inr ⟨κ k, Finset.mem_univ _, by rw [if_pos ((hp _).2 ⟨k, rfl⟩)]⟩

include hκ

/-- A sum whose other terms are zero is the sum over the selected keys. -/
theorem sum_masked (f : Fin N → EReal) (hf : ∀ j, ¬p j → f j = 0) : ∑ j, f j = ∑ k, f (κ k) :=
  (Finset.sum_of_injOn κ hκ.injOn (fun _ _ => Finset.mem_univ _) (fun j _ h => hf j fun e => h (by
    obtain ⟨k, hk⟩ := (hp j).1 e; exact ⟨k, Finset.mem_coe.2 (Finset.mem_univ _), hk⟩)) fun _ _ => rfl).symm

/-- Attention over all keys, the others with the score −∞ and the weight zero, is attention over the selected keys. -/
theorem att_masked (S V : Fin N → EReal) :
    ∑ j, V j * (if p j then Ideal.div (wt (fun j => if p j then S j else ⊥) j) (∑ k, wt (fun j => if p j then S j else ⊥) k) else 0)
      = att (fun k => S (κ k)) fun k => V (κ k) := by
  have hw : ∀ k, wt (fun j => if p j then S j else ⊥) (κ k) = wt (fun k => S (κ k)) k := fun k => by
    unfold wt; rw [top_masked κ p hp]; beta_reduce; rw [if_pos ((hp _).2 ⟨k, rfl⟩)]
  have h0 : ∀ j, ¬p j → wt (fun j => if p j then S j else ⊥) j = 0 := fun j h => by
    unfold wt; beta_reduce; rw [if_neg h, EReal.bot_sub]; rfl
  rw [sum_masked κ hκ p hp (wt fun j => if p j then S j else ⊥) h0, sum_masked κ hκ p hp _ fun j h => by rw [if_neg h, mul_zero]]
  unfold att
  refine Finset.sum_congr rfl fun k _ => ?_
  rw [if_pos ((hp _).2 ⟨k, rfl⟩), hw, mul_comm, Finset.sum_congr rfl fun k _ => hw k]

end

end Cert.SoftSum

end
-- ==== Proof.RefMask.lean ====
/-
Which keys the reference's mask selects: key `j` is seen by query `i` exactly when the block of `j` is, modulo four, the
block of `i`.
-/
module

public import proofs.«01_k».proof.Proof.Gen.ReferenceIdeal.Read
public import Idealize.ShloMosaic.Lib.Pointwise
public import proofs.«01_k».proof.Proof.SoftSum

@[expose] public section

noncomputable section

namespace Cert.SparseRef

open Cert.ReferenceIdeal Cert.ReferenceIdeal.Gen Cert.ReferenceIdeal.Read
open Idealize.ShloMosaic

/-- The block of a query. -/
theorem qblock (i : S128.Idx) : val_main_v3 (F := Ideal) i = BitVec.ofNat 32 ((i 0).val / 64) := by
  have h : ∀ q : Fin 128, val_main_v3 (F := Ideal) (fun a => match a with | 0 => q) = BitVec.ofNat 32 (q.val / 64) := by decide +kernel
  have e : i = fun a => match a with | 0 => i 0 := by funext a; match a with | 0 => rfl
  rw [e]; exact h (i 0)

/-- The block of a key. -/
theorem kblock (i : S2048.Idx) : val_main_v6 (F := Ideal) i = BitVec.ofNat 32 ((i 0).val / 64) := by
  have h : ∀ q : Fin 2048, val_main_v6 (F := Ideal) (fun a => match a with | 0 => q) = BitVec.ofNat 32 (q.val / 64) := by decide +kernel
  have e : i = fun a => match a with | 0 => i 0 := by funext a; match a with | 0 => rfl
  rw [e]; exact h (i 0)

/-- The block of a query modulo four. -/
theorem qmod (i : S128x1.Idx) : val_main_v12 (F := Ideal) i = BitVec.ofNat 32 ((i 0).val / 64) := by
  have h : ∀ q : Fin 128, val_main_v12 (F := Ideal) (fun a => match a with | 0 => q | 1 => (0 : Fin 1)) = BitVec.ofNat 32 (q.val / 64) := by decide +kernel
  have e : i = fun a => match a with | 0 => i 0 | 1 => (0 : Fin 1) := by
    funext a
    match a with
    | 0 => rfl
    | 1 => exact Fin.ext (by have : (i 1).val < 1 := (i 1).isLt; show (i 1).val = 0; omega)
  rw [e]; exact h (i 0)

/-- The block of a key modulo four. -/
theorem kmod (i : S1x2048.Idx) : val_main_v11 (F := Ideal) i = BitVec.ofNat 32 ((i 1).val / 64 % 4) := by
  have h : ∀ q : Fin 2048, val_main_v11 (F := Ideal) (fun a => match a with | 0 => (0 : Fin 1) | 1 => q) = BitVec.ofNat 32 (q.val / 64 % 4) := by decide +kernel
  have e : i = fun a => match a with | 0 => (0 : Fin 1) | 1 => i 1 := by
    funext a
    match a with
    | 0 => exact Fin.ext (by have : (i 0).val < 1 := (i 0).isLt; show (i 0).val = 0; omega)
    | 1 => rfl
  rw [e]; exact h (i 1)

/-- Key `j` is selected for query `q`. -/
def sel (q j : ℕ) : Prop := j / 64 % 4 = q / 64

instance (q j : ℕ) : Decidable (sel q j) := inferInstanceAs (Decidable (_ = _))

theorem cmp_eq (a b : ℕ) (ha : a < 2 ^ 32) (hb : b < 2 ^ 32) : IntOp.cmpi .eq (BitVec.ofNat 32 a) (BitVec.ofNat 32 b) = if a = b then 1#1 else 0#1 := by
  by_cases h : a = b
  · subst h; rw [if_pos rfl]; show BitVec.ofBool _ = _; simp
  · rw [if_neg h]
    have : BitVec.ofNat 32 a ≠ BitVec.ofNat 32 b := fun e => h (by
      have := congrArg BitVec.toNat e
      rwa [BitVec.toNat_ofNat, BitVec.toNat_ofNat, Nat.mod_eq_of_lt ha, Nat.mod_eq_of_lt hb] at this)
    show BitVec.ofBool (BitVec.ofNat 32 a == BitVec.ofNat 32 b) = 0#1
    rw [beq_eq_false_iff_ne.2 this]; rfl

/-- The mask at a query and a key. -/
theorem mask (i : S128x2048.Idx) : val_main_v16 (F := Ideal) i = if sel (i 0).val (i 1).val then 1#1 else 0#1 := by
  have hq : (i 0).val < 128 := (i 0).isLt
  have hk : (i 1).val < 2048 := (i 1).isLt
  rw [val_main_v16_apply, val_main_v15_apply, val_main_v10_apply, val_main_v13_apply, val_main_v14_apply, val_main_v8_apply, val_main_v9_apply, val_main_v7_apply, val_main_v4_apply, qmod, kmod, qblock, kblock]
  show IntOp.ori (IntOp.cmpi .eq (BitVec.ofNat 32 ((i 0).val / 64)) (BitVec.ofNat 32 ((i 1).val / 64))) (IntOp.cmpi .eq (BitVec.ofNat 32 ((i 1).val / 64 % 4)) (BitVec.ofNat 32 ((i 0).val / 64))) = _
  rw [cmp_eq _ _ (by omega) (by omega), cmp_eq _ _ (by omega) (by omega)]
  by_cases h : sel (i 0).val (i 1).val
  · rw [if_pos h, if_pos (show (i 1).val / 64 % 4 = (i 0).val / 64 from h)]; split <;> rfl
  · have h' : ¬(i 1).val / 64 % 4 = (i 0).val / 64 := h
    rw [if_neg h, if_neg h', if_neg (by omega)]; rfl

/-- Every query has a key. -/
theorem row_kept (i : S128.Idx) : val_main_v27 (F := Ideal) i = 1#1 := by
  have hq : (i 0).val < 128 := (i 0).isLt
  have hr : S128x2048.Reduces [1] S128 := by decide
  unfold val_main_v27
  rw [Host.reduce_eq_fold_single IntOp.ori _ _ reducesTo_S128x2048_S128_d1 hr]
  let k : Fin (S128x2048.size 1) := ⟨64 * ((i 0).val / 64), by show _ < 2048; omega⟩
  have hm : (val_main_v16 (F := Ideal) ∘ hr.lift i) k = 1#1 := by
    refine (mask (hr.lift i k)).trans (if_pos ?_)
    exact (by show 64 * ((i 0).val / 64) / 64 % 4 = (i 0).val / 64; omega)
  refine (congrArg (Finset.fold IntOp.ori _ _) (Finset.insert_erase (Finset.mem_univ k)).symm).trans ?_
  rw [Finset.fold_insert (Finset.notMem_erase _ _), hm]
  generalize Finset.fold IntOp.ori _ _ _ = y
  revert y; decide

end Cert.SparseRef

end
-- ==== Proof.RefValue.lean ====
/-
What the reference computes, read at an index: every query attends to the keys that the mask selects, and the heads'
results meet the output weights in one sum over 4096 columns.
-/
module

public import proofs.«01_k».proof.Proof.RefMask

@[expose] public section

noncomputable section

namespace Cert.SparseRef

open Cert.ReferenceIdeal Cert.ReferenceIdeal.Gen Cert.ReferenceIdeal.Read Cert.SoftSum
open Idealize.ShloMosaic

/-- Selected key `k` of query block `qb`. -/
def key (qb : Fin 2) (k : Fin 512) : Fin 2048 := ⟨256 * (k.val / 64) + 64 * qb.val + k.val % 64, by omega⟩

theorem key_inj (qb : Fin 2) : Function.Injective (key qb) := fun a b h => by
  have h' := congrArg Fin.val h
  simp only [key] at h'
  exact Fin.ext (by omega)

/-- The block of a query. -/
def qbOf (q : Fin 128) : Fin 2 := ⟨q.val / 64, by omega⟩

theorem sel_iff (q : Fin 128) (j : Fin 2048) : sel q.val j.val ↔ ∃ k, key (qbOf q) k = j := by
  constructor
  · intro h
    have h' : j.val / 64 % 4 = q.val / 64 := h
    exact ⟨⟨64 * (j.val / 256) + j.val % 64, by omega⟩, Fin.ext (by simp only [key, qbOf]; omega)⟩
  · rintro ⟨k, rfl⟩
    show (256 * (k.val / 64) + 64 * (q.val / 64) + k.val % 64) / 64 % 4 = q.val / 64
    omega

variable (x0 : S2x128x512.Idx → EReal) (x1 : S512x4096.Idx → EReal) (x2 x3 : S2x2048x64x64.Idx → EReal) (x4 : S4096x512.Idx → EReal)

/-- Column `d` of head `h`. -/
def col (h d : Fin 64) : Fin 4096 := ⟨64 * h.val + d.val, by omega⟩

/-- The score of a query against a key. -/
def score (b : Fin 2) (h : Fin 64) (q : Fin 128) (j : Fin 2048) : EReal :=
  (∑ d : Fin 64, (∑ k : Fin 512, x0 (ix3 b q k) * x1 (ix2 k (col h d))) * x2 (ix4 b j h d)) * Ideal.ofBits .f32 0x3E000000#32

/-- What a head computes for a query. -/
def head (b : Fin 2) (q : Fin 128) (h d : Fin 64) : EReal :=
  att (fun k => score x0 x1 x2 b h q (key (qbOf q) k)) fun k => x3 (ix4 b (key (qbOf q) k) h d)

/-- The reference's result. -/
def refOut (b : Fin 2) (q : Fin 128) (e : Fin 512) : EReal :=
  ∑ n : Fin 4096, head x0 x1 x2 x3 b q ⟨n.val / 64, by omega⟩ ⟨n.val % 64, by omega⟩ * x4 (ix2 n e)

theorem neg_inf : Ideal.ofBits .f32 0xFF800000#32 = ⊥ := by simp [Ideal.ofBits, Ideal.ieee]

theorem query (b : Fin 2) (q : Fin 128) (h d : Fin 64) :
    val_main_v1 (F := Ideal) x0 x1 (ix4 b q h d) = ∑ k : Fin 512, x0 (ix3 b q k) * x1 (ix2 k (col h d)) := by
  rw [val_main_v1_apply, val_main_v0_apply]
  refine Finset.sum_congr rfl fun k _ => congrArg₂ (· * ·) (congrArg x0 ?_) (congrArg x1 ?_)
  · funext a
    match a with
    | 0 => exact Fin.ext (by show (((b.val * 128 + q.val) * 64 + h.val) * 64 + d.val) / 524288 = b.val; omega)
    | 1 => exact Fin.ext (by show (((b.val * 128 + q.val) * 64 + h.val) * 64 + d.val) / 4096 % 128 = q.val; omega)
    | 2 => rfl
  · funext a
    match a with
    | 0 => rfl
    | 1 => exact Fin.ext (by show (((b.val * 128 + q.val) * 64 + h.val) * 64 + d.val) % 4096 = 64 * h.val + d.val; omega)

/-- The masked scores. -/
theorem masked (b : Fin 2) (h : Fin 64) (q : Fin 128) (j : Fin 2048) :
    val_main_v21 (F := Ideal) x0 x1 x2 (ix4 b h q j) = if sel q.val j.val then score x0 x1 x2 b h q j else ⊥ := by
  have hs : val_main_v19 (F := Ideal) x0 x1 x2 (ix4 b h q j) = score x0 x1 x2 b h q j := by
    rw [val_main_v19_apply, val_main_v17_apply, val_main_v18_apply]
    refine congrArg (· * _) (Finset.sum_congr rfl fun d _ => congrArg₂ (· * ·) ?_ (congrArg x2 ?_))
    · rw [← query]
      exact congrArg _ (funext fun a => match a with | 0 => rfl | 1 => rfl | 2 => rfl | 3 => rfl)
    · exact funext fun a => match a with | 0 => rfl | 1 => rfl | 2 => rfl | 3 => rfl
  rw [val_main_v21_apply, val_main_call4_v1_apply, val_main_v20_apply, mask, hs, val_main_call4_v2_apply]
  show Scalar.select (if sel q.val j.val then 1#1 else 0#1) _ (Ideal.ofBits .f32 0xFF800000#32) = _
  rw [neg_inf]
  split <;> rfl

/-- A row's largest element. -/
theorem max_row (y : S2x64x128x2048.Idx → EReal) (b : Fin 2) (h : Fin 64) (q : Fin 128) :
    (Host.reduce (FloatOps.maximumf (F := Ideal) (φ := .f32)) y (val_main_cst_4 (F := Ideal)) reducesTo_S2x64x128x2048_S2x64x128_d3 h_S_ (ix3 b h q) : EReal)
      = top fun j => y (ix4 b h q j) := by
  have hr : S2x64x128x2048.Reduces [3] S2x64x128 := by decide
  refine (Host.reduce_eq_fold_single (FloatOps.maximumf (F := Ideal) (φ := .f32)) y _ reducesTo_S2x64x128x2048_S2x64x128_d3 hr h_S_ (ix3 b h q)).trans ?_
  have hf : ∀ k : Fin 2048, (y ∘ hr.lift (ix3 b h q)) k = y (ix4 b h q k) := fun k =>
    congrArg y (funext fun a => Fin.ext (by match a with | ⟨0, _⟩ => rfl | ⟨1, _⟩ => rfl | ⟨2, _⟩ => rfl | ⟨3, _⟩ => rfl))
  exact congrArg₂ (fun z f => Finset.fold max z f (Finset.univ : Finset (Fin 2048))) neg_inf (funext hf)

/-- The largest score of a query. -/
theorem largest (b : Fin 2) (h : Fin 64) (q : Fin 128) :
    val_main_v22 (F := Ideal) x0 x1 x2 (ix3 b h q) = top fun j => if sel q.val j.val then score x0 x1 x2 b h q j else ⊥ := by
  unfold val_main_v22
  exact (max_row _ b h q).trans (congrArg top (funext fun j => masked x0 x1 x2 b h q j))

/-- The weight of a key before it is normalised. -/
theorem weight (b : Fin 2) (h : Fin 64) (q : Fin 128) (j : Fin 2048) :
    val_main_v26 (F := Ideal) x0 x1 x2 (ix4 b h q j) = wt (fun j => if sel q.val j.val then score x0 x1 x2 b h q j else ⊥) j := by
  rw [val_main_v26_apply, val_main_v25_apply, masked, val_main_v24_apply, val_main_v23_apply]
  have hm : val_main_v22 (F := Ideal) x0 x1 x2 (idx_main_v23 (idx_main_v24 (ix4 b h q j))) = _ :=
    (congrArg _ (funext fun a => match a with | 0 => rfl | 1 => rfl | 2 => rfl)).trans (largest x0 x1 x2 b h q)
  rw [hm]; rfl

/-- The weight of a key. -/
theorem normed (b : Fin 2) (h : Fin 64) (q : Fin 128) (j : Fin 2048) :
    val_main_v35 (F := Ideal) x0 x1 x2 (ix4 b h q j)
      = if sel q.val j.val then Ideal.div (wt (fun j => if sel q.val j.val then score x0 x1 x2 b h q j else ⊥) j)
          (∑ k : Fin 2048, wt (fun j => if sel q.val j.val then score x0 x1 x2 b h q j else ⊥) k) else 0 := by
  rw [val_main_v35_apply, val_main_call6_v1_apply, val_main_v34_apply, mask, val_main_v33_apply, weight, val_main_v32_apply, val_main_v31_apply, val_main_call5_v1_apply,
    val_main_v28_apply, row_kept, val_main_v30_apply, val_main_v29_apply, val_main_call6_v2_apply]
  have hz : (val_main_cst_6 (F := Ideal)) (Shape.Idx.first h_S_) = 0 := Ideal.ofBits_zero_f32
  have hz' : val_main_call6_v0 (F := Ideal) (idx_main_call6_v2 (ix4 b h q j)) = 0 := Ideal.ofBits_zero_f32
  rw [hz, hz', zero_add]
  have hs : ∀ i : S2x64x128.Idx, i = ix3 b h q → (∑ k : Fin 2048, val_main_v26 (F := Ideal) x0 x1 x2 (idx_main_v29 i k))
      = ∑ k : Fin 2048, wt (fun j => if sel q.val j.val then score x0 x1 x2 b h q j else ⊥) k := fun i e => by
    subst e
    refine Finset.sum_congr rfl fun k _ => ?_
    rw [← weight]
    exact congrArg _ (funext fun a => match a with | 0 => rfl | 1 => rfl | 2 => rfl | 3 => rfl)
  rw [hs (idx_main_v30 (idx_main_v32 (ix4 b h q j))) (funext fun a => match a with | 0 => rfl | 1 => rfl | 2 => rfl)]
  show Scalar.select (if sel q.val j.val then 1#1 else 0#1) _ _ = _
  split <;> rfl

/-- A head's result. -/
theorem head_eq (b : Fin 2) (q : Fin 128) (h d : Fin 64) : val_main_v37 (F := Ideal) x0 x1 x2 x3 (ix4 b q h d) = head x0 x1 x2 x3 b q h d := by
  rw [val_main_v37_apply, val_main_v36_apply]
  unfold head
  rw [← att_masked (key (qbOf q)) (key_inj _) (fun j => sel q.val j.val) (sel_iff q) (score x0 x1 x2 b h q) (fun j => x3 (ix4 b j h d))]
  refine Finset.sum_congr rfl fun j _ => congrArg₂ (· * ·) (congrArg x3 ?_) ?_
  · exact funext fun a => match a with | 0 => rfl | 1 => rfl | 2 => rfl | 3 => rfl
  · rw [← normed]
    exact congrArg _ (funext fun a => match a with | 0 => rfl | 1 => rfl | 2 => rfl | 3 => rfl)

/-- The reference's result at an index. -/
theorem out_eq (b : Fin 2) (q : Fin 128) (e : Fin 512) : val_main_v39 (F := Ideal) x0 x1 x2 x3 x4 (ix3 b q e) = refOut x0 x1 x2 x3 x4 b q e := by
  rw [val_main_v39_apply]
  unfold refOut
  refine Finset.sum_congr rfl fun n _ => congrArg₂ (· * ·) ?_ (congrArg x4 ?_)
  · rw [val_main_v38_apply, ← head_eq]
    refine congrArg _ (funext fun a => match a with
      | 0 => Fin.ext ?_
      | 1 => Fin.ext ?_
      | 2 => Fin.ext ?_
      | 3 => Fin.ext ?_)
    · show ((b.val * 128 + q.val) * 4096 + n.val) / 524288 = b.val; omega
    · show ((b.val * 128 + q.val) * 4096 + n.val) / 4096 % 128 = q.val; omega
    · show ((b.val * 128 + q.val) * 4096 + n.val) / 64 % 64 = n.val / 64; omega
    · show ((b.val * 128 + q.val) * 4096 + n.val) % 64 = n.val % 64; omega
  · exact funext fun a => match a with | 0 => rfl | 1 => rfl

end Cert.SparseRef

end
-- ==== Proof.TileValue.lean ====
/-
The attention of one batch and one head of a device, read at an index: the softmax of the scores of a query against its
512 keys, over the extended reals.
-/
module

public import proofs.«01_k».proof.Proof.Launch
public import proofs.«01_k».proof.Proof.RefValue

@[expose] public section

noncomputable section

namespace Cert.SparseValue

open Cert.KernelIdeal Cert.KernelIdeal.Gen Cert.SoftSum
open Cert.SparseAttn hiding ix2
open Idealize.ShloMosaic

theorem scores_apply (q : FVec Ideal S64x64 .f32) (k : FVec Ideal S512x64 .f32) (r : Fin 64) (j : Fin 512) :
    scores q k (ix2 r j) = (∑ d : Fin 64, q (ix2 r d) * k (ix2 j d)) * Ideal.ofBits .f32 0x3E000000#32 := by
  pointwise [scores]

theorem weights_apply (s : FVec Ideal S64x512 .f32) (r : Fin 64) (j : Fin 512) :
    weights s (ix2 r j) = wt (fun j => s (ix2 r j)) j := by
  pointwise [weights, wt, top]
  exact congrArg (fun z => Ideal.exp (s (ix2 r j) - Finset.fold max z (fun j => s (ix2 r j)) Finset.univ)) Cert.SparseRef.neg_inf

theorem norm_apply (w : FVec Ideal S64x512 .f32) (r : Fin 64) (j : Fin 512) :
    Cert.SparseAttn.norm w (ix2 r j) = Ideal.div (w (ix2 r j)) (∑ k : Fin 512, w (ix2 r k)) := by
  pointwise [Cert.SparseAttn.norm]

theorem mix_apply (w : FVec Ideal S64x512 .f32) (v : FVec Ideal S512x64 .f32) (r d : Fin 64) :
    matmul dot_S64x512_S512x64_S64x64_1_0_0_1_n_n none w v (constant S64x64 .f32 0x00000000#32) (ix2 r d)
      = ∑ j : Fin 512, w (ix2 r j) * v (ix2 j d) := by
  pointwise

theorem qOf_apply (Q : FVec Ideal S128x4x64 .f32) (qb : Fin 2) (h : Fin 4) (r d : Fin 64) :
    qOf Q qb h (ix2 r d) = Q (ix3 ⟨64 * qb.val + r.val, by omega⟩ h d) := by
  pointwise [qOf]

theorem proj_apply (wq : Vec Ideal S512x256 .f32) (x : Vec Ideal S1x128x512 .f32) (q : Fin 128) (h : Fin 4) (d : Fin 64) :
    proj wq x (ix3 q h d) = ∑ k : Fin 512, x (ix3 0 q k) * wq (ix2 k ⟨64 * h.val + d.val, by omega⟩) := by
  pointwise [proj]
  exact Finset.sum_congr rfl fun k _ => congrArg (fun z => x (ix3 0 q k) * wq (ix2 k z)) (Fin.ext (by show h.val * 64 + d.val = 64 * h.val + d.val; omega))

theorem cast_apply (p : Vec Ideal S1x1x64x1x64 .bf16) (r d : Fin 64) :
    shapeCast S64x64 p shapeCasts_S1x1x64x1x64_S64x64 (ix2 r d) = p (ix5 0 0 r 0 d) := by
  pointwise

theorem kvRow_apply (f : Vec Ideal S8x2x128x4x64 .bf16) (b qb : Fin 2) (h : Fin 4) (m : Fin 8) (r d : Fin 64) :
    kvRow f b qb h m (ix5 0 0 r 0 d) = f (ix5 m b ⟨64 * qb.val + r.val, by omega⟩ h d) := by
  unfold kvRow kvBlk
  refine congrArg f (funext fun a => Fin.ext ?_)
  match a with
  | ⟨0, _⟩ => show m.val + 1 * 0 = m.val; omega
  | ⟨1, _⟩ => show b.val + 1 * 0 = b.val; omega
  | ⟨2, _⟩ => show 64 * qb.val + 1 * r.val = 64 * qb.val + r.val; omega
  | ⟨3, _⟩ => show h.val + 1 * 0 = h.val; omega
  | ⟨4, _⟩ => show 0 + 1 * d.val = d.val; omega

theorem catKV_apply (p : Fin 8 → Vec Ideal S1x1x64x1x64 .bf16) (j : Fin 512) (d : Fin 64) :
    catKV p (ix2 j d) = p ⟨j.val / 64, by omega⟩ (ix5 0 0 ⟨j.val % 64, by omega⟩ 0 d) := by
  rw [← cast_apply (p ⟨j.val / 64, by omega⟩)]
  exact concatenate_ofFn_apply (s₁ := S64x64) (t := S512x64) 0 (fun n : Fin 8 => shapeCast S64x64 (p n) shapeCasts_S1x1x64x1x64_S64x64)
    concatenates_S64x64_S64x64_S64x64_S64x64_S64x64_S64x64_S64x64_S64x64_S512x64_d0 rfl 64 rfl (ix2 j d) ⟨j.val / 64, by omega⟩ rfl
    (ix2 ⟨j.val % 64, by omega⟩ d) rfl (fun b hb => match b with | ⟨0, _⟩ => absurd rfl hb | ⟨1, _⟩ => rfl)

theorem tile_apply (q : FVec Ideal S64x64 .f32) (k v : FVec Ideal S512x64 .f32) (r d : Fin 64) :
    tile q k v (ix2 r d)
      = att (fun j => (∑ d : Fin 64, q (ix2 r d) * k (ix2 j d)) * Ideal.ofBits .f32 0x3E000000#32) fun j => v (ix2 j d) := by
  refine (mix_apply _ v r d).trans (Finset.sum_congr rfl fun j _ => congrArg (· * _) ?_)
  have hw : ∀ j, weights (scores q k) (ix2 r j)
      = wt (fun j => (∑ d : Fin 64, q (ix2 r d) * k (ix2 j d)) * Ideal.ofBits .f32 0x3E000000#32) j := fun j =>
    (weights_apply _ r j).trans (congrArg (fun s => wt s j) (funext fun j => scores_apply q k r j))
  rw [norm_apply, hw]
  exact congrArg _ (Finset.sum_congr rfl fun k _ => hw k)

/-- The attention of one batch and one head. -/
theorem ctx_apply (Q : FVec Ideal S128x4x64 .f32) (f g : Vec Ideal S8x2x128x4x64 .bf16) (b : Fin 2) (h : Fin 4) (q : Fin 128) (d : Fin 64) :
    ctx Q f g b h (ix2 q d)
      = att (fun j : Fin 512 => (∑ d : Fin 64, Q (ix3 q h d)
            * f (ix5 ⟨j.val / 64, by omega⟩ b ⟨64 * (q.val / 64) + j.val % 64, by omega⟩ h d)) * Ideal.ofBits .f32 0x3E000000#32)
          fun j => g (ix5 ⟨j.val / 64, by omega⟩ b ⟨64 * (q.val / 64) + j.val % 64, by omega⟩ h d) := by
  have hcat : ctx Q f g b h (ix2 q d) = tile (qOf Q ⟨q.val / 64, by omega⟩ h) (catKV (kvRow f b ⟨q.val / 64, by omega⟩ h)) (catKV (kvRow g b ⟨q.val / 64, by omega⟩ h)) (ix2 ⟨q.val % 64, by omega⟩ d) :=
    concatenate_ofFn_apply (s₁ := S64x64) (t := S128x64) 0 (fun n : Fin 2 => tile (qOf Q n h) (catKV (kvRow f b n h)) (catKV (kvRow g b n h)))
      concatenates_S64x64_S64x64_S128x64_d0 rfl 64 rfl (ix2 q d) ⟨q.val / 64, by omega⟩ rfl
      (ix2 ⟨q.val % 64, by omega⟩ d) rfl (fun b hb => match b with | ⟨0, _⟩ => absurd rfl hb | ⟨1, _⟩ => rfl)
  rw [hcat, tile_apply]
  have hq : (⟨64 * (q.val / 64) + q.val % 64, by omega⟩ : Fin 128) = q := Fin.ext (by show 64 * (q.val / 64) + q.val % 64 = q.val; omega)
  refine congrArg₂ att (funext fun j => congrArg (· * _) (Finset.sum_congr rfl fun d _ => ?_)) (funext fun j => ?_)
  · rw [qOf_apply, catKV_apply, kvRow_apply]
    exact congrArg (fun z => Q (ix3 z h d) * _) hq
  · rw [catKV_apply, kvRow_apply]

end Cert.SparseValue
-- ==== Proof.KernelValue.lean ====
/-
What the kernel computes, read at an index: the devices' partial products add up to the reference's sum over 4096
columns.
-/
module

public import proofs.«01_k».proof.Proof.TileValue

@[expose] public section

noncomputable section

namespace Cert.SparseValue

open Cert.KernelIdeal Cert.KernelIdeal.Gen Cert.SoftSum
open Cert.SparseAttn hiding ix2
open Idealize.ShloMosaic

theorem staged_apply (y : Vec Ideal S2x128x4x64 .f32) (i : S1x2x128x4x64.Idx) : k0_pay2 (F := Ideal) y i = y fun a => i a.succ := by
  have h : ∀ u : FVec Ideal S2x128x4x64 .bf16, shapeCast S1x2x128x4x64 u shapeCasts_S2x128x4x64_S1x2x128x4x64 i = u fun a => i a.succ :=
    fun u => shapeCast_addUnit_apply (n := 4) ![2, 128, 4, 64] u _ i
  unfold k0_pay2
  refine (h _).trans ?_
  exact congrFun (shapeCast_self y shapeCasts_S2x128x4x64_S2x128x4x64) _

/-- What a device gathers: rows of the even devices, its own heads. -/
theorem RBK_apply (X : Dev nD → Vec Ideal S2x128x64x64 .f32) (c : Fin 16) (m : Fin 8) (b : Fin 2) (r : Fin 128) (h : Fin 4) (d : Fin 64) :
    RBK X c (ix5 m b r h d) = X (srcOf m) (ix4 b r ⟨4 * c.val + h.val, by omega⟩ d) := by
  show k0_pay2 (F := Ideal) (heads (X (srcOf m)) (sh (srcOf m) (df (srcOf m) c))) (inSlot (withSlot (b := 16) (df (srcOf m) c) (ix5 m b r h d))) = _
  rw [sh_df, staged_apply]
  refine congrArg (X (srcOf m)) (funext fun a => Fin.ext ?_)
  match a with
  | ⟨0, _⟩ => show 0 + 1 * b.val = b.val; omega
  | ⟨1, _⟩ => show 0 + 1 * r.val = r.val; omega
  | ⟨2, _⟩ => show 4 * c.val + 1 * h.val = 4 * c.val + h.val; omega
  | ⟨3, _⟩ => show 0 + 1 * d.val = d.val; omega

theorem xBlk_apply (x : Vec Ideal S2x128x512 .f32) (b : Fin 2) (inb) (q : Fin 128) (k : Fin 512) :
    xBlk x ![b.val, 0, 0] inb (ix3 0 q k) = x (ix3 b q k) := by
  unfold xBlk
  refine congrArg x (funext fun a => Fin.ext ?_)
  match a with
  | ⟨0, _⟩ => show b.val + 1 * 0 = b.val; omega
  | ⟨1, _⟩ => show 0 + 1 * q.val = q.val; omega
  | ⟨2, _⟩ => show 0 + 1 * k.val = k.val; omega

theorem out_apply (u : FVec Ideal S128x256 .f32) (wo : FVec Ideal S256x512 .f32) (q : Fin 128) (e : Fin 512) :
    shapeCast S128x512 (truncf .bf16 (matmul dot_S128x256_S256x512_S128x512_1_0_0_1_n_n none u
      (shapeCast S256x512 wo shapeCasts_S256x512_S256x512) (constant S128x512 .f32 0x00000000#32)) bitsLt_bf16_f32) shapeCasts_S128x512_S128x512 (ix2 q e)
      = ∑ n : Fin 256, u (ix2 q n) * wo (ix2 n e) := by
  pointwise

theorem pbRows_apply (x : Vec Ideal S2x128x512 .f32) (wq : Vec Ideal S512x256 .f32) (f g : Vec Ideal S8x2x128x4x64 .bf16)
    (wo : Vec Ideal S256x512 .f32) (b : Fin 2) (q : Fin 128) (e : Fin 512) :
    pbRows x wq f g wo b (ix2 q e)
      = ∑ n : Fin 256, ctx (proj wq (xBlk x ![b.val, 0, 0] (by revert b; decide))) f g b ⟨n.val / 64, by omega⟩ (ix2 q ⟨n.val % 64, by omega⟩) * wo (ix2 n e) := by
  unfold pbRows
  refine (out_apply _ wo q e).trans (Finset.sum_congr rfl fun n _ => congrArg (· * _) ?_)
  exact concatenate_ofFn_apply (s₁ := S128x64) (t := S128x256) 1 (fun h : Fin 4 => ctx (proj wq (xBlk x ![b.val, 0, 0] (by revert b; decide))) f g b h)
    concatenates_S128x64_S128x64_S128x64_S128x64_S128x256_d1 rfl 64 rfl (ix2 q n) ⟨n.val / 64, by omega⟩ rfl
    (ix2 q ⟨n.val % 64, by omega⟩) rfl (fun a ha => match a with | ⟨0, _⟩ => rfl | ⟨1, _⟩ => absurd rfl ha)

/-- The sum over the devices of a chunk of the partial products. -/
theorem RED_apply (PB : Dev nD → Vec Ideal S256x512 .bf16) (c : Fin 16) (r : Fin 16) (e : Fin 512) :
    RED PB c (ix2 r e) = ∑ j : Fin 16, PB j (ix2 ⟨16 * c.val + r.val, by omega⟩ e) := by
  have h : ∀ A : Vec Ideal S16x16x512 .bf16, k0_pay213 (F := Ideal) A (ix2 r e) = ∑ j : Fin 16, A (ix3 j r e) := fun A => by
    pointwise [k0_pay213]
  refine (h (ACC PB c)).trans (Finset.sum_congr rfl fun j _ => ?_)
  refine congrArg (PB j) (funext fun a => ?_)
  match a with
  | ⟨0, _⟩ => rfl
  | ⟨1, _⟩ => rfl

/-- The result: every row is the sum over the devices of that row of the partial products. -/
theorem result_apply (PB : Dev nD → Vec Ideal S256x512 .bf16) (b : Fin 2) (q : Fin 128) (e : Fin 512) :
    k0_pay1 (F := Ideal) (GATH PB) (ix3 b q e) = ∑ j : Fin 16, PB j (ix2 ⟨128 * b.val + q.val, by omega⟩ e) := by
  have h : k0_pay1 (F := Ideal) (GATH PB) (ix3 b q e)
      = GATH PB (ix3 ⟨(128 * b.val + q.val) / 16, by omega⟩ ⟨(128 * b.val + q.val) % 16, by omega⟩ e) :=
    shapeCast_apply (GATH PB) shapeCasts_S16x16x512_S2x128x512 (ix3 b q e) _ (by
      rw [Shape.rowMajor_val_three, Shape.rowMajor_val_three]
      show ((128 * b.val + q.val) / 16 * 16 + (128 * b.val + q.val) % 16) * 512 + e.val = (b.val * 128 + q.val) * 512 + e.val
      omega)
  have hg : GATH PB (ix3 ⟨(128 * b.val + q.val) / 16, by omega⟩ ⟨(128 * b.val + q.val) % 16, by omega⟩ e)
      = RED PB (⟨(128 * b.val + q.val) / 16, by omega⟩ : Fin 16) (ix2 ⟨(128 * b.val + q.val) % 16, by omega⟩ e) := by
    unfold GATH
    refine congrArg (RED PB _) (funext fun a => ?_)
    match a with
    | ⟨0, _⟩ => rfl
    | ⟨1, _⟩ => rfl
  rw [h, hg, RED_apply]
  refine Finset.sum_congr rfl fun j _ => congrArg (fun z => PB j (ix2 z e)) (Fin.ext ?_)
  show 16 * ((128 * b.val + q.val) / 16) + (128 * b.val + q.val) % 16 = 128 * b.val + q.val
  omega

/-- A sum over 4096 columns, sixteen times 256. -/
theorem sum_cols (f : Fin 4096 → EReal) : ∑ n, f n = ∑ c : Fin 16, ∑ n : Fin 256, f ⟨256 * c.val + n.val, by omega⟩ := by
  rw [← (finProdFinEquiv (m := 16) (n := 256)).sum_comp f, Fintype.sum_prod_type]
  refine Finset.sum_congr rfl fun c _ => Finset.sum_congr rfl fun n _ => congrArg f (Fin.ext ?_)
  show n.val + 256 * c.val = _
  exact Nat.add_comm _ _

section
variable (I : Inputs Ideal) (x0 : S2x128x512.Idx → EReal) (x1 : (⟨2, ![512, 4096]⟩ : Shape).Idx → EReal)
  (x2 x3 : (⟨4, ![2, 2048, 64, 64]⟩ : Shape).Idx → EReal) (x4 : (⟨2, ![4096, 512]⟩ : Shape).Idx → EReal)

/-- Every device has the activations, and its part of the other arrays. -/
structure Parts : Prop where
  x : ∀ c, I.x c = x0
  wq : ∀ (c : Fin 16) (k : Fin 512) (n : Fin 256), I.wq c (ix2 k n) = x1 (ix2 k ⟨256 * c.val + n.val, by omega⟩)
  k : ∀ (c : Fin 16) (b : Fin 2) (r : Fin 128) (h d : Fin 64), I.k c (ix4 b r h d) = x2 (ix4 b ⟨128 * c.val + r.val, by omega⟩ h d)
  v : ∀ (c : Fin 16) (b : Fin 2) (r : Fin 128) (h d : Fin 64), I.v c (ix4 b r h d) = x3 (ix4 b ⟨128 * c.val + r.val, by omega⟩ h d)
  wo : ∀ (c : Fin 16) (n : Fin 256) (e : Fin 512), I.wo c (ix2 n e) = x4 (ix2 ⟨256 * c.val + n.val, by omega⟩ e)

/-- A gathered row is the row of the key it stands for. -/
theorem gathered (X : Dev nD → Vec Ideal S2x128x64x64 .f32) (y : (⟨4, ![2, 2048, 64, 64]⟩ : Shape).Idx → EReal)
    (hX : ∀ (c : Fin 16) (b : Fin 2) (r : Fin 128) (h d : Fin 64), X c (ix4 b r h d) = y (ix4 b ⟨128 * c.val + r.val, by omega⟩ h d))
    (c : Fin 16) (b : Fin 2) (q : Fin 128) (h : Fin 4) (j : Fin 512) (d : Fin 64) :
    RBK X c (ix5 ⟨j.val / 64, by omega⟩ b ⟨64 * (q.val / 64) + j.val % 64, by omega⟩ h d)
      = y (ix4 b (SparseRef.key (SparseRef.qbOf q) j) ⟨4 * c.val + h.val, by omega⟩ d) := by
  rw [RBK_apply]
  refine (hX (srcOf ⟨j.val / 64, by omega⟩) b _ _ d).trans (congrArg (fun z => y (ix4 b z _ d)) (Fin.ext ?_))
  show 128 * (2 * (j.val / 64)) + (64 * (q.val / 64) + j.val % 64) = 256 * (j.val / 64) + 64 * (q.val / 64) + j.val % 64
  omega

variable {I x0 x1 x2 x3 x4} (P : Parts I x0 x1 x2 x3 x4)
include P

theorem ctx_eq (c : Fin 16) (b : Fin 2) (q : Fin 128) (h : Fin 4) (d : Fin 64) (inb) :
    ctx (proj (I.wq c) (xBlk (I.x c) ![b.val, 0, 0] inb)) (RBK I.k c) (RBK I.v c) b h (ix2 q d)
      = SparseRef.head x0 x1 x2 x3 b q ⟨4 * c.val + h.val, by omega⟩ d := by
  rw [ctx_apply]
  unfold SparseRef.head
  refine congrArg₂ att (funext fun j => congrArg (· * _) (Finset.sum_congr rfl fun d _ => congrArg₂ (· * ·) ?_ ?_)) (funext fun j => ?_)
  · rw [proj_apply]
    refine Finset.sum_congr rfl fun k _ => congrArg₂ (· * ·) ?_ ?_
    · rw [xBlk_apply, P.x]
    · rw [P.wq]
      refine congrArg (fun z => x1 (ix2 k z)) (Fin.ext ?_)
      show 256 * c.val + (64 * h.val + d.val) = 64 * (4 * c.val + h.val) + d.val
      omega
  · exact gathered I.k x2 P.k c b q h j d
  · exact gathered I.v x3 P.v c b q h j d

theorem PB_eq (c : Fin 16) (b : Fin 2) (q : Fin 128) (e : Fin 512) :
    PBof I c (ix2 ⟨128 * b.val + q.val, by omega⟩ e)
      = ∑ n : Fin 256, SparseRef.head x0 x1 x2 x3 b q ⟨4 * c.val + n.val / 64, by omega⟩ ⟨n.val % 64, by omega⟩ * x4 (ix2 ⟨256 * c.val + n.val, by omega⟩ e) := by
  unfold PBof
  rw [pbOf_at _ _ _ _ _ b (ix2 ⟨128 * b.val + q.val, by omega⟩ e) (ix2 q e) rfl rfl, pbRows_apply]
  refine Finset.sum_congr rfl fun n _ => congrArg₂ (· * ·) ?_ (P.wo c n e)
  exact ctx_eq P c b q ⟨n.val / 64, by omega⟩ ⟨n.val % 64, by omega⟩ _

/-- The kernel's result is the reference's. -/
theorem result_eq (b : Fin 2) (q : Fin 128) (e : Fin 512) :
    k0_pay1 (F := Ideal) (GATH (PBof I)) (ix3 b q e) = SparseRef.refOut x0 x1 x2 x3 x4 b q e := by
  rw [result_apply]
  unfold SparseRef.refOut
  rw [sum_cols]
  refine Finset.sum_congr rfl fun c _ => (PB_eq P c b q e).trans (Finset.sum_congr rfl fun n _ => ?_)
  have h1 : (⟨4 * c.val + n.val / 64, by omega⟩ : Fin 64) = ⟨(256 * c.val + n.val) / 64, by omega⟩ := Fin.ext (by
    show 4 * c.val + n.val / 64 = (256 * c.val + n.val) / 64; omega)
  have h2 : (⟨n.val % 64, by omega⟩ : Fin 64) = ⟨(256 * c.val + n.val) % 64, by omega⟩ := Fin.ext (by
    show n.val % 64 = (256 * c.val + n.val) % 64; omega)
  rw [h1, h2]

end

end Cert.SparseValue
-- ==== Proof.EndValue.lean ====
/-
From memory to memory: when the devices start with their parts of the reference's arrays, every device's output array
ends as the reference's result.
-/
module

public import proofs.«01_k».proof.Proof.KernelValue
public import Idealize.ShloMosaic.Lib.Layout

@[expose] public section

noncomputable section

namespace Cert.SparseValue

open Cert.KernelIdeal Cert.KernelIdeal.Gen
open Cert.SparseAttn hiding ix2
open Idealize.ShloMosaic Idealize.ShloMosaic.TcCoe

/-- Every window is its whole array. -/
theorem read0 (X : Vec Ideal S2x128x512 .f32) : (win0_0.blk (0 : Fin 1)).view.read (Elt Ideal) X = X :=
  funext fun i => congrArg X (funext fun a => Fin.ext (match a with
    | ⟨0, _⟩ => (by show 0 + 1 * (i 0).val = (i 0).val; omega) | ⟨1, _⟩ => (by show 0 + 1 * (i 1).val = (i 1).val; omega)
    | ⟨2, _⟩ => (by show 0 + 1 * (i 2).val = (i 2).val; omega)))
theorem read1 (X : Vec Ideal S512x256 .f32) : (win0_1.blk (0 : Fin 1)).view.read (Elt Ideal) X = X :=
  funext fun i => congrArg X (funext fun a => Fin.ext (match a with
    | ⟨0, _⟩ => (by show 0 + 1 * (i 0).val = (i 0).val; omega) | ⟨1, _⟩ => (by show 0 + 1 * (i 1).val = (i 1).val; omega)))
theorem read2 (X : Vec Ideal S2x128x64x64 .f32) : (win0_2.blk (0 : Fin 1)).view.read (Elt Ideal) X = X :=
  funext fun i => congrArg X (funext fun a => Fin.ext (match a with
    | ⟨0, _⟩ => (by show 0 + 1 * (i 0).val = (i 0).val; omega) | ⟨1, _⟩ => (by show 0 + 1 * (i 1).val = (i 1).val; omega)
    | ⟨2, _⟩ => (by show 0 + 1 * (i 2).val = (i 2).val; omega) | ⟨3, _⟩ => (by show 0 + 1 * (i 3).val = (i 3).val; omega)))
theorem read3 (X : Vec Ideal S2x128x64x64 .f32) : (win0_3.blk (0 : Fin 1)).view.read (Elt Ideal) X = X :=
  funext fun i => congrArg X (funext fun a => Fin.ext (match a with
    | ⟨0, _⟩ => (by show 0 + 1 * (i 0).val = (i 0).val; omega) | ⟨1, _⟩ => (by show 0 + 1 * (i 1).val = (i 1).val; omega)
    | ⟨2, _⟩ => (by show 0 + 1 * (i 2).val = (i 2).val; omega) | ⟨3, _⟩ => (by show 0 + 1 * (i 3).val = (i 3).val; omega)))
theorem read4 (X : Vec Ideal S256x512 .f32) : (win0_4.blk (0 : Fin 1)).view.read (Elt Ideal) X = X :=
  funext fun i => congrArg X (funext fun a => Fin.ext (match a with
    | ⟨0, _⟩ => (by show 0 + 1 * (i 0).val = (i 0).val; omega) | ⟨1, _⟩ => (by show 0 + 1 * (i 1).val = (i 1).val; omega)))
theorem read5 (X : Vec Ideal S2x128x512 .f32) : (win0_5.blk (0 : Fin 1)).view.read (Elt Ideal) X = X :=
  funext fun i => congrArg X (funext fun a => Fin.ext (match a with
    | ⟨0, _⟩ => (by show 0 + 1 * (i 0).val = (i 0).val; omega) | ⟨1, _⟩ => (by show 0 + 1 * (i 1).val = (i 1).val; omega)
    | ⟨2, _⟩ => (by show 0 + 1 * (i 2).val = (i 2).val; omega)))

variable (m : (ℓ : Loc nD τ sig) → Buf (Elt Ideal) ℓ) (ρ : Dev nD → PrngReg)

/-- The output array ends as the kernel's result. -/
theorem final_out (c : Dev nD) : final m ρ c (5 : Fin 6) = result m ρ := by
  refine (read5 _).symm.trans ?_
  unfold final
  rw [show cfg0.N = ((0 : Fin 1) : Fin cfg0.N).val + 1 from rfl, (dats m ρ 0 c).arrAt_succ (5 : Fin 6) (0 : Fin 1)]
  rw [show (cfg0.win (5 : Fin 6)).flush (0 : Fin 1) = true from by decide, if_pos rfl]
  exact View.read_write_univ _ _

variable (x0 : S2x128x512.Idx → EReal) (x1 : (⟨2, ![512, 4096]⟩ : Shape).Idx → EReal)
  (x2 x3 : (⟨4, ![2, 2048, 64, 64]⟩ : Shape).Idx → EReal) (x4 : (⟨2, ![4096, 512]⟩ : Shape).Idx → EReal)

/-- The devices start with their parts of the reference's arrays. -/
theorem parts (h : ∀ c : Dev nD,
      m ((c : Thread nD τ).loc main_arg0) = x0
      ∧ m ((c : Thread nD τ).loc main_arg1) = Layout.block ⟨2, ![512, 256]⟩ ⟨2, ![512, 4096]⟩ 1 16 c x1
      ∧ m ((c : Thread nD τ).loc main_arg2) = Layout.block ⟨4, ![2, 128, 64, 64]⟩ ⟨4, ![2, 2048, 64, 64]⟩ 1 16 c x2
      ∧ m ((c : Thread nD τ).loc main_arg3) = Layout.block ⟨4, ![2, 128, 64, 64]⟩ ⟨4, ![2, 2048, 64, 64]⟩ 1 16 c x3
      ∧ m ((c : Thread nD τ).loc main_arg4) = Layout.block ⟨2, ![256, 512]⟩ ⟨2, ![4096, 512]⟩ 0 16 c x4) :
    Parts (given m ρ) x0 x1 x2 x3 x4 where
  x c := (read0 _).trans (h c).1
  wq c k n := by
    refine (congrFun ((read1 _).trans (h c).2.1) (ix2 k n)).trans (congrArg x1 (funext fun a => Fin.ext ?_))
    match a with
    | ⟨0, _⟩ => rfl
    | ⟨1, _⟩ => show c.val * 256 + n.val = 256 * c.val + n.val; omega
  k c b r e d := by
    refine (congrFun ((read2 _).trans (h c).2.2.1) (ix4 b r e d)).trans (congrArg x2 (funext fun a => Fin.ext ?_))
    match a with
    | ⟨0, _⟩ => rfl
    | ⟨1, _⟩ => show c.val * 128 + r.val = 128 * c.val + r.val; omega
    | ⟨2, _⟩ => rfl
    | ⟨3, _⟩ => rfl
  v c b r e d := by
    refine (congrFun ((read3 _).trans (h c).2.2.2.1) (ix4 b r e d)).trans (congrArg x3 (funext fun a => Fin.ext ?_))
    match a with
    | ⟨0, _⟩ => rfl
    | ⟨1, _⟩ => show c.val * 128 + r.val = 128 * c.val + r.val; omega
    | ⟨2, _⟩ => rfl
    | ⟨3, _⟩ => rfl
  wo c n e := by
    refine (congrFun ((read4 _).trans (h c).2.2.2.2) (ix2 n e)).trans (congrArg x4 (funext fun a => Fin.ext ?_))
    match a with
    | ⟨0, _⟩ => show c.val * 256 + n.val = 256 * c.val + n.val; omega
    | ⟨1, _⟩ => rfl

/-- So every output array ends as the reference's result. -/
theorem final_eq (P : Parts (given m ρ) x0 x1 x2 x3 x4) (c : Dev nD) :
    final m ρ c (5 : Fin 6) = Cert.ReferenceIdeal.Read.val_main_v39 (F := Ideal) x0 x1 x2 x3 x4 := by
  refine (final_out m ρ c).trans (funext fun i => ?_)
  obtain ⟨b, q, e, rfl⟩ : ∃ (b : Fin 2) (q : Fin 128) (e : Fin 512), i = ix3 b q e :=
    ⟨i 0, i 1, i 2, funext fun a => match a with | 0 => rfl | 1 => rfl | 2 => rfl⟩
  exact (result_eq P b q e).trans (SparseRef.out_eq x0 x1 x2 x3 x4 b q e).symm

end Cert.SparseValue
-- ==== Proof.lean ====
/- The certificate of the block-strided sparse attention on sixteen devices. The kernel's protocol and its contents are
   proved in the modules up to `Proof.Launch`, once and over any float values; both kernel frames are that run with the
   values dropped. `Proof.EndValue` reads the contents at the extended reals: they are the reference's result. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.ReferenceIdeal.Read
public import proofs.«01_k».proof.Proof.Launch
public import proofs.«01_k».proof.Proof.EndValue
public import Idealize.ShloMosaic.Adequacy
public import Idealize.ShloMosaic.Init

@[expose] public section

noncomputable section

namespace Cert.Proof

open Idealize.ShloMosaic Idealize.SL.Sem Cert.SparseAttn

/-- The kernel terminates over any float values, keeps its arguments and leaves every counter at zero. -/
theorem frame_any {F : FTy → Type} [FloatOps F] (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0) :=
  (θ_run Cert.KernelIdeal.defs _ _).mono (fun _ h => ⟨fun c =>
    ⟨(h.1 c (0 : Fin 6)).trans (final_in m ρ c 0 rfl), (h.1 c (1 : Fin 6)).trans (final_in m ρ c 1 rfl), (h.1 c (2 : Fin 6)).trans (final_in m ρ c 2 rfl),
      (h.1 c (3 : Fin 6)).trans (final_in m ρ c 3 rfl), (h.1 c (4 : Fin 6)).trans (final_in m ρ c 4 rfl)⟩, h.2⟩) (run_main m ρ)

/-- The two programs have the same kernel … -/
theorem defs₀_eq {F : FTy → Type} [FloatOps F] : Cert.Kernel.defs₀ (F := F) = Cert.KernelIdeal.defs₀ (F := F) := by
  unfold Cert.Kernel.defs₀ Cert.KernelIdeal.defs₀
  refine congrArg Defs.onTc (funext fun l => funext fun a => ?_)
  match l, a with
  | ⟨0, _⟩, (t, s) => rfl
  | ⟨_ + 1, h⟩, _ => exact absurd h (Nat.not_lt.2 (Nat.le_add_left _ _))

/-- … and so the same functions. -/
theorem defs_eq {F : FTy → Type} [FloatOps F] : Cert.Kernel.defs (F := F) = Cert.KernelIdeal.defs (F := F) := by
  unfold Cert.Kernel.defs Cert.KernelIdeal.defs
  rw [defs₀_eq]
  rfl

/-- So it does over the machine's words. -/
theorem frame_kernel : Cert.quiescent_Kernel (hKernel := Cert.Kernel.Gen.facts) := fun m ρ _ => by
  have h := frame_any (F := Bits) m ρ
  rw [← defs_eq (F := Bits)] at h
  exact h

/-- So it does over the extended reals. -/
theorem frame_kernelIdeal : Cert.quiescent_KernelIdeal (hKernelIdeal := Cert.KernelIdeal.Gen.facts) := fun m ρ _ => frame_any (F := Ideal) m ρ

/-- The same of the reference, which declares no semaphore. -/
theorem frame_referenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- From the reference's arrays, cut over the devices, every device ends with the reference's result. -/
theorem algebraic : Cert.algebraic_KernelIdeal_ReferenceIdeal (hKernelIdeal := Cert.KernelIdeal.Gen.facts) (hReferenceIdeal := Cert.ReferenceIdeal.Gen.facts) :=
  fun m ρ m' ρ' _ h => by
  refine ⟨Cert.ReferenceIdeal.Value.res_main_v39 (F := Ideal) m' 0, ?_, ?_⟩
  · refine (θ_run Cert.KernelIdeal.defs _ _).mono (fun _ e c => ?_) (run_main m ρ)
    refine ⟨(e.1 c (5 : Fin 6)).trans ?_, (e.1 c (0 : Fin 6)).trans (final_in m ρ c 0 rfl), (e.1 c (1 : Fin 6)).trans (final_in m ρ c 1 rfl),
      (e.1 c (2 : Fin 6)).trans (final_in m ρ c 2 rfl), (e.1 c (3 : Fin 6)).trans (final_in m ρ c 3 rfl), (e.1 c (4 : Fin 6)).trans (final_in m ρ c 4 rfl)⟩
    exact (Cert.SparseValue.final_eq m ρ _ _ _ _ _ (Cert.SparseValue.parts m ρ _ _ _ _ _ h) c).trans (Cert.ReferenceIdeal.Read.val_main_v39_eq m' 0).symm
  · exact (θ_run Cert.ReferenceIdeal.defs _ _).mono (fun _ e => e 0) (Cert.ReferenceIdeal.Value.run (F := Ideal) m' ρ')

/-- Every claim of the certificate. -/
theorem claim : Cert.Claim := ⟨Cert.Kernel.Gen.facts, Cert.KernelIdeal.Gen.facts, Cert.ReferenceIdeal.Gen.facts,
  frame_kernel, frame_kernelIdeal, frame_referenceIdeal, trivial, algebraic⟩

end Cert.Proof

end
